-- ==== Defs.lean ====
def Pre_NormCtx (m : (ℓ : Loc Cert.NormCtx.nD Cert.NormCtx.τ Cert.NormCtx.sig) → Buf (Elt Bits) ℓ) : Prop :=
  True

def Pre_NormCtxIdeal (m : (ℓ : Loc Cert.NormCtxIdeal.nD Cert.NormCtxIdeal.τ Cert.NormCtxIdeal.sig) → Buf (Elt Ideal) ℓ) : Prop :=
  True

def Pre_NormCtxIdeal_norm_finite [hPre_norm_finite : Cert.Pre_norm_finite.Facts] (m : (ℓ : Loc Cert.NormCtxIdeal.nD Cert.NormCtxIdeal.τ Cert.NormCtxIdeal.sig) → Buf (Elt Ideal) ℓ) : Prop :=
  ∀ c : Dev Cert.NormCtxIdeal.nD,
    (Cert.Pre_norm_finite.fn (F := Ideal) (m ((c.tc : Thread Cert.NormCtxIdeal.nD Cert.NormCtxIdeal.τ).loc Cert.NormCtxIdeal.main_arg0)) (m ((c.tc : Thread Cert.NormCtxIdeal.nD Cert.NormCtxIdeal.τ).loc Cert.NormCtxIdeal.main_arg1)) (m ((c.tc : Thread Cert.NormCtxIdeal.nD Cert.NormCtxIdeal.τ).loc Cert.NormCtxIdeal.main_arg2)) (m ((c.tc : Thread Cert.NormCtxIdeal.nD Cert.NormCtxIdeal.τ).loc Cert.NormCtxIdeal.main_arg3)) (m ((c.tc : Thread Cert.NormCtxIdeal.nD Cert.NormCtxIdeal.τ).loc Cert.NormCtxIdeal.main_arg4))) = (fun _ => 1#1)

def Pre_NormCtxRefIdeal (m : (ℓ : Loc Cert.NormCtxRefIdeal.nD Cert.NormCtxRefIdeal.τ Cert.NormCtxRefIdeal.sig) → Buf (Elt Ideal) ℓ) : Prop :=
  True

def Pre_NormCtxRefIdeal_norm_finite [hPre_norm_finite : Cert.Pre_norm_finite.Facts] (m : (ℓ : Loc Cert.NormCtxRefIdeal.nD Cert.NormCtxRefIdeal.τ Cert.NormCtxRefIdeal.sig) → Buf (Elt Ideal) ℓ) : Prop :=
  ∀ c : Dev Cert.NormCtxRefIdeal.nD,
    (Cert.Pre_norm_finite.fn (F := Ideal) (m ((c.tc : Thread Cert.NormCtxRefIdeal.nD Cert.NormCtxRefIdeal.τ).loc Cert.NormCtxRefIdeal.main_arg0)) (m ((c.tc : Thread Cert.NormCtxRefIdeal.nD Cert.NormCtxRefIdeal.τ).loc Cert.NormCtxRefIdeal.main_arg1)) (m ((c.tc : Thread Cert.NormCtxRefIdeal.nD Cert.NormCtxRefIdeal.τ).loc Cert.NormCtxRefIdeal.main_arg2)) (m ((c.tc : Thread Cert.NormCtxRefIdeal.nD Cert.NormCtxRefIdeal.τ).loc Cert.NormCtxRefIdeal.main_arg3)) (m ((c.tc : Thread Cert.NormCtxRefIdeal.nD Cert.NormCtxRefIdeal.τ).loc Cert.NormCtxRefIdeal.main_arg4))) = (fun _ => 1#1)

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_att_finite [hPre_att_finite : Cert.Pre_att_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_att_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_att_finite [hPre_att_finite : Cert.Pre_att_finite.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_att_finite.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4)) (m ((c.tc : Thread Cert.AttentionRefIdeal.nD Cert.AttentionRefIdeal.τ).loc Cert.AttentionRefIdeal.main_arg5))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluIdeal_glu_finite [hPre_glu_finite : Cert.Pre_glu_finite.Facts] (m : (ℓ : Loc Cert.GluIdeal.nD Cert.GluIdeal.τ Cert.GluIdeal.sig) → Buf (Elt Ideal) ℓ) : Prop :=
  ∀ c : Dev Cert.GluIdeal.nD,
    (Cert.Pre_glu_finite.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3)) (m ((c.tc : Thread Cert.GluIdeal.nD Cert.GluIdeal.τ).loc Cert.GluIdeal.main_arg4))) = (fun _ => 1#1)

def Pre_GluRefIdeal (m : (ℓ : Loc Cert.GluRefIdeal.nD Cert.GluRefIdeal.τ Cert.GluRefIdeal.sig) → Buf (Elt Ideal) ℓ) : Prop :=
  True

def Pre_GluRefIdeal_glu_finite [hPre_glu_finite : Cert.Pre_glu_finite.Facts] (m : (ℓ : Loc Cert.GluRefIdeal.nD Cert.GluRefIdeal.τ Cert.GluRefIdeal.sig) → Buf (Elt Ideal) ℓ) : Prop :=
  ∀ c : Dev Cert.GluRefIdeal.nD,
    (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4))) = (fun _ => 1#1)

def Pre_QkvCtx (m : (ℓ : Loc Cert.QkvCtx.nD Cert.QkvCtx.τ Cert.QkvCtx.sig) → Buf (Elt Bits) ℓ) : Prop :=
  True

def Pre_QkvCtxIdeal (m : (ℓ : Loc Cert.QkvCtxIdeal.nD Cert.QkvCtxIdeal.τ Cert.QkvCtxIdeal.sig) → Buf (Elt Ideal) ℓ) : Prop :=
  True

def Pre_QkvCtxIdeal_qkvc_finite [hPre_qkvc_finite : Cert.Pre_qkvc_finite.Facts] (m : (ℓ : Loc Cert.QkvCtxIdeal.nD Cert.QkvCtxIdeal.τ Cert.QkvCtxIdeal.sig) → Buf (Elt Ideal) ℓ) : Prop :=
  ∀ c : Dev Cert.QkvCtxIdeal.nD,
    (Cert.Pre_qkvc_finite.fn (F := Ideal) (m ((c.tc : Thread Cert.QkvCtxIdeal.nD Cert.QkvCtxIdeal.τ).loc Cert.QkvCtxIdeal.main_arg0)) (m ((c.tc : Thread Cert.QkvCtxIdeal.nD Cert.QkvCtxIdeal.τ).loc Cert.QkvCtxIdeal.main_arg1)) (m ((c.tc : Thread Cert.QkvCtxIdeal.nD Cert.QkvCtxIdeal.τ).loc Cert.QkvCtxIdeal.main_arg2)) (m ((c.tc : Thread Cert.QkvCtxIdeal.nD Cert.QkvCtxIdeal.τ).loc Cert.QkvCtxIdeal.main_arg3)) (m ((c.tc : Thread Cert.QkvCtxIdeal.nD Cert.QkvCtxIdeal.τ).loc Cert.QkvCtxIdeal.main_arg4))) = (fun _ => 1#1)

def Pre_QkvCtxRefIdeal (m : (ℓ : Loc Cert.QkvCtxRefIdeal.nD Cert.QkvCtxRefIdeal.τ Cert.QkvCtxRefIdeal.sig) → Buf (Elt Ideal) ℓ) : Prop :=
  True

def Pre_QkvCtxRefIdeal_qkvc_finite [hPre_qkvc_finite : Cert.Pre_qkvc_finite.Facts] (m : (ℓ : Loc Cert.QkvCtxRefIdeal.nD Cert.QkvCtxRefIdeal.τ Cert.QkvCtxRefIdeal.sig) → Buf (Elt Ideal) ℓ) : Prop :=
  ∀ c : Dev Cert.QkvCtxRefIdeal.nD,
    (Cert.Pre_qkvc_finite.fn (F := Ideal) (m ((c.tc : Thread Cert.QkvCtxRefIdeal.nD Cert.QkvCtxRefIdeal.τ).loc Cert.QkvCtxRefIdeal.main_arg0)) (m ((c.tc : Thread Cert.QkvCtxRefIdeal.nD Cert.QkvCtxRefIdeal.τ).loc Cert.QkvCtxRefIdeal.main_arg1)) (m ((c.tc : Thread Cert.QkvCtxRefIdeal.nD Cert.QkvCtxRefIdeal.τ).loc Cert.QkvCtxRefIdeal.main_arg2)) (m ((c.tc : Thread Cert.QkvCtxRefIdeal.nD Cert.QkvCtxRefIdeal.τ).loc Cert.QkvCtxRefIdeal.main_arg3)) (m ((c.tc : Thread Cert.QkvCtxRefIdeal.nD Cert.QkvCtxRefIdeal.τ).loc Cert.QkvCtxRefIdeal.main_arg4))) = (fun _ => 1#1)

def Pre_FfnUpLast (m : (ℓ : Loc Cert.FfnUpLast.nD Cert.FfnUpLast.τ Cert.FfnUpLast.sig) → Buf (Elt Bits) ℓ) : Prop :=
  True

def Pre_FfnUpLastIdeal (m : (ℓ : Loc Cert.FfnUpLastIdeal.nD Cert.FfnUpLastIdeal.τ Cert.FfnUpLastIdeal.sig) → Buf (Elt Ideal) ℓ) : Prop :=
  True

def Pre_FfnUpLastIdeal_up1_finite [hPre_up1_finite : Cert.Pre_up1_finite.Facts] (m : (ℓ : Loc Cert.FfnUpLastIdeal.nD Cert.FfnUpLastIdeal.τ Cert.FfnUpLastIdeal.sig) → Buf (Elt Ideal) ℓ) : Prop :=
  ∀ c : Dev Cert.FfnUpLastIdeal.nD,
    (Cert.Pre_up1_finite.fn (F := Ideal) (m ((c.tc : Thread Cert.FfnUpLastIdeal.nD Cert.FfnUpLastIdeal.τ).loc Cert.FfnUpLastIdeal.main_arg0)) (m ((c.tc : Thread Cert.FfnUpLastIdeal.nD Cert.FfnUpLastIdeal.τ).loc Cert.FfnUpLastIdeal.main_arg1)) (m ((c.tc : Thread Cert.FfnUpLastIdeal.nD Cert.FfnUpLastIdeal.τ).loc Cert.FfnUpLastIdeal.main_arg2)) (m ((c.tc : Thread Cert.FfnUpLastIdeal.nD Cert.FfnUpLastIdeal.τ).loc Cert.FfnUpLastIdeal.main_arg3)) (m ((c.tc : Thread Cert.FfnUpLastIdeal.nD Cert.FfnUpLastIdeal.τ).loc Cert.FfnUpLastIdeal.main_arg4)) (m ((c.tc : Thread Cert.FfnUpLastIdeal.nD Cert.FfnUpLastIdeal.τ).loc Cert.FfnUpLastIdeal.main_arg5)) (m ((c.tc : Thread Cert.FfnUpLastIdeal.nD Cert.FfnUpLastIdeal.τ).loc Cert.FfnUpLastIdeal.main_arg6)) (m ((c.tc : Thread Cert.FfnUpLastIdeal.nD Cert.FfnUpLastIdeal.τ).loc Cert.FfnUpLastIdeal.main_arg7))) = (fun _ => 1#1)

def Pre_FfnUpLastRefIdeal (m : (ℓ : Loc Cert.FfnUpLastRefIdeal.nD Cert.FfnUpLastRefIdeal.τ Cert.FfnUpLastRefIdeal.sig) → Buf (Elt Ideal) ℓ) : Prop :=
  True

def Pre_FfnUpLastRefIdeal_up1_finite [hPre_up1_finite : Cert.Pre_up1_finite.Facts] (m : (ℓ : Loc Cert.FfnUpLastRefIdeal.nD Cert.FfnUpLastRefIdeal.τ Cert.FfnUpLastRefIdeal.sig) → Buf (Elt Ideal) ℓ) : Prop :=
  ∀ c : Dev Cert.FfnUpLastRefIdeal.nD,
    (Cert.Pre_up1_finite.fn (F := Ideal) (m ((c.tc : Thread Cert.FfnUpLastRefIdeal.nD Cert.FfnUpLastRefIdeal.τ).loc Cert.FfnUpLastRefIdeal.main_arg0)) (m ((c.tc : Thread Cert.FfnUpLastRefIdeal.nD Cert.FfnUpLastRefIdeal.τ).loc Cert.FfnUpLastRefIdeal.main_arg1)) (m ((c.tc : Thread Cert.FfnUpLastRefIdeal.nD Cert.FfnUpLastRefIdeal.τ).loc Cert.FfnUpLastRefIdeal.main_arg2)) (m ((c.tc : Thread Cert.FfnUpLastRefIdeal.nD Cert.FfnUpLastRefIdeal.τ).loc Cert.FfnUpLastRefIdeal.main_arg3)) (m ((c.tc : Thread Cert.FfnUpLastRefIdeal.nD Cert.FfnUpLastRefIdeal.τ).loc Cert.FfnUpLastRefIdeal.main_arg4)) (m ((c.tc : Thread Cert.FfnUpLastRefIdeal.nD Cert.FfnUpLastRefIdeal.τ).loc Cert.FfnUpLastRefIdeal.main_arg5)) (m ((c.tc : Thread Cert.FfnUpLastRefIdeal.nD Cert.FfnUpLastRefIdeal.τ).loc Cert.FfnUpLastRefIdeal.main_arg6)) (m ((c.tc : Thread Cert.FfnUpLastRefIdeal.nD Cert.FfnUpLastRefIdeal.τ).loc Cert.FfnUpLastRefIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_finite [hPre_in_finite : Cert.Pre_in_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_finite [hPre_in_finite : Cert.Pre_in_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_up_finite [hPre_up_finite : Cert.Pre_up_finite.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8)) (m ((c.tc : Thread Cert.FfnUpIdeal.nD Cert.FfnUpIdeal.τ).loc Cert.FfnUpIdeal.main_arg9))) = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_up_finite [hPre_up_finite : Cert.Pre_up_finite.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8)) (m ((c.tc : Thread Cert.FfnUpRefIdeal.nD Cert.FfnUpRefIdeal.τ).loc Cert.FfnUpRefIdeal.main_arg9))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Cond (m : (ℓ : Loc Cert.Cond.nD Cert.Cond.τ Cert.Cond.sig) → Buf (Elt Bits) ℓ) : Prop :=
  True

def Pre_CondIdeal (m : (ℓ : Loc Cert.CondIdeal.nD Cert.CondIdeal.τ Cert.CondIdeal.sig) → Buf (Elt Ideal) ℓ) : Prop :=
  True

def Pre_CondIdeal_cond_finite [hPre_cond_finite : Cert.Pre_cond_finite.Facts] (m : (ℓ : Loc Cert.CondIdeal.nD Cert.CondIdeal.τ Cert.CondIdeal.sig) → Buf (Elt Ideal) ℓ) : Prop :=
  ∀ c : Dev Cert.CondIdeal.nD,
    (Cert.Pre_cond_finite.fn (F := Ideal) (m ((c.tc : Thread Cert.CondIdeal.nD Cert.CondIdeal.τ).loc Cert.CondIdeal.main_arg0)) (m ((c.tc : Thread Cert.CondIdeal.nD Cert.CondIdeal.τ).loc Cert.CondIdeal.main_arg1)) (m ((c.tc : Thread Cert.CondIdeal.nD Cert.CondIdeal.τ).loc Cert.CondIdeal.main_arg2)) (m ((c.tc : Thread Cert.CondIdeal.nD Cert.CondIdeal.τ).loc Cert.CondIdeal.main_arg3))) = (fun _ => 1#1)

def Pre_CondRefIdeal (m : (ℓ : Loc Cert.CondRefIdeal.nD Cert.CondRefIdeal.τ Cert.CondRefIdeal.sig) → Buf (Elt Ideal) ℓ) : Prop :=
  True

def Pre_CondRefIdeal_cond_finite [hPre_cond_finite : Cert.Pre_cond_finite.Facts] (m : (ℓ : Loc Cert.CondRefIdeal.nD Cert.CondRefIdeal.τ Cert.CondRefIdeal.sig) → Buf (Elt Ideal) ℓ) : Prop :=
  ∀ c : Dev Cert.CondRefIdeal.nD,
    (Cert.Pre_cond_finite.fn (F := Ideal) (m ((c.tc : Thread Cert.CondRefIdeal.nD Cert.CondRefIdeal.τ).loc Cert.CondRefIdeal.main_arg0)) (m ((c.tc : Thread Cert.CondRefIdeal.nD Cert.CondRefIdeal.τ).loc Cert.CondRefIdeal.main_arg1)) (m ((c.tc : Thread Cert.CondRefIdeal.nD Cert.CondRefIdeal.τ).loc Cert.CondRefIdeal.main_arg2)) (m ((c.tc : Thread Cert.CondRefIdeal.nD Cert.CondRefIdeal.τ).loc Cert.CondRefIdeal.main_arg3))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attf_finite [hPre_attf_finite : Cert.Pre_attf_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attf_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attf_finite [hPre_attf_finite : Cert.Pre_attf_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attf_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def quiescent_NormCtx [hNormCtx : Cert.NormCtx.Facts] : Prop :=
  ∀ (m : (ℓ : Loc Cert.NormCtx.nD Cert.NormCtx.τ Cert.NormCtx.sig) → Buf (Elt Bits) ℓ) (g : Dev Cert.NormCtx.nD → PrngReg), Pre_NormCtx m →
    θ_run (Cert.NormCtx.defs (F := Bits)) (onTc (τ := Cert.NormCtx.τ) (Cert.NormCtx.main (F := Bits))) ⟨m, fun _ => 0, g⟩ (fun r => (∀ c : Dev Cert.NormCtx.nD,
      r.2.mem ((c.tc : Thread Cert.NormCtx.nD Cert.NormCtx.τ).loc Cert.NormCtx.main_arg0) = m ((c.tc : Thread Cert.NormCtx.nD Cert.NormCtx.τ).loc Cert.NormCtx.main_arg0)
      ∧ r.2.mem ((c.tc : Thread Cert.NormCtx.nD Cert.NormCtx.τ).loc Cert.NormCtx.main_arg1) = m ((c.tc : Thread Cert.NormCtx.nD Cert.NormCtx.τ).loc Cert.NormCtx.main_arg1)
      ∧ r.2.mem ((c.tc : Thread Cert.NormCtx.nD Cert.NormCtx.τ).loc Cert.NormCtx.main_arg2) = m ((c.tc : Thread Cert.NormCtx.nD Cert.NormCtx.τ).loc Cert.NormCtx.main_arg2)
      ∧ r.2.mem ((c.tc : Thread Cert.NormCtx.nD Cert.NormCtx.τ).loc Cert.NormCtx.main_arg3) = m ((c.tc : Thread Cert.NormCtx.nD Cert.NormCtx.τ).loc Cert.NormCtx.main_arg3)
      ∧ r.2.mem ((c.tc : Thread Cert.NormCtx.nD Cert.NormCtx.τ).loc Cert.NormCtx.main_arg4) = m ((c.tc : Thread Cert.NormCtx.nD Cert.NormCtx.τ).loc Cert.NormCtx.main_arg4))
      ∧ r.2.sem = fun _ => 0)

def quiescent_NormCtxIdeal [hNormCtxIdeal : Cert.NormCtxIdeal.Facts] : Prop :=
  ∀ (m : (ℓ : Loc Cert.NormCtxIdeal.nD Cert.NormCtxIdeal.τ Cert.NormCtxIdeal.sig) → Buf (Elt Ideal) ℓ) (g : Dev Cert.NormCtxIdeal.nD → PrngReg), Pre_NormCtxIdeal m →
    θ_run (Cert.NormCtxIdeal.defs (F := Ideal)) (onTc (τ := Cert.NormCtxIdeal.τ) (Cert.NormCtxIdeal.main (F := Ideal))) ⟨m, fun _ => 0, g⟩ (fun r => (∀ c : Dev Cert.NormCtxIdeal.nD,
      r.2.mem ((c.tc : Thread Cert.NormCtxIdeal.nD Cert.NormCtxIdeal.τ).loc Cert.NormCtxIdeal.main_arg0) = m ((c.tc : Thread Cert.NormCtxIdeal.nD Cert.NormCtxIdeal.τ).loc Cert.NormCtxIdeal.main_arg0)
      ∧ r.2.mem ((c.tc : Thread Cert.NormCtxIdeal.nD Cert.NormCtxIdeal.τ).loc Cert.NormCtxIdeal.main_arg1) = m ((c.tc : Thread Cert.NormCtxIdeal.nD Cert.NormCtxIdeal.τ).loc Cert.NormCtxIdeal.main_arg1)
      ∧ r.2.mem ((c.tc : Thread Cert.NormCtxIdeal.nD Cert.NormCtxIdeal.τ).loc Cert.NormCtxIdeal.main_arg2) = m ((c.tc : Thread Cert.NormCtxIdeal.nD Cert.NormCtxIdeal.τ).loc Cert.NormCtxIdeal.main_arg2)
      ∧ r.2.mem ((c.tc : Thread Cert.NormCtxIdeal.nD Cert.NormCtxIdeal.τ).loc Cert.NormCtxIdeal.main_arg3) = m ((c.tc : Thread Cert.NormCtxIdeal.nD Cert.NormCtxIdeal.τ).loc Cert.NormCtxIdeal.main_arg3)
      ∧ r.2.mem ((c.tc : Thread Cert.NormCtxIdeal.nD Cert.NormCtxIdeal.τ).loc Cert.NormCtxIdeal.main_arg4) = m ((c.tc : Thread Cert.NormCtxIdeal.nD Cert.NormCtxIdeal.τ).loc Cert.NormCtxIdeal.main_arg4))
      ∧ r.2.sem = fun _ => 0)

def quiescent_NormCtxIdeal_pre_norm_finite [hNormCtxIdeal : Cert.NormCtxIdeal.Facts] [hPre_norm_finite : Cert.Pre_norm_finite.Facts] : Prop :=
  ∀ (m : (ℓ : Loc Cert.NormCtxIdeal.nD Cert.NormCtxIdeal.τ Cert.NormCtxIdeal.sig) → Buf (Elt Ideal) ℓ) (g : Dev Cert.NormCtxIdeal.nD → PrngReg), Pre_NormCtxIdeal_norm_finite m →
    θ_run (Cert.NormCtxIdeal.defs (F := Ideal)) (onTc (τ := Cert.NormCtxIdeal.τ) (Cert.NormCtxIdeal.main (F := Ideal))) ⟨m, fun _ => 0, g⟩ (fun r => (∀ c : Dev Cert.NormCtxIdeal.nD,
      r.2.mem ((c.tc : Thread Cert.NormCtxIdeal.nD Cert.NormCtxIdeal.τ).loc Cert.NormCtxIdeal.main_arg0) = m ((c.tc : Thread Cert.NormCtxIdeal.nD Cert.NormCtxIdeal.τ).loc Cert.NormCtxIdeal.main_arg0)
      ∧ r.2.mem ((c.tc : Thread Cert.NormCtxIdeal.nD Cert.NormCtxIdeal.τ).loc Cert.NormCtxIdeal.main_arg1) = m ((c.tc : Thread Cert.NormCtxIdeal.nD Cert.NormCtxIdeal.τ).loc Cert.NormCtxIdeal.main_arg1)
      ∧ r.2.mem ((c.tc : Thread Cert.NormCtxIdeal.nD Cert.NormCtxIdeal.τ).loc Cert.NormCtxIdeal.main_arg2) = m ((c.tc : Thread Cert.NormCtxIdeal.nD Cert.NormCtxIdeal.τ).loc Cert.NormCtxIdeal.main_arg2)
      ∧ r.2.mem ((c.tc : Thread Cert.NormCtxIdeal.nD Cert.NormCtxIdeal.τ).loc Cert.NormCtxIdeal.main_arg3) = m ((c.tc : Thread Cert.NormCtxIdeal.nD Cert.NormCtxIdeal.τ).loc Cert.NormCtxIdeal.main_arg3)
      ∧ r.2.mem ((c.tc : Thread Cert.NormCtxIdeal.nD Cert.NormCtxIdeal.τ).loc Cert.NormCtxIdeal.main_arg4) = m ((c.tc : Thread Cert.NormCtxIdeal.nD Cert.NormCtxIdeal.τ).loc Cert.NormCtxIdeal.main_arg4))
      ∧ r.2.sem = fun _ => 0)

def quiescent_NormCtxRefIdeal [hNormCtxRefIdeal : Cert.NormCtxRefIdeal.Facts] : Prop :=
  ∀ (m : (ℓ : Loc Cert.NormCtxRefIdeal.nD Cert.NormCtxRefIdeal.τ Cert.NormCtxRefIdeal.sig) → Buf (Elt Ideal) ℓ) (g : Dev Cert.NormCtxRefIdeal.nD → PrngReg), Pre_NormCtxRefIdeal m →
    θ_run (Cert.NormCtxRefIdeal.defs (F := Ideal)) (onTc (τ := Cert.NormCtxRefIdeal.τ) (Cert.NormCtxRefIdeal.main (F := Ideal))) ⟨m, fun _ => 0, g⟩ (fun r => (∀ c : Dev Cert.NormCtxRefIdeal.nD,
      r.2.mem ((c.tc : Thread Cert.NormCtxRefIdeal.nD Cert.NormCtxRefIdeal.τ).loc Cert.NormCtxRefIdeal.main_arg0) = m ((c.tc : Thread Cert.NormCtxRefIdeal.nD Cert.NormCtxRefIdeal.τ).loc Cert.NormCtxRefIdeal.main_arg0)
      ∧ r.2.mem ((c.tc : Thread Cert.NormCtxRefIdeal.nD Cert.NormCtxRefIdeal.τ).loc Cert.NormCtxRefIdeal.main_arg1) = m ((c.tc : Thread Cert.NormCtxRefIdeal.nD Cert.NormCtxRefIdeal.τ).loc Cert.NormCtxRefIdeal.main_arg1)
      ∧ r.2.mem ((c.tc : Thread Cert.NormCtxRefIdeal.nD Cert.NormCtxRefIdeal.τ).loc Cert.NormCtxRefIdeal.main_arg2) = m ((c.tc : Thread Cert.NormCtxRefIdeal.nD Cert.NormCtxRefIdeal.τ).loc Cert.NormCtxRefIdeal.main_arg2)
      ∧ r.2.mem ((c.tc : Thread Cert.NormCtxRefIdeal.nD Cert.NormCtxRefIdeal.τ).loc Cert.NormCtxRefIdeal.main_arg3) = m ((c.tc : Thread Cert.NormCtxRefIdeal.nD Cert.NormCtxRefIdeal.τ).loc Cert.NormCtxRefIdeal.main_arg3)
      ∧ r.2.mem ((c.tc : Thread Cert.NormCtxRefIdeal.nD Cert.NormCtxRefIdeal.τ).loc Cert.NormCtxRefIdeal.main_arg4) = m ((c.tc : Thread Cert.NormCtxRefIdeal.nD Cert.NormCtxRefIdeal.τ).loc Cert.NormCtxRefIdeal.main_arg4))
      ∧ r.2.sem = fun _ => 0)

def quiescent_NormCtxRefIdeal_pre_norm_finite [hNormCtxRefIdeal : Cert.NormCtxRefIdeal.Facts] [hPre_norm_finite : Cert.Pre_norm_finite.Facts] : Prop :=
  ∀ (m : (ℓ : Loc Cert.NormCtxRefIdeal.nD Cert.NormCtxRefIdeal.τ Cert.NormCtxRefIdeal.sig) → Buf (Elt Ideal) ℓ) (g : Dev Cert.NormCtxRefIdeal.nD → PrngReg), Pre_NormCtxRefIdeal_norm_finite m →
    θ_run (Cert.NormCtxRefIdeal.defs (F := Ideal)) (onTc (τ := Cert.NormCtxRefIdeal.τ) (Cert.NormCtxRefIdeal.main (F := Ideal))) ⟨m, fun _ => 0, g⟩ (fun r => (∀ c : Dev Cert.NormCtxRefIdeal.nD,
      r.2.mem ((c.tc : Thread Cert.NormCtxRefIdeal.nD Cert.NormCtxRefIdeal.τ).loc Cert.NormCtxRefIdeal.main_arg0) = m ((c.tc : Thread Cert.NormCtxRefIdeal.nD Cert.NormCtxRefIdeal.τ).loc Cert.NormCtxRefIdeal.main_arg0)
      ∧ r.2.mem ((c.tc : Thread Cert.NormCtxRefIdeal.nD Cert.NormCtxRefIdeal.τ).loc Cert.NormCtxRefIdeal.main_arg1) = m ((c.tc : Thread Cert.NormCtxRefIdeal.nD Cert.NormCtxRefIdeal.τ).loc Cert.NormCtxRefIdeal.main_arg1)
      ∧ r.2.mem ((c.tc : Thread Cert.NormCtxRefIdeal.nD Cert.NormCtxRefIdeal.τ).loc Cert.NormCtxRefIdeal.main_arg2) = m ((c.tc : Thread Cert.NormCtxRefIdeal.nD Cert.NormCtxRefIdeal.τ).loc Cert.NormCtxRefIdeal.main_arg2)
      ∧ r.2.mem ((c.tc : Thread Cert.NormCtxRefIdeal.nD Cert.NormCtxRefIdeal.τ).loc Cert.NormCtxRefIdeal.main_arg3) = m ((c.tc : Thread Cert.NormCtxRefIdeal.nD Cert.NormCtxRefIdeal.τ).loc Cert.NormCtxRefIdeal.main_arg3)
      ∧ r.2.mem ((c.tc : Thread Cert.NormCtxRefIdeal.nD Cert.NormCtxRefIdeal.τ).loc Cert.NormCtxRefIdeal.main_arg4) = m ((c.tc : Thread Cert.NormCtxRefIdeal.nD Cert.NormCtxRefIdeal.τ).loc Cert.NormCtxRefIdeal.main_arg4))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2)
      ∧ r.2.mem ((c.tc : Thread Cert.ShortConv.nD Cert.ShortConv.τ).loc Cert.ShortConv.main_arg3) = m ((c.tc : Thread Cert.ShortConv.nD Cert.ShortConv.τ).loc Cert.ShortConv.main_arg3)
      ∧ r.2.mem ((c.tc : Thread Cert.ShortConv.nD Cert.ShortConv.τ).loc Cert.ShortConv.main_arg4) = m ((c.tc : Thread Cert.ShortConv.nD Cert.ShortConv.τ).loc Cert.ShortConv.main_arg4))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
      ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
      ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2)
      ∧ r.2.mem ((c.tc : Thread Cert.ShortConvRefIdeal.nD Cert.ShortConvRefIdeal.τ).loc Cert.ShortConvRefIdeal.main_arg3) = m ((c.tc : Thread Cert.ShortConvRefIdeal.nD Cert.ShortConvRefIdeal.τ).loc Cert.ShortConvRefIdeal.main_arg3)
      ∧ r.2.mem ((c.tc : Thread Cert.ShortConvRefIdeal.nD Cert.ShortConvRefIdeal.τ).loc Cert.ShortConvRefIdeal.main_arg4) = m ((c.tc : Thread Cert.ShortConvRefIdeal.nD Cert.ShortConvRefIdeal.τ).loc Cert.ShortConvRefIdeal.main_arg4))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5))
      ∧ r.2.sem = fun _ => 0)

def quiescent_AttentionIdeal_pre_att_finite [hAttentionIdeal : Cert.AttentionIdeal.Facts] [hPre_att_finite : Cert.Pre_att_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_att_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5))
      ∧ r.2.sem = fun _ => 0)

def quiescent_AttentionRefIdeal_pre_att_finite [hAttentionRefIdeal : Cert.AttentionRefIdeal.Facts] [hPre_att_finite : Cert.Pre_att_finite.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_att_finite m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluIdeal_pre_glu_finite [hGluIdeal : Cert.GluIdeal.Facts] [hPre_glu_finite : Cert.Pre_glu_finite.Facts] : Prop :=
  ∀ (m : (ℓ : Loc Cert.GluIdeal.nD Cert.GluIdeal.τ Cert.GluIdeal.sig) → Buf (Elt Ideal) ℓ) (g : Dev Cert.GluIdeal.nD → PrngReg), Pre_GluIdeal_glu_finite m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_GluRefIdeal_pre_glu_finite [hGluRefIdeal : Cert.GluRefIdeal.Facts] [hPre_glu_finite : Cert.Pre_glu_finite.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal_glu_finite m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_QkvCtx [hQkvCtx : Cert.QkvCtx.Facts] : Prop :=
  ∀ (m : (ℓ : Loc Cert.QkvCtx.nD Cert.QkvCtx.τ Cert.QkvCtx.sig) → Buf (Elt Bits) ℓ) (g : Dev Cert.QkvCtx.nD → PrngReg), Pre_QkvCtx m →
    θ_run (Cert.QkvCtx.defs (F := Bits)) (onTc (τ := Cert.QkvCtx.τ) (Cert.QkvCtx.main (F := Bits))) ⟨m, fun _ => 0, g⟩ (fun r => (∀ c : Dev Cert.QkvCtx.nD,
      r.2.mem ((c.tc : Thread Cert.QkvCtx.nD Cert.QkvCtx.τ).loc Cert.QkvCtx.main_arg0) = m ((c.tc : Thread Cert.QkvCtx.nD Cert.QkvCtx.τ).loc Cert.QkvCtx.main_arg0)
      ∧ r.2.mem ((c.tc : Thread Cert.QkvCtx.nD Cert.QkvCtx.τ).loc Cert.QkvCtx.main_arg1) = m ((c.tc : Thread Cert.QkvCtx.nD Cert.QkvCtx.τ).loc Cert.QkvCtx.main_arg1)
      ∧ r.2.mem ((c.tc : Thread Cert.QkvCtx.nD Cert.QkvCtx.τ).loc Cert.QkvCtx.main_arg2) = m ((c.tc : Thread Cert.QkvCtx.nD Cert.QkvCtx.τ).loc Cert.QkvCtx.main_arg2)
      ∧ r.2.mem ((c.tc : Thread Cert.QkvCtx.nD Cert.QkvCtx.τ).loc Cert.QkvCtx.main_arg3) = m ((c.tc : Thread Cert.QkvCtx.nD Cert.QkvCtx.τ).loc Cert.QkvCtx.main_arg3)
      ∧ r.2.mem ((c.tc : Thread Cert.QkvCtx.nD Cert.QkvCtx.τ).loc Cert.QkvCtx.main_arg4) = m ((c.tc : Thread Cert.QkvCtx.nD Cert.QkvCtx.τ).loc Cert.QkvCtx.main_arg4))
      ∧ r.2.sem = fun _ => 0)

def quiescent_QkvCtxIdeal [hQkvCtxIdeal : Cert.QkvCtxIdeal.Facts] : Prop :=
  ∀ (m : (ℓ : Loc Cert.QkvCtxIdeal.nD Cert.QkvCtxIdeal.τ Cert.QkvCtxIdeal.sig) → Buf (Elt Ideal) ℓ) (g : Dev Cert.QkvCtxIdeal.nD → PrngReg), Pre_QkvCtxIdeal m →
    θ_run (Cert.QkvCtxIdeal.defs (F := Ideal)) (onTc (τ := Cert.QkvCtxIdeal.τ) (Cert.QkvCtxIdeal.main (F := Ideal))) ⟨m, fun _ => 0, g⟩ (fun r => (∀ c : Dev Cert.QkvCtxIdeal.nD,
      r.2.mem ((c.tc : Thread Cert.QkvCtxIdeal.nD Cert.QkvCtxIdeal.τ).loc Cert.QkvCtxIdeal.main_arg0) = m ((c.tc : Thread Cert.QkvCtxIdeal.nD Cert.QkvCtxIdeal.τ).loc Cert.QkvCtxIdeal.main_arg0)
      ∧ r.2.mem ((c.tc : Thread Cert.QkvCtxIdeal.nD Cert.QkvCtxIdeal.τ).loc Cert.QkvCtxIdeal.main_arg1) = m ((c.tc : Thread Cert.QkvCtxIdeal.nD Cert.QkvCtxIdeal.τ).loc Cert.QkvCtxIdeal.main_arg1)
      ∧ r.2.mem ((c.tc : Thread Cert.QkvCtxIdeal.nD Cert.QkvCtxIdeal.τ).loc Cert.QkvCtxIdeal.main_arg2) = m ((c.tc : Thread Cert.QkvCtxIdeal.nD Cert.QkvCtxIdeal.τ).loc Cert.QkvCtxIdeal.main_arg2)
      ∧ r.2.mem ((c.tc : Thread Cert.QkvCtxIdeal.nD Cert.QkvCtxIdeal.τ).loc Cert.QkvCtxIdeal.main_arg3) = m ((c.tc : Thread Cert.QkvCtxIdeal.nD Cert.QkvCtxIdeal.τ).loc Cert.QkvCtxIdeal.main_arg3)
      ∧ r.2.mem ((c.tc : Thread Cert.QkvCtxIdeal.nD Cert.QkvCtxIdeal.τ).loc Cert.QkvCtxIdeal.main_arg4) = m ((c.tc : Thread Cert.QkvCtxIdeal.nD Cert.QkvCtxIdeal.τ).loc Cert.QkvCtxIdeal.main_arg4))
      ∧ r.2.sem = fun _ => 0)

def quiescent_QkvCtxIdeal_pre_qkvc_finite [hQkvCtxIdeal : Cert.QkvCtxIdeal.Facts] [hPre_qkvc_finite : Cert.Pre_qkvc_finite.Facts] : Prop :=
  ∀ (m : (ℓ : Loc Cert.QkvCtxIdeal.nD Cert.QkvCtxIdeal.τ Cert.QkvCtxIdeal.sig) → Buf (Elt Ideal) ℓ) (g : Dev Cert.QkvCtxIdeal.nD → PrngReg), Pre_QkvCtxIdeal_qkvc_finite m →
    θ_run (Cert.QkvCtxIdeal.defs (F := Ideal)) (onTc (τ := Cert.QkvCtxIdeal.τ) (Cert.QkvCtxIdeal.main (F := Ideal))) ⟨m, fun _ => 0, g⟩ (fun r => (∀ c : Dev Cert.QkvCtxIdeal.nD,
      r.2.mem ((c.tc : Thread Cert.QkvCtxIdeal.nD Cert.QkvCtxIdeal.τ).loc Cert.QkvCtxIdeal.main_arg0) = m ((c.tc : Thread Cert.QkvCtxIdeal.nD Cert.QkvCtxIdeal.τ).loc Cert.QkvCtxIdeal.main_arg0)
      ∧ r.2.mem ((c.tc : Thread Cert.QkvCtxIdeal.nD Cert.QkvCtxIdeal.τ).loc Cert.QkvCtxIdeal.main_arg1) = m ((c.tc : Thread Cert.QkvCtxIdeal.nD Cert.QkvCtxIdeal.τ).loc Cert.QkvCtxIdeal.main_arg1)
      ∧ r.2.mem ((c.tc : Thread Cert.QkvCtxIdeal.nD Cert.QkvCtxIdeal.τ).loc Cert.QkvCtxIdeal.main_arg2) = m ((c.tc : Thread Cert.QkvCtxIdeal.nD Cert.QkvCtxIdeal.τ).loc Cert.QkvCtxIdeal.main_arg2)
      ∧ r.2.mem ((c.tc : Thread Cert.QkvCtxIdeal.nD Cert.QkvCtxIdeal.τ).loc Cert.QkvCtxIdeal.main_arg3) = m ((c.tc : Thread Cert.QkvCtxIdeal.nD Cert.QkvCtxIdeal.τ).loc Cert.QkvCtxIdeal.main_arg3)
      ∧ r.2.mem ((c.tc : Thread Cert.QkvCtxIdeal.nD Cert.QkvCtxIdeal.τ).loc Cert.QkvCtxIdeal.main_arg4) = m ((c.tc : Thread Cert.QkvCtxIdeal.nD Cert.QkvCtxIdeal.τ).loc Cert.QkvCtxIdeal.main_arg4))
      ∧ r.2.sem = fun _ => 0)

def quiescent_QkvCtxRefIdeal [hQkvCtxRefIdeal : Cert.QkvCtxRefIdeal.Facts] : Prop :=
  ∀ (m : (ℓ : Loc Cert.QkvCtxRefIdeal.nD Cert.QkvCtxRefIdeal.τ Cert.QkvCtxRefIdeal.sig) → Buf (Elt Ideal) ℓ) (g : Dev Cert.QkvCtxRefIdeal.nD → PrngReg), Pre_QkvCtxRefIdeal m →
    θ_run (Cert.QkvCtxRefIdeal.defs (F := Ideal)) (onTc (τ := Cert.QkvCtxRefIdeal.τ) (Cert.QkvCtxRefIdeal.main (F := Ideal))) ⟨m, fun _ => 0, g⟩ (fun r => (∀ c : Dev Cert.QkvCtxRefIdeal.nD,
      r.2.mem ((c.tc : Thread Cert.QkvCtxRefIdeal.nD Cert.QkvCtxRefIdeal.τ).loc Cert.QkvCtxRefIdeal.main_arg0) = m ((c.tc : Thread Cert.QkvCtxRefIdeal.nD Cert.QkvCtxRefIdeal.τ).loc Cert.QkvCtxRefIdeal.main_arg0)
      ∧ r.2.mem ((c.tc : Thread Cert.QkvCtxRefIdeal.nD Cert.QkvCtxRefIdeal.τ).loc Cert.QkvCtxRefIdeal.main_arg1) = m ((c.tc : Thread Cert.QkvCtxRefIdeal.nD Cert.QkvCtxRefIdeal.τ).loc Cert.QkvCtxRefIdeal.main_arg1)
      ∧ r.2.mem ((c.tc : Thread Cert.QkvCtxRefIdeal.nD Cert.QkvCtxRefIdeal.τ).loc Cert.QkvCtxRefIdeal.main_arg2) = m ((c.tc : Thread Cert.QkvCtxRefIdeal.nD Cert.QkvCtxRefIdeal.τ).loc Cert.QkvCtxRefIdeal.main_arg2)
      ∧ r.2.mem ((c.tc : Thread Cert.QkvCtxRefIdeal.nD Cert.QkvCtxRefIdeal.τ).loc Cert.QkvCtxRefIdeal.main_arg3) = m ((c.tc : Thread Cert.QkvCtxRefIdeal.nD Cert.QkvCtxRefIdeal.τ).loc Cert.QkvCtxRefIdeal.main_arg3)
      ∧ r.2.mem ((c.tc : Thread Cert.QkvCtxRefIdeal.nD Cert.QkvCtxRefIdeal.τ).loc Cert.QkvCtxRefIdeal.main_arg4) = m ((c.tc : Thread Cert.QkvCtxRefIdeal.nD Cert.QkvCtxRefIdeal.τ).loc Cert.QkvCtxRefIdeal.main_arg4))
      ∧ r.2.sem = fun _ => 0)

def quiescent_QkvCtxRefIdeal_pre_qkvc_finite [hQkvCtxRefIdeal : Cert.QkvCtxRefIdeal.Facts] [hPre_qkvc_finite : Cert.Pre_qkvc_finite.Facts] : Prop :=
  ∀ (m : (ℓ : Loc Cert.QkvCtxRefIdeal.nD Cert.QkvCtxRefIdeal.τ Cert.QkvCtxRefIdeal.sig) → Buf (Elt Ideal) ℓ) (g : Dev Cert.QkvCtxRefIdeal.nD → PrngReg), Pre_QkvCtxRefIdeal_qkvc_finite m →
    θ_run (Cert.QkvCtxRefIdeal.defs (F := Ideal)) (onTc (τ := Cert.QkvCtxRefIdeal.τ) (Cert.QkvCtxRefIdeal.main (F := Ideal))) ⟨m, fun _ => 0, g⟩ (fun r => (∀ c : Dev Cert.QkvCtxRefIdeal.nD,
      r.2.mem ((c.tc : Thread Cert.QkvCtxRefIdeal.nD Cert.QkvCtxRefIdeal.τ).loc Cert.QkvCtxRefIdeal.main_arg0) = m ((c.tc : Thread Cert.QkvCtxRefIdeal.nD Cert.QkvCtxRefIdeal.τ).loc Cert.QkvCtxRefIdeal.main_arg0)
      ∧ r.2.mem ((c.tc : Thread Cert.QkvCtxRefIdeal.nD Cert.QkvCtxRefIdeal.τ).loc Cert.QkvCtxRefIdeal.main_arg1) = m ((c.tc : Thread Cert.QkvCtxRefIdeal.nD Cert.QkvCtxRefIdeal.τ).loc Cert.QkvCtxRefIdeal.main_arg1)
      ∧ r.2.mem ((c.tc : Thread Cert.QkvCtxRefIdeal.nD Cert.QkvCtxRefIdeal.τ).loc Cert.QkvCtxRefIdeal.main_arg2) = m ((c.tc : Thread Cert.QkvCtxRefIdeal.nD Cert.QkvCtxRefIdeal.τ).loc Cert.QkvCtxRefIdeal.main_arg2)
      ∧ r.2.mem ((c.tc : Thread Cert.QkvCtxRefIdeal.nD Cert.QkvCtxRefIdeal.τ).loc Cert.QkvCtxRefIdeal.main_arg3) = m ((c.tc : Thread Cert.QkvCtxRefIdeal.nD Cert.QkvCtxRefIdeal.τ).loc Cert.QkvCtxRefIdeal.main_arg3)
      ∧ r.2.mem ((c.tc : Thread Cert.QkvCtxRefIdeal.nD Cert.QkvCtxRefIdeal.τ).loc Cert.QkvCtxRefIdeal.main_arg4) = m ((c.tc : Thread Cert.QkvCtxRefIdeal.nD Cert.QkvCtxRefIdeal.τ).loc Cert.QkvCtxRefIdeal.main_arg4))
      ∧ r.2.sem = fun _ => 0)

def quiescent_FfnUpLast [hFfnUpLast : Cert.FfnUpLast.Facts] : Prop :=
  ∀ (m : (ℓ : Loc Cert.FfnUpLast.nD Cert.FfnUpLast.τ Cert.FfnUpLast.sig) → Buf (Elt Bits) ℓ) (g : Dev Cert.FfnUpLast.nD → PrngReg), Pre_FfnUpLast m →
    θ_run (Cert.FfnUpLast.defs (F := Bits)) (onTc (τ := Cert.FfnUpLast.τ) (Cert.FfnUpLast.main (F := Bits))) ⟨m, fun _ => 0, g⟩ (fun r => (∀ c : Dev Cert.FfnUpLast.nD,
      r.2.mem ((c.tc : Thread Cert.FfnUpLast.nD Cert.FfnUpLast.τ).loc Cert.FfnUpLast.main_arg0) = m ((c.tc : Thread Cert.FfnUpLast.nD Cert.FfnUpLast.τ).loc Cert.FfnUpLast.main_arg0)
      ∧ r.2.mem ((c.tc : Thread Cert.FfnUpLast.nD Cert.FfnUpLast.τ).loc Cert.FfnUpLast.main_arg1) = m ((c.tc : Thread Cert.FfnUpLast.nD Cert.FfnUpLast.τ).loc Cert.FfnUpLast.main_arg1)
      ∧ r.2.mem ((c.tc : Thread Cert.FfnUpLast.nD Cert.FfnUpLast.τ).loc Cert.FfnUpLast.main_arg2) = m ((c.tc : Thread Cert.FfnUpLast.nD Cert.FfnUpLast.τ).loc Cert.FfnUpLast.main_arg2)
      ∧ r.2.mem ((c.tc : Thread Cert.FfnUpLast.nD Cert.FfnUpLast.τ).loc Cert.FfnUpLast.main_arg3) = m ((c.tc : Thread Cert.FfnUpLast.nD Cert.FfnUpLast.τ).loc Cert.FfnUpLast.main_arg3)
      ∧ r.2.mem ((c.tc : Thread Cert.FfnUpLast.nD Cert.FfnUpLast.τ).loc Cert.FfnUpLast.main_arg4) = m ((c.tc : Thread Cert.FfnUpLast.nD Cert.FfnUpLast.τ).loc Cert.FfnUpLast.main_arg4)
      ∧ r.2.mem ((c.tc : Thread Cert.FfnUpLast.nD Cert.FfnUpLast.τ).loc Cert.FfnUpLast.main_arg5) = m ((c.tc : Thread Cert.FfnUpLast.nD Cert.FfnUpLast.τ).loc Cert.FfnUpLast.main_arg5)
      ∧ r.2.mem ((c.tc : Thread Cert.FfnUpLast.nD Cert.FfnUpLast.τ).loc Cert.FfnUpLast.main_arg6) = m ((c.tc : Thread Cert.FfnUpLast.nD Cert.FfnUpLast.τ).loc Cert.FfnUpLast.main_arg6)
      ∧ r.2.mem ((c.tc : Thread Cert.FfnUpLast.nD Cert.FfnUpLast.τ).loc Cert.FfnUpLast.main_arg7) = m ((c.tc : Thread Cert.FfnUpLast.nD Cert.FfnUpLast.τ).loc Cert.FfnUpLast.main_arg7))
      ∧ r.2.sem = fun _ => 0)

def quiescent_FfnUpLastIdeal [hFfnUpLastIdeal : Cert.FfnUpLastIdeal.Facts] : Prop :=
  ∀ (m : (ℓ : Loc Cert.FfnUpLastIdeal.nD Cert.FfnUpLastIdeal.τ Cert.FfnUpLastIdeal.sig) → Buf (Elt Ideal) ℓ) (g : Dev Cert.FfnUpLastIdeal.nD → PrngReg), Pre_FfnUpLastIdeal m →
    θ_run (Cert.FfnUpLastIdeal.defs (F := Ideal)) (onTc (τ := Cert.FfnUpLastIdeal.τ) (Cert.FfnUpLastIdeal.main (F := Ideal))) ⟨m, fun _ => 0, g⟩ (fun r => (∀ c : Dev Cert.FfnUpLastIdeal.nD,
      r.2.mem ((c.tc : Thread Cert.FfnUpLastIdeal.nD Cert.FfnUpLastIdeal.τ).loc Cert.FfnUpLastIdeal.main_arg0) = m ((c.tc : Thread Cert.FfnUpLastIdeal.nD Cert.FfnUpLastIdeal.τ).loc Cert.FfnUpLastIdeal.main_arg0)
      ∧ r.2.mem ((c.tc : Thread Cert.FfnUpLastIdeal.nD Cert.FfnUpLastIdeal.τ).loc Cert.FfnUpLastIdeal.main_arg1) = m ((c.tc : Thread Cert.FfnUpLastIdeal.nD Cert.FfnUpLastIdeal.τ).loc Cert.FfnUpLastIdeal.main_arg1)
      ∧ r.2.mem ((c.tc : Thread Cert.FfnUpLastIdeal.nD Cert.FfnUpLastIdeal.τ).loc Cert.FfnUpLastIdeal.main_arg2) = m ((c.tc : Thread Cert.FfnUpLastIdeal.nD Cert.FfnUpLastIdeal.τ).loc Cert.FfnUpLastIdeal.main_arg2)
      ∧ r.2.mem ((c.tc : Thread Cert.FfnUpLastIdeal.nD Cert.FfnUpLastIdeal.τ).loc Cert.FfnUpLastIdeal.main_arg3) = m ((c.tc : Thread Cert.FfnUpLastIdeal.nD Cert.FfnUpLastIdeal.τ).loc Cert.FfnUpLastIdeal.main_arg3)
      ∧ r.2.mem ((c.tc : Thread Cert.FfnUpLastIdeal.nD Cert.FfnUpLastIdeal.τ).loc Cert.FfnUpLastIdeal.main_arg4) = m ((c.tc : Thread Cert.FfnUpLastIdeal.nD Cert.FfnUpLastIdeal.τ).loc Cert.FfnUpLastIdeal.main_arg4)
      ∧ r.2.mem ((c.tc : Thread Cert.FfnUpLastIdeal.nD Cert.FfnUpLastIdeal.τ).loc Cert.FfnUpLastIdeal.main_arg5) = m ((c.tc : Thread Cert.FfnUpLastIdeal.nD Cert.FfnUpLastIdeal.τ).loc Cert.FfnUpLastIdeal.main_arg5)
      ∧ r.2.mem ((c.tc : Thread Cert.FfnUpLastIdeal.nD Cert.FfnUpLastIdeal.τ).loc Cert.FfnUpLastIdeal.main_arg6) = m ((c.tc : Thread Cert.FfnUpLastIdeal.nD Cert.FfnUpLastIdeal.τ).loc Cert.FfnUpLastIdeal.main_arg6)
      ∧ r.2.mem ((c.tc : Thread Cert.FfnUpLastIdeal.nD Cert.FfnUpLastIdeal.τ).loc Cert.FfnUpLastIdeal.main_arg7) = m ((c.tc : Thread Cert.FfnUpLastIdeal.nD Cert.FfnUpLastIdeal.τ).loc Cert.FfnUpLastIdeal.main_arg7))
      ∧ r.2.sem = fun _ => 0)

def quiescent_FfnUpLastIdeal_pre_up1_finite [hFfnUpLastIdeal : Cert.FfnUpLastIdeal.Facts] [hPre_up1_finite : Cert.Pre_up1_finite.Facts] : Prop :=
  ∀ (m : (ℓ : Loc Cert.FfnUpLastIdeal.nD Cert.FfnUpLastIdeal.τ Cert.FfnUpLastIdeal.sig) → Buf (Elt Ideal) ℓ) (g : Dev Cert.FfnUpLastIdeal.nD → PrngReg), Pre_FfnUpLastIdeal_up1_finite m →
    θ_run (Cert.FfnUpLastIdeal.defs (F := Ideal)) (onTc (τ := Cert.FfnUpLastIdeal.τ) (Cert.FfnUpLastIdeal.main (F := Ideal))) ⟨m, fun _ => 0, g⟩ (fun r => (∀ c : Dev Cert.FfnUpLastIdeal.nD,
      r.2.mem ((c.tc : Thread Cert.FfnUpLastIdeal.nD Cert.FfnUpLastIdeal.τ).loc Cert.FfnUpLastIdeal.main_arg0) = m ((c.tc : Thread Cert.FfnUpLastIdeal.nD Cert.FfnUpLastIdeal.τ).loc Cert.FfnUpLastIdeal.main_arg0)
      ∧ r.2.mem ((c.tc : Thread Cert.FfnUpLastIdeal.nD Cert.FfnUpLastIdeal.τ).loc Cert.FfnUpLastIdeal.main_arg1) = m ((c.tc : Thread Cert.FfnUpLastIdeal.nD Cert.FfnUpLastIdeal.τ).loc Cert.FfnUpLastIdeal.main_arg1)
      ∧ r.2.mem ((c.tc : Thread Cert.FfnUpLastIdeal.nD Cert.FfnUpLastIdeal.τ).loc Cert.FfnUpLastIdeal.main_arg2) = m ((c.tc : Thread Cert.FfnUpLastIdeal.nD Cert.FfnUpLastIdeal.τ).loc Cert.FfnUpLastIdeal.main_arg2)
      ∧ r.2.mem ((c.tc : Thread Cert.FfnUpLastIdeal.nD Cert.FfnUpLastIdeal.τ).loc Cert.FfnUpLastIdeal.main_arg3) = m ((c.tc : Thread Cert.FfnUpLastIdeal.nD Cert.FfnUpLastIdeal.τ).loc Cert.FfnUpLastIdeal.main_arg3)
      ∧ r.2.mem ((c.tc : Thread Cert.FfnUpLastIdeal.nD Cert.FfnUpLastIdeal.τ).loc Cert.FfnUpLastIdeal.main_arg4) = m ((c.tc : Thread Cert.FfnUpLastIdeal.nD Cert.FfnUpLastIdeal.τ).loc Cert.FfnUpLastIdeal.main_arg4)
      ∧ r.2.mem ((c.tc : Thread Cert.FfnUpLastIdeal.nD Cert.FfnUpLastIdeal.τ).loc Cert.FfnUpLastIdeal.main_arg5) = m ((c.tc : Thread Cert.FfnUpLastIdeal.nD Cert.FfnUpLastIdeal.τ).loc Cert.FfnUpLastIdeal.main_arg5)
      ∧ r.2.mem ((c.tc : Thread Cert.FfnUpLastIdeal.nD Cert.FfnUpLastIdeal.τ).loc Cert.FfnUpLastIdeal.main_arg6) = m ((c.tc : Thread Cert.FfnUpLastIdeal.nD Cert.FfnUpLastIdeal.τ).loc Cert.FfnUpLastIdeal.main_arg6)
      ∧ r.2.mem ((c.tc : Thread Cert.FfnUpLastIdeal.nD Cert.FfnUpLastIdeal.τ).loc Cert.FfnUpLastIdeal.main_arg7) = m ((c.tc : Thread Cert.FfnUpLastIdeal.nD Cert.FfnUpLastIdeal.τ).loc Cert.FfnUpLastIdeal.main_arg7))
      ∧ r.2.sem = fun _ => 0)

def quiescent_FfnUpLastRefIdeal [hFfnUpLastRefIdeal : Cert.FfnUpLastRefIdeal.Facts] : Prop :=
  ∀ (m : (ℓ : Loc Cert.FfnUpLastRefIdeal.nD Cert.FfnUpLastRefIdeal.τ Cert.FfnUpLastRefIdeal.sig) → Buf (Elt Ideal) ℓ) (g : Dev Cert.FfnUpLastRefIdeal.nD → PrngReg), Pre_FfnUpLastRefIdeal m →
    θ_run (Cert.FfnUpLastRefIdeal.defs (F := Ideal)) (onTc (τ := Cert.FfnUpLastRefIdeal.τ) (Cert.FfnUpLastRefIdeal.main (F := Ideal))) ⟨m, fun _ => 0, g⟩ (fun r => (∀ c : Dev Cert.FfnUpLastRefIdeal.nD,
      r.2.mem ((c.tc : Thread Cert.FfnUpLastRefIdeal.nD Cert.FfnUpLastRefIdeal.τ).loc Cert.FfnUpLastRefIdeal.main_arg0) = m ((c.tc : Thread Cert.FfnUpLastRefIdeal.nD Cert.FfnUpLastRefIdeal.τ).loc Cert.FfnUpLastRefIdeal.main_arg0)
      ∧ r.2.mem ((c.tc : Thread Cert.FfnUpLastRefIdeal.nD Cert.FfnUpLastRefIdeal.τ).loc Cert.FfnUpLastRefIdeal.main_arg1) = m ((c.tc : Thread Cert.FfnUpLastRefIdeal.nD Cert.FfnUpLastRefIdeal.τ).loc Cert.FfnUpLastRefIdeal.main_arg1)
      ∧ r.2.mem ((c.tc : Thread Cert.FfnUpLastRefIdeal.nD Cert.FfnUpLastRefIdeal.τ).loc Cert.FfnUpLastRefIdeal.main_arg2) = m ((c.tc : Thread Cert.FfnUpLastRefIdeal.nD Cert.FfnUpLastRefIdeal.τ).loc Cert.FfnUpLastRefIdeal.main_arg2)
      ∧ r.2.mem ((c.tc : Thread Cert.FfnUpLastRefIdeal.nD Cert.FfnUpLastRefIdeal.τ).loc Cert.FfnUpLastRefIdeal.main_arg3) = m ((c.tc : Thread Cert.FfnUpLastRefIdeal.nD Cert.FfnUpLastRefIdeal.τ).loc Cert.FfnUpLastRefIdeal.main_arg3)
      ∧ r.2.mem ((c.tc : Thread Cert.FfnUpLastRefIdeal.nD Cert.FfnUpLastRefIdeal.τ).loc Cert.FfnUpLastRefIdeal.main_arg4) = m ((c.tc : Thread Cert.FfnUpLastRefIdeal.nD Cert.FfnUpLastRefIdeal.τ).loc Cert.FfnUpLastRefIdeal.main_arg4)
      ∧ r.2.mem ((c.tc : Thread Cert.FfnUpLastRefIdeal.nD Cert.FfnUpLastRefIdeal.τ).loc Cert.FfnUpLastRefIdeal.main_arg5) = m ((c.tc : Thread Cert.FfnUpLastRefIdeal.nD Cert.FfnUpLastRefIdeal.τ).loc Cert.FfnUpLastRefIdeal.main_arg5)
      ∧ r.2.mem ((c.tc : Thread Cert.FfnUpLastRefIdeal.nD Cert.FfnUpLastRefIdeal.τ).loc Cert.FfnUpLastRefIdeal.main_arg6) = m ((c.tc : Thread Cert.FfnUpLastRefIdeal.nD Cert.FfnUpLastRefIdeal.τ).loc Cert.FfnUpLastRefIdeal.main_arg6)
      ∧ r.2.mem ((c.tc : Thread Cert.FfnUpLastRefIdeal.nD Cert.FfnUpLastRefIdeal.τ).loc Cert.FfnUpLastRefIdeal.main_arg7) = m ((c.tc : Thread Cert.FfnUpLastRefIdeal.nD Cert.FfnUpLastRefIdeal.τ).loc Cert.FfnUpLastRefIdeal.main_arg7))
      ∧ r.2.sem = fun _ => 0)

def quiescent_FfnUpLastRefIdeal_pre_up1_finite [hFfnUpLastRefIdeal : Cert.FfnUpLastRefIdeal.Facts] [hPre_up1_finite : Cert.Pre_up1_finite.Facts] : Prop :=
  ∀ (m : (ℓ : Loc Cert.FfnUpLastRefIdeal.nD Cert.FfnUpLastRefIdeal.τ Cert.FfnUpLastRefIdeal.sig) → Buf (Elt Ideal) ℓ) (g : Dev Cert.FfnUpLastRefIdeal.nD → PrngReg), Pre_FfnUpLastRefIdeal_up1_finite m →
    θ_run (Cert.FfnUpLastRefIdeal.defs (F := Ideal)) (onTc (τ := Cert.FfnUpLastRefIdeal.τ) (Cert.FfnUpLastRefIdeal.main (F := Ideal))) ⟨m, fun _ => 0, g⟩ (fun r => (∀ c : Dev Cert.FfnUpLastRefIdeal.nD,
      r.2.mem ((c.tc : Thread Cert.FfnUpLastRefIdeal.nD Cert.FfnUpLastRefIdeal.τ).loc Cert.FfnUpLastRefIdeal.main_arg0) = m ((c.tc : Thread Cert.FfnUpLastRefIdeal.nD Cert.FfnUpLastRefIdeal.τ).loc Cert.FfnUpLastRefIdeal.main_arg0)
      ∧ r.2.mem ((c.tc : Thread Cert.FfnUpLastRefIdeal.nD Cert.FfnUpLastRefIdeal.τ).loc Cert.FfnUpLastRefIdeal.main_arg1) = m ((c.tc : Thread Cert.FfnUpLastRefIdeal.nD Cert.FfnUpLastRefIdeal.τ).loc Cert.FfnUpLastRefIdeal.main_arg1)
      ∧ r.2.mem ((c.tc : Thread Cert.FfnUpLastRefIdeal.nD Cert.FfnUpLastRefIdeal.τ).loc Cert.FfnUpLastRefIdeal.main_arg2) = m ((c.tc : Thread Cert.FfnUpLastRefIdeal.nD Cert.FfnUpLastRefIdeal.τ).loc Cert.FfnUpLastRefIdeal.main_arg2)
      ∧ r.2.mem ((c.tc : Thread Cert.FfnUpLastRefIdeal.nD Cert.FfnUpLastRefIdeal.τ).loc Cert.FfnUpLastRefIdeal.main_arg3) = m ((c.tc : Thread Cert.FfnUpLastRefIdeal.nD Cert.FfnUpLastRefIdeal.τ).loc Cert.FfnUpLastRefIdeal.main_arg3)
      ∧ r.2.mem ((c.tc : Thread Cert.FfnUpLastRefIdeal.nD Cert.FfnUpLastRefIdeal.τ).loc Cert.FfnUpLastRefIdeal.main_arg4) = m ((c.tc : Thread Cert.FfnUpLastRefIdeal.nD Cert.FfnUpLastRefIdeal.τ).loc Cert.FfnUpLastRefIdeal.main_arg4)
      ∧ r.2.mem ((c.tc : Thread Cert.FfnUpLastRefIdeal.nD Cert.FfnUpLastRefIdeal.τ).loc Cert.FfnUpLastRefIdeal.main_arg5) = m ((c.tc : Thread Cert.FfnUpLastRefIdeal.nD Cert.FfnUpLastRefIdeal.τ).loc Cert.FfnUpLastRefIdeal.main_arg5)
      ∧ r.2.mem ((c.tc : Thread Cert.FfnUpLastRefIdeal.nD Cert.FfnUpLastRefIdeal.τ).loc Cert.FfnUpLastRefIdeal.main_arg6) = m ((c.tc : Thread Cert.FfnUpLastRefIdeal.nD Cert.FfnUpLastRefIdeal.τ).loc Cert.FfnUpLastRefIdeal.main_arg6)
      ∧ r.2.mem ((c.tc : Thread Cert.FfnUpLastRefIdeal.nD Cert.FfnUpLastRefIdeal.τ).loc Cert.FfnUpLastRefIdeal.main_arg7) = m ((c.tc : Thread Cert.FfnUpLastRefIdeal.nD Cert.FfnUpLastRefIdeal.τ).loc Cert.FfnUpLastRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjIdeal_pre_in_finite [hInProjIdeal : Cert.InProjIdeal.Facts] [hPre_in_finite : Cert.Pre_in_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_InProjRefIdeal_pre_in_finite [hInProjRefIdeal : Cert.InProjRefIdeal.Facts] [hPre_in_finite : Cert.Pre_in_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5)
      ∧ r.2.mem ((c.tc : Thread Cert.FfnUp.nD Cert.FfnUp.τ).loc Cert.FfnUp.main_arg6) = m ((c.tc : Thread Cert.FfnUp.nD Cert.FfnUp.τ).loc Cert.FfnUp.main_arg6)
      ∧ r.2.mem ((c.tc : Thread Cert.FfnUp.nD Cert.FfnUp.τ).loc Cert.FfnUp.main_arg7) = m ((c.tc : Thread Cert.FfnUp.nD Cert.FfnUp.τ).loc Cert.FfnUp.main_arg7)
      ∧ r.2.mem ((c.tc : Thread Cert.FfnUp.nD Cert.FfnUp.τ).loc Cert.FfnUp.main_arg8) = m ((c.tc : Thread Cert.FfnUp.nD Cert.FfnUp.τ).loc Cert.FfnUp.main_arg8)
      ∧ r.2.mem ((c.tc : Thread Cert.FfnUp.nD Cert.FfnUp.τ).loc Cert.FfnUp.main_arg9) = m ((c.tc : Thread Cert.FfnUp.nD Cert.FfnUp.τ).loc Cert.FfnUp.main_arg9))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
      ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
      ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
      ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8)
      ∧ r.2.mem ((c.tc : Thread Cert.FfnUpIdeal.nD Cert.FfnUpIdeal.τ).loc Cert.FfnUpIdeal.main_arg9) = m ((c.tc : Thread Cert.FfnUpIdeal.nD Cert.FfnUpIdeal.τ).loc Cert.FfnUpIdeal.main_arg9))
      ∧ r.2.sem = fun _ => 0)

def quiescent_FfnUpIdeal_pre_up_finite [hFfnUpIdeal : Cert.FfnUpIdeal.Facts] [hPre_up_finite : Cert.Pre_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_up_finite m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
      ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
      ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
      ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8)
      ∧ r.2.mem ((c.tc : Thread Cert.FfnUpIdeal.nD Cert.FfnUpIdeal.τ).loc Cert.FfnUpIdeal.main_arg9) = m ((c.tc : Thread Cert.FfnUpIdeal.nD Cert.FfnUpIdeal.τ).loc Cert.FfnUpIdeal.main_arg9))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6)
      ∧ r.2.mem ((c.tc : Thread Cert.FfnUpRefIdeal.nD Cert.FfnUpRefIdeal.τ).loc Cert.FfnUpRefIdeal.main_arg7) = m ((c.tc : Thread Cert.FfnUpRefIdeal.nD Cert.FfnUpRefIdeal.τ).loc Cert.FfnUpRefIdeal.main_arg7)
      ∧ r.2.mem ((c.tc : Thread Cert.FfnUpRefIdeal.nD Cert.FfnUpRefIdeal.τ).loc Cert.FfnUpRefIdeal.main_arg8) = m ((c.tc : Thread Cert.FfnUpRefIdeal.nD Cert.FfnUpRefIdeal.τ).loc Cert.FfnUpRefIdeal.main_arg8)
      ∧ r.2.mem ((c.tc : Thread Cert.FfnUpRefIdeal.nD Cert.FfnUpRefIdeal.τ).loc Cert.FfnUpRefIdeal.main_arg9) = m ((c.tc : Thread Cert.FfnUpRefIdeal.nD Cert.FfnUpRefIdeal.τ).loc Cert.FfnUpRefIdeal.main_arg9))
      ∧ r.2.sem = fun _ => 0)

def quiescent_FfnUpRefIdeal_pre_up_finite [hFfnUpRefIdeal : Cert.FfnUpRefIdeal.Facts] [hPre_up_finite : Cert.Pre_up_finite.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_up_finite m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6)
      ∧ r.2.mem ((c.tc : Thread Cert.FfnUpRefIdeal.nD Cert.FfnUpRefIdeal.τ).loc Cert.FfnUpRefIdeal.main_arg7) = m ((c.tc : Thread Cert.FfnUpRefIdeal.nD Cert.FfnUpRefIdeal.τ).loc Cert.FfnUpRefIdeal.main_arg7)
      ∧ r.2.mem ((c.tc : Thread Cert.FfnUpRefIdeal.nD Cert.FfnUpRefIdeal.τ).loc Cert.FfnUpRefIdeal.main_arg8) = m ((c.tc : Thread Cert.FfnUpRefIdeal.nD Cert.FfnUpRefIdeal.τ).loc Cert.FfnUpRefIdeal.main_arg8)
      ∧ r.2.mem ((c.tc : Thread Cert.FfnUpRefIdeal.nD Cert.FfnUpRefIdeal.τ).loc Cert.FfnUpRefIdeal.main_arg9) = m ((c.tc : Thread Cert.FfnUpRefIdeal.nD Cert.FfnUpRefIdeal.τ).loc Cert.FfnUpRefIdeal.main_arg9))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Cond [hCond : Cert.Cond.Facts] : Prop :=
  ∀ (m : (ℓ : Loc Cert.Cond.nD Cert.Cond.τ Cert.Cond.sig) → Buf (Elt Bits) ℓ) (g : Dev Cert.Cond.nD → PrngReg), Pre_Cond m →
    θ_run (Cert.Cond.defs (F := Bits)) (onTc (τ := Cert.Cond.τ) (Cert.Cond.main (F := Bits))) ⟨m, fun _ => 0, g⟩ (fun r => (∀ c : Dev Cert.Cond.nD,
      r.2.mem ((c.tc : Thread Cert.Cond.nD Cert.Cond.τ).loc Cert.Cond.main_arg0) = m ((c.tc : Thread Cert.Cond.nD Cert.Cond.τ).loc Cert.Cond.main_arg0)
      ∧ r.2.mem ((c.tc : Thread Cert.Cond.nD Cert.Cond.τ).loc Cert.Cond.main_arg1) = m ((c.tc : Thread Cert.Cond.nD Cert.Cond.τ).loc Cert.Cond.main_arg1)
      ∧ r.2.mem ((c.tc : Thread Cert.Cond.nD Cert.Cond.τ).loc Cert.Cond.main_arg2) = m ((c.tc : Thread Cert.Cond.nD Cert.Cond.τ).loc Cert.Cond.main_arg2)
      ∧ r.2.mem ((c.tc : Thread Cert.Cond.nD Cert.Cond.τ).loc Cert.Cond.main_arg3) = m ((c.tc : Thread Cert.Cond.nD Cert.Cond.τ).loc Cert.Cond.main_arg3))
      ∧ r.2.sem = fun _ => 0)

def quiescent_CondIdeal [hCondIdeal : Cert.CondIdeal.Facts] : Prop :=
  ∀ (m : (ℓ : Loc Cert.CondIdeal.nD Cert.CondIdeal.τ Cert.CondIdeal.sig) → Buf (Elt Ideal) ℓ) (g : Dev Cert.CondIdeal.nD → PrngReg), Pre_CondIdeal m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0)
      ∧ r.2.mem ((c.tc : Thread Cert.CondIdeal.nD Cert.CondIdeal.τ).loc Cert.CondIdeal.main_arg1) = m ((c.tc : Thread Cert.CondIdeal.nD Cert.CondIdeal.τ).loc Cert.CondIdeal.main_arg1)
      ∧ r.2.mem ((c.tc : Thread Cert.CondIdeal.nD Cert.CondIdeal.τ).loc Cert.CondIdeal.main_arg2) = m ((c.tc : Thread Cert.CondIdeal.nD Cert.CondIdeal.τ).loc Cert.CondIdeal.main_arg2)
      ∧ r.2.mem ((c.tc : Thread Cert.CondIdeal.nD Cert.CondIdeal.τ).loc Cert.CondIdeal.main_arg3) = m ((c.tc : Thread Cert.CondIdeal.nD Cert.CondIdeal.τ).loc Cert.CondIdeal.main_arg3))
      ∧ r.2.sem = fun _ => 0)

def quiescent_CondIdeal_pre_cond_finite [hCondIdeal : Cert.CondIdeal.Facts] [hPre_cond_finite : Cert.Pre_cond_finite.Facts] : Prop :=
  ∀ (m : (ℓ : Loc Cert.CondIdeal.nD Cert.CondIdeal.τ Cert.CondIdeal.sig) → Buf (Elt Ideal) ℓ) (g : Dev Cert.CondIdeal.nD → PrngReg), Pre_CondIdeal_cond_finite m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0)
      ∧ r.2.mem ((c.tc : Thread Cert.CondIdeal.nD Cert.CondIdeal.τ).loc Cert.CondIdeal.main_arg1) = m ((c.tc : Thread Cert.CondIdeal.nD Cert.CondIdeal.τ).loc Cert.CondIdeal.main_arg1)
      ∧ r.2.mem ((c.tc : Thread Cert.CondIdeal.nD Cert.CondIdeal.τ).loc Cert.CondIdeal.main_arg2) = m ((c.tc : Thread Cert.CondIdeal.nD Cert.CondIdeal.τ).loc Cert.CondIdeal.main_arg2)
      ∧ r.2.mem ((c.tc : Thread Cert.CondIdeal.nD Cert.CondIdeal.τ).loc Cert.CondIdeal.main_arg3) = m ((c.tc : Thread Cert.CondIdeal.nD Cert.CondIdeal.τ).loc Cert.CondIdeal.main_arg3))
      ∧ r.2.sem = fun _ => 0)

def quiescent_CondRefIdeal [hCondRefIdeal : Cert.CondRefIdeal.Facts] : Prop :=
  ∀ (m : (ℓ : Loc Cert.CondRefIdeal.nD Cert.CondRefIdeal.τ Cert.CondRefIdeal.sig) → Buf (Elt Ideal) ℓ) (g : Dev Cert.CondRefIdeal.nD → PrngReg), Pre_CondRefIdeal m →
    θ_run (Cert.CondRefIdeal.defs (F := Ideal)) (onTc (τ := Cert.CondRefIdeal.τ) (Cert.CondRefIdeal.main (F := Ideal))) ⟨m, fun _ => 0, g⟩ (fun r => (∀ c : Dev Cert.CondRefIdeal.nD,
      r.2.mem ((c.tc : Thread Cert.CondRefIdeal.nD Cert.CondRefIdeal.τ).loc Cert.CondRefIdeal.main_arg0) = m ((c.tc : Thread Cert.CondRefIdeal.nD Cert.CondRefIdeal.τ).loc Cert.CondRefIdeal.main_arg0)
      ∧ r.2.mem ((c.tc : Thread Cert.CondRefIdeal.nD Cert.CondRefIdeal.τ).loc Cert.CondRefIdeal.main_arg1) = m ((c.tc : Thread Cert.CondRefIdeal.nD Cert.CondRefIdeal.τ).loc Cert.CondRefIdeal.main_arg1)
      ∧ r.2.mem ((c.tc : Thread Cert.CondRefIdeal.nD Cert.CondRefIdeal.τ).loc Cert.CondRefIdeal.main_arg2) = m ((c.tc : Thread Cert.CondRefIdeal.nD Cert.CondRefIdeal.τ).loc Cert.CondRefIdeal.main_arg2)
      ∧ r.2.mem ((c.tc : Thread Cert.CondRefIdeal.nD Cert.CondRefIdeal.τ).loc Cert.CondRefIdeal.main_arg3) = m ((c.tc : Thread Cert.CondRefIdeal.nD Cert.CondRefIdeal.τ).loc Cert.CondRefIdeal.main_arg3))
      ∧ r.2.sem = fun _ => 0)

def quiescent_CondRefIdeal_pre_cond_finite [hCondRefIdeal : Cert.CondRefIdeal.Facts] [hPre_cond_finite : Cert.Pre_cond_finite.Facts] : Prop :=
  ∀ (m : (ℓ : Loc Cert.CondRefIdeal.nD Cert.CondRefIdeal.τ Cert.CondRefIdeal.sig) → Buf (Elt Ideal) ℓ) (g : Dev Cert.CondRefIdeal.nD → PrngReg), Pre_CondRefIdeal_cond_finite m →
    θ_run (Cert.CondRefIdeal.defs (F := Ideal)) (onTc (τ := Cert.CondRefIdeal.τ) (Cert.CondRefIdeal.main (F := Ideal))) ⟨m, fun _ => 0, g⟩ (fun r => (∀ c : Dev Cert.CondRefIdeal.nD,
      r.2.mem ((c.tc : Thread Cert.CondRefIdeal.nD Cert.CondRefIdeal.τ).loc Cert.CondRefIdeal.main_arg0) = m ((c.tc : Thread Cert.CondRefIdeal.nD Cert.CondRefIdeal.τ).loc Cert.CondRefIdeal.main_arg0)
      ∧ r.2.mem ((c.tc : Thread Cert.CondRefIdeal.nD Cert.CondRefIdeal.τ).loc Cert.CondRefIdeal.main_arg1) = m ((c.tc : Thread Cert.CondRefIdeal.nD Cert.CondRefIdeal.τ).loc Cert.CondRefIdeal.main_arg1)
      ∧ r.2.mem ((c.tc : Thread Cert.CondRefIdeal.nD Cert.CondRefIdeal.τ).loc Cert.CondRefIdeal.main_arg2) = m ((c.tc : Thread Cert.CondRefIdeal.nD Cert.CondRefIdeal.τ).loc Cert.CondRefIdeal.main_arg2)
      ∧ r.2.mem ((c.tc : Thread Cert.CondRefIdeal.nD Cert.CondRefIdeal.τ).loc Cert.CondRefIdeal.main_arg3) = m ((c.tc : Thread Cert.CondRefIdeal.nD Cert.CondRefIdeal.τ).loc Cert.CondRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8)
      ∧ r.2.mem ((c.tc : Thread Cert.Pool.nD Cert.Pool.τ).loc Cert.Pool.main_arg9) = m ((c.tc : Thread Cert.Pool.nD Cert.Pool.τ).loc Cert.Pool.main_arg9))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8)
      ∧ r.2.mem ((c.tc : Thread Cert.PoolRefIdeal.nD Cert.PoolRefIdeal.τ).loc Cert.PoolRefIdeal.main_arg9) = m ((c.tc : Thread Cert.PoolRefIdeal.nD Cert.PoolRefIdeal.τ).loc Cert.PoolRefIdeal.main_arg9))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdIdeal_pre_attf_finite [hAttnFwdIdeal : Cert.AttnFwdIdeal.Facts] [hPre_attf_finite : Cert.Pre_attf_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attf_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_AttnFwdRefIdeal_pre_attf_finite [hAttnFwdRefIdeal : Cert.AttnFwdRefIdeal.Facts] [hPre_attf_finite : Cert.Pre_attf_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attf_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3)
      ∧ r.2.mem ((c.tc : Thread Cert.NormFwd.nD Cert.NormFwd.τ).loc Cert.NormFwd.main_arg4) = m ((c.tc : Thread Cert.NormFwd.nD Cert.NormFwd.τ).loc Cert.NormFwd.main_arg4)
      ∧ r.2.mem ((c.tc : Thread Cert.NormFwd.nD Cert.NormFwd.τ).loc Cert.NormFwd.main_arg5) = m ((c.tc : Thread Cert.NormFwd.nD Cert.NormFwd.τ).loc Cert.NormFwd.main_arg5)
      ∧ r.2.mem ((c.tc : Thread Cert.NormFwd.nD Cert.NormFwd.τ).loc Cert.NormFwd.main_arg6) = m ((c.tc : Thread Cert.NormFwd.nD Cert.NormFwd.τ).loc Cert.NormFwd.main_arg6))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3)
      ∧ r.2.mem ((c.tc : Thread Cert.NormFwdIdeal.nD Cert.NormFwdIdeal.τ).loc Cert.NormFwdIdeal.main_arg4) = m ((c.tc : Thread Cert.NormFwdIdeal.nD Cert.NormFwdIdeal.τ).loc Cert.NormFwdIdeal.main_arg4)
      ∧ r.2.mem ((c.tc : Thread Cert.NormFwdIdeal.nD Cert.NormFwdIdeal.τ).loc Cert.NormFwdIdeal.main_arg5) = m ((c.tc : Thread Cert.NormFwdIdeal.nD Cert.NormFwdIdeal.τ).loc Cert.NormFwdIdeal.main_arg5)
      ∧ r.2.mem ((c.tc : Thread Cert.NormFwdIdeal.nD Cert.NormFwdIdeal.τ).loc Cert.NormFwdIdeal.main_arg6) = m ((c.tc : Thread Cert.NormFwdIdeal.nD Cert.NormFwdIdeal.τ).loc Cert.NormFwdIdeal.main_arg6))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3)
      ∧ r.2.mem ((c.tc : Thread Cert.NormFwdRefIdeal.nD Cert.NormFwdRefIdeal.τ).loc Cert.NormFwdRefIdeal.main_arg4) = m ((c.tc : Thread Cert.NormFwdRefIdeal.nD Cert.NormFwdRefIdeal.τ).loc Cert.NormFwdRefIdeal.main_arg4)
      ∧ r.2.mem ((c.tc : Thread Cert.NormFwdRefIdeal.nD Cert.NormFwdRefIdeal.τ).loc Cert.NormFwdRefIdeal.main_arg5) = m ((c.tc : Thread Cert.NormFwdRefIdeal.nD Cert.NormFwdRefIdeal.τ).loc Cert.NormFwdRefIdeal.main_arg5)
      ∧ r.2.mem ((c.tc : Thread Cert.NormFwdRefIdeal.nD Cert.NormFwdRefIdeal.τ).loc Cert.NormFwdRefIdeal.main_arg6) = m ((c.tc : Thread Cert.NormFwdRefIdeal.nD Cert.NormFwdRefIdeal.τ).loc Cert.NormFwdRefIdeal.main_arg6))
      ∧ r.2.sem = fun _ => 0)

def preserves_NormCtx_NormCtxIdeal : Prop :=
  True

def algebraic_NormCtxIdeal_NormCtxRefIdeal_pre_norm_finite [hNormCtxIdeal : Cert.NormCtxIdeal.Facts] [hNormCtxRefIdeal : Cert.NormCtxRefIdeal.Facts] [hPre_norm_finite : Cert.Pre_norm_finite.Facts] : Prop :=
  ∀ (m : (ℓ : Loc Cert.NormCtxIdeal.nD Cert.NormCtxIdeal.τ Cert.NormCtxIdeal.sig) → Buf (Elt Ideal) ℓ) (g : Dev Cert.NormCtxIdeal.nD → PrngReg)
    (m' : (ℓ : Loc Cert.NormCtxRefIdeal.nD Cert.NormCtxRefIdeal.τ Cert.NormCtxRefIdeal.sig) → Buf (Elt Ideal) ℓ) (g' : Dev Cert.NormCtxRefIdeal.nD → PrngReg), Pre_NormCtxIdeal_norm_finite m →
    (∀ c : Dev Cert.NormCtxIdeal.nD,
      m' ((c.tc : Thread Cert.NormCtxRefIdeal.nD Cert.NormCtxRefIdeal.τ).loc Cert.NormCtxRefIdeal.main_arg0) = m ((c.tc : Thread Cert.NormCtxIdeal.nD Cert.NormCtxIdeal.τ).loc Cert.NormCtxIdeal.main_arg0)
      ∧ m' ((c.tc : Thread Cert.NormCtxRefIdeal.nD Cert.NormCtxRefIdeal.τ).loc Cert.NormCtxRefIdeal.main_arg1) = m ((c.tc : Thread Cert.NormCtxIdeal.nD Cert.NormCtxIdeal.τ).loc Cert.NormCtxIdeal.main_arg1)
      ∧ m' ((c.tc : Thread Cert.NormCtxRefIdeal.nD Cert.NormCtxRefIdeal.τ).loc Cert.NormCtxRefIdeal.main_arg2) = m ((c.tc : Thread Cert.NormCtxIdeal.nD Cert.NormCtxIdeal.τ).loc Cert.NormCtxIdeal.main_arg2)
      ∧ m' ((c.tc : Thread Cert.NormCtxRefIdeal.nD Cert.NormCtxRefIdeal.τ).loc Cert.NormCtxRefIdeal.main_arg3) = m ((c.tc : Thread Cert.NormCtxIdeal.nD Cert.NormCtxIdeal.τ).loc Cert.NormCtxIdeal.main_arg3)
      ∧ m' ((c.tc : Thread Cert.NormCtxRefIdeal.nD Cert.NormCtxRefIdeal.τ).loc Cert.NormCtxRefIdeal.main_arg4) = m ((c.tc : Thread Cert.NormCtxIdeal.nD Cert.NormCtxIdeal.τ).loc Cert.NormCtxIdeal.main_arg4)) →
    ∃ (v0 : (c : Dev Cert.NormCtxIdeal.nD) → Buf (Elt Ideal) ((c.tc : Thread Cert.NormCtxIdeal.nD Cert.NormCtxIdeal.τ).loc Cert.NormCtxIdeal.main_v0_0)) (v1 : (c : Dev Cert.NormCtxIdeal.nD) → Buf (Elt Ideal) ((c.tc : Thread Cert.NormCtxIdeal.nD Cert.NormCtxIdeal.τ).loc Cert.NormCtxIdeal.main_v0_1)) (v2 : (c : Dev Cert.NormCtxIdeal.nD) → Buf (Elt Ideal) ((c.tc : Thread Cert.NormCtxIdeal.nD Cert.NormCtxIdeal.τ).loc Cert.NormCtxIdeal.main_v0_2)) (v3 : (c : Dev Cert.NormCtxIdeal.nD) → Buf (Elt Ideal) ((c.tc : Thread Cert.NormCtxIdeal.nD Cert.NormCtxIdeal.τ).loc Cert.NormCtxIdeal.main_v0_3)),
      θ_run (Cert.NormCtxIdeal.defs (F := Ideal)) (onTc (τ := Cert.NormCtxIdeal.τ) (Cert.NormCtxIdeal.main (F := Ideal))) ⟨m, fun _ => 0, g⟩ (fun r => ∀ c : Dev Cert.NormCtxIdeal.nD,
          r.2.mem ((c.tc : Thread Cert.NormCtxIdeal.nD Cert.NormCtxIdeal.τ).loc Cert.NormCtxIdeal.main_v0_0) = v0 c
          ∧ r.2.mem ((c.tc : Thread Cert.NormCtxIdeal.nD Cert.NormCtxIdeal.τ).loc Cert.NormCtxIdeal.main_v0_1) = v1 c
          ∧ r.2.mem ((c.tc : Thread Cert.NormCtxIdeal.nD Cert.NormCtxIdeal.τ).loc Cert.NormCtxIdeal.main_v0_2) = v2 c
          ∧ r.2.mem ((c.tc : Thread Cert.NormCtxIdeal.nD Cert.NormCtxIdeal.τ).loc Cert.NormCtxIdeal.main_v0_3) = v3 c
          ∧ r.2.mem ((c.tc : Thread Cert.NormCtxIdeal.nD Cert.NormCtxIdeal.τ).loc Cert.NormCtxIdeal.main_arg0) = m ((c.tc : Thread Cert.NormCtxIdeal.nD Cert.NormCtxIdeal.τ).loc Cert.NormCtxIdeal.main_arg0)
          ∧ r.2.mem ((c.tc : Thread Cert.NormCtxIdeal.nD Cert.NormCtxIdeal.τ).loc Cert.NormCtxIdeal.main_arg1) = m ((c.tc : Thread Cert.NormCtxIdeal.nD Cert.NormCtxIdeal.τ).loc Cert.NormCtxIdeal.main_arg1)
          ∧ r.2.mem ((c.tc : Thread Cert.NormCtxIdeal.nD Cert.NormCtxIdeal.τ).loc Cert.NormCtxIdeal.main_arg2) = m ((c.tc : Thread Cert.NormCtxIdeal.nD Cert.NormCtxIdeal.τ).loc Cert.NormCtxIdeal.main_arg2)
          ∧ r.2.mem ((c.tc : Thread Cert.NormCtxIdeal.nD Cert.NormCtxIdeal.τ).loc Cert.NormCtxIdeal.main_arg3) = m ((c.tc : Thread Cert.NormCtxIdeal.nD Cert.NormCtxIdeal.τ).loc Cert.NormCtxIdeal.main_arg3)
          ∧ r.2.mem ((c.tc : Thread Cert.NormCtxIdeal.nD Cert.NormCtxIdeal.τ).loc Cert.NormCtxIdeal.main_arg4) = m ((c.tc : Thread Cert.NormCtxIdeal.nD Cert.NormCtxIdeal.τ).loc Cert.NormCtxIdeal.main_arg4))
      ∧ θ_run (Cert.NormCtxRefIdeal.defs (F := Ideal)) (onTc (τ := Cert.NormCtxRefIdeal.τ) (Cert.NormCtxRefIdeal.main (F := Ideal))) ⟨m', fun _ => 0, g'⟩ (fun r => ∀ c : Dev Cert.NormCtxRefIdeal.nD,
          r.2.mem ((c.tc : Thread Cert.NormCtxRefIdeal.nD Cert.NormCtxRefIdeal.τ).loc Cert.NormCtxRefIdeal.main_v47) = v0 c
          ∧ r.2.mem ((c.tc : Thread Cert.NormCtxRefIdeal.nD Cert.NormCtxRefIdeal.τ).loc Cert.NormCtxRefIdeal.main_v23) = v1 c
          ∧ r.2.mem ((c.tc : Thread Cert.NormCtxRefIdeal.nD Cert.NormCtxRefIdeal.τ).loc Cert.NormCtxRefIdeal.main_v26) = v2 c
          ∧ r.2.mem ((c.tc : Thread Cert.NormCtxRefIdeal.nD Cert.NormCtxRefIdeal.τ).loc Cert.NormCtxRefIdeal.main_v31) = v3 c
          ∧ r.2.mem ((c.tc : Thread Cert.NormCtxRefIdeal.nD Cert.NormCtxRefIdeal.τ).loc Cert.NormCtxRefIdeal.main_arg0) = m' ((c.tc : Thread Cert.NormCtxRefIdeal.nD Cert.NormCtxRefIdeal.τ).loc Cert.NormCtxRefIdeal.main_arg0)
          ∧ r.2.mem ((c.tc : Thread Cert.NormCtxRefIdeal.nD Cert.NormCtxRefIdeal.τ).loc Cert.NormCtxRefIdeal.main_arg1) = m' ((c.tc : Thread Cert.NormCtxRefIdeal.nD Cert.NormCtxRefIdeal.τ).loc Cert.NormCtxRefIdeal.main_arg1)
          ∧ r.2.mem ((c.tc : Thread Cert.NormCtxRefIdeal.nD Cert.NormCtxRefIdeal.τ).loc Cert.NormCtxRefIdeal.main_arg2) = m' ((c.tc : Thread Cert.NormCtxRefIdeal.nD Cert.NormCtxRefIdeal.τ).loc Cert.NormCtxRefIdeal.main_arg2)
          ∧ r.2.mem ((c.tc : Thread Cert.NormCtxRefIdeal.nD Cert.NormCtxRefIdeal.τ).loc Cert.NormCtxRefIdeal.main_arg3) = m' ((c.tc : Thread Cert.NormCtxRefIdeal.nD Cert.NormCtxRefIdeal.τ).loc Cert.NormCtxRefIdeal.main_arg3)
          ∧ r.2.mem ((c.tc : Thread Cert.NormCtxRefIdeal.nD Cert.NormCtxRefIdeal.τ).loc Cert.NormCtxRefIdeal.main_arg4) = m' ((c.tc : Thread Cert.NormCtxRefIdeal.nD Cert.NormCtxRefIdeal.τ).loc Cert.NormCtxRefIdeal.main_arg4))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)
      ∧ m' ((c.tc : Thread Cert.ShortConvRefIdeal.nD Cert.ShortConvRefIdeal.τ).loc Cert.ShortConvRefIdeal.main_arg3) = m ((c.tc : Thread Cert.ShortConvIdeal.nD Cert.ShortConvIdeal.τ).loc Cert.ShortConvIdeal.main_arg3)
      ∧ m' ((c.tc : Thread Cert.ShortConvRefIdeal.nD Cert.ShortConvRefIdeal.τ).loc Cert.ShortConvRefIdeal.main_arg4) = m ((c.tc : Thread Cert.ShortConvIdeal.nD Cert.ShortConvIdeal.τ).loc Cert.ShortConvIdeal.main_arg4)) →
    ∃ (v0 : (c : Dev Cert.ShortConvIdeal.nD) → Buf (Elt Ideal) ((c.tc : Thread Cert.ShortConvIdeal.nD Cert.ShortConvIdeal.τ).loc Cert.ShortConvIdeal.main_v1_0)) (v1 : (c : Dev Cert.ShortConvIdeal.nD) → Buf (Elt Ideal) ((c.tc : Thread Cert.ShortConvIdeal.nD Cert.ShortConvIdeal.τ).loc Cert.ShortConvIdeal.main_v1_1)) (v2 : (c : Dev Cert.ShortConvIdeal.nD) → Buf (Elt Ideal) ((c.tc : Thread Cert.ShortConvIdeal.nD Cert.ShortConvIdeal.τ).loc Cert.ShortConvIdeal.main_v1_2)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v1_0) = v0 c
          ∧ r.2.mem ((c.tc : Thread Cert.ShortConvIdeal.nD Cert.ShortConvIdeal.τ).loc Cert.ShortConvIdeal.main_v1_1) = v1 c
          ∧ r.2.mem ((c.tc : Thread Cert.ShortConvIdeal.nD Cert.ShortConvIdeal.τ).loc Cert.ShortConvIdeal.main_v1_2) = v2 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
          ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
          ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v37) = v0 c
          ∧ r.2.mem ((c.tc : Thread Cert.ShortConvRefIdeal.nD Cert.ShortConvRefIdeal.τ).loc Cert.ShortConvRefIdeal.main_v78) = v1 c
          ∧ r.2.mem ((c.tc : Thread Cert.ShortConvRefIdeal.nD Cert.ShortConvRefIdeal.τ).loc Cert.ShortConvRefIdeal.main_v69) = v2 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2)
          ∧ r.2.mem ((c.tc : Thread Cert.ShortConvRefIdeal.nD Cert.ShortConvRefIdeal.τ).loc Cert.ShortConvRefIdeal.main_arg3) = m' ((c.tc : Thread Cert.ShortConvRefIdeal.nD Cert.ShortConvRefIdeal.τ).loc Cert.ShortConvRefIdeal.main_arg3)
          ∧ r.2.mem ((c.tc : Thread Cert.ShortConvRefIdeal.nD Cert.ShortConvRefIdeal.τ).loc Cert.ShortConvRefIdeal.main_arg4) = m' ((c.tc : Thread Cert.ShortConvRefIdeal.nD Cert.ShortConvRefIdeal.τ).loc Cert.ShortConvRefIdeal.main_arg4))

def preserves_Attention_AttentionIdeal : Prop :=
  IdealRules.named_const.Statement Cert.AttentionIdeal.κ "log2e" .f32 0x3FB8AA3B#32 (((Real.log 2)⁻¹ : ℝ) : EReal)
  ∧ IdealRules.named_const.Statement Cert.AttentionIdeal.κ "ln2" .f32 0x3F317218#32 ((Real.log 2 : ℝ) : EReal)

def algebraic_AttentionIdeal_AttentionRefIdeal_pre_att_finite [hAttentionIdeal : Cert.AttentionIdeal.Facts] [hAttentionRefIdeal : Cert.AttentionRefIdeal.Facts] [hPre_att_finite : Cert.Pre_att_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_att_finite m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)
      ∧ m' ((c.tc : Thread Cert.AttentionRefIdeal.nD Cert.AttentionRefIdeal.τ).loc Cert.AttentionRefIdeal.main_arg5) = m ((c.tc : Thread Cert.AttentionIdeal.nD Cert.AttentionIdeal.τ).loc Cert.AttentionIdeal.main_arg5)) →
    ∃ (v0 : (c : Dev Cert.AttentionIdeal.nD) → Buf (Elt Ideal) ((c.tc : Thread Cert.AttentionIdeal.nD Cert.AttentionIdeal.τ).loc Cert.AttentionIdeal.main_v24_0)) (v1 : (c : Dev Cert.AttentionIdeal.nD) → Buf (Elt Ideal) ((c.tc : Thread Cert.AttentionIdeal.nD Cert.AttentionIdeal.τ).loc Cert.AttentionIdeal.main_v24_1)) (v2 : (c : Dev Cert.AttentionIdeal.nD) → Buf (Elt Ideal) ((c.tc : Thread Cert.AttentionIdeal.nD Cert.AttentionIdeal.τ).loc Cert.AttentionIdeal.main_v24_2)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v24_0) = v0 c
          ∧ r.2.mem ((c.tc : Thread Cert.AttentionIdeal.nD Cert.AttentionIdeal.τ).loc Cert.AttentionIdeal.main_v24_1) = v1 c
          ∧ r.2.mem ((c.tc : Thread Cert.AttentionIdeal.nD Cert.AttentionIdeal.τ).loc Cert.AttentionIdeal.main_v24_2) = v2 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v58) = v0 c
          ∧ r.2.mem ((c.tc : Thread Cert.AttentionRefIdeal.nD Cert.AttentionRefIdeal.τ).loc Cert.AttentionRefIdeal.main_v56) = v1 c
          ∧ r.2.mem ((c.tc : Thread Cert.AttentionRefIdeal.nD Cert.AttentionRefIdeal.τ).loc Cert.AttentionRefIdeal.main_v40) = v2 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4)
          ∧ r.2.mem ((c.tc : Thread Cert.AttentionRefIdeal.nD Cert.AttentionRefIdeal.τ).loc Cert.AttentionRefIdeal.main_arg5) = m' ((c.tc : Thread Cert.AttentionRefIdeal.nD Cert.AttentionRefIdeal.τ).loc Cert.AttentionRefIdeal.main_arg5))

def preserves_Glu_GluIdeal : Prop :=
  True

def algebraic_GluIdeal_GluRefIdeal_pre_glu_finite [hGluIdeal : Cert.GluIdeal.Facts] [hGluRefIdeal : Cert.GluRefIdeal.Facts] [hPre_glu_finite : Cert.Pre_glu_finite.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal_glu_finite m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v29_0)) (v1 : (c : Dev Cert.GluIdeal.nD) → Buf (Elt Ideal) ((c.tc : Thread Cert.GluIdeal.nD Cert.GluIdeal.τ).loc Cert.GluIdeal.main_v29_1)) (v2 : (c : Dev Cert.GluIdeal.nD) → Buf (Elt Ideal) ((c.tc : Thread Cert.GluIdeal.nD Cert.GluIdeal.τ).loc Cert.GluIdeal.main_v29_2)) (v3 : (c : Dev Cert.GluIdeal.nD) → Buf (Elt Ideal) ((c.tc : Thread Cert.GluIdeal.nD Cert.GluIdeal.τ).loc Cert.GluIdeal.main_v29_3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v29_0) = v0 c
          ∧ r.2.mem ((c.tc : Thread Cert.GluIdeal.nD Cert.GluIdeal.τ).loc Cert.GluIdeal.main_v29_1) = v1 c
          ∧ r.2.mem ((c.tc : Thread Cert.GluIdeal.nD Cert.GluIdeal.τ).loc Cert.GluIdeal.main_v29_2) = v2 c
          ∧ r.2.mem ((c.tc : Thread Cert.GluIdeal.nD Cert.GluIdeal.τ).loc Cert.GluIdeal.main_v29_3) = v3 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v75) = v0 c
          ∧ r.2.mem ((c.tc : Thread Cert.GluRefIdeal.nD Cert.GluRefIdeal.τ).loc Cert.GluRefIdeal.main_v76) = v1 c
          ∧ r.2.mem ((c.tc : Thread Cert.GluRefIdeal.nD Cert.GluRefIdeal.τ).loc Cert.GluRefIdeal.main_v69) = v2 c
          ∧ r.2.mem ((c.tc : Thread Cert.GluRefIdeal.nD Cert.GluRefIdeal.τ).loc Cert.GluRefIdeal.main_v40) = v3 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_QkvCtx_QkvCtxIdeal : Prop :=
  True

def algebraic_QkvCtxIdeal_QkvCtxRefIdeal_pre_qkvc_finite [hQkvCtxIdeal : Cert.QkvCtxIdeal.Facts] [hQkvCtxRefIdeal : Cert.QkvCtxRefIdeal.Facts] [hPre_qkvc_finite : Cert.Pre_qkvc_finite.Facts] : Prop :=
  ∀ (m : (ℓ : Loc Cert.QkvCtxIdeal.nD Cert.QkvCtxIdeal.τ Cert.QkvCtxIdeal.sig) → Buf (Elt Ideal) ℓ) (g : Dev Cert.QkvCtxIdeal.nD → PrngReg)
    (m' : (ℓ : Loc Cert.QkvCtxRefIdeal.nD Cert.QkvCtxRefIdeal.τ Cert.QkvCtxRefIdeal.sig) → Buf (Elt Ideal) ℓ) (g' : Dev Cert.QkvCtxRefIdeal.nD → PrngReg), Pre_QkvCtxIdeal_qkvc_finite m →
    (∀ c : Dev Cert.QkvCtxIdeal.nD,
      m' ((c.tc : Thread Cert.QkvCtxRefIdeal.nD Cert.QkvCtxRefIdeal.τ).loc Cert.QkvCtxRefIdeal.main_arg0) = m ((c.tc : Thread Cert.QkvCtxIdeal.nD Cert.QkvCtxIdeal.τ).loc Cert.QkvCtxIdeal.main_arg0)
      ∧ m' ((c.tc : Thread Cert.QkvCtxRefIdeal.nD Cert.QkvCtxRefIdeal.τ).loc Cert.QkvCtxRefIdeal.main_arg1) = m ((c.tc : Thread Cert.QkvCtxIdeal.nD Cert.QkvCtxIdeal.τ).loc Cert.QkvCtxIdeal.main_arg1)
      ∧ m' ((c.tc : Thread Cert.QkvCtxRefIdeal.nD Cert.QkvCtxRefIdeal.τ).loc Cert.QkvCtxRefIdeal.main_arg2) = m ((c.tc : Thread Cert.QkvCtxIdeal.nD Cert.QkvCtxIdeal.τ).loc Cert.QkvCtxIdeal.main_arg2)
      ∧ m' ((c.tc : Thread Cert.QkvCtxRefIdeal.nD Cert.QkvCtxRefIdeal.τ).loc Cert.QkvCtxRefIdeal.main_arg3) = m ((c.tc : Thread Cert.QkvCtxIdeal.nD Cert.QkvCtxIdeal.τ).loc Cert.QkvCtxIdeal.main_arg3)
      ∧ m' ((c.tc : Thread Cert.QkvCtxRefIdeal.nD Cert.QkvCtxRefIdeal.τ).loc Cert.QkvCtxRefIdeal.main_arg4) = m ((c.tc : Thread Cert.QkvCtxIdeal.nD Cert.QkvCtxIdeal.τ).loc Cert.QkvCtxIdeal.main_arg4)) →
    ∃ (v0 : (c : Dev Cert.QkvCtxIdeal.nD) → Buf (Elt Ideal) ((c.tc : Thread Cert.QkvCtxIdeal.nD Cert.QkvCtxIdeal.τ).loc Cert.QkvCtxIdeal.main_v0_0)) (v1 : (c : Dev Cert.QkvCtxIdeal.nD) → Buf (Elt Ideal) ((c.tc : Thread Cert.QkvCtxIdeal.nD Cert.QkvCtxIdeal.τ).loc Cert.QkvCtxIdeal.main_v0_1)) (v2 : (c : Dev Cert.QkvCtxIdeal.nD) → Buf (Elt Ideal) ((c.tc : Thread Cert.QkvCtxIdeal.nD Cert.QkvCtxIdeal.τ).loc Cert.QkvCtxIdeal.main_v0_2)),
      θ_run (Cert.QkvCtxIdeal.defs (F := Ideal)) (onTc (τ := Cert.QkvCtxIdeal.τ) (Cert.QkvCtxIdeal.main (F := Ideal))) ⟨m, fun _ => 0, g⟩ (fun r => ∀ c : Dev Cert.QkvCtxIdeal.nD,
          r.2.mem ((c.tc : Thread Cert.QkvCtxIdeal.nD Cert.QkvCtxIdeal.τ).loc Cert.QkvCtxIdeal.main_v0_0) = v0 c
          ∧ r.2.mem ((c.tc : Thread Cert.QkvCtxIdeal.nD Cert.QkvCtxIdeal.τ).loc Cert.QkvCtxIdeal.main_v0_1) = v1 c
          ∧ r.2.mem ((c.tc : Thread Cert.QkvCtxIdeal.nD Cert.QkvCtxIdeal.τ).loc Cert.QkvCtxIdeal.main_v0_2) = v2 c
          ∧ r.2.mem ((c.tc : Thread Cert.QkvCtxIdeal.nD Cert.QkvCtxIdeal.τ).loc Cert.QkvCtxIdeal.main_arg0) = m ((c.tc : Thread Cert.QkvCtxIdeal.nD Cert.QkvCtxIdeal.τ).loc Cert.QkvCtxIdeal.main_arg0)
          ∧ r.2.mem ((c.tc : Thread Cert.QkvCtxIdeal.nD Cert.QkvCtxIdeal.τ).loc Cert.QkvCtxIdeal.main_arg1) = m ((c.tc : Thread Cert.QkvCtxIdeal.nD Cert.QkvCtxIdeal.τ).loc Cert.QkvCtxIdeal.main_arg1)
          ∧ r.2.mem ((c.tc : Thread Cert.QkvCtxIdeal.nD Cert.QkvCtxIdeal.τ).loc Cert.QkvCtxIdeal.main_arg2) = m ((c.tc : Thread Cert.QkvCtxIdeal.nD Cert.QkvCtxIdeal.τ).loc Cert.QkvCtxIdeal.main_arg2)
          ∧ r.2.mem ((c.tc : Thread Cert.QkvCtxIdeal.nD Cert.QkvCtxIdeal.τ).loc Cert.QkvCtxIdeal.main_arg3) = m ((c.tc : Thread Cert.QkvCtxIdeal.nD Cert.QkvCtxIdeal.τ).loc Cert.QkvCtxIdeal.main_arg3)
          ∧ r.2.mem ((c.tc : Thread Cert.QkvCtxIdeal.nD Cert.QkvCtxIdeal.τ).loc Cert.QkvCtxIdeal.main_arg4) = m ((c.tc : Thread Cert.QkvCtxIdeal.nD Cert.QkvCtxIdeal.τ).loc Cert.QkvCtxIdeal.main_arg4))
      ∧ θ_run (Cert.QkvCtxRefIdeal.defs (F := Ideal)) (onTc (τ := Cert.QkvCtxRefIdeal.τ) (Cert.QkvCtxRefIdeal.main (F := Ideal))) ⟨m', fun _ => 0, g'⟩ (fun r => ∀ c : Dev Cert.QkvCtxRefIdeal.nD,
          r.2.mem ((c.tc : Thread Cert.QkvCtxRefIdeal.nD Cert.QkvCtxRefIdeal.τ).loc Cert.QkvCtxRefIdeal.main_v53) = v0 c
          ∧ r.2.mem ((c.tc : Thread Cert.QkvCtxRefIdeal.nD Cert.QkvCtxRefIdeal.τ).loc Cert.QkvCtxRefIdeal.main_v50) = v1 c
          ∧ r.2.mem ((c.tc : Thread Cert.QkvCtxRefIdeal.nD Cert.QkvCtxRefIdeal.τ).loc Cert.QkvCtxRefIdeal.main_v33) = v2 c
          ∧ r.2.mem ((c.tc : Thread Cert.QkvCtxRefIdeal.nD Cert.QkvCtxRefIdeal.τ).loc Cert.QkvCtxRefIdeal.main_arg0) = m' ((c.tc : Thread Cert.QkvCtxRefIdeal.nD Cert.QkvCtxRefIdeal.τ).loc Cert.QkvCtxRefIdeal.main_arg0)
          ∧ r.2.mem ((c.tc : Thread Cert.QkvCtxRefIdeal.nD Cert.QkvCtxRefIdeal.τ).loc Cert.QkvCtxRefIdeal.main_arg1) = m' ((c.tc : Thread Cert.QkvCtxRefIdeal.nD Cert.QkvCtxRefIdeal.τ).loc Cert.QkvCtxRefIdeal.main_arg1)
          ∧ r.2.mem ((c.tc : Thread Cert.QkvCtxRefIdeal.nD Cert.QkvCtxRefIdeal.τ).loc Cert.QkvCtxRefIdeal.main_arg2) = m' ((c.tc : Thread Cert.QkvCtxRefIdeal.nD Cert.QkvCtxRefIdeal.τ).loc Cert.QkvCtxRefIdeal.main_arg2)
          ∧ r.2.mem ((c.tc : Thread Cert.QkvCtxRefIdeal.nD Cert.QkvCtxRefIdeal.τ).loc Cert.QkvCtxRefIdeal.main_arg3) = m' ((c.tc : Thread Cert.QkvCtxRefIdeal.nD Cert.QkvCtxRefIdeal.τ).loc Cert.QkvCtxRefIdeal.main_arg3)
          ∧ r.2.mem ((c.tc : Thread Cert.QkvCtxRefIdeal.nD Cert.QkvCtxRefIdeal.τ).loc Cert.QkvCtxRefIdeal.main_arg4) = m' ((c.tc : Thread Cert.QkvCtxRefIdeal.nD Cert.QkvCtxRefIdeal.τ).loc Cert.QkvCtxRefIdeal.main_arg4))

def preserves_FfnUpLast_FfnUpLastIdeal : Prop :=
  True

def algebraic_FfnUpLastIdeal_FfnUpLastRefIdeal_pre_up1_finite [hFfnUpLastIdeal : Cert.FfnUpLastIdeal.Facts] [hFfnUpLastRefIdeal : Cert.FfnUpLastRefIdeal.Facts] [hPre_up1_finite : Cert.Pre_up1_finite.Facts] : Prop :=
  ∀ (m : (ℓ : Loc Cert.FfnUpLastIdeal.nD Cert.FfnUpLastIdeal.τ Cert.FfnUpLastIdeal.sig) → Buf (Elt Ideal) ℓ) (g : Dev Cert.FfnUpLastIdeal.nD → PrngReg)
    (m' : (ℓ : Loc Cert.FfnUpLastRefIdeal.nD Cert.FfnUpLastRefIdeal.τ Cert.FfnUpLastRefIdeal.sig) → Buf (Elt Ideal) ℓ) (g' : Dev Cert.FfnUpLastRefIdeal.nD → PrngReg), Pre_FfnUpLastIdeal_up1_finite m →
    (∀ c : Dev Cert.FfnUpLastIdeal.nD,
      m' ((c.tc : Thread Cert.FfnUpLastRefIdeal.nD Cert.FfnUpLastRefIdeal.τ).loc Cert.FfnUpLastRefIdeal.main_arg0) = m ((c.tc : Thread Cert.FfnUpLastIdeal.nD Cert.FfnUpLastIdeal.τ).loc Cert.FfnUpLastIdeal.main_arg0)
      ∧ m' ((c.tc : Thread Cert.FfnUpLastRefIdeal.nD Cert.FfnUpLastRefIdeal.τ).loc Cert.FfnUpLastRefIdeal.main_arg1) = m ((c.tc : Thread Cert.FfnUpLastIdeal.nD Cert.FfnUpLastIdeal.τ).loc Cert.FfnUpLastIdeal.main_arg1)
      ∧ m' ((c.tc : Thread Cert.FfnUpLastRefIdeal.nD Cert.FfnUpLastRefIdeal.τ).loc Cert.FfnUpLastRefIdeal.main_arg2) = m ((c.tc : Thread Cert.FfnUpLastIdeal.nD Cert.FfnUpLastIdeal.τ).loc Cert.FfnUpLastIdeal.main_arg2)
      ∧ m' ((c.tc : Thread Cert.FfnUpLastRefIdeal.nD Cert.FfnUpLastRefIdeal.τ).loc Cert.FfnUpLastRefIdeal.main_arg3) = m ((c.tc : Thread Cert.FfnUpLastIdeal.nD Cert.FfnUpLastIdeal.τ).loc Cert.FfnUpLastIdeal.main_arg3)
      ∧ m' ((c.tc : Thread Cert.FfnUpLastRefIdeal.nD Cert.FfnUpLastRefIdeal.τ).loc Cert.FfnUpLastRefIdeal.main_arg4) = m ((c.tc : Thread Cert.FfnUpLastIdeal.nD Cert.FfnUpLastIdeal.τ).loc Cert.FfnUpLastIdeal.main_arg4)
      ∧ m' ((c.tc : Thread Cert.FfnUpLastRefIdeal.nD Cert.FfnUpLastRefIdeal.τ).loc Cert.FfnUpLastRefIdeal.main_arg5) = m ((c.tc : Thread Cert.FfnUpLastIdeal.nD Cert.FfnUpLastIdeal.τ).loc Cert.FfnUpLastIdeal.main_arg5)
      ∧ m' ((c.tc : Thread Cert.FfnUpLastRefIdeal.nD Cert.FfnUpLastRefIdeal.τ).loc Cert.FfnUpLastRefIdeal.main_arg6) = m ((c.tc : Thread Cert.FfnUpLastIdeal.nD Cert.FfnUpLastIdeal.τ).loc Cert.FfnUpLastIdeal.main_arg6)
      ∧ m' ((c.tc : Thread Cert.FfnUpLastRefIdeal.nD Cert.FfnUpLastRefIdeal.τ).loc Cert.FfnUpLastRefIdeal.main_arg7) = m ((c.tc : Thread Cert.FfnUpLastIdeal.nD Cert.FfnUpLastIdeal.τ).loc Cert.FfnUpLastIdeal.main_arg7)) →
    ∃ (v0 : (c : Dev Cert.FfnUpLastIdeal.nD) → Buf (Elt Ideal) ((c.tc : Thread Cert.FfnUpLastIdeal.nD Cert.FfnUpLastIdeal.τ).loc Cert.FfnUpLastIdeal.main_v2_0)) (v1 : (c : Dev Cert.FfnUpLastIdeal.nD) → Buf (Elt Ideal) ((c.tc : Thread Cert.FfnUpLastIdeal.nD Cert.FfnUpLastIdeal.τ).loc Cert.FfnUpLastIdeal.main_v2_1)) (v2 : (c : Dev Cert.FfnUpLastIdeal.nD) → Buf (Elt Ideal) ((c.tc : Thread Cert.FfnUpLastIdeal.nD Cert.FfnUpLastIdeal.τ).loc Cert.FfnUpLastIdeal.main_v2_2)) (v3 : (c : Dev Cert.FfnUpLastIdeal.nD) → Buf (Elt Ideal) ((c.tc : Thread Cert.FfnUpLastIdeal.nD Cert.FfnUpLastIdeal.τ).loc Cert.FfnUpLastIdeal.main_v2_3)),
      θ_run (Cert.FfnUpLastIdeal.defs (F := Ideal)) (onTc (τ := Cert.FfnUpLastIdeal.τ) (Cert.FfnUpLastIdeal.main (F := Ideal))) ⟨m, fun _ => 0, g⟩ (fun r => ∀ c : Dev Cert.FfnUpLastIdeal.nD,
          r.2.mem ((c.tc : Thread Cert.FfnUpLastIdeal.nD Cert.FfnUpLastIdeal.τ).loc Cert.FfnUpLastIdeal.main_v2_0) = v0 c
          ∧ r.2.mem ((c.tc : Thread Cert.FfnUpLastIdeal.nD Cert.FfnUpLastIdeal.τ).loc Cert.FfnUpLastIdeal.main_v2_1) = v1 c
          ∧ r.2.mem ((c.tc : Thread Cert.FfnUpLastIdeal.nD Cert.FfnUpLastIdeal.τ).loc Cert.FfnUpLastIdeal.main_v2_2) = v2 c
          ∧ r.2.mem ((c.tc : Thread Cert.FfnUpLastIdeal.nD Cert.FfnUpLastIdeal.τ).loc Cert.FfnUpLastIdeal.main_v2_3) = v3 c
          ∧ r.2.mem ((c.tc : Thread Cert.FfnUpLastIdeal.nD Cert.FfnUpLastIdeal.τ).loc Cert.FfnUpLastIdeal.main_arg0) = m ((c.tc : Thread Cert.FfnUpLastIdeal.nD Cert.FfnUpLastIdeal.τ).loc Cert.FfnUpLastIdeal.main_arg0)
          ∧ r.2.mem ((c.tc : Thread Cert.FfnUpLastIdeal.nD Cert.FfnUpLastIdeal.τ).loc Cert.FfnUpLastIdeal.main_arg1) = m ((c.tc : Thread Cert.FfnUpLastIdeal.nD Cert.FfnUpLastIdeal.τ).loc Cert.FfnUpLastIdeal.main_arg1)
          ∧ r.2.mem ((c.tc : Thread Cert.FfnUpLastIdeal.nD Cert.FfnUpLastIdeal.τ).loc Cert.FfnUpLastIdeal.main_arg2) = m ((c.tc : Thread Cert.FfnUpLastIdeal.nD Cert.FfnUpLastIdeal.τ).loc Cert.FfnUpLastIdeal.main_arg2)
          ∧ r.2.mem ((c.tc : Thread Cert.FfnUpLastIdeal.nD Cert.FfnUpLastIdeal.τ).loc Cert.FfnUpLastIdeal.main_arg3) = m ((c.tc : Thread Cert.FfnUpLastIdeal.nD Cert.FfnUpLastIdeal.τ).loc Cert.FfnUpLastIdeal.main_arg3)
          ∧ r.2.mem ((c.tc : Thread Cert.FfnUpLastIdeal.nD Cert.FfnUpLastIdeal.τ).loc Cert.FfnUpLastIdeal.main_arg4) = m ((c.tc : Thread Cert.FfnUpLastIdeal.nD Cert.FfnUpLastIdeal.τ).loc Cert.FfnUpLastIdeal.main_arg4)
          ∧ r.2.mem ((c.tc : Thread Cert.FfnUpLastIdeal.nD Cert.FfnUpLastIdeal.τ).loc Cert.FfnUpLastIdeal.main_arg5) = m ((c.tc : Thread Cert.FfnUpLastIdeal.nD Cert.FfnUpLastIdeal.τ).loc Cert.FfnUpLastIdeal.main_arg5)
          ∧ r.2.mem ((c.tc : Thread Cert.FfnUpLastIdeal.nD Cert.FfnUpLastIdeal.τ).loc Cert.FfnUpLastIdeal.main_arg6) = m ((c.tc : Thread Cert.FfnUpLastIdeal.nD Cert.FfnUpLastIdeal.τ).loc Cert.FfnUpLastIdeal.main_arg6)
          ∧ r.2.mem ((c.tc : Thread Cert.FfnUpLastIdeal.nD Cert.FfnUpLastIdeal.τ).loc Cert.FfnUpLastIdeal.main_arg7) = m ((c.tc : Thread Cert.FfnUpLastIdeal.nD Cert.FfnUpLastIdeal.τ).loc Cert.FfnUpLastIdeal.main_arg7))
      ∧ θ_run (Cert.FfnUpLastRefIdeal.defs (F := Ideal)) (onTc (τ := Cert.FfnUpLastRefIdeal.τ) (Cert.FfnUpLastRefIdeal.main (F := Ideal))) ⟨m', fun _ => 0, g'⟩ (fun r => ∀ c : Dev Cert.FfnUpLastRefIdeal.nD,
          r.2.mem ((c.tc : Thread Cert.FfnUpLastRefIdeal.nD Cert.FfnUpLastRefIdeal.τ).loc Cert.FfnUpLastRefIdeal.main_v52) = v0 c
          ∧ r.2.mem ((c.tc : Thread Cert.FfnUpLastRefIdeal.nD Cert.FfnUpLastRefIdeal.τ).loc Cert.FfnUpLastRefIdeal.main_v27) = v1 c
          ∧ r.2.mem ((c.tc : Thread Cert.FfnUpLastRefIdeal.nD Cert.FfnUpLastRefIdeal.τ).loc Cert.FfnUpLastRefIdeal.main_v30) = v2 c
          ∧ r.2.mem ((c.tc : Thread Cert.FfnUpLastRefIdeal.nD Cert.FfnUpLastRefIdeal.τ).loc Cert.FfnUpLastRefIdeal.main_v35) = v3 c
          ∧ r.2.mem ((c.tc : Thread Cert.FfnUpLastRefIdeal.nD Cert.FfnUpLastRefIdeal.τ).loc Cert.FfnUpLastRefIdeal.main_arg0) = m' ((c.tc : Thread Cert.FfnUpLastRefIdeal.nD Cert.FfnUpLastRefIdeal.τ).loc Cert.FfnUpLastRefIdeal.main_arg0)
          ∧ r.2.mem ((c.tc : Thread Cert.FfnUpLastRefIdeal.nD Cert.FfnUpLastRefIdeal.τ).loc Cert.FfnUpLastRefIdeal.main_arg1) = m' ((c.tc : Thread Cert.FfnUpLastRefIdeal.nD Cert.FfnUpLastRefIdeal.τ).loc Cert.FfnUpLastRefIdeal.main_arg1)
          ∧ r.2.mem ((c.tc : Thread Cert.FfnUpLastRefIdeal.nD Cert.FfnUpLastRefIdeal.τ).loc Cert.FfnUpLastRefIdeal.main_arg2) = m' ((c.tc : Thread Cert.FfnUpLastRefIdeal.nD Cert.FfnUpLastRefIdeal.τ).loc Cert.FfnUpLastRefIdeal.main_arg2)
          ∧ r.2.mem ((c.tc : Thread Cert.FfnUpLastRefIdeal.nD Cert.FfnUpLastRefIdeal.τ).loc Cert.FfnUpLastRefIdeal.main_arg3) = m' ((c.tc : Thread Cert.FfnUpLastRefIdeal.nD Cert.FfnUpLastRefIdeal.τ).loc Cert.FfnUpLastRefIdeal.main_arg3)
          ∧ r.2.mem ((c.tc : Thread Cert.FfnUpLastRefIdeal.nD Cert.FfnUpLastRefIdeal.τ).loc Cert.FfnUpLastRefIdeal.main_arg4) = m' ((c.tc : Thread Cert.FfnUpLastRefIdeal.nD Cert.FfnUpLastRefIdeal.τ).loc Cert.FfnUpLastRefIdeal.main_arg4)
          ∧ r.2.mem ((c.tc : Thread Cert.FfnUpLastRefIdeal.nD Cert.FfnUpLastRefIdeal.τ).loc Cert.FfnUpLastRefIdeal.main_arg5) = m' ((c.tc : Thread Cert.FfnUpLastRefIdeal.nD Cert.FfnUpLastRefIdeal.τ).loc Cert.FfnUpLastRefIdeal.main_arg5)
          ∧ r.2.mem ((c.tc : Thread Cert.FfnUpLastRefIdeal.nD Cert.FfnUpLastRefIdeal.τ).loc Cert.FfnUpLastRefIdeal.main_arg6) = m' ((c.tc : Thread Cert.FfnUpLastRefIdeal.nD Cert.FfnUpLastRefIdeal.τ).loc Cert.FfnUpLastRefIdeal.main_arg6)
          ∧ r.2.mem ((c.tc : Thread Cert.FfnUpLastRefIdeal.nD Cert.FfnUpLastRefIdeal.τ).loc Cert.FfnUpLastRefIdeal.main_arg7) = m' ((c.tc : Thread Cert.FfnUpLastRefIdeal.nD Cert.FfnUpLastRefIdeal.τ).loc Cert.FfnUpLastRefIdeal.main_arg7))

def preserves_InProj_InProjIdeal : Prop :=
  True

def algebraic_InProjIdeal_InProjRefIdeal_pre_in_finite [hInProjIdeal : Cert.InProjIdeal.Facts] [hInProjRefIdeal : Cert.InProjRefIdeal.Facts] [hPre_in_finite : Cert.Pre_in_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_in_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)) (v3 : (c : Dev Cert.InProjIdeal.nD) → Buf (Elt Ideal) ((c.tc : Thread Cert.InProjIdeal.nD Cert.InProjIdeal.τ).loc Cert.InProjIdeal.main_v2_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_v2_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v52) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_v30) = v2 c
          ∧ r.2.mem ((c.tc : Thread Cert.InProjRefIdeal.nD Cert.InProjRefIdeal.τ).loc Cert.InProjRefIdeal.main_v35) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def preserves_FfnUp_FfnUpIdeal : Prop :=
  True

def algebraic_FfnUpIdeal_FfnUpRefIdeal_pre_up_finite [hFfnUpIdeal : Cert.FfnUpIdeal.Facts] [hFfnUpRefIdeal : Cert.FfnUpRefIdeal.Facts] [hPre_up_finite : Cert.Pre_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_up_finite m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)
      ∧ m' ((c.tc : Thread Cert.FfnUpRefIdeal.nD Cert.FfnUpRefIdeal.τ).loc Cert.FfnUpRefIdeal.main_arg6) = m ((c.tc : Thread Cert.FfnUpIdeal.nD Cert.FfnUpIdeal.τ).loc Cert.FfnUpIdeal.main_arg6)
      ∧ m' ((c.tc : Thread Cert.FfnUpRefIdeal.nD Cert.FfnUpRefIdeal.τ).loc Cert.FfnUpRefIdeal.main_arg7) = m ((c.tc : Thread Cert.FfnUpIdeal.nD Cert.FfnUpIdeal.τ).loc Cert.FfnUpIdeal.main_arg7)
      ∧ m' ((c.tc : Thread Cert.FfnUpRefIdeal.nD Cert.FfnUpRefIdeal.τ).loc Cert.FfnUpRefIdeal.main_arg8) = m ((c.tc : Thread Cert.FfnUpIdeal.nD Cert.FfnUpIdeal.τ).loc Cert.FfnUpIdeal.main_arg8)
      ∧ m' ((c.tc : Thread Cert.FfnUpRefIdeal.nD Cert.FfnUpRefIdeal.τ).loc Cert.FfnUpRefIdeal.main_arg9) = m ((c.tc : Thread Cert.FfnUpIdeal.nD Cert.FfnUpIdeal.τ).loc Cert.FfnUpIdeal.main_arg9)) →
    ∃ (v0 : (c : Dev Cert.FfnUpIdeal.nD) → Buf (Elt Ideal) ((c.tc : Thread Cert.FfnUpIdeal.nD Cert.FfnUpIdeal.τ).loc Cert.FfnUpIdeal.main_v5_0)) (v1 : (c : Dev Cert.FfnUpIdeal.nD) → Buf (Elt Ideal) ((c.tc : Thread Cert.FfnUpIdeal.nD Cert.FfnUpIdeal.τ).loc Cert.FfnUpIdeal.main_v5_1)) (v2 : (c : Dev Cert.FfnUpIdeal.nD) → Buf (Elt Ideal) ((c.tc : Thread Cert.FfnUpIdeal.nD Cert.FfnUpIdeal.τ).loc Cert.FfnUpIdeal.main_v5_2)) (v3 : (c : Dev Cert.FfnUpIdeal.nD) → Buf (Elt Ideal) ((c.tc : Thread Cert.FfnUpIdeal.nD Cert.FfnUpIdeal.τ).loc Cert.FfnUpIdeal.main_v5_3)) (v4 : (c : Dev Cert.FfnUpIdeal.nD) → Buf (Elt Ideal) ((c.tc : Thread Cert.FfnUpIdeal.nD Cert.FfnUpIdeal.τ).loc Cert.FfnUpIdeal.main_v5_4)) (v5 : (c : Dev Cert.FfnUpIdeal.nD) → Buf (Elt Ideal) ((c.tc : Thread Cert.FfnUpIdeal.nD Cert.FfnUpIdeal.τ).loc Cert.FfnUpIdeal.main_v5_5)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5_0) = v0 c
          ∧ r.2.mem ((c.tc : Thread Cert.FfnUpIdeal.nD Cert.FfnUpIdeal.τ).loc Cert.FfnUpIdeal.main_v5_1) = v1 c
          ∧ r.2.mem ((c.tc : Thread Cert.FfnUpIdeal.nD Cert.FfnUpIdeal.τ).loc Cert.FfnUpIdeal.main_v5_2) = v2 c
          ∧ r.2.mem ((c.tc : Thread Cert.FfnUpIdeal.nD Cert.FfnUpIdeal.τ).loc Cert.FfnUpIdeal.main_v5_3) = v3 c
          ∧ r.2.mem ((c.tc : Thread Cert.FfnUpIdeal.nD Cert.FfnUpIdeal.τ).loc Cert.FfnUpIdeal.main_v5_4) = v4 c
          ∧ r.2.mem ((c.tc : Thread Cert.FfnUpIdeal.nD Cert.FfnUpIdeal.τ).loc Cert.FfnUpIdeal.main_v5_5) = v5 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
          ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
          ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
          ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8)
          ∧ r.2.mem ((c.tc : Thread Cert.FfnUpIdeal.nD Cert.FfnUpIdeal.τ).loc Cert.FfnUpIdeal.main_arg9) = m ((c.tc : Thread Cert.FfnUpIdeal.nD Cert.FfnUpIdeal.τ).loc Cert.FfnUpIdeal.main_arg9))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v55) = v0 c
          ∧ r.2.mem ((c.tc : Thread Cert.FfnUpRefIdeal.nD Cert.FfnUpRefIdeal.τ).loc Cert.FfnUpRefIdeal.main_v62) = v1 c
          ∧ r.2.mem ((c.tc : Thread Cert.FfnUpRefIdeal.nD Cert.FfnUpRefIdeal.τ).loc Cert.FfnUpRefIdeal.main_v30) = v2 c
          ∧ r.2.mem ((c.tc : Thread Cert.FfnUpRefIdeal.nD Cert.FfnUpRefIdeal.τ).loc Cert.FfnUpRefIdeal.main_v33) = v3 c
          ∧ r.2.mem ((c.tc : Thread Cert.FfnUpRefIdeal.nD Cert.FfnUpRefIdeal.τ).loc Cert.FfnUpRefIdeal.main_v38) = v4 c
          ∧ r.2.mem ((c.tc : Thread Cert.FfnUpRefIdeal.nD Cert.FfnUpRefIdeal.τ).loc Cert.FfnUpRefIdeal.main_v61) = v5 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5)
          ∧ r.2.mem ((c.tc : Thread Cert.FfnUpRefIdeal.nD Cert.FfnUpRefIdeal.τ).loc Cert.FfnUpRefIdeal.main_arg6) = m' ((c.tc : Thread Cert.FfnUpRefIdeal.nD Cert.FfnUpRefIdeal.τ).loc Cert.FfnUpRefIdeal.main_arg6)
          ∧ r.2.mem ((c.tc : Thread Cert.FfnUpRefIdeal.nD Cert.FfnUpRefIdeal.τ).loc Cert.FfnUpRefIdeal.main_arg7) = m' ((c.tc : Thread Cert.FfnUpRefIdeal.nD Cert.FfnUpRefIdeal.τ).loc Cert.FfnUpRefIdeal.main_arg7)
          ∧ r.2.mem ((c.tc : Thread Cert.FfnUpRefIdeal.nD Cert.FfnUpRefIdeal.τ).loc Cert.FfnUpRefIdeal.main_arg8) = m' ((c.tc : Thread Cert.FfnUpRefIdeal.nD Cert.FfnUpRefIdeal.τ).loc Cert.FfnUpRefIdeal.main_arg8)
          ∧ r.2.mem ((c.tc : Thread Cert.FfnUpRefIdeal.nD Cert.FfnUpRefIdeal.τ).loc Cert.FfnUpRefIdeal.main_arg9) = m' ((c.tc : Thread Cert.FfnUpRefIdeal.nD Cert.FfnUpRefIdeal.τ).loc Cert.FfnUpRefIdeal.main_arg9))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v19) = v0 c
          ∧ r.2.mem ((c.tc : Thread Cert.LossRefIdeal.nD Cert.LossRefIdeal.τ).loc Cert.LossRefIdeal.main_v25) = v1 c
          ∧ r.2.mem ((c.tc : Thread Cert.LossRefIdeal.nD Cert.LossRefIdeal.τ).loc Cert.LossRefIdeal.main_v26) = v2 c
          ∧ r.2.mem ((c.tc : Thread Cert.LossRefIdeal.nD Cert.LossRefIdeal.τ).loc Cert.LossRefIdeal.main_v24) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Cond_CondIdeal : Prop :=
  True

def algebraic_CondIdeal_CondRefIdeal_pre_cond_finite [hCondIdeal : Cert.CondIdeal.Facts] [hCondRefIdeal : Cert.CondRefIdeal.Facts] [hPre_cond_finite : Cert.Pre_cond_finite.Facts] : Prop :=
  ∀ (m : (ℓ : Loc Cert.CondIdeal.nD Cert.CondIdeal.τ Cert.CondIdeal.sig) → Buf (Elt Ideal) ℓ) (g : Dev Cert.CondIdeal.nD → PrngReg)
    (m' : (ℓ : Loc Cert.CondRefIdeal.nD Cert.CondRefIdeal.τ Cert.CondRefIdeal.sig) → Buf (Elt Ideal) ℓ) (g' : Dev Cert.CondRefIdeal.nD → PrngReg), Pre_CondIdeal_cond_finite m →
    (∀ c : Dev Cert.CondIdeal.nD,
      m' ((c.tc : Thread Cert.CondRefIdeal.nD Cert.CondRefIdeal.τ).loc Cert.CondRefIdeal.main_arg0) = m ((c.tc : Thread Cert.CondIdeal.nD Cert.CondIdeal.τ).loc Cert.CondIdeal.main_arg0)
      ∧ m' ((c.tc : Thread Cert.CondRefIdeal.nD Cert.CondRefIdeal.τ).loc Cert.CondRefIdeal.main_arg1) = m ((c.tc : Thread Cert.CondIdeal.nD Cert.CondIdeal.τ).loc Cert.CondIdeal.main_arg1)
      ∧ m' ((c.tc : Thread Cert.CondRefIdeal.nD Cert.CondRefIdeal.τ).loc Cert.CondRefIdeal.main_arg2) = m ((c.tc : Thread Cert.CondIdeal.nD Cert.CondIdeal.τ).loc Cert.CondIdeal.main_arg2)
      ∧ m' ((c.tc : Thread Cert.CondRefIdeal.nD Cert.CondRefIdeal.τ).loc Cert.CondRefIdeal.main_arg3) = m ((c.tc : Thread Cert.CondIdeal.nD Cert.CondIdeal.τ).loc Cert.CondIdeal.main_arg3)) →
    ∃ (v0 : (c : Dev Cert.CondIdeal.nD) → Buf (Elt Ideal) ((c.tc : Thread Cert.CondIdeal.nD Cert.CondIdeal.τ).loc Cert.CondIdeal.main_v5_0)) (v1 : (c : Dev Cert.CondIdeal.nD) → Buf (Elt Ideal) ((c.tc : Thread Cert.CondIdeal.nD Cert.CondIdeal.τ).loc Cert.CondIdeal.main_v5_1)) (v2 : (c : Dev Cert.CondIdeal.nD) → Buf (Elt Ideal) ((c.tc : Thread Cert.CondIdeal.nD Cert.CondIdeal.τ).loc Cert.CondIdeal.main_v5_2)) (v3 : (c : Dev Cert.CondIdeal.nD) → Buf (Elt Ideal) ((c.tc : Thread Cert.CondIdeal.nD Cert.CondIdeal.τ).loc Cert.CondIdeal.main_v5_3)),
      θ_run (Cert.CondIdeal.defs (F := Ideal)) (onTc (τ := Cert.CondIdeal.τ) (Cert.CondIdeal.main (F := Ideal))) ⟨m, fun _ => 0, g⟩ (fun r => ∀ c : Dev Cert.CondIdeal.nD,
          r.2.mem ((c.tc : Thread Cert.CondIdeal.nD Cert.CondIdeal.τ).loc Cert.CondIdeal.main_v5_0) = v0 c
          ∧ r.2.mem ((c.tc : Thread Cert.CondIdeal.nD Cert.CondIdeal.τ).loc Cert.CondIdeal.main_v5_1) = v1 c
          ∧ r.2.mem ((c.tc : Thread Cert.CondIdeal.nD Cert.CondIdeal.τ).loc Cert.CondIdeal.main_v5_2) = v2 c
          ∧ r.2.mem ((c.tc : Thread Cert.CondIdeal.nD Cert.CondIdeal.τ).loc Cert.CondIdeal.main_v5_3) = v3 c
          ∧ r.2.mem ((c.tc : Thread Cert.CondIdeal.nD Cert.CondIdeal.τ).loc Cert.CondIdeal.main_arg0) = m ((c.tc : Thread Cert.CondIdeal.nD Cert.CondIdeal.τ).loc Cert.CondIdeal.main_arg0)
          ∧ r.2.mem ((c.tc : Thread Cert.CondIdeal.nD Cert.CondIdeal.τ).loc Cert.CondIdeal.main_arg1) = m ((c.tc : Thread Cert.CondIdeal.nD Cert.CondIdeal.τ).loc Cert.CondIdeal.main_arg1)
          ∧ r.2.mem ((c.tc : Thread Cert.CondIdeal.nD Cert.CondIdeal.τ).loc Cert.CondIdeal.main_arg2) = m ((c.tc : Thread Cert.CondIdeal.nD Cert.CondIdeal.τ).loc Cert.CondIdeal.main_arg2)
          ∧ r.2.mem ((c.tc : Thread Cert.CondIdeal.nD Cert.CondIdeal.τ).loc Cert.CondIdeal.main_arg3) = m ((c.tc : Thread Cert.CondIdeal.nD Cert.CondIdeal.τ).loc Cert.CondIdeal.main_arg3))
      ∧ θ_run (Cert.CondRefIdeal.defs (F := Ideal)) (onTc (τ := Cert.CondRefIdeal.τ) (Cert.CondRefIdeal.main (F := Ideal))) ⟨m', fun _ => 0, g'⟩ (fun r => ∀ c : Dev Cert.CondRefIdeal.nD,
          r.2.mem ((c.tc : Thread Cert.CondRefIdeal.nD Cert.CondRefIdeal.τ).loc Cert.CondRefIdeal.main_v27) = v0 c
          ∧ r.2.mem ((c.tc : Thread Cert.CondRefIdeal.nD Cert.CondRefIdeal.τ).loc Cert.CondRefIdeal.main_v28) = v1 c
          ∧ r.2.mem ((c.tc : Thread Cert.CondRefIdeal.nD Cert.CondRefIdeal.τ).loc Cert.CondRefIdeal.main_v29) = v2 c
          ∧ r.2.mem ((c.tc : Thread Cert.CondRefIdeal.nD Cert.CondRefIdeal.τ).loc Cert.CondRefIdeal.main_v30) = v3 c
          ∧ r.2.mem ((c.tc : Thread Cert.CondRefIdeal.nD Cert.CondRefIdeal.τ).loc Cert.CondRefIdeal.main_arg0) = m' ((c.tc : Thread Cert.CondRefIdeal.nD Cert.CondRefIdeal.τ).loc Cert.CondRefIdeal.main_arg0)
          ∧ r.2.mem ((c.tc : Thread Cert.CondRefIdeal.nD Cert.CondRefIdeal.τ).loc Cert.CondRefIdeal.main_arg1) = m' ((c.tc : Thread Cert.CondRefIdeal.nD Cert.CondRefIdeal.τ).loc Cert.CondRefIdeal.main_arg1)
          ∧ r.2.mem ((c.tc : Thread Cert.CondRefIdeal.nD Cert.CondRefIdeal.τ).loc Cert.CondRefIdeal.main_arg2) = m' ((c.tc : Thread Cert.CondRefIdeal.nD Cert.CondRefIdeal.τ).loc Cert.CondRefIdeal.main_arg2)
          ∧ r.2.mem ((c.tc : Thread Cert.CondRefIdeal.nD Cert.CondRefIdeal.τ).loc Cert.CondRefIdeal.main_arg3) = m' ((c.tc : Thread Cert.CondRefIdeal.nD Cert.CondRefIdeal.τ).loc Cert.CondRefIdeal.main_arg3))

def preserves_Pool_PoolIdeal : Prop :=
  True

def preserves_Qkv_QkvIdeal : Prop :=
  True

def preserves_AttnFwd_AttnFwdIdeal : Prop :=
  IdealRules.named_const.Statement Cert.AttnFwdIdeal.κ "log2e" .f32 0x3FB8AA3B#32 (((Real.log 2)⁻¹ : ℝ) : EReal)
  ∧ IdealRules.named_const.Statement Cert.AttnFwdIdeal.κ "ln2" .f32 0x3F317218#32 ((Real.log 2 : ℝ) : EReal)

def algebraic_AttnFwdIdeal_AttnFwdRefIdeal_pre_attf_finite [hAttnFwdIdeal : Cert.AttnFwdIdeal.Facts] [hAttnFwdRefIdeal : Cert.AttnFwdRefIdeal.Facts] [hPre_attf_finite : Cert.Pre_attf_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attf_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v6_0)) (v1 : (c : Dev Cert.AttnFwdIdeal.nD) → Buf (Elt Ideal) ((c.tc : Thread Cert.AttnFwdIdeal.nD Cert.AttnFwdIdeal.τ).loc Cert.AttnFwdIdeal.main_v6_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v6_0) = v0 c
          ∧ r.2.mem ((c.tc : Thread Cert.AttnFwdIdeal.nD Cert.AttnFwdIdeal.τ).loc Cert.AttnFwdIdeal.main_v6_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v27) = v0 c
          ∧ r.2.mem ((c.tc : Thread Cert.AttnFwdRefIdeal.nD Cert.AttnFwdRefIdeal.τ).loc Cert.AttnFwdRefIdeal.main_v28) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)
      ∧ m' ((c.tc : Thread Cert.NormFwdRefIdeal.nD Cert.NormFwdRefIdeal.τ).loc Cert.NormFwdRefIdeal.main_arg4) = m ((c.tc : Thread Cert.NormFwdIdeal.nD Cert.NormFwdIdeal.τ).loc Cert.NormFwdIdeal.main_arg4)
      ∧ m' ((c.tc : Thread Cert.NormFwdRefIdeal.nD Cert.NormFwdRefIdeal.τ).loc Cert.NormFwdRefIdeal.main_arg5) = m ((c.tc : Thread Cert.NormFwdIdeal.nD Cert.NormFwdIdeal.τ).loc Cert.NormFwdIdeal.main_arg5)
      ∧ m' ((c.tc : Thread Cert.NormFwdRefIdeal.nD Cert.NormFwdRefIdeal.τ).loc Cert.NormFwdRefIdeal.main_arg6) = m ((c.tc : Thread Cert.NormFwdIdeal.nD Cert.NormFwdIdeal.τ).loc Cert.NormFwdIdeal.main_arg6)) →
    ∃ (v0 : (c : Dev Cert.NormFwdIdeal.nD) → Buf (Elt Ideal) ((c.tc : Thread Cert.NormFwdIdeal.nD Cert.NormFwdIdeal.τ).loc Cert.NormFwdIdeal.main_v0_0)) (v1 : (c : Dev Cert.NormFwdIdeal.nD) → Buf (Elt Ideal) ((c.tc : Thread Cert.NormFwdIdeal.nD Cert.NormFwdIdeal.τ).loc Cert.NormFwdIdeal.main_v0_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0_0) = v0 c
          ∧ r.2.mem ((c.tc : Thread Cert.NormFwdIdeal.nD Cert.NormFwdIdeal.τ).loc Cert.NormFwdIdeal.main_v0_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3)
          ∧ r.2.mem ((c.tc : Thread Cert.NormFwdIdeal.nD Cert.NormFwdIdeal.τ).loc Cert.NormFwdIdeal.main_arg4) = m ((c.tc : Thread Cert.NormFwdIdeal.nD Cert.NormFwdIdeal.τ).loc Cert.NormFwdIdeal.main_arg4)
          ∧ r.2.mem ((c.tc : Thread Cert.NormFwdIdeal.nD Cert.NormFwdIdeal.τ).loc Cert.NormFwdIdeal.main_arg5) = m ((c.tc : Thread Cert.NormFwdIdeal.nD Cert.NormFwdIdeal.τ).loc Cert.NormFwdIdeal.main_arg5)
          ∧ r.2.mem ((c.tc : Thread Cert.NormFwdIdeal.nD Cert.NormFwdIdeal.τ).loc Cert.NormFwdIdeal.main_arg6) = m ((c.tc : Thread Cert.NormFwdIdeal.nD Cert.NormFwdIdeal.τ).loc Cert.NormFwdIdeal.main_arg6))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v4) = v0 c
          ∧ r.2.mem ((c.tc : Thread Cert.NormFwdRefIdeal.nD Cert.NormFwdRefIdeal.τ).loc Cert.NormFwdRefIdeal.main_v23) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3)
          ∧ r.2.mem ((c.tc : Thread Cert.NormFwdRefIdeal.nD Cert.NormFwdRefIdeal.τ).loc Cert.NormFwdRefIdeal.main_arg4) = m' ((c.tc : Thread Cert.NormFwdRefIdeal.nD Cert.NormFwdRefIdeal.τ).loc Cert.NormFwdRefIdeal.main_arg4)
          ∧ r.2.mem ((c.tc : Thread Cert.NormFwdRefIdeal.nD Cert.NormFwdRefIdeal.τ).loc Cert.NormFwdRefIdeal.main_arg5) = m' ((c.tc : Thread Cert.NormFwdRefIdeal.nD Cert.NormFwdRefIdeal.τ).loc Cert.NormFwdRefIdeal.main_arg5)
          ∧ r.2.mem ((c.tc : Thread Cert.NormFwdRefIdeal.nD Cert.NormFwdRefIdeal.τ).loc Cert.NormFwdRefIdeal.main_arg6) = m' ((c.tc : Thread Cert.NormFwdRefIdeal.nD Cert.NormFwdRefIdeal.τ).loc Cert.NormFwdRefIdeal.main_arg6))

def Claim : Prop :=
  ∃ (hNormCtx : Cert.NormCtx.Facts) (hNormCtxIdeal : Cert.NormCtxIdeal.Facts) (hNormCtxRefIdeal : Cert.NormCtxRefIdeal.Facts) (hShortConv : Cert.ShortConv.Facts) (hShortConvIdeal : Cert.ShortConvIdeal.Facts) (hShortConvRefIdeal : Cert.ShortConvRefIdeal.Facts) (hAttention : Cert.Attention.Facts) (hAttentionIdeal : Cert.AttentionIdeal.Facts) (hAttentionRefIdeal : Cert.AttentionRefIdeal.Facts) (hGlu : Cert.Glu.Facts) (hGluIdeal : Cert.GluIdeal.Facts) (hGluRefIdeal : Cert.GluRefIdeal.Facts) (hQkvCtx : Cert.QkvCtx.Facts) (hQkvCtxIdeal : Cert.QkvCtxIdeal.Facts) (hQkvCtxRefIdeal : Cert.QkvCtxRefIdeal.Facts) (hFfnUpLast : Cert.FfnUpLast.Facts) (hFfnUpLastIdeal : Cert.FfnUpLastIdeal.Facts) (hFfnUpLastRefIdeal : Cert.FfnUpLastRefIdeal.Facts) (hInProj : Cert.InProj.Facts) (hInProjIdeal : Cert.InProjIdeal.Facts) (hInProjRefIdeal : Cert.InProjRefIdeal.Facts) (hFfnUp : Cert.FfnUp.Facts) (hFfnUpIdeal : Cert.FfnUpIdeal.Facts) (hFfnUpRefIdeal : Cert.FfnUpRefIdeal.Facts) (hLoss : Cert.Loss.Facts) (hLossIdeal : Cert.LossIdeal.Facts) (hLossRefIdeal : Cert.LossRefIdeal.Facts) (hCond : Cert.Cond.Facts) (hCondIdeal : Cert.CondIdeal.Facts) (hCondRefIdeal : Cert.CondRefIdeal.Facts) (hPool : Cert.Pool.Facts) (hPoolIdeal : Cert.PoolIdeal.Facts) (hPoolRefIdeal : Cert.PoolRefIdeal.Facts) (hQkv : Cert.Qkv.Facts) (hQkvIdeal : Cert.QkvIdeal.Facts) (hQkvRefIdeal : Cert.QkvRefIdeal.Facts) (hAttnFwd : Cert.AttnFwd.Facts) (hAttnFwdIdeal : Cert.AttnFwdIdeal.Facts) (hAttnFwdRefIdeal : Cert.AttnFwdRefIdeal.Facts) (hNormFwd : Cert.NormFwd.Facts) (hNormFwdIdeal : Cert.NormFwdIdeal.Facts) (hNormFwdRefIdeal : Cert.NormFwdRefIdeal.Facts) (hPre_norm_finite : Cert.Pre_norm_finite.Facts) (hPre_att_finite : Cert.Pre_att_finite.Facts) (hPre_glu_finite : Cert.Pre_glu_finite.Facts) (hPre_qkvc_finite : Cert.Pre_qkvc_finite.Facts) (hPre_up1_finite : Cert.Pre_up1_finite.Facts) (hPre_in_finite : Cert.Pre_in_finite.Facts) (hPre_up_finite : Cert.Pre_up_finite.Facts) (hPre_cond_finite : Cert.Pre_cond_finite.Facts) (hPre_attf_finite : Cert.Pre_attf_finite.Facts),
    quiescent_NormCtx (hNormCtx := hNormCtx)
    ∧ quiescent_NormCtxIdeal (hNormCtxIdeal := hNormCtxIdeal)
    ∧ quiescent_NormCtxIdeal_pre_norm_finite (hNormCtxIdeal := hNormCtxIdeal) (hPre_norm_finite := hPre_norm_finite)
    ∧ quiescent_NormCtxRefIdeal (hNormCtxRefIdeal := hNormCtxRefIdeal)
    ∧ quiescent_NormCtxRefIdeal_pre_norm_finite (hNormCtxRefIdeal := hNormCtxRefIdeal) (hPre_norm_finite := hPre_norm_finite)
    ∧ quiescent_ShortConv (hShortConv := hShortConv)
    ∧ quiescent_ShortConvIdeal (hShortConvIdeal := hShortConvIdeal)
    ∧ quiescent_ShortConvRefIdeal (hShortConvRefIdeal := hShortConvRefIdeal)
    ∧ quiescent_Attention (hAttention := hAttention)
    ∧ quiescent_AttentionIdeal (hAttentionIdeal := hAttentionIdeal)
    ∧ quiescent_AttentionIdeal_pre_att_finite (hAttentionIdeal := hAttentionIdeal) (hPre_att_finite := hPre_att_finite)
    ∧ quiescent_AttentionRefIdeal (hAttentionRefIdeal := hAttentionRefIdeal)
    ∧ quiescent_AttentionRefIdeal_pre_att_finite (hAttentionRefIdeal := hAttentionRefIdeal) (hPre_att_finite := hPre_att_finite)
    ∧ quiescent_Glu (hGlu := hGlu)
    ∧ quiescent_GluIdeal (hGluIdeal := hGluIdeal)
    ∧ quiescent_GluIdeal_pre_glu_finite (hGluIdeal := hGluIdeal) (hPre_glu_finite := hPre_glu_finite)
    ∧ quiescent_GluRefIdeal (hGluRefIdeal := hGluRefIdeal)
    ∧ quiescent_GluRefIdeal_pre_glu_finite (hGluRefIdeal := hGluRefIdeal) (hPre_glu_finite := hPre_glu_finite)
    ∧ quiescent_QkvCtx (hQkvCtx := hQkvCtx)
    ∧ quiescent_QkvCtxIdeal (hQkvCtxIdeal := hQkvCtxIdeal)
    ∧ quiescent_QkvCtxIdeal_pre_qkvc_finite (hQkvCtxIdeal := hQkvCtxIdeal) (hPre_qkvc_finite := hPre_qkvc_finite)
    ∧ quiescent_QkvCtxRefIdeal (hQkvCtxRefIdeal := hQkvCtxRefIdeal)
    ∧ quiescent_QkvCtxRefIdeal_pre_qkvc_finite (hQkvCtxRefIdeal := hQkvCtxRefIdeal) (hPre_qkvc_finite := hPre_qkvc_finite)
    ∧ quiescent_FfnUpLast (hFfnUpLast := hFfnUpLast)
    ∧ quiescent_FfnUpLastIdeal (hFfnUpLastIdeal := hFfnUpLastIdeal)
    ∧ quiescent_FfnUpLastIdeal_pre_up1_finite (hFfnUpLastIdeal := hFfnUpLastIdeal) (hPre_up1_finite := hPre_up1_finite)
    ∧ quiescent_FfnUpLastRefIdeal (hFfnUpLastRefIdeal := hFfnUpLastRefIdeal)
    ∧ quiescent_FfnUpLastRefIdeal_pre_up1_finite (hFfnUpLastRefIdeal := hFfnUpLastRefIdeal) (hPre_up1_finite := hPre_up1_finite)
    ∧ quiescent_InProj (hInProj := hInProj)
    ∧ quiescent_InProjIdeal (hInProjIdeal := hInProjIdeal)
    ∧ quiescent_InProjIdeal_pre_in_finite (hInProjIdeal := hInProjIdeal) (hPre_in_finite := hPre_in_finite)
    ∧ quiescent_InProjRefIdeal (hInProjRefIdeal := hInProjRefIdeal)
    ∧ quiescent_InProjRefIdeal_pre_in_finite (hInProjRefIdeal := hInProjRefIdeal) (hPre_in_finite := hPre_in_finite)
    ∧ quiescent_FfnUp (hFfnUp := hFfnUp)
    ∧ quiescent_FfnUpIdeal (hFfnUpIdeal := hFfnUpIdeal)
    ∧ quiescent_FfnUpIdeal_pre_up_finite (hFfnUpIdeal := hFfnUpIdeal) (hPre_up_finite := hPre_up_finite)
    ∧ quiescent_FfnUpRefIdeal (hFfnUpRefIdeal := hFfnUpRefIdeal)
    ∧ quiescent_FfnUpRefIdeal_pre_up_finite (hFfnUpRefIdeal := hFfnUpRefIdeal) (hPre_up_finite := hPre_up_finite)
    ∧ quiescent_Loss (hLoss := hLoss)
    ∧ quiescent_LossIdeal (hLossIdeal := hLossIdeal)
    ∧ quiescent_LossRefIdeal (hLossRefIdeal := hLossRefIdeal)
    ∧ quiescent_Cond (hCond := hCond)
    ∧ quiescent_CondIdeal (hCondIdeal := hCondIdeal)
    ∧ quiescent_CondIdeal_pre_cond_finite (hCondIdeal := hCondIdeal) (hPre_cond_finite := hPre_cond_finite)
    ∧ quiescent_CondRefIdeal (hCondRefIdeal := hCondRefIdeal)
    ∧ quiescent_CondRefIdeal_pre_cond_finite (hCondRefIdeal := hCondRefIdeal) (hPre_cond_finite := hPre_cond_finite)
    ∧ quiescent_Pool (hPool := hPool)
    ∧ quiescent_PoolIdeal (hPoolIdeal := hPoolIdeal)
    ∧ quiescent_PoolRefIdeal (hPoolRefIdeal := hPoolRefIdeal)
    ∧ quiescent_Qkv (hQkv := hQkv)
    ∧ quiescent_QkvIdeal (hQkvIdeal := hQkvIdeal)
    ∧ quiescent_QkvRefIdeal (hQkvRefIdeal := hQkvRefIdeal)
    ∧ quiescent_AttnFwd (hAttnFwd := hAttnFwd)
    ∧ quiescent_AttnFwdIdeal (hAttnFwdIdeal := hAttnFwdIdeal)
    ∧ quiescent_AttnFwdIdeal_pre_attf_finite (hAttnFwdIdeal := hAttnFwdIdeal) (hPre_attf_finite := hPre_attf_finite)
    ∧ quiescent_AttnFwdRefIdeal (hAttnFwdRefIdeal := hAttnFwdRefIdeal)
    ∧ quiescent_AttnFwdRefIdeal_pre_attf_finite (hAttnFwdRefIdeal := hAttnFwdRefIdeal) (hPre_attf_finite := hPre_attf_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ preserves_NormCtx_NormCtxIdeal
    ∧ algebraic_NormCtxIdeal_NormCtxRefIdeal_pre_norm_finite (hNormCtxIdeal := hNormCtxIdeal) (hNormCtxRefIdeal := hNormCtxRefIdeal) (hPre_norm_finite := hPre_norm_finite)
    ∧ preserves_ShortConv_ShortConvIdeal
    ∧ algebraic_ShortConvIdeal_ShortConvRefIdeal (hShortConvIdeal := hShortConvIdeal) (hShortConvRefIdeal := hShortConvRefIdeal)
    ∧ preserves_Attention_AttentionIdeal
    ∧ algebraic_AttentionIdeal_AttentionRefIdeal_pre_att_finite (hAttentionIdeal := hAttentionIdeal) (hAttentionRefIdeal := hAttentionRefIdeal) (hPre_att_finite := hPre_att_finite)
    ∧ preserves_Glu_GluIdeal
    ∧ algebraic_GluIdeal_GluRefIdeal_pre_glu_finite (hGluIdeal := hGluIdeal) (hGluRefIdeal := hGluRefIdeal) (hPre_glu_finite := hPre_glu_finite)
    ∧ preserves_QkvCtx_QkvCtxIdeal
    ∧ algebraic_QkvCtxIdeal_QkvCtxRefIdeal_pre_qkvc_finite (hQkvCtxIdeal := hQkvCtxIdeal) (hQkvCtxRefIdeal := hQkvCtxRefIdeal) (hPre_qkvc_finite := hPre_qkvc_finite)
    ∧ preserves_FfnUpLast_FfnUpLastIdeal
    ∧ algebraic_FfnUpLastIdeal_FfnUpLastRefIdeal_pre_up1_finite (hFfnUpLastIdeal := hFfnUpLastIdeal) (hFfnUpLastRefIdeal := hFfnUpLastRefIdeal) (hPre_up1_finite := hPre_up1_finite)
    ∧ preserves_InProj_InProjIdeal
    ∧ algebraic_InProjIdeal_InProjRefIdeal_pre_in_finite (hInProjIdeal := hInProjIdeal) (hInProjRefIdeal := hInProjRefIdeal) (hPre_in_finite := hPre_in_finite)
    ∧ preserves_FfnUp_FfnUpIdeal
    ∧ algebraic_FfnUpIdeal_FfnUpRefIdeal_pre_up_finite (hFfnUpIdeal := hFfnUpIdeal) (hFfnUpRefIdeal := hFfnUpRefIdeal) (hPre_up_finite := hPre_up_finite)
    ∧ preserves_Loss_LossIdeal
    ∧ algebraic_LossIdeal_LossRefIdeal (hLossIdeal := hLossIdeal) (hLossRefIdeal := hLossRefIdeal)
    ∧ preserves_Cond_CondIdeal
    ∧ algebraic_CondIdeal_CondRefIdeal_pre_cond_finite (hCondIdeal := hCondIdeal) (hCondRefIdeal := hCondRefIdeal) (hPre_cond_finite := hPre_cond_finite)
    ∧ preserves_Pool_PoolIdeal
    ∧ preserves_Qkv_QkvIdeal
    ∧ preserves_AttnFwd_AttnFwdIdeal
    ∧ algebraic_AttnFwdIdeal_AttnFwdRefIdeal_pre_attf_finite (hAttnFwdIdeal := hAttnFwdIdeal) (hAttnFwdRefIdeal := hAttnFwdRefIdeal) (hPre_attf_finite := hPre_attf_finite)
    ∧ preserves_NormFwd_NormFwdIdeal
    ∧ algebraic_NormFwdIdeal_NormFwdRefIdeal (hNormFwdIdeal := hNormFwdIdeal) (hNormFwdRefIdeal := hNormFwdRefIdeal)
-- ==== Pre_att_finite.lean ====
abbrev S4x8192x128 : Shape := ⟨3, ![4, 8192, 128]⟩
abbrev S2x8192x128 : Shape := ⟨3, ![2, 8192, 128]⟩
abbrev S2x256x128 : Shape := ⟨3, ![2, 256, 128]⟩
abbrev S8192x512 : Shape := ⟨2, ![8192, 512]⟩
abbrev S_ : Shape := ⟨0, ![]⟩
abbrev S1 : Shape := ⟨1, ![1]⟩
abbrev S6 : Shape := ⟨1, ![6]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S2x8192x128 : S_.BroadcastsInDim S2x8192x128 (![] : Fin 0 → Fin S2x8192x128.rank)
  reducesTo_S2x8192x128_S_d0_1_2 : S2x8192x128.ReducesTo [0, 1, 2] S_
  bcast_S_S2x256x128 : S_.BroadcastsInDim S2x256x128 (![] : Fin 0 → Fin S2x256x128.rank)
  reducesTo_S2x256x128_S_d0_1_2 : S2x256x128.ReducesTo [0, 1, 2] S_
  bcast_S_S8192x512 : S_.BroadcastsInDim S8192x512 (![] : Fin 0 → Fin S8192x512.rank)
  reducesTo_S8192x512_S_d0_1 : S8192x512.ReducesTo [0, 1] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg4 : FVec F S2x256x128 .f32) (main_arg5 : FVec F S8192x512 .f32) (main_v3 : IVec S_ 1) (main_v7 : IVec S_ 1) (main_v11 : IVec S_ 1) (main_v15 : IVec S_ 1) : IVec S6 1 :=
  let main_v16 : FVec F S2x256x128 .f32 := Host.absf main_arg4
  let main_cst_6 : FVec F S_ .f32 := constant S_ .f32 0x7F800000#32
  let main_v17 : FVec F S2x256x128 .f32 := broadcastInDim S2x256x128 ![] bcast_S_S2x256x128 main_cst_6
  let main_v18 : IVec S2x256x128 1 := cmpf .olt main_v16 main_v17
  let main_c_7 : IVec S_ 1 := constantI S_ 1 1#1
  let main_v19 : IVec S_ 1 := (fun x v => Host.reduce IntOp.andi x v reducesTo_S2x256x128_S_d0_1_2 h_S_) main_v18 main_c_7
  let main_v20 : FVec F S8192x512 .f32 := Host.absf main_arg5
  let main_cst_8 : FVec F S_ .f32 := constant S_ .f32 0x7F800000#32
  let main_v21 : FVec F S8192x512 .f32 := broadcastInDim S8192x512 ![] bcast_S_S8192x512 main_cst_8
  let main_v22 : IVec S8192x512 1 := cmpf .olt main_v20 main_v21
  let main_c_9 : IVec S_ 1 := constantI S_ 1 1#1
  let main_v23 : IVec S_ 1 := (fun x v => Host.reduce IntOp.andi x v reducesTo_S8192x512_S_d0_1 h_S_) main_v22 main_c_9
  let main_v24 : IVec S1 1 := broadcastInDim S1 ![] bcast_S_S1 main_v3
  let main_v25 : IVec S1 1 := broadcastInDim S1 ![] bcast_S_S1 main_v7
  let main_v26 : IVec S1 1 := broadcastInDim S1 ![] bcast_S_S1 main_v11
  let main_v27 : IVec S1 1 := broadcastInDim S1 ![] bcast_S_S1 main_v15
  let main_v28 : IVec S1 1 := broadcastInDim S1 ![] bcast_S_S1 main_v19
  let main_v29 : IVec S1 1 := broadcastInDim S1 ![] bcast_S_S1 main_v23
  let main_v30 : IVec S6 1 := concatenate S6 0 [⟨S1, main_v24⟩, ⟨S1, main_v25⟩, ⟨S1, main_v26⟩, ⟨S1, main_v27⟩, ⟨S1, main_v28⟩, ⟨S1, main_v29⟩] concatenates_S1_S1_S1_S1_S1_S1_S6_d0
  main_v30

def fn {F : FTy → Type} [FloatOps F] (main_arg0 : FVec F S4x8192x128 .f32) (main_arg1 : FVec F S2x8192x128 .f32) (main_arg2 : FVec F S2x8192x128 .f32) (main_arg3 : FVec F S2x256x128 .f32) (main_arg4 : FVec F S2x256x128 .f32) (main_arg5 : FVec F S8192x512 .f32) : IVec S6 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S2x8192x128 .f32 := Host.absf main_arg1
  let main_cst_0 : FVec F S_ .f32 := constant S_ .f32 0x7F800000#32
  let main_v5 : FVec F S2x8192x128 .f32 := broadcastInDim S2x8192x128 ![] bcast_S_S2x8192x128 main_cst_0
  let main_v6 : IVec S2x8192x128 1 := cmpf .olt main_v4 main_v5
  let main_c_1 : IVec S_ 1 := constantI S_ 1 1#1
  let main_v7 : IVec S_ 1 := (fun x v => Host.reduce IntOp.andi x v reducesTo_S2x8192x128_S_d0_1_2 h_S_) main_v6 main_c_1
  let main_v8 : FVec F S2x8192x128 .f32 := Host.absf main_arg2
  let main_cst_2 : FVec F S_ .f32 := constant S_ .f32 0x7F800000#32
  let main_v9 : FVec F S2x8192x128 .f32 := broadcastInDim S2x8192x128 ![] bcast_S_S2x8192x128 main_cst_2
  let main_v10 : IVec S2x8192x128 1 := cmpf .olt main_v8 main_v9
  let main_c_3 : IVec S_ 1 := constantI S_ 1 1#1
  let main_v11 : IVec S_ 1 := (fun x v => Host.reduce IntOp.andi x v reducesTo_S2x8192x128_S_d0_1_2 h_S_) main_v10 main_c_3
  let main_v12 : FVec F S2x256x128 .f32 := Host.absf main_arg3
  let main_cst_4 : FVec F S_ .f32 := constant S_ .f32 0x7F800000#32
  let main_v13 : FVec F S2x256x128 .f32 := broadcastInDim S2x256x128 ![] bcast_S_S2x256x128 main_cst_4
  let main_v14 : IVec S2x256x128 1 := cmpf .olt main_v12 main_v13
  let main_c_5 : IVec S_ 1 := constantI S_ 1 1#1
  let main_v15 : IVec S_ 1 := (fun x v => Host.reduce IntOp.andi x v reducesTo_S2x256x128_S_d0_1_2 h_S_) main_v14 main_c_5
  fn_part1 (F := F) main_arg4 main_arg5 main_v3 main_v7 main_v11 main_v15
-- ==== Pre_attf_finite.lean ====
abbrev S4x8192x128 : Shape := ⟨3, ![4, 8192, 128]⟩
abbrev S2x8192x128 : Shape := ⟨3, ![2, 8192, 128]⟩
abbrev S2x256x128 : Shape := ⟨3, ![2, 256, 128]⟩
abbrev S_ : Shape := ⟨0, ![]⟩
abbrev S1 : Shape := ⟨1, ![1]⟩
abbrev S5 : Shape := ⟨1, ![5]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S2x8192x128 : S_.BroadcastsInDim S2x8192x128 (![] : Fin 0 → Fin S2x8192x128.rank)
  reducesTo_S2x8192x128_S_d0_1_2 : S2x8192x128.ReducesTo [0, 1, 2] S_
  bcast_S_S2x256x128 : S_.BroadcastsInDim S2x256x128 (![] : Fin 0 → Fin S2x256x128.rank)
  reducesTo_S2x256x128_S_d0_1_2 : S2x256x128.ReducesTo [0, 1, 2] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S2x256x128 .f32) (main_v3 : IVec S_ 1) (main_v7 : IVec S_ 1) (main_v11 : IVec S_ 1) (main_v15 : IVec S_ 1) : IVec S5 1 :=
  let main_v16 : FVec F S2x256x128 .f32 := Host.absf main_arg4
  let main_cst_6 : FVec F S_ .f32 := constant S_ .f32 0x7F800000#32
  let main_v17 : FVec F S2x256x128 .f32 := broadcastInDim S2x256x128 ![] bcast_S_S2x256x128 main_cst_6
  let main_v18 : IVec S2x256x128 1 := cmpf .olt main_v16 main_v17
  let main_c_7 : IVec S_ 1 := constantI S_ 1 1#1
  let main_v19 : IVec S_ 1 := (fun x v => Host.reduce IntOp.andi x v reducesTo_S2x256x128_S_d0_1_2 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S4x8192x128 .f32) (main_arg1 : FVec F S2x8192x128 .f32) (main_arg2 : FVec F S2x8192x128 .f32) (main_arg3 : FVec F S2x256x128 .f32) (main_arg4 : FVec F S2x256x128 .f32) : IVec S5 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S2x8192x128 .f32 := Host.absf main_arg1
  let main_cst_0 : FVec F S_ .f32 := constant S_ .f32 0x7F800000#32
  let main_v5 : FVec F S2x8192x128 .f32 := broadcastInDim S2x8192x128 ![] bcast_S_S2x8192x128 main_cst_0
  let main_v6 : IVec S2x8192x128 1 := cmpf .olt main_v4 main_v5
  let main_c_1 : IVec S_ 1 := constantI S_ 1 1#1
  let main_v7 : IVec S_ 1 := (fun x v => Host.reduce IntOp.andi x v reducesTo_S2x8192x128_S_d0_1_2 h_S_) main_v6 main_c_1
  let main_v8 : FVec F S2x8192x128 .f32 := Host.absf main_arg2
  let main_cst_2 : FVec F S_ .f32 := constant S_ .f32 0x7F800000#32
  let main_v9 : FVec F S2x8192x128 .f32 := broadcastInDim S2x8192x128 ![] bcast_S_S2x8192x128 main_cst_2
  let main_v10 : IVec S2x8192x128 1 := cmpf .olt main_v8 main_v9
  let main_c_3 : IVec S_ 1 := constantI S_ 1 1#1
  let main_v11 : IVec S_ 1 := (fun x v => Host.reduce IntOp.andi x v reducesTo_S2x8192x128_S_d0_1_2 h_S_) main_v10 main_c_3
  let main_v12 : FVec F S2x256x128 .f32 := Host.absf main_arg3
  let main_cst_4 : FVec F S_ .f32 := constant S_ .f32 0x7F800000#32
  let main_v13 : FVec F S2x256x128 .f32 := broadcastInDim S2x256x128 ![] bcast_S_S2x256x128 main_cst_4
  let main_v14 : IVec S2x256x128 1 := cmpf .olt main_v12 main_v13
  let main_c_5 : IVec S_ 1 := constantI S_ 1 1#1
  let main_v15 : IVec S_ 1 := (fun x v => Host.reduce IntOp.andi x v reducesTo_S2x256x128_S_d0_1_2 h_S_) main_v14 main_c_5
  fn_part1 (F := F) main_arg4 main_v3 main_v7 main_v11 main_v15
-- ==== Pre_cond_finite.lean ====
abbrev S8x1024 : Shape := ⟨2, ![8, 1024]⟩
abbrev S1024 : Shape := ⟨1, ![1024]⟩
abbrev S_ : Shape := ⟨0, ![]⟩
abbrev S1 : Shape := ⟨1, ![1]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1 : S_.BroadcastsInDim S1 (![] : Fin 0 → Fin S1.rank)

variable [Facts]

def fn {F : FTy → Type} [FloatOps F] (main_arg0 : FVec F S8x1024 .f32) (main_arg1 : FVec F S1024 .f32) (main_arg2 : FVec F S1024 .f32) (main_arg3 : FVec F S1024 .f32) : IVec S1 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : IVec S1 1 := broadcastInDim S1 ![] bcast_S_S1 main_v3
  main_v4
-- ==== Pre_glu_finite.lean ====
abbrev S8192x5632 : Shape := ⟨2, ![8192, 5632]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S_ : Shape := ⟨0, ![]⟩
abbrev S1 : Shape := ⟨1, ![1]⟩
abbrev S5 : Shape := ⟨1, ![5]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_
  bcast_S_S2816x1024 : S_.BroadcastsInDim S2816x1024 (![] : Fin 0 → Fin S2816x1024.rank)
  reducesTo_S2816x1024_S_d0_1 : S2816x1024.ReducesTo [0, 1] S_
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S8192x1024 .bf16) (main_v3 : IVec S_ 1) (main_v7 : IVec S_ 1) (main_v11 : IVec S_ 1) (main_v15 : IVec S_ 1) : IVec S5 1 :=
  let main_v16 : FVec F S8192x1024 .f32 := (extf .f32 · bitsLt_bf16_f32) main_arg4
  let main_v17 : FVec F S8192x1024 .f32 := Host.absf main_v16
  let main_cst_6 : FVec F S_ .f32 := constant S_ .f32 0x7F800000#32
  let main_v18 : FVec F S8192x1024 .f32 := broadcastInDim S8192x1024 ![] bcast_S_S8192x1024 main_cst_6
  let main_v19 : IVec S8192x1024 1 := cmpf .olt main_v17 main_v18
  let main_c_7 : IVec S_ 1 := constantI S_ 1 1#1
  let main_v20 : IVec S_ 1 := (fun x v => Host.reduce IntOp.andi x v reducesTo_S8192x1024_S_d0_1 h_S_) main_v19 main_c_7
  let main_v21 : IVec S1 1 := broadcastInDim S1 ![] bcast_S_S1 main_v3
  let main_v22 : IVec S1 1 := broadcastInDim S1 ![] bcast_S_S1 main_v7
  let main_v23 : IVec S1 1 := broadcastInDim S1 ![] bcast_S_S1 main_v11
  let main_v24 : IVec S1 1 := broadcastInDim S1 ![] bcast_S_S1 main_v15
  let main_v25 : IVec S1 1 := broadcastInDim S1 ![] bcast_S_S1 main_v20
  let main_v26 : IVec S5 1 := concatenate S5 0 [⟨S1, main_v21⟩, ⟨S1, main_v22⟩, ⟨S1, main_v23⟩, ⟨S1, main_v24⟩, ⟨S1, main_v25⟩] concatenates_S1_S1_S1_S1_S1_S5_d0
  main_v26

def fn {F : FTy → Type} [FloatOps F] (main_arg0 : FVec F S8192x5632 .f32) (main_arg1 : FVec F S3x2816 .f32) (main_arg2 : FVec F S1x2816 .f32) (main_arg3 : FVec F S2816x1024 .f32) (main_arg4 : FVec F S8192x1024 .bf16) : IVec S5 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S3x2816 .f32 := Host.absf main_arg1
  let main_cst_0 : FVec F S_ .f32 := constant S_ .f32 0x7F800000#32
  let main_v5 : FVec F S3x2816 .f32 := broadcastInDim S3x2816 ![] bcast_S_S3x2816 main_cst_0
  let main_v6 : IVec S3x2816 1 := cmpf .olt main_v4 main_v5
  let main_c_1 : IVec S_ 1 := constantI S_ 1 1#1
  let main_v7 : IVec S_ 1 := (fun x v => Host.reduce IntOp.andi x v reducesTo_S3x2816_S_d0_1 h_S_) main_v6 main_c_1
  let main_v8 : FVec F S1x2816 .f32 := Host.absf main_arg2
  let main_cst_2 : FVec F S_ .f32 := constant S_ .f32 0x7F800000#32
  let main_v9 : FVec F S1x2816 .f32 := broadcastInDim S1x2816 ![] bcast_S_S1x2816 main_cst_2
  let main_v10 : IVec S1x2816 1 := cmpf .olt main_v8 main_v9
  let main_c_3 : IVec S_ 1 := constantI S_ 1 1#1
  let main_v11 : IVec S_ 1 := (fun x v => Host.reduce IntOp.andi x v reducesTo_S1x2816_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_v3 main_v7 main_v11 main_v15
-- ==== Pre_in_finite.lean ====
abbrev S8192x1024 : Shape := ⟨2, ![8192, 1024]⟩
abbrev S1x1024 : Shape := ⟨2, ![1, 1024]⟩
abbrev S1024x2560 : Shape := ⟨2, ![1024, 2560]⟩
abbrev S8192x1536 : Shape := ⟨2, ![8192, 1536]⟩
abbrev S_ : Shape := ⟨0, ![]⟩
abbrev S1 : Shape := ⟨1, ![1]⟩
abbrev S6 : Shape := ⟨1, ![6]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2560 : S_.BroadcastsInDim S1024x2560 (![] : Fin 0 → Fin S1024x2560.rank)
  reducesTo_S1024x2560_S_d0_1 : S1024x2560.ReducesTo [0, 1] S_
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg5 : FVec F S8192x1024 .bf16) (main_arg6 : FVec F S8192x1536 .bf16) (main_v3 : IVec S_ 1) (main_v7 : IVec S_ 1) (main_v11 : IVec S_ 1) (main_v15 : IVec S_ 1) : IVec S6 1 :=
  let main_v16 : FVec F S8192x1024 .f32 := (extf .f32 · bitsLt_bf16_f32) main_arg5
  let main_v17 : FVec F S8192x1024 .f32 := Host.absf main_v16
  let main_cst_6 : FVec F S_ .f32 := constant S_ .f32 0x7F800000#32
  let main_v18 : FVec F S8192x1024 .f32 := broadcastInDim S8192x1024 ![] bcast_S_S8192x1024 main_cst_6
  let main_v19 : IVec S8192x1024 1 := cmpf .olt main_v17 main_v18
  let main_c_7 : IVec S_ 1 := constantI S_ 1 1#1
  let main_v20 : IVec S_ 1 := (fun x v => Host.reduce IntOp.andi x v reducesTo_S8192x1024_S_d0_1 h_S_) main_v19 main_c_7
  let main_v21 : FVec F S8192x1536 .f32 := (extf .f32 · bitsLt_bf16_f32) main_arg6
  let main_v22 : FVec F S8192x1536 .f32 := Host.absf main_v21
  let main_cst_8 : FVec F S_ .f32 := constant S_ .f32 0x7F800000#32
  let main_v23 : FVec F S8192x1536 .f32 := broadcastInDim S8192x1536 ![] bcast_S_S8192x1536 main_cst_8
  let main_v24 : IVec S8192x1536 1 := cmpf .olt main_v22 main_v23
  let main_c_9 : IVec S_ 1 := constantI S_ 1 1#1
  let main_v25 : IVec S_ 1 := (fun x v => Host.reduce IntOp.andi x v reducesTo_S8192x1536_S_d0_1 h_S_) main_v24 main_c_9
  let main_v26 : IVec S1 1 := broadcastInDim S1 ![] bcast_S_S1 main_v3
  let main_v27 : IVec S1 1 := broadcastInDim S1 ![] bcast_S_S1 main_v7
  let main_v28 : IVec S1 1 := broadcastInDim S1 ![] bcast_S_S1 main_v11
  let main_v29 : IVec S1 1 := broadcastInDim S1 ![] bcast_S_S1 main_v15
  let main_v30 : IVec S1 1 := broadcastInDim S1 ![] bcast_S_S1 main_v20
  let main_v31 : IVec S1 1 := broadcastInDim S1 ![] bcast_S_S1 main_v25
  let main_v32 : IVec S6 1 := concatenate S6 0 [⟨S1, main_v26⟩, ⟨S1, main_v27⟩, ⟨S1, main_v28⟩, ⟨S1, main_v29⟩, ⟨S1, main_v30⟩, ⟨S1, main_v31⟩] concatenates_S1_S1_S1_S1_S1_S1_S6_d0
  main_v32

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1024x2560 .f32) (main_arg5 : FVec F S8192x1024 .bf16) (main_arg6 : FVec F S8192x1536 .bf16) (main_arg7 : FVec F S8192x1024 .f32) : IVec S6 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x2560 .f32 := Host.absf main_arg4
  let main_cst_4 : FVec F S_ .f32 := constant S_ .f32 0x7F800000#32
  let main_v13 : FVec F S1024x2560 .f32 := broadcastInDim S1024x2560 ![] bcast_S_S1024x2560 main_cst_4
  let main_v14 : IVec S1024x2560 1 := cmpf .olt main_v12 main_v13
  let main_c_5 : IVec S_ 1 := constantI S_ 1 1#1
  let main_v15 : IVec S_ 1 := (fun x v => Host.reduce IntOp.andi x v reducesTo_S1024x2560_S_d0_1 h_S_) main_v14 main_c_5
  fn_part1 (F := F) main_arg5 main_arg6 main_v3 main_v7 main_v11 main_v15
-- ==== Pre_norm_finite.lean ====
abbrev S256x1024 : Shape := ⟨2, ![256, 1024]⟩
abbrev S1x1024 : Shape := ⟨2, ![1, 1024]⟩
abbrev S_ : Shape := ⟨0, ![]⟩
abbrev S1 : Shape := ⟨1, ![1]⟩
abbrev S4 : Shape := ⟨1, ![4]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v3 : IVec S_ 1) (main_v7 : IVec S_ 1) (main_v11 : IVec S_ 1) (main_v15 : IVec S_ 1) : IVec S4 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  main_v20

def fn {F : FTy → Type} [FloatOps F] (main_arg0 : FVec F S256x1024 .f32) (main_arg1 : FVec F S1x1024 .f32) (main_arg2 : FVec F S1x1024 .f32) (main_arg3 : FVec F S1x1024 .f32) (main_arg4 : FVec F S256x1024 .f32) : IVec S4 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S256x1024 .f32 := Host.absf main_arg4
  let main_cst_4 : FVec F S_ .f32 := constant S_ .f32 0x7F800000#32
  let main_v13 : FVec F S256x1024 .f32 := broadcastInDim S256x1024 ![] bcast_S_S256x1024 main_cst_4
  let main_v14 : IVec S256x1024 1 := cmpf .olt main_v12 main_v13
  let main_c_5 : IVec S_ 1 := constantI S_ 1 1#1
  let main_v15 : IVec S_ 1 := (fun x v => Host.reduce IntOp.andi x v reducesTo_S256x1024_S_d0_1 h_S_) main_v14 main_c_5
  fn_part1 (F := F) main_v3 main_v7 main_v11 main_v15
-- ==== Pre_qkvc_finite.lean ====
abbrev S256x512 : Shape := ⟨2, ![256, 512]⟩
abbrev S1x128 : Shape := ⟨2, ![1, 128]⟩
abbrev S2x8448x128 : Shape := ⟨3, ![2, 8448, 128]⟩
abbrev S_ : Shape := ⟨0, ![]⟩
abbrev S1 : Shape := ⟨1, ![1]⟩
abbrev S3 : Shape := ⟨1, ![3]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S2x8448x128 : S_.BroadcastsInDim S2x8448x128 (![] : Fin 0 → Fin S2x8448x128.rank)
  reducesTo_S2x8448x128_S_d0_1_2 : S2x8448x128.ReducesTo [0, 1, 2] S_
  bcast_S_S1 : S_.BroadcastsInDim S1 (![] : Fin 0 → Fin S1.rank)
  concatenates_S1_S1_S1_S3_d0 : Shape.Concatenates [S1, S1, S1] S3 0

variable [Facts]

def fn {F : FTy → Type} [FloatOps F] (main_arg0 : FVec F S256x512 .f32) (main_arg1 : FVec F S1x128 .f32) (main_arg2 : FVec F S1x128 .f32) (main_arg3 : FVec F S2x8448x128 .f32) (main_arg4 : FVec F S2x8448x128 .f32) : IVec S3 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : FVec F S2x8448x128 .f32 := Host.absf main_arg3
  let main_cst_2 : FVec F S_ .f32 := constant S_ .f32 0x7F800000#32
  let main_v9 : FVec F S2x8448x128 .f32 := broadcastInDim S2x8448x128 ![] bcast_S_S2x8448x128 main_cst_2
  let main_v10 : IVec S2x8448x128 1 := cmpf .olt main_v8 main_v9
  let main_c_3 : IVec S_ 1 := constantI S_ 1 1#1
  let main_v11 : IVec S_ 1 := (fun x v => Host.reduce IntOp.andi x v reducesTo_S2x8448x128_S_d0_1_2 h_S_) main_v10 main_c_3
  let main_v12 : IVec S1 1 := broadcastInDim S1 ![] bcast_S_S1 main_v3
  let main_v13 : IVec S1 1 := broadcastInDim S1 ![] bcast_S_S1 main_v7
  let main_v14 : IVec S1 1 := broadcastInDim S1 ![] bcast_S_S1 main_v11
  let main_v15 : IVec S3 1 := concatenate S3 0 [⟨S1, main_v12⟩, ⟨S1, main_v13⟩, ⟨S1, main_v14⟩] concatenates_S1_S1_S1_S3_d0
  main_v15
-- ==== Pre_up1_finite.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S_ : Shape := ⟨0, ![]⟩
abbrev S1 : Shape := ⟨1, ![1]⟩
abbrev S6 : Shape := ⟨1, ![6]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg5 : FVec F S8192x2816 .bf16) (main_arg6 : FVec F S8192x2816 .bf16) (main_v3 : IVec S_ 1) (main_v7 : IVec S_ 1) (main_v11 : IVec S_ 1) (main_v15 : IVec S_ 1) : IVec S6 1 :=
  let main_v16 : FVec F S8192x2816 .f32 := (extf .f32 · bitsLt_bf16_f32) main_arg5
  let main_v17 : FVec F S8192x2816 .f32 := Host.absf main_v16
  let main_cst_6 : FVec F S_ .f32 := constant S_ .f32 0x7F800000#32
  let main_v18 : FVec F S8192x2816 .f32 := broadcastInDim S8192x2816 ![] bcast_S_S8192x2816 main_cst_6
  let main_v19 : IVec S8192x2816 1 := cmpf .olt main_v17 main_v18
  let main_c_7 : IVec S_ 1 := constantI S_ 1 1#1
  let main_v20 : IVec S_ 1 := (fun x v => Host.reduce IntOp.andi x v reducesTo_S8192x2816_S_d0_1 h_S_) main_v19 main_c_7
  let main_v21 : FVec F S8192x2816 .f32 := (extf .f32 · bitsLt_bf16_f32) main_arg6
  let main_v22 : FVec F S8192x2816 .f32 := Host.absf main_v21
  let main_cst_8 : FVec F S_ .f32 := constant S_ .f32 0x7F800000#32
  let main_v23 : FVec F S8192x2816 .f32 := broadcastInDim S8192x2816 ![] bcast_S_S8192x2816 main_cst_8
  let main_v24 : IVec S8192x2816 1 := cmpf .olt main_v22 main_v23
  let main_c_9 : IVec S_ 1 := constantI S_ 1 1#1
  let main_v25 : IVec S_ 1 := (fun x v => Host.reduce IntOp.andi x v reducesTo_S8192x2816_S_d0_1 h_S_) main_v24 main_c_9
  let main_v26 : IVec S1 1 := broadcastInDim S1 ![] bcast_S_S1 main_v3
  let main_v27 : IVec S1 1 := broadcastInDim S1 ![] bcast_S_S1 main_v7
  let main_v28 : IVec S1 1 := broadcastInDim S1 ![] bcast_S_S1 main_v11
  let main_v29 : IVec S1 1 := broadcastInDim S1 ![] bcast_S_S1 main_v15
  let main_v30 : IVec S1 1 := broadcastInDim S1 ![] bcast_S_S1 main_v20
  let main_v31 : IVec S1 1 := broadcastInDim S1 ![] bcast_S_S1 main_v25
  let main_v32 : IVec S6 1 := concatenate S6 0 [⟨S1, main_v26⟩, ⟨S1, main_v27⟩, ⟨S1, main_v28⟩, ⟨S1, main_v29⟩, ⟨S1, main_v30⟩, ⟨S1, main_v31⟩] concatenates_S1_S1_S1_S1_S1_S1_S6_d0
  main_v32

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1024x5632 .f32) (main_arg5 : FVec F S8192x2816 .bf16) (main_arg6 : FVec F S8192x2816 .bf16) (main_arg7 : FVec F S8192x1024 .f32) : IVec S6 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x5632 .f32 := Host.absf main_arg4
  let main_cst_4 : FVec F S_ .f32 := constant S_ .f32 0x7F800000#32
  let main_v13 : FVec F S1024x5632 .f32 := broadcastInDim S1024x5632 ![] bcast_S_S1024x5632 main_cst_4
  let main_v14 : IVec S1024x5632 1 := cmpf .olt main_v12 main_v13
  let main_c_5 : IVec S_ 1 := constantI S_ 1 1#1
  let main_v15 : IVec S_ 1 := (fun x v => Host.reduce IntOp.andi x v reducesTo_S1024x5632_S_d0_1 h_S_) main_v14 main_c_5
  fn_part1 (F := F) main_arg5 main_arg6 main_v3 main_v7 main_v11 main_v15
-- ==== Pre_up_finite.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S_ : Shape := ⟨0, ![]⟩
abbrev S1 : Shape := ⟨1, ![1]⟩
abbrev S8 : Shape := ⟨1, ![8]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  bcast_S_S1 : S_.BroadcastsInDim S1 (![] : Fin 0 → Fin S1.rank)
  concatenates_S1_S1_S1_S1_S1_S1_S1_S1_S8_d0 : Shape.Concatenates [S1, S1, S1, S1, S1, S1, S1, S1] S8 0

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v28 : IVec S_ 1) (main_v32 : IVec S8192x2816 1) : IVec S8 1 :=
  let main_c_13 : IVec S_ 1 := constantI S_ 1 1#1
  let main_v33 : IVec S_ 1 := (fun x v => Host.reduce IntOp.andi x v reducesTo_S8192x2816_S_d0_1 h_S_) main_v32 main_c_13
  let main_v34 : IVec S1 1 := broadcastInDim S1 ![] bcast_S_S1 main_v3
  let main_v35 : IVec S1 1 := broadcastInDim S1 ![] bcast_S_S1 main_v7
  let main_v36 : IVec S1 1 := broadcastInDim S1 ![] bcast_S_S1 main_v11
  let main_v37 : IVec S1 1 := broadcastInDim S1 ![] bcast_S_S1 main_v15
  let main_v38 : IVec S1 1 := broadcastInDim S1 ![] bcast_S_S1 main_v19
  let main_v39 : IVec S1 1 := broadcastInDim S1 ![] bcast_S_S1 main_v23
  let main_v40 : IVec S1 1 := broadcastInDim S1 ![] bcast_S_S1 main_v28
  let main_v41 : IVec S1 1 := broadcastInDim S1 ![] bcast_S_S1 main_v33
  let main_v42 : IVec S8 1 := concatenate S8 0 [⟨S1, main_v34⟩, ⟨S1, main_v35⟩, ⟨S1, main_v36⟩, ⟨S1, main_v37⟩, ⟨S1, main_v38⟩, ⟨S1, main_v39⟩, ⟨S1, main_v40⟩, ⟨S1, main_v41⟩] concatenates_S1_S1_S1_S1_S1_S1_S1_S1_S8_d0
  main_v42

def fn_part1 {F : FTy → Type} [FloatOps F] (main_arg4 : FVec F S1x1024 .f32) (main_arg6 : FVec F S1024x5632 .f32) (main_arg7 : FVec F S8192x2816 .bf16) (main_arg8 : FVec F S8192x2816 .bf16) (main_v3 : IVec S_ 1) (main_v7 : IVec S_ 1) (main_v11 : IVec S_ 1) (main_v15 : IVec S_ 1) : IVec S8 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1024x5632 .f32 := Host.absf main_arg6
  let main_cst_8 : FVec F S_ .f32 := constant S_ .f32 0x7F800000#32
  let main_v21 : FVec F S1024x5632 .f32 := broadcastInDim S1024x5632 ![] bcast_S_S1024x5632 main_cst_8
  let main_v22 : IVec S1024x5632 1 := cmpf .olt main_v20 main_v21
  let main_c_9 : IVec S_ 1 := constantI S_ 1 1#1
  let main_v23 : IVec S_ 1 := (fun x v => Host.reduce IntOp.andi x v reducesTo_S1024x5632_S_d0_1 h_S_) main_v22 main_c_9
  let main_v24 : FVec F S8192x2816 .f32 := (extf .f32 · bitsLt_bf16_f32) main_arg7
  let main_v25 : FVec F S8192x2816 .f32 := Host.absf main_v24
  let main_cst_10 : FVec F S_ .f32 := constant S_ .f32 0x7F800000#32
  let main_v26 : FVec F S8192x2816 .f32 := broadcastInDim S8192x2816 ![] bcast_S_S8192x2816 main_cst_10
  let main_v27 : IVec S8192x2816 1 := cmpf .olt main_v25 main_v26
  let main_c_11 : IVec S_ 1 := constantI S_ 1 1#1
  let main_v28 : IVec S_ 1 := (fun x v => Host.reduce IntOp.andi x v reducesTo_S8192x2816_S_d0_1 h_S_) main_v27 main_c_11
  let main_v29 : FVec F S8192x2816 .f32 := (extf .f32 · bitsLt_bf16_f32) main_arg8
  let main_v30 : FVec F S8192x2816 .f32 := Host.absf main_v29
  let main_cst_12 : FVec F S_ .f32 := constant S_ .f32 0x7F800000#32
  let main_v31 : FVec F S8192x2816 .f32 := broadcastInDim S8192x2816 ![] bcast_S_S8192x2816 main_cst_12
  let main_v32 : IVec S8192x2816 1 := cmpf .olt main_v30 main_v31
  fn_part2 (F := F) main_v3 main_v7 main_v11 main_v15 main_v19 main_v23 main_v28 main_v32

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1x1024 .f32) (main_arg6 : FVec F S1024x5632 .f32) (main_arg7 : FVec F S8192x2816 .bf16) (main_arg8 : FVec F S8192x2816 .bf16) (main_arg9 : FVec F S8192x1024 .f32) : IVec S8 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg6 main_arg7 main_arg8 main_v3 main_v7 main_v11 main_v15
-- ==== NormCtx.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S256x1024, .f32⟩
  | .hbm, ⟨5, _⟩ => ⟨S256x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormCtxRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S256x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256, .f32⟩
  | .hbm, ⟨50, _⟩ => ⟨S256x1, .f32⟩
  | .hbm, ⟨51, _⟩ => ⟨S256x1024, .f32⟩
  | .hbm, ⟨52, _⟩ => ⟨S256x1024, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S_, .f32⟩
  | .hbm, ⟨58, _⟩ => ⟨S256, .f32⟩
  | .hbm, ⟨59, _⟩ => ⟨S256x1024, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== ShortConv.lean ====
abbrev S8192x512 : Shape := ⟨2, ![8192, 512]⟩
abbrev S8192x2560 : Shape := ⟨2, ![8192, 2560]⟩
abbrev S3x512 : Shape := ⟨2, ![3, 512]⟩
abbrev S1024x1024 : Shape := ⟨2, ![1024, 1024]⟩
abbrev S8192x1024 : Shape := ⟨2, ![8192, 1024]⟩
abbrev S8192x1536 : Shape := ⟨2, ![8192, 1536]⟩
abbrev S256x1024 : Shape := ⟨2, ![256, 1024]⟩
abbrev S16x1024 : Shape := ⟨2, ![16, 1024]⟩
abbrev S256x512 : Shape := ⟨2, ![256, 512]⟩
abbrev S8x512 : Shape := ⟨2, ![8, 512]⟩
abbrev S256x1536 : Shape := ⟨2, ![256, 1536]⟩
abbrev S288x1024 : Shape := ⟨2, ![288, 1024]⟩
abbrev S512x1024 : Shape := ⟨2, ![512, 1024]⟩
abbrev S288x512 : Shape := ⟨2, ![288, 512]⟩
abbrev S272x512 : Shape := ⟨2, ![272, 512]⟩
abbrev S1x512 : Shape := ⟨2, ![1, 512]⟩
abbrev S512 : Shape := ⟨1, ![512]⟩

abbrev nBuf : Space → Nat
  | .hbm => 9
  | .vmem => 31
  | .smem => 0
  | _ => 0

abbrev bufTy : (tb : Table) → Fin (tcTables nBuf tb) → BufTy
  | .hbm, ⟨0, _⟩ => ⟨S8192x512, .f32⟩
  | .hbm, ⟨1, _⟩ => ⟨S8192x2560, .f32⟩
  | .hbm, ⟨2, _⟩ => ⟨S3x512, .f32⟩
  | .hbm, ⟨3, _⟩ => ⟨S1024x1024, .f32⟩
  | .hbm, ⟨4, _⟩ => ⟨S8192x1024, .bf16⟩
  | .hbm, ⟨5, _⟩ => ⟨S1024x1024, .bf16⟩
  | .hbm, ⟨6, _⟩ => ⟨S8192x512, .f32⟩
  | .hbm, ⟨7, _⟩ => ⟨S8192x1536, .bf16⟩
  | .hbm, ⟨8, _⟩ => ⟨S3x512, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x1024, .bf16⟩
  | .local _ .vmem, ⟨7, _⟩ => ⟨S256x512, .f32⟩
  | .local _ .vmem, ⟨8, _⟩ => ⟨S256x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S256x512, .f32⟩
  | .local _ .vmem, ⟨14, _⟩ => ⟨S256x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S256x512, .f32⟩
  | .local _ .vmem, ⟨20, _⟩ => ⟨S256x512, .f32⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S3x512, .f32⟩
  | .local _ .vmem, ⟨26, _⟩ => ⟨S256x512, .f32⟩
  | .local _ .vmem, ⟨27, _⟩ => ⟨S256x512, .f32⟩
  | .local _ .vmem, ⟨28, _⟩ => ⟨S256x1536, .bf16⟩
  | .local _ .vmem, ⟨29, _⟩ => ⟨S256x1536, .bf16⟩
  | .local _ .vmem, ⟨30, _⟩ => ⟨S3x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 v2
  let c2_i32 : BitVec 32 := 2#32
  let c0_i32_1 : BitVec 32 := 0#32
  ![v3.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi c0_i32 v2
  let c2_i32 : BitVec 32 := 2#32
  let c0_i32_0 : BitVec 32 := 0#32
  ![v3.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 v2
  let c3_i32 : BitVec 32 := 3#32
  let c0_i32_1 : BitVec 32 := 0#32
  ![v3.toNat, c3_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi c0_i32 v2
  let c3_i32 : BitVec 32 := 3#32
  let c0_i32_0 : BitVec 32 := 0#32
  ![v3.toNat, c3_i32.toNat]

def cc0_transform_10 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_11 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 v2
  let c4_i32 : BitVec 32 := 4#32
  let c0_i32_1 : BitVec 32 := 0#32
  ![v3.toNat, c4_i32.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi c0_i32 v2
  let c4_i32 : BitVec 32 := 4#32
  let c0_i32_0 : BitVec 32 := 0#32
  ![v3.toNat, c4_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S3x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ShortConvRefIdeal.lean ====
abbrev S8192x512 : Shape := ⟨2, ![8192, 512]⟩
abbrev S8192x2560 : Shape := ⟨2, ![8192, 2560]⟩
abbrev S3x512 : Shape := ⟨2, ![3, 512]⟩
abbrev S1024x1024 : Shape := ⟨2, ![1024, 1024]⟩
abbrev S8192x1024 : Shape := ⟨2, ![8192, 1024]⟩
abbrev S8192x1536 : Shape := ⟨2, ![8192, 1536]⟩
abbrev S_ : Shape := ⟨0, ![]⟩
abbrev S1x512 : Shape := ⟨2, ![1, 512]⟩
abbrev S8194x512 : Shape := ⟨2, ![8194, 512]⟩
abbrev S512 : Shape := ⟨1, ![512]⟩

abbrev nBuf : Space → Nat
  | .hbm => 101
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2560, .f32⟩
  | .hbm, ⟨2, _⟩ => ⟨S3x512, .f32⟩
  | .hbm, ⟨3, _⟩ => ⟨S1024x1024, .f32⟩
  | .hbm, ⟨4, _⟩ => ⟨S8192x1024, .bf16⟩
  | .hbm, ⟨5, _⟩ => ⟨S8192x1536, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S1x512, .f32⟩
  | .hbm, ⟨12, _⟩ => ⟨S_, .f32⟩
  | .hbm, ⟨13, _⟩ => ⟨S1x512, .f32⟩
  | .hbm, ⟨14, _⟩ => ⟨S8194x512, .f32⟩
  | .hbm, ⟨15, _⟩ => ⟨S_, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S8192x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S1x512, .f32⟩
  | .hbm, ⟨37, _⟩ => ⟨S512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S3x512, .f32⟩
  | .hbm, ⟨62, _⟩ => ⟨S_, .f32⟩
  | .hbm, ⟨63, _⟩ => ⟨S8194x512, .f32⟩
  | .hbm, ⟨64, _⟩ => ⟨S8192x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S8192x512, .f32⟩
  | .hbm, ⟨69, _⟩ => ⟨S8192x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S3x512, .f32⟩
  | .hbm, ⟨75, _⟩ => ⟨S3x512, .f32⟩
  | .hbm, ⟨76, _⟩ => ⟨S_, .f32⟩
  | .hbm, ⟨77, _⟩ => ⟨S8194x512, .f32⟩
  | .hbm, ⟨78, _⟩ => ⟨S8194x512, .f32⟩
  | .hbm, ⟨79, _⟩ => ⟨S8192x512, .f32⟩
  | .hbm, ⟨80, _⟩ => ⟨S_, .f32⟩
  | .hbm, ⟨81, _⟩ => ⟨S512, .f32⟩
  | .hbm, ⟨82, _⟩ => ⟨S1x512, .f32⟩
  | .hbm, ⟨83, _⟩ => ⟨S8192x512, .f32⟩
  | .hbm, ⟨84, _⟩ => ⟨S8192x512, .f32⟩
  | .hbm, ⟨85, _⟩ => ⟨S_, .f32⟩
  | .hbm, ⟨86, _⟩ => ⟨S512, .f32⟩
  | .hbm, ⟨87, _⟩ => ⟨S1x512, .f32⟩
  | .hbm, ⟨88, _⟩ => ⟨S_, .f32⟩
  | .hbm, ⟨89, _⟩ => ⟨S3x512, .f32⟩
  | .hbm, ⟨90, _⟩ => ⟨S3x512, .f32⟩
  | .hbm, ⟨91, _⟩ => ⟨S_, .f32⟩
  | .hbm, ⟨92, _⟩ => ⟨S8194x512, .f32⟩
  | .hbm, ⟨93, _⟩ => ⟨S8194x512, .f32⟩
  | .hbm, ⟨94, _⟩ => ⟨S1x512, .f32⟩
  | .hbm, ⟨95, _⟩ => ⟨S8192x512, .f32⟩
  | .hbm, ⟨96, _⟩ => ⟨S1x512, .f32⟩
  | .hbm, ⟨97, _⟩ => ⟨S8192x512, .f32⟩
  | .hbm, ⟨98, _⟩ => ⟨S8192x512, .f32⟩
  | .hbm, ⟨99, _⟩ => ⟨S8192x1536, .f32⟩
  | .hbm, ⟨100, _⟩ => ⟨S8192x1536, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== Attention.lean ====
abbrev S4x8192x128 : Shape := ⟨3, ![4, 8192, 128]⟩
abbrev S2x8192x128 : Shape := ⟨3, ![2, 8192, 128]⟩
abbrev S2x256x128 : Shape := ⟨3, ![2, 256, 128]⟩
abbrev S8192x512 : Shape := ⟨2, ![8192, 512]⟩
abbrev S2x8448x128 : Shape := ⟨3, ![2, 8448, 128]⟩
abbrev S_ : Shape := ⟨0, ![]⟩
abbrev S2x2x8192x128 : Shape := ⟨4, ![2, 2, 8192, 128]⟩
abbrev S2x2x8192x8448 : Shape := ⟨4, ![2, 2, 8192, 8448]⟩
abbrev S2x2x8192 : Shape := ⟨3, ![2, 2, 8192]⟩
abbrev S2x2x8192x1 : Shape := ⟨4, ![2, 2, 8192, 1]⟩
abbrev S4x8192x1 : Shape := ⟨3, ![4, 8192, 1]⟩
abbrev S8192x4x128 : Shape := ⟨3, ![8192, 4, 128]⟩
abbrev S1x8448x128 : Shape := ⟨3, ![1, 8448, 128]⟩
abbrev S256x256 : Shape := ⟨2, ![256, 256]⟩
abbrev S2x256x1 : Shape := ⟨3, ![2, 256, 1]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S8448x128 : Shape := ⟨2, ![8448, 128]⟩
abbrev S512x8448 : Shape := ⟨2, ![512, 8448]⟩

abbrev nBuf : Space → Nat
  | .hbm => 36
  | .vmem => 18
  | .smem => 0
  | _ => 0

abbrev bufTy : (tb : Table) → Fin (tcTables nBuf tb) → BufTy
  | .hbm, ⟨0, _⟩ => ⟨S4x8192x128, .f32⟩
  | .hbm, ⟨1, _⟩ => ⟨S2x8192x128, .f32⟩
  | .hbm, ⟨2, _⟩ => ⟨S2x8192x128, .f32⟩
  | .hbm, ⟨3, _⟩ => ⟨S2x256x128, .f32⟩
  | .hbm, ⟨4, _⟩ => ⟨S2x256x128, .f32⟩
  | .hbm, ⟨5, _⟩ => ⟨S8192x512, .f32⟩
  | .hbm, ⟨6, _⟩ => ⟨S2x8448x128, .f32⟩
  | .hbm, ⟨7, _⟩ => ⟨S2x8448x128, .f32⟩
  | .hbm, ⟨8, _⟩ => ⟨S_, .f32⟩
  | .hbm, ⟨9, _⟩ => ⟨S4x8192x128, .f32⟩
  | .hbm, ⟨10, _⟩ => ⟨S4x8192x128, .f32⟩
  | .hbm, ⟨11, _⟩ => ⟨S2x2x8192x128, .f32⟩
  | .hbm, ⟨12, _⟩ => ⟨S2x2x8192x8448, .f32⟩
  | .hbm, ⟨13, _⟩ => ⟨S_, .f32⟩
  | .hbm, ⟨14, _⟩ => ⟨S2x2x8192, .f32⟩
  | .hbm, ⟨15, _⟩ => ⟨S2x2x8192x1, .f32⟩
  | .hbm, ⟨16, _⟩ => ⟨S2x2x8192x8448, .f32⟩
  | .hbm, ⟨17, _⟩ => ⟨S2x2x8192x8448, .f32⟩
  | .hbm, ⟨18, _⟩ => ⟨S2x2x8192x8448, .f32⟩
  | .hbm, ⟨19, _⟩ => ⟨S_, .f32⟩
  | .hbm, ⟨20, _⟩ => ⟨S2x2x8192, .f32⟩
  | .hbm, ⟨21, _⟩ => ⟨S2x2x8192x1, .f32⟩
  | .hbm, ⟨22, _⟩ => ⟨S2x2x8192x128, .f32⟩
  | .hbm, ⟨23, _⟩ => ⟨S2x2x8192x128, .f32⟩
  | .hbm, ⟨24, _⟩ => ⟨S2x2x8192x128, .f32⟩
  | .hbm, ⟨25, _⟩ => ⟨S4x8192x128, .f32⟩
  | .hbm, ⟨26, _⟩ => ⟨S2x2x8192x1, .f32⟩
  | .hbm, ⟨27, _⟩ => ⟨S2x2x8192x1, .f32⟩
  | .hbm, ⟨28, _⟩ => ⟨S4x8192x1, .f32⟩
  | .hbm, ⟨29, _⟩ => ⟨S8192x4x128, .f32⟩
  | .hbm, ⟨30, _⟩ => ⟨S8192x512, .f32⟩
  | .hbm, ⟨31, _⟩ => ⟨S2x8448x128, .bf16⟩
  | .hbm, ⟨32, _⟩ => ⟨S2x8448x128, .bf16⟩
  | .hbm, ⟨33, _⟩ => ⟨S4x8192x128, .f32⟩
  | .hbm, ⟨34, _⟩ => ⟨S2x8448x128, .f32⟩
  | .hbm, ⟨35, _⟩ => ⟨S2x8448x128, .f32⟩
  | .local _ .vmem, ⟨0, _⟩ => ⟨S2x256x128, .f32⟩
  | .local _ .vmem, ⟨1, _⟩ => ⟨S2x256x128, .f32⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S2x256x1, .f32⟩
  | .local _ .vmem, ⟨11, _⟩ => ⟨S2x256x1, .f32⟩
  | .local _ .vmem, ⟨12, _⟩ => ⟨S2x256x128, .f32⟩
  | .local _ .vmem, ⟨13, _⟩ => ⟨S2x256x128, .f32⟩
  | .local _ .vmem, ⟨14, _⟩ => ⟨S1x8448x128, .f32⟩
  | .local _ .vmem, ⟨15, _⟩ => ⟨S1x8448x128, .f32⟩
  | .local _ .vmem, ⟨16, _⟩ => ⟨S1x8448x128, .f32⟩
  | .local _ .vmem, ⟨17, _⟩ => ⟨S1x8448x128, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8448x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8448x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttentionIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== AttentionRefIdeal.lean ====
abbrev S4x8192x128 : Shape := ⟨3, ![4, 8192, 128]⟩
abbrev S2x8192x128 : Shape := ⟨3, ![2, 8192, 128]⟩
abbrev S2x256x128 : Shape := ⟨3, ![2, 256, 128]⟩
abbrev S8192x512 : Shape := ⟨2, ![8192, 512]⟩
abbrev S2x8448x128 : Shape := ⟨3, ![2, 8448, 128]⟩
abbrev S2x2x8192x128 : Shape := ⟨4, ![2, 2, 8192, 128]⟩
abbrev S2x2x8192x8448 : Shape := ⟨4, ![2, 2, 8192, 8448]⟩
abbrev S_ : Shape := ⟨0, ![]⟩
abbrev S2x2x8192 : Shape := ⟨3, ![2, 2, 8192]⟩
abbrev S2x2x8192x1 : Shape := ⟨4, ![2, 2, 8192, 1]⟩
abbrev S8192x2x2x128 : Shape := ⟨4, ![8192, 2, 2, 128]⟩
abbrev S2x128x8448 : Shape := ⟨3, ![2, 128, 8448]⟩

abbrev nBuf : Space → Nat
  | .hbm => 79
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S2x8192x128, .f32⟩
  | .hbm, ⟨2, _⟩ => ⟨S2x8192x128, .f32⟩
  | .hbm, ⟨3, _⟩ => ⟨S2x256x128, .f32⟩
  | .hbm, ⟨4, _⟩ => ⟨S2x256x128, .f32⟩
  | .hbm, ⟨5, _⟩ => ⟨S8192x512, .f32⟩
  | .hbm, ⟨6, _⟩ => ⟨S2x8448x128, .f32⟩
  | .hbm, ⟨7, _⟩ => ⟨S2x8448x128, .f32⟩
  | .hbm, ⟨8, _⟩ => ⟨S2x2x8192x128, .f32⟩
  | .hbm, ⟨9, _⟩ => ⟨S2x2x8192x8448, .f32⟩
  | .hbm, ⟨10, _⟩ => ⟨S_, .f32⟩
  | .hbm, ⟨11, _⟩ => ⟨S2x2x8192x8448, .f32⟩
  | .hbm, ⟨12, _⟩ => ⟨S2x2x8192x8448, .f32⟩
  | .hbm, ⟨13, _⟩ => ⟨S_, .f32⟩
  | .hbm, ⟨14, _⟩ => ⟨S2x2x8192, .f32⟩
  | .hbm, ⟨15, _⟩ => ⟨S2x2x8192x1, .f32⟩
  | .hbm, ⟨16, _⟩ => ⟨S2x2x8192x8448, .f32⟩
  | .hbm, ⟨17, _⟩ => ⟨S2x2x8192x8448, .i1⟩
  | .hbm, ⟨18, _⟩ => ⟨S2x2x8192x8448, .f32⟩
  | .hbm, ⟨19, _⟩ => ⟨S_, .f32⟩
  | .hbm, ⟨20, _⟩ => ⟨S2x2x8192, .f32⟩
  | .hbm, ⟨21, _⟩ => ⟨S_, .f32⟩
  | .hbm, ⟨22, _⟩ => ⟨S2x2x8192, .f32⟩
  | .hbm, ⟨23, _⟩ => ⟨S2x2x8192, .f32⟩
  | .hbm, ⟨24, _⟩ => ⟨S_, .f32⟩
  | .hbm, ⟨25, _⟩ => ⟨S2x2x8192, .f32⟩
  | .hbm, ⟨26, _⟩ => ⟨S2x2x8192, .i1⟩
  | .hbm, ⟨27, _⟩ => ⟨S_, .f32⟩
  | .hbm, ⟨28, _⟩ => ⟨S2x2x8192, .f32⟩
  | .hbm, ⟨29, _⟩ => ⟨S2x2x8192, .i1⟩
  | .hbm, ⟨30, _⟩ => ⟨S_, .f32⟩
  | .hbm, ⟨31, _⟩ => ⟨S2x2x8192, .f32⟩
  | .hbm, ⟨32, _⟩ => ⟨S_, .f32⟩
  | .hbm, ⟨33, _⟩ => ⟨S2x2x8192, .f32⟩
  | .hbm, ⟨34, _⟩ => ⟨S_, .f32⟩
  | .hbm, ⟨35, _⟩ => ⟨S2x2x8192, .f32⟩
  | .hbm, ⟨36, _⟩ => ⟨S2x2x8192, .f32⟩
  | .hbm, ⟨37, _⟩ => ⟨S2x2x8192, .f32⟩
  | .hbm, ⟨38, _⟩ => ⟨S2x2x8192x1, .f32⟩
  | .hbm, ⟨39, _⟩ => ⟨S2x2x8192x8448, .f32⟩
  | .hbm, ⟨40, _⟩ => ⟨S2x2x8192x8448, .f32⟩
  | .hbm, ⟨41, _⟩ => ⟨S2x2x8192x8448, .f32⟩
  | .hbm, ⟨42, _⟩ => ⟨S_, .f32⟩
  | .hbm, ⟨43, _⟩ => ⟨S2x2x8192, .f32⟩
  | .hbm, ⟨44, _⟩ => ⟨S2x2x8192x1, .f32⟩
  | .hbm, ⟨45, _⟩ => ⟨S2x2x8192x8448, .f32⟩
  | .hbm, ⟨46, _⟩ => ⟨S2x2x8192x8448, .f32⟩
  | .hbm, ⟨47, _⟩ => ⟨S2x2x8192x1, .f32⟩
  | .hbm, ⟨48, _⟩ => ⟨S_, .f32⟩
  | .hbm, ⟨49, _⟩ => ⟨S2x2x8192x1, .f32⟩
  | .hbm, ⟨50, _⟩ => ⟨S2x2x8192x1, .f32⟩
  | .hbm, ⟨51, _⟩ => ⟨S2x2x8192x128, .f32⟩
  | .hbm, ⟨52, _⟩ => ⟨S8192x2x2x128, .f32⟩
  | .hbm, ⟨53, _⟩ => ⟨S8192x512, .f32⟩
  | .hbm, ⟨54, _⟩ => ⟨S8192x2x2x128, .f32⟩
  | .hbm, ⟨55, _⟩ => ⟨S2x2x8192x128, .f32⟩
  | .hbm, ⟨56, _⟩ => ⟨S2x128x8448, .f32⟩
  | .hbm, ⟨57, _⟩ => ⟨S2x8448x128, .f32⟩
  | .hbm, ⟨58, _⟩ => ⟨S2x2x8192x8448, .f32⟩
  | .hbm, ⟨59, _⟩ => ⟨S2x2x8192x8448, .f32⟩
  | .hbm, ⟨60, _⟩ => ⟨S2x2x8192x8448, .f32⟩
  | .hbm, ⟨61, _⟩ => ⟨S2x2x8192x8448, .f32⟩
  | .hbm, ⟨62, _⟩ => ⟨S_, .f32⟩
  | .hbm, ⟨63, _⟩ => ⟨S2x2x8192, .f32⟩
  | .hbm, ⟨64, _⟩ => ⟨S2x2x8192x1, .f32⟩
  | .hbm, ⟨65, _⟩ => ⟨S2x2x8192x1, .f32⟩
  | .hbm, ⟨66, _⟩ => ⟨S2x2x8192x8448, .f32⟩
  | .hbm, ⟨67, _⟩ => ⟨S2x2x8192x8448, .f32⟩
  | .hbm, ⟨68, _⟩ => ⟨S_, .f32⟩
  | .hbm, ⟨69, _⟩ => ⟨S2x2x8192, .f32⟩
  | .hbm, ⟨70, _⟩ => ⟨S2x2x8192x8448, .f32⟩
  | .hbm, ⟨71, _⟩ => ⟨S2x2x8192x8448, .f32⟩
  | .hbm, ⟨72, _⟩ => ⟨S2x2x8192x8448, .f32⟩
  | .hbm, ⟨73, _⟩ => ⟨S_, .f32⟩
  | .hbm, ⟨74, _⟩ => ⟨S2x2x8192x8448, .f32⟩
  | .hbm, ⟨75, _⟩ => ⟨S2x2x8192x8448, .f32⟩
  | .hbm, ⟨76, _⟩ => ⟨S2x8448x128, .f32⟩
  | .hbm, ⟨77, _⟩ => ⟨S2x2x8192x128, .f32⟩
  | .hbm, ⟨78, _⟩ => ⟨S4x8192x128, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Glu.lean ====
abbrev S8192x5632 : Shape := ⟨2, ![8192, 5632]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S8194x2816 : Shape := ⟨2, ![8194, 2816]⟩
abbrev S2816 : Shape := ⟨1, ![2816]⟩
abbrev S256x1024 : Shape := ⟨2, ![256, 1024]⟩
abbrev S16x1024 : Shape := ⟨2, ![16, 1024]⟩
abbrev S256x5632 : Shape := ⟨2, ![256, 5632]⟩
abbrev S8x2816 : Shape := ⟨2, ![8, 2816]⟩
abbrev S256x2816 : Shape := ⟨2, ![256, 2816]⟩
abbrev S288x1024 : Shape := ⟨2, ![288, 1024]⟩
abbrev S288x256 : Shape := ⟨2, ![288, 256]⟩
abbrev S272x256 : Shape := ⟨2, ![272, 256]⟩
abbrev S8x256 : Shape := ⟨2, ![8, 256]⟩
abbrev S256x256 : Shape := ⟨2, ![256, 256]⟩
abbrev S1x256 : Shape := ⟨2, ![1, 256]⟩
abbrev S3x256 : Shape := ⟨2, ![3, 256]⟩
abbrev S256 : Shape := ⟨1, ![256]⟩

abbrev nBuf : Space → Nat
  | .hbm => 41
  | .vmem => 26
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S1x2816, .f32⟩
  | .hbm, ⟨3, _⟩ => ⟨S2816x1024, .f32⟩
  | .hbm, ⟨4, _⟩ => ⟨S8192x1024, .bf16⟩
  | .hbm, ⟨5, _⟩ => ⟨S8192x2816, .f32⟩
  | .hbm, ⟨6, _⟩ => ⟨S_, .f32⟩
  | .hbm, ⟨7, _⟩ => ⟨S1x2816, .f32⟩
  | .hbm, ⟨8, _⟩ => ⟨S_, .f32⟩
  | .hbm, ⟨9, _⟩ => ⟨S1x2816, .f32⟩
  | .hbm, ⟨10, _⟩ => ⟨S8194x2816, .f32⟩
  | .hbm, ⟨11, _⟩ => ⟨S8192x2816, .f32⟩
  | .hbm, ⟨12, _⟩ => ⟨S1x2816, .f32⟩
  | .hbm, ⟨13, _⟩ => ⟨S2816, .f32⟩
  | .hbm, ⟨14, _⟩ => ⟨S1x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S2816x1024, .bf16⟩
  | .hbm, ⟨37, _⟩ => ⟨S8192x2816, .bf16⟩
  | .hbm, ⟨38, _⟩ => ⟨S8192x2816, .bf16⟩
  | .hbm, ⟨39, _⟩ => ⟨S3x2816, .f32⟩
  | .hbm, ⟨40, _⟩ => ⟨S1x2816, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S2816x1024, .bf16⟩
  | .local _ .vmem, ⟨7, _⟩ => ⟨S256x5632, .f32⟩
  | .local _ .vmem, ⟨8, _⟩ => ⟨S256x5632, .f32⟩
  | .local _ .vmem, ⟨9, _⟩ => ⟨S8x2816, .f32⟩
  | .local _ .vmem, ⟨10, _⟩ => ⟨S8x2816, .f32⟩
  | .local _ .vmem, ⟨11, _⟩ => ⟨S8x2816, .f32⟩
  | .local _ .vmem, ⟨12, _⟩ => ⟨S8x2816, .f32⟩
  | .local _ .vmem, ⟨13, _⟩ => ⟨S256x2816, .f32⟩
  | .local _ .vmem, ⟨14, _⟩ => ⟨S256x2816, .f32⟩
  | .local _ .vmem, ⟨15, _⟩ => ⟨S8x2816, .f32⟩
  | .local _ .vmem, ⟨16, _⟩ => ⟨S8x2816, .f32⟩
  | .local _ .vmem, ⟨17, _⟩ => ⟨S8x2816, .f32⟩
  | .local _ .vmem, ⟨18, _⟩ => ⟨S8x2816, .f32⟩
  | .local _ .vmem, ⟨19, _⟩ => ⟨S3x2816, .f32⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S3x2816, .f32⟩
  | .local _ .vmem, ⟨25, _⟩ => ⟨S1x2816, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v29_2 : Ref sig .tc := ⟨.hbm, 39, rfl⟩
abbrev main_v29_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GluRefIdeal.lean ====
abbrev S8192x5632 : Shape := ⟨2, ![8192, 5632]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S8194x2816 : Shape := ⟨2, ![8194, 2816]⟩
abbrev S2816 : Shape := ⟨1, ![2816]⟩

abbrev nBuf : Space → Nat
  | .hbm => 115
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S1x2816, .f32⟩
  | .hbm, ⟨3, _⟩ => ⟨S2816x1024, .f32⟩
  | .hbm, ⟨4, _⟩ => ⟨S8192x1024, .bf16⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S1x2816, .f32⟩
  | .hbm, ⟨9, _⟩ => ⟨S_, .f32⟩
  | .hbm, ⟨10, _⟩ => ⟨S1x2816, .f32⟩
  | .hbm, ⟨11, _⟩ => ⟨S8194x2816, .f32⟩
  | .hbm, ⟨12, _⟩ => ⟨S_, .f32⟩
  | .hbm, ⟨13, _⟩ => ⟨S1x2816, .f32⟩
  | .hbm, ⟨14, _⟩ => ⟨S_, .f32⟩
  | .hbm, ⟨15, _⟩ => ⟨S1x2816, .f32⟩
  | .hbm, ⟨16, _⟩ => ⟨S8192x2816, .f32⟩
  | .hbm, ⟨17, _⟩ => ⟨S1x2816, .f32⟩
  | .hbm, ⟨18, _⟩ => ⟨S2816, .f32⟩
  | .hbm, ⟨19, _⟩ => ⟨S1x2816, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S1x2816, .f32⟩
  | .hbm, ⟨27, _⟩ => ⟨S2816, .f32⟩
  | .hbm, ⟨28, _⟩ => ⟨S1x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S1x2816, .f32⟩
  | .hbm, ⟨34, _⟩ => ⟨S2816, .f32⟩
  | .hbm, ⟨35, _⟩ => ⟨S1x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x1024, .f32⟩
  | .hbm, ⟨56, _⟩ => ⟨S8192x1024, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S_, .f32⟩
  | .hbm, ⟨65, _⟩ => ⟨S2816, .f32⟩
  | .hbm, ⟨66, _⟩ => ⟨S1x2816, .f32⟩
  | .hbm, ⟨67, _⟩ => ⟨S8192x2816, .f32⟩
  | .hbm, ⟨68, _⟩ => ⟨S_, .f32⟩
  | .hbm, ⟨69, _⟩ => ⟨S2816, .f32⟩
  | .hbm, ⟨70, _⟩ => ⟨S1x2816, .f32⟩
  | .hbm, ⟨71, _⟩ => ⟨S8192x2816, .f32⟩
  | .hbm, ⟨72, _⟩ => ⟨S8192x2816, .f32⟩
  | .hbm, ⟨73, _⟩ => ⟨S_, .f32⟩
  | .hbm, ⟨74, _⟩ => ⟨S2816, .f32⟩
  | .hbm, ⟨75, _⟩ => ⟨S1x2816, .f32⟩
  | .hbm, ⟨76, _⟩ => ⟨S_, .f32⟩
  | .hbm, ⟨77, _⟩ => ⟨S3x2816, .f32⟩
  | .hbm, ⟨78, _⟩ => ⟨S_, .f32⟩
  | .hbm, ⟨79, _⟩ => ⟨S8194x2816, .f32⟩
  | .hbm, ⟨80, _⟩ => ⟨S8192x2816, .f32⟩
  | .hbm, ⟨81, _⟩ => ⟨S_, .f32⟩
  | .hbm, ⟨82, _⟩ => ⟨S2816, .f32⟩
  | .hbm, ⟨83, _⟩ => ⟨S1x2816, .f32⟩
  | .hbm, ⟨84, _⟩ => ⟨S8192x2816, .f32⟩
  | .hbm, ⟨85, _⟩ => ⟨S8192x2816, .f32⟩
  | .hbm, ⟨86, _⟩ => ⟨S_, .f32⟩
  | .hbm, ⟨87, _⟩ => ⟨S2816, .f32⟩
  | .hbm, ⟨88, _⟩ => ⟨S1x2816, .f32⟩
  | .hbm, ⟨89, _⟩ => ⟨S_, .f32⟩
  | .hbm, ⟨90, _⟩ => ⟨S3x2816, .f32⟩
  | .hbm, ⟨91, _⟩ => ⟨S3x2816, .f32⟩
  | .hbm, ⟨92, _⟩ => ⟨S_, .f32⟩
  | .hbm, ⟨93, _⟩ => ⟨S8194x2816, .f32⟩
  | .hbm, ⟨94, _⟩ => ⟨S8194x2816, .f32⟩
  | .hbm, ⟨95, _⟩ => ⟨S8192x2816, .f32⟩
  | .hbm, ⟨96, _⟩ => ⟨S_, .f32⟩
  | .hbm, ⟨97, _⟩ => ⟨S2816, .f32⟩
  | .hbm, ⟨98, _⟩ => ⟨S1x2816, .f32⟩
  | .hbm, ⟨99, _⟩ => ⟨S8192x2816, .f32⟩
  | .hbm, ⟨100, _⟩ => ⟨S8192x2816, .f32⟩
  | .hbm, ⟨101, _⟩ => ⟨S_, .f32⟩
  | .hbm, ⟨102, _⟩ => ⟨S2816, .f32⟩
  | .hbm, ⟨103, _⟩ => ⟨S1x2816, .f32⟩
  | .hbm, ⟨104, _⟩ => ⟨S_, .f32⟩
  | .hbm, ⟨105, _⟩ => ⟨S3x2816, .f32⟩
  | .hbm, ⟨106, _⟩ => ⟨S3x2816, .f32⟩
  | .hbm, ⟨107, _⟩ => ⟨S_, .f32⟩
  | .hbm, ⟨108, _⟩ => ⟨S8194x2816, .f32⟩
  | .hbm, ⟨109, _⟩ => ⟨S8194x2816, .f32⟩
  | .hbm, ⟨110, _⟩ => ⟨S1x2816, .f32⟩
  | .hbm, ⟨111, _⟩ => ⟨S8192x2816, .f32⟩
  | .hbm, ⟨112, _⟩ => ⟨S1x2816, .f32⟩
  | .hbm, ⟨113, _⟩ => ⟨S8192x2816, .bf16⟩
  | .hbm, ⟨114, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v31_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v31_1 : Ref sig .tc := ⟨.hbm, 52, rfl⟩
abbrev main_v31_0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_cst_16 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== QkvCtx.lean ====
abbrev S256x512 : Shape := ⟨2, ![256, 512]⟩
abbrev S1x128 : Shape := ⟨2, ![1, 128]⟩
abbrev S2x8448x128 : Shape := ⟨3, ![2, 8448, 128]⟩
abbrev S256x1024 : Shape := ⟨2, ![256, 1024]⟩
abbrev S2x256x128 : Shape := ⟨3, ![2, 256, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S128 : Shape := ⟨1, ![128]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S1x128, .f32⟩
  | .hbm, ⟨2, _⟩ => ⟨S1x128, .f32⟩
  | .hbm, ⟨3, _⟩ => ⟨S2x8448x128, .f32⟩
  | .hbm, ⟨4, _⟩ => ⟨S2x8448x128, .f32⟩
  | .hbm, ⟨5, _⟩ => ⟨S256x1024, .bf16⟩
  | .hbm, ⟨6, _⟩ => ⟨S1x128, .f32⟩
  | .hbm, ⟨7, _⟩ => ⟨S1x128, .f32⟩
  | .local _ .vmem, ⟨0, _⟩ => ⟨S256x512, .f32⟩
  | .local _ .vmem, ⟨1, _⟩ => ⟨S2x256x128, .f32⟩
  | .local _ .vmem, ⟨2, _⟩ => ⟨S2x256x128, .f32⟩
  | .local _ .vmem, ⟨3, _⟩ => ⟨S1x128, .f32⟩
  | .local _ .vmem, ⟨4, _⟩ => ⟨S1x128, .f32⟩
  | .local _ .vmem, ⟨5, _⟩ => ⟨S256x1024, .bf16⟩
  | .local _ .vmem, ⟨6, _⟩ => ⟨S1x128, .f32⟩
  | .local _ .vmem, ⟨7, _⟩ => ⟨S1x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QkvCtxRefIdeal.lean ====
abbrev S256x512 : Shape := ⟨2, ![256, 512]⟩
abbrev S1x128 : Shape := ⟨2, ![1, 128]⟩
abbrev S2x8448x128 : Shape := ⟨3, ![2, 8448, 128]⟩
abbrev S256x256 : Shape := ⟨2, ![256, 256]⟩
abbrev S256x2x128 : Shape := ⟨3, ![256, 2, 128]⟩
abbrev S_ : Shape := ⟨0, ![]⟩
abbrev S256x2 : Shape := ⟨2, ![256, 2]⟩
abbrev S256x2x1 : Shape := ⟨3, ![256, 2, 1]⟩
abbrev S1x1x128 : Shape := ⟨3, ![1, 1, 128]⟩
abbrev S2x256x128 : Shape := ⟨3, ![2, 256, 128]⟩
abbrev S128 : Shape := ⟨1, ![128]⟩
abbrev S256x1024 : Shape := ⟨2, ![256, 1024]⟩

abbrev nBuf : Space → Nat
  | .hbm => 70
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S1x128, .f32⟩
  | .hbm, ⟨2, _⟩ => ⟨S1x128, .f32⟩
  | .hbm, ⟨3, _⟩ => ⟨S2x8448x128, .f32⟩
  | .hbm, ⟨4, _⟩ => ⟨S2x8448x128, .f32⟩
  | .hbm, ⟨5, _⟩ => ⟨S256x256, .f32⟩
  | .hbm, ⟨6, _⟩ => ⟨S256x256, .f32⟩
  | .hbm, ⟨7, _⟩ => ⟨S256x2x128, .f32⟩
  | .hbm, ⟨8, _⟩ => ⟨S256x2x128, .f32⟩
  | .hbm, ⟨9, _⟩ => ⟨S_, .f32⟩
  | .hbm, ⟨10, _⟩ => ⟨S256x2, .f32⟩
  | .hbm, ⟨11, _⟩ => ⟨S256x2x1, .f32⟩
  | .hbm, ⟨12, _⟩ => ⟨S_, .f32⟩
  | .hbm, ⟨13, _⟩ => ⟨S256x2x1, .f32⟩
  | .hbm, ⟨14, _⟩ => ⟨S256x2x1, .f32⟩
  | .hbm, ⟨15, _⟩ => ⟨S_, .f32⟩
  | .hbm, ⟨16, _⟩ => ⟨S256x2x1, .f32⟩
  | .hbm, ⟨17, _⟩ => ⟨S256x2x1, .f32⟩
  | .hbm, ⟨18, _⟩ => ⟨S256x2x1, .f32⟩
  | .hbm, ⟨19, _⟩ => ⟨S256x2x1, .f32⟩
  | .hbm, ⟨20, _⟩ => ⟨S_, .f32⟩
  | .hbm, ⟨21, _⟩ => ⟨S256x2x1, .f32⟩
  | .hbm, ⟨22, _⟩ => ⟨S256x2x1, .f32⟩
  | .hbm, ⟨23, _⟩ => ⟨S256x2x128, .f32⟩
  | .hbm, ⟨24, _⟩ => ⟨S256x2x128, .f32⟩
  | .hbm, ⟨25, _⟩ => ⟨S1x1x128, .f32⟩
  | .hbm, ⟨26, _⟩ => ⟨S256x2x128, .f32⟩
  | .hbm, ⟨27, _⟩ => ⟨S256x2x128, .f32⟩
  | .hbm, ⟨28, _⟩ => ⟨S2x256x128, .f32⟩
  | .hbm, ⟨29, _⟩ => ⟨S256x2x128, .f32⟩
  | .hbm, ⟨30, _⟩ => ⟨S2x256x128, .f32⟩
  | .hbm, ⟨31, _⟩ => ⟨S2x256x128, .f32⟩
  | .hbm, ⟨32, _⟩ => ⟨S2x256x128, .f32⟩
  | .hbm, ⟨33, _⟩ => ⟨S256x2x128, .f32⟩
  | .hbm, ⟨34, _⟩ => ⟨S256x256, .f32⟩
  | .hbm, ⟨35, _⟩ => ⟨S256x2x128, .f32⟩
  | .hbm, ⟨36, _⟩ => ⟨S256x2x128, .f32⟩
  | .hbm, ⟨37, _⟩ => ⟨S_, .f32⟩
  | .hbm, ⟨38, _⟩ => ⟨S128, .f32⟩
  | .hbm, ⟨39, _⟩ => ⟨S1x1x128, .f32⟩
  | .hbm, ⟨40, _⟩ => ⟨S256x2x128, .f32⟩
  | .hbm, ⟨41, _⟩ => ⟨S256x2x128, .f32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S256x2x128, .f32⟩
  | .hbm, ⟨46, _⟩ => ⟨S_, .f32⟩
  | .hbm, ⟨47, _⟩ => ⟨S256x2, .f32⟩
  | .hbm, ⟨48, _⟩ => ⟨S256x2x1, .f32⟩
  | .hbm, ⟨49, _⟩ => ⟨S256x2x128, .f32⟩
  | .hbm, ⟨50, _⟩ => ⟨S256x2x128, .f32⟩
  | .hbm, ⟨51, _⟩ => ⟨S256x2x1, .f32⟩
  | .hbm, ⟨52, _⟩ => ⟨S_, .f32⟩
  | .hbm, ⟨53, _⟩ => ⟨S256x2x1, .f32⟩
  | .hbm, ⟨54, _⟩ => ⟨S256x2x1, .f32⟩
  | .hbm, ⟨55, _⟩ => ⟨S_, .f32⟩
  | .hbm, ⟨56, _⟩ => ⟨S256x2, .f32⟩
  | .hbm, ⟨57, _⟩ => ⟨S256x2x128, .f32⟩
  | .hbm, ⟨58, _⟩ => ⟨S256x2x128, .f32⟩
  | .hbm, ⟨59, _⟩ => ⟨S256x2x128, .f32⟩
  | .hbm, ⟨60, _⟩ => ⟨S256x2x128, .f32⟩
  | .hbm, ⟨61, _⟩ => ⟨S256x2x128, .f32⟩
  | .hbm, ⟨62, _⟩ => ⟨S256x256, .f32⟩
  | .hbm, ⟨63, _⟩ => ⟨S256x512, .f32⟩
  | .hbm, ⟨64, _⟩ => ⟨S_, .f32⟩
  | .hbm, ⟨65, _⟩ => ⟨S1x128, .f32⟩
  | .hbm, ⟨66, _⟩ => ⟨S_, .f32⟩
  | .hbm, ⟨67, _⟩ => ⟨S256x512, .f32⟩
  | .hbm, ⟨68, _⟩ => ⟨S256x1024, .f32⟩
  | .hbm, ⟨69, _⟩ => ⟨S256x1024, .bf16⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== FfnUpLast.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S5632x1024 : Shape := ⟨2, ![5632, 1024]⟩
abbrev S256x2816 : Shape := ⟨2, ![256, 2816]⟩
abbrev S256x1024 : Shape := ⟨2, ![256, 1024]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x2816, .bf16⟩
  | .hbm, ⟨6, _⟩ => ⟨S8192x2816, .bf16⟩
  | .hbm, ⟨7, _⟩ => ⟨S8192x1024, .f32⟩
  | .hbm, ⟨8, _⟩ => ⟨S5632x1024, .f32⟩
  | .hbm, ⟨9, _⟩ => ⟨S5632x1024, .bf16⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S5632x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnUpLastRefIdeal.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x2816, .bf16⟩
  | .hbm, ⟨6, _⟩ => ⟨S8192x2816, .bf16⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x5632, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x5632, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S1024x2560 : Shape := ⟨2, ![1024, 2560]⟩
abbrev S8192x1536 : Shape := ⟨2, ![8192, 1536]⟩
abbrev S2560x1024 : Shape := ⟨2, ![2560, 1024]⟩
abbrev S512x1024 : Shape := ⟨2, ![512, 1024]⟩
abbrev S512x1536 : Shape := ⟨2, ![512, 1536]⟩
abbrev S256x1024 : Shape := ⟨2, ![256, 1024]⟩
abbrev S1024x1024 : Shape := ⟨2, ![1024, 1024]⟩
abbrev S256x1536 : Shape := ⟨2, ![256, 1536]⟩
abbrev S1536x1024 : Shape := ⟨2, ![1536, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2560, .f32⟩
  | .hbm, ⟨5, _⟩ => ⟨S8192x1024, .bf16⟩
  | .hbm, ⟨6, _⟩ => ⟨S8192x1536, .bf16⟩
  | .hbm, ⟨7, _⟩ => ⟨S8192x1024, .f32⟩
  | .hbm, ⟨8, _⟩ => ⟨S2560x1024, .f32⟩
  | .hbm, ⟨9, _⟩ => ⟨S2560x1024, .bf16⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S2560x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InProjRefIdeal.lean ====
abbrev S8192x1024 : Shape := ⟨2, ![8192, 1024]⟩
abbrev S1x1024 : Shape := ⟨2, ![1, 1024]⟩
abbrev S1024x2560 : Shape := ⟨2, ![1024, 2560]⟩
abbrev S8192x1536 : Shape := ⟨2, ![8192, 1536]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2560, .f32⟩
  | .hbm, ⟨5, _⟩ => ⟨S8192x1024, .bf16⟩
  | .hbm, ⟨6, _⟩ => ⟨S8192x1536, .bf16⟩
  | .hbm, ⟨7, _⟩ => ⟨S8192x1024, .f32⟩
  | .hbm, ⟨8, _⟩ => ⟨S8192x1024, .f32⟩
  | .hbm, ⟨9, _⟩ => ⟨S8192x1536, .f32⟩
  | .hbm, ⟨10, _⟩ => ⟨S8192x2560, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x2560, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== FfnUp.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S5632x1024 : Shape := ⟨2, ![5632, 1024]⟩
abbrev S256x2816 : Shape := ⟨2, ![256, 2816]⟩
abbrev S256x1024 : Shape := ⟨2, ![256, 1024]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 21
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S8192x2816, .bf16⟩
  | .hbm, ⟨8, _⟩ => ⟨S8192x2816, .bf16⟩
  | .hbm, ⟨9, _⟩ => ⟨S8192x1024, .f32⟩
  | .hbm, ⟨10, _⟩ => ⟨S5632x1024, .f32⟩
  | .hbm, ⟨11, _⟩ => ⟨S5632x1024, .bf16⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S5632x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnUpRefIdeal.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S8192x2816, .bf16⟩
  | .hbm, ⟨8, _⟩ => ⟨S8192x2816, .bf16⟩
  | .hbm, ⟨9, _⟩ => ⟨S8192x1024, .f32⟩
  | .hbm, ⟨10, _⟩ => ⟨S8192x2816, .f32⟩
  | .hbm, ⟨11, _⟩ => ⟨S8192x2816, .f32⟩
  | .hbm, ⟨12, _⟩ => ⟨S8192x5632, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x5632, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Loss.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S2816x1024, .bf16⟩
  | .hbm, ⟨6, _⟩ => ⟨S8192x1024, .f32⟩
  | .hbm, ⟨7, _⟩ => ⟨S8192x1024, .bf16⟩
  | .hbm, ⟨8, _⟩ => ⟨S1x128, .f32⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S1024 : Shape := ⟨1, ![1024]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .bf16⟩
  | .hbm, ⟨40, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Cond.lean ====
abbrev S8x1024 : Shape := ⟨2, ![8, 1024]⟩
abbrev S1024 : Shape := ⟨1, ![1024]⟩
abbrev S8x1x1024 : Shape := ⟨3, ![8, 1, 1024]⟩
abbrev S1x1x1024 : Shape := ⟨3, ![1, 1, 1024]⟩
abbrev S1x1024 : Shape := ⟨2, ![1, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .local _ .vmem, ⟨0, _⟩ => ⟨S8x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== CondRefIdeal.lean ====
abbrev S8x1024 : Shape := ⟨2, ![8, 1024]⟩
abbrev S1024 : Shape := ⟨1, ![1024]⟩
abbrev S_ : Shape := ⟨0, ![]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1x1x1024, .f32⟩
  | .hbm, ⟨57, _⟩ => ⟨S1x1x1024, .f32⟩
  | .hbm, ⟨58, _⟩ => ⟨S1x1x1024, .f32⟩
  | .hbm, ⟨59, _⟩ => ⟨S1x1x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_cst : Ref sig .tc := ⟨.hbm, 17, rfl⟩
abbrev main_v1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_2 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_3 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_4 : Ref sig .tc := ⟨.hbm, 38, rfl⟩
abbrev main_v14 : Ref sig .tc := ⟨.hbm, 39, rfl⟩
abbrev main_v15 : Ref sig .tc := ⟨.hbm, 40, rfl⟩
abbrev main_cst_5 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_6 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_7 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩

abbrev nD : Nat := 1
abbrev τ : Topo := Topo.v7x

variable {F : FTy → Type} [FloatOps F]
-- ==== Pool.lean ====
abbrev S8192x1024 : Shape := ⟨2, ![8192, 1024]⟩
abbrev S1x1024 : Shape := ⟨2, ![1, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S8193x1024 : Shape := ⟨2, ![8193, 1024]⟩
abbrev S8193x256 : Shape := ⟨2, ![8193, 256]⟩
abbrev S8192x256 : Shape := ⟨2, ![8192, 256]⟩
abbrev S8192x1x256 : Shape := ⟨3, ![8192, 1, 256]⟩
abbrev S8192x4x256 : Shape := ⟨3, ![8192, 4, 256]⟩
abbrev S4x256x8192 : Shape := ⟨3, ![4, 256, 8192]⟩
abbrev S256x1024 : Shape := ⟨2, ![256, 1024]⟩
abbrev S8x1024 : Shape := ⟨2, ![8, 1024]⟩
abbrev S1024 : Shape := ⟨1, ![1024]⟩
abbrev S272x1024 : Shape := ⟨2, ![272, 1024]⟩
abbrev S272x1 : Shape := ⟨2, ![272, 1]⟩
abbrev S272 : Shape := ⟨1, ![272]⟩
abbrev S272x256 : Shape := ⟨2, ![272, 256]⟩
abbrev S256x256 : Shape := ⟨2, ![256, 256]⟩
abbrev S256x1 : Shape := ⟨2, ![256, 1]⟩
abbrev S1x256x256 : Shape := ⟨3, ![1, 256, 256]⟩
abbrev S256 : Shape := ⟨1, ![256]⟩

abbrev nBuf : Space → Nat
  | .hbm => 268
  | .vmem => 34
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S4x256x256, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S1x1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S1x1024, .f32⟩
  | 37 => ⟨S_, .f32⟩
  | 38 => ⟨S_, .f32⟩
  | 39 => ⟨S8192x1024, .f32⟩
  | 40 => ⟨S8193x1024, .f32⟩
  | 41 => ⟨S8192, .i32⟩
  | 42 => ⟨S_, .i32⟩
  | 43 => ⟨S8192, .i32⟩
  | 44 => ⟨S8192, .i32⟩
  | 45 => ⟨S_, .i32⟩
  | 46 => ⟨S_, .i32⟩
  | 47 => ⟨S_, .i32⟩
  | 48 => ⟨S8192, .i32⟩
  | 49 => ⟨S8192, .i32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S_, .i32⟩
  | 60 => ⟨S_, .i32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S8193x256, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x256, .f32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S8192x256, .f32⟩
  | 86 => ⟨S8192x256, .f32⟩
  | 87 => ⟨S8192, .i32⟩
  | 88 => ⟨S8192, .f32⟩
  | 89 => ⟨S8192x1, .f32⟩
  | 90 => ⟨S8192x256, .f32⟩
  | 91 => ⟨S8192x256, .f32⟩
  | 92 => ⟨S8192x256, .f32⟩
  | 93 => ⟨S8192x256, .f32⟩
  | 94 => ⟨S_, .i32⟩
  | 95 => ⟨S8192, .i32⟩
  | 96 => ⟨S8192, .i32⟩
  | 97 => ⟨S_, .i32⟩
  | 98 => ⟨S_, .i32⟩
  | 99 => ⟨S_, .i32⟩
  | 100 => ⟨S8192, .i32⟩
  | 101 => ⟨S8192, .i32⟩
  | 102 => ⟨S_, .i32⟩
  | 103 => ⟨S8192, .i32⟩
  | 104 => ⟨S8192, .i32⟩
  | 105 => ⟨S_, .i32⟩
  | 106 => ⟨S8192, .i32⟩
  | 107 => ⟨S8192, .i32⟩
  | 108 => ⟨S_, .i32⟩
  | 109 => ⟨S8192, .i32⟩
  | 110 => ⟨S8192, .i32⟩
  | 111 => ⟨S_, .i32⟩
  | 112 => ⟨S_, .i32⟩
  | 113 => ⟨S_, .i32⟩
  | 114 => ⟨S8192, .i32⟩
  | 115 => ⟨S8192, .i32⟩
  | 116 => ⟨S_, .i32⟩
  | 117 => ⟨S8192, .i32⟩
  | 118 => ⟨S8192, .i32⟩
  | 119 => ⟨S8193x256, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S8192x1024, .f32⟩

abbrev hbmTy0_1 (i : Nat) : BufTy := match i % 128 with
  | 0 => ⟨S8192x256, .f32⟩
  | 1 => ⟨S_, .i32⟩
  | 2 => ⟨S8192, .i32⟩
  | 3 => ⟨S8192, .i1⟩
  | 4 => ⟨S_, .i32⟩
  | 5 => ⟨S8192, .i32⟩
  | 6 => ⟨S8192, .i32⟩
  | 7 => ⟨S8192, .i32⟩
  | 8 => ⟨S8192x1, .i32⟩
  | 9 => ⟨S8192x256, .f32⟩
  | 10 => ⟨S8192x256, .f32⟩
  | 11 => ⟨S8192, .i32⟩
  | 12 => ⟨S8192, .f32⟩
  | 13 => ⟨S8192x1, .f32⟩
  | 14 => ⟨S8192x256, .f32⟩
  | 15 => ⟨S8192x256, .f32⟩
  | 16 => ⟨S8192x256, .f32⟩
  | 17 => ⟨S8192x256, .f32⟩
  | 18 => ⟨S_, .i32⟩
  | 19 => ⟨S8192, .i32⟩
  | 20 => ⟨S8192, .i32⟩
  | 21 => ⟨S_, .i32⟩
  | 22 => ⟨S_, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S_, .i32⟩
  | 36 => ⟨S_, .i32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S8193x256, .f32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192x256, .f32⟩
  | 53 => ⟨S_, .i32⟩
  | 54 => ⟨S8192, .i32⟩
  | 55 => ⟨S8192, .i1⟩
  | 56 => ⟨S_, .i32⟩
  | 57 => ⟨S8192, .i32⟩
  | 58 => ⟨S8192, .i32⟩
  | 59 => ⟨S8192, .i32⟩
  | 60 => ⟨S8192x1, .i32⟩
  | 61 => ⟨S8192x256, .f32⟩
  | 62 => ⟨S8192x256, .f32⟩
  | 63 => ⟨S8192, .i32⟩
  | 64 => ⟨S8192, .f32⟩
  | 65 => ⟨S8192x1, .f32⟩
  | 66 => ⟨S8192x256, .f32⟩
  | 67 => ⟨S8192x256, .f32⟩
  | 68 => ⟨S8192x256, .f32⟩
  | 69 => ⟨S8192x256, .f32⟩
  | 70 => ⟨S_, .i32⟩
  | 71 => ⟨S8192, .i32⟩
  | 72 => ⟨S8192, .i32⟩
  | 73 => ⟨S_, .i32⟩
  | 74 => ⟨S_, .i32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S_, .i32⟩
  | 88 => ⟨S_, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8193x256, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192x256, .f32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S8192x256, .f32⟩
  | 114 => ⟨S8192x256, .f32⟩
  | 115 => ⟨S8192, .i32⟩
  | 116 => ⟨S8192, .f32⟩
  | 117 => ⟨S8192x1, .f32⟩
  | 118 => ⟨S8192x256, .f32⟩
  | 119 => ⟨S8192x256, .f32⟩
  | 120 => ⟨S8192x256, .f32⟩
  | 121 => ⟨S8192x256, .f32⟩
  | 122 => ⟨S8192x1x256, .f32⟩
  | 123 => ⟨S8192x1x256, .f32⟩
  | 124 => ⟨S8192x1x256, .f32⟩
  | 125 => ⟨S8192x1x256, .f32⟩
  | 126 => ⟨S8192x4x256, .f32⟩
  | 127 => ⟨S4x256x8192, .f32⟩
  | _ => ⟨S8192x1024, .f32⟩

abbrev hbmTy0_2 (i : Nat) : BufTy := match i % 128 with
  | 0 => ⟨S8192x4x256, .f32⟩
  | 1 => ⟨S8192x1024, .f32⟩
  | 2 => ⟨S4x256x256, .bf16⟩
  | 3 => ⟨S8192x1024, .f32⟩
  | 4 => ⟨S4x256x256, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S8192x1024, .bf16⟩
  | 11 => ⟨S1x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S4x256x256, .bf16⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S4x256x256, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S256x1024, .bf16⟩
  | .local _ .vmem, ⟨32, _⟩ => ⟨S256x1024, .bf16⟩
  | .local _ .vmem, ⟨33, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_call0_call0_cst : Ref sig .tc := ⟨.hbm, 37, rfl⟩
abbrev main_call0_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_c_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_c_8 : Ref sig .tc := ⟨.hbm, 59, rfl⟩
abbrev main_c_9 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v32 : Ref sig .tc := ⟨.hbm, 66, rfl⟩
abbrev main_v33 : Ref sig .tc := ⟨.hbm, 67, rfl⟩
abbrev main_c_10 : Ref sig .tc := ⟨.hbm, 68, rfl⟩
abbrev main_v34 : Ref sig .tc := ⟨.hbm, 69, rfl⟩
abbrev main_v35 : Ref sig .tc := ⟨.hbm, 70, rfl⟩
abbrev main_c_11 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_12 : Ref sig .tc := ⟨.hbm, 77, rfl⟩
abbrev main_v41 : Ref sig .tc := ⟨.hbm, 78, rfl⟩
abbrev main_v42 : Ref sig .tc := ⟨.hbm, 79, rfl⟩
abbrev main_c_13 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_14 : Ref sig .tc := ⟨.hbm, 94, rfl⟩
abbrev main_v56 : Ref sig .tc := ⟨.hbm, 95, rfl⟩
abbrev main_v57 : Ref sig .tc := ⟨.hbm, 96, rfl⟩
abbrev main_c_15 : Ref sig .tc := ⟨.hbm, 97, rfl⟩
abbrev main_c_16 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v58 : Ref sig .tc := ⟨.hbm, 104, rfl⟩
abbrev main_c_17 : Ref sig .tc := ⟨.hbm, 105, rfl⟩
abbrev main_v59 : Ref sig .tc := ⟨.hbm, 106, rfl⟩
abbrev main_v60 : Ref sig .tc := ⟨.hbm, 107, rfl⟩
abbrev main_c_18 : Ref sig .tc := ⟨.hbm, 108, rfl⟩
abbrev main_v61 : Ref sig .tc := ⟨.hbm, 109, rfl⟩
abbrev main_v62 : Ref sig .tc := ⟨.hbm, 110, rfl⟩
abbrev main_c_19 : Ref sig .tc := ⟨.hbm, 111, rfl⟩
abbrev main_c_20 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_v63 : Ref sig .tc := ⟨.hbm, 118, rfl⟩
abbrev main_v64 : Ref sig .tc := ⟨.hbm, 119, rfl⟩
abbrev main_c_21 : Ref sig .tc := ⟨.hbm, 120, rfl⟩
abbrev main_v65 : Ref sig .tc := ⟨.hbm, 121, rfl⟩
abbrev main_v66 : Ref sig .tc := ⟨.hbm, 122, rfl⟩
abbrev main_c_22 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_c_23 : Ref sig .tc := ⟨.hbm, 129, rfl⟩
abbrev main_v72 : Ref sig .tc := ⟨.hbm, 130, rfl⟩
abbrev main_v73 : Ref sig .tc := ⟨.hbm, 131, rfl⟩
abbrev main_c_24 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_c_25 : Ref sig .tc := ⟨.hbm, 146, rfl⟩
abbrev main_v87 : Ref sig .tc := ⟨.hbm, 147, rfl⟩
abbrev main_v88 : Ref sig .tc := ⟨.hbm, 148, rfl⟩
abbrev main_c_26 : Ref sig .tc := ⟨.hbm, 149, rfl⟩
abbrev main_c_27 : Ref sig .tc := ⟨.hbm, 150, rfl⟩
abbrev main_call5_v0 : Ref sig .tc := ⟨.hbm, 151, rfl⟩
abbrev main_call5_v1 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_v89 : Ref sig .tc := ⟨.hbm, 156, rfl⟩
abbrev main_c_28 : Ref sig .tc := ⟨.hbm, 157, rfl⟩
abbrev main_v90 : Ref sig .tc := ⟨.hbm, 158, rfl⟩
abbrev main_v91 : Ref sig .tc := ⟨.hbm, 159, rfl⟩
abbrev main_c_29 : Ref sig .tc := ⟨.hbm, 160, rfl⟩
abbrev main_v92 : Ref sig .tc := ⟨.hbm, 161, rfl⟩
abbrev main_v93 : Ref sig .tc := ⟨.hbm, 162, rfl⟩
abbrev main_c_30 : Ref sig .tc := ⟨.hbm, 163, rfl⟩
abbrev main_c_31 : Ref sig .tc := ⟨.hbm, 164, rfl⟩
abbrev main_call6_v0 : Ref sig .tc := ⟨.hbm, 165, rfl⟩
abbrev main_call6_v1 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_v94 : Ref sig .tc := ⟨.hbm, 170, rfl⟩
abbrev main_v95 : Ref sig .tc := ⟨.hbm, 171, rfl⟩
abbrev main_c_32 : Ref sig .tc := ⟨.hbm, 172, rfl⟩
abbrev main_v96 : Ref sig .tc := ⟨.hbm, 173, rfl⟩
abbrev main_v97 : Ref sig .tc := ⟨.hbm, 174, rfl⟩
abbrev main_c_33 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_c_34 : Ref sig .tc := ⟨.hbm, 181, rfl⟩
abbrev main_v103 : Ref sig .tc := ⟨.hbm, 182, rfl⟩
abbrev main_v104 : Ref sig .tc := ⟨.hbm, 183, rfl⟩
abbrev main_c_35 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_c_36 : Ref sig .tc := ⟨.hbm, 198, rfl⟩
abbrev main_v118 : Ref sig .tc := ⟨.hbm, 199, rfl⟩
abbrev main_v119 : Ref sig .tc := ⟨.hbm, 200, rfl⟩
abbrev main_c_37 : Ref sig .tc := ⟨.hbm, 201, rfl⟩
abbrev main_c_38 : Ref sig .tc := ⟨.hbm, 202, rfl⟩
abbrev main_call7_v0 : Ref sig .tc := ⟨.hbm, 203, rfl⟩
abbrev main_call7_v1 : Ref sig .tc := ⟨.hbm, 204, rfl⟩
abbrev main_call7_v2 : Ref sig .tc := ⟨.hbm, 205, rfl⟩
abbrev main_call7_v3 : Ref sig .tc := ⟨.hbm, 206, rfl⟩
abbrev main_call7_v4 : Ref sig .tc := ⟨.hbm, 207, rfl⟩
abbrev main_v120 : Ref sig .tc := ⟨.hbm, 208, rfl⟩
abbrev main_c_39 : Ref sig .tc := ⟨.hbm, 209, rfl⟩
abbrev main_v121 : Ref sig .tc := ⟨.hbm, 210, rfl⟩
abbrev main_v122 : Ref sig .tc := ⟨.hbm, 211, rfl⟩
abbrev main_c_40 : Ref sig .tc := ⟨.hbm, 212, rfl⟩
abbrev main_v123 : Ref sig .tc := ⟨.hbm, 213, rfl⟩
abbrev main_v124 : Ref sig .tc := ⟨.hbm, 214, rfl⟩
abbrev main_c_41 : Ref sig .tc := ⟨.hbm, 215, rfl⟩
abbrev main_c_42 : Ref sig .tc := ⟨.hbm, 216, rfl⟩
abbrev main_call8_v0 : Ref sig .tc := ⟨.hbm, 217, rfl⟩
abbrev main_call8_v1 : Ref sig .tc := ⟨.hbm, 218, rfl⟩
abbrev main_call8_v2 : Ref sig .tc := ⟨.hbm, 219, rfl⟩
abbrev main_call8_v3 : Ref sig .tc := ⟨.hbm, 220, rfl⟩
abbrev main_call8_v4 : Ref sig .tc := ⟨.hbm, 221, rfl⟩
abbrev main_v125 : Ref sig .tc := ⟨.hbm, 222, rfl⟩
abbrev main_v126 : Ref sig .tc := ⟨.hbm, 223, rfl⟩
abbrev main_c_43 : Ref sig .tc := ⟨.hbm, 224, rfl⟩
abbrev main_v127 : Ref sig .tc := ⟨.hbm, 225, rfl⟩
abbrev main_v128 : Ref sig .tc := ⟨.hbm, 226, rfl⟩
abbrev main_c_44 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_c_45 : Ref sig .tc := ⟨.hbm, 233, rfl⟩
abbrev main_v134 : Ref sig .tc := ⟨.hbm, 234, rfl⟩
abbrev main_v135 : Ref sig .tc := ⟨.hbm, 235, rfl⟩
abbrev main_c_46 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158_0 : Ref sig .tc := ⟨.hbm, 259, rfl⟩
abbrev main_v158_1 : Ref sig .tc := ⟨.hbm, 260, rfl⟩
abbrev main_v158_2 : Ref sig .tc := ⟨.hbm, 261, rfl⟩
abbrev main_v158_3 : Ref sig .tc := ⟨.hbm, 262, rfl⟩
abbrev main_v158_4 : Ref sig .tc := ⟨.hbm, 263, rfl⟩
abbrev main_v158_5 : Ref sig .tc := ⟨.hbm, 264, rfl⟩
abbrev main_v158_6 : Ref sig .tc := ⟨.hbm, 265, rfl⟩
abbrev main_v158_7 : Ref sig .tc := ⟨.hbm, 266, rfl⟩
abbrev main_v158_8 : Ref sig .tc := ⟨.hbm, 267, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem22_1 : DmaSem sig := 32
abbrev cc0_sem23_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== PoolRefIdeal.lean ====
abbrev S8192x1024 : Shape := ⟨2, ![8192, 1024]⟩
abbrev S1x1024 : Shape := ⟨2, ![1, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S8193x1024 : Shape := ⟨2, ![8193, 1024]⟩
abbrev S8193x256 : Shape := ⟨2, ![8193, 256]⟩
abbrev S8192x256 : Shape := ⟨2, ![8192, 256]⟩
abbrev S8192x1x256 : Shape := ⟨3, ![8192, 1, 256]⟩
abbrev S8192x4x256 : Shape := ⟨3, ![8192, 4, 256]⟩
abbrev S4x256x8192 : Shape := ⟨3, ![4, 256, 8192]⟩
abbrev S1024 : Shape := ⟨1, ![1024]⟩
abbrev S4x8192x256 : Shape := ⟨3, ![4, 8192, 256]⟩

abbrev nBuf : Space → Nat
  | .hbm => 409
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S4x256x256, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S1x1024, .f32⟩
  | 34 => ⟨S1x1024, .f32⟩
  | 35 => ⟨S8192x1024, .f32⟩
  | 36 => ⟨S8192x1024, .f32⟩
  | 37 => ⟨S8192x1024, .f32⟩
  | 38 => ⟨S8192x1024, .f32⟩
  | 39 => ⟨S_, .f32⟩
  | 40 => ⟨S1x1024, .f32⟩
  | 41 => ⟨S_, .f32⟩
  | 42 => ⟨S_, .f32⟩
  | 43 => ⟨S8192x1024, .f32⟩
  | 44 => ⟨S8193x1024, .f32⟩
  | 45 => ⟨S_, .f32⟩
  | 46 => ⟨S1x1024, .f32⟩
  | 47 => ⟨S8192, .i32⟩
  | 48 => ⟨S_, .i32⟩
  | 49 => ⟨S8192, .i32⟩
  | 50 => ⟨S8192, .i32⟩
  | 51 => ⟨S_, .i32⟩
  | 52 => ⟨S_, .i32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S_, .i32⟩
  | 66 => ⟨S_, .i32⟩
  | 67 => ⟨S_, .i32⟩
  | 68 => ⟨S8192, .i32⟩
  | 69 => ⟨S8192, .i32⟩
  | 70 => ⟨S_, .i32⟩
  | 71 => ⟨S8192, .i32⟩
  | 72 => ⟨S8192, .i32⟩
  | 73 => ⟨S8193x256, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192x256, .f32⟩
  | 83 => ⟨S_, .i32⟩
  | 84 => ⟨S8192, .i32⟩
  | 85 => ⟨S8192, .i1⟩
  | 86 => ⟨S_, .i32⟩
  | 87 => ⟨S8192, .i32⟩
  | 88 => ⟨S8192, .i32⟩
  | 89 => ⟨S8192, .i32⟩
  | 90 => ⟨S8192x1, .i32⟩
  | 91 => ⟨S8192x256, .f32⟩
  | 92 => ⟨S8192x256, .f32⟩
  | 93 => ⟨S8192, .i32⟩
  | 94 => ⟨S8192, .f32⟩
  | 95 => ⟨S8192x1, .f32⟩
  | 96 => ⟨S8192x256, .f32⟩
  | 97 => ⟨S8192x256, .f32⟩
  | 98 => ⟨S8192x256, .f32⟩
  | 99 => ⟨S8192x256, .f32⟩
  | 100 => ⟨S_, .i32⟩
  | 101 => ⟨S8192, .i32⟩
  | 102 => ⟨S8192, .i32⟩
  | 103 => ⟨S_, .i32⟩
  | 104 => ⟨S_, .i32⟩
  | 105 => ⟨S_, .i32⟩
  | 106 => ⟨S8192, .i32⟩
  | 107 => ⟨S8192, .i32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S_, .i32⟩
  | 115 => ⟨S8192, .i32⟩
  | 116 => ⟨S8192, .i32⟩
  | 117 => ⟨S_, .i32⟩
  | 118 => ⟨S_, .i32⟩
  | 119 => ⟨S_, .i32⟩
  | 120 => ⟨S8192, .i32⟩
  | 121 => ⟨S8192, .i32⟩
  | 122 => ⟨S_, .i32⟩
  | 123 => ⟨S8192, .i32⟩
  | 124 => ⟨S8192, .i32⟩
  | 125 => ⟨S8193x256, .f32⟩
  | 126 => ⟨S_, .i32⟩
  | 127 => ⟨S8192, .i32⟩
  | _ => ⟨S8192x1024, .f32⟩

abbrev hbmTy0_1 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x256, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x256, .f32⟩
  | 16 => ⟨S8192x256, .f32⟩
  | 17 => ⟨S8192, .i32⟩
  | 18 => ⟨S8192, .f32⟩
  | 19 => ⟨S8192x1, .f32⟩
  | 20 => ⟨S8192x256, .f32⟩
  | 21 => ⟨S8192x256, .f32⟩
  | 22 => ⟨S8192x256, .f32⟩
  | 23 => ⟨S8192x256, .f32⟩
  | 24 => ⟨S_, .i32⟩
  | 25 => ⟨S8192, .i32⟩
  | 26 => ⟨S8192, .i32⟩
  | 27 => ⟨S_, .i32⟩
  | 28 => ⟨S_, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S_, .i32⟩
  | 39 => ⟨S8192, .i32⟩
  | 40 => ⟨S8192, .i32⟩
  | 41 => ⟨S_, .i32⟩
  | 42 => ⟨S_, .i32⟩
  | 43 => ⟨S_, .i32⟩
  | 44 => ⟨S8192, .i32⟩
  | 45 => ⟨S8192, .i32⟩
  | 46 => ⟨S_, .i32⟩
  | 47 => ⟨S8192, .i32⟩
  | 48 => ⟨S8192, .i32⟩
  | 49 => ⟨S8193x256, .f32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S8192x256, .f32⟩
  | 59 => ⟨S_, .i32⟩
  | 60 => ⟨S8192, .i32⟩
  | 61 => ⟨S8192, .i1⟩
  | 62 => ⟨S_, .i32⟩
  | 63 => ⟨S8192, .i32⟩
  | 64 => ⟨S8192, .i32⟩
  | 65 => ⟨S8192, .i32⟩
  | 66 => ⟨S8192x1, .i32⟩
  | 67 => ⟨S8192x256, .f32⟩
  | 68 => ⟨S8192x256, .f32⟩
  | 69 => ⟨S8192, .i32⟩
  | 70 => ⟨S8192, .f32⟩
  | 71 => ⟨S8192x1, .f32⟩
  | 72 => ⟨S8192x256, .f32⟩
  | 73 => ⟨S8192x256, .f32⟩
  | 74 => ⟨S8192x256, .f32⟩
  | 75 => ⟨S8192x256, .f32⟩
  | 76 => ⟨S_, .i32⟩
  | 77 => ⟨S8192, .i32⟩
  | 78 => ⟨S8192, .i32⟩
  | 79 => ⟨S_, .i32⟩
  | 80 => ⟨S_, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S_, .i32⟩
  | 91 => ⟨S8192, .i32⟩
  | 92 => ⟨S8192, .i32⟩
  | 93 => ⟨S_, .i32⟩
  | 94 => ⟨S_, .i32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S8193x256, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192x256, .f32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S8192x256, .f32⟩
  | 120 => ⟨S8192x256, .f32⟩
  | 121 => ⟨S8192, .i32⟩
  | 122 => ⟨S8192, .f32⟩
  | 123 => ⟨S8192x1, .f32⟩
  | 124 => ⟨S8192x256, .f32⟩
  | 125 => ⟨S8192x256, .f32⟩
  | 126 => ⟨S8192x256, .f32⟩
  | 127 => ⟨S8192x256, .f32⟩
  | _ => ⟨S8192x1024, .f32⟩

abbrev hbmTy0_2 (i : Nat) : BufTy := match i % 128 with
  | 0 => ⟨S8192x1x256, .f32⟩
  | 1 => ⟨S8192x1x256, .f32⟩
  | 2 => ⟨S8192x1x256, .f32⟩
  | 3 => ⟨S8192x1x256, .f32⟩
  | 4 => ⟨S8192x4x256, .f32⟩
  | 5 => ⟨S4x256x8192, .f32⟩
  | 6 => ⟨S8192x4x256, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S1024, .f32⟩
  | 20 => ⟨S1x1024, .f32⟩
  | 21 => ⟨S8192x1024, .f32⟩
  | 22 => ⟨S_, .f32⟩
  | 23 => ⟨S1024, .f32⟩
  | 24 => ⟨S1x1024, .f32⟩
  | 25 => ⟨S8192x1024, .f32⟩
  | 26 => ⟨S8192x1024, .f32⟩
  | 27 => ⟨S8192x4x256, .f32⟩
  | 28 => ⟨S4x256x8192, .f32⟩
  | 29 => ⟨S4x8192x256, .f32⟩
  | 30 => ⟨S8192x4x256, .f32⟩
  | 31 => ⟨S4x256x256, .f32⟩
  | 32 => ⟨S4x256x256, .f32⟩
  | 33 => ⟨S8192x1x256, .f32⟩
  | 34 => ⟨S8192x256, .f32⟩
  | 35 => ⟨S8192x1x256, .f32⟩
  | 36 => ⟨S8192x256, .f32⟩
  | 37 => ⟨S8192x1x256, .f32⟩
  | 38 => ⟨S8192x256, .f32⟩
  | 39 => ⟨S8192x1x256, .f32⟩
  | 40 => ⟨S8192x256, .f32⟩
  | 41 => ⟨S8192x256, .f32⟩
  | 42 => ⟨S_, .f32⟩
  | 43 => ⟨S8192x1024, .f32⟩
  | 44 => ⟨S8192x256, .f32⟩
  | 45 => ⟨S8192x256, .f32⟩
  | 46 => ⟨S8192x256, .f32⟩
  | 47 => ⟨S_, .f32⟩
  | 48 => ⟨S8193x256, .f32⟩
  | 49 => ⟨S8193x256, .f32⟩
  | 50 => ⟨S_, .f32⟩
  | 51 => ⟨S8193x256, .f32⟩
  | 52 => ⟨S8193x256, .f32⟩
  | 53 => ⟨S8193x256, .f32⟩
  | 54 => ⟨S_, .f32⟩
  | 55 => ⟨S8193x1024, .f32⟩
  | 56 => ⟨S8192x256, .f32⟩
  | 57 => ⟨S_, .f32⟩
  | 58 => ⟨S8192x1024, .f32⟩
  | 59 => ⟨S8192x1024, .f32⟩
  | 60 => ⟨S8192x256, .f32⟩
  | 61 => ⟨S8192x256, .f32⟩
  | 62 => ⟨S8192x256, .f32⟩
  | 63 => ⟨S_, .f32⟩
  | 64 => ⟨S8193x256, .f32⟩
  | 65 => ⟨S8193x256, .f32⟩
  | 66 => ⟨S_, .f32⟩
  | 67 => ⟨S8193x256, .f32⟩
  | 68 => ⟨S8193x256, .f32⟩
  | 69 => ⟨S8193x256, .f32⟩
  | 70 => ⟨S_, .f32⟩
  | 71 => ⟨S8193x1024, .f32⟩
  | 72 => ⟨S8193x1024, .f32⟩
  | 73 => ⟨S8192x256, .f32⟩
  | 74 => ⟨S_, .f32⟩
  | 75 => ⟨S8192x1024, .f32⟩
  | 76 => ⟨S8192x1024, .f32⟩
  | 77 => ⟨S8192x256, .f32⟩
  | 78 => ⟨S8192x256, .f32⟩
  | 79 => ⟨S8192x256, .f32⟩
  | 80 => ⟨S_, .f32⟩
  | 81 => ⟨S8193x256, .f32⟩
  | 82 => ⟨S8193x256, .f32⟩
  | 83 => ⟨S_, .f32⟩
  | 84 => ⟨S8193x256, .f32⟩
  | 85 => ⟨S8193x256, .f32⟩
  | 86 => ⟨S8193x256, .f32⟩
  | 87 => ⟨S_, .f32⟩
  | 88 => ⟨S8193x1024, .f32⟩
  | 89 => ⟨S8193x1024, .f32⟩
  | 90 => ⟨S8192x256, .f32⟩
  | 91 => ⟨S_, .f32⟩
  | 92 => ⟨S8192x1024, .f32⟩
  | 93 => ⟨S8192x1024, .f32⟩
  | 94 => ⟨S8192x256, .f32⟩
  | 95 => ⟨S8192x256, .f32⟩
  | 96 => ⟨S8192x256, .f32⟩
  | 97 => ⟨S_, .f32⟩
  | 98 => ⟨S8193x256, .f32⟩
  | 99 => ⟨S8193x256, .f32⟩
  | 100 => ⟨S_, .f32⟩
  | 101 => ⟨S8193x256, .f32⟩
  | 102 => ⟨S8193x256, .f32⟩
  | 103 => ⟨S8193x256, .f32⟩
  | 104 => ⟨S_, .f32⟩
  | 105 => ⟨S8193x1024, .f32⟩
  | 106 => ⟨S8193x1024, .f32⟩
  | 107 => ⟨S1x1024, .f32⟩
  | 108 => ⟨S8192x1024, .f32⟩
  | 109 => ⟨S_, .f32⟩
  | 110 => ⟨S_, .f32⟩
  | 111 => ⟨S8192x1024, .f32⟩
  | 112 => ⟨S8192x1024, .f32⟩
  | 113 => ⟨S_, .f32⟩
  | 114 => ⟨S1024, .f32⟩
  | 115 => ⟨S1x1024, .f32⟩
  | 116 => ⟨S8192x1024, .f32⟩
  | 117 => ⟨S_, .f32⟩
  | 118 => ⟨S1024, .f32⟩
  | 119 => ⟨S1x1024, .f32⟩
  | 120 => ⟨S8192x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x1024, .f32⟩

abbrev hbmTy0_3 (i : Nat) : BufTy := match i % 128 with
  | 0 => ⟨S8192x1024, .f32⟩
  | 1 => ⟨S_, .f32⟩
  | 2 => ⟨S8192, .f32⟩
  | 3 => ⟨S8192x1, .f32⟩
  | 4 => ⟨S8192x1024, .f32⟩
  | 5 => ⟨S8192x1024, .f32⟩
  | 6 => ⟨S8192x1024, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S1024, .f32⟩
  | 23 => ⟨S1x1024, .f32⟩
  | 24 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_call0_call0_cst : Ref sig .tc := ⟨.hbm, 41, rfl⟩
abbrev main_call0_call0_v0 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_c : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_c_7 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v31 : Ref sig .tc := ⟨.hbm, 58, rfl⟩
abbrev main_c_8 : Ref sig .tc := ⟨.hbm, 59, rfl⟩
abbrev main_v32 : Ref sig .tc := ⟨.hbm, 60, rfl⟩
abbrev main_v33 : Ref sig .tc := ⟨.hbm, 61, rfl⟩
abbrev main_c_9 : Ref sig .tc := ⟨.hbm, 62, rfl⟩
abbrev main_v34 : Ref sig .tc := ⟨.hbm, 63, rfl⟩
abbrev main_v35 : Ref sig .tc := ⟨.hbm, 64, rfl⟩
abbrev main_c_10 : Ref sig .tc := ⟨.hbm, 65, rfl⟩
abbrev main_c_11 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v36 : Ref sig .tc := ⟨.hbm, 72, rfl⟩
abbrev main_v37 : Ref sig .tc := ⟨.hbm, 73, rfl⟩
abbrev main_c_12 : Ref sig .tc := ⟨.hbm, 74, rfl⟩
abbrev main_v38 : Ref sig .tc := ⟨.hbm, 75, rfl⟩
abbrev main_v39 : Ref sig .tc := ⟨.hbm, 76, rfl⟩
abbrev main_c_13 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_14 : Ref sig .tc := ⟨.hbm, 83, rfl⟩
abbrev main_v45 : Ref sig .tc := ⟨.hbm, 84, rfl⟩
abbrev main_v46 : Ref sig .tc := ⟨.hbm, 85, rfl⟩
abbrev main_c_15 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_16 : Ref sig .tc := ⟨.hbm, 100, rfl⟩
abbrev main_v60 : Ref sig .tc := ⟨.hbm, 101, rfl⟩
abbrev main_v61 : Ref sig .tc := ⟨.hbm, 102, rfl⟩
abbrev main_c_17 : Ref sig .tc := ⟨.hbm, 103, rfl⟩
abbrev main_c_18 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v62 : Ref sig .tc := ⟨.hbm, 110, rfl⟩
abbrev main_c_19 : Ref sig .tc := ⟨.hbm, 111, rfl⟩
abbrev main_v63 : Ref sig .tc := ⟨.hbm, 112, rfl⟩
abbrev main_v64 : Ref sig .tc := ⟨.hbm, 113, rfl⟩
abbrev main_c_20 : Ref sig .tc := ⟨.hbm, 114, rfl⟩
abbrev main_v65 : Ref sig .tc := ⟨.hbm, 115, rfl⟩
abbrev main_v66 : Ref sig .tc := ⟨.hbm, 116, rfl⟩
abbrev main_c_21 : Ref sig .tc := ⟨.hbm, 117, rfl⟩
abbrev main_c_22 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_v67 : Ref sig .tc := ⟨.hbm, 124, rfl⟩
abbrev main_v68 : Ref sig .tc := ⟨.hbm, 125, rfl⟩
abbrev main_c_23 : Ref sig .tc := ⟨.hbm, 126, rfl⟩
abbrev main_v69 : Ref sig .tc := ⟨.hbm, 127, rfl⟩
abbrev main_v70 : Ref sig .tc := ⟨.hbm, 128, rfl⟩
abbrev main_c_24 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_c_25 : Ref sig .tc := ⟨.hbm, 135, rfl⟩
abbrev main_v76 : Ref sig .tc := ⟨.hbm, 136, rfl⟩
abbrev main_v77 : Ref sig .tc := ⟨.hbm, 137, rfl⟩
abbrev main_c_26 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_c_27 : Ref sig .tc := ⟨.hbm, 152, rfl⟩
abbrev main_v91 : Ref sig .tc := ⟨.hbm, 153, rfl⟩
abbrev main_v92 : Ref sig .tc := ⟨.hbm, 154, rfl⟩
abbrev main_c_28 : Ref sig .tc := ⟨.hbm, 155, rfl⟩
abbrev main_c_29 : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_v93 : Ref sig .tc := ⟨.hbm, 162, rfl⟩
abbrev main_c_30 : Ref sig .tc := ⟨.hbm, 163, rfl⟩
abbrev main_v94 : Ref sig .tc := ⟨.hbm, 164, rfl⟩
abbrev main_v95 : Ref sig .tc := ⟨.hbm, 165, rfl⟩
abbrev main_c_31 : Ref sig .tc := ⟨.hbm, 166, rfl⟩
abbrev main_v96 : Ref sig .tc := ⟨.hbm, 167, rfl⟩
abbrev main_v97 : Ref sig .tc := ⟨.hbm, 168, rfl⟩
abbrev main_c_32 : Ref sig .tc := ⟨.hbm, 169, rfl⟩
abbrev main_c_33 : Ref sig .tc := ⟨.hbm, 170, rfl⟩
abbrev main_call6_v0 : Ref sig .tc := ⟨.hbm, 171, rfl⟩
abbrev main_call6_v1 : Ref sig .tc := ⟨.hbm, 172, rfl⟩
abbrev main_call6_v2 : Ref sig .tc := ⟨.hbm, 173, rfl⟩
abbrev main_call6_v3 : Ref sig .tc := ⟨.hbm, 174, rfl⟩
abbrev main_call6_v4 : Ref sig .tc := ⟨.hbm, 175, rfl⟩
abbrev main_v98 : Ref sig .tc := ⟨.hbm, 176, rfl⟩
abbrev main_v99 : Ref sig .tc := ⟨.hbm, 177, rfl⟩
abbrev main_c_34 : Ref sig .tc := ⟨.hbm, 178, rfl⟩
abbrev main_v100 : Ref sig .tc := ⟨.hbm, 179, rfl⟩
abbrev main_v101 : Ref sig .tc := ⟨.hbm, 180, rfl⟩
abbrev main_c_35 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_c_36 : Ref sig .tc := ⟨.hbm, 187, rfl⟩
abbrev main_v107 : Ref sig .tc := ⟨.hbm, 188, rfl⟩
abbrev main_v108 : Ref sig .tc := ⟨.hbm, 189, rfl⟩
abbrev main_c_37 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_c_38 : Ref sig .tc := ⟨.hbm, 204, rfl⟩
abbrev main_v122 : Ref sig .tc := ⟨.hbm, 205, rfl⟩
abbrev main_v123 : Ref sig .tc := ⟨.hbm, 206, rfl⟩
abbrev main_c_39 : Ref sig .tc := ⟨.hbm, 207, rfl⟩
abbrev main_c_40 : Ref sig .tc := ⟨.hbm, 208, rfl⟩
abbrev main_call7_v0 : Ref sig .tc := ⟨.hbm, 209, rfl⟩
abbrev main_call7_v1 : Ref sig .tc := ⟨.hbm, 210, rfl⟩
abbrev main_call7_v2 : Ref sig .tc := ⟨.hbm, 211, rfl⟩
abbrev main_call7_v3 : Ref sig .tc := ⟨.hbm, 212, rfl⟩
abbrev main_call7_v4 : Ref sig .tc := ⟨.hbm, 213, rfl⟩
abbrev main_v124 : Ref sig .tc := ⟨.hbm, 214, rfl⟩
abbrev main_c_41 : Ref sig .tc := ⟨.hbm, 215, rfl⟩
abbrev main_v125 : Ref sig .tc := ⟨.hbm, 216, rfl⟩
abbrev main_v126 : Ref sig .tc := ⟨.hbm, 217, rfl⟩
abbrev main_c_42 : Ref sig .tc := ⟨.hbm, 218, rfl⟩
abbrev main_v127 : Ref sig .tc := ⟨.hbm, 219, rfl⟩
abbrev main_v128 : Ref sig .tc := ⟨.hbm, 220, rfl⟩
abbrev main_c_43 : Ref sig .tc := ⟨.hbm, 221, rfl⟩
abbrev main_c_44 : Ref sig .tc := ⟨.hbm, 222, rfl⟩
abbrev main_call8_v0 : Ref sig .tc := ⟨.hbm, 223, rfl⟩
abbrev main_call8_v1 : Ref sig .tc := ⟨.hbm, 224, rfl⟩
abbrev main_call8_v2 : Ref sig .tc := ⟨.hbm, 225, rfl⟩
abbrev main_call8_v3 : Ref sig .tc := ⟨.hbm, 226, rfl⟩
abbrev main_call8_v4 : Ref sig .tc := ⟨.hbm, 227, rfl⟩
abbrev main_v129 : Ref sig .tc := ⟨.hbm, 228, rfl⟩
abbrev main_v130 : Ref sig .tc := ⟨.hbm, 229, rfl⟩
abbrev main_c_45 : Ref sig .tc := ⟨.hbm, 230, rfl⟩
abbrev main_v131 : Ref sig .tc := ⟨.hbm, 231, rfl⟩
abbrev main_v132 : Ref sig .tc := ⟨.hbm, 232, rfl⟩
abbrev main_c_46 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_c_47 : Ref sig .tc := ⟨.hbm, 239, rfl⟩
abbrev main_v138 : Ref sig .tc := ⟨.hbm, 240, rfl⟩
abbrev main_v139 : Ref sig .tc := ⟨.hbm, 241, rfl⟩
abbrev main_c_48 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_cst_49 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_cst_50 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_cst_51 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_cst_52 : Ref sig .tc := ⟨.hbm, 303, rfl⟩
abbrev main_v197 : Ref sig .tc := ⟨.hbm, 304, rfl⟩
abbrev main_v198 : Ref sig .tc := ⟨.hbm, 305, rfl⟩
abbrev main_cst_53 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_cst_54 : Ref sig .tc := ⟨.hbm, 310, rfl⟩
abbrev main_v202 : Ref sig .tc := ⟨.hbm, 311, rfl⟩
abbrev main_v203 : Ref sig .tc := ⟨.hbm, 312, rfl⟩
abbrev main_cst_55 : Ref sig .tc := ⟨.hbm, 313, rfl⟩
abbrev main_v204 : Ref sig .tc := ⟨.hbm, 314, rfl⟩
abbrev main_v205 : Ref sig .tc := ⟨.hbm, 315, rfl⟩
abbrev main_v206 : Ref sig .tc := ⟨.hbm, 316, rfl⟩
abbrev main_v207 : Ref sig .tc := ⟨.hbm, 317, rfl⟩
abbrev main_v208 : Ref sig .tc := ⟨.hbm, 318, rfl⟩
abbrev main_cst_56 : Ref sig .tc := ⟨.hbm, 319, rfl⟩
abbrev main_v209 : Ref sig .tc := ⟨.hbm, 320, rfl⟩
abbrev main_v210 : Ref sig .tc := ⟨.hbm, 321, rfl⟩
abbrev main_cst_57 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_cst_58 : Ref sig .tc := ⟨.hbm, 326, rfl⟩
abbrev main_v214 : Ref sig .tc := ⟨.hbm, 327, rfl⟩
abbrev main_v215 : Ref sig .tc := ⟨.hbm, 328, rfl⟩
abbrev main_v216 : Ref sig .tc := ⟨.hbm, 329, rfl⟩
abbrev main_cst_59 : Ref sig .tc := ⟨.hbm, 330, rfl⟩
abbrev main_v217 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_cst_60 : Ref sig .tc := ⟨.hbm, 336, rfl⟩
abbrev main_v222 : Ref sig .tc := ⟨.hbm, 337, rfl⟩
abbrev main_v223 : Ref sig .tc := ⟨.hbm, 338, rfl⟩
abbrev main_cst_61 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_cst_62 : Ref sig .tc := ⟨.hbm, 343, rfl⟩
abbrev main_v227 : Ref sig .tc := ⟨.hbm, 344, rfl⟩
abbrev main_v228 : Ref sig .tc := ⟨.hbm, 345, rfl⟩
abbrev main_v229 : Ref sig .tc := ⟨.hbm, 346, rfl⟩
abbrev main_cst_63 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_cst_64 : Ref sig .tc := ⟨.hbm, 353, rfl⟩
abbrev main_v235 : Ref sig .tc := ⟨.hbm, 354, rfl⟩
abbrev main_v236 : Ref sig .tc := ⟨.hbm, 355, rfl⟩
abbrev main_cst_65 : Ref sig .tc := ⟨.hbm, 356, rfl⟩
abbrev main_v237 : Ref sig .tc := ⟨.hbm, 357, rfl⟩
abbrev main_v238 : Ref sig .tc := ⟨.hbm, 358, rfl⟩
abbrev main_v239 : Ref sig .tc := ⟨.hbm, 359, rfl⟩
abbrev main_cst_66 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_call9_call0_cst : Ref sig .tc := ⟨.hbm, 365, rfl⟩
abbrev main_call9_call0_v0 : Ref sig .tc := ⟨.hbm, 366, rfl⟩
abbrev main_v244 : Ref sig .tc := ⟨.hbm, 367, rfl⟩
abbrev main_v245 : Ref sig .tc := ⟨.hbm, 368, rfl⟩
abbrev main_cst_67 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_cst_68 : Ref sig .tc := ⟨.hbm, 373, rfl⟩
abbrev main_v249 : Ref sig .tc := ⟨.hbm, 374, rfl⟩
abbrev main_v250 : Ref sig .tc := ⟨.hbm, 375, rfl⟩
abbrev main_v251 : Ref sig .tc := ⟨.hbm, 376, rfl⟩
abbrev main_v252 : Ref sig .tc := ⟨.hbm, 377, rfl⟩
abbrev main_v253 : Ref sig .tc := ⟨.hbm, 378, rfl⟩
abbrev main_cst_69 : Ref sig .tc := ⟨.hbm, 379, rfl⟩
abbrev main_v254 : Ref sig .tc := ⟨.hbm, 380, rfl⟩
abbrev main_v255 : Ref sig .tc := ⟨.hbm, 381, rfl⟩
abbrev main_v256 : Ref sig .tc := ⟨.hbm, 382, rfl⟩
abbrev main_v257 : Ref sig .tc := ⟨.hbm, 383, rfl⟩
abbrev main_v258 : Ref sig .tc := ⟨.hbm, 384, rfl⟩
abbrev main_cst_70 : Ref sig .tc := ⟨.hbm, 385, rfl⟩
abbrev main_v259 : Ref sig .tc := ⟨.hbm, 386, rfl⟩
abbrev main_v260 : Ref sig .tc := ⟨.hbm, 387, rfl⟩
abbrev main_v261 : Ref sig .tc := ⟨.hbm, 388, rfl⟩
abbrev main_v262 : Ref sig .tc := ⟨.hbm, 389, rfl⟩
abbrev main_v263 : Ref sig .tc := ⟨.hbm, 390, rfl⟩
abbrev main_v264 : Ref sig .tc := ⟨.hbm, 391, rfl⟩
abbrev main_cst_71 : Ref sig .tc := ⟨.hbm, 392, rfl⟩
abbrev main_v265 : Ref sig .tc := ⟨.hbm, 393, rfl⟩
abbrev main_v266 : Ref sig .tc := ⟨.hbm, 394, rfl⟩
abbrev main_cst_72 : Ref sig .tc := ⟨.hbm, 395, rfl⟩
abbrev main_v267 : Ref sig .tc := ⟨.hbm, 396, rfl⟩
abbrev main_v268 : Ref sig .tc := ⟨.hbm, 397, rfl⟩
abbrev main_v269 : Ref sig .tc := ⟨.hbm, 398, rfl⟩
abbrev main_v270 : Ref sig .tc := ⟨.hbm, 399, rfl⟩
abbrev main_v271 : Ref sig .tc := ⟨.hbm, 400, rfl⟩
abbrev main_v272 : Ref sig .tc := ⟨.hbm, 401, rfl⟩
abbrev main_v273 : Ref sig .tc := ⟨.hbm, 402, rfl⟩
abbrev main_v274 : Ref sig .tc := ⟨.hbm, 403, rfl⟩
abbrev main_v275 : Ref sig .tc := ⟨.hbm, 404, rfl⟩
abbrev main_cst_73 : Ref sig .tc := ⟨.hbm, 405, rfl⟩
abbrev main_v276 : Ref sig .tc := ⟨.hbm, 406, rfl⟩
abbrev main_v277 : Ref sig .tc := ⟨.hbm, 407, rfl⟩
abbrev main_v278 : Ref sig .tc := ⟨.hbm, 408, rfl⟩

abbrev nD : Nat := 1
abbrev τ : Topo := Topo.v7x

variable {F : FTy → Type} [FloatOps F]
-- ==== Qkv.lean ====
abbrev S8192x2560 : Shape := ⟨2, ![8192, 2560]⟩
abbrev S1x128 : Shape := ⟨2, ![1, 128]⟩
abbrev S4x8192x128 : Shape := ⟨3, ![4, 8192, 128]⟩
abbrev S2x8448x128 : Shape := ⟨3, ![2, 8448, 128]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S64 : Shape := ⟨1, ![64]⟩
abbrev S64x1 : Shape := ⟨2, ![64, 1]⟩
abbrev S64x32 : Shape := ⟨2, ![64, 32]⟩
abbrev S128x64x32 : Shape := ⟨3, ![128, 64, 32]⟩
abbrev S8192x32 : Shape := ⟨2, ![8192, 32]⟩
abbrev S1x64x1x32 : Shape := ⟨4, ![1, 64, 1, 32]⟩
abbrev S128x64x1x32 : Shape := ⟨4, ![128, 64, 1, 32]⟩
abbrev S8192x128 : Shape := ⟨2, ![8192, 128]⟩
abbrev S8192x1024 : Shape := ⟨2, ![8192, 1024]⟩
abbrev S256x512 : Shape := ⟨2, ![256, 512]⟩
abbrev S4x256x128 : Shape := ⟨3, ![4, 256, 128]⟩
abbrev S2x256x128 : Shape := ⟨3, ![2, 256, 128]⟩
abbrev S256x128 : Shape := ⟨2, ![256, 128]⟩
abbrev S256x1024 : Shape := ⟨2, ![256, 1024]⟩
abbrev S1x256x128 : Shape := ⟨3, ![1, 256, 128]⟩
abbrev S256 : Shape := ⟨1, ![256]⟩
abbrev S256x1 : Shape := ⟨2, ![256, 1]⟩

abbrev nBuf : Space → Nat
  | .hbm => 53
  | .vmem => 20
  | .smem => 0
  | _ => 0

abbrev bufTy : (tb : Table) → Fin (tcTables nBuf tb) → BufTy
  | .hbm, ⟨0, _⟩ => ⟨S8192x2560, .f32⟩
  | .hbm, ⟨1, _⟩ => ⟨S1x128, .f32⟩
  | .hbm, ⟨2, _⟩ => ⟨S1x128, .f32⟩
  | .hbm, ⟨3, _⟩ => ⟨S4x8192x128, .f32⟩
  | .hbm, ⟨4, _⟩ => ⟨S2x8448x128, .f32⟩
  | .hbm, ⟨5, _⟩ => ⟨S2x8448x128, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S128, .f32⟩
  | .hbm, ⟨21, _⟩ => ⟨S128x1, .f32⟩
  | .hbm, ⟨22, _⟩ => ⟨S1x32, .f32⟩
  | .hbm, ⟨23, _⟩ => ⟨S128x32, .f32⟩
  | .hbm, ⟨24, _⟩ => ⟨S128x32, .f32⟩
  | .hbm, ⟨25, _⟩ => ⟨S128x32, .f32⟩
  | .hbm, ⟨26, _⟩ => ⟨S64, .f32⟩
  | .hbm, ⟨27, _⟩ => ⟨S64x1, .f32⟩
  | .hbm, ⟨28, _⟩ => ⟨S1x32, .f32⟩
  | .hbm, ⟨29, _⟩ => ⟨S64x32, .f32⟩
  | .hbm, ⟨30, _⟩ => ⟨S64x32, .f32⟩
  | .hbm, ⟨31, _⟩ => ⟨S64x32, .f32⟩
  | .hbm, ⟨32, _⟩ => ⟨S128x32, .f32⟩
  | .hbm, ⟨33, _⟩ => ⟨S128x64x32, .f32⟩
  | .hbm, ⟨34, _⟩ => ⟨S8192x32, .f32⟩
  | .hbm, ⟨35, _⟩ => ⟨S128x32, .f32⟩
  | .hbm, ⟨36, _⟩ => ⟨S128x64x32, .f32⟩
  | .hbm, ⟨37, _⟩ => ⟨S8192x32, .f32⟩
  | .hbm, ⟨38, _⟩ => ⟨S64x32, .f32⟩
  | .hbm, ⟨39, _⟩ => ⟨S1x64x1x32, .f32⟩
  | .hbm, ⟨40, _⟩ => ⟨S128x64x1x32, .f32⟩
  | .hbm, ⟨41, _⟩ => ⟨S8192x32, .f32⟩
  | .hbm, ⟨42, _⟩ => ⟨S64x32, .f32⟩
  | .hbm, ⟨43, _⟩ => ⟨S1x64x1x32, .f32⟩
  | .hbm, ⟨44, _⟩ => ⟨S128x64x1x32, .f32⟩
  | .hbm, ⟨45, _⟩ => ⟨S8192x32, .f32⟩
  | .hbm, ⟨46, _⟩ => ⟨S8192x128, .f32⟩
  | .hbm, ⟨47, _⟩ => ⟨S8192x32, .f32⟩
  | .hbm, ⟨48, _⟩ => ⟨S8192x32, .f32⟩
  | .hbm, ⟨49, _⟩ => ⟨S8192x128, .f32⟩
  | .hbm, ⟨50, _⟩ => ⟨S8192x1024, .bf16⟩
  | .hbm, ⟨51, _⟩ => ⟨S1x128, .f32⟩
  | .hbm, ⟨52, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S4x256x128, .f32⟩
  | .local _ .vmem, ⟨5, _⟩ => ⟨S4x256x128, .f32⟩
  | .local _ .vmem, ⟨6, _⟩ => ⟨S2x256x128, .f32⟩
  | .local _ .vmem, ⟨7, _⟩ => ⟨S2x256x128, .f32⟩
  | .local _ .vmem, ⟨8, _⟩ => ⟨S2x256x128, .f32⟩
  | .local _ .vmem, ⟨9, _⟩ => ⟨S2x256x128, .f32⟩
  | .local _ .vmem, ⟨10, _⟩ => ⟨S1x128, .f32⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x1024, .bf16⟩
  | .local _ .vmem, ⟨17, _⟩ => ⟨S256x1024, .bf16⟩
  | .local _ .vmem, ⟨18, _⟩ => ⟨S1x128, .f32⟩
  | .local _ .vmem, ⟨19, _⟩ => ⟨S1x128, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== QkvRefIdeal.lean ====
abbrev S8192x2560 : Shape := ⟨2, ![8192, 2560]⟩
abbrev S1x128 : Shape := ⟨2, ![1, 128]⟩
abbrev S4x8192x128 : Shape := ⟨3, ![4, 8192, 128]⟩
abbrev S2x8448x128 : Shape := ⟨3, ![2, 8448, 128]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x2x32 : Shape := ⟨3, ![8192, 2, 32]⟩
abbrev S8192x1024 : Shape := ⟨2, ![8192, 1024]⟩
abbrev S8192x512 : Shape := ⟨2, ![8192, 512]⟩
abbrev S8192x256 : Shape := ⟨2, ![8192, 256]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192x2x128 : Shape := ⟨3, ![8192, 2, 128]⟩
abbrev S8192x2 : Shape := ⟨2, ![8192, 2]⟩
abbrev S8192x2x1 : Shape := ⟨3, ![8192, 2, 1]⟩
abbrev S8192x4x2x2x32 : Shape := ⟨5, ![8192, 4, 2, 2, 32]⟩
abbrev S8192x4x2x1x32 : Shape := ⟨5, ![8192, 4, 2, 1, 32]⟩
abbrev S8192x4x2x32 : Shape := ⟨4, ![8192, 4, 2, 32]⟩
abbrev S8192x1x2x32 : Shape := ⟨4, ![8192, 1, 2, 32]⟩
abbrev S8192x2x2x2x32 : Shape := ⟨5, ![8192, 2, 2, 2, 32]⟩
abbrev S8192x2x2x1x32 : Shape := ⟨5, ![8192, 2, 2, 1, 32]⟩
abbrev S8192x2x2x32 : Shape := ⟨4, ![8192, 2, 2, 32]⟩
abbrev S2x8192x128 : Shape := ⟨3, ![2, 8192, 128]⟩

abbrev nBuf : Space → Nat
  | .hbm => 246
  | .vmem => 0
  | .smem => 0
  | _ => 0

abbrev hbmTy0_0 (i : Nat) : BufTy := match i % 128 with
  | 0 => ⟨S8192x2560, .f32⟩
  | 1 => ⟨S1x128, .f32⟩
  | 2 => ⟨S1x128, .f32⟩
  | 3 => ⟨S4x8192x128, .f32⟩
  | 4 => ⟨S2x8448x128, .f32⟩
  | 5 => ⟨S2x8448x128, .f32⟩
  | 6 => ⟨S128, .i32⟩
  | 7 => ⟨S128x64, .i32⟩
  | 8 => ⟨S8192, .i32⟩
  | 9 => ⟨S8192, .f32⟩
  | 10 => ⟨S64, .i32⟩
  | 11 => ⟨S1x64, .i32⟩
  | 12 => ⟨S128x64, .i32⟩
  | 13 => ⟨S8192, .i32⟩
  | 14 => ⟨S8192, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S8192x1, .f32⟩
  | 30 => ⟨S1x32, .f32⟩
  | 31 => ⟨S8192x32, .f32⟩
  | 32 => ⟨S8192x32, .f32⟩
  | 33 => ⟨S8192x32, .f32⟩
  | 34 => ⟨S8192x1, .f32⟩
  | 35 => ⟨S1x32, .f32⟩
  | 36 => ⟨S8192x32, .f32⟩
  | 37 => ⟨S8192x32, .f32⟩
  | 38 => ⟨S8192x32, .f32⟩
  | 39 => ⟨S8192x1x32, .f32⟩
  | 40 => ⟨S8192x1x32, .f32⟩
  | 41 => ⟨S8192x2x32, .f32⟩
  | 42 => ⟨S8192x2x32, .f32⟩
  | 43 => ⟨S8192x2x32, .f32⟩
  | 44 => ⟨S8192x1024, .f32⟩
  | 45 => ⟨S8192x512, .f32⟩
  | 46 => ⟨S8192x256, .f32⟩
  | 47 => ⟨S8192x256, .f32⟩
  | 48 => ⟨S8192x4x128, .f32⟩
  | 49 => ⟨S8192x4x128, .f32⟩
  | 50 => ⟨S_, .f32⟩
  | 51 => ⟨S8192x4, .f32⟩
  | 52 => ⟨S8192x4x1, .f32⟩
  | 53 => ⟨S_, .f32⟩
  | 54 => ⟨S8192x4x1, .f32⟩
  | 55 => ⟨S8192x4x1, .f32⟩
  | 56 => ⟨S_, .f32⟩
  | 57 => ⟨S8192x4x1, .f32⟩
  | 58 => ⟨S8192x4x1, .f32⟩
  | 59 => ⟨S8192x4x1, .f32⟩
  | 60 => ⟨S8192x4x1, .f32⟩
  | 61 => ⟨S_, .f32⟩
  | 62 => ⟨S8192x4x1, .f32⟩
  | 63 => ⟨S8192x4x1, .f32⟩
  | 64 => ⟨S8192x4x128, .f32⟩
  | 65 => ⟨S8192x4x128, .f32⟩
  | 66 => ⟨S1x1x128, .f32⟩
  | 67 => ⟨S8192x4x128, .f32⟩
  | 68 => ⟨S8192x4x128, .f32⟩
  | 69 => ⟨S8192x2x128, .f32⟩
  | 70 => ⟨S8192x2x128, .f32⟩
  | 71 => ⟨S_, .f32⟩
  | 72 => ⟨S8192x2, .f32⟩
  | 73 => ⟨S8192x2x1, .f32⟩
  | 74 => ⟨S_, .f32⟩
  | 75 => ⟨S8192x2x1, .f32⟩
  | 76 => ⟨S8192x2x1, .f32⟩
  | 77 => ⟨S_, .f32⟩
  | 78 => ⟨S8192x2x1, .f32⟩
  | 79 => ⟨S8192x2x1, .f32⟩
  | 80 => ⟨S8192x2x1, .f32⟩
  | 81 => ⟨S8192x2x1, .f32⟩
  | 82 => ⟨S_, .f32⟩
  | 83 => ⟨S8192x2x1, .f32⟩
  | 84 => ⟨S8192x2x1, .f32⟩
  | 85 => ⟨S8192x2x128, .f32⟩
  | 86 => ⟨S8192x2x128, .f32⟩
  | 87 => ⟨S1x1x128, .f32⟩
  | 88 => ⟨S8192x2x128, .f32⟩
  | 89 => ⟨S8192x2x128, .f32⟩
  | 90 => ⟨S8192x4x2x2x32, .f32⟩
  | 91 => ⟨S8192x4x2x1x32, .f32⟩
  | 92 => ⟨S8192x4x2x32, .f32⟩
  | 93 => ⟨S8192x4x2x1x32, .f32⟩
  | 94 => ⟨S8192x4x2x32, .f32⟩
  | 95 => ⟨S8192x1x2x32, .f32⟩
  | 96 => ⟨S8192x1x2x32, .f32⟩
  | 97 => ⟨S8192x4x2x32, .f32⟩
  | 98 => ⟨S8192x4x2x32, .f32⟩
  | 99 => ⟨S8192x4x2x32, .f32⟩
  | 100 => ⟨S8192x4x2x32, .f32⟩
  | 101 => ⟨S8192x4x2x32, .f32⟩
  | 102 => ⟨S8192x4x2x32, .f32⟩
  | 103 => ⟨S8192x4x2x32, .f32⟩
  | 104 => ⟨S8192x4x2x32, .f32⟩
  | 105 => ⟨S8192x4x2x32, .f32⟩
  | 106 => ⟨S8192x4x2x32, .f32⟩
  | 107 => ⟨S8192x4x2x1x32, .f32⟩
  | 108 => ⟨S8192x4x2x1x32, .f32⟩
  | 109 => ⟨S8192x4x2x2x32, .f32⟩
  | 110 => ⟨S8192x4x128, .f32⟩
  | 111 => ⟨S8192x2x2x2x32, .f32⟩
  | 112 => ⟨S8192x2x2x1x32, .f32⟩
  | 113 => ⟨S8192x2x2x32, .f32⟩
  | 114 => ⟨S8192x2x2x1x32, .f32⟩
  | 115 => ⟨S8192x2x2x32, .f32⟩
  | 116 => ⟨S8192x1x2x32, .f32⟩
  | 117 => ⟨S8192x1x2x32, .f32⟩
  | 118 => ⟨S8192x2x2x32, .f32⟩
  | 119 => ⟨S8192x2x2x32, .f32⟩
  | 120 => ⟨S8192x2x2x32, .f32⟩
  | 121 => ⟨S8192x2x2x32, .f32⟩
  | 122 => ⟨S8192x2x2x32, .f32⟩
  | 123 => ⟨S8192x2x2x32, .f32⟩
  | 124 => ⟨S8192x2x2x32, .f32⟩
  | 125 => ⟨S8192x2x2x32, .f32⟩
  | 126 => ⟨S8192x2x2x32, .f32⟩
  | 127 => ⟨S8192x2x2x32, .f32⟩
  | _ => ⟨S8192x2560, .f32⟩

abbrev hbmTy0_1 (i : Nat) : BufTy := match i % 128 with
  | 0 => ⟨S8192x2x2x1x32, .f32⟩
  | 1 => ⟨S8192x2x2x1x32, .f32⟩
  | 2 => ⟨S8192x2x2x2x32, .f32⟩
  | 3 => ⟨S8192x2x128, .f32⟩
  | 4 => ⟨S4x8192x128, .f32⟩
  | 5 => ⟨S2x8192x128, .f32⟩
  | 6 => ⟨S8192x2x128, .f32⟩
  | 7 => ⟨S2x8192x128, .f32⟩
  | 8 => ⟨S2x8192x128, .f32⟩
  | 9 => ⟨S2x8192x128, .f32⟩
  | 10 => ⟨S8192x2x128, .f32⟩
  | 11 => ⟨S8192x256, .f32⟩
  | 12 => ⟨S8192x2x128, .f32⟩
  | 13 => ⟨S8192x4x128, .f32⟩
  | 14 => ⟨S8192x2x2x2x32, .f32⟩
  | 15 => ⟨S8192x2x2x1x32, .f32⟩
  | 16 => ⟨S8192x2x2x32, .f32⟩
  | 17 => ⟨S8192x2x2x1x32, .f32⟩
  | 18 => ⟨S8192x2x2x32, .f32⟩
  | 19 => ⟨S8192x2x2x32, .f32⟩
  | 20 => ⟨S8192x2x2x32, .f32⟩
  | 21 => ⟨S8192x2x2x32, .f32⟩
  | 22 => ⟨S8192x2x2x32, .f32⟩
  | 23 => ⟨S8192x2x2x32, .f32⟩
  | 24 => ⟨S8192x2x2x32, .f32⟩
  | 25 => ⟨S8192x2x2x32, .f32⟩
  | 26 => ⟨S8192x2x2x32, .f32⟩
  | 27 => ⟨S8192x2x2x32, .f32⟩
  | 28 => ⟨S8192x2x2x32, .f32⟩
  | 29 => ⟨S8192x2x2x32, .f32⟩
  | 30 => ⟨S8192x2x2x1x32, .f32⟩
  | 31 => ⟨S_, .f32⟩
  | 32 => ⟨S8192x2x2x2x32, .f32⟩
  | 33 => ⟨S8192x2x2x1x32, .f32⟩
  | 34 => ⟨S_, .f32⟩
  | 35 => ⟨S8192x2x2x2x32, .f32⟩
  | 36 => ⟨S8192x2x2x2x32, .f32⟩
  | 37 => ⟨S8192x2x128, .f32⟩
  | 38 => ⟨S8192x4x2x2x32, .f32⟩
  | 39 => ⟨S8192x4x2x1x32, .f32⟩
  | 40 => ⟨S8192x4x2x32, .f32⟩
  | 41 => ⟨S8192x4x2x1x32, .f32⟩
  | 42 => ⟨S8192x4x2x32, .f32⟩
  | 43 => ⟨S8192x4x2x32, .f32⟩
  | 44 => ⟨S8192x4x2x32, .f32⟩
  | 45 => ⟨S8192x4x2x32, .f32⟩
  | 46 => ⟨S8192x4x2x32, .f32⟩
  | 47 => ⟨S8192x4x2x32, .f32⟩
  | 48 => ⟨S8192x4x2x32, .f32⟩
  | 49 => ⟨S8192x4x2x32, .f32⟩
  | 50 => ⟨S8192x4x2x32, .f32⟩
  | 51 => ⟨S8192x4x2x32, .f32⟩
  | 52 => ⟨S8192x4x2x32, .f32⟩
  | 53 => ⟨S8192x4x2x32, .f32⟩
  | 54 => ⟨S8192x4x2x1x32, .f32⟩
  | 55 => ⟨S_, .f32⟩
  | 56 => ⟨S8192x4x2x2x32, .f32⟩
  | 57 => ⟨S8192x4x2x1x32, .f32⟩
  | 58 => ⟨S_, .f32⟩
  | 59 => ⟨S8192x4x2x2x32, .f32⟩
  | 60 => ⟨S8192x4x2x2x32, .f32⟩
  | 61 => ⟨S8192x4x128, .f32⟩
  | 62 => ⟨S8192x2x128, .f32⟩
  | 63 => ⟨S_, .f32⟩
  | 64 => ⟨S128, .f32⟩
  | 65 => ⟨S1x1x128, .f32⟩
  | 66 => ⟨S8192x2x128, .f32⟩
  | 67 => ⟨S8192x2x128, .f32⟩
  | 68 => ⟨S_, .f32⟩
  | 69 => ⟨S128, .f32⟩
  | 70 => ⟨S1x128, .f32⟩
  | 71 => ⟨S8192x2x128, .f32⟩
  | 72 => ⟨S_, .f32⟩
  | 73 => ⟨S8192x2, .f32⟩
  | 74 => ⟨S8192x2x1, .f32⟩
  | 75 => ⟨S8192x2x128, .f32⟩
  | 76 => ⟨S8192x2x128, .f32⟩
  | 77 => ⟨S8192x2x1, .f32⟩
  | 78 => ⟨S_, .f32⟩
  | 79 => ⟨S8192x2x1, .f32⟩
  | 80 => ⟨S8192x2x1, .f32⟩
  | 81 => ⟨S_, .f32⟩
  | 82 => ⟨S8192x2, .f32⟩
  | 83 => ⟨S8192x2x128, .f32⟩
  | 84 => ⟨S8192x2x128, .f32⟩
  | 85 => ⟨S8192x2x128, .f32⟩
  | 86 => ⟨S8192x2x128, .f32⟩
  | 87 => ⟨S8192x2x128, .f32⟩
  | 88 => ⟨S8192x256, .f32⟩
  | 89 => ⟨S8192x4x128, .f32⟩
  | 90 => ⟨S_, .f32⟩
  | 91 => ⟨S128, .f32⟩
  | 92 => ⟨S1x1x128, .f32⟩
  | 93 => ⟨S8192x4x128, .f32⟩
  | 94 => ⟨S8192x4x128, .f32⟩
  | 95 => ⟨S_, .f32⟩
  | 96 => ⟨S128, .f32⟩
  | 97 => ⟨S1x128, .f32⟩
  | 98 => ⟨S8192x4x128, .f32⟩
  | 99 => ⟨S_, .f32⟩
  | 100 => ⟨S8192x4, .f32⟩
  | 101 => ⟨S8192x4x1, .f32⟩
  | 102 => ⟨S8192x4x128, .f32⟩
  | 103 => ⟨S8192x4x128, .f32⟩
  | 104 => ⟨S8192x4x1, .f32⟩
  | 105 => ⟨S_, .f32⟩
  | 106 => ⟨S8192x4x1, .f32⟩
  | 107 => ⟨S8192x4x1, .f32⟩
  | 108 => ⟨S_, .f32⟩
  | 109 => ⟨S8192x4, .f32⟩
  | 110 => ⟨S8192x4x128, .f32⟩
  | 111 => ⟨S8192x4x128, .f32⟩
  | 112 => ⟨S8192x4x128, .f32⟩
  | 113 => ⟨S8192x4x128, .f32⟩
  | 114 => ⟨S8192x4x128, .f32⟩
  | 115 => ⟨S8192x512, .f32⟩
  | 116 => ⟨S8192x1024, .f32⟩
  | 117 => ⟨S8192x1024, .bf16⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_cst_11 : Ref sig .tc := ⟨.hbm, 159, rfl⟩
abbrev main_v141 : Ref sig .tc := ⟨.hbm, 160, rfl⟩
abbrev main_v142 : Ref sig .tc := ⟨.hbm, 161, rfl⟩
abbrev main_cst_12 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_cst_13 : Ref sig .tc := ⟨.hbm, 183, rfl⟩
abbrev main_v163 : Ref sig .tc := ⟨.hbm, 184, rfl⟩
abbrev main_v164 : Ref sig .tc := ⟨.hbm, 185, rfl⟩
abbrev main_cst_14 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_cst_15 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_cst_16 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_cst_17 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_cst_18 : Ref sig .tc := ⟨.hbm, 206, rfl⟩
abbrev main_v181 : Ref sig .tc := ⟨.hbm, 207, rfl⟩
abbrev main_v182 : Ref sig .tc := ⟨.hbm, 208, rfl⟩
abbrev main_cst_19 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_cst_20 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_cst_21 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_cst_22 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_cst_23 : Ref sig .tc := ⟨.hbm, 233, rfl⟩
abbrev main_v203 : Ref sig .tc := ⟨.hbm, 234, rfl⟩
abbrev main_v204 : Ref sig .tc := ⟨.hbm, 235, rfl⟩
abbrev main_cst_24 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩

abbrev nD : Nat := 1
abbrev τ : Topo := Topo.v7x

variable {F : FTy → Type} [FloatOps F]
-- ==== AttnFwd.lean ====
abbrev S4x8192x128 : Shape := ⟨3, ![4, 8192, 128]⟩
abbrev S2x8192x128 : Shape := ⟨3, ![2, 8192, 128]⟩
abbrev S2x256x128 : Shape := ⟨3, ![2, 256, 128]⟩
abbrev S2x8448x128 : Shape := ⟨3, ![2, 8448, 128]⟩
abbrev S_ : Shape := ⟨0, ![]⟩
abbrev S8192x512 : Shape := ⟨2, ![8192, 512]⟩
abbrev S4x8192x1 : Shape := ⟨3, ![4, 8192, 1]⟩
abbrev S2x512x128 : Shape := ⟨3, ![2, 512, 128]⟩
abbrev S1x8448x128 : Shape := ⟨3, ![1, 8448, 128]⟩
abbrev S512x256 : Shape := ⟨2, ![512, 256]⟩
abbrev S2x512x1 : Shape := ⟨3, ![2, 512, 1]⟩
abbrev S1024x128 : Shape := ⟨2, ![1024, 128]⟩
abbrev S256x128 : Shape := ⟨2, ![256, 128]⟩
abbrev S8448x128 : Shape := ⟨2, ![8448, 128]⟩
abbrev S256x8448 : Shape := ⟨2, ![256, 8448]⟩
abbrev S256 : Shape := ⟨1, ![256]⟩
abbrev S256x1 : Shape := ⟨2, ![256, 1]⟩
abbrev S512x128 : Shape := ⟨2, ![512, 128]⟩
abbrev S1024x1 : Shape := ⟨2, ![1024, 1]⟩

abbrev nBuf : Space → Nat
  | .hbm => 14
  | .vmem => 10
  | .smem => 0
  | _ => 0

abbrev bufTy : (tb : Table) → Fin (tcTables nBuf tb) → BufTy
  | .hbm, ⟨0, _⟩ => ⟨S4x8192x128, .f32⟩
  | .hbm, ⟨1, _⟩ => ⟨S2x8192x128, .f32⟩
  | .hbm, ⟨2, _⟩ => ⟨S2x8192x128, .f32⟩
  | .hbm, ⟨3, _⟩ => ⟨S2x256x128, .f32⟩
  | .hbm, ⟨4, _⟩ => ⟨S2x256x128, .f32⟩
  | .hbm, ⟨5, _⟩ => ⟨S2x8448x128, .f32⟩
  | .hbm, ⟨6, _⟩ => ⟨S2x8448x128, .f32⟩
  | .hbm, ⟨7, _⟩ => ⟨S_, .f32⟩
  | .hbm, ⟨8, _⟩ => ⟨S4x8192x128, .f32⟩
  | .hbm, ⟨9, _⟩ => ⟨S4x8192x128, .f32⟩
  | .hbm, ⟨10, _⟩ => ⟨S2x8448x128, .bf16⟩
  | .hbm, ⟨11, _⟩ => ⟨S2x8448x128, .bf16⟩
  | .hbm, ⟨12, _⟩ => ⟨S8192x512, .f32⟩
  | .hbm, ⟨13, _⟩ => ⟨S4x8192x1, .f32⟩
  | .local _ .vmem, ⟨0, _⟩ => ⟨S2x512x128, .f32⟩
  | .local _ .vmem, ⟨1, _⟩ => ⟨S2x512x128, .f32⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S512x256, .f32⟩
  | .local _ .vmem, ⟨7, _⟩ => ⟨S512x256, .f32⟩
  | .local _ .vmem, ⟨8, _⟩ => ⟨S2x512x1, .f32⟩
  | .local _ .vmem, ⟨9, _⟩ => ⟨S2x512x1, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== AttnFwdRefIdeal.lean ====
abbrev S4x8192x128 : Shape := ⟨3, ![4, 8192, 128]⟩
abbrev S2x8192x128 : Shape := ⟨3, ![2, 8192, 128]⟩
abbrev S2x256x128 : Shape := ⟨3, ![2, 256, 128]⟩
abbrev S2x8448x128 : Shape := ⟨3, ![2, 8448, 128]⟩
abbrev S2x2x8192x128 : Shape := ⟨4, ![2, 2, 8192, 128]⟩
abbrev S2x2x8192x8448 : Shape := ⟨4, ![2, 2, 8192, 8448]⟩
abbrev S_ : Shape := ⟨0, ![]⟩
abbrev S2x2x8192 : Shape := ⟨3, ![2, 2, 8192]⟩
abbrev S2x2x8192x1 : Shape := ⟨4, ![2, 2, 8192, 1]⟩
abbrev S8192x2x2x128 : Shape := ⟨4, ![8192, 2, 2, 128]⟩
abbrev S8192x512 : Shape := ⟨2, ![8192, 512]⟩
abbrev S4x8192x1 : Shape := ⟨3, ![4, 8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S2x8192x128, .f32⟩
  | .hbm, ⟨2, _⟩ => ⟨S2x8192x128, .f32⟩
  | .hbm, ⟨3, _⟩ => ⟨S2x256x128, .f32⟩
  | .hbm, ⟨4, _⟩ => ⟨S2x256x128, .f32⟩
  | .hbm, ⟨5, _⟩ => ⟨S2x8448x128, .f32⟩
  | .hbm, ⟨6, _⟩ => ⟨S2x8448x128, .f32⟩
  | .hbm, ⟨7, _⟩ => ⟨S2x2x8192x128, .f32⟩
  | .hbm, ⟨8, _⟩ => ⟨S2x2x8192x8448, .f32⟩
  | .hbm, ⟨9, _⟩ => ⟨S_, .f32⟩
  | .hbm, ⟨10, _⟩ => ⟨S2x2x8192x8448, .f32⟩
  | .hbm, ⟨11, _⟩ => ⟨S2x2x8192x8448, .f32⟩
  | .hbm, ⟨12, _⟩ => ⟨S_, .f32⟩
  | .hbm, ⟨13, _⟩ => ⟨S2x2x8192, .f32⟩
  | .hbm, ⟨14, _⟩ => ⟨S_, .f32⟩
  | .hbm, ⟨15, _⟩ => ⟨S2x2x8192, .f32⟩
  | .hbm, ⟨16, _⟩ => ⟨S2x2x8192, .f32⟩
  | .hbm, ⟨17, _⟩ => ⟨S2x2x8192x1, .f32⟩
  | .hbm, ⟨18, _⟩ => ⟨S2x2x8192x8448, .f32⟩
  | .hbm, ⟨19, _⟩ => ⟨S2x2x8192x8448, .f32⟩
  | .hbm, ⟨20, _⟩ => ⟨S2x2x8192x8448, .f32⟩
  | .hbm, ⟨21, _⟩ => ⟨S_, .f32⟩
  | .hbm, ⟨22, _⟩ => ⟨S2x2x8192, .f32⟩
  | .hbm, ⟨23, _⟩ => ⟨S2x2x8192x1, .f32⟩
  | .hbm, ⟨24, _⟩ => ⟨S2x2x8192x8448, .f32⟩
  | .hbm, ⟨25, _⟩ => ⟨S2x2x8192x8448, .f32⟩
  | .hbm, ⟨26, _⟩ => ⟨S2x2x8192x128, .f32⟩
  | .hbm, ⟨27, _⟩ => ⟨S_, .f32⟩
  | .hbm, ⟨28, _⟩ => ⟨S2x2x8192, .f32⟩
  | .hbm, ⟨29, _⟩ => ⟨S2x2x8192x1, .f32⟩
  | .hbm, ⟨30, _⟩ => ⟨S2x2x8192x8448, .f32⟩
  | .hbm, ⟨31, _⟩ => ⟨S2x2x8192x8448, .f32⟩
  | .hbm, ⟨32, _⟩ => ⟨S2x2x8192x8448, .f32⟩
  | .hbm, ⟨33, _⟩ => ⟨S_, .f32⟩
  | .hbm, ⟨34, _⟩ => ⟨S2x2x8192, .f32⟩
  | .hbm, ⟨35, _⟩ => ⟨S2x2x8192, .f32⟩
  | .hbm, ⟨36, _⟩ => ⟨S2x2x8192, .f32⟩
  | .hbm, ⟨37, _⟩ => ⟨S8192x2x2x128, .f32⟩
  | .hbm, ⟨38, _⟩ => ⟨S8192x512, .f32⟩
  | .hbm, ⟨39, _⟩ => ⟨S4x8192x1, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== NormFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormFwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Proof.Lift.lean ====
/-
  Finite arrays as arrays of real numbers. The claims of this package compare two programs over the extended reals whose
  results agree only for finite arguments (a difference of infinities, or zero times infinity, is not preserved by
  distributivity). The precondition says that every element's absolute value is below infinity; this module turns that into
  real arrays, and pushes the coercion from ℝ outwards through the operations the programs use.
-/
module

public import Idealize.ShloMosaic.Lib.Pointwise
public import Idealize.ShloMosaic.Lib.ReduceAll
public import Idealize.ShloMosaic.Lib.StableHlo

@[expose] public section

noncomputable section

namespace Cert.Lift

open Idealize.ShloMosaic

/-- An extended real whose absolute value is below infinity is a real number. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- An array of extended reals all of whose elements are real numbers. -/
def IsReal {s : Shape} (X : s.Idx → EReal) : Prop := ∃ x : s.Idx → ℝ, X = fun i => ((x i : ℝ) : EReal)

/-- The printed `jnp.all(jnp.abs(a) < jnp.inf)` of a whole array: when it is 1, the array is an array of real numbers. -/
theorem real_of_all {s : Shape} (X : FVec Ideal s .f32) {dims : Fin 0 → Fin s.rank}
    {hb : (⟨0, ![]⟩ : Shape).BroadcastsInDim s dims} {axes : List (Fin s.rank)} {hr : s.ReducesTo axes ⟨0, ![]⟩}
    {hu : 0 < (⟨0, ![]⟩ : Shape).numel} (j : (⟨0, ![]⟩ : Shape).Idx)
    (e : Host.reduce IntOp.andi (cmpf .olt (Host.absf X) (broadcastInDim s dims hb (constant ⟨0, ![]⟩ .f32 0x7F800000#32)))
      (constantI ⟨0, ![]⟩ 1 1#1) hr hu j = 1#1) : IsReal (s := s) X := by
  have h : ∀ i, ∃ r : ℝ, X i = r := fun i => real_of_lt _ (Host.reduce_andi_all _ _ hr hu j e i)
  choose x hx using h
  exact ⟨x, funext hx⟩

/-- A finite sum of reals, as an extended real. -/
theorem sum_coe {ι : Type} [Fintype ι] (f : ι → ℝ) : (∑ k, ((f k : ℝ) : EReal)) = ((∑ k, f k : ℝ) : EReal) :=
  (map_sum (⟨⟨Real.toEReal, EReal.coe_zero⟩, EReal.coe_add⟩ : ℝ →+ EReal) f Finset.univ).symm

/-- Division of a real by a real that is not zero. -/
theorem div_coe {y : ℝ} (h : y ≠ 0) (x : ℝ) : Ideal.div (x : EReal) (y : EReal) = ((x / y : ℝ) : EReal) := by
  rw [Ideal.div_coe h, ← EReal.coe_mul, mul_one_div]

/-- The reciprocal square root of a positive real. -/
theorem rsqrt_coe {r : ℝ} (h : 0 < r) : Ideal.rsqrt (r : EReal) = (((√r)⁻¹ : ℝ) : EReal) := by
  rw [Ideal.rsqrt_coe, if_neg (not_lt.2 h.le), if_neg h.ne']

/-! ## The constants of the programs -/

/-- The small number the norms add to a mean of squares, as its f32 pattern reads. -/
def eps : ℝ := 8796093 / 8796093022208

theorem eps_pos : 0 < eps := by norm_num [eps]

theorem ofBits_eps : Ideal.ofBits .f32 0x358637BD#32 = (eps : EReal) := by
  simp [Ideal.ofBits, Ideal.ieee, eps, -EReal.coe_mul]; norm_num

theorem ofBits_1024 : Ideal.ofBits .f32 0x44800000#32 = ((1024 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-! ## The root mean square of a row -/

/-- The mean of the squares of a row of `n` numbers, plus `eps`. -/
def ms {ι : Type} [Fintype ι] (n : ℝ) (x : ι → ℝ) : ℝ := (∑ k, x k * x k) / n + eps

/-- What a row is multiplied by to be normalised. -/
def rn {ι : Type} [Fintype ι] (n : ℝ) (x : ι → ℝ) : ℝ := (√(ms n x))⁻¹

theorem ms_pos {ι : Type} [Fintype ι] {n : ℝ} (hn : 0 < n) (x : ι → ℝ) : 0 < ms n x :=
  add_pos_of_nonneg_of_pos (div_nonneg (Finset.sum_nonneg fun k _ => mul_self_nonneg (x k)) hn.le) eps_pos

theorem rn_sq {ι : Type} [Fintype ι] {n : ℝ} (hn : 0 < n) (x : ι → ℝ) : rn n x * rn n x * ms n x = 1 := by
  have h := ms_pos hn x
  have h2 : √(ms n x) ≠ 0 := (Real.sqrt_pos.2 h).ne'
  unfold rn
  field_simp
  exact (Real.sq_sqrt h.le).symm

/-- The reciprocal square root both programs compute, of a finite row. -/
theorem rsqrt_ms {ι : Type} [Fintype ι] (x : ι → ℝ) :
    Ideal.rsqrt (((∑ k, x k * x k) / 1024 + eps : ℝ) : EReal) = (rn 1024 x : EReal) :=
  rsqrt_coe (ms_pos (by norm_num) x)

/-- The same for a row of 128. -/
theorem rsqrt_ms_128 {ι : Type} [Fintype ι] (x : ι → ℝ) :
    Ideal.rsqrt (((∑ k, x k * x k) / 128 + eps : ℝ) : EReal) = (rn 128 x : EReal) :=
  rsqrt_coe (ms_pos (by norm_num) x)

/-- The quotient by the mean of squares that the derivative of the reciprocal square root takes. -/
theorem div_ms {ι : Type} [Fintype ι] (x : ι → ℝ) (a : ℝ) :
    Ideal.div (a : EReal) (((∑ k, x k * x k) / 1024 + eps : ℝ) : EReal) = ((a / ms 1024 x : ℝ) : EReal) :=
  div_coe (ms_pos (by norm_num) x).ne' a

/-- The same for a row of 128. -/
theorem div_ms_128 {ι : Type} [Fintype ι] (x : ι → ℝ) (a : ℝ) :
    Ideal.div (a : EReal) (((∑ k, x k * x k) / 128 + eps : ℝ) : EReal) = ((a / ms 128 x : ℝ) : EReal) :=
  div_coe (ms_pos (by norm_num) x).ne' a

theorem div_1024 (a : ℝ) : Ideal.div (a : EReal) ((1024 : ℝ) : EReal) = ((a / 1024 : ℝ) : EReal) := div_coe (by norm_num) a

theorem div_128 (a : ℝ) : Ideal.div (a : EReal) ((128 : ℝ) : EReal) = ((a / 128 : ℝ) : EReal) := div_coe (by norm_num) a

/-- The gradient of a normalised row `x · r` with respect to `x`, where `g` is the gradient that arrives at it: the closed
    form the kernels compute, and the three terms of the product and chain rules. -/
theorem norm_dx {ι : Type} [Fintype ι] {n : ℝ} (hn : 0 < n) (x g : ι → ℝ) (l : ι) :
    rn n x * (g l - x l * rn n x * ((∑ k, g k * (x k * rn n x)) / n))
      = g l * rn n x + x l * ((∑ k, x k * g k) * (-(1 / 2) * (rn n x / ms n x)) / n)
        + (∑ k, x k * g k) * (-(1 / 2) * (rn n x / ms n x)) / n * x l := by
  have h := rn_sq hn x
  have hm := (ms_pos hn x).ne'
  have hs : (∑ k, g k * (x k * rn n x)) = (∑ k, x k * g k) * rn n x := by
    rw [Finset.sum_mul]; exact Finset.sum_congr rfl fun k _ => by ring
  have hq : rn n x / ms n x = rn n x * rn n x * rn n x := by
    rw [div_eq_iff hm]; linear_combination (-(rn n x)) * h
  rw [hs, hq]
  ring

end Cert.Lift

end
-- ==== Proof.NormCtx.lean ====
/-
  The norm and modulation of the context tokens, backward: the kernel's four results and the reference's are the same
  arrays. The kernel's grid has one point, so each result is the block that point writes.
-/
module

public import proofs.«01_k».proof.Proof.Lift
public import proofs.«01_k».proof.Defs
public import proofs.«01_k».proof.Proof.Gen.NormCtxIdeal.Frame
public import proofs.«01_k».proof.Proof.Gen.NormCtxIdeal.Value
public import proofs.«01_k».proof.Proof.Gen.NormCtxRefIdeal.Run
public import proofs.«01_k».proof.Proof.Gen.Pre_norm_finite
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.NormCtxValue

open Cert.NormCtxIdeal Cert.NormCtxIdeal.Gen

/-- Finite arguments: the precondition gives real arrays. -/
theorem reals (x : FVec Ideal S256x1024 .f32) (gain scale shift : FVec Ideal S1x1024 .f32) (ct : FVec Ideal S256x1024 .f32)
    (h : Cert.Pre_norm_finite.fn x gain scale shift ct = fun _ => 1#1) :
    Lift.IsReal (s := S256x1024) x ∧ Lift.IsReal (s := S1x1024) gain ∧ Lift.IsReal (s := S1x1024) scale
      ∧ Lift.IsReal (s := S256x1024) ct := by
  have h0 := congrFun h (ix1 0)
  have h1 := congrFun h (ix1 1)
  have h2 := congrFun h (ix1 2)
  have h3 := congrFun h (ix1 3)
  clear h
  unfold Cert.Pre_norm_finite.fn Cert.Pre_norm_finite.fn_part1 at h0 h1 h2 h3
  simp [concatenate_cons_apply, concatenateAt_cons, concatenateAt_singleton] at h0 h1 h2 h3
  exact ⟨Lift.real_of_all x _ h0, Lift.real_of_all gain _ h1, Lift.real_of_all scale _ h2, Lift.real_of_all ct _ h3⟩

variable (m : (ℓ : Loc nD τ sig) → Buf (Elt Ideal) ℓ)
variable (m' : (ℓ : Loc Cert.NormCtxRefIdeal.nD Cert.NormCtxRefIdeal.τ Cert.NormCtxRefIdeal.sig) → Buf (Elt Ideal) ℓ)

/-- The block indices of the launch's only grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] := (by decide +kernel : ∀ t : Fin grid0.N, _)

/-- The only block of the arriving gradient is the whole argument. -/
theorem blk0 (c : Dev nD) : (iblk m c 0 t0_0 : FVec Ideal S256x1024 .f32) = m ((c : Thread nD τ).loc main_arg4) := by
  funext j
  idx_vars j
  blk_point [iblk, V, idx t0_0]

/-- The only block of the tokens is the whole argument. -/
theorem blk1 (c : Dev nD) : (iblk m c 1 t0_0 : FVec Ideal S256x1024 .f32) = m ((c : Thread nD τ).loc main_arg0) := by
  funext j
  idx_vars j
  blk_point [iblk, V, idx t0_0]

/-- The only block of the gain is the whole argument. -/
theorem blk2 (c : Dev nD) : (iblk m c 2 t0_0 : FVec Ideal S1x1024 .f32) = m ((c : Thread nD τ).loc main_arg1) := by
  funext j
  idx_vars j
  blk_point [iblk, V, idx t0_0]

/-- The only block of the scale is the whole argument. -/
theorem blk3 (c : Dev nD) : (iblk m c 3 t0_0 : FVec Ideal S1x1024 .f32) = m ((c : Thread nD τ).loc main_arg2) := by
  funext j
  idx_vars j
  blk_point [iblk, V, idx t0_0]

/-- What the launch leaves in the gradient of the tokens. -/
theorem final4 (c : Dev nD) : (dats m 0 c).arrAt 4 cfg0.N
    = k0_pay11 (F := Ideal) (m ((c : Thread nD τ).loc main_arg0)) (m ((c : Thread nD τ).loc main_arg4)) (m ((c : Thread nD τ).loc main_arg2)) (m ((c : Thread nD τ).loc main_arg1)) := by
  refine (dats m 0 c).arrAt_eq_of_after_last 4 t0_0 (by decide +kernel) _ fun j => ?_
  blk_simp
  rw [after0_4]
  unfold Gen.outsAt0
  frame_out
  rw [blk0, blk1, blk2, blk3]

/-- What the launch leaves in the gradient of the shift. -/
theorem final5 (c : Dev nD) : (dats m 0 c).arrAt 5 cfg0.N
    = k0_pay2 (F := Ideal) (k0_pay12 (m ((c : Thread nD τ).loc main_arg4))) (k0_pay1 (F := Ideal)) := by
  refine (dats m 0 c).arrAt_eq_of_after_last 5 t0_0 (by decide +kernel) _ fun j => ?_
  blk_simp
  rw [after0_5]
  unfold Gen.outsAt0
  frame_out
  rw [blk0]

/-- What the launch leaves in the gradient of the scale. -/
theorem final6 (c : Dev nD) : (dats m 0 c).arrAt 6 cfg0.N
    = k0_pay4 (F := Ideal) (m ((c : Thread nD τ).loc main_arg4)) (k0_pay9 (m ((c : Thread nD τ).loc main_arg0)) (m ((c : Thread nD τ).loc main_arg1))) (k0_pay3 (F := Ideal)) := by
  refine (dats m 0 c).arrAt_eq_of_after_last 6 t0_0 (by decide +kernel) _ fun j => ?_
  blk_simp
  rw [after0_6]
  unfold Gen.outsAt0
  frame_out
  rw [blk0, blk1, blk2]

/-- What the launch leaves in the gradient of the gain. -/
theorem final7 (c : Dev nD) : (dats m 0 c).arrAt 7 cfg0.N
    = k0_pay6 (F := Ideal) (k0_pay8 (m ((c : Thread nD τ).loc main_arg0))) (k0_pay10 (m ((c : Thread nD τ).loc main_arg4)) (m ((c : Thread nD τ).loc main_arg2))) (k0_pay5 (F := Ideal)) := by
  refine (dats m 0 c).arrAt_eq_of_after_last 7 t0_0 (by decide +kernel) _ fun j => ?_
  blk_simp
  rw [after0_7]
  unfold Gen.outsAt0
  frame_out
  rw [blk0, blk1, blk3]

/-- The reference leaves its arguments as they were, and it has no semaphore. -/
theorem refFrame : Cert.quiescent_NormCtxRefIdeal := fun m ρ _ =>
  (θ_run _ _ _).mono (fun r h => ⟨fun c => (h c).2.2.2.2, sem_eq_zero_of_no_sems rfl r.2⟩)
    (Cert.NormCtxRefIdeal.Value.run m ρ)

/-- The two programs' results are the same arrays, for finite arguments. -/
theorem algebraic : Cert.algebraic_NormCtxIdeal_NormCtxRefIdeal_pre_norm_finite := by
  intro m g m' g' hpre hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.NormCtxIdeal.Value.run_blocks m g,
    (θ_run _ _ _).mono (fun r h c => ?_) (Cert.NormCtxRefIdeal.Value.run m' g')⟩
  · obtain ⟨h0, h1, h2, h3, h⟩ := h c
    obtain ⟨a0, a1, a2, a3, a4⟩ := hagree c
    have hp := hpre c
    unfold Cert.NormCtxRefIdeal.Value.res_main_v47 at h0
    rw [a0, a1, a2, a4] at h0
    rw [a4] at h1
    rw [a0, a1, a4] at h2
    rw [a0, a2, a4] at h3
    refine ⟨h0.trans (.trans ?_ (final4 m c).symm), h1.trans (.trans ?_ (final5 m c).symm),
      h2.trans (.trans ?_ (final6 m c).symm), h3.trans (.trans ?_ (final7 m c).symm), h⟩
    all_goals
      clear h0 h1 h2 h3 a0 a1 a2 a3 a4
      generalize m (c.tc.loc main_arg0) = x at hp ⊢
      generalize m (c.tc.loc main_arg1) = gain at hp ⊢
      generalize m (c.tc.loc main_arg2) = sc at hp ⊢
      generalize m (c.tc.loc main_arg3) = sh at hp ⊢
      generalize m (c.tc.loc main_arg4) = ct at hp ⊢
      funext j
      idx_vars j
    · obtain ⟨⟨x, rfl⟩, ⟨gain, rfl⟩, ⟨sc, rfl⟩, ⟨ct, rfl⟩⟩ := reals _ _ _ _ _ hp
      pointwise [k0_pay11, k0_pay10, k0_pay7, k0_pay8, k0_pay9]
      simp only [← EReal.coe_add, ← EReal.coe_mul, ← EReal.coe_sub, Lift.sum_coe, Lift.ofBits_1024, Lift.ofBits_eps,
        Lift.ofBits_neg_half, Lift.div_1024, Lift.rsqrt_ms, Lift.div_ms, ← EReal.coe_one, Fin.sum_univ_one]
      exact congrArg _ (Lift.norm_dx (n := 1024) (by norm_num) (fun k => x (ix2 j0 k))
        (fun k => ct (ix2 j0 k) * (1 + sc (ix2 0 k)) * gain (ix2 0 k)) j1).symm
    · pointwise [k0_pay2, k0_pay12, k0_pay1]
    · pointwise [k0_pay4, k0_pay9, k0_pay8, k0_pay7, k0_pay3]
      exact Finset.sum_congr rfl fun k _ => mul_comm _ _
    · pointwise [k0_pay6, k0_pay10, k0_pay8, k0_pay7, k0_pay5]
      exact Finset.sum_congr rfl fun k _ => mul_comm _ _

end Cert.NormCtxValue

end
-- ==== Proof.ShortConvTile.lean ====
/-
  The output projection fused with the short gated convolution, backward: what the body computes at one grid point, over
  the rows of the whole arrays. A tile reads its 256 rows and the eight rows before and after them, zero outside the array.
-/
module

public import proofs.«01_k».proof.Proof.Gen.ShortConvIdeal.Skeleton
public import Idealize.ShloMosaic.Lib.Pointwise

@[expose] public section

set_option maxRecDepth 16384

noncomputable section

open Idealize.ShloMosaic Idealize.ShloMosaic.TcCoe Idealize.SL.Sem

namespace Cert.ShortConvValue

open Cert.ShortConvIdeal Cert.ShortConvIdeal.Gen

/-- A column of 8192 rows with eight rows of zeros before it and zeros after it. -/
def Z (f : Fin 8192 → EReal) (s : ℕ) : EReal := if h : 8 ≤ s ∧ s < 8200 then f ⟨s - 8, by omega⟩ else 0

theorem Z_in (f : Fin 8192 → EReal) (r : Fin 8192) : Z f (r.val + 8) = f r := by
  unfold Z
  rw [dif_pos ⟨by omega, by omega⟩]
  exact congrArg f (Fin.ext (by simp))

theorem Z_at (f : Fin 8192 → EReal) (r : Fin 8192) {s : ℕ} (h : s = r.val + 8) : Z f s = f r := h ▸ Z_in f r

/-- A column entry read under a bound, zero where the bound fails. -/
theorem dite_Z (f : Fin 8192 → EReal) (w : EReal) {A : Prop} [Decidable A] {i s : ℕ} (hA : A → i < 8192) (h1 : A → s = i + 8)
    (h2 : ¬A → s < 8 ∨ 8200 ≤ s) : (if h : A then f ⟨i, hA h⟩ * w else 0) = Z f s * w := by
  by_cases h : A
  · rw [dif_pos h, Z_at f ⟨i, hA h⟩ (h1 h)]
  · rw [dif_neg h]
    unfold Z
    rw [dif_neg (by have := h2 h; omega), zero_mul]

/-- A column entry read from the column with a row of zeros before it and after it. -/
theorem edge_Z (f : Fin 8192 → EReal) {q s : ℕ} (hs : s = q + 7) :
    (if h : q < 1 then 0 else if h' : q - 1 < 8192 then f ⟨q - 1, h'⟩ else 0) = Z f s := by
  by_cases h : q < 1
  · rw [dif_pos h]
    unfold Z
    rw [dif_neg (by omega)]
  · rw [dif_neg h]
    by_cases h' : q - 1 < 8192
    · rw [dif_pos h', Z_at f ⟨q - 1, h'⟩ (by simp only; omega)]
    · rw [dif_neg h']
      unfold Z
      rw [dif_neg (by omega)]

theorem Z_mul (f g : Fin 8192 → EReal) (s : ℕ) : Z f s * Z g s = Z (fun r => f r * g r) s := by
  unfold Z
  split_ifs
  · rfl
  · exact zero_mul 0

theorem Z_sum (f : Fin 1024 → Fin 8192 → EReal) (w : Fin 1024 → EReal) (s : ℕ) :
    (∑ l, Z (f l) s * w l) = Z (fun r => ∑ l, f l r * w l) s := by
  unfold Z
  split_ifs
  · rfl
  · exact Finset.sum_eq_zero fun l _ => zero_mul _

/-- The two masks of the body: whether the grid point is the first one, and whether it is the last. -/
theorem first_eq : ∀ n : Fin 32, Scalar.cmpi .sgt (BitVec.ofNat 32 n.val) 0#32 = if 0 < n.val then 1#1 else 0#1 := by
  decide +kernel

theorem last_eq : ∀ n : Fin 32, Scalar.cmpi .slt (BitVec.ofNat 32 n.val) 31#32 = if n.val < 31 then 1#1 else 0#1 := by
  decide +kernel

theorem select_ite {α : Type} (p : Prop) [Decidable p] (x y : α) : Scalar.select (if p then 1#1 else 0#1) x y = if p then x else y := by
  split_ifs <;> rfl

/-- Rows before, in and after a tile, with the halos masked at the two ends, are the rows of the whole column. The halos
    have `8 + o` rows, of which the eight nearest to the tile are read. -/
theorem halo (o : ℕ) (n : Fin 32) (f : Fin 8192 → EReal) (p s : Fin (8 + o) → EReal) (m : Fin 256 → EReal)
    (hp : 0 < n.val → ∀ b, o ≤ b.val → p b = Z f (256 * n.val + (b.val - o)))
    (hm : ∀ b, m b = Z f (256 * n.val + 8 + b.val))
    (hs : n.val < 31 → ∀ b, b.val < 8 → s b = Z f (256 * n.val + 264 + b.val)) (q : ℕ) (hq : q < 272) (hlt : ¬o + q < 8 + o →
      ¬o + q - (8 + o) < 256 → o + q - (8 + o) - 256 < 8 + o) :
    (if h : o + q < 8 + o then Scalar.select (Scalar.cmpi .sgt (BitVec.ofNat 32 n.val) 0#32) (p ⟨o + q, h⟩) 0
      else if h' : o + q - (8 + o) < 256 then m ⟨o + q - (8 + o), h'⟩
      else Scalar.select (Scalar.cmpi .slt (BitVec.ofNat 32 n.val) 31#32) (s ⟨o + q - (8 + o) - 256, hlt h h'⟩) 0)
      = Z f (256 * n.val + q) := by
  rw [first_eq, last_eq]
  simp only [select_ite]
  have hn := n.isLt
  by_cases h1 : o + q < 8 + o
  · rw [dif_pos h1]
    by_cases h2 : 0 < n.val
    · rw [if_pos h2, hp h2 _ (by simp)]
      exact congrArg (Z f) (by simp)
    · rw [if_neg h2]
      unfold Z
      rw [dif_neg (by omega)]
  · rw [dif_neg h1]
    by_cases h3 : o + q - (8 + o) < 256
    · rw [dif_pos h3, hm]
      exact congrArg (Z f) (by simp only; omega)
    · rw [dif_neg h3]
      by_cases h4 : n.val < 31
      · rw [if_pos h4, hs h4 _ (by simp only; omega)]
        exact congrArg (Z f) (by simp only; omega)
      · rw [if_neg h4]
        unfold Z
        rw [dif_neg (by omega)]

/-- Three blocks of a column `f`: the eight rows before a tile (except at the first tile), the tile, the eight rows after
    it (except at the last). -/
structure Around (n : Fin 32) (f : Fin 8192 → EReal) (p : Fin 8 → EReal) (m : Fin 256 → EReal) (s : Fin 8 → EReal) : Prop where
  before : 0 < n.val → ∀ b, p b = Z f (256 * n.val + b.val)
  tile : ∀ b, m b = Z f (256 * n.val + 8 + b.val)
  after : n.val < 31 → ∀ b, s b = Z f (256 * n.val + 264 + b.val)

theorem Around.read {n : Fin 32} {f : Fin 8192 → EReal} {p : Fin 8 → EReal} {m : Fin 256 → EReal} {s : Fin 8 → EReal}
    (h : Around n f p m s) (q : Fin 272) :
    (if h : q.val < 8 then Scalar.select (Scalar.cmpi .sgt (BitVec.ofNat 32 n.val) 0#32) (p ⟨q.val, h⟩) 0
      else if h' : q.val - 8 < 256 then m ⟨q.val - 8, h'⟩
      else Scalar.select (Scalar.cmpi .slt (BitVec.ofNat 32 n.val) 31#32) (s ⟨q.val - 8 - 256, by omega⟩) 0)
      = Z f (256 * n.val + q.val) := by
  have e := halo 0 n f p s m (fun h0 b _ => h.before h0 b) h.tile (fun h1 b _ => h.after h1 b) q.val q.isLt (by omega)
  simpa only [Nat.zero_add, Nat.add_zero] using e

/-- Such blocks from what each reads, row by row. -/
theorem Around.of {n : Fin 32} {f : Fin 8192 → EReal} {p : Fin 8 → EReal} {m : Fin 256 → EReal} {s : Fin 8 → EReal}
    (hp : ∀ (r : Fin 8192) b, 0 < n.val → r.val = 256 * n.val - 8 + b.val → p b = f r)
    (hm : ∀ (r : Fin 8192) b, r.val = 256 * n.val + b.val → m b = f r)
    (hs : ∀ (r : Fin 8192) b, n.val < 31 → r.val = 256 * n.val + 256 + b.val → s b = f r) : Around n f p m s where
  before h b := by
    rw [Z_at _ ⟨256 * n.val - 8 + b.val, by omega⟩ (by simp only; omega)]
    exact hp _ b h rfl
  tile b := by
    rw [Z_at _ ⟨256 * n.val + b.val, by omega⟩ (by simp only; omega)]
    exact hm _ b rfl
  after h b := by
    rw [Z_at _ ⟨256 * n.val + 256 + b.val, by omega⟩ (by simp only; omega)]
    exact hs _ b h rfl

/-- The convolution's input, `gc * xi`, over the tile and its halos. -/
theorem pay7 {n : Fin 32} {k : Fin 512} {f g : Fin 8192 → EReal} {i : grid0.Coords} (hi : (i 0).val = n.val)
    {P N P' N' : FVec Ideal S8x512 .f32} {M M' : FVec Ideal S256x512 .f32}
    (hf : Around n f (fun b => P (ix2 b k)) (fun b => M (ix2 b k)) (fun b => N (ix2 b k)))
    (hg : Around n g (fun b => P' (ix2 b k)) (fun b => M' (ix2 b k)) (fun b => N' (ix2 b k))) (q : Fin 272) :
    (k0_pay7 (F := Ideal) (BitVec.ofNat 32 (i 0).val) (k0_pay5 i P) (k0_pay6 i N) M P' N' M' (ix2 q k) : EReal)
      = Z (fun r => f r * g r) (256 * n.val + q.val) := by
  rw [← Z_mul]
  pointwise [k0_pay7, k0_pay5, k0_pay6]
  rw [hi]
  exact congrArg₂ (· * ·) (hf.read q) (hg.read q)

/-- The product with the output projection's weight, over the tile and its halos. -/
theorem pay4 {n : Fin 32} {k : Fin 512} {f : Fin 1024 → Fin 8192 → EReal} {w : Fin 1024 → EReal} {i : grid0.Coords}
    (hi : (i 0).val = n.val) {P N : FVec Ideal S16x1024 .bf16} {M : FVec Ideal S256x1024 .bf16} {W : FVec Ideal S512x1024 .bf16}
    (hP : ∀ l, 0 < n.val → ∀ b : Fin 16, 8 ≤ b.val → P (ix2 b l) = Z (f l) (256 * n.val + (b.val - 8)))
    (hM : ∀ l (b : Fin 256), M (ix2 b l) = Z (f l) (256 * n.val + 8 + b.val))
    (hN : ∀ l, n.val < 31 → ∀ b : Fin 16, b.val < 8 → N (ix2 b l) = Z (f l) (256 * n.val + 264 + b.val))
    (hW : ∀ l, W (ix2 k l) = w l) (q : Fin 272) :
    (k0_pay4 (F := Ideal) i P M N W (ix2 q k) : EReal) = Z (fun r => ∑ l, f l r * w l) (256 * n.val + q.val) := by
  rw [← Z_sum]
  pointwise [k0_pay4]
  rw [hi]
  exact Finset.sum_congr rfl fun l _ => congrArg₂ (· * ·)
    (halo 8 n (f l) (fun b => P (ix2 b l)) (fun b => N (ix2 b l)) (fun b => M (ix2 b l)) (hP l) (hM l) (hN l) q.val q.isLt
      (by omega)) (hW l)

/-- The convolution's gradient over the tile and its halos. -/
theorem pay8 {n : Fin 32} {k : Fin 512} {f g : Fin 8192 → EReal} {i : grid0.Coords} (hi : (i 0).val = n.val)
    {A : FVec Ideal S272x512 .f32} {P N : FVec Ideal S8x512 .f32} {M : FVec Ideal S256x512 .f32}
    (hA : ∀ q : Fin 272, A (ix2 q k) = Z f (256 * n.val + q.val))
    (hg : Around n g (fun b => P (ix2 b k)) (fun b => M (ix2 b k)) (fun b => N (ix2 b k))) (q : Fin 272) :
    (k0_pay8 (F := Ideal) (BitVec.ofNat 32 (i 0).val) A P N M (ix2 q k) : EReal)
      = Z (fun r => f r * g r) (256 * n.val + q.val) := by
  rw [← Z_mul]
  pointwise [k0_pay8]
  rw [hi, hA q]
  exact congrArg _ (hg.read q)

/-- The convolution itself: three rows of its input, weighted. -/
def conv (h : Fin 8192 → EReal) (w0 w1 w2 : EReal) (r : ℕ) : EReal := Z h (r + 7) * w0 + Z h (r + 8) * w1 + Z h (r + 9) * w2

/-- Its gradient to its input: the weights in the other order. -/
def convT (d : Fin 8192 → EReal) (w0 w1 w2 : EReal) (r : ℕ) : EReal := Z d (r + 9) * w0 + Z d (r + 8) * w1 + Z d (r + 7) * w2

/-- The first third of the projected gradient: the gradient of the gate `gb`. -/
theorem pay11 {n : Fin 32} {k : Fin 512} {f h : Fin 8192 → EReal} {i : grid0.Coords} {A : FVec Ideal S272x512 .f32}
    {P N P' N' : FVec Ideal S8x512 .f32} {M M' : FVec Ideal S256x512 .f32} {w0 w1 w2 : FVec Ideal S1x512 .f32} {c0 c1 c2 : EReal}
    (hA : ∀ q : Fin 272, A (ix2 q k) = Z f (256 * n.val + q.val))
    (hH : ∀ q : Fin 272, k0_pay7 (F := Ideal) (BitVec.ofNat 32 (i 0).val) (k0_pay5 i P) (k0_pay6 i N) M P' N' M' (ix2 q k)
      = Z h (256 * n.val + q.val)) (h0 : w0 (ix2 0 k) = c0) (h1 : w1 (ix2 0 k) = c1) (h2 : w2 (ix2 0 k) = c2) (a : Fin 256) :
    (k0_pay11 (F := Ideal) (k0_pay7 (BitVec.ofNat 32 (i 0).val) (k0_pay5 i P) (k0_pay6 i N) M P' N' M') (k0_pay9 A)
      (k0_pay10 (BitVec.ofNat 32 (i 0).val) (k0_pay5 i P) (k0_pay6 i N) M P' N' M' w0 w1) 271#32 w2 (ix2 a k) : EReal)
      = Z f (256 * n.val + a.val + 8) * conv h c0 c1 c2 (256 * n.val + a.val) := by
  subst h0 h1 h2
  pointwise [k0_pay11, k0_pay9, k0_pay10]
  rw [hA, hH, hH, hH]
  unfold conv
  exact congrArg₂ (· * ·) (congrArg (Z f) (by simp only; omega)) (congrArg₂ (· + ·) (congrArg₂ (· + ·)
    (congrArg (Z h · * _) (by simp only; omega)) (congrArg (Z h · * _) (by simp only; omega))) (congrArg (Z h · * _) (by simp only; omega)))

/-- The gradient of the convolution's input. -/
theorem pay12 {n : Fin 32} {k : Fin 512} {d : Fin 8192 → EReal} {A : FVec Ideal S272x512 .f32}
    {w0 w1 w2 : FVec Ideal S1x512 .f32} {c0 c1 c2 : EReal}
    (hA : ∀ q : Fin 272, A (ix2 q k) = Z d (256 * n.val + q.val))
    (h0 : w0 (ix2 0 k) = c0) (h1 : w1 (ix2 0 k) = c1) (h2 : w2 (ix2 0 k) = c2) (a : Fin 256) :
    (k0_pay12 (F := Ideal) A w0 w1 w2 (ix2 a k) : EReal)
      = convT d c0 c1 c2 (256 * n.val + a.val) := by
  subst h0 h1 h2
  pointwise [k0_pay12]
  rw [hA, hA, hA]
  unfold convT
  exact congrArg₂ (· + ·) (congrArg₂ (· + ·) (congrArg (Z d · * _) (by simp only; omega)) (congrArg (Z d · * _) (by simp only; omega)))
    (congrArg (Z d · * _) (by simp only; omega))

/-- One point's share of the weights' gradient. -/
theorem pay2 {n : Fin 32} {k : Fin 512} {d h : Fin 8192 → EReal} {A B : FVec Ideal S272x512 .f32} {c : FVec Ideal S3x512 .f32}
    (hA : ∀ q : Fin 272, A (ix2 q k) = Z d (256 * n.val + q.val))
    (hB : ∀ q : Fin 272, B (ix2 q k) = Z h (256 * n.val + q.val))  (j : Fin 3) :
    (k0_pay2 (F := Ideal) B (k0_pay15 A) (k0_pay16 B) c (ix2 j k) : EReal)
      = c (ix2 j k) + ∑ a : Fin 256, Z d (256 * n.val + a.val + 8) * Z h (256 * n.val + a.val + 7 + j.val) := by
  pointwise [k0_pay2, k0_pay15, k0_pay16]
  refine congrArg _ ?_
  have hj := j.isLt
  split_ifs with h1 h2 <;> refine Finset.sum_congr rfl fun x _ => ?_ <;> rw [hA, hB] <;>
    exact congrArg₂ (· * ·) (congrArg (Z d) (by simp only; omega)) (congrArg (Z h) (by simp only; omega))

end Cert.ShortConvValue

end
-- ==== Proof.ShortConvPieces.lean ====
/-
  The output projection fused with the short gated convolution, backward: the kernel's three results and the reference's
  are the same arrays.
-/
module

public import proofs.«01_k».proof.Defs
public import proofs.«01_k».proof.Proof.Gen.ShortConvIdeal.Frame
public import proofs.«01_k».proof.Proof.Gen.ShortConvIdeal.Value
public import proofs.«01_k».proof.Proof.Gen.ShortConvRefIdeal.Run
public import proofs.«01_k».proof.Proof.ShortConvTile
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ShortConvValue

open Cert.ShortConvIdeal Cert.ShortConvIdeal.Gen

variable (m : (ℓ : Loc nD τ sig) → Buf (Elt Ideal) ℓ)

theorem idx : ∀ t : Fin cfg0.N, win0_0.index t = ![t.val, 0] ∧ win0_1.index t = ![16 * t.val - 1, 0] ∧ win0_2.index t = ![min (16 * (t.val + 1)) 511, 0]
    ∧ win0_3.index t = ![0, 0] ∧ win0_4.index t = ![t.val, 2] ∧ win0_5.index t = ![32 * t.val - 1, 2]
    ∧ win0_6.index t = ![min (32 * (t.val + 1)) 1023, 2]
    ∧ win0_7.index t = ![t.val, 3] ∧ win0_8.index t = ![32 * t.val - 1, 3]
    ∧ win0_9.index t = ![min (32 * (t.val + 1)) 1023, 3]
    ∧ win0_10.index t = ![t.val, 4] ∧ win0_11.index t = ![32 * t.val - 1, 4]
    ∧ win0_12.index t = ![min (32 * (t.val + 1)) 1023, 4] ∧ win0_13.index t = ![0, 0] ∧ win0_14.index t = ![t.val, 0] ∧ win0_15.index t = ![t.val, 0] ∧ win0_16.index t = ![0, 0]
    ∧ grid0.coords t 0 = t.val :=
  (by decide +kernel : ∀ t : Fin grid0.N, _)

variable (P : FVec Ideal S8192x2560 .f32) (K : FVec Ideal S3x512 .f32) (W : FVec Ideal S1024x1024 .f32) (D : FVec Ideal S8192x1024 .bf16)

/-- Column `k` of the gate `gb`, of the gate `gc`, and of the gated input `xi`: the last three fifths of the projection. -/
def gb (k : Fin 512) (r : Fin 8192) : EReal := P (ix2 r ⟨1024 + k.val, by omega⟩)

def gc (k : Fin 512) (r : Fin 8192) : EReal := P (ix2 r ⟨1024 + (512 + k.val), by omega⟩)

def xi (k : Fin 512) (r : Fin 8192) : EReal := P (ix2 r ⟨1024 + (1024 + k.val), by omega⟩)

/-- Column `k` of the gradient that reaches the gated convolution's result. -/
def dg (k : Fin 512) (r : Fin 8192) : EReal := ∑ l : Fin 1024, (show EReal from D (ix2 r l)) * (show EReal from W (ix2 ⟨512 + k.val, by omega⟩ l))

/-- The gradient of the first half of the output projection's input. -/
def resO (i : S8192x512.Idx) : EReal := ∑ l : Fin 1024, (show EReal from D (ix2 (i 0) l)) * (show EReal from W (ix2 ⟨(i 1).val, by have := (i 1).isLt; simp at this; omega⟩ l))

/-- Column `k` of the convolution's input and of the gradient of its result. -/
def hin (k : Fin 512) (r : Fin 8192) : EReal := gc P k r * xi P k r

def dcv (k : Fin 512) (r : Fin 8192) : EReal := gb P k r * dg W D k r

/-- Column `k` of the convolution and of its gradient. -/
def conO (k : Fin 512) (r : ℕ) : EReal := conv (hin P k) (K (ix2 0 k)) (K (ix2 1 k)) (K (ix2 2 k)) r

def dhO (k : Fin 512) (r : ℕ) : EReal := convT (dcv P W D k) (K (ix2 0 k)) (K (ix2 1 k)) (K (ix2 2 k)) r

/-- The gradient of the projection: of the gate `gb`, of the gate `gc`, of the gated input `xi`. -/
def resP (i : S8192x1536.Idx) : EReal :=
  let k : Fin 512 := ⟨(i 1).val % 512, Nat.mod_lt _ (by norm_num)⟩
  if (i 1).val < 512 then dg W D k (i 0) * conO P K k (i 0).val
  else if (i 1).val < 1024 then dhO P K W D k (i 0).val * xi P k (i 0) else dhO P K W D k (i 0).val * gc P k (i 0)

/-- The gradient of the convolution's weights. -/
def resW (i : S3x512.Idx) : EReal := ∑ r : Fin 8192, dcv P W D (i 1) r * Z (hin P (i 1)) (r.val + 7 + (i 0).val)

theorem resP_0 (i : S8192x1536.Idx) (k : Fin 512) (h : (i 1).val = k.val) :
    resP P K W D i = dg W D k (i 0) * conO P K k (i 0).val := by
  have hk : (⟨(i 1).val % 512, Nat.mod_lt _ (by norm_num)⟩ : Fin 512) = k := Fin.ext (by simp only; omega)
  unfold resP
  rw [if_pos (by omega), hk]

theorem resP_1 (i : S8192x1536.Idx) (k : Fin 512) (h : (i 1).val = 512 + k.val) :
    resP P K W D i = dhO P K W D k (i 0).val * xi P k (i 0) := by
  have hk : (⟨(i 1).val % 512, Nat.mod_lt _ (by norm_num)⟩ : Fin 512) = k := Fin.ext (by simp only; omega)
  unfold resP
  rw [if_neg (by omega), if_pos (by omega), hk]

theorem resP_2 (i : S8192x1536.Idx) (k : Fin 512) (h : (i 1).val = 1024 + k.val) :
    resP P K W D i = dhO P K W D k (i 0).val * gc P k (i 0) := by
  have hk : (⟨(i 1).val % 512, Nat.mod_lt _ (by norm_num)⟩ : Fin 512) = k := Fin.ext (by simp only; omega)
  unfold resP
  rw [if_neg (by omega), if_neg (by omega), hk]

/-- Grid point `p`'s share of the weights' gradient. -/
def partW (p : ℕ) (x : S3x512.Idx) : EReal :=
  ∑ a : Fin 256, Z (dcv P W D (x 1)) (256 * p + a.val + 8) * Z (hin P (x 1)) (256 * p + a.val + 7 + (x 0).val)

/-- The 32 shares together are the gradient. -/
theorem sum_partW (i x : S3x512.Idx) (h0 : (i 0).val = (x 0).val) (h1 : (i 1).val = (x 1).val) (e : Fin 32 → ℕ) (he : ∀ s, e s = s.val) :
    ∑ s : Fin 32, partW P W D (e s) x = resW P W D i := by
  obtain rfl : i = x := funext fun a => by fin_cases a; exacts [Fin.ext h0, Fin.ext h1]
  unfold resW partW
  refine Fin.sum_mul_add_congr fun s k hl => ?_
  rw [he, Z_at _ ⟨s.val * 256 + k.val, hl⟩ (by simp only; omega)]
  exact congrArg (_ * Z _ ·) (by simp only; omega)

/-- A grid point as one of 32. -/
abbrev pt (t : Fin cfg0.N) : Fin 32 := ⟨t.val, lt_of_lt_of_eq t.isLt N_0⟩

theorem coord (t : Fin cfg0.N) : (grid0.coords t 0).val = (pt t).val := (idx t).2.2.2.2.2.2.2.2.2.2.2.2.2.2.2.2.2

theorem around_gb (c : Dev nD) (t : Fin cfg0.N) (k : Fin 512) :
    Around (pt t) (gb (m (c.tc.loc main_arg1)) k) (fun b => (iblk m c 5 t : FVec Ideal S8x512 .f32) (ix2 b k))
      (fun b => (iblk m c 4 t : FVec Ideal S256x512 .f32) (ix2 b k)) (fun b => (iblk m c 6 t : FVec Ideal S8x512 .f32) (ix2 b k)) := by
  refine .of (fun r b h e => ?_) (fun r b e => ?_) fun r b h e => ?_
  all_goals (unfold gb; simp only at *; blk_point [iblk, V, idx t])
  all_goals omega

theorem around_gc (c : Dev nD) (t : Fin cfg0.N) (k : Fin 512) :
    Around (pt t) (gc (m (c.tc.loc main_arg1)) k) (fun b => (iblk m c 8 t : FVec Ideal S8x512 .f32) (ix2 b k))
      (fun b => (iblk m c 7 t : FVec Ideal S256x512 .f32) (ix2 b k)) (fun b => (iblk m c 9 t : FVec Ideal S8x512 .f32) (ix2 b k)) := by
  refine .of (fun r b h e => ?_) (fun r b e => ?_) fun r b h e => ?_
  all_goals (unfold gc; simp only at *; blk_point [iblk, V, idx t])
  all_goals omega

theorem around_xi (c : Dev nD) (t : Fin cfg0.N) (k : Fin 512) :
    Around (pt t) (xi (m (c.tc.loc main_arg1)) k) (fun b => (iblk m c 11 t : FVec Ideal S8x512 .f32) (ix2 b k))
      (fun b => (iblk m c 10 t : FVec Ideal S256x512 .f32) (ix2 b k)) (fun b => (iblk m c 12 t : FVec Ideal S8x512 .f32) (ix2 b k)) := by
  refine .of (fun r b h e => ?_) (fun r b e => ?_) fun r b h e => ?_
  all_goals (unfold xi; simp only at *; blk_point [iblk, V, idx t])
  all_goals omega

/-- The convolution's input over the tile and its halos. -/
theorem pay7_at (c : Dev nD) (t : Fin cfg0.N) (k : Fin 512) (q : Fin 272) :
    (k0_pay7 (F := Ideal) (BitVec.ofNat 32 (grid0.coords t 0).val) (k0_pay5 (grid0.coords t) (iblk m c 8 t)) (k0_pay6 (grid0.coords t) (iblk m c 9 t))
      (iblk m c 7 t) (iblk m c 11 t) (iblk m c 12 t) (iblk m c 10 t) (ix2 q k) : EReal)
      = Z (hin (m (c.tc.loc main_arg1)) k) (256 * (pt t).val + q.val) :=
  pay7 (coord t) (around_gc m c t k) (around_xi m c t k) q

/-- The gated product with the weight over the tile and its halos, for a block `w` of the weight's last 512 rows. -/
theorem pay4_at (c : Dev nD) (t : Fin cfg0.N) (k : Fin 512) (w : FVec Ideal S512x1024 .bf16)
    (hw : ∀ l, w (ix2 k l) = (m (c.tc.loc main_arg3) : FVec Ideal S1024x1024 .f32) (ix2 ⟨512 + k.val, by omega⟩ l)) (q : Fin 272) :
    (k0_pay4 (F := Ideal) (grid0.coords t) (iblk m c 1 t) (iblk m c 0 t) (iblk m c 2 t) w (ix2 q k) : EReal)
      = Z (dg (m (c.tc.loc main_arg3)) (m (c.tc.loc main_arg4)) k) (256 * (pt t).val + q.val) := by
  refine pay4 (f := fun l r => (m (c.tc.loc main_arg4) : FVec Ideal S8192x1024 .bf16) (ix2 r l)) (coord t) (fun l h b hb => ?_) (fun l b => ?_) (fun l h b hb => ?_) hw q
  all_goals have ht := (pt t).isLt
  · rw [Z_at _ ⟨256 * t.val - 16 + b.val, by simp only at h ht; omega⟩ (by simp only at h ht ⊢; omega)]
    blk_point [iblk, V, idx t]
    all_goals (simp only at h; omega)
  · rw [Z_at _ ⟨256 * t.val + b.val, by simp only at ht; omega⟩ (by simp only at ht ⊢; omega)]
    blk_point [iblk, V, idx t]
    all_goals (simp only at h; omega)
  · rw [Z_at _ ⟨256 * t.val + 256 + b.val, by simp only at h ht; omega⟩ (by simp only at ht ⊢; omega)]
    blk_point [iblk, V, idx t]
    all_goals (simp only at h; omega)

/-- The gradient of the convolution's result over the tile and its halos. -/
theorem pay8_at (c : Dev nD) (t : Fin cfg0.N) (k : Fin 512) (w : FVec Ideal S512x1024 .bf16)
    (hw : ∀ l, w (ix2 k l) = (m (c.tc.loc main_arg3) : FVec Ideal S1024x1024 .f32) (ix2 ⟨512 + k.val, by omega⟩ l)) (q : Fin 272) :
    (k0_pay8 (F := Ideal) (BitVec.ofNat 32 (grid0.coords t 0).val) (k0_pay4 (grid0.coords t) (iblk m c 1 t) (iblk m c 0 t) (iblk m c 2 t) w)
      (iblk m c 5 t) (iblk m c 6 t) (iblk m c 4 t) (ix2 q k) : EReal)
      = Z (dcv (m (c.tc.loc main_arg1)) (m (c.tc.loc main_arg3)) (m (c.tc.loc main_arg4)) k) (256 * (pt t).val + q.val) :=
  (pay8 (coord t) (pay4_at m c t k w hw) (around_gb m c t k) q).trans (congrArg (Z · _) (funext fun _ => mul_comm _ _))

/-- The three pieces a point stores of the projection's gradient, at a row of the whole array. -/
theorem piece_gb (c : Dev nD) (t : Fin cfg0.N) {w : FVec Ideal S512x1024 .bf16} {w0 w1 w2 : FVec Ideal S1x512 .f32}
    (x : S256x512.Idx) (r : Fin 8192) (hr : r.val = 256 * t.val + (x 0).val)
    (hw : ∀ l, w (ix2 (x 1) l) = (m (c.tc.loc main_arg3) : FVec Ideal S1024x1024 .f32) (ix2 ⟨512 + (x 1).val, by have := (x 1).isLt; simp at this; omega⟩ l))
    (h0 : w0 (ix2 0 (x 1)) = (m (c.tc.loc main_arg2) : FVec Ideal S3x512 .f32) (ix2 0 (x 1)))
    (h1 : w1 (ix2 0 (x 1)) = (m (c.tc.loc main_arg2) : FVec Ideal S3x512 .f32) (ix2 1 (x 1)))
    (h2 : w2 (ix2 0 (x 1)) = (m (c.tc.loc main_arg2) : FVec Ideal S3x512 .f32) (ix2 2 (x 1))) :
    (k0_pay11 (F := Ideal) (k0_pay7 (BitVec.ofNat 32 (grid0.coords t 0).val) (k0_pay5 (grid0.coords t) (iblk m c 8 t)) (k0_pay6 (grid0.coords t) (iblk m c 9 t))
      (iblk m c 7 t) (iblk m c 11 t) (iblk m c 12 t) (iblk m c 10 t))
      (k0_pay9 (k0_pay4 (grid0.coords t) (iblk m c 1 t) (iblk m c 0 t) (iblk m c 2 t) w))
      (k0_pay10 (BitVec.ofNat 32 (grid0.coords t 0).val) (k0_pay5 (grid0.coords t) (iblk m c 8 t)) (k0_pay6 (grid0.coords t) (iblk m c 9 t))
      (iblk m c 7 t) (iblk m c 11 t) (iblk m c 12 t) (iblk m c 10 t) w0 w1) 271#32 w2 x : EReal)
      = dg (m (c.tc.loc main_arg3)) (m (c.tc.loc main_arg4)) (x 1) r * conO (m (c.tc.loc main_arg1)) (m (c.tc.loc main_arg2)) (x 1) r.val := by
  refine (congrArg _ (eq_ix2 x)).trans ((pay11 (pay4_at m c t (x 1) w hw) (pay7_at m c t (x 1)) h0 h1 h2 (x 0)).trans ?_)
  rw [Z_at _ r (by simp only at hr ⊢; exact congrArg (· + 8) hr.symm)]
  unfold conO
  rw [hr]

theorem piece_dh (c : Dev nD) (t : Fin cfg0.N) {w : FVec Ideal S512x1024 .bf16} {w0 w1 w2 : FVec Ideal S1x512 .f32}
    (x : S256x512.Idx) (r : Fin 8192) (hr : r.val = 256 * t.val + (x 0).val)
    (hw : ∀ l, w (ix2 (x 1) l) = (m (c.tc.loc main_arg3) : FVec Ideal S1024x1024 .f32) (ix2 ⟨512 + (x 1).val, by have := (x 1).isLt; simp at this; omega⟩ l))
    (h0 : w0 (ix2 0 (x 1)) = (m (c.tc.loc main_arg2) : FVec Ideal S3x512 .f32) (ix2 0 (x 1)))
    (h1 : w1 (ix2 0 (x 1)) = (m (c.tc.loc main_arg2) : FVec Ideal S3x512 .f32) (ix2 1 (x 1)))
    (h2 : w2 (ix2 0 (x 1)) = (m (c.tc.loc main_arg2) : FVec Ideal S3x512 .f32) (ix2 2 (x 1))) :
    (k0_pay12 (F := Ideal) (k0_pay8 (F := Ideal) (BitVec.ofNat 32 (grid0.coords t 0).val) (k0_pay4 (grid0.coords t) (iblk m c 1 t) (iblk m c 0 t) (iblk m c 2 t) w)
      (iblk m c 5 t) (iblk m c 6 t) (iblk m c 4 t)) w0 w1 w2 x : EReal)
      = dhO (m (c.tc.loc main_arg1)) (m (c.tc.loc main_arg2)) (m (c.tc.loc main_arg3)) (m (c.tc.loc main_arg4)) (x 1) r.val := by
  refine (congrArg _ (eq_ix2 x)).trans ((pay12 (pay8_at m c t (x 1) w hw) h0 h1 h2 (x 0)).trans ?_)
  unfold dhO
  rw [hr]

theorem pay13_eq (A : FVec Ideal S272x512 .f32) (w0 w1 w2 : FVec Ideal S1x512 .f32) (B : FVec Ideal S256x512 .f32) (x : S256x512.Idx) :
    (k0_pay13 (F := Ideal) A w0 w1 w2 B x : EReal) = k0_pay12 A w0 w1 w2 x * B x := by
  pointwise [k0_pay13]

theorem pay14_eq (A : FVec Ideal S272x512 .f32) (w0 w1 w2 : FVec Ideal S1x512 .f32) (B : FVec Ideal S256x512 .f32) (x : S256x512.Idx) :
    (k0_pay14 (F := Ideal) A w0 w1 w2 B x : EReal) = k0_pay12 A w0 w1 w2 x * B x := by
  pointwise [k0_pay14]

/-- A point's share of the weights' gradient, on top of what the block held. -/
theorem share (c : Dev nD) (t : Fin cfg0.N) {w : FVec Ideal S512x1024 .bf16} (x : S3x512.Idx) (acc : FVec Ideal S3x512 .f32)
    (hw : ∀ l, w (ix2 (x 1) l) = (m (c.tc.loc main_arg3) : FVec Ideal S1024x1024 .f32) (ix2 ⟨512 + (x 1).val, by have := (x 1).isLt; simp at this; omega⟩ l)) :
    (k0_pay2 (F := Ideal) (k0_pay7 (BitVec.ofNat 32 (grid0.coords t 0).val) (k0_pay5 (grid0.coords t) (iblk m c 8 t)) (k0_pay6 (grid0.coords t) (iblk m c 9 t))
      (iblk m c 7 t) (iblk m c 11 t) (iblk m c 12 t) (iblk m c 10 t)) (k0_pay15 (k0_pay8 (F := Ideal) (BitVec.ofNat 32 (grid0.coords t 0).val) (k0_pay4 (grid0.coords t) (iblk m c 1 t) (iblk m c 0 t) (iblk m c 2 t) w)
      (iblk m c 5 t) (iblk m c 6 t) (iblk m c 4 t))) (k0_pay16 (k0_pay7 (BitVec.ofNat 32 (grid0.coords t 0).val) (k0_pay5 (grid0.coords t) (iblk m c 8 t)) (k0_pay6 (grid0.coords t) (iblk m c 9 t))
      (iblk m c 7 t) (iblk m c 11 t) (iblk m c 12 t) (iblk m c 10 t))) acc x : EReal)
      = acc x + partW (m (c.tc.loc main_arg1)) (m (c.tc.loc main_arg3)) (m (c.tc.loc main_arg4)) t.val x := by
  unfold partW
  have e := pay2 (c := acc) (pay8_at m c t (x 1) w hw) (pay7_at m c t (x 1)) (x 0)
  rwa [← eq_ix2 x] at e

end Cert.ShortConvValue

end
-- ==== Proof.ShortConv.lean ====
/-
  The output projection fused with the short gated convolution, backward: the kernel's three results and the reference's
  are the same arrays.
-/
module

public import proofs.«01_k».proof.Defs
public import proofs.«01_k».proof.Proof.Gen.ShortConvIdeal.Frame
public import proofs.«01_k».proof.Proof.Gen.ShortConvIdeal.Value
public import proofs.«01_k».proof.Proof.Gen.ShortConvRefIdeal.Run
public import proofs.«01_k».proof.Proof.ShortConvPieces
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ShortConvValue

open Cert.ShortConvIdeal Cert.ShortConvIdeal.Gen

variable (m : (ℓ : Loc nD τ sig) → Buf (Elt Ideal) ℓ)

theorem after14 (c : Dev nD) (t : Fin cfg0.N) (y : S256x512.Idx) (i : S8192x512.Idx) (h0 : (i 0).val = 256 * t.val + (y 0).val)
    (h1 : (i 1).val = (y 1).val) :
    (outsAt0 m c t.val t.isLt).1 y = resO (m (c.tc.loc main_arg3)) (m (c.tc.loc main_arg4)) i := by
  by_cases h : t.val % 32 = 0
  on_goal 1 => rw [outsAt0_A m c t h]
  on_goal 2 => rw [outsAt0_B m c t h]
  all_goals
    frame_out
    unfold resO
    pointwise [k0_pay3]
    refine Finset.sum_congr rfl fun l _ => ?_
    blk_point [iblk, V, idx t]

theorem final14 (c : Dev nD) :
    (dats m 0 c).arrAt 14 cfg0.N = resO (m (c.tc.loc main_arg3)) (m (c.tc.loc main_arg4)) := by
  refine (dats m 0 c).arrAt_eq_of_covers 14 _ (by decide +kernel) fun t hf y => ?_
  blk_simp
  rw [after0_14]
  refine after14 m c t _ _ ?_ ?_ <;> blk_simp [idx t]
  omega

theorem after15 (c : Dev nD) (t : Fin cfg0.N) (y : S256x1536.Idx) (i : S8192x1536.Idx) (e0 : (i 0).val = 256 * t.val + (y 0).val)
    (e1 : (i 1).val = (y 1).val) :
    (outsAt0 m c t.val t.isLt).2.1 y
      = resP (m (c.tc.loc main_arg1)) (m (c.tc.loc main_arg2)) (m (c.tc.loc main_arg3)) (m (c.tc.loc main_arg4)) i := by
  by_cases hc : t.val % 32 = 0
  on_goal 1 => rw [outsAt0_A m c t hc]
  on_goal 2 => rw [outsAt0_B m c t hc]
  all_goals
    frame_out
    clear hc
    canon_tiles x h
    · rw [resP_2 _ _ _ _ i (x 1) (by omega), pay14_eq, piece_dh m c t x (i 0) (by omega) (fun l => ?_) ?_ ?_ ?_]
      · unfold gc
        refine congrArg _ ?_
        blk_point [iblk, V, idx t]
        all_goals omega
      all_goals blk_point [iblk, V, idx t]
    · rw [resP_1 _ _ _ _ i (x 1) (by omega), pay13_eq, piece_dh m c t x (i 0) (by omega) (fun l => ?_) ?_ ?_ ?_]
      · unfold xi
        refine congrArg _ ?_
        blk_point [iblk, V, idx t]
        all_goals omega
      all_goals blk_point [iblk, V, idx t]
    · rw [resP_0 _ _ _ _ i (x 1) (by omega)]
      refine piece_gb m c t x (i 0) (by omega) (fun l => ?_) ?_ ?_ ?_
      all_goals blk_point [iblk, V, idx t]

theorem final15 (c : Dev nD) : (dats m 0 c).arrAt 15 cfg0.N
    = resP (m (c.tc.loc main_arg1)) (m (c.tc.loc main_arg2)) (m (c.tc.loc main_arg3)) (m (c.tc.loc main_arg4)) := by
  refine (dats m 0 c).arrAt_eq_of_covers 15 _ (by decide +kernel) fun t hf y => ?_
  blk_simp
  rw [after0_15]
  refine after15 m c t _ _ ?_ ?_ <;> blk_simp [idx t]
  omega

theorem final16 (c : Dev nD) : (dats m 0 c).arrAt 16 cfg0.N = resW (m (c.tc.loc main_arg1)) (m (c.tc.loc main_arg3)) (m (c.tc.loc main_arg4)) := by
  refine (dats m 0 c).arrAt_eq_of_covers 16 _ (by decide +kernel) fun t hf y => ?_
  blk_simp
  rw [after0_16, Pipeline.eq_sum_fin_of_reset_step_apply_of_flush (fun n h => (outsAt0 m c n h).2.2) 32 (fun _ => 0)
    (fun p x => partW (m (c.tc.loc main_arg1)) (m (c.tc.loc main_arg3)) (m (c.tc.loc main_arg4)) p.val x) (fun t h x => ?_) (fun t h x => ?_) t ((flush0_16 t).mp hf) _, zero_add]
  · have ht := (pt t).isLt
    simp only at ht
    refine sum_partW _ _ _ _ _ ?_ ?_ _ fun s => ?_
    · blk_simp [idx t]
    · blk_simp [idx t]
    · simp only
      omega
  · rw [outsAt0_A m c t h]
    frame_out
    refine (share m c t x _ fun l => ?_).trans ?_
    · blk_point [iblk, V, idx t]
    · exact congrArg (· + _) Ideal.ofBits_zero_f32
  · rw [outsAt0_B m c t h]
    frame_out
    refine share m c t x _ fun l => ?_
    blk_point [iblk, V, idx t]

end Cert.ShortConvValue

end
-- ==== Proof.ShortConvRef.lean ====
/-
  The output projection fused with the short gated convolution, backward: what the reference computes.
-/
module

public import proofs.«01_k».proof.Proof.Gen.ShortConvRefIdeal.Run
public import proofs.«01_k».proof.Proof.ShortConvPieces

@[expose] public section

set_option maxRecDepth 16384

noncomputable section

open Idealize.ShloMosaic Idealize.ShloMosaic.TcCoe Idealize.SL.Sem

namespace Cert.ShortConvValue

open Cert.ShortConvRefIdeal

section
variable (P : FVec Ideal S8192x2560 .f32) (K : FVec Ideal S3x512 .f32) (W : FVec Ideal S1024x1024 .f32) (D : FVec Ideal S8192x1024 .bf16)

/-- A row of the convolution's input, from the array with a row of zeros before it and after it. -/
theorem edge_hin (k : ℕ) (hk : k < 512) (q s : ℕ) (hs : s = q + 7) :
    (if h : q < 1 then (0 : EReal) else if h' : q - 1 < 8192 then
      P (ix2 ⟨q - 1, h'⟩ ⟨1024 + (512 + k), by omega⟩) * P (ix2 ⟨q - 1, h'⟩ ⟨1024 + (1024 + k), by omega⟩) else 0)
      = Z (hin P ⟨k, hk⟩) s := edge_Z (hin P ⟨k, hk⟩) hs

theorem mid_hin (k : ℕ) (hk : k < 512) (r : Fin 8192) :
    (P (ix2 r ⟨1024 + (512 + k), by omega⟩) * P (ix2 r ⟨1024 + (1024 + k), by omega⟩) : EReal)
      = Z (hin P ⟨k, hk⟩) (r.val + 8) := (Z_in (hin P ⟨k, hk⟩) r).symm

theorem sum_dg (k : ℕ) (hk : k < 512) (r : Fin 8192) :
    (∑ x : Fin 1024, D (ix2 r x) * W (ix2 ⟨512 + k, by omega⟩ x) : EReal) = dg W D ⟨k, hk⟩ r := rfl

/-- The reference's gradient of the convolution's input: the same three products, added in the other order. -/
theorem dh_eq (r : Fin 8192) (k : ℕ) (hk : k < 512) :
    (((if h : (2 ≤ 1 + r.val ∧ 1 + r.val - 2 < 8192) ∧ k < 512 then dcv P W D ⟨k, hk⟩ ⟨1 + r.val - 2, h.1.2⟩ * K (ix2 2 ⟨k, hk⟩) else (0 : EReal))
      + if h : k < 512 then dcv P W D ⟨k, hk⟩ r * K (ix2 1 ⟨k, hk⟩) else 0)
      + if h : 1 + r.val < 8192 ∧ k < 512 then dcv P W D ⟨k, hk⟩ ⟨1 + r.val, h.1⟩ * K (ix2 0 ⟨k, hk⟩) else 0) = dhO P K W D ⟨k, hk⟩ r.val := by
  have hr := r.isLt
  unfold dhO convT
  rw [dite_Z (dcv P W D ⟨k, hk⟩) _ (fun h => h.1.2) (s := r.val + 7) (by omega) (fun h => by omega), dif_pos hk,
    dite_Z (dcv P W D ⟨k, hk⟩) _ (fun h => h.1) (s := r.val + 9) (by omega) (fun h => by omega), ← Z_in (dcv P W D ⟨k, hk⟩) r,
    add_comm (_ + _) (Z _ (r.val + 9) * _), add_comm (Z _ (r.val + 7) * _) (Z _ (r.val + 8) * _), add_assoc]

/-- The same, with the gradient of the convolution's result written out. -/
theorem dh_raw (r : Fin 8192) (k : ℕ) (hk : k < 512) :
    (((if h : (2 ≤ 1 + r.val ∧ 1 + r.val - 2 < 8192) ∧ k < 512 then
        (P (ix2 ⟨1 + r.val - 2, h.1.2⟩ ⟨1024 + k, by omega⟩)
          * ∑ x : Fin 1024, D (ix2 ⟨1 + r.val - 2, h.1.2⟩ x) * W (ix2 ⟨512 + k, by omega⟩ x)) * K (ix2 2 ⟨k, hk⟩) else (0 : EReal))
      + if h : k < 512 then (P (ix2 r ⟨1024 + k, by omega⟩) * ∑ x : Fin 1024, D (ix2 r x) * W (ix2 ⟨512 + k, by omega⟩ x))
          * K (ix2 1 ⟨k, hk⟩) else 0)
      + if h : 1 + r.val < 8192 ∧ k < 512 then
        (P (ix2 ⟨1 + r.val, h.1⟩ ⟨1024 + k, by omega⟩) * ∑ x : Fin 1024, D (ix2 ⟨1 + r.val, h.1⟩ x) * W (ix2 ⟨512 + k, by omega⟩ x))
          * K (ix2 0 ⟨k, hk⟩) else 0) = dhO P K W D ⟨k, hk⟩ r.val := dh_eq P K W D r k hk

end

variable (m : (ℓ : Loc nD τ sig) → Buf (Elt Ideal) ℓ)

/-- The reference's gradient of the projection. -/
theorem ref_dp (c : Dev nD) (P : FVec Ideal S8192x2560 .f32) (K : FVec Ideal S3x512 .f32) (W : FVec Ideal S1024x1024 .f32) (D : FVec Ideal S8192x1024 .bf16)
    (hP : m (c.tc.loc main_arg1) = P) (hK : m (c.tc.loc main_arg2) = K) (hW : m (c.tc.loc main_arg3) = W) (hD : m (c.tc.loc main_arg4) = D) :
    Value.res_main_v78 m c = resP P K W D := by
  unfold Value.res_main_v78
  rw [hP, hK, hW, hD]
  clear hP hK hW hD
  funext j
  idx_vars j
  pointwise
  by_cases h0 : j1.val < 512
  · refine (dif_pos h0).trans (Eq.trans ?_ (resP_0 P K W D (ix2 j0 j1) ⟨j1.val, h0⟩ rfl).symm)
    show _ = dg W D ⟨j1.val, h0⟩ j0 * conO P K ⟨j1.val, h0⟩ j0.val
    unfold conO conv
    refine congrArg₂ (· * ·) (sum_dg W D j1.val h0 j0) (congrArg₂ (· + ·) (congrArg₂ (· + ·) (congrArg (· * _) ?_) (congrArg (· * _) ?_)) (congrArg (· * _) ?_))
    · exact edge_hin P j1.val h0 j0.val _ rfl
    · exact mid_hin P j1.val h0 j0
    · exact edge_hin P j1.val h0 (2 + j0.val) _ (by omega)
  · refine (dif_neg h0).trans ?_
    by_cases h1 : j1.val - 512 < 512
    · refine (dif_pos h1).trans (Eq.trans ?_ (resP_1 P K W D (ix2 j0 j1) ⟨j1.val - 512, h1⟩ (by show j1.val = _; simp only; omega)).symm)
      exact congrArg₂ (· * ·) (dh_raw P K W D j0 (j1.val - 512) h1) rfl
    · have h2 : j1.val - 512 - 512 < 512 := by omega
      refine (dif_neg h1).trans (Eq.trans ?_ (resP_2 P K W D (ix2 j0 j1) ⟨j1.val - 512 - 512, h2⟩ (by show j1.val = _; simp only; omega)).symm)
      exact (mul_comm _ _).trans (congrArg₂ (· * ·) (dh_raw P K W D j0 (j1.val - 512 - 512) h2) rfl)

/-- The reference's gradient of the convolution's weights. -/
theorem ref_dw (c : Dev nD) (P : FVec Ideal S8192x2560 .f32) (W : FVec Ideal S1024x1024 .f32) (D : FVec Ideal S8192x1024 .bf16)
    (hP : m (c.tc.loc main_arg1) = P) (hW : m (c.tc.loc main_arg3) = W) (hD : m (c.tc.loc main_arg4) = D) :
    Value.res_main_v69 m c = resW P W D := by
  unfold Value.res_main_v69
  rw [hP, hW, hD]
  clear hP hW hD
  funext j
  idx_vars j
  pointwise
  unfold resW
  simp only [Fin.sum_univ_one]
  obtain rfl | rfl | rfl : j0 = 0 ∨ j0 = 1 ∨ j0 = 2 := by omega
  · refine (congrArg₂ (· + ·) (congrArg₂ (· + ·) (dif_neg (by decide)) (dif_neg (by decide))) (dif_pos (by decide))).trans ?_
    refine (congrArg (· + _) (zero_add 0)).trans ((zero_add _).trans ?_)
    exact Finset.sum_congr rfl fun x _ => (mul_comm _ _).trans (congrArg _ (edge_hin P j1.val j1.isLt x.val _ rfl))
  · refine (congrArg₂ (· + ·) (congrArg₂ (· + ·) (dif_neg (by decide)) (dif_pos (by decide))) (dif_neg (by decide))).trans ?_
    refine (add_zero _).trans ((zero_add _).trans ?_)
    exact Finset.sum_congr rfl fun x _ => (mul_comm _ _).trans (congrArg _ (mid_hin P j1.val j1.isLt x))
  · refine (congrArg₂ (· + ·) (congrArg₂ (· + ·) (dif_pos (by decide)) (dif_neg (by decide))) (dif_neg (by decide))).trans ?_
    refine (add_zero _).trans ((add_zero _).trans ?_)
    exact Finset.sum_congr rfl fun x _ => (mul_comm _ _).trans
      (congrArg _ (edge_hin P j1.val j1.isLt (2 + x.val) _ (show x.val + 7 + 2 = 2 + x.val + 7 by omega)))

end Cert.ShortConvValue

end
-- ==== Proof.ShortConvEq.lean ====
/-
  The output projection fused with the short gated convolution, backward: the kernel's three results and the reference's
  are the same arrays, for any arguments.
-/
module

public import proofs.«01_k».proof.Defs
public import proofs.«01_k».proof.Proof.Gen.ShortConvRefIdeal
public import proofs.«01_k».proof.Proof.ShortConv
public import proofs.«01_k».proof.Proof.ShortConvRef
public import Idealize.ShloMosaic.Lib.Quiescent

@[expose] public section

set_option maxRecDepth 16384

noncomputable section

open Idealize.ShloMosaic Idealize.ShloMosaic.TcCoe Idealize.SL.Sem

namespace Cert.ShortConvValue

open Cert.ShortConvIdeal Cert.ShortConvIdeal.Gen

/-- The reference's executions end, with its arguments unchanged and every counter at zero. -/
theorem refFrame : Cert.quiescent_ShortConvRefIdeal := fun m ρ _ =>
  (θ_run _ _ _).mono (fun r h => ⟨fun c => (h c).2.2.2, sem_eq_zero_of_no_sems rfl r.2⟩)
    (Cert.ShortConvRefIdeal.Value.run m ρ)

/-- The two programs' results are the same arrays. -/
theorem algebraic : Cert.algebraic_ShortConvIdeal_ShortConvRefIdeal := by
  intro m g m' g' _ hagree
  refine ⟨fun c => (dats m 0 c).arrAt 14 cfg0.N, fun c => (dats m 0 c).arrAt 15 cfg0.N, fun c => (dats m 0 c).arrAt 16 cfg0.N,
    Cert.ShortConvIdeal.Value.run_blocks m g, (θ_run _ _ _).mono (fun r h c => ?_) (Cert.ShortConvRefIdeal.Value.run m' g')⟩
  obtain ⟨h0, h1, h2, h⟩ := h c
  obtain ⟨a0, a1, a2, a3, a4⟩ := hagree c
  refine ⟨h0.trans (.trans ?_ (final14 m c).symm), h1.trans ((ref_dp m' c _ _ _ _ a1 a2 a3 a4).trans (final15 m c).symm),
    h2.trans ((ref_dw m' c _ _ _ a1 a3 a4).trans (final16 m c).symm), h⟩
  rw [a3, a4]
  clear h0 h1 h2 a0 a1 a2 a3 a4
  generalize m (c.tc.loc main_arg3) = W
  generalize m (c.tc.loc main_arg4) = D
  funext j
  idx_vars j
  unfold resO
  pointwise

end Cert.ShortConvValue

end
-- ==== Proof.AttentionMath.lean ====
/-
  The mathematics of the attention's gradient, on real numbers: the softmax of a row of scores in the forms the two programs
  compute, and the largest score of a finite row.
-/
module

public import proofs.«01_k».proof.Proof.Lift
public import Idealize.ShloMosaic.Lib.Pointwise
public import Idealize.ShloMosaic.PureOps.Ideal.Laws

@[expose] public section

noncomputable section

namespace Cert.AttentionValue

open Idealize.ShloMosaic

section
variable {T : Type} [Fintype T] [Nonempty T] (x : T → ℝ)

/-- The weights of the softmax of a row of scores. -/
def wt (j : T) : ℝ := Real.exp (x j) / ∑ i, Real.exp (x i)

theorem sum_exp_pos (M : ℝ) : 0 < ∑ i, Real.exp (x i - M) :=
  Finset.sum_pos (fun i _ => Real.exp_pos _) Finset.univ_nonempty

/-- Shifting all scores of a row does not change its softmax. -/
theorem wt_shift (M : ℝ) (j : T) : Real.exp (x j - M) / ∑ i, Real.exp (x i - M) = wt x j := by
  unfold wt
  simp only [Real.exp_sub, ← Finset.sum_div]
  exact div_div_div_cancel_right₀ (Real.exp_ne_zero M) _ _

/-- The weight as a power of two of the difference between the score and the logarithm of the row's sum, both to base two. -/
theorem wt_lse (M : ℝ) (j : T) :
    Real.rpow 2 (x j * (Real.log 2)⁻¹ - (M + Real.log (∑ i, Real.exp (x i - M))) * (Real.log 2)⁻¹) = wt x j := by
  have h2 : Real.log 2 ≠ 0 := (Real.log_pos (by norm_num)).ne'
  rw [Real.rpow_eq_pow, Real.rpow_def_of_pos (by norm_num), ← sub_mul, mul_comm (_ - _) _, ← mul_assoc, mul_inv_cancel₀ h2, one_mul, ← sub_sub,
    Real.exp_sub, Real.exp_log (sum_exp_pos x M), wt_shift]

/-- The gradient of a softmax-weighted sum with respect to a score, as the chain rule through the quotient gives it. -/
theorem ds_chain (p : T → ℝ) (M : ℝ) (j : T) :
    (p j / (∑ i, Real.exp (x i - M))
        + -(∑ k, p k * (1 / ((∑ i, Real.exp (x i - M)) * ∑ i, Real.exp (x i - M))) * Real.exp (x k - M))) * Real.exp (x j - M)
      = wt x j * (p j - ∑ k, wt x k * p k) := by
  have hL := (sum_exp_pos x M).ne'
  have e : (∑ k, p k * (1 / ((∑ i, Real.exp (x i - M)) * ∑ i, Real.exp (x i - M))) * Real.exp (x k - M))
      = (∑ k, wt x k * p k) / ∑ i, Real.exp (x i - M) := by
    rw [Finset.sum_div]
    refine Finset.sum_congr rfl fun k _ => ?_
    rw [← wt_shift x M k]
    field_simp
  rw [e, ← wt_shift x M j]
  field_simp
  ring

/-- The same row sum from the forward pass's output: the gradient arriving at the output, times the output. -/
theorem delta {D : Type} [Fintype D] (o : D → ℝ) (v : T → D → ℝ) (M : ℝ) :
    ∑ e, o e * ((∑ j, Real.exp (x j - M) * v j e) / ∑ i, Real.exp (x i - M)) = ∑ j, wt x j * ∑ e, o e * v j e := by
  simp only [← wt_shift x M, Finset.sum_div, Finset.mul_sum]
  rw [Finset.sum_comm]
  exact Finset.sum_congr rfl fun j _ => Finset.sum_congr rfl fun e _ => by ring
end

/-- The largest of a nonempty finite set of real numbers, taken from -∞ up, is a real number. -/
theorem fold_max_real {ι : Type} (s : Finset ι) (hs : s.Nonempty) (x : ι → ℝ) :
    ∃ M : ℝ, s.fold max (⊥ : EReal) (fun i => ((x i : ℝ) : EReal)) = (M : EReal) := by
  have h1 : s.fold max (⊥ : EReal) (fun i => ((x i : ℝ) : EReal)) ≠ ⊤ :=
    ne_of_lt ((Finset.fold_max_lt _).2 ⟨bot_lt_top, fun i _ => EReal.coe_lt_top _⟩)
  have h2 : s.fold max (⊥ : EReal) (fun i => ((x i : ℝ) : EReal)) ≠ ⊥ := by
    obtain ⟨i, hi⟩ := hs
    exact ne_of_gt ((Finset.lt_fold_max _).2 (.inr ⟨i, hi, EReal.bot_lt_coe _⟩))
  exact ⟨_, (EReal.coe_toReal h1 h2).symm⟩

end Cert.AttentionValue

end
-- ==== Proof.AttentionSpec.lean ====
/-
  The attention, backward: the three gradients, as functions of real arrays.
-/
module

public import proofs.«01_k».proof.Proof.Gen.AttentionRefIdeal
public import proofs.«01_k».proof.Proof.AttentionMath

@[expose] public section

set_option maxRecDepth 16384

noncomputable section

open Idealize.ShloMosaic Idealize.ShloMosaic.TcCoe Idealize.SL.Sem

namespace Cert.AttentionValue

open Cert.AttentionRefIdeal Cert.AttentionRefIdeal.Gen

/-- An array of real numbers as an array of extended reals. -/
abbrev up {s : Shape} (x : s.Idx → ℝ) : FVec Ideal s .f32 := fun i => ((x i : ℝ) : EReal)

/-- The scale of the scores, as its f32 pattern reads. -/
def sc : ℝ := 11863283 / 134217728

theorem ofBits_sc : Ideal.ofBits .f32 0x3DB504F3#32 = (sc : EReal) := by
  simp [Ideal.ofBits, Ideal.ieee, sc, -EReal.coe_mul]; norm_num

theorem ofBits_bot : Ideal.ofBits .f32 0xFF800000#32 = ⊥ := by
  simp [Ideal.ofBits, Ideal.ieee]

/-- The context's rows before the latents' rows. -/
def cat (a : S2x256x128.Idx → ℝ) (b : S2x8192x128.Idx → ℝ) (i : S2x8448x128.Idx) : ℝ :=
  if h : (i 1).val < 256 then a (ix3 (i 0) ⟨(i 1).val, h⟩ (i 2))
  else b (ix3 (i 0) ⟨(i 1).val - 256, by have := (i 1).isLt; simp at this; omega⟩ (i 2))

section
variable (q : S4x8192x128.Idx → ℝ) (k v : S2x8448x128.Idx → ℝ) (d : S8192x512.Idx → ℝ)

/-- The scaled score of row `n` of head `b` of group `a` with key row `j`. -/
def score (a b : Fin 2) (n : Fin 8192) (j : Fin 8448) : ℝ :=
  (∑ e : Fin 128, q (ix3 ⟨a.val * 2 + b.val, by omega⟩ n e) * k (ix3 a j e)) * sc

/-- The gradient arriving at the softmax weight of that row and key. -/
def dprob (a b : Fin 2) (n : Fin 8192) (j : Fin 8448) : ℝ :=
  ∑ e : Fin 128, d (ix2 n ⟨a.val * 256 + b.val * 128 + e.val, by omega⟩) * v (ix3 a j e)

/-- The softmax weight. -/
def prob (a b : Fin 2) (n : Fin 8192) (j : Fin 8448) : ℝ := wt (score q k a b n) j

/-- The gradient with respect to the scaled score. -/
def dscore (a b : Fin 2) (n : Fin 8192) (j : Fin 8448) : ℝ :=
  prob q k a b n j * (dprob v d a b n j - ∑ l, prob q k a b n l * dprob v d a b n l)

/-- The gradient with respect to the queries. -/
def resQ (i : S4x8192x128.Idx) : ℝ :=
  ∑ j, dscore q k v d ⟨(i 0).val / 2, by have := (i 0).isLt; simp at this; omega⟩ ⟨(i 0).val % 2, by omega⟩ (i 1) j * sc
    * k (ix3 ⟨(i 0).val / 2, by have := (i 0).isLt; simp at this; omega⟩ j (i 2))

/-- The gradient with respect to the keys. -/
def resK (i : S2x8448x128.Idx) : ℝ :=
  ∑ b : Fin 2, ∑ n, dscore q k v d (i 0) b n (i 1) * sc
    * q (ix3 ⟨(i 0).val * 2 + b.val, by have := (i 0).isLt; simp at this; omega⟩ n (i 2))

/-- The gradient with respect to the values. -/
def resV (i : S2x8448x128.Idx) : ℝ :=
  ∑ b : Fin 2, ∑ n,
    d (ix2 n ⟨(i 0).val * 256 + b.val * 128 + (i 2).val, by have := (i 0).isLt; have := (i 2).isLt; simp at *; omega⟩)
      * prob q k (i 0) b n (i 1)
end

end Cert.AttentionValue

end
-- ==== Proof.AttentionRef.lean ====
/-
  The attention, backward: what the reference computes.
-/
module

public import proofs.«01_k».proof.Proof.Gen.AttentionRefIdeal.Run
public import proofs.«01_k».proof.Proof.AttentionSpec
public import Idealize.ShloMosaic.Lib.Pipeline.ValueKit

@[expose] public section

set_option maxRecDepth 16384

noncomputable section

open Idealize.ShloMosaic Idealize.ShloMosaic.TcCoe Idealize.SL.Sem

namespace Cert.AttentionValue

open Cert.AttentionRefIdeal Cert.AttentionRefIdeal.Gen

theorem cat_eq (a : S2x256x128.Idx → ℝ) (b : S2x8192x128.Idx → ℝ) :
    concatenate S2x8448x128 1 [⟨S2x256x128, up a⟩, ⟨S2x8192x128, up b⟩] concatenates_S2x256x128_S2x8192x128_S2x8448x128_d1
      = up (cat a b) := by
  funext i
  idx_vars i
  unfold cat
  pointwise [up]
  split <;> rfl

section
variable (x : S2x2x8192x8448.Idx → ℝ)

/-- The largest score of each row is a real number. -/
theorem max_real : ∃ M : S2x2x8192.Idx → ℝ, Host.reduce FloatOps.maximumf (up x) (constant S_ .f32 0xFF800000#32)
    reducesTo_S2x2x8192x8448_S2x2x8192_d3 h_S_ = up M := by
  have h : ∀ j, ∃ r : ℝ, Host.reduce FloatOps.maximumf (up x) (constant S_ .f32 0xFF800000#32)
      reducesTo_S2x2x8192x8448_S2x2x8192_d3 h_S_ j = (r : EReal) := fun j => by
    rw [Host.reduce_eq_fold]
    obtain ⟨r, hr⟩ := fold_max_real (Finset.univ.filter fun i => (reducesTo_S2x2x8192x8448_S2x2x8192_d3).drop i = j)
      ⟨ix4 (j 0) (j 1) (j 2) 0, Finset.mem_filter.2 ⟨Finset.mem_univ _, by blk_ext <;> rfl⟩⟩ x
    refine ⟨r, Eq.trans ?_ hr⟩
    rw [← ofBits_bot]
    rfl
  choose M hM using h
  exact ⟨M, funext hM⟩

/-- The exponentials of the differences between the scores and their row's largest. -/
def expo (M : S2x2x8192.Idx → ℝ) (i : S2x2x8192x8448.Idx) : ℝ := Real.exp (x i - M (ix3 (i 0) (i 1) (i 2)))

/-- A row's sum of them. -/
def total (i : S2x2x8192.Idx) : ℝ := ∑ j : Fin 8448, x (ix4 (i 0) (i 1) (i 2) j)

theorem sum_eq : Host.reduceAdd (up x) (constant S_ .f32 0x00000000#32) reducesTo_S2x2x8192x8448_S2x2x8192_d3 h_S_ = up (total x) := by
  funext i
  idx_vars i
  unfold total
  pointwise [up]
  exact Lift.sum_coe _

theorem exp_eq (M : S2x2x8192.Idx → ℝ) : Host.exp (subf (up x) (broadcastInDim S2x2x8192x8448 ![0, 1, 2, 3] bcast_S2x2x8192x1_S2x2x8192x8448_0_1_2_3 (broadcastInDim S2x2x8192x1 ![0, 1, 2] bcast_S2x2x8192_S2x2x8192x1_0_1_2 (maximumf (broadcastInDim S2x2x8192 ![] bcast_S_S2x2x8192 (constant S_ .f32 0xFF800000#32)) (up M))))) = up (expo x M) := by
  funext i
  idx_vars i
  unfold expo
  pointwise [up]
  rw [ofBits_bot, max_eq_right bot_le, ← EReal.coe_sub, Ideal.exp_coe]
end

section
variable (q : S4x8192x128.Idx → ℝ) (k v : S2x8448x128.Idx → ℝ) (d : S8192x512.Idx → ℝ)

theorem score_eq : mulf (Host.dotGeneral dot_S2x2x8192x128_S2x8448x128_S2x2x8192x8448_3_2_12_1_0_0 none
      (shapeCast _ (up q) shapeCasts_S4x8192x128_S2x2x8192x128) (up k))
      (broadcastInDim S2x2x8192x8448 ![] bcast_S_S2x2x8192x8448 (constant S_ .f32 0x3DB504F3#32))
    = up fun i => score q k (i 0) (i 1) (i 2) (i 3) := by
  funext i
  idx_vars i
  unfold score
  pointwise [up]
  simp only [← EReal.coe_mul, Lift.sum_coe, ofBits_sc]

theorem dprob_eq : Host.dotGeneral dot_S2x2x8192x128_S2x8448x128_S2x2x8192x8448_3_2_12_1_0_0 none
      (transpose S2x2x8192x128 [1, 2, 0, 3] (shapeCast _ (up d) shapeCasts_S8192x512_S8192x2x2x128)
        transposes_S8192x2x2x128_S2x2x8192x128_1_2_0_3) (up v)
    = up fun i => dprob v d (i 0) (i 1) (i 2) (i 3) := by
  funext i
  idx_vars i
  unfold dprob
  pointwise [up]
  simp only [← EReal.coe_mul, Lift.sum_coe]

theorem total_expo (M : S2x2x8192.Idx → ℝ) (a b : Fin 2) (n : Fin 8192) :
    total (expo (fun i => score q k (i 0) (i 1) (i 2) (i 3)) M) (ix3 a b n)
      = ∑ j, Real.exp (score q k a b n j - M (ix3 a b n)) := rfl

/-- The gradient with respect to the scores before the scale, through the quotient of the softmax. -/
theorem dscore_eq (M : S2x2x8192.Idx → ℝ) (y x : S2x2x8192x8448.Idx → ℝ) (L : S2x2x8192.Idx → ℝ)
    (hy : y = fun i => dprob v d (i 0) (i 1) (i 2) (i 3)) (hx : x = expo (fun i => score q k (i 0) (i 1) (i 2) (i 3)) M)
    (hL : L = total x) :
    mulf (mulf (addf (Host.divf (up y) (broadcastInDim S2x2x8192x8448 ![0, 1, 2, 3] bcast_S2x2x8192x1_S2x2x8192x8448_0_1_2_3 (broadcastInDim S2x2x8192x1 ![0, 1, 2] bcast_S2x2x8192_S2x2x8192x1_0_1_2 (up L)))) (broadcastInDim S2x2x8192x8448 ![0, 1, 2] bcast_S2x2x8192_S2x2x8192x8448_0_1_2 (Host.reduceAdd (Host.negf (shapeCast _ (Host.reduceAdd (mulf (mulf (up y) (broadcastInDim S2x2x8192x8448 ![0, 1, 2, 3] bcast_S2x2x8192x1_S2x2x8192x8448_0_1_2_3 (Host.divf (broadcastInDim S2x2x8192x1 ![] bcast_S_S2x2x8192x1 (constant S_ .f32 0x3F800000#32)) (mulf (broadcastInDim S2x2x8192x1 ![0, 1, 2] bcast_S2x2x8192_S2x2x8192x1_0_1_2 (up L)) (broadcastInDim S2x2x8192x1 ![0, 1, 2] bcast_S2x2x8192_S2x2x8192x1_0_1_2 (up L)))))) (up x)) (constant S_ .f32 0x00000000#32) reducesTo_S2x2x8192x8448_S2x2x8192_d3 h_S_) shapeCasts_S2x2x8192_S2x2x8192x1)) (constant S_ .f32 0x00000000#32) reducesTo_S2x2x8192x1_S2x2x8192_d3 h_S_))) (up x)) (broadcastInDim S2x2x8192x8448 ![] bcast_S_S2x2x8192x8448 (constant S_ .f32 0x3DB504F3#32))
    = up fun i => dscore q k v d (i 0) (i 1) (i 2) (i 3) * sc := by
  have hp : ∀ i, 0 < L i := fun i => hL ▸ hx ▸ Finset.sum_pos (fun j _ => Real.exp_pos _) Finset.univ_nonempty
  funext i
  idx_vars i
  pointwise [up]
  simp only [← EReal.coe_one, ← EReal.coe_mul, Lift.div_coe (hp _).ne', Lift.div_coe (mul_pos (hp _) (hp _)).ne', Lift.sum_coe,
    ← EReal.coe_neg, Fin.sum_univ_one, ← EReal.coe_add, ofBits_sc]
  subst hL hx hy
  exact congrArg (fun r : ℝ => ((r * sc : ℝ) : EReal)) (ds_chain (score q k i0 i1 i2) (dprob v d i0 i1 i2) (M (ix3 i0 i1 i2)) i3)

theorem dq_eq : shapeCast S4x8192x128 (Host.dotGeneral dot_S2x2x8192x8448_S2x8448x128_S2x2x8192x128_3_1_12_2_0_0 none
      (up fun i => dscore q k v d (i 0) (i 1) (i 2) (i 3) * sc) (up k)) shapeCasts_S2x2x8192x128_S4x8192x128 = up (resQ q k v d) := by
  funext i
  idx_vars i
  unfold resQ
  pointwise [up]
  simp only [← EReal.coe_mul, Lift.sum_coe]

theorem dk_eq : Host.dotGeneral dot_S2x2x8192x8448_S2x2x8192x128_S2x8448x128_12_12_3_3_0_0 none
      (up fun i => dscore q k v d (i 0) (i 1) (i 2) (i 3) * sc) (shapeCast _ (up q) shapeCasts_S4x8192x128_S2x2x8192x128)
    = up (resK q k v d) := by
  funext i
  idx_vars i
  unfold resK
  pointwise [up]
  simp only [← EReal.coe_mul, Lift.sum_coe]

theorem dv_eq (M : S2x2x8192.Idx → ℝ) (x : S2x2x8192x8448.Idx → ℝ) (L : S2x2x8192.Idx → ℝ)
    (hx : x = expo (fun i => score q k (i 0) (i 1) (i 2) (i 3)) M) (hL : L = total x) :
    transpose S2x8448x128 [0, 2, 1] (Host.dotGeneral dot_S2x2x8192x128_S2x2x8192x8448_S2x128x8448_12_12_3_3_0_0 none
      (transpose S2x2x8192x128 [1, 2, 0, 3] (shapeCast _ (up d) shapeCasts_S8192x512_S8192x2x2x128)
        transposes_S8192x2x2x128_S2x2x8192x128_1_2_0_3)
      (Host.divf (up x) (broadcastInDim S2x2x8192x8448 ![0, 1, 2, 3] bcast_S2x2x8192x1_S2x2x8192x8448_0_1_2_3 (broadcastInDim S2x2x8192x1 ![0, 1, 2] bcast_S2x2x8192_S2x2x8192x1_0_1_2 (up L))))) transposes_S2x128x8448_S2x8448x128_0_2_1
    = up (resV q k d) := by
  have hp : ∀ i, 0 < L i := fun i => hL ▸ hx ▸ Finset.sum_pos (fun j _ => Real.exp_pos _) Finset.univ_nonempty
  funext i
  idx_vars i
  unfold resV
  pointwise [up]
  simp only [Lift.div_coe (hp _).ne', ← EReal.coe_mul, Lift.sum_coe]
  subst hL hx
  refine congrArg Real.toEReal (Finset.sum_congr rfl fun b _ => Finset.sum_congr rfl fun n _ => congrArg _ ?_)
  exact wt_shift (score q k i0 b n) (M (ix3 i0 b n)) i1
end

section
open Cert.AttentionRefIdeal.Value
variable (m : (ℓ : Loc nD τ sig) → Buf (Elt Ideal) ℓ) (c : Dev nD) {q : S4x8192x128.Idx → ℝ} {kl vl : S2x8192x128.Idx → ℝ}
  {kc vc : S2x256x128.Idx → ℝ} {d : S8192x512.Idx → ℝ}

/-- The reference's first result is the gradient with respect to the queries. -/
theorem ref_dq (h0 : m (c.tc.loc main_arg0) = up q) (h1 : m (c.tc.loc main_arg1) = up kl) (h2 : m (c.tc.loc main_arg2) = up vl)
    (h3 : m (c.tc.loc main_arg3) = up kc) (h4 : m (c.tc.loc main_arg4) = up vc) (h5 : m (c.tc.loc main_arg5) = up d) :
    res_main_v58 m c = up (resQ q (cat kc kl) (cat vc vl) d) := by
  unfold res_main_v58
  rw [h0, h1, h2, h3, h4, h5, cat_eq, cat_eq, score_eq, dprob_eq]
  obtain ⟨M, hM⟩ := max_real fun i => score q (cat kc kl) (i 0) (i 1) (i 2) (i 3)
  rw [hM, exp_eq, sum_eq, dscore_eq q (cat kc kl) (cat vc vl) d M _ _ _ rfl rfl rfl]
  exact dq_eq q _ _ d

/-- Its second result is the gradient with respect to the keys. -/
theorem ref_dk (h0 : m (c.tc.loc main_arg0) = up q) (h1 : m (c.tc.loc main_arg1) = up kl) (h2 : m (c.tc.loc main_arg2) = up vl)
    (h3 : m (c.tc.loc main_arg3) = up kc) (h4 : m (c.tc.loc main_arg4) = up vc) (h5 : m (c.tc.loc main_arg5) = up d) :
    res_main_v56 m c = up (resK q (cat kc kl) (cat vc vl) d) := by
  unfold res_main_v56
  rw [h0, h1, h2, h3, h4, h5, cat_eq, cat_eq, score_eq, dprob_eq]
  obtain ⟨M, hM⟩ := max_real fun i => score q (cat kc kl) (i 0) (i 1) (i 2) (i 3)
  rw [hM, exp_eq, sum_eq, dscore_eq q (cat kc kl) (cat vc vl) d M _ _ _ rfl rfl rfl]
  exact dk_eq q _ _ d

/-- Its third result is the gradient with respect to the values. -/
theorem ref_dv (Q : FVec Ideal S4x8192x128 .f32) (Kl : FVec Ideal S2x8192x128 .f32) (Kc : FVec Ideal S2x256x128 .f32)
    (D : FVec Ideal S8192x512 .f32) (h0 : Q = up q) (h1 : Kl = up kl) (h3 : Kc = up kc) (h5 : D = up d) :
    transpose S2x8448x128 [0, 2, 1] (Host.dotGeneral dot_S2x2x8192x128_S2x2x8192x8448_S2x128x8448_12_12_3_3_0_0 none (transpose S2x2x8192x128 [1, 2, 0, 3] (shapeCast _ D shapeCasts_S8192x512_S8192x2x2x128) transposes_S8192x2x2x128_S2x2x8192x128_1_2_0_3) (Host.divf (Host.exp (subf (mulf (Host.dotGeneral dot_S2x2x8192x128_S2x8448x128_S2x2x8192x8448_3_2_12_1_0_0 none (shapeCast _ Q shapeCasts_S4x8192x128_S2x2x8192x128) (concatenate S2x8448x128 1 [⟨S2x256x128, Kc⟩, ⟨S2x8192x128, Kl⟩] concatenates_S2x256x128_S2x8192x128_S2x8448x128_d1)) (broadcastInDim S2x2x8192x8448 ![] bcast_S_S2x2x8192x8448 (constant S_ .f32 0x3DB504F3#32))) (broadcastInDim S2x2x8192x8448 ![0, 1, 2, 3] bcast_S2x2x8192x1_S2x2x8192x8448_0_1_2_3 (broadcastInDim S2x2x8192x1 ![0, 1, 2] bcast_S2x2x8192_S2x2x8192x1_0_1_2 (maximumf (broadcastInDim S2x2x8192 ![] bcast_S_S2x2x8192 (constant S_ .f32 0xFF800000#32)) (Host.reduce FloatOps.maximumf (mulf (Host.dotGeneral dot_S2x2x8192x128_S2x8448x128_S2x2x8192x8448_3_2_12_1_0_0 none (shapeCast _ Q shapeCasts_S4x8192x128_S2x2x8192x128) (concatenate S2x8448x128 1 [⟨S2x256x128, Kc⟩, ⟨S2x8192x128, Kl⟩] concatenates_S2x256x128_S2x8192x128_S2x8448x128_d1)) (broadcastInDim S2x2x8192x8448 ![] bcast_S_S2x2x8192x8448 (constant S_ .f32 0x3DB504F3#32))) (constant S_ .f32 0xFF800000#32) reducesTo_S2x2x8192x8448_S2x2x8192_d3 h_S_)))))) (broadcastInDim S2x2x8192x8448 ![0, 1, 2, 3] bcast_S2x2x8192x1_S2x2x8192x8448_0_1_2_3 (broadcastInDim S2x2x8192x1 ![0, 1, 2] bcast_S2x2x8192_S2x2x8192x1_0_1_2 (Host.reduceAdd (Host.exp (subf (mulf (Host.dotGeneral dot_S2x2x8192x128_S2x8448x128_S2x2x8192x8448_3_2_12_1_0_0 none (shapeCast _ Q shapeCasts_S4x8192x128_S2x2x8192x128) (concatenate S2x8448x128 1 [⟨S2x256x128, Kc⟩, ⟨S2x8192x128, Kl⟩] concatenates_S2x256x128_S2x8192x128_S2x8448x128_d1)) (broadcastInDim S2x2x8192x8448 ![] bcast_S_S2x2x8192x8448 (constant S_ .f32 0x3DB504F3#32))) (broadcastInDim S2x2x8192x8448 ![0, 1, 2, 3] bcast_S2x2x8192x1_S2x2x8192x8448_0_1_2_3 (broadcastInDim S2x2x8192x1 ![0, 1, 2] bcast_S2x2x8192_S2x2x8192x1_0_1_2 (maximumf (broadcastInDim S2x2x8192 ![] bcast_S_S2x2x8192 (constant S_ .f32 0xFF800000#32)) (Host.reduce FloatOps.maximumf (mulf (Host.dotGeneral dot_S2x2x8192x128_S2x8448x128_S2x2x8192x8448_3_2_12_1_0_0 none (shapeCast _ Q shapeCasts_S4x8192x128_S2x2x8192x128) (concatenate S2x8448x128 1 [⟨S2x256x128, Kc⟩, ⟨S2x8192x128, Kl⟩] concatenates_S2x256x128_S2x8192x128_S2x8448x128_d1)) (broadcastInDim S2x2x8192x8448 ![] bcast_S_S2x2x8192x8448 (constant S_ .f32 0x3DB504F3#32))) (constant S_ .f32 0xFF800000#32) reducesTo_S2x2x8192x8448_S2x2x8192_d3 h_S_)))))) (constant S_ .f32 0x00000000#32) reducesTo_S2x2x8192x8448_S2x2x8192_d3 h_S_))))) transposes_S2x128x8448_S2x8448x128_0_2_1
      = up (resV q (cat kc kl) d) := by
  rw [h0, h1, h3, h5, cat_eq, score_eq]
  obtain ⟨M, hM⟩ := max_real fun i => score q (cat kc kl) (i 0) (i 1) (i 2) (i 3)
  rw [hM, exp_eq, sum_eq]
  exact dv_eq q _ d M _ _ rfl rfl
end

end Cert.AttentionValue

end
-- ==== Proof.AttentionHost.lean ====
/-
  The attention, backward: what the host lines before the kernel prepare.
-/
module

public import proofs.«01_k».proof.Proof.Gen.AttentionIdeal.Frame
public import proofs.«01_k».proof.Proof.AttentionRef
public import Idealize.ShloMosaic.Lib.StableHlo.Run

@[expose] public section

set_option maxRecDepth 16384

noncomputable section

open Idealize.ShloMosaic Idealize.ShloMosaic.TcCoe Idealize.SL.Sem Idealize.ShloMosaic.StableHlo

namespace Cert.AttentionValue

open Cert.AttentionIdeal Cert.AttentionIdeal.Gen

variable (m : (ℓ : Loc nD τ sig) → Buf (Elt Ideal) ℓ) (c : Dev nD)

/-- The host's scores. -/
def hScore (Q : FVec Ideal S4x8192x128 .f32) (K : FVec Ideal S2x8448x128 .f32) : FVec Ideal S2x2x8192x8448 .f32 :=
  Host.dotGeneral dot_S2x2x8192x128_S2x8448x128_S2x2x8192x8448_3_2_12_1_0_0 none
    (shapeCast _ (mulf Q (broadcastInDim S4x8192x128 ![] bcast_S_S4x8192x128 (constant S_ .f32 0x3DB504F3#32))) shapeCasts_S4x8192x128_S2x2x8192x128) K

/-- Each row's largest. -/
def hMax (S : FVec Ideal S2x2x8192x8448 .f32) : FVec Ideal S2x2x8192 .f32 :=
  Host.reduce FloatOps.maximumf S (constant S_ .f32 0xFF800000#32) reducesTo_S2x2x8192x8448_S2x2x8192_d3 h_S_

/-- The exponentials. -/
def hExp (S : FVec Ideal S2x2x8192x8448 .f32) (M : FVec Ideal S2x2x8192 .f32) : FVec Ideal S2x2x8192x8448 .f32 :=
  Host.exp (subf S (broadcastInDim S2x2x8192x8448 ![0, 1, 2, 3] bcast_S2x2x8192x1_S2x2x8192x8448_0_1_2_3 (broadcastInDim S2x2x8192x1 ![0, 1, 2] bcast_S2x2x8192_S2x2x8192x1_0_1_2 M)))

def hSum (E : FVec Ideal S2x2x8192x8448 .f32) : FVec Ideal S2x2x8192 .f32 :=
  Host.reduceAdd E (constant S_ .f32 0x00000000#32) reducesTo_S2x2x8192x8448_S2x2x8192_d3 h_S_

def hOut (E : FVec Ideal S2x2x8192x8448 .f32) (L : FVec Ideal S2x2x8192 .f32) (V : FVec Ideal S2x8448x128 .f32) : FVec Ideal S8192x512 .f32 :=
  shapeCast _ (transpose S8192x4x128 [1, 0, 2] (shapeCast S4x8192x128 (Host.divf (Host.dotGeneral dot_S2x2x8192x8448_S2x8448x128_S2x2x8192x128_3_1_12_2_0_0 none E V)
    (broadcastInDim S2x2x8192x128 ![0, 1, 2, 3] bcast_S2x2x8192x1_S2x2x8192x128_0_1_2_3 (broadcastInDim S2x2x8192x1 ![0, 1, 2] bcast_S2x2x8192_S2x2x8192x1_0_1_2 L))) shapeCasts_S2x2x8192x128_S4x8192x128) transposes_S4x8192x128_S8192x4x128_1_0_2) shapeCasts_S8192x4x128_S8192x512

def hLse (M L : FVec Ideal S2x2x8192 .f32) : FVec Ideal S4x8192x1 .f32 :=
  shapeCast _ (addf (broadcastInDim S2x2x8192x1 ![0, 1, 2] bcast_S2x2x8192_S2x2x8192x1_0_1_2 M) (Host.log (broadcastInDim S2x2x8192x1 ![0, 1, 2] bcast_S2x2x8192_S2x2x8192x1_0_1_2 L))) shapeCasts_S2x2x8192x1_S4x8192x1

def hCat (a : FVec Ideal S2x256x128 .f32) (b : FVec Ideal S2x8192x128 .f32) : FVec Ideal S2x8448x128 .f32 :=
  concatenate S2x8448x128 1 [⟨S2x256x128, a⟩, ⟨S2x8192x128, b⟩] concatenates_S2x256x128_S2x8192x128_S2x8448x128_d1

def hQ (Q : FVec Ideal S4x8192x128 .f32) : FVec Ideal S4x8192x128 .f32 :=
  mulf Q (broadcastInDim S4x8192x128 ![] bcast_S_S4x8192x128 (constant S_ .f32 0x3DB504F3#32))

theorem V_q : (V m c main_v3 : FVec Ideal S4x8192x128 .f32) = hQ (m (c.tc.loc main_arg0)) := by
  simp only [V, hostOps0, List.flatten_cons, List.flatten_nil, List.append_nil, List.cons_append, List.nil_append]
  after_results_simp <;> rfl

theorem V_k : (V m c main_v22 : FVec Ideal S2x8448x128 .bf16) = (hCat (m (c.tc.loc main_arg3)) (m (c.tc.loc main_arg1))  : S2x8448x128.Idx → EReal) := by
  simp only [V, hostOps0, List.flatten_cons, List.flatten_nil, List.append_nil, List.cons_append, List.nil_append]
  after_results_simp <;> rfl

theorem V_v : (V m c main_v23 : FVec Ideal S2x8448x128 .bf16) = (hCat (m (c.tc.loc main_arg4)) (m (c.tc.loc main_arg2))  : S2x8448x128.Idx → EReal) := by
  simp only [V, hostOps0, List.flatten_cons, List.flatten_nil, List.append_nil, List.cons_append, List.nil_append]
  after_results_simp <;> rfl

theorem V_o : (V m c main_v21 : FVec Ideal S8192x512 .f32) = hOut (hExp (hScore (m (c.tc.loc main_arg0)) (hCat (m (c.tc.loc main_arg3)) (m (c.tc.loc main_arg1)))) (hMax (hScore (m (c.tc.loc main_arg0)) (hCat (m (c.tc.loc main_arg3)) (m (c.tc.loc main_arg1))))))
    (hSum (hExp (hScore (m (c.tc.loc main_arg0)) (hCat (m (c.tc.loc main_arg3)) (m (c.tc.loc main_arg1)))) (hMax (hScore (m (c.tc.loc main_arg0)) (hCat (m (c.tc.loc main_arg3)) (m (c.tc.loc main_arg1)))))))
    (hCat (m (c.tc.loc main_arg4)) (m (c.tc.loc main_arg2))) := by
  simp only [V, hostOps0, List.flatten_cons, List.flatten_nil, List.append_nil, List.cons_append, List.nil_append]
  after_results_simp <;> rfl

theorem V_l : (V m c main_v19 : FVec Ideal S4x8192x1 .f32) = hLse (hMax (hScore (m (c.tc.loc main_arg0)) (hCat (m (c.tc.loc main_arg3)) (m (c.tc.loc main_arg1)))))
    (hSum (hExp (hScore (m (c.tc.loc main_arg0)) (hCat (m (c.tc.loc main_arg3)) (m (c.tc.loc main_arg1)))) (hMax (hScore (m (c.tc.loc main_arg0)) (hCat (m (c.tc.loc main_arg3)) (m (c.tc.loc main_arg1))))))) := by
  simp only [V, hostOps0, List.flatten_cons, List.flatten_nil, List.append_nil, List.cons_append, List.nil_append]
  after_results_simp <;> rfl

section
variable (q : S4x8192x128.Idx → ℝ) (k v : S2x8448x128.Idx → ℝ) (d : S8192x512.Idx → ℝ) (M : S2x2x8192.Idx → ℝ)

theorem hQ_eq : hQ (up q) = up fun i => q i * sc := by
  funext i
  unfold hQ
  pointwise [up]
  rw [ofBits_sc, EReal.coe_mul]

theorem hScore_eq : hScore (up q) (up k) = up fun i => score q k (i 0) (i 1) (i 2) (i 3) := by
  funext i
  idx_vars i
  unfold hScore score
  pointwise [up]
  simp only [← EReal.coe_mul, Lift.sum_coe, ofBits_sc]
  rw [Finset.sum_mul]
  exact congrArg Real.toEReal (Finset.sum_congr rfl fun e _ => by ring)

theorem hExp_eq (x : S2x2x8192x8448.Idx → ℝ) : hExp (up x) (up M) = up (expo x M) := by
  funext i
  idx_vars i
  unfold hExp expo
  pointwise [up]
  rw [← EReal.coe_sub, Ideal.exp_coe]

theorem hSum_eq (x : S2x2x8192x8448.Idx → ℝ) : hSum (up x) = up (total x) := sum_eq x

theorem hCat_eq (a : S2x256x128.Idx → ℝ) (b : S2x8192x128.Idx → ℝ) : hCat (up a) (up b) = up (cat a b) := cat_eq a b

/-- The output of head `b` of group `a` at row `n` and column `e`. -/
def out (a b : Fin 2) (n : Fin 8192) (e : Fin 128) : ℝ :=
  (∑ j, Real.exp (score q k a b n j - M (ix3 a b n)) * v (ix3 a j e)) / ∑ j, Real.exp (score q k a b n j - M (ix3 a b n))

theorem hOut_eq (x : S2x2x8192x8448.Idx → ℝ) (L : S2x2x8192.Idx → ℝ)
    (hx : x = expo (fun i => score q k (i 0) (i 1) (i 2) (i 3)) M) (hL : L = total x) (n : Fin 8192) (w : Fin 512) (a b : Fin 2) (e : Fin 128)
    (hw : w.val = a.val * 256 + b.val * 128 + e.val) :
    hOut (up x) (up L) (up v) (ix2 n w) = ((out q k v M a b n e : ℝ) : EReal) := by
  have hp : ∀ i, 0 < L i := fun i => hL ▸ hx ▸ Finset.sum_pos (fun j _ => Real.exp_pos _) Finset.univ_nonempty
  unfold hOut
  pointwise [up]
  simp only [← EReal.coe_mul, Lift.sum_coe, Lift.div_coe (hp _).ne']
  subst hL hx
  have ha := a.isLt
  have hb := b.isLt
  have he := e.isLt
  rw [show (⟨w.val / 128 / 2, by omega⟩ : Fin 2) = a from Fin.ext (by simp only; omega),
    show (⟨w.val / 128 % 2, by omega⟩ : Fin 2) = b from Fin.ext (by simp only; omega),
    show (⟨w.val % 128, by omega⟩ : Fin 128) = e from Fin.ext (by simp only; omega)]
  rfl

theorem hLse_eq (x : S2x2x8192x8448.Idx → ℝ) (L : S2x2x8192.Idx → ℝ)
    (hx : x = expo (fun i => score q k (i 0) (i 1) (i 2) (i 3)) M) (hL : L = total x) (n : Fin 8192) (w : Fin 4) (z : Fin 1) (a b : Fin 2)
    (hw : w.val = a.val * 2 + b.val) :
    hLse (up M) (up L) (ix3 w n z)
      = ((M (ix3 a b n) + Real.log (∑ j, Real.exp (score q k a b n j - M (ix3 a b n))) : ℝ) : EReal) := by
  have hp : ∀ i, 0 < L i := fun i => hL ▸ hx ▸ Finset.sum_pos (fun j _ => Real.exp_pos _) Finset.univ_nonempty
  unfold hLse
  pointwise [up]
  simp only [Ideal.log_coe, if_neg (not_le.2 (hp _)), ← EReal.coe_add]
  subst hL hx
  have ha := a.isLt
  have hb := b.isLt
  rw [show (⟨w.val / 2, by omega⟩ : Fin 2) = a from Fin.ext (by simp only; omega),
    show (⟨w.val % 2, by omega⟩ : Fin 2) = b from Fin.ext (by simp only; omega)]
  rfl
end
end Cert.AttentionValue

end
-- ==== Proof.AttentionTile.lean ====
/-
  The attention, backward: what the kernel computes of one tile of 256 rows of one group's two
  heads, on real arrays.  Row `r` of the 512 stacked rows is row `r % 256` of the tile, of head
  `r / 256`.
-/
module

public import proofs.«01_k».proof.Proof.Gen.AttentionIdeal.Frame
public import proofs.«01_k».proof.Proof.AttentionHost

@[expose] public section

set_option maxRecDepth 16384

noncomputable section

open Idealize.ShloMosaic Idealize.ShloMosaic.TcCoe Idealize.SL.Sem

namespace Cert.AttentionValue

open Cert.AttentionIdeal Cert.AttentionIdeal.Gen

/-- The named constant log2 e reads as the inverse of the logarithm of two. -/
theorem named_log2e : (Named.named κ "log2e" 0x3FB8AA3B#32 : Ideal .f32) = (((Real.log 2)⁻¹ : ℝ) : EReal) := by
  simp [Named.named, κ]

/-- The named constant ln 2 reads as the logarithm of two. -/
theorem named_ln2 : (Named.named κ "ln2" 0x3F317218#32 : Ideal .f32) = ((Real.log 2 : ℝ) : EReal) := by
  simp [Named.named, κ]

/-- The power of two of a real number. -/
theorem exp2_coe (x : ℝ) : (FloatOps.exp2 (F := Ideal) (φ := .f32) ((x : ℝ) : EReal) : EReal) = ((Real.rpow 2 x : ℝ) : EReal) := rfl

/-- The row of the array that stacked row `r` of tile `i` is. -/
def row (i : Fin 32) (r : Fin 512) : Fin 8192 := ⟨256 * i.val + r.val % 256, by omega⟩

/-- The head that stacked row `r` belongs to. -/
def hd (r : Fin 512) : Fin 2 := ⟨r.val / 256, by omega⟩

/-- The cotangent of head `b` of group `a` at row `n`, column `e`. -/
def cot (d : S8192x512.Idx → ℝ) (a b : Fin 2) (n : Fin 8192) (e : Fin 128) : ℝ :=
  d (ix2 n ⟨a.val * 256 + b.val * 128 + e.val, by omega⟩)

/-- The query of head `b` of group `a` at row `n`, column `e`. -/
def qry (q : S4x8192x128.Idx → ℝ) (a b : Fin 2) (n : Fin 8192) (e : Fin 128) : ℝ :=
  q (ix3 ⟨a.val * 2 + b.val, by omega⟩ n e)

section
variable (q : S4x8192x128.Idx → ℝ) (k v : S2x8448x128.Idx → ℝ) (d : S8192x512.Idx → ℝ) (M : S2x2x8192.Idx → ℝ)
  (a : Fin 2) (i : Fin 32)

/-- The blocks of tile `i` of group `a`: scaled queries, keys, values, logarithms of the sums,
and the cotangents and outputs of the two heads. -/
structure Tile (qv : FVec Ideal S2x256x128 .f32) (kv vv : FVec Ideal S1x8448x128 .bf16) (lv : FVec Ideal S2x256x1 .f32)
    (c0 c1 o0 o1 : FVec Ideal S256x128 .f32) : Prop where
  hq : ∀ (b : Fin 2) (r : Fin 256) e, qv (ix3 b r e) = ((qry q a b ⟨256 * i.val + r.val, by omega⟩ e * sc : ℝ) : EReal)
  hk : ∀ j e, kv (ix3 0 j e) = ((k (ix3 a j e) : ℝ) : EReal)
  hv : ∀ j e, vv (ix3 0 j e) = ((v (ix3 a j e) : ℝ) : EReal)
  hl : ∀ (b : Fin 2) (r : Fin 256), lv (ix3 b r 0) = ((M (ix3 a b ⟨256 * i.val + r.val, by omega⟩)
    + Real.log (∑ j, Real.exp (score q k a b ⟨256 * i.val + r.val, by omega⟩ j - M (ix3 a b ⟨256 * i.val + r.val, by omega⟩))) : ℝ) : EReal)
  h0 : ∀ (r : Fin 256) e, c0 (ix2 r e) = ((cot d a 0 ⟨256 * i.val + r.val, by omega⟩ e : ℝ) : EReal)
  h1 : ∀ (r : Fin 256) e, c1 (ix2 r e) = ((cot d a 1 ⟨256 * i.val + r.val, by omega⟩ e : ℝ) : EReal)
  g0 : ∀ (r : Fin 256) e, o0 (ix2 r e) = ((out q k v M a 0 ⟨256 * i.val + r.val, by omega⟩ e : ℝ) : EReal)
  g1 : ∀ (r : Fin 256) e, o1 (ix2 r e) = ((out q k v M a 1 ⟨256 * i.val + r.val, by omega⟩ e : ℝ) : EReal)

variable {q k v d M a i}
variable {qv : FVec Ideal S2x256x128 .f32} {kv vv : FVec Ideal S1x8448x128 .bf16} {lv : FVec Ideal S2x256x1 .f32}
  {c0 c1 o0 o1 : FVec Ideal S256x128 .f32}

/-- The stacking of the two heads' blocks reads the one of the row's head. -/
theorem stack {x0 x1 : FVec Ideal S256x128 .f32} {f : Fin 2 → Fin 8192 → Fin 128 → ℝ}
    (h0 : ∀ (r : Fin 256) e, x0 (ix2 r e) = ((f 0 ⟨256 * i.val + r.val, by omega⟩ e : ℝ) : EReal))
    (h1 : ∀ (r : Fin 256) e, x1 (ix2 r e) = ((f 1 ⟨256 * i.val + r.val, by omega⟩ e : ℝ) : EReal))
    (r : Fin 512) (e : Fin 128) :
    (if h : r.val < 256 then x0 (ix2 ⟨r.val, h⟩ e) else x1 (ix2 ⟨r.val - 256, by omega⟩ e))
      = ((f (hd r) (row i r) e : ℝ) : EReal) := by
  split
  · rw [h0, show hd r = 0 from Fin.ext (by simp only [hd, Fin.val_zero]; omega),
      show row i r = ⟨256 * i.val + r.val, by omega⟩ from Fin.ext (by simp only [row]; omega)]
  · rw [h1, show hd r = 1 from Fin.ext (by simp only [hd, Fin.val_one]; omega),
      show row i r = ⟨256 * i.val + (r.val - 256), by omega⟩ from Fin.ext (by simp only [row]; omega)]

variable (T : Tile q k v d M a i qv kv vv lv c0 c1 o0 o1)
include T

/-- The stacked cotangents. -/
theorem pay6_at (r : Fin 512) (e : Fin 128) :
    (k0_pay6 (F := Ideal) c0 c1 (ix2 r e) : EReal) = ((cot d a (hd r) (row i r) e : ℝ) : EReal) := by
  pointwise [k0_pay6, k0_pay4]
  exact stack T.h0 T.h1 r e

/-- Each stacked row's product of cotangent and output. -/
theorem pay5_at (r : Fin 512) :
    (k0_pay5 (F := Ideal) c0 c1 o0 o1 (ix2 r 0) : EReal)
      = ((∑ j, prob q k a (hd r) (row i r) j * dprob v d a (hd r) (row i r) j : ℝ) : EReal) := by
  pointwise [k0_pay5, k0_pay4]
  rw [Finset.sum_congr rfl fun e _ => congrArg₂ (· * ·) (stack T.h0 T.h1 r e) (stack T.g0 T.g1 r e)]
  simp only [← EReal.coe_mul, Lift.sum_coe]
  exact congrArg Real.toEReal
    (delta (score q k a (hd r) (row i r)) (fun e => cot d a (hd r) (row i r) e) (fun j e => v (ix3 a j e)) _)

/-- The stacked queries, scaled for powers of two. -/
theorem pay3_at (r : Fin 512) (e : Fin 128) :
    (k0_pay3 (F := Ideal) qv (ix2 r e) : EReal) = ((qry q a (hd r) (row i r) e * sc * (Real.log 2)⁻¹ : ℝ) : EReal) := by
  pointwise [k0_pay3]
  rw [T.hq, named_log2e, ← EReal.coe_mul]
  rfl

/-- The softmax weights. -/
theorem pay7_at (r : Fin 512) (j : Fin 8448) :
    (k0_pay7 (F := Ideal) qv kv lv (ix2 r j) : EReal) = ((prob q k a (hd r) (row i r) j : ℝ) : EReal) := by
  pointwise [k0_pay7, k0_pay3]
  simp only [T.hq, T.hk, T.hl, named_log2e, ← EReal.coe_mul, Lift.sum_coe, ← EReal.coe_sub]
  refine (exp2_coe _).trans (congrArg Real.toEReal ?_)
  refine Eq.trans (congrArg (Real.rpow 2) (congrArg₂ (· - ·) ?_ rfl)) (wt_lse (score q k a (hd r) (row i r)) (M (ix3 a (hd r) (row i r))) j)
  unfold score
  rw [Finset.sum_mul, Finset.sum_mul]
  exact Finset.sum_congr rfl fun e _ => by simp only [qry, hd, row]; ring

/-- The gradients with respect to the scaled scores. -/
theorem pay8_at (r : Fin 512) (j : Fin 8448) :
    (k0_pay8 (F := Ideal) (k0_pay5 c0 c1 o0 o1) (k0_pay6 c0 c1) (k0_pay7 qv kv lv) vv (ix2 r j) : EReal)
      = ((dscore q k v d a (hd r) (row i r) j : ℝ) : EReal) := by
  pointwise [k0_pay8]
  simp only [pay5_at T, pay6_at T, pay7_at T, T.hv, ← EReal.coe_mul, Lift.sum_coe, ← EReal.coe_sub]
  rfl

/-- The tile's gradient with respect to the queries. -/
theorem pay9_at (b : Fin 2) (r : Fin 256) (e : Fin 128) (x : S4x8192x128.Idx)
    (x0 : (x 0).val = a.val * 2 + b.val) (x1 : (x 1).val = 256 * i.val + r.val) (x2 : (x 2).val = e.val) :
    (k0_pay9 (F := Ideal) (k0_pay5 c0 c1 o0 o1) (k0_pay6 c0 c1) (k0_pay7 qv kv lv) vv kv (ix3 b r e) : EReal)
      = ((resQ q k v d x : ℝ) : EReal) := by
  pointwise [k0_pay9]
  simp only [pay8_at T, T.hk, ← EReal.coe_mul, Lift.sum_coe, ofBits_sc]
  unfold resQ
  have hb := b.isLt
  have hr := r.isLt
  have ha := a.isLt
  rw [show hd ⟨b.val * 256 + r.val, by omega⟩ = b from Fin.ext (by simp only [hd]; omega),
    show row i ⟨b.val * 256 + r.val, by omega⟩ = x 1 from Fin.ext (by simp only [row]; omega),
    show (⟨(x 0).val / 2, by have := (x 0).isLt; simp at this; omega⟩ : Fin 2) = a from Fin.ext (by simp only; omega),
    show (⟨(x 0).val % 2, by omega⟩ : Fin 2) = b from Fin.ext (by simp only; omega),
    show x 2 = e from Fin.ext x2, Finset.sum_mul]
  exact congrArg Real.toEReal (Finset.sum_congr rfl fun j _ => by ring)

variable (q k v d a) in
omit T in
/-- What tile `i` adds to the gradient with respect to the keys. -/
def partK (i : Fin 32) (j : Fin 8448) (e : Fin 128) : ℝ :=
  ∑ r : Fin 512, dscore q k v d a (hd r) (row i r) j * sc * qry q a (hd r) (row i r) e

variable (q k d a) in
omit T in
/-- What tile `i` adds to the gradient with respect to the values. -/
def partV (i : Fin 32) (j : Fin 8448) (e : Fin 128) : ℝ :=
  ∑ r : Fin 512, cot d a (hd r) (row i r) e * prob q k a (hd r) (row i r) j

/-- The keys' gradient so far, with the tile's part. -/
theorem pay10_at (old : FVec Ideal S1x8448x128 .f32) (z : Fin 1) (j : Fin 8448) (e : Fin 128) :
    (k0_pay10 (F := Ideal) (k0_pay3 qv) (k0_pay5 c0 c1 o0 o1) (k0_pay6 c0 c1) (k0_pay7 qv kv lv) vv old (ix3 z j e) : EReal)
      = old (ix3 z j e) + ((partK q k v d a i j e : ℝ) : EReal) := by
  obtain rfl : z = 0 := Subsingleton.elim _ _
  pointwise [k0_pay10]
  simp only [pay8_at T, pay3_at T, named_ln2, ← EReal.coe_mul, Lift.sum_coe]
  have h2 : Real.log 2 ≠ 0 := (Real.log_pos (by norm_num)).ne'
  unfold partK
  rw [Finset.sum_mul]
  exact congrArg (old (ix3 0 j e) + ·) (congrArg Real.toEReal (Finset.sum_congr rfl fun r _ => by field_simp))

/-- The values' gradient so far, with the tile's part. -/
theorem pay11_at (old : FVec Ideal S1x8448x128 .f32) (z : Fin 1) (j : Fin 8448) (e : Fin 128) :
    (k0_pay11 (F := Ideal) (k0_pay6 c0 c1) (k0_pay7 qv kv lv) old (ix3 z j e) : EReal)
      = old (ix3 z j e) + ((partV q k d a i j e : ℝ) : EReal) := by
  obtain rfl : z = 0 := Subsingleton.elim _ _
  pointwise [k0_pay11]
  simp only [pay6_at T, pay7_at T, ← EReal.coe_mul, Lift.sum_coe]
  exact congrArg (old (ix3 0 j e) + ·) (congrArg Real.toEReal (Finset.sum_congr rfl fun r _ => mul_comm _ _))

end

/-- Sums over the tiles and their stacked rows are sums over the heads and their rows. -/
theorem sum_tiles (f : Fin 2 → Fin 8192 → ℝ) : ∑ i : Fin 32, ∑ r : Fin 512, f (hd r) (row i r) = ∑ b, ∑ n, f b n := by
  have h : ∀ i, ∑ r : Fin 512, f (hd r) (row i r) = ∑ b : Fin 2, ∑ r : Fin 256, f b ⟨256 * i.val + r.val, by omega⟩ := fun i =>
    (Fin.sum_mul_add_congr (L := 512) (S := 2) (n := 256) (F := fun b r => f b ⟨256 * i.val + r.val, by omega⟩)
      (f := fun r => f (hd r) (row i r)) (fun b r hl => congrArg₂ f (Fin.ext (by simp only [hd]; omega))
      (Fin.ext (by simp only [row]; omega))) rfl).symm
  rw [Finset.sum_congr rfl fun i _ => h i, Finset.sum_comm]
  exact Finset.sum_congr rfl fun b _ => Fin.sum_mul_add_congr (L := 8192) (S := 32) (n := 256)
    (F := fun i r => f b ⟨256 * i.val + r.val, by omega⟩) (f := f b) (fun i r hl => congrArg (f b)
    (Fin.ext (by simp only; omega))) rfl

/-- The tiles' parts of the gradient with respect to the keys add up to it. -/
theorem sum_partK (q : S4x8192x128.Idx → ℝ) (k v : S2x8448x128.Idx → ℝ) (d : S8192x512.Idx → ℝ) (x : S2x8448x128.Idx)
    (a : Fin 2) (j : Fin 8448) (e : Fin 128) (h0 : (x 0).val = a.val) (h1 : (x 1).val = j.val) (h2 : (x 2).val = e.val) :
    ∑ i, partK q k v d a i j e = resK q k v d x := by
  obtain ⟨rfl, rfl, rfl⟩ : x 0 = a ∧ x 1 = j ∧ x 2 = e := ⟨Fin.ext h0, Fin.ext h1, Fin.ext h2⟩
  exact sum_tiles fun b n => dscore q k v d (x 0) b n (x 1) * sc * qry q (x 0) b n (x 2)

/-- The tiles' parts of the gradient with respect to the values add up to it. -/
theorem sum_partV (q : S4x8192x128.Idx → ℝ) (k : S2x8448x128.Idx → ℝ) (d : S8192x512.Idx → ℝ) (x : S2x8448x128.Idx)
    (a : Fin 2) (j : Fin 8448) (e : Fin 128) (h0 : (x 0).val = a.val) (h1 : (x 1).val = j.val) (h2 : (x 2).val = e.val) :
    ∑ i, partV q k d a i j e = resV q k d x := by
  obtain ⟨rfl, rfl, rfl⟩ : x 0 = a ∧ x 1 = j ∧ x 2 = e := ⟨Fin.ext h0, Fin.ext h1, Fin.ext h2⟩
  exact sum_tiles fun b n => cot d (x 0) b n (x 2) * prob q k (x 0) b n (x 1)

end Cert.AttentionValue

end
-- ==== Proof.AttentionBlocks.lean ====
/-
  The attention, backward: where the blocks at a grid point lie in their arrays.
-/
module

public import proofs.«01_k».proof.Defs
public import proofs.«01_k».proof.Proof.AttentionTile
public import proofs.«01_k».proof.Proof.Gen.AttentionIdeal.Value
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.AttentionValue

open Cert.AttentionIdeal Cert.AttentionIdeal.Gen

variable (m : (ℓ : Loc nD τ sig) → Buf (Elt Ideal) ℓ)

theorem idx : ∀ t : Fin cfg0.N, win0_0.index t = ![t.val / 32, t.val % 32, 0] ∧ win0_1.index t = ![t.val / 32, 0, 0]
    ∧ win0_2.index t = ![t.val / 32, 0, 0] ∧ win0_3.index t = ![t.val % 32, t.val / 32] ∧ win0_4.index t = ![t.val % 32, t.val / 32]
    ∧ win0_5.index t = ![t.val / 32, t.val % 32, 0] ∧ win0_6.index t = ![t.val / 32, t.val % 32, 0]
    ∧ win0_7.index t = ![t.val / 32, 0, 0] ∧ win0_8.index t = ![t.val / 32, 0, 0] :=
  (by decide +kernel : ∀ t : Fin grid0.N, _)

/-- The group of a grid point. -/
def grp (t : Fin cfg0.N) : Fin 2 := ⟨t.val / 32, by have h : t.val < 64 := lt_of_lt_of_eq t.isLt (by decide); omega⟩

/-- The tile of a grid point. -/
def til (t : Fin cfg0.N) : Fin 32 := ⟨t.val % 32, by omega⟩

section
variable (c : Dev nD)

section
variable (X : ∀ b : Ref sig .tc, Buf (Elt Ideal) ((c : Thread nD τ).loc b))

/-- A block of the queries, read in the array. -/
theorem rd0 (t : Fin cfg0.N) (b : Fin 2) (r : Fin 256) (e : Fin 128) :
    (((cfg0.win 0).blk t).view.read (Elt Ideal) (X (Pipeline.arrRef spec0 0)) : FVec Ideal S2x256x128 .f32) (ix3 b r e) = (X main_v3 : FVec Ideal S4x8192x128 .f32) (ix3 ⟨(grp t).val * 2 + b.val, by omega⟩ ⟨256 * (til t).val + r.val, by omega⟩ e) := by
  unfold grp til
  blk_point [idx t]

/-- A block of the keys, read in the array. -/
theorem rd1 (t : Fin cfg0.N) (j : Fin 8448) (e : Fin 128) :
    (((cfg0.win 1).blk t).view.read (Elt Ideal) (X (Pipeline.arrRef spec0 1)) : FVec Ideal S1x8448x128 .bf16) (ix3 0 j e) = (X main_v22 : FVec Ideal S2x8448x128 .bf16) (ix3 (grp t) j e) := by
  unfold grp
  blk_point [idx t]

/-- A block of the values, read in the array. -/
theorem rd2 (t : Fin cfg0.N) (j : Fin 8448) (e : Fin 128) :
    (((cfg0.win 2).blk t).view.read (Elt Ideal) (X (Pipeline.arrRef spec0 2)) : FVec Ideal S1x8448x128 .bf16) (ix3 0 j e) = (X main_v23 : FVec Ideal S2x8448x128 .bf16) (ix3 (grp t) j e) := by
  unfold grp
  blk_point [idx t]

/-- A block of the cotangents, read in the array. -/
theorem rd3 (t : Fin cfg0.N) (r w : Fin 256) :
    (((cfg0.win 3).blk t).view.read (Elt Ideal) (X (Pipeline.arrRef spec0 3)) : FVec Ideal S256x256 .f32) (ix2 r w) = (X main_arg5 : FVec Ideal S8192x512 .f32) (ix2 ⟨256 * (til t).val + r.val, by omega⟩ ⟨(grp t).val * 256 + w.val, by omega⟩) := by
  unfold grp til
  blk_point [idx t]

/-- A block of the outputs, read in the array. -/
theorem rd4 (t : Fin cfg0.N) (r w : Fin 256) :
    (((cfg0.win 4).blk t).view.read (Elt Ideal) (X (Pipeline.arrRef spec0 4)) : FVec Ideal S256x256 .f32) (ix2 r w) = (X main_v21 : FVec Ideal S8192x512 .f32) (ix2 ⟨256 * (til t).val + r.val, by omega⟩ ⟨(grp t).val * 256 + w.val, by omega⟩) := by
  unfold grp til
  blk_point [idx t]

/-- A block of the logarithms of the sums, read in the array. -/
theorem rd5 (t : Fin cfg0.N) (b : Fin 2) (r : Fin 256) :
    (((cfg0.win 5).blk t).view.read (Elt Ideal) (X (Pipeline.arrRef spec0 5)) : FVec Ideal S2x256x1 .f32) (ix3 b r 0) = (X main_v19 : FVec Ideal S4x8192x1 .f32) (ix3 ⟨(grp t).val * 2 + b.val, by omega⟩ ⟨256 * (til t).val + r.val, by omega⟩ 0) := by
  unfold grp til
  blk_point [idx t]
end

/-- A block of the queries, read in the array. -/
theorem iblk0 (t : Fin cfg0.N) (b : Fin 2) (r : Fin 256) (e : Fin 128) :
    (iblk m c 0 t : FVec Ideal S2x256x128 .f32) (ix3 b r e) = (V m c main_v3 : FVec Ideal S4x8192x128 .f32) (ix3 ⟨(grp t).val * 2 + b.val, by omega⟩ ⟨256 * (til t).val + r.val, by omega⟩ e) :=
  rd0 c (V m c) t b r e

/-- A block of the keys, read in the array. -/
theorem iblk1 (t : Fin cfg0.N) (j : Fin 8448) (e : Fin 128) :
    (iblk m c 1 t : FVec Ideal S1x8448x128 .bf16) (ix3 0 j e) = (V m c main_v22 : FVec Ideal S2x8448x128 .bf16) (ix3 (grp t) j e) :=
  rd1 c (V m c) t j e

/-- A block of the values, read in the array. -/
theorem iblk2 (t : Fin cfg0.N) (j : Fin 8448) (e : Fin 128) :
    (iblk m c 2 t : FVec Ideal S1x8448x128 .bf16) (ix3 0 j e) = (V m c main_v23 : FVec Ideal S2x8448x128 .bf16) (ix3 (grp t) j e) :=
  rd2 c (V m c) t j e

/-- A block of the cotangents, read in the array. -/
theorem iblk3 (t : Fin cfg0.N) (r w : Fin 256) :
    (iblk m c 3 t : FVec Ideal S256x256 .f32) (ix2 r w) = (V m c main_arg5 : FVec Ideal S8192x512 .f32) (ix2 ⟨256 * (til t).val + r.val, by omega⟩ ⟨(grp t).val * 256 + w.val, by omega⟩) :=
  rd3 c (V m c) t r w

/-- A block of the outputs, read in the array. -/
theorem iblk4 (t : Fin cfg0.N) (r w : Fin 256) :
    (iblk m c 4 t : FVec Ideal S256x256 .f32) (ix2 r w) = (V m c main_v21 : FVec Ideal S8192x512 .f32) (ix2 ⟨256 * (til t).val + r.val, by omega⟩ ⟨(grp t).val * 256 + w.val, by omega⟩) :=
  rd4 c (V m c) t r w

/-- A block of the logarithms of the sums, read in the array. -/
theorem iblk5 (t : Fin cfg0.N) (b : Fin 2) (r : Fin 256) :
    (iblk m c 5 t : FVec Ideal S2x256x1 .f32) (ix3 b r 0) = (V m c main_v19 : FVec Ideal S4x8192x1 .f32) (ix3 ⟨(grp t).val * 2 + b.val, by omega⟩ ⟨256 * (til t).val + r.val, by omega⟩ 0) :=
  rd5 c (V m c) t b r

/-- The first half of a block's columns. -/
theorem left (X : FVec Ideal S256x256 .f32) (r : Fin 256) (e : Fin 128) (h) :
    (View.ld (Val := Elt Ideal) (e' := .f32) X (Rect.unit ![0, 0] ![256, 128] h) (ix2 r e) : EReal) = X (ix2 r ⟨e.val, by omega⟩) := by
  exact View.ld_unit_apply_of (Val := Elt Ideal) (e := .f32) X ![0, 0] ![256, 128] h (ix2 r e) _ (fun a => by fin_cases a <;> simp)

/-- The second half of a block's columns. -/
theorem right (X : FVec Ideal S256x256 .f32) (r : Fin 256) (e : Fin 128) (h) :
    (View.ld (Val := Elt Ideal) (e' := .f32) X (Rect.unit ![0, 128] ![256, 128] h) (ix2 r e) : EReal) = X (ix2 r ⟨128 + e.val, by omega⟩) := by
  exact View.ld_unit_apply_of (Val := Elt Ideal) (e := .f32) X ![0, 128] ![256, 128] h (ix2 r e) _ (fun a => by fin_cases a <;> simp)
end

end Cert.AttentionValue

end
-- ==== Proof.Attention.lean ====
/-
  The attention, backward: the kernel's three results.
-/
module

public import proofs.«01_k».proof.Defs
public import proofs.«01_k».proof.Proof.AttentionBlocks
public import proofs.«01_k».proof.Proof.Gen.AttentionIdeal.Value
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.AttentionValue

open Cert.AttentionIdeal Cert.AttentionIdeal.Gen

variable (m : (ℓ : Loc nD τ sig) → Buf (Elt Ideal) ℓ)

section
variable (c : Dev nD) (q : S4x8192x128.Idx → ℝ) (k v : S2x8448x128.Idx → ℝ) (d : S8192x512.Idx → ℝ) (M : S2x2x8192.Idx → ℝ)

/-- What the kernel's operands hold: the scaled queries, the keys, the values, the cotangents, and
the saved outputs and logarithms of the sums. -/
structure Held : Prop where
  hq : (V m c main_v3 : FVec Ideal S4x8192x128 .f32) = up fun i => q i * sc
  hk : (V m c main_v22 : FVec Ideal S2x8448x128 .bf16) = (up k : S2x8448x128.Idx → EReal)
  hv : (V m c main_v23 : FVec Ideal S2x8448x128 .bf16) = (up v : S2x8448x128.Idx → EReal)
  hd : (m (c.tc.loc main_arg5) : FVec Ideal S8192x512 .f32) = up d
  ho : ∀ (n : Fin 8192) (w : Fin 512) (a b : Fin 2) (e : Fin 128), w.val = a.val * 256 + b.val * 128 + e.val →
    (V m c main_v21 : FVec Ideal S8192x512 .f32) (ix2 n w) = ((out q k v M a b n e : ℝ) : EReal)
  hl : ∀ (n : Fin 8192) (w : Fin 4) (z : Fin 1) (a b : Fin 2), w.val = a.val * 2 + b.val →
    (V m c main_v19 : FVec Ideal S4x8192x1 .f32) (ix3 w n z)
      = ((M (ix3 a b n) + Real.log (∑ j, Real.exp (score q k a b n j - M (ix3 a b n))) : ℝ) : EReal)

variable {c q k v d M}

/-- The operands' blocks at a grid point are those of a tile. -/
theorem tile (H : Held m c q k v d M) (t : Fin cfg0.N) (h0 h1 h2 h3) :
    Tile q k v d M (grp t) (til t) (iblk m c 0 t) (iblk m c 1 t) (iblk m c 2 t) (iblk m c 5 t)
      (View.ld (Val := Elt Ideal) (e' := .f32) (iblk m c 3 t) (Rect.unit ![0, 0] ![256, 128] h0))
      (View.ld (Val := Elt Ideal) (e' := .f32) (iblk m c 3 t) (Rect.unit ![0, 128] ![256, 128] h1))
      (View.ld (Val := Elt Ideal) (e' := .f32) (iblk m c 4 t) (Rect.unit ![0, 0] ![256, 128] h2))
      (View.ld (Val := Elt Ideal) (e' := .f32) (iblk m c 4 t) (Rect.unit ![0, 128] ![256, 128] h3)) where
  hq b r e := (iblk0 m c t b r e).trans (congrFun H.hq _)
  hk j e := (iblk1 m c t j e).trans (congrFun H.hk _)
  hv j e := (iblk2 m c t j e).trans (congrFun H.hv _)
  hl b r := (iblk5 m c t b r).trans (H.hl _ _ _ _ _ rfl)
  h0 r e := (left _ r e h0).trans ((iblk3 m c t r _).trans ((congrFun H.hd _).trans (congrArg (fun w => ((d (ix2 _ w) : ℝ) : EReal)) (Fin.ext (by simp only [Fin.val_zero]; omega)))))
  h1 r e := (right _ r e h1).trans ((iblk3 m c t r _).trans ((congrFun H.hd _).trans (congrArg (fun w => ((d (ix2 _ w) : ℝ) : EReal)) (Fin.ext (by simp only [Fin.val_one]; omega)))))
  g0 r e := (left _ r e h2).trans ((iblk4 m c t r _).trans (H.ho _ _ _ _ _ (by simp only [Fin.val_zero]; omega)))
  g1 r e := (right _ r e h3).trans ((iblk4 m c t r _).trans (H.ho _ _ _ _ _ (by simp only [Fin.val_one]; omega)))

/-- The block of the queries' gradient that a grid point leaves. -/
theorem after6 (H : Held m c q k v d M) (t : Fin cfg0.N) (y : S2x256x128.Idx) (x : S4x8192x128.Idx)
    (x0 : (x 0).val = t.val / 32 * 2 + (y 0).val) (x1 : (x 1).val = 256 * (t.val % 32) + (y 1).val) (x2 : (x 2).val = (y 2).val) :
    (outsAt0 m c t.val t.isLt).1 y = ((resQ q k v d x : ℝ) : EReal) := by
  idx_vars y
  by_cases h : t.val % 32 = 0
  on_goal 1 => rw [outsAt0_A m c t h]
  on_goal 2 => rw [outsAt0_B m c t h]
  all_goals
    frame_out
    exact pay9_at (tile m H t _ _ _ _) _ _ _ x x0 x1 x2

/-- The first result: the gradient with respect to the queries. -/
theorem final6 (H : Held m c q k v d M) : (dats m 0 c).arrAt 6 cfg0.N = up (resQ q k v d) := by
  refine (dats m 0 c).arrAt_eq_of_covers 6 _ (by decide +kernel) fun t hf y => ?_
  blk_simp
  rw [after0_6]
  refine after6 m H t _ _ ?_ ?_ ?_ <;> blk_simp [idx t] <;> omega

/-- The sum over a group's grid points is the sum over its tiles. -/
theorem sum_points (P : Fin 2 → Fin 32 → ℝ) (t : Fin cfg0.N) (e : Fin 32 → Fin cfg0.N) (he : ∀ s, (e s).val = 32 * (t.val / 32) + s.val) :
    ∑ s, ((P (grp (e s)) (til (e s)) : ℝ) : EReal) = ((∑ i, P (grp t) i : ℝ) : EReal) := by
  rw [Lift.sum_coe]
  refine congrArg Real.toEReal (Finset.sum_congr rfl fun s _ => ?_)
  have h := he s
  have hs := s.isLt
  exact congrArg₂ P (Fin.ext (by simp only [grp]; omega)) (Fin.ext (by simp only [til]; omega))

/-- The second result: the gradient with respect to the keys. -/
theorem final7 (H : Held m c q k v d M) : (dats m 0 c).arrAt 7 cfg0.N = up (resK q k v d) := by
  refine (dats m 0 c).arrAt_eq_of_covers 7 _ (by decide +kernel) fun t hf y => ?_
  blk_simp
  rw [after0_7, Pipeline.eq_sum_fin_of_reset_step_apply_of_flush (fun n h => (outsAt0 m c n h).2.1) 32 (fun _ => 0)
    (fun p x => ((partK q k v d (grp p) (til p) (x 1) (x 2) : ℝ) : EReal)) (fun t h x => ?_) (fun t h x => ?_) t ((flush0_7 t).mp hf) _, zero_add]
  · refine (sum_points (fun a i => partK q k v d a i (y 1) (y 2)) t _ fun s => rfl).trans (congrArg Real.toEReal ?_)
    refine sum_partK q k v d _ _ _ _ ?_ ?_ ?_ <;> blk_simp [idx t]
    rfl
  · rw [outsAt0_A m c t h]
    frame_out
    idx_vars x
    refine (pay10_at (tile m H t _ _ _ _) _ _ _ _).trans ?_
    exact congrArg (· + _) Ideal.ofBits_zero_f32
  · rw [outsAt0_B m c t h]
    frame_out
    idx_vars x
    exact pay10_at (tile m H t _ _ _ _) _ _ _ _

/-- The third result: the gradient with respect to the values. -/
theorem final8 (H : Held m c q k v d M) : (dats m 0 c).arrAt 8 cfg0.N = up (resV q k d) := by
  refine (dats m 0 c).arrAt_eq_of_covers 8 _ (by decide +kernel) fun t hf y => ?_
  blk_simp
  rw [after0_8, Pipeline.eq_sum_fin_of_reset_step_apply_of_flush (fun n h => (outsAt0 m c n h).2.2) 32 (fun _ => 0)
    (fun p x => ((partV q k d (grp p) (til p) (x 1) (x 2) : ℝ) : EReal)) (fun t h x => ?_) (fun t h x => ?_) t ((flush0_8 t).mp hf) _, zero_add]
  · refine (sum_points (fun a i => partV q k d a i (y 1) (y 2)) t _ fun s => rfl).trans (congrArg Real.toEReal ?_)
    refine sum_partV q k d _ _ _ _ ?_ ?_ ?_ <;> blk_simp [idx t]
    rfl
  · rw [outsAt0_A m c t h]
    frame_out
    idx_vars x
    refine (pay11_at (tile m H t _ _ inb_S256x256_S256x128_0_0 inb_S256x256_S256x128_0_128) _ _ _ _).trans ?_
    exact congrArg (· + _) Ideal.ofBits_zero_f32
  · rw [outsAt0_B m c t h]
    frame_out
    idx_vars x
    exact pay11_at (tile m H t _ _ inb_S256x256_S256x128_0_0 inb_S256x256_S256x128_0_128) _ _ _ _

end

end Cert.AttentionValue

end
-- ==== Proof.AttentionEq.lean ====
/-
  The attention, backward: the kernel's results and the gradients of the plain attention are the
  same arrays, for finite arguments.
-/
module

public import proofs.«01_k».proof.Defs
public import proofs.«01_k».proof.Proof.Gen.AttentionRefIdeal
public import proofs.«01_k».proof.Proof.Gen.Pre_att_finite
public import proofs.«01_k».proof.Proof.Attention
public import Idealize.ShloMosaic.Lib.Quiescent

@[expose] public section

set_option maxRecDepth 16384

noncomputable section

open Idealize.ShloMosaic Idealize.ShloMosaic.TcCoe Idealize.SL.Sem

namespace Cert.AttentionValue

open Cert.AttentionIdeal Cert.AttentionIdeal.Gen

/-- Under the precondition every argument is an array of real numbers. -/
theorem reals (q : FVec Ideal S4x8192x128 .f32) (kl vl : FVec Ideal S2x8192x128 .f32) (kc vc : FVec Ideal S2x256x128 .f32)
    (d : FVec Ideal S8192x512 .f32) (h : Cert.Pre_att_finite.fn q kl vl kc vc d = fun _ => 1#1) :
    Lift.IsReal (s := S4x8192x128) q ∧ Lift.IsReal (s := S2x8192x128) kl ∧ Lift.IsReal (s := S2x8192x128) vl
      ∧ Lift.IsReal (s := S2x256x128) kc ∧ Lift.IsReal (s := S2x256x128) vc ∧ Lift.IsReal (s := S8192x512) d := by
  have h0 := congrFun h (ix1 0)
  have h1 := congrFun h (ix1 1)
  have h2 := congrFun h (ix1 2)
  have h3 := congrFun h (ix1 3)
  have h4 := congrFun h (ix1 4)
  have h5 := congrFun h (ix1 5)
  clear h
  unfold Cert.Pre_att_finite.fn Cert.Pre_att_finite.fn_part1 at h0 h1 h2 h3 h4 h5
  simp [concatenate_cons_apply, concatenateAt_cons, concatenateAt_singleton] at h0 h1 h2 h3 h4 h5
  exact ⟨Lift.real_of_all q _ h0, Lift.real_of_all kl _ h1, Lift.real_of_all vl _ h2, Lift.real_of_all kc _ h3,
    Lift.real_of_all vc _ h4, Lift.real_of_all d _ h5⟩

/-- For real arguments the host lines leave the operands that the tiles need. -/
theorem held (m : (ℓ : Loc nD τ sig) → Buf (Elt Ideal) ℓ) (c : Dev nD) (q : S4x8192x128.Idx → ℝ) (kl vl : S2x8192x128.Idx → ℝ)
    (kc vc : S2x256x128.Idx → ℝ) (d : S8192x512.Idx → ℝ)
    (h0 : m (c.tc.loc main_arg0) = up q) (h1 : m (c.tc.loc main_arg1) = up kl) (h2 : m (c.tc.loc main_arg2) = up vl)
    (h3 : m (c.tc.loc main_arg3) = up kc) (h4 : m (c.tc.loc main_arg4) = up vc) (h5 : m (c.tc.loc main_arg5) = up d) :
    ∃ M, Held m c q (cat kc kl) (cat vc vl) d M := by
  obtain ⟨M, hM⟩ : ∃ M, hMax (up fun i => score q (cat kc kl) (i 0) (i 1) (i 2) (i 3)) = up M := max_real _
  refine ⟨M, (V_q m c).trans ?_, (V_k m c).trans ?_, (V_v m c).trans ?_, h5, fun n w a b e hw => (congrFun (V_o m c) _).trans ?_,
    fun n w z a b hw => (congrFun (V_l m c) _).trans ?_⟩
  · rw [h0, hQ_eq]
  · rw [h1, h3, hCat_eq]
  · rw [h2, h4, hCat_eq]
  · rw [h0, h1, h2, h3, h4, hCat_eq, hCat_eq, hScore_eq, hM, hExp_eq, hSum_eq]
    exact hOut_eq q (cat kc kl) (cat vc vl) M _ _ rfl rfl n w a b e hw
  · rw [h0, h1, h3, hCat_eq, hScore_eq, hM, hExp_eq, hSum_eq]
    exact hLse_eq q (cat kc kl) M _ _ rfl rfl n w z a b hw

/-- The reference's executions end, with its arguments unchanged and every counter at zero. -/
theorem refFrame : Cert.quiescent_AttentionRefIdeal := fun m ρ _ =>
  (θ_run _ _ _).mono (fun r h => ⟨fun c => (h c).2.2.2, sem_eq_zero_of_no_sems rfl r.2⟩)
    (Cert.AttentionRefIdeal.Value.run m ρ)

/-- The two programs' results are the same arrays, for finite arguments. -/
theorem algebraic : Cert.algebraic_AttentionIdeal_AttentionRefIdeal_pre_att_finite := by
  intro m g m' g' hpre hagree
  refine ⟨fun c => (dats m 0 c).arrAt 6 cfg0.N, fun c => (dats m 0 c).arrAt 7 cfg0.N, fun c => (dats m 0 c).arrAt 8 cfg0.N,
    Cert.AttentionIdeal.Value.run_blocks m g, (θ_run _ _ _).mono (fun r h c => ?_) (Cert.AttentionRefIdeal.Value.run m' g')⟩
  obtain ⟨h0, h1, h2, h⟩ := h c
  obtain ⟨a0, a1, a2, a3, a4, a5⟩ := hagree c
  obtain ⟨⟨q, hq⟩, ⟨kl, hkl⟩, ⟨vl, hvl⟩, ⟨kc, hkc⟩, ⟨vc, hvc⟩, ⟨d, hd⟩⟩ := reals _ _ _ _ _ _ (hpre c)
  obtain ⟨M, H⟩ := held m c q kl vl kc vc d hq hkl hvl hkc hvc hd
  refine ⟨h0.trans (.trans ?_ (final6 m H).symm), h1.trans (.trans ?_ (final7 m H).symm), h2.trans (.trans ?_ (final8 m H).symm), h⟩
  · exact ref_dq m' c (a0.trans hq) (a1.trans hkl) (a2.trans hvl) (a3.trans hkc) (a4.trans hvc) (a5.trans hd)
  · exact ref_dk m' c (a0.trans hq) (a1.trans hkl) (a2.trans hvl) (a3.trans hkc) (a4.trans hvc) (a5.trans hd)
  · exact ref_dv _ _ _ _ (a0.trans hq) (a1.trans hkl) (a3.trans hkc) (a5.trans hd)

end Cert.AttentionValue

end
-- ==== Proof.GluTile.lean ====
/-
  The gradient of the convolutional gated linear unit: the four results as functions of the arrays, column by column, and
  what the kernel's body computes of them at one grid point.
-/
module

public import proofs.«01_k».proof.Proof.Gen.GluIdeal.Skeleton
public import proofs.«01_k».proof.Proof.ShortConvTile
public import Idealize.ShloMosaic.Lib.Pointwise

@[expose] public section

set_option maxRecDepth 16384

noncomputable section

open Idealize.ShloMosaic Idealize.ShloMosaic.TcCoe Idealize.SL.Sem

namespace Cert.GluValue

open Cert.GluIdeal Cert.GluIdeal.Gen
open Cert.ShortConvValue (Z Z_in Z_at Z_mul Z_sum halo conv convT)

section
variable (U : FVec Ideal S8192x5632 .f32) (K : FVec Ideal S3x2816 .f32) (B : FVec Ideal S1x2816 .f32) (W : FVec Ideal S2816x1024 .f32)
  (D : FVec Ideal S8192x1024 .bf16)

/-- A column of the gate before the convolution. -/
def gate (k : Fin 2816) (r : Fin 8192) : EReal := U (ix2 r ⟨k.val, by omega⟩)

/-- A column of the value. -/
def val (k : Fin 2816) (r : Fin 8192) : EReal := U (ix2 r ⟨2816 + k.val, by omega⟩)

/-- A column of the gate after the convolution and its bias. -/
def gcO (k : Fin 2816) (r : Fin 8192) : EReal := conv (gate U k) (K (ix2 0 k)) (K (ix2 1 k)) (K (ix2 2 k)) r.val + B (ix2 0 k)

/-- The gradient of the gated value: the layer's gradient times the transpose of the down projection. -/
def dh (k : Fin 2816) (r : Fin 8192) : EReal := ∑ l : Fin 1024, D (ix2 r l) * W (ix2 k l)

/-- The derivative of `silu`, as the kernel writes it. -/
def dsilu (x : EReal) : EReal := Ideal.logistic x * (1 + x * (1 - Ideal.logistic x))

/-- The gradient of the gate after the convolution. -/
def dg (k : Fin 2816) (r : Fin 8192) : EReal := dh W D k r * val U k r * dsilu (gcO U K B k r)

/-- The gradient of the gate before the convolution. -/
def resG : FVec Ideal S8192x2816 .bf16 := fun i => convT (dg U K B W D (i 1)) (K (ix2 0 (i 1))) (K (ix2 1 (i 1))) (K (ix2 2 (i 1))) (i 0).val

/-- The gradient of the value. -/
def resV : FVec Ideal S8192x2816 .bf16 := fun i => dh W D (i 1) (i 0) * (gcO U K B (i 1) (i 0) * Ideal.logistic (gcO U K B (i 1) (i 0)))

/-- The gradient of the convolution's weights. -/
def resW : FVec Ideal S3x2816 .f32 := fun i => ∑ r : Fin 8192, dg U K B W D (i 1) r * Z (gate U (i 1)) (r.val + 7 + (i 0).val)

/-- The gradient of the convolution's bias. -/
def resB : FVec Ideal S1x2816 .f32 := fun i => ∑ r : Fin 8192, dg U K B W D (i 1) r

end

/-- Shifting one column against another, the sum of products is the same whichever of the two is shifted. -/
theorem sum_shift (f g : Fin 8192 → EReal) (j : Fin 3) : (∑ r : Fin 8192, Z f (r.val + 9 - j.val) * g r) = ∑ r : Fin 8192, f r * Z g (r.val + 7 + j.val) := by
  have hA : ∀ r : Fin 8192, Z f (r.val + 9 - j.val) * g r = ∑ s : Fin 8192, if s.val + j.val = r.val + 1 then f s * g r else 0 := fun r => by
    unfold Z
    split_ifs with h
    · rw [Finset.sum_eq_single (⟨r.val + 9 - j.val - 8, by omega⟩ : Fin 8192)]
      · rw [if_pos (by simp only; omega)]
      · exact fun s _ hs => if_neg fun e => hs (Fin.ext (by simp only; omega))
      · exact fun h => absurd (Finset.mem_univ _) h
    · rw [zero_mul]
      exact (Finset.sum_eq_zero fun s _ => if_neg (by omega)).symm
  have hB : ∀ s : Fin 8192, f s * Z g (s.val + 7 + j.val) = ∑ r : Fin 8192, if s.val + j.val = r.val + 1 then f s * g r else 0 := fun s => by
    unfold Z
    split_ifs with h
    · rw [Finset.sum_eq_single (⟨s.val + 7 + j.val - 8, by omega⟩ : Fin 8192)]
      · rw [if_pos (by simp only; omega)]
      · exact fun r _ hr => if_neg fun e => hr (Fin.ext (by simp only; omega))
      · exact fun h => absurd (Finset.mem_univ _) h
    · rw [mul_zero]
      exact (Finset.sum_eq_zero fun r _ => if_neg (by omega)).symm
  rw [Finset.sum_congr rfl fun r _ => hA r, Finset.sum_congr rfl fun s _ => hB s, Finset.sum_comm]

/-- What the kernel's blocks at one grid point hold of one column: the three row blocks of the incoming gradient, a row of
    the down projection, and the eight rows before, the 256 rows in and the eight rows after the tile of the convolved gate
    and of the value (the rows beyond the array's two ends unspecified). -/
structure Tile (n : Fin 32) (κ : Fin 256) (d : Fin 1024 → Fin 8192 → EReal) (w : Fin 1024 → EReal) (γ β : Fin 8192 → EReal)
    (v12 : FVec Ideal S288x1024 .bf16) (wt : FVec Ideal S256x1024 .bf16) (c8 : FVec Ideal S8x256 .f32) (c7 : FVec Ideal S256x256 .f32)
    (c9 v5 : FVec Ideal S8x256 .f32) (v4 : FVec Ideal S256x256 .f32) (v6 : FVec Ideal S8x256 .f32) : Prop where
  z : ∀ (q : Fin 272) l, v12 (ix2 ⟨8 + q.val, by omega⟩ l) = Z (d l) (256 * n.val + q.val)
  w : ∀ l, wt (ix2 κ l) = w l
  cp : ∀ (b : Fin 8) (r : Fin 8192), r.val + 8 = 256 * n.val + b.val → c8 (ix2 b κ) = γ r
  cm : ∀ (b : Fin 256) (r : Fin 8192), r.val = 256 * n.val + b.val → c7 (ix2 b κ) = γ r
  cs : ∀ (b : Fin 8) (r : Fin 8192), r.val = 256 * n.val + 256 + b.val → c9 (ix2 b κ) = γ r
  vp : ∀ (b : Fin 8) (r : Fin 8192), r.val + 8 = 256 * n.val + b.val → v5 (ix2 b κ) = β r
  vm : ∀ (b : Fin 256) (r : Fin 8192), r.val = 256 * n.val + b.val → v4 (ix2 b κ) = β r
  vs : ∀ (b : Fin 8) (r : Fin 8192), r.val = 256 * n.val + 256 + b.val → v6 (ix2 b κ) = β r

/-- A column read through its three row blocks, at a row the array has. -/
theorem blocks (n : Fin 32) (γ : Fin 8192 → EReal) (p s : Fin 8 → EReal) (c : Fin 256 → EReal)
    (hp : ∀ (b : Fin 8) (r : Fin 8192), r.val + 8 = 256 * n.val + b.val → p b = γ r)
    (hm : ∀ (b : Fin 256) (r : Fin 8192), r.val = 256 * n.val + b.val → c b = γ r)
    (hs : ∀ (b : Fin 8) (r : Fin 8192), r.val = 256 * n.val + 256 + b.val → s b = γ r) (q : ℕ) (hq : q < 272) (r : Fin 8192)
    (hr : r.val + 8 = 256 * n.val + q) :
    (if h : q < 8 then p ⟨q, h⟩ else if h' : q - 8 < 256 then c ⟨q - 8, h'⟩ else s ⟨q - 8 - 256, by omega⟩) = γ r := by
  split_ifs with h h'
  · exact hp _ r hr
  · exact hm _ r (by simp only; omega)
  · exact hs _ r (by simp only; omega)

section
variable {n : Fin 32} {κ : Fin 256} {d : Fin 1024 → Fin 8192 → EReal} {w : Fin 1024 → EReal} {γ β : Fin 8192 → EReal}
  {v12 : FVec Ideal S288x1024 .bf16} {wt : FVec Ideal S256x1024 .bf16} {c8 c9 v5 v6 : FVec Ideal S8x256 .f32} {c7 v4 : FVec Ideal S256x256 .f32}

/-- The gradient of the convolved gate over the tile and its halos; zero beyond the array's ends, where the incoming
    gradient is. -/
theorem dgc_at (T : Tile n κ d w γ β v12 wt c8 c7 c9 v5 v4 v6) (q : Fin 272) :
    (k0_pay57 (F := Ideal) v12 wt c8 c7 c9 v5 v4 v6 (ix2 q κ) : EReal)
      = Z (fun r => (∑ l, d l r * w l) * β r * dsilu (γ r)) (256 * n.val + q.val) := by
  pointwise [k0_pay57, k0_pay54, k0_pay55, k0_pay56]
  have e : (∑ x, v12 (ix2 ⟨8 + q.val, by omega⟩ x) * wt (ix2 κ x)) = Z (fun r => ∑ l, d l r * w l) (256 * n.val + q.val) := by
    rw [← Z_sum]
    exact Finset.sum_congr rfl fun l _ => congrArg₂ (· * ·) (T.z q l) (T.w l)
  by_cases h : 8 ≤ 256 * n.val + q.val ∧ 256 * n.val + q.val < 8200
  · have hr : (⟨256 * n.val + q.val - 8, by omega⟩ : Fin 8192).val + 8 = 256 * n.val + q.val := by simp only; omega
    rw [Z_at _ _ hr.symm]
    rw [Z_at _ _ hr.symm] at e
    have eγ := blocks n γ (fun b => c8 (ix2 b κ)) (fun b => c9 (ix2 b κ)) (fun b => c7 (ix2 b κ)) T.cp T.cm T.cs q.val q.isLt _ hr
    have eβ := blocks n β (fun b => v5 (ix2 b κ)) (fun b => v6 (ix2 b κ)) (fun b => v4 (ix2 b κ)) T.vp T.vm T.vs q.val q.isLt _ hr
    exact congrArg₂ (· * ·) (congrArg₂ (· * ·) e eβ) (congrArg dsilu eγ)
  · refine (congrArg (· * _) ((congrArg (· * _) (e.trans ?_)).trans (zero_mul _))).trans ((zero_mul _).trans ?_)
    · unfold Z
      rw [dif_neg h]
    · unfold Z
      rw [dif_neg h]

/-- The gradient of the gate before the convolution, on the tile. -/
theorem dgate_at {f : Fin 8192 → EReal} {A : FVec Ideal S272x256 .f32} {w0 w1 w2 : FVec Ideal S1x256 .f32} {k0 k1 k2 : EReal}
    (hA : ∀ q : Fin 272, A (ix2 q κ) = Z f (256 * n.val + q.val)) (h0 : w0 (ix2 0 κ) = k0) (h1 : w1 (ix2 0 κ) = k1)
    (h2 : w2 (ix2 0 κ) = k2) (a : Fin 256) :
    (k0_pay63 (F := Ideal) A w0 w1 w2 (ix2 a κ) : EReal) = convT f k0 k1 k2 (256 * n.val + a.val) := by
  subst h0 h1 h2
  pointwise [k0_pay63, k0_pay60, k0_pay61, k0_pay62]
  rw [hA, hA, hA]
  unfold convT
  exact congrArg₂ (· + ·) (congrArg₂ (· + ·) (congrArg (Z f · * _) (by simp only; omega)) (congrArg (Z f · * _) (by simp only; omega)))
    (congrArg (Z f · * _) (by simp only; omega))

/-- One point's share of the gradient of the convolution's weights. -/
theorem dconv_at {f g : Fin 8192 → EReal} {A : FVec Ideal S272x256 .f32} {G : FVec Ideal S256x256 .f32} {o : FVec Ideal S3x256 .f32}
    (hA : ∀ q : Fin 272, A (ix2 q κ) = Z f (256 * n.val + q.val))
    (hG : ∀ (b : Fin 256) (r : Fin 8192), r.val = 256 * n.val + b.val → G (ix2 b κ) = g r) (j : Fin 3) :
    (k0_pay64 (F := Ideal) A G o (ix2 j κ) : EReal)
      = o (ix2 j κ) + ∑ a : Fin 256, Z f (256 * n.val + a.val + 9 - j.val) * g ⟨256 * n.val + a.val, by omega⟩ := by
  pointwise [k0_pay64, k0_pay60, k0_pay61, k0_pay62]
  refine congrArg _ ?_
  have hj := j.isLt
  split_ifs with h1 h2 <;> refine Finset.sum_congr rfl fun x _ => ?_ <;> rw [hA] <;>
    exact congrArg₂ (· * ·) (congrArg (Z f) (by simp only; omega)) (hG x _ rfl)

/-- One point's share of the gradient of the convolution's bias. -/
theorem dbias_at {f : Fin 8192 → EReal} {A : FVec Ideal S272x256 .f32} {o : FVec Ideal S1x256 .f32}
    (hA : ∀ q : Fin 272, A (ix2 q κ) = Z f (256 * n.val + q.val)) (j : Fin 1) :
    (k0_pay65 (F := Ideal) (k0_pay62 A) o (ix2 j κ) : EReal)
      = o (ix2 j κ) + ∑ a : Fin 256, f ⟨256 * n.val + a.val, by omega⟩ := by
  pointwise [k0_pay65, k0_pay62]
  refine congrArg _ (Finset.sum_congr rfl fun x _ => ?_)
  rw [hA]
  exact Z_at f _ (by simp only; omega)

/-- The gradient of the value, on the tile. -/
theorem dval_at (T : Tile n κ d w γ β v12 wt c8 c7 c9 v5 v4 v6) (a : Fin 256) (r : Fin 8192) (hr : r.val = 256 * n.val + a.val) :
    (k0_pay59 (F := Ideal) (k0_pay55 c8 c7 c9) (k0_pay56 c8 c7 c9) (k0_pay58 v12 wt) (ix2 a κ) : EReal)
      = (∑ l, d l r * w l) * (γ r * Ideal.logistic (γ r)) := by
  pointwise [k0_pay59, k0_pay58, k0_pay54, k0_pay55, k0_pay56]
  refine congrArg₂ (· * ·) (Finset.sum_congr rfl fun l _ => congrArg₂ (· * ·) ((T.z ⟨8 + a.val, by omega⟩ l).trans ?_) (T.w l))
    (congrArg (fun x => x * Ideal.logistic x) (T.cm a r hr))
  exact Z_at _ r (by simp only; omega)

/-- The incoming gradient's three row blocks, joined: the rows around the tile, zero beyond the array's two ends. -/
theorem z_at {i : grid0.Coords} (hi : (i 0).val = n.val) {P N : FVec Ideal S16x1024 .bf16} {M : FVec Ideal S256x1024 .bf16}
    (hP : ∀ l (r : Fin 8192) (b : Fin 16), 0 < n.val → r.val + 16 = 256 * n.val + b.val → P (ix2 b l) = d l r)
    (hM : ∀ l (r : Fin 8192) (b : Fin 256), r.val = 256 * n.val + b.val → M (ix2 b l) = d l r)
    (hN : ∀ l (r : Fin 8192) (b : Fin 16), n.val < 31 → r.val = 256 * n.val + 256 + b.val → N (ix2 b l) = d l r)
    (q : Fin 272) (l : Fin 1024) :
    (k0_pay4 (F := Ideal) i P M N (ix2 ⟨8 + q.val, by omega⟩ l) : EReal) = Z (d l) (256 * n.val + q.val) := by
  pointwise [k0_pay4]
  rw [hi]
  refine halo 8 n (d l) (fun b => P (ix2 b l)) (fun b => N (ix2 b l)) (fun b => M (ix2 b l)) (fun h b hb => ?_) (fun b => ?_) (fun h b hb => ?_) q.val q.isLt
      (by omega)
  · rw [Z_at _ ⟨256 * n.val + b.val - 16, by omega⟩ (by simp only; omega)]
    exact hP l _ b h (by simp only; omega)
  · rw [Z_at _ ⟨256 * n.val + b.val, by omega⟩ (by simp only; omega)]
    exact hM l _ b rfl
  · rw [Z_at _ ⟨256 * n.val + 256 + b.val, by omega⟩ (by simp only; omega)]
    exact hN l _ b h rfl

end

end Cert.GluValue

end
-- ==== Proof.GluRef.lean ====
/-
  The gradient of the convolutional gated linear unit: the arrays the host computes (the convolved gate in both programs,
  the reference's gradient of it), and the reference's four results.
-/
module

public import proofs.«01_k».proof.Proof.Gen.GluRefIdeal.Run
public import proofs.«01_k».proof.Proof.GluTile
public import proofs.«01_k».proof.Proof.Lift

@[expose] public section

set_option maxRecDepth 16384

noncomputable section

open Idealize.ShloMosaic Idealize.ShloMosaic.TcCoe Idealize.SL.Sem

namespace Cert.GluValue

open Cert.GluRefIdeal Cert.GluRefIdeal.Gen
open Cert.ShortConvValue (Z Z_in Z_at edge_Z dite_Z conv convT)

section
variable (U : FVec Ideal S8192x5632 .f32) (K : FVec Ideal S3x2816 .f32) (B : FVec Ideal S1x2816 .f32) (W : FVec Ideal S2816x1024 .f32)
  (D : FVec Ideal S8192x1024 .bf16)

/-- A row of zeros. -/
def hZero : FVec Ideal S1x2816 .f32 := broadcastInDim S1x2816 ![] bcast_S_S1x2816 (constant S_ .f32 0x00000000#32)

/-- The gate with a row of zeros before it and after it. -/
def hPad : FVec Ideal S8194x2816 .f32 :=
  concatenate S8194x2816 0 [⟨S1x2816, hZero⟩, ⟨S8192x2816, extractStridedSlice S8192x2816 ![0, 0] U slices_S8192x5632_S8192x2816_0_0⟩, ⟨S1x2816, hZero⟩]
    concatenates_S1x2816_S8192x2816_S1x2816_S8194x2816_d0

/-- A row of the convolution's weights, repeated down the rows. -/
def hRow (k : FVec Ideal S1x2816 .f32) : FVec Ideal S8192x2816 .f32 :=
  broadcastInDim S8192x2816 ![0, 1] bcast_S1x2816_S8192x2816_0_1 (broadcastInDim S1x2816 ![1] bcast_S2816_S1x2816_1 (shapeCast _ k shapeCasts_S1x2816_S2816))

/-- The gate after the convolution and its bias. -/
def hGc : FVec Ideal S8192x2816 .f32 :=
  addf (addf (addf (addf (broadcastInDim S8192x2816 ![] bcast_S_S8192x2816 (constant S_ .f32 0x00000000#32))
    (mulf (extractStridedSlice S8192x2816 ![0, 0] (hPad U) slices_S8194x2816_S8192x2816_0_0) (hRow (extractStridedSlice S1x2816 ![0, 0] K slices_S3x2816_S1x2816_0_0))))
    (mulf (extractStridedSlice S8192x2816 ![1, 0] (hPad U) slices_S8194x2816_S8192x2816_1_0) (hRow (extractStridedSlice S1x2816 ![1, 0] K slices_S3x2816_S1x2816_1_0))))
    (mulf (extractStridedSlice S8192x2816 ![2, 0] (hPad U) slices_S8194x2816_S8192x2816_2_0) (hRow (extractStridedSlice S1x2816 ![2, 0] K slices_S3x2816_S1x2816_2_0))))
    (broadcastInDim S8192x2816 ![0, 1] bcast_S1x2816_S8192x2816_0_1 B)

/-- The host's logistic. -/
def hSg (X : FVec Ideal S8192x2816 .f32) : FVec Ideal S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf X)))

/-- The host's gradient of the gated value. -/
def hDh : FVec Ideal S8192x2816 .f32 :=
  Host.dotGeneral dot_S8192x1024_S2816x1024_S8192x2816_1_1_0_0_n_n none (extf .f32 D bitsLt_bf16_f32) W

/-- The host's gradient of `silu`, of the incoming gradient `Y` at `X`. -/
def hSilu (Y X : FVec Ideal S8192x2816 .f32) : FVec Ideal S8192x2816 .f32 :=
  addf (mulf Y (hSg X)) (mulf (mulf X Y) (mulf (hSg X) (subf (broadcastInDim S8192x2816 ![] bcast_S_S8192x2816 (constant S_ .f32 0x3F800000#32)) (hSg X))))

/-- The host's gradient of the convolved gate. -/
def hDg : FVec Ideal S8192x2816 .f32 :=
  hSilu (mulf (hDh W D) (extractStridedSlice S8192x2816 ![0, 2816] U slices_S8192x5632_S8192x2816_0_2816)) (hGc U K B)

theorem hZero_at (z : Fin 1) (k : Fin 2816) : (hZero (ix2 z k) : EReal) = 0 := by
  unfold hZero
  pointwise

/-- The padded gate's rows are the gate's, zero outside. -/
theorem hPad_at (q : Fin 8194) (k : Fin 2816) (s : ℕ) (hs : s = q.val + 7) : (hPad U (ix2 q k) : EReal) = Z (gate U k) s := by
  unfold hPad hZero
  pointwise
  exact edge_Z (gate U k) hs

/-- The host's convolved gate is the convolution of the gate's column, with the bias. -/
theorem hGc_at (r : Fin 8192) (k : Fin 2816) : (hGc U K B (ix2 r k) : EReal) = gcO U K B k r := by
  unfold hGc hRow
  generalize he : hPad U = P
  pointwise
  subst he
  rw [hPad_at U _ k (r.val + 7) rfl, hPad_at U _ k (r.val + 8) (by simp only; omega), hPad_at U _ k (r.val + 9) (by simp only; omega)]
  rfl

theorem hSg_at (X : FVec Ideal S8192x2816 .f32) (i) : (hSg X i : EReal) = Ideal.logistic (X i) := by
  idx_vars i
  unfold hSg
  pointwise
  rfl

/-- The logistic of a real number is one. -/
theorem logistic_real (x : ℝ) : ∃ l : ℝ, Ideal.logistic (x : EReal) = (l : EReal) := by
  unfold Ideal.logistic
  have h : (1 + Real.exp (-x) : ℝ) ≠ 0 := by positivity
  rw [← EReal.coe_neg, Ideal.exp_coe, ← EReal.coe_one, ← EReal.coe_add, Lift.div_coe h]
  exact ⟨_, rfl⟩

/-- An array whose entries are real numbers. -/
theorem real_of {s : Shape} {X : s.Idx → EReal} (h : ∀ i, ∃ x : ℝ, X i = (x : EReal)) : Lift.IsReal X := by
  choose x hx using h
  exact ⟨x, funext hx⟩

/-- A column of real numbers, continued by zero. -/
theorem Z_real {f : Fin 8192 → EReal} (h : ∀ r, ∃ x : ℝ, f r = (x : EReal)) (s : ℕ) : ∃ x : ℝ, Z f s = (x : EReal) := by
  unfold Z
  split_ifs
  · exact h _
  · exact ⟨0, rfl⟩

/-- For real numbers the host's gradient of `silu` is the derivative times the incoming gradient. -/
theorem hSilu_at (Y X : FVec Ideal S8192x2816 .f32) (hY : Lift.IsReal Y) (hX : Lift.IsReal X) (i) :
    (hSilu Y X i : EReal) = Y i * dsilu (X i) := by
  obtain ⟨y, rfl⟩ := hY
  obtain ⟨x, rfl⟩ := hX
  idx_vars i
  unfold hSilu
  pointwise
  simp only [hSg_at]
  obtain ⟨l, hl⟩ := logistic_real (x (ix2 i0 i1))
  unfold dsilu
  rw [hl]
  simp only [← EReal.coe_mul, ← EReal.coe_add, ← EReal.coe_sub, ← EReal.coe_one]
  exact congrArg _ (by ring)

/-- The host's gradient of the gated value is the product's column. -/
theorem hDh_at (r : Fin 8192) (k : Fin 2816) : (hDh W D (ix2 r k) : EReal) = dh W D k r := by
  unfold hDh
  pointwise
  rfl

/-- The host's gradient of the convolved gate, of real arguments. -/
theorem hDg_at (hU : Lift.IsReal U) (hK : Lift.IsReal K) (hB : Lift.IsReal B) (hW : Lift.IsReal W) (hD : Lift.IsReal D)
    (r : Fin 8192) (k : Fin 2816) : (hDg U K B W D (ix2 r k) : EReal) = dg U K B W D k r := by
  unfold hDg
  refine (hSilu_at _ _ (real_of fun i => ?_) (real_of fun i => ?_) _).trans ?_
  · idx_vars i
    obtain ⟨w, rfl⟩ := hW
    obtain ⟨d, rfl⟩ := hD
    obtain ⟨u, rfl⟩ := hU
    generalize hH : hDh (fun i => (w i : EReal)) (fun i => (d i : EReal)) = H
    pointwise
    subst hH
    rw [hDh_at]
    unfold dh
    simp only [← EReal.coe_mul, Lift.sum_coe]
    exact ⟨_, rfl⟩
  · idx_vars i
    rw [hGc_at]
    obtain ⟨x, hx⟩ := hK
    obtain ⟨b, hb⟩ := hB
    have hZ := fun s => Z_real (f := gate U i1) (fun r => by obtain ⟨u, rfl⟩ := hU; exact ⟨_, rfl⟩) s
    choose z hz using hZ
    unfold gcO conv
    rw [hx, hb, hz, hz, hz]
    simp only [← EReal.coe_mul, ← EReal.coe_add]
    exact ⟨_, rfl⟩
  · rw [hGc_at]
    unfold dg
    refine congrArg (· * _) ?_
    generalize hH : hDh W D = H
    pointwise
    subst hH
    rw [hDh_at]
    rfl

end

section
open Cert.GluRefIdeal.Value
variable (m : (ℓ : Loc nD τ sig) → Buf (Elt Ideal) ℓ) (c : Dev nD) (U : FVec Ideal S8192x5632 .f32) (K : FVec Ideal S3x2816 .f32)
  (B : FVec Ideal S1x2816 .f32) (W : FVec Ideal S2816x1024 .f32) (D : FVec Ideal S8192x1024 .bf16)
  (eU : m (c.tc.loc main_arg0) = U) (eK : m (c.tc.loc main_arg1) = K) (eB : m (c.tc.loc main_arg2) = B)
  (eW : m (c.tc.loc main_arg3) = W) (eD : m (c.tc.loc main_arg4) = D)
include eU eK eB eW eD

/-- The reference's gradient of the value. -/
theorem ref_val : res_main_v76 m c = resV U K B W D := by
  have e : res_main_v76 m c = truncf .bf16 (mulf (mulf (hGc U K B) (hSg (hGc U K B))) (hDh W D)) bitsLt_bf16_f32 := by
    unfold res_main_v76
    rw [eU, eK, eB, eW, eD]
    rfl
  rw [e]
  funext i
  idx_vars i
  generalize hG : hGc U K B = G
  generalize hS : hSg G = S
  generalize hH : hDh W D = H
  pointwise
  subst hS hG hH
  rw [hSg_at, hGc_at, hDh_at, mul_comm]
  rfl

variable (hU : Lift.IsReal U) (hK : Lift.IsReal K) (hB : Lift.IsReal B) (hW : Lift.IsReal W) (hD : Lift.IsReal D)
include hU hK hB hW hD

/-- The reference's gradient of the bias. -/
theorem ref_bias : res_main_v40 m c = resB U K B W D := by
  have e : res_main_v40 m c = shapeCast _ (Host.reduceAdd (hDg U K B W D) (constant S_ .f32 0x00000000#32) reducesTo_S8192x2816_S2816_d0 h_S_) shapeCasts_S2816_S1x2816 := by
    unfold res_main_v40
    rw [eU, eK, eB, eW, eD]
    rfl
  rw [e]
  funext i
  idx_vars i
  generalize hG : hDg U K B W D = G
  pointwise
  subst hG
  simp only [hDg_at U K B W D hU hK hB hW hD]
  rfl

/-- The reference's gradient of the gate before the convolution: the same three products, added in the other order. -/
theorem ref_gate : res_main_v75 m c = resG U K B W D := by
  have e : res_main_v75 m c = truncf .bf16 (extractStridedSlice S8192x2816 ![1, 0] (addf (addf
      (pad S8194x2816 ![2, 0] ![0, 0] ![0, 0] (mulf (hDg U K B W D) (hRow (extractStridedSlice S1x2816 ![2, 0] K slices_S3x2816_S1x2816_2_0))) (constant S_ .f32 0x00000000#32) pads_S8192x2816_S8194x2816_200_000 h_S_)
      (pad S8194x2816 ![1, 0] ![1, 0] ![0, 0] (mulf (hDg U K B W D) (hRow (extractStridedSlice S1x2816 ![1, 0] K slices_S3x2816_S1x2816_1_0))) (constant S_ .f32 0x00000000#32) pads_S8192x2816_S8194x2816_110_000 h_S_))
      (pad S8194x2816 ![0, 0] ![2, 0] ![0, 0] (mulf (hDg U K B W D) (hRow (extractStridedSlice S1x2816 ![0, 0] K slices_S3x2816_S1x2816_0_0))) (constant S_ .f32 0x00000000#32) pads_S8192x2816_S8194x2816_020_000 h_S_))
      slices_S8194x2816_S8192x2816_1_0) bitsLt_bf16_f32 := by
    unfold res_main_v75
    rw [eU, eK, eB, eW, eD]
    rfl
  rw [e]
  unfold hRow
  generalize hG : hDg U K B W D = G
  funext i
  idx_vars i
  pointwise
  subst hG
  simp only [hDg_at U K B W D hU hK hB hW hD]
  have hr := i0.isLt
  show _ = convT (dg U K B W D i1) _ _ _ i0.val
  unfold convT
  rw [dite_Z (dg U K B W D i1) _ (fun h => h.2) (s := i0.val + 7) (by omega) (fun h => by omega),
    dite_Z (dg U K B W D i1) _ (fun h => h) (s := i0.val + 9) (by omega) (fun h => by omega), ← Z_in (dg U K B W D i1) i0,
    add_comm (_ + _) (Z _ (i0.val + 9) * _), add_comm (Z _ (i0.val + 7) * _) (Z _ (i0.val + 8) * _), add_assoc]
  rfl

/-- One of the three sums of the reference's gradient to the weights. -/
def hSum (P G : FVec Ideal S8192x2816 .f32) : FVec Ideal S1x2816 .f32 :=
  broadcastInDim S1x2816 ![1] bcast_S2816_S1x2816_1 (Host.reduceAdd (shapeCast _ (Host.reduceAdd (mulf P G)
    (constant S_ .f32 0x00000000#32) reducesTo_S8192x2816_S2816_d0 h_S_) shapeCasts_S2816_S1x2816) (constant S_ .f32 0x00000000#32) reducesTo_S1x2816_S2816_d0 h_S_)

/-- The reference's gradient of the weights. -/
theorem ref_conv : res_main_v69 m c = resW U K B W D := by
  have e : res_main_v69 m c = addf (addf
      (pad S3x2816 ![2, 0] ![0, 0] ![0, 0] (hSum (extractStridedSlice S8192x2816 ![2, 0] (hPad U) slices_S8194x2816_S8192x2816_2_0) (hDg U K B W D)) (constant S_ .f32 0x00000000#32) pads_S1x2816_S3x2816_200_000 h_S_)
      (pad S3x2816 ![1, 0] ![1, 0] ![0, 0] (hSum (extractStridedSlice S8192x2816 ![1, 0] (hPad U) slices_S8194x2816_S8192x2816_1_0) (hDg U K B W D)) (constant S_ .f32 0x00000000#32) pads_S1x2816_S3x2816_110_000 h_S_))
      (pad S3x2816 ![0, 0] ![2, 0] ![0, 0] (hSum (extractStridedSlice S8192x2816 ![0, 0] (hPad U) slices_S8194x2816_S8192x2816_0_0) (hDg U K B W D)) (constant S_ .f32 0x00000000#32) pads_S1x2816_S3x2816_020_000 h_S_) := by
    unfold res_main_v69
    rw [eU, eK, eB, eW, eD]
    rfl
  rw [e]
  unfold hSum
  generalize hG : hDg U K B W D = G
  generalize hP : hPad U = P
  funext i
  idx_vars i
  pointwise
  subst hG hP
  simp only [hDg_at U K B W D hU hK hB hW hD]
  simp only [Fin.sum_univ_one]
  obtain rfl | rfl | rfl : i0 = 0 ∨ i0 = 1 ∨ i0 = 2 := by omega
  · refine (congrArg₂ (· + ·) (congrArg₂ (· + ·) (dif_neg (by decide)) (dif_neg (by decide))) (dif_pos (by decide))).trans ?_
    refine (congrArg (· + _) (zero_add 0)).trans ((zero_add _).trans ?_)
    exact Finset.sum_congr rfl fun x _ => (mul_comm _ _).trans (congrArg _ (hPad_at U _ i1 _ rfl))
  · refine (congrArg₂ (· + ·) (congrArg₂ (· + ·) (dif_neg (by decide)) (dif_pos (by decide))) (dif_neg (by decide))).trans ?_
    refine (add_zero _).trans ((zero_add _).trans ?_)
    exact Finset.sum_congr rfl fun x _ => (mul_comm _ _).trans (congrArg _ (hPad_at U _ i1 _ (show x.val + 7 + 1 = 1 + x.val + 7 by omega)))
  · refine (congrArg₂ (· + ·) (congrArg₂ (· + ·) (dif_pos (by decide)) (dif_neg (by decide))) (dif_neg (by decide))).trans ?_
    refine (add_zero _).trans ((add_zero _).trans ?_)
    exact Finset.sum_congr rfl fun x _ => (mul_comm _ _).trans (congrArg _ (hPad_at U _ i1 _ (show x.val + 7 + 2 = 2 + x.val + 7 by omega)))

end

end Cert.GluValue

end
-- ==== Proof.GluBlocks.lean ====
/-
  The gradient of the convolutional gated linear unit: which entries of the arrays the kernel's windows hold at a grid
  point, and that they make the tile of a column.
-/
module

public import proofs.«01_k».proof.Proof.Gen.GluIdeal.Frame
public import proofs.«01_k».proof.Proof.GluRef
public import Idealize.ShloMosaic.Lib.Pipeline.ValueKit

@[expose] public section

set_option maxRecDepth 16384

noncomputable section

open Idealize.ShloMosaic Idealize.ShloMosaic.TcCoe Idealize.SL.Sem

namespace Cert.GluValue

open Cert.GluIdeal Cert.GluIdeal.Gen

/-- The block every window reads or writes at each grid point. -/
theorem idx : ∀ t : Fin cfg0.N, win0_0.index t = ![t.val, 0] ∧ win0_1.index t = ![16 * t.val - 1, 0] ∧ win0_2.index t = ![min (16 * (t.val + 1)) 511, 0]
    ∧ win0_3.index t = ![0, 0] ∧ win0_4.index t = ![t.val, 0] ∧ win0_5.index t = ![32 * t.val - 1, 1]
    ∧ win0_6.index t = ![min (32 * (t.val + 1)) 1023, 1]
    ∧ win0_7.index t = ![t.val, 0] ∧ win0_8.index t = ![32 * t.val - 1, 0]
    ∧ win0_9.index t = ![min (32 * (t.val + 1)) 1023, 0]
    ∧ win0_10.index t = ![0, 0] ∧ win0_11.index t = ![t.val, 0] ∧ win0_12.index t = ![t.val, 0] ∧ win0_13.index t = ![0, 0] ∧ win0_14.index t = ![0, 0]
    ∧ grid0.coords t 0 = t.val :=
  (by decide +kernel : ∀ t : Fin grid0.N, _)

/-- A grid point as a tile number. -/
def pt (t : Fin cfg0.N) : Fin 32 := ⟨t.val, lt_of_lt_of_eq t.isLt (by decide)⟩

variable (m : (ℓ : Loc nD τ sig) → Buf (Elt Ideal) ℓ) (c : Dev nD)

/-- The convolved gate the kernel reads is the host's. -/
theorem V_gc : (V m c main_v27 : FVec Ideal S8192x2816 .f32) = hGc (m (c.tc.loc main_arg0)) (m (c.tc.loc main_arg1)) (m (c.tc.loc main_arg2)) := by
  simp only [V, hostOps0, List.flatten_cons, List.flatten_nil, List.append_nil, List.cons_append, List.nil_append]
  after_results_simp <;> rfl

/-- The down projection the kernel reads is the argument's. -/
theorem V_w : (V m c main_v28 : FVec Ideal S2816x1024 .bf16) = (m (c.tc.loc main_arg3) : S2816x1024.Idx → EReal) := by
  simp only [V, hostOps0, List.flatten_cons, List.flatten_nil, List.append_nil, List.cons_append, List.nil_append]
  after_results_simp <;> rfl

section
variable (t : Fin cfg0.N) (X : ∀ b : Ref sig .tc, Buf (Elt Ideal) ((c : Thread nD τ).loc b))

/-- The down projection's window is the whole array. -/
theorem rd3 (i : Fin 2816) (l : Fin 1024) : (((cfg0.win 3).blk t).view.read (Elt Ideal) (X (Pipeline.arrRef spec0 3)) : FVec Ideal S2816x1024 .bf16) (ix2 i l)
    = (X main_v28 : FVec Ideal S2816x1024 .bf16) (ix2 i l) := by
  blk_point [idx t]

/-- The convolved gate's tile. -/
theorem rd7 (b : Fin 256) (k : Fin 2816) (r : Fin 8192) (hr : r.val = 256 * t.val + b.val) :
    (((cfg0.win 7).blk t).view.read (Elt Ideal) (X (Pipeline.arrRef spec0 7)) : FVec Ideal S256x2816 .f32) (ix2 b k) = (X main_v27 : FVec Ideal S8192x2816 .f32) (ix2 r k) := by
  blk_point [idx t]
  all_goals omega

/-- The eight rows of the convolved gate before the tile. -/
theorem rd8 (b : Fin 8) (k : Fin 2816) (r : Fin 8192) (hr : r.val + 8 = 256 * t.val + b.val) :
    (((cfg0.win 8).blk t).view.read (Elt Ideal) (X (Pipeline.arrRef spec0 8)) : FVec Ideal S8x2816 .f32) (ix2 b k) = (X main_v27 : FVec Ideal S8192x2816 .f32) (ix2 r k) := by
  blk_point [idx t]
  all_goals omega

/-- The eight rows of the convolved gate after the tile. -/
theorem rd9 (b : Fin 8) (k : Fin 2816) (r : Fin 8192) (hr : r.val = 256 * t.val + 256 + b.val) :
    (((cfg0.win 9).blk t).view.read (Elt Ideal) (X (Pipeline.arrRef spec0 9)) : FVec Ideal S8x2816 .f32) (ix2 b k) = (X main_v27 : FVec Ideal S8192x2816 .f32) (ix2 r k) := by
  blk_point [idx t]
  all_goals omega

/-- The tile of the gate and the value side by side. -/
theorem rd4 (b : Fin 256) (k : Fin 5632) (r : Fin 8192) (hr : r.val = 256 * t.val + b.val) :
    (((cfg0.win 4).blk t).view.read (Elt Ideal) (X (Pipeline.arrRef spec0 4)) : FVec Ideal S256x5632 .f32) (ix2 b k) = (X main_arg0 : FVec Ideal S8192x5632 .f32) (ix2 r k) := by
  blk_point [idx t]
  all_goals omega

/-- The eight rows of the value before the tile. -/
theorem rd5 (b : Fin 8) (k : Fin 2816) (r : Fin 8192) (hr : r.val + 8 = 256 * t.val + b.val) :
    (((cfg0.win 5).blk t).view.read (Elt Ideal) (X (Pipeline.arrRef spec0 5)) : FVec Ideal S8x2816 .f32) (ix2 b k)
      = (X main_arg0 : FVec Ideal S8192x5632 .f32) (ix2 r ⟨2816 + k.val, by omega⟩) := by
  blk_point [idx t]
  all_goals omega

/-- The eight rows of the value after the tile. -/
theorem rd6 (b : Fin 8) (k : Fin 2816) (r : Fin 8192) (hr : r.val = 256 * t.val + 256 + b.val) :
    (((cfg0.win 6).blk t).view.read (Elt Ideal) (X (Pipeline.arrRef spec0 6)) : FVec Ideal S8x2816 .f32) (ix2 b k)
      = (X main_arg0 : FVec Ideal S8192x5632 .f32) (ix2 r ⟨2816 + k.val, by omega⟩) := by
  blk_point [idx t]
  all_goals omega

/-- The incoming gradient's tile. -/
theorem rd0 (l : Fin 1024) (r : Fin 8192) (b : Fin 256) (hr : r.val = 256 * t.val + b.val) :
    (((cfg0.win 0).blk t).view.read (Elt Ideal) (X (Pipeline.arrRef spec0 0)) : FVec Ideal S256x1024 .bf16) (ix2 b l) = (X main_arg4 : FVec Ideal S8192x1024 .bf16) (ix2 r l) := by
  blk_point [idx t]
  all_goals omega

/-- The sixteen rows of the incoming gradient before the tile. -/
theorem rd1 (l : Fin 1024) (r : Fin 8192) (b : Fin 16) (hr : r.val + 16 = 256 * t.val + b.val) :
    (((cfg0.win 1).blk t).view.read (Elt Ideal) (X (Pipeline.arrRef spec0 1)) : FVec Ideal S16x1024 .bf16) (ix2 b l) = (X main_arg4 : FVec Ideal S8192x1024 .bf16) (ix2 r l) := by
  blk_point [idx t]
  all_goals omega

/-- The sixteen rows of the incoming gradient after the tile. -/
theorem rd2 (l : Fin 1024) (r : Fin 8192) (b : Fin 16) (hr : r.val = 256 * t.val + 256 + b.val) :
    (((cfg0.win 2).blk t).view.read (Elt Ideal) (X (Pipeline.arrRef spec0 2)) : FVec Ideal S16x1024 .bf16) (ix2 b l) = (X main_arg4 : FVec Ideal S8192x1024 .bf16) (ix2 r l) := by
  blk_point [idx t]
  all_goals omega

/-- The convolution's weights' window is the whole array. -/
theorem rd10 (j : Fin 3) (k : Fin 2816) : (((cfg0.win 10).blk t).view.read (Elt Ideal) (X (Pipeline.arrRef spec0 10)) : FVec Ideal S3x2816 .f32) (ix2 j k)
    = (X main_arg1 : FVec Ideal S3x2816 .f32) (ix2 j k) := by
  blk_point [idx t]
end

/-- An entry of a rectangle cut out of an array is the array's entry at the rectangle's corner plus it. -/
theorem ld2 {n p n' p' : ℕ} {e : EltTy} (X : (⟨2, ![n, p]⟩ : Shape).Idx → Elt Ideal e) (a b : ℕ)
    (h : ∀ k, (![a, b] : Fin 2 → ℕ) k + (![n', p'] : Fin 2 → ℕ) k ≤ (⟨2, ![n, p]⟩ : Shape).size k) (r : Fin n') (k : Fin p') (i : Fin n) (j : Fin p)
    (hi : i.val = a + r.val) (hj : j.val = b + k.val) :
    View.ld (Val := Elt Ideal) (e' := e) X (Rect.unit ![a, b] ![n', p'] h) (ix2 r k) = X (ix2 i j) :=
  View.ld_unit_apply_of (Val := Elt Ideal) (e := e) X ![a, b] ![n', p'] h (ix2 r k) _ (fun k => by fin_cases k <;> simp [hi, hj])

end Cert.GluValue

end
-- ==== Proof.Glu.lean ====
/-
  The gradient of the convolutional gated linear unit: the four arrays the kernel leaves.
-/
module

public import proofs.«01_k».proof.Proof.GluBlocks
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.GluValue

open Cert.GluIdeal Cert.GluIdeal.Gen

variable (m : (ℓ : Loc nD τ sig) → Buf (Elt Ideal) ℓ) (c : Dev nD)

/-- At every grid point, for every group of 256 columns starting at `o`, what the body reads is the tile of a column. -/
theorem tile (t : Fin cfg0.N) (o o' : ℕ) (ho' : o' = 2816 + o) (κ : Fin 256) (k : Fin 2816) (hk : k.val = o + κ.val)
    (h3 : ∀ a, (![o, 0] : Fin 2 → ℕ) a + S256x1024.size a ≤ S2816x1024.size a)
    (h8 : ∀ a, (![0, o] : Fin 2 → ℕ) a + S8x256.size a ≤ S8x2816.size a)
    (h7 : ∀ a, (![0, o] : Fin 2 → ℕ) a + S256x256.size a ≤ S256x2816.size a)
    (h4 : ∀ a, (![0, o'] : Fin 2 → ℕ) a + S256x256.size a ≤ S256x5632.size a) :
    Tile (pt t) κ (fun l r => (m (c.tc.loc main_arg4) : FVec Ideal S8192x1024 .bf16) (ix2 r l))
      (fun l => (m (c.tc.loc main_arg3) : FVec Ideal S2816x1024 .f32) (ix2 k l))
      (gcO (m (c.tc.loc main_arg0)) (m (c.tc.loc main_arg1)) (m (c.tc.loc main_arg2)) k) (val (m (c.tc.loc main_arg0)) k)
      (k0_pay4 (grid0.coords t) (iblk m c 1 t) (iblk m c 0 t) (iblk m c 2 t))
      (View.ld (iblk m c 3 t) (Rect.unit ![o, 0] S256x1024.size h3))
      (View.ld (iblk m c 8 t) (Rect.unit ![0, o] S8x256.size h8)) (View.ld (iblk m c 7 t) (Rect.unit ![0, o] S256x256.size h7))
      (View.ld (iblk m c 9 t) (Rect.unit ![0, o] S8x256.size h8)) (View.ld (iblk m c 5 t) (Rect.unit ![0, o] S8x256.size h8))
      (View.ld (iblk m c 4 t) (Rect.unit ![0, o'] S256x256.size h4)) (View.ld (iblk m c 6 t) (Rect.unit ![0, o] S8x256.size h8)) where
  z q l := z_at (by simp only [idx t, pt]) (fun l r b _ hr => rd1 c t (V m c) l r b hr) (fun l r b hr => rd0 c t (V m c) l r b hr)
    (fun l r b _ hr => rd2 c t (V m c) l r b hr) q l
  w l := (ld2 (iblk m c 3 t) o 0 h3 κ l k l hk (by simp)).trans ((rd3 c t (V m c) k l).trans (congrFun (V_w m c) _))
  cp b r hr := (ld2 (iblk m c 8 t) 0 o h8 b κ b k (by simp) hk).trans ((rd8 c t (V m c) b k r hr).trans ((congrFun (V_gc m c) _).trans (hGc_at _ _ _ r k)))
  cm b r hr := (ld2 (iblk m c 7 t) 0 o h7 b κ b k (by simp) hk).trans ((rd7 c t (V m c) b k r hr).trans ((congrFun (V_gc m c) _).trans (hGc_at _ _ _ r k)))
  cs b r hr := (ld2 (iblk m c 9 t) 0 o h8 b κ b k (by simp) hk).trans ((rd9 c t (V m c) b k r hr).trans ((congrFun (V_gc m c) _).trans (hGc_at _ _ _ r k)))
  vp b r hr := (ld2 (iblk m c 5 t) 0 o h8 b κ b k (by simp) hk).trans (rd5 c t (V m c) b k r hr)
  vm b r hr := (ld2 (iblk m c 4 t) 0 o' h4 b κ b ⟨2816 + k.val, by omega⟩ (by simp) (by simp only; omega)).trans (rd4 c t (V m c) b _ r hr)
  vs b r hr := (ld2 (iblk m c 6 t) 0 o h8 b κ b k (by simp) hk).trans (rd6 c t (V m c) b k r hr)

/-- A group of 256 columns of the first result at one grid point. -/
theorem gate_piece (t : Fin cfg0.N) (o o' : ℕ) (ho' : o' = 2816 + o)
    (h3 : ∀ a, (![o, 0] : Fin 2 → ℕ) a + S256x1024.size a ≤ S2816x1024.size a)
    (h8 : ∀ a, (![0, o] : Fin 2 → ℕ) a + S8x256.size a ≤ S8x2816.size a)
    (h7 : ∀ a, (![0, o] : Fin 2 → ℕ) a + S256x256.size a ≤ S256x2816.size a)
    (h4 : ∀ a, (![0, o'] : Fin 2 → ℕ) a + S256x256.size a ≤ S256x5632.size a)
    (h0 : ∀ a, (![0, o] : Fin 2 → ℕ) a + S1x256.size a ≤ S3x2816.size a) (h1 : ∀ a, (![1, o] : Fin 2 → ℕ) a + S1x256.size a ≤ S3x2816.size a)
    (h2 : ∀ a, (![2, o] : Fin 2 → ℕ) a + S1x256.size a ≤ S3x2816.size a)
    (a κ : Fin 256) (i : S8192x2816.Idx) (hr : (i 0).val = 256 * t.val + a.val) (hk : (i 1).val = κ.val + o) :
    (k0_pay63 (F := Ideal) (k0_pay57 (k0_pay4 (grid0.coords t) (iblk m c 1 t) (iblk m c 0 t) (iblk m c 2 t))
        (View.ld (iblk m c 3 t) (Rect.unit ![o, 0] S256x1024.size h3))
        (View.ld (iblk m c 8 t) (Rect.unit ![0, o] S8x256.size h8)) (View.ld (iblk m c 7 t) (Rect.unit ![0, o] S256x256.size h7)) (View.ld (iblk m c 9 t) (Rect.unit ![0, o] S8x256.size h8))
        (View.ld (iblk m c 5 t) (Rect.unit ![0, o] S8x256.size h8)) (View.ld (iblk m c 4 t) (Rect.unit ![0, o'] S256x256.size h4)) (View.ld (iblk m c 6 t) (Rect.unit ![0, o] S8x256.size h8)))
      (View.ld (iblk m c 10 t) (Rect.unit ![0, o] S1x256.size h0)) (View.ld (iblk m c 10 t) (Rect.unit ![1, o] S1x256.size h1))
      (View.ld (iblk m c 10 t) (Rect.unit ![2, o] S1x256.size h2)) (ix2 a κ) : EReal)
      = resG (m (c.tc.loc main_arg0)) (m (c.tc.loc main_arg1)) (m (c.tc.loc main_arg2)) (m (c.tc.loc main_arg3)) (m (c.tc.loc main_arg4)) i := by
  idx_vars i
  have hk' : i1.val = o + κ.val := hk.trans (Nat.add_comm _ _)
  refine (dgate_at (dgc_at (tile m c t o o' ho' κ i1 hk' h3 h8 h7 h4))
    ((ld2 (iblk m c 10 t) 0 o h0 0 κ 0 i1 (by simp) hk').trans (rd10 c t (V m c) 0 i1))
    ((ld2 (iblk m c 10 t) 1 o h1 0 κ 1 i1 (by simp) hk').trans (rd10 c t (V m c) 1 i1))
    ((ld2 (iblk m c 10 t) 2 o h2 0 κ 2 i1 (by simp) hk').trans (rd10 c t (V m c) 2 i1)) a).trans ?_
  exact congrArg (Cert.ShortConvValue.convT _ _ _ _) hr.symm

set_option maxHeartbeats 4000000 in
/-- What a grid point leaves of the first result. -/
theorem after11 (t : Fin cfg0.N) (y : S256x2816.Idx) (i : S8192x2816.Idx) (e0 : (i 0).val = 256 * t.val + (y 0).val)
    (e1 : (i 1).val = (y 1).val) :
    (outsAt0 m c t.val t.isLt).1 y = resG (m (c.tc.loc main_arg0)) (m (c.tc.loc main_arg1)) (m (c.tc.loc main_arg2)) (m (c.tc.loc main_arg3)) (m (c.tc.loc main_arg4)) i := by
  by_cases hc : t.val % 32 = 0
  on_goal 1 => rw [outsAt0_A m c t hc]
  on_goal 2 => rw [outsAt0_B m c t hc]
  all_goals
    frame_out
    clear hc
    canon_tiles x h
    all_goals
      idx_vars x
      refine gate_piece m c t _ _ ?_ _ _ _ _ _ _ _ x0 x1 i ?_ ?_
      all_goals omega

/-- The first result. -/
theorem final11 : (dats m 0 c).arrAt 11 cfg0.N = resG (m (c.tc.loc main_arg0)) (m (c.tc.loc main_arg1)) (m (c.tc.loc main_arg2)) (m (c.tc.loc main_arg3)) (m (c.tc.loc main_arg4)) := by
  refine (dats m 0 c).arrAt_eq_of_covers 11 _ (by decide +kernel) fun t hf y => ?_
  blk_simp
  rw [after0_11]
  refine after11 m c t _ _ ?_ ?_ <;> blk_simp [idx t]
  omega

/-- A group of 256 columns of the second result at one grid point. -/
theorem val_piece (t : Fin cfg0.N) (o o' : ℕ) (ho' : o' = 2816 + o)
    (h3 : ∀ a, (![o, 0] : Fin 2 → ℕ) a + S256x1024.size a ≤ S2816x1024.size a)
    (h8 : ∀ a, (![0, o] : Fin 2 → ℕ) a + S8x256.size a ≤ S8x2816.size a)
    (h7 : ∀ a, (![0, o] : Fin 2 → ℕ) a + S256x256.size a ≤ S256x2816.size a)
    (h4 : ∀ a, (![0, o'] : Fin 2 → ℕ) a + S256x256.size a ≤ S256x5632.size a)
    (a κ : Fin 256) (i : S8192x2816.Idx) (hr : (i 0).val = 256 * t.val + a.val) (hk : (i 1).val = κ.val + o) :
    (k0_pay59 (F := Ideal) (k0_pay55 (View.ld (iblk m c 8 t) (Rect.unit ![0, o] S8x256.size h8)) (View.ld (iblk m c 7 t) (Rect.unit ![0, o] S256x256.size h7)) (View.ld (iblk m c 9 t) (Rect.unit ![0, o] S8x256.size h8)))
        (k0_pay56 (View.ld (iblk m c 8 t) (Rect.unit ![0, o] S8x256.size h8)) (View.ld (iblk m c 7 t) (Rect.unit ![0, o] S256x256.size h7)) (View.ld (iblk m c 9 t) (Rect.unit ![0, o] S8x256.size h8)))
        (k0_pay58 (k0_pay4 (grid0.coords t) (iblk m c 1 t) (iblk m c 0 t) (iblk m c 2 t)) (View.ld (iblk m c 3 t) (Rect.unit ![o, 0] S256x1024.size h3))) (ix2 a κ) : EReal)
      = resV (m (c.tc.loc main_arg0)) (m (c.tc.loc main_arg1)) (m (c.tc.loc main_arg2)) (m (c.tc.loc main_arg3)) (m (c.tc.loc main_arg4)) i := by
  idx_vars i
  exact dval_at (tile m c t o o' ho' κ i1 (hk.trans (Nat.add_comm _ _)) h3 h8 h7 h4) a i0 hr

set_option maxHeartbeats 4000000 in
/-- What a grid point leaves of the second result. -/
theorem after12 (t : Fin cfg0.N) (y : S256x2816.Idx) (i : S8192x2816.Idx) (e0 : (i 0).val = 256 * t.val + (y 0).val)
    (e1 : (i 1).val = (y 1).val) :
    (outsAt0 m c t.val t.isLt).2.1 y = resV (m (c.tc.loc main_arg0)) (m (c.tc.loc main_arg1)) (m (c.tc.loc main_arg2)) (m (c.tc.loc main_arg3)) (m (c.tc.loc main_arg4)) i := by
  by_cases hc : t.val % 32 = 0
  on_goal 1 => rw [outsAt0_A m c t hc]
  on_goal 2 => rw [outsAt0_B m c t hc]
  all_goals
    frame_out
    clear hc
    canon_tiles x h
    all_goals
      idx_vars x
      refine val_piece m c t _ _ rfl _ _ _ (by decide) x0 x1 i ?_ ?_
      all_goals omega

/-- The second result. -/
theorem final12 : (dats m 0 c).arrAt 12 cfg0.N = resV (m (c.tc.loc main_arg0)) (m (c.tc.loc main_arg1)) (m (c.tc.loc main_arg2)) (m (c.tc.loc main_arg3)) (m (c.tc.loc main_arg4)) := by
  refine (dats m 0 c).arrAt_eq_of_covers 12 _ (by decide +kernel) fun t hf y => ?_
  blk_simp
  rw [after0_12]
  refine after12 m c t _ _ ?_ ?_ <;> blk_simp [idx t]
  omega

/-- What several stores leave at an entry that a store other than the first one covers does not depend on the first. -/
theorem canon_dropLast {Val : EltTy → Type} {S : Shape} {e : EltTy} [∀ e, Nonempty (Val e)] :
    ∀ (L : List (View.Piece Val S e)) (y : S.Idx), (∃ p ∈ L.dropLast, y ∈ p.1.set) → View.canon L y = View.canon L.dropLast y
  | [], _, _ => rfl
  | [_], _, h => by
    obtain ⟨p, hp, _⟩ := h
    exact absurd hp List.not_mem_nil
  | p :: q :: L, y, h => by
    rw [List.dropLast_cons₂] at h ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      obtain ⟨r, hr, hy⟩ := h
      rcases List.mem_cons.mp hr with rfl | hr'
      · exact absurd hy hm
      · exact canon_dropLast (q :: L) y ⟨r, hr', hy⟩

/-- One grid point's share of the third result. -/
def partW (p : ℕ) (x : S3x2816.Idx) : EReal :=
  ∑ a : Fin 256, Cert.ShortConvValue.Z (dg (m (c.tc.loc main_arg0)) (m (c.tc.loc main_arg1)) (m (c.tc.loc main_arg2)) (m (c.tc.loc main_arg3)) (m (c.tc.loc main_arg4)) (x 1)) (256 * p + a.val + 9 - (x 0).val)
    * Cert.ShortConvValue.Z (gate (m (c.tc.loc main_arg0)) (x 1)) (256 * p + a.val + 8)

/-- One grid point's share of the fourth result. -/
def partB (p : ℕ) (x : S1x2816.Idx) : EReal :=
  ∑ a : Fin 256, Cert.ShortConvValue.Z (dg (m (c.tc.loc main_arg0)) (m (c.tc.loc main_arg1)) (m (c.tc.loc main_arg2)) (m (c.tc.loc main_arg3)) (m (c.tc.loc main_arg4)) (x 1)) (256 * p + a.val + 8)

/-- A group of 256 columns of the third result at one grid point, on top of what was there. -/
theorem conv_piece (t : Fin cfg0.N) (o o' : ℕ) (ho' : o' = 2816 + o)
    (h3 : ∀ a, (![o, 0] : Fin 2 → ℕ) a + S256x1024.size a ≤ S2816x1024.size a)
    (h8 : ∀ a, (![0, o] : Fin 2 → ℕ) a + S8x256.size a ≤ S8x2816.size a)
    (h7 : ∀ a, (![0, o] : Fin 2 → ℕ) a + S256x256.size a ≤ S256x2816.size a)
    (h4 : ∀ a, (![0, o'] : Fin 2 → ℕ) a + S256x256.size a ≤ S256x5632.size a)
    (h4' : ∀ a, (![0, o] : Fin 2 → ℕ) a + S256x256.size a ≤ S256x5632.size a) (acc : FVec Ideal S3x256 .f32)
    (j : Fin 3) (κ : Fin 256) (i : S3x2816.Idx) (hr : (i 0).val = j.val) (hk : (i 1).val = κ.val + o) :
    (k0_pay64 (F := Ideal) (k0_pay57 (k0_pay4 (grid0.coords t) (iblk m c 1 t) (iblk m c 0 t) (iblk m c 2 t))
        (View.ld (iblk m c 3 t) (Rect.unit ![o, 0] S256x1024.size h3))
        (View.ld (iblk m c 8 t) (Rect.unit ![0, o] S8x256.size h8)) (View.ld (iblk m c 7 t) (Rect.unit ![0, o] S256x256.size h7)) (View.ld (iblk m c 9 t) (Rect.unit ![0, o] S8x256.size h8))
        (View.ld (iblk m c 5 t) (Rect.unit ![0, o] S8x256.size h8)) (View.ld (iblk m c 4 t) (Rect.unit ![0, o'] S256x256.size h4)) (View.ld (iblk m c 6 t) (Rect.unit ![0, o] S8x256.size h8)))
      (View.ld (iblk m c 4 t) (Rect.unit ![0, o] S256x256.size h4')) acc (ix2 j κ) : EReal)
      = acc (ix2 j κ) + partW m c t.val i := by
  idx_vars i
  obtain rfl : i0 = j := Fin.ext hr
  have hk' : i1.val = o + κ.val := hk.trans (Nat.add_comm _ _)
  refine (dconv_at (dgc_at (tile m c t o o' ho' κ i1 hk' h3 h8 h7 h4)) (g := gate (m (c.tc.loc main_arg0)) i1) (fun b r hb => ?_) i0).trans ?_
  · exact (ld2 (iblk m c 4 t) 0 o h4' b κ b ⟨i1.val, lt_trans i1.isLt (by decide)⟩ (by simp) hk').trans (rd4 c t (V m c) b _ r hb)
  · unfold partW
    refine congrArg _ (Finset.sum_congr rfl fun a _ => congrArg₂ (· * ·) rfl ?_)
    exact (Cert.ShortConvValue.Z_at _ _ rfl).symm

/-- A group of 256 columns of the fourth result at one grid point, on top of what was there. -/
theorem bias_piece (t : Fin cfg0.N) (o o' : ℕ) (ho' : o' = 2816 + o)
    (h3 : ∀ a, (![o, 0] : Fin 2 → ℕ) a + S256x1024.size a ≤ S2816x1024.size a)
    (h8 : ∀ a, (![0, o] : Fin 2 → ℕ) a + S8x256.size a ≤ S8x2816.size a)
    (h7 : ∀ a, (![0, o] : Fin 2 → ℕ) a + S256x256.size a ≤ S256x2816.size a)
    (h4 : ∀ a, (![0, o'] : Fin 2 → ℕ) a + S256x256.size a ≤ S256x5632.size a)
    (acc : FVec Ideal S1x256 .f32)
    (j : Fin 1) (κ : Fin 256) (i : S1x2816.Idx) (hk : (i 1).val = κ.val + o) :
    (k0_pay65 (F := Ideal) (k0_pay62 (k0_pay57 (k0_pay4 (grid0.coords t) (iblk m c 1 t) (iblk m c 0 t) (iblk m c 2 t))
        (View.ld (iblk m c 3 t) (Rect.unit ![o, 0] S256x1024.size h3))
        (View.ld (iblk m c 8 t) (Rect.unit ![0, o] S8x256.size h8)) (View.ld (iblk m c 7 t) (Rect.unit ![0, o] S256x256.size h7)) (View.ld (iblk m c 9 t) (Rect.unit ![0, o] S8x256.size h8))
        (View.ld (iblk m c 5 t) (Rect.unit ![0, o] S8x256.size h8)) (View.ld (iblk m c 4 t) (Rect.unit ![0, o'] S256x256.size h4)) (View.ld (iblk m c 6 t) (Rect.unit ![0, o] S8x256.size h8)))) acc (ix2 j κ) : EReal)
      = acc (ix2 j κ) + partB m c t.val i := by
  idx_vars i
  have hk' : i1.val = o + κ.val := hk.trans (Nat.add_comm _ _)
  refine (dbias_at (dgc_at (tile m c t o o' ho' κ i1 hk' h3 h8 h7 h4)) j).trans ?_
  unfold partB
  exact congrArg _ (Finset.sum_congr rfl fun a _ => (Cert.ShortConvValue.Z_at (dg (m (c.tc.loc main_arg0)) (m (c.tc.loc main_arg1)) (m (c.tc.loc main_arg2)) (m (c.tc.loc main_arg3)) (m (c.tc.loc main_arg4)) i1) ⟨256 * (pt t).val + a.val, _⟩ rfl).symm)

set_option maxHeartbeats 4000000 in
/-- Every grid point but the first adds its share of the third result. -/
theorem step13 (t : Fin cfg0.N) (y : S3x2816.Idx) (hc : ¬t.val % 32 = 0) :
    (outsAt0 m c t.val t.isLt).2.2.1 y = ((outsAt0 m c (t.val - 1) (Nat.lt_of_le_of_lt (Nat.sub_le ..) t.isLt)).2.2.1 y + partW m c t.val y : EReal) := by
  rw [outsAt0_B m c t hc]
  frame_out
  clear hc
  canon_tiles x h
  all_goals
    idx_vars x
    refine (conv_piece m c t _ _ ?_ _ _ _ _ _ _ x0 x1 y ?_ ?_).trans (congrArg (· + _) ?_)
    on_goal 4 => exact View.ld_unit_apply_of (Val := Elt Ideal) (e := .f32) _ _ _ _ _ _ (fun k => by fin_cases k <;> simp <;> omega)
    all_goals omega

theorem k0_pay2_at (y : S3x2816.Idx) : (k0_pay2 (F := Ideal) y : EReal) = 0 := by
  idx_vars y
  pointwise [k0_pay2]

set_option maxHeartbeats 4000000 in
/-- The first grid point leaves its share of the third result. -/
theorem start13 (t : Fin cfg0.N) (y : S3x2816.Idx) (hc : t.val % 32 = 0) :
    (outsAt0 m c t.val t.isLt).2.2.1 y = (0 + partW m c t.val y : EReal) := by
  rw [outsAt0_A m c t hc]
  frame_open
  simp (disch := decide) only [↓ View.readCov_skip, ↓ View.readCov_cons_toLoadRect, ↓ View.readCov_fill]
  frame_out
  clear hc
  refine (canon_dropLast _ y (View.cover_of_tiled _ ![3, 256] (by rfl) y)).trans ?_
  dsimp only [List.dropLast]
  canon_tiles x h
  all_goals
    idx_vars x
    refine (conv_piece m c t _ _ ?_ _ _ _ _ _ _ x0 x1 y ?_ ?_).trans (congrArg (· + _) ?_)
    on_goal 4 => exact (View.ld_unit_apply_of (Val := Elt Ideal) (e := .f32) _ _ _ _ _ y (fun k => by fin_cases k <;> simp <;> omega)).trans (k0_pay2_at y)
    all_goals omega

set_option maxHeartbeats 4000000 in
/-- Every grid point but the first adds its share of the fourth result. -/
theorem step14 (t : Fin cfg0.N) (y : S1x2816.Idx) (hc : ¬t.val % 32 = 0) :
    (outsAt0 m c t.val t.isLt).2.2.2 y = ((outsAt0 m c (t.val - 1) (Nat.lt_of_le_of_lt (Nat.sub_le ..) t.isLt)).2.2.2 y + partB m c t.val y : EReal) := by
  rw [outsAt0_B m c t hc]
  frame_out
  clear hc
  canon_tiles x h
  all_goals
    idx_vars x
    refine (bias_piece m c t _ _ ?_ _ _ _ _ _ x0 x1 y ?_).trans (congrArg (· + _) ?_)
    on_goal 3 => exact View.ld_unit_apply_of (Val := Elt Ideal) (e := .f32) _ _ _ _ _ _ (fun k => by fin_cases k <;> simp <;> omega)
    all_goals omega

theorem k0_pay3_at (y : S1x2816.Idx) : (k0_pay3 (F := Ideal) y : EReal) = 0 := by
  idx_vars y
  pointwise [k0_pay3]

set_option maxHeartbeats 4000000 in
/-- The first grid point leaves its share of the fourth result. -/
theorem start14 (t : Fin cfg0.N) (y : S1x2816.Idx) (hc : t.val % 32 = 0) :
    (outsAt0 m c t.val t.isLt).2.2.2 y = (0 + partB m c t.val y : EReal) := by
  rw [outsAt0_A m c t hc]
  frame_open
  simp (disch := decide) only [↓ View.readCov_skip, ↓ View.readCov_cons_toLoadRect, ↓ View.readCov_fill]
  frame_out
  clear hc
  refine (canon_dropLast _ y (View.cover_of_tiled _ ![1, 256] (by rfl) y)).trans ?_
  dsimp only [List.dropLast]
  canon_tiles x h
  all_goals
    idx_vars x
    refine (bias_piece m c t _ _ ?_ _ _ _ _ _ x0 x1 y ?_).trans (congrArg (· + _) ?_)
    on_goal 3 => exact (View.ld_unit_apply_of (Val := Elt Ideal) (e := .f32) _ _ _ _ _ y (fun k => by fin_cases k <;> simp <;> omega)).trans (k0_pay3_at y)
    all_goals omega

/-- The shares of the 32 grid points together are the third result. -/
theorem sum_partW (i x : S3x2816.Idx) (h0 : (i 0).val = (x 0).val) (h1 : (i 1).val = (x 1).val) (e : Fin 32 → ℕ) (he : ∀ s, e s = s.val) :
    ∑ s : Fin 32, partW m c (e s) x = resW (m (c.tc.loc main_arg0)) (m (c.tc.loc main_arg1)) (m (c.tc.loc main_arg2)) (m (c.tc.loc main_arg3)) (m (c.tc.loc main_arg4)) i := by
  obtain rfl : i = x := funext fun a => by fin_cases a; exacts [Fin.ext h0, Fin.ext h1]
  unfold resW partW
  refine .trans ?_ (sum_shift (dg (m (c.tc.loc main_arg0)) (m (c.tc.loc main_arg1)) (m (c.tc.loc main_arg2)) (m (c.tc.loc main_arg3)) (m (c.tc.loc main_arg4)) (i 1)) (gate (m (c.tc.loc main_arg0)) (i 1)) (i 0))
  refine Fin.sum_mul_add_congr fun s k hl => ?_
  rw [he]
  exact congrArg₂ (· * ·) (congrArg (Cert.ShortConvValue.Z _) (by simp only; omega))
    (Cert.ShortConvValue.Z_at (gate (m (c.tc.loc main_arg0)) (i 1)) ⟨s.val * 256 + k.val, hl⟩ (by simp only; omega))

/-- The shares of the 32 grid points together are the fourth result. -/
theorem sum_partB (i x : S1x2816.Idx) (h1 : (i 1).val = (x 1).val) (e : Fin 32 → ℕ) (he : ∀ s, e s = s.val) :
    ∑ s : Fin 32, partB m c (e s) x = resB (m (c.tc.loc main_arg0)) (m (c.tc.loc main_arg1)) (m (c.tc.loc main_arg2)) (m (c.tc.loc main_arg3)) (m (c.tc.loc main_arg4)) i := by
  have e1 : x 1 = i 1 := Fin.ext h1.symm
  unfold resB partB
  rw [e1]
  refine Fin.sum_mul_add_congr fun s k hl => ?_
  rw [he]
  exact Cert.ShortConvValue.Z_at (dg (m (c.tc.loc main_arg0)) (m (c.tc.loc main_arg1)) (m (c.tc.loc main_arg2)) (m (c.tc.loc main_arg3)) (m (c.tc.loc main_arg4)) (i 1)) ⟨s.val * 256 + k.val, hl⟩ (by simp only; omega)

/-- The third result. -/
theorem final13 : (dats m 0 c).arrAt 13 cfg0.N = resW (m (c.tc.loc main_arg0)) (m (c.tc.loc main_arg1)) (m (c.tc.loc main_arg2)) (m (c.tc.loc main_arg3)) (m (c.tc.loc main_arg4)) := by
  refine (dats m 0 c).arrAt_eq_of_covers 13 _ (by decide +kernel) fun t hf y => ?_
  blk_simp
  rw [after0_13, Pipeline.eq_sum_fin_of_reset_step_apply_of_flush (fun n h => (outsAt0 m c n h).2.2.1) 32 (fun _ => 0)
    (fun p x => partW m c p.val x) (fun t h x => start13 m c t x h) (fun t h x => step13 m c t x h) t ((flush0_13 t).mp hf) _, zero_add]
  have ht := (pt t).isLt
  refine sum_partW m c _ _ ?_ ?_ _ fun s => ?_
  · blk_simp [idx t]
  · blk_simp [idx t]
  · unfold pt at ht
    simp only at ht ⊢
    omega

/-- The fourth result. -/
theorem final14 : (dats m 0 c).arrAt 14 cfg0.N = resB (m (c.tc.loc main_arg0)) (m (c.tc.loc main_arg1)) (m (c.tc.loc main_arg2)) (m (c.tc.loc main_arg3)) (m (c.tc.loc main_arg4)) := by
  refine (dats m 0 c).arrAt_eq_of_covers 14 _ (by decide +kernel) fun t hf y => ?_
  blk_simp
  rw [after0_14, Pipeline.eq_sum_fin_of_reset_step_apply_of_flush (fun n h => (outsAt0 m c n h).2.2.2) 32 (fun _ => 0)
    (fun p x => partB m c p.val x) (fun t h x => start14 m c t x h) (fun t h x => step14 m c t x h) t ((flush0_14 t).mp hf) _, zero_add]
  have ht := (pt t).isLt
  refine sum_partB m c _ _ ?_ _ fun s => ?_
  · blk_simp [idx t]
  · unfold pt at ht
    simp only at ht ⊢
    omega

end Cert.GluValue

end
-- ==== Proof.GluEq.lean ====
/-
  The gated network's gate, backward: the kernel's four results and the reference's are the same arrays, for finite
  arguments.
-/
module

public import proofs.«01_k».proof.Defs
public import proofs.«01_k».proof.Proof.Gen.GluIdeal.Value
public import proofs.«01_k».proof.Proof.Gen.GluRefIdeal
public import proofs.«01_k».proof.Proof.Gen.Pre_glu_finite
public import proofs.«01_k».proof.Proof.Lift
public import proofs.«01_k».proof.Proof.Glu
public import proofs.«01_k».proof.Proof.GluRef
public import Idealize.ShloMosaic.Lib.Quiescent

@[expose] public section

set_option maxRecDepth 16384

noncomputable section

open Idealize.ShloMosaic Idealize.ShloMosaic.TcCoe Idealize.SL.Sem

namespace Cert.GluValue

open Cert.GluIdeal Cert.GluIdeal.Gen

/-- Under the precondition every argument is an array of real numbers. -/
theorem reals (U : FVec Ideal S8192x5632 .f32) (K : FVec Ideal S3x2816 .f32) (B : FVec Ideal S1x2816 .f32)
    (W : FVec Ideal S2816x1024 .f32) (D : FVec Ideal S8192x1024 .bf16) (h : Cert.Pre_glu_finite.fn U K B W D = fun _ => 1#1) :
    Lift.IsReal (s := S8192x5632) U ∧ Lift.IsReal (s := S3x2816) K ∧ Lift.IsReal (s := S1x2816) B
      ∧ Lift.IsReal (s := S2816x1024) W ∧ Lift.IsReal (s := S8192x1024) D := by
  have h0 := congrFun h (ix1 0)
  have h1 := congrFun h (ix1 1)
  have h2 := congrFun h (ix1 2)
  have h3 := congrFun h (ix1 3)
  have h4 := congrFun h (ix1 4)
  clear h
  unfold Cert.Pre_glu_finite.fn Cert.Pre_glu_finite.fn_part1 at h0 h1 h2 h3 h4
  simp [concatenate_cons_apply, concatenateAt_cons, concatenateAt_singleton] at h0 h1 h2 h3 h4
  exact ⟨Lift.real_of_all U _ h0, Lift.real_of_all K _ h1, Lift.real_of_all B _ h2, Lift.real_of_all W _ h3,
    Lift.real_of_all (D : FVec Ideal S8192x1024 .f32) _ h4⟩

/-- The reference's executions end, with its arguments unchanged and every counter at zero. -/
theorem refFrame : Cert.quiescent_GluRefIdeal := fun m ρ _ =>
  (θ_run _ _ _).mono (fun r h => ⟨fun c => (h c).2.2.2.2, sem_eq_zero_of_no_sems rfl r.2⟩)
    (Cert.GluRefIdeal.Value.run m ρ)

/-- The two programs' results are the same arrays, for finite arguments. -/
theorem algebraic : Cert.algebraic_GluIdeal_GluRefIdeal_pre_glu_finite := by
  intro m g m' g' hpre hagree
  refine ⟨fun c => (dats m 0 c).arrAt 11 cfg0.N, fun c => (dats m 0 c).arrAt 12 cfg0.N, fun c => (dats m 0 c).arrAt 13 cfg0.N,
    fun c => (dats m 0 c).arrAt 14 cfg0.N,
    Cert.GluIdeal.Value.run_blocks m g, (θ_run _ _ _).mono (fun r h c => ?_) (Cert.GluRefIdeal.Value.run m' g')⟩
  obtain ⟨h0, h1, h2, h3, h⟩ := h c
  obtain ⟨a0, a1, a2, a3, a4⟩ := hagree c
  obtain ⟨hU, hK, hB, hW, hD⟩ := reals _ _ _ _ _ (hpre c)
  exact ⟨h0.trans ((ref_gate m' c _ _ _ _ _ a0 a1 a2 a3 a4 hU hK hB hW hD).trans (final11 m c).symm),
    h1.trans ((ref_val m' c _ _ _ _ _ a0 a1 a2 a3 a4).trans (final12 m c).symm),
    h2.trans ((ref_conv m' c _ _ _ _ _ a0 a1 a2 a3 a4 hU hK hB hW hD).trans (final13 m c).symm),
    h3.trans ((ref_bias m' c _ _ _ _ _ a0 a1 a2 a3 a4 hU hK hB hW hD).trans (final14 m c).symm), h⟩

end Cert.GluValue

end
-- ==== Proof.NormRow.lean ====
/-
  The gradient of one row's root-mean-square norm, over the extended reals: the closed form the kernels compute and the
  sum of the product and chain rules that the derivative gives are the same number, for finite rows.
-/
module

public import proofs.«01_k».proof.Proof.Lift

@[expose] public section

noncomputable section

namespace Cert.NormRow

open Idealize.ShloMosaic

variable {ι : Type} [Fintype ι]

/-- What a row is multiplied by to be normalised: the reciprocal root of its mean square, `w` being the row's length. -/
def rms (w : EReal) (x : ι → EReal) : EReal :=
  Ideal.rsqrt (Ideal.div (∑ k, x k * x k) w + Ideal.ofBits .f32 0x358637BD#32)

/-- The closed form of the gradient: `u` is the gradient that arrives at the normalised row. -/
def closed (w : EReal) (x u : ι → EReal) (l : ι) : EReal :=
  rms w x * (u l - x l * rms w x * Ideal.div (∑ k, u k * (x k * rms w x)) w)

/-- What the derivative of the reciprocal root contributes. -/
def chain (w : EReal) (x u : ι → EReal) : EReal :=
  Ideal.div ((∑ k, x k * u k) * (Ideal.ofBits .f32 0xBF000000#32
    * Ideal.div (rms w x) (Ideal.div (∑ k, x k * x k) w + Ideal.ofBits .f32 0x358637BD#32))) w

/-- The gradient as the product and chain rules give it. -/
def rules (w : EReal) (x u : ι → EReal) (l : ι) : EReal :=
  u l * rms w x + x l * chain w x u + chain w x u * x l

/-- A function all of whose values are real numbers. -/
def Real (x : ι → EReal) : Prop := ∃ r : ι → ℝ, x = fun k => ((r k : ℝ) : EReal)

/-- The multiplier of a finite row is a real number. -/
theorem rms_coe {n : ℝ} (hn : 0 < n) (r : ι → ℝ) :
    rms (n : EReal) (fun k => ((r k : ℝ) : EReal)) = ((Lift.rn n r : ℝ) : EReal) := by
  unfold rms
  simp only [← EReal.coe_mul, Lift.sum_coe, Lift.div_coe hn.ne', Lift.ofBits_eps, ← EReal.coe_add]
  exact Lift.rsqrt_coe (Lift.ms_pos hn r)

/-- For finite rows the closed form is what the rules give. -/
theorem closed_eq {n : ℝ} (hn : 0 < n) {w : EReal} (hw : w = (n : EReal)) {x u : ι → EReal} (hx : Real x) (hu : Real u) (l : ι) :
    closed w x u l = rules w x u l := by
  obtain ⟨r, rfl⟩ := hx
  obtain ⟨v, rfl⟩ := hu
  subst hw
  unfold closed rules chain
  rw [rms_coe hn]
  have hd : ∀ a : ℝ, Ideal.div (a : EReal) (((∑ k, r k * r k) / n + Lift.eps : ℝ) : EReal) = ((a / Lift.ms n r : ℝ) : EReal) :=
    Lift.div_coe (Lift.ms_pos hn r).ne'
  simp only [← EReal.coe_add, ← EReal.coe_mul, ← EReal.coe_sub, Lift.sum_coe, Lift.ofBits_eps, Lift.ofBits_neg_half,
    Lift.div_coe hn.ne', hd]
  exact congrArg _ (Lift.norm_dx hn r v l)

/-- The product of two real functions is real. -/
theorem Real.mul {x y : ι → EReal} (hx : Real x) (hy : Real y) : Real fun k => x k * y k := by
  obtain ⟨r, rfl⟩ := hx
  obtain ⟨s, rfl⟩ := hy
  exact ⟨fun k => r k * s k, funext fun k => (EReal.coe_mul _ _).symm⟩

/-- The sum of two real functions is real. -/
theorem Real.add {x y : ι → EReal} (hx : Real x) (hy : Real y) : Real fun k => x k + y k := by
  obtain ⟨r, rfl⟩ := hx
  obtain ⟨s, rfl⟩ := hy
  exact ⟨fun k => r k + s k, funext fun k => (EReal.coe_add _ _).symm⟩

/-- A row of a finite array is real. -/
theorem Real.of {s : Shape} {X : s.Idx → EReal} (h : Lift.IsReal X) (f : ι → s.Idx) : Real fun k => X (f k) := by
  obtain ⟨x, rfl⟩ := h
  exact ⟨fun k => x (f k), rfl⟩

end Cert.NormRow

end
-- ==== Proof.SumTwo.lean ====
module

public import proofs.«01_k».proof.Proof.Lift

@[expose] public section

set_option maxRecDepth 16384

noncomputable section

open Idealize.ShloMosaic Idealize.ShloMosaic.TcCoe Idealize.SL.Sem
open scoped BigOperators

namespace Cert.SumTwo

variable {a b d : ℕ}

/-- The indices of a three-axis array that agree with `l` on the last axis are the pairs of the other two coordinates. -/
theorem fiber (h : (⟨3, ![a, b, d]⟩ : Shape).ReducesTo [0, 1] ⟨1, ![d]⟩) (l : Fin d) (i : (⟨3, ![a, b, d]⟩ : Shape).Idx) :
    h.drop i = ix1 l ↔ ∃ k : Fin a × Fin b, ix3 k.1 k.2 l = i := by
  constructor
  · intro e
    refine ⟨(i 0, i 1), ?_⟩
    funext k
    apply Fin.ext
    match k with
    | ⟨0, _⟩ => rfl
    | ⟨1, _⟩ => rfl
    | ⟨2, _⟩ => exact (congrArg Fin.val (congrFun e 0)).symm
  · rintro ⟨k, rfl⟩
    funext q
    apply Fin.ext
    match q with
    | ⟨0, _⟩ => rfl

/-- A host sum over the first two axes of a three-axis array, at an index of the last one. -/
theorem host_sum (h : (⟨3, ![a, b, d]⟩ : Shape).ReducesTo [0, 1] ⟨1, ![d]⟩) (v : (⟨3, ![a, b, d]⟩ : Shape).Idx → EReal) (z : EReal) (l : Fin d) :
    Ideal.hostReduceAdd h v z (ix1 l) = z + ∑ i : Fin a, ∑ j : Fin b, v (ix3 i j l) := by
  refine congrArg (z + ·) ((Finset.sum_filter_eq_sum_of_fiber _ (fun k : Fin a × Fin b => ix3 k.1 k.2 l)
    (fun _ _ e => Prod.ext (congrFun e 0) (congrFun e 1)) (fiber h l) v).trans ?_)
  simp only [Fintype.sum_prod_type]

end Cert.SumTwo

end
-- ==== Proof.QkvCtx.lean ====
/-
  The context tokens' key norm, backward: the kernel's three results, and the reference's.
-/
module

public import proofs.«01_k».proof.Defs
public import proofs.«01_k».proof.Proof.Gen.QkvCtxIdeal.Frame
public import proofs.«01_k».proof.Proof.Gen.QkvCtxIdeal.Value
public import proofs.«01_k».proof.Proof.Gen.QkvCtxRefIdeal.Run
public import proofs.«01_k».proof.Proof.Gen.QkvCtxRefIdeal
public import proofs.«01_k».proof.Proof.Gen.Pre_qkvc_finite
public import proofs.«01_k».proof.Defs
public import proofs.«01_k».proof.Proof.Gen.Pre_qkvc_finite
public import proofs.«01_k».proof.Proof.NormRow
public import proofs.«01_k».proof.Proof.SumTwo
public import Idealize.ShloMosaic.Lib.Claim
public import Idealize.ShloMosaic.Lib.Pointwise
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.QkvCtxValue

open Cert.QkvCtxIdeal Cert.QkvCtxIdeal.Gen

/-- The number 128 as the programs write it. -/
abbrev w128 : EReal := Ideal.ofBits .f32 0x43000000#32

/-- Token `i`'s key of head `h`, before its norm. -/
def key (P : FVec Ideal S256x512 .f32) (i : Fin 256) (h : Fin 2) (l : Fin 128) : EReal := P (ix2 i ⟨h.val * 128 + l.val, by omega⟩)

/-- The gradient that arrives at token `i`'s normalised key of head `h`. -/
def arr (G : FVec Ideal S1x128 .f32) (K : FVec Ideal S2x8448x128 .f32) (i : Fin 256) (h : Fin 2) (l : Fin 128) : EReal :=
  K (ix3 h ⟨i.val, by omega⟩ l) * G (ix2 0 l)

variable (m : (ℓ : Loc nD τ sig) → Buf (Elt Ideal) ℓ) (c : Dev nD)

/-- The block indices of the launch's only grid point. -/
theorem idx : ∀ t : Fin cfg0.N, win0_0.index t = ![0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] := (by decide +kernel : ∀ t : Fin grid0.N, _)

/-- The only block of the projections is the whole argument. -/
theorem blk0 : (iblk m c 0 t0_0 : FVec Ideal S256x512 .f32) = m ((c : Thread nD τ).loc main_arg0) := by
  funext j
  idx_vars j
  blk_point [iblk, V, idx t0_0]

/-- The block of the keys' gradient is the argument's first 256 rows. -/
theorem blk1 (h : Fin 2) (i : Fin 256) (l : Fin 128) : (iblk m c 1 t0_0 : FVec Ideal S2x256x128 .f32) (ix3 h i l)
    = (m ((c : Thread nD τ).loc main_arg3) : FVec Ideal S2x8448x128 .f32) (ix3 h ⟨i.val, by omega⟩ l) := by
  blk_point [iblk, V, idx t0_0]

/-- The block of the values' gradient is the argument's first 256 rows. -/
theorem blk2 (h : Fin 2) (i : Fin 256) (l : Fin 128) : (iblk m c 2 t0_0 : FVec Ideal S2x256x128 .f32) (ix3 h i l)
    = (m ((c : Thread nD τ).loc main_arg4) : FVec Ideal S2x8448x128 .f32) (ix3 h ⟨i.val, by omega⟩ l) := by
  blk_point [iblk, V, idx t0_0]

/-- The only block of the keys' gain is the whole argument. -/
theorem blk4 : (iblk m c 4 t0_0 : FVec Ideal S1x128 .f32) = m ((c : Thread nD τ).loc main_arg2) := by
  funext j
  idx_vars j
  blk_point [iblk, V, idx t0_0]

/-- Two indices of the gradient's block with the same coordinates. -/
theorem at_ix2 (y : S256x1024.Idx) (a : Fin 256) (b : Fin 1024) (h0 : (y 0).val = a.val) (h1 : (y 1).val = b.val) :
    y = (ix2 a b : S256x1024.Idx) := by
  idx_vars y
  obtain rfl : y0 = a := Fin.ext h0
  obtain rfl : y1 = b := Fin.ext h1
  rfl

/-- What the body computes of one head's keys: the closed form of the norm's gradient. -/
theorem pay_at (X : FVec Ideal S256x128 .f32) (Y : FVec Ideal S1x256x128 .f32) (G : FVec Ideal S1x128 .f32) (i : Fin 256) (l : Fin 128) :
    k0_pay17 (F := Ideal) X Y G (ix2 i l)
      = NormRow.closed w128 (fun l => X (ix2 i l)) (fun l => Y (ix3 0 i l) * G (ix2 0 l)) l := by
  pointwise [k0_pay17, k0_pay16, k0_pay15, k0_pay14]
  rfl

/-- What the body computes of one head's values: the arriving gradient. -/
theorem val_at (Y : FVec Ideal S1x256x128 .f32) (i : Fin 256) (l : Fin 128) :
    k0_pay13 (F := Ideal) Y (ix2 i l) = Y (ix3 0 i l) := by
  pointwise [k0_pay13]

/-- A head's columns of the projections. -/
theorem ldX (X : FVec Ideal S256x512 .f32) (o : ℕ) (inb) (i : Fin 256) (l : Fin 128) (h : o + l.val < 512) :
    View.ld (Val := Elt Ideal) (e' := .f32) X (Rect.unit ![0, o] ![256, 128] inb) (ix2 i l : S256x128.Idx) = X (ix2 i ⟨o + l.val, h⟩) :=
  View.ld_unit_apply_of (Val := Elt Ideal) (e := .f32) X ![0, o] ![256, 128] inb (ix2 i l : S256x128.Idx) _ (fun k => by fin_cases k <;> simp)

/-- A head's rows of an arriving gradient. -/
theorem ldY (X : FVec Ideal S2x256x128 .f32) (o : Fin 2) (inb) (i : Fin 256) (l : Fin 128) :
    View.ld (Val := Elt Ideal) (e' := .f32) X (Rect.unit ![o.val, 0, 0] ![1, 256, 128] inb) (ix3 0 i l : S1x256x128.Idx) = X (ix3 o i l) :=
  View.ld_unit_apply_of (Val := Elt Ideal) (e := .f32) X ![o.val, 0, 0] ![1, 256, 128] inb (ix3 0 i l : S1x256x128.Idx) _ (fun k => by fin_cases k <;> simp)

/-- One stored piece of the keys' gradient. -/
theorem key_piece (h : Fin 2) (o : ℕ) (ho : o = 128 * h.val) (inb) (inb') (i : Fin 256) (l : Fin 128) :
    k0_pay17 (F := Ideal) (View.ld (iblk m c 0 t0_0 : FVec Ideal S256x512 .f32) (Rect.unit ![0, o] ![256, 128] inb))
        (View.ld (iblk m c 1 t0_0 : FVec Ideal S2x256x128 .f32) (Rect.unit ![h.val, 0, 0] ![1, 256, 128] inb')) (iblk m c 4 t0_0) (ix2 i l)
      = NormRow.closed w128 (key (m ((c : Thread nD τ).loc main_arg0)) i h) (arr (m ((c : Thread nD τ).loc main_arg2)) (m ((c : Thread nD τ).loc main_arg3)) i h) l := by
  subst ho
  rw [pay_at, blk0, blk4]
  have e1 : ∀ l : Fin 128, (View.ld (iblk m c 1 t0_0 : FVec Ideal S2x256x128 .f32) (Rect.unit ![h.val, 0, 0] ![1, 256, 128] inb') : FVec Ideal S1x256x128 .f32) (ix3 0 i l)
      = (m ((c : Thread nD τ).loc main_arg3) : FVec Ideal S2x8448x128 .f32) (ix3 h ⟨i.val, by omega⟩ l) := fun l => by rw [ldY, blk1]
  have e0 : ∀ l : Fin 128, (View.ld (m ((c : Thread nD τ).loc main_arg0) : FVec Ideal S256x512 .f32) (Rect.unit ![0, 128 * h.val] ![256, 128] inb) : FVec Ideal S256x128 .f32) (ix2 i l)
      = key (m ((c : Thread nD τ).loc main_arg0)) i h l := fun l => (ldX _ _ _ _ _ (by omega)).trans (congrArg (fun k => (m ((c : Thread nD τ).loc main_arg0) : FVec Ideal S256x512 .f32) (ix2 i k)) (Fin.ext (by simp only; omega)))
  simp only [e0, e1]
  rfl

/-- One stored piece of the values' gradient. -/
theorem val_piece (h : Fin 2) (inb') (i : Fin 256) (l : Fin 128) :
    k0_pay13 (F := Ideal) (View.ld (iblk m c 2 t0_0 : FVec Ideal S2x256x128 .f32) (Rect.unit ![h.val, 0, 0] ![1, 256, 128] inb')) (ix2 i l)
      = (m ((c : Thread nD τ).loc main_arg4) : FVec Ideal S2x8448x128 .f32) (ix3 h ⟨i.val, by omega⟩ l) := by
  rw [val_at, ldY, blk2]

/-- What the launch leaves in the gradient of the projections. -/
theorem final5 (R : FVec Ideal S256x1024 .bf16)
    (Rz : ∀ (i : Fin 256) (l : Fin 512), R (ix2 i ⟨l.val, by omega⟩) = 0)
    (Rk : ∀ (i : Fin 256) (h : Fin 2) (l : Fin 128), R (ix2 i ⟨512 + (128 * h.val + l.val), by omega⟩)
      = NormRow.closed w128 (key (m ((c : Thread nD τ).loc main_arg0)) i h) (arr (m ((c : Thread nD τ).loc main_arg2)) (m ((c : Thread nD τ).loc main_arg3)) i h) l)
    (Rv : ∀ (i : Fin 256) (h : Fin 2) (l : Fin 128), R (ix2 i ⟨768 + (128 * h.val + l.val), by omega⟩)
      = (m ((c : Thread nD τ).loc main_arg4) : FVec Ideal S2x8448x128 .f32) (ix3 h ⟨i.val, by omega⟩ l)) :
    (dats m 0 c).arrAt 5 cfg0.N = R := by
  refine (dats m 0 c).arrAt_eq_of_after_last 5 t0_0 (by decide +kernel) _ fun j => ?_
  blk_simp
  rw [after0_5]
  unfold Gen.outsAt0
  frame_out
  canon_tiles j h using (View.cover_of_tiledBy _ ![256, 128] (by sl_kernel_rfl) _)
  all_goals
    rename_i y
    idx_vars j
  · rw [at_ix2 y j0 ⟨768 + (128 * (1 : Fin 2).val + j1.val), by omega⟩ h0 (by simp only; omega), Rv]
    exact val_piece m c 1 _ _ _
  · rw [at_ix2 y j0 ⟨512 + (128 * (1 : Fin 2).val + j1.val), by omega⟩ h0 (by simp only; omega), Rk]
    exact key_piece m c 1 _ rfl _ _ _ _
  · rw [at_ix2 y j0 ⟨768 + (128 * (0 : Fin 2).val + j1.val), by omega⟩ h0 (by simp only; omega), Rv]
    exact val_piece m c 0 _ _ _
  · rw [at_ix2 y j0 ⟨512 + (128 * (0 : Fin 2).val + j1.val), by omega⟩ h0 (by simp only; omega), Rk]
    exact key_piece m c 0 _ rfl _ _ _ _
  · rw [at_ix2 y j0 ⟨j1.val, by omega⟩ h0 h1, Rz]
    pointwise [k0_pay7]

/-- What the launch leaves in the gradient of the queries' gain: no query comes from these tokens. -/
theorem final6 (x : S1x128.Idx) : ((dats m 0 c).arrAt 6 cfg0.N : FVec Ideal S1x128 .f32) x = (0 : EReal) := by
  refine congrFun ((dats m 0 c).arrAt_eq_of_after_last 6 t0_0 (by decide +kernel) (show FVec Ideal S1x128 .f32 from fun _ => (0 : EReal)) fun j => ?_) x
  blk_simp
  rw [after0_6]
  unfold Gen.outsAt0
  frame_out
  idx_vars j
  pointwise [k0_pay3, k0_pay6, k0_pay2]

/-- The gradient of the keys' gain. -/
def gainK (P : FVec Ideal S256x512 .f32) (K : FVec Ideal S2x8448x128 .f32) (l : Fin 128) : EReal :=
  ∑ h : Fin 2, ∑ i : Fin 256, K (ix3 h ⟨i.val, by omega⟩ l) * (key P i h l * NormRow.rms w128 (key P i h))

/-- The body's share of the gain's gradient from one head. -/
theorem share_at (Z : FVec Ideal S1x128 .f32) (X : FVec Ideal S256x128 .f32) (Y : FVec Ideal S1x256x128 .f32) (z : Fin 1) (l : Fin 128) :
    k0_pay18 (F := Ideal) Z X Y (ix2 z l)
      = Z (ix2 z l) + ∑ i : Fin 256, Y (ix3 0 i l) * (X (ix2 i l) * NormRow.rms w128 (fun l => X (ix2 i l))) := by
  pointwise [k0_pay18, k0_pay16, k0_pay15, k0_pay14]
  rfl

/-- The same for the first head, whose sum starts at zero. -/
theorem share0_at (X : FVec Ideal S256x128 .f32) (Y : FVec Ideal S1x256x128 .f32) (z : Fin 1) (l : Fin 128) :
    k0_pay12 (F := Ideal) X Y (ix2 z l)
      = ∑ i : Fin 256, Y (ix3 0 i l) * (X (ix2 i l) * NormRow.rms w128 (fun l => X (ix2 i l))) := by
  pointwise [k0_pay12, k0_pay8, k0_pay9, k0_pay10]
  rfl

/-- A head's share, once its key rows and its arriving gradient are read. -/
theorem share_eq (P : FVec Ideal S256x512 .f32) (K : FVec Ideal S2x8448x128 .f32) (X : FVec Ideal S256x128 .f32) (Y : FVec Ideal S1x256x128 .f32)
    (h : Fin 2) (eX : ∀ i l, X (ix2 i l) = key P i h l) (eY : ∀ (i : Fin 256) l, Y (ix3 0 i l) = K (ix3 h ⟨i.val, by omega⟩ l)) (l : Fin 128) :
    (∑ i : Fin 256, Y (ix3 0 i l) * (X (ix2 i l) * NormRow.rms w128 (fun l => X (ix2 i l))))
      = ∑ i : Fin 256, K (ix3 h ⟨i.val, by omega⟩ l) * (key P i h l * NormRow.rms w128 (key P i h)) := by
  simp only [eX, eY]

/-- What the launch leaves in the gradient of the keys' gain. -/
theorem final7 (x : S1x128.Idx) : ((dats m 0 c).arrAt 7 cfg0.N : FVec Ideal S1x128 .f32) x
    = gainK (m ((c : Thread nD τ).loc main_arg0)) (m ((c : Thread nD τ).loc main_arg3)) (x 1) := by
  refine congrFun ((dats m 0 c).arrAt_eq_of_after_last 7 t0_0 (by decide +kernel)
    (fun x : S1x128.Idx => gainK (m ((c : Thread nD τ).loc main_arg0)) (m ((c : Thread nD τ).loc main_arg3)) (x 1)) fun j => ?_) x
  blk_simp
  rw [after0_7]
  unfold Gen.outsAt0
  frame_out
  idx_vars j
  pointwise [k0_pay5, k0_pay4]
  refine (share_at _ _ _ _ _).trans ?_
  unfold gainK
  rw [Fin.sum_univ_two]
  refine congrArg₂ (· + ·) ((share0_at _ _ _ _).trans (share_eq _ _ _ _ 0 (fun i l => ?_) (fun i l => ?_) _)) (share_eq _ _ _ _ 1 (fun i l => ?_) (fun i l => ?_) _)
  · rw [blk0]
    exact (ldX _ _ _ _ _ (by omega)).trans (congrArg (fun k => (m ((c : Thread nD τ).loc main_arg0) : FVec Ideal S256x512 .f32) (ix2 i k)) (Fin.ext (by simp only; omega)))
  · exact (ldY _ 0 _ _ _).trans (blk1 m c _ _ _)
  · rw [blk0]
    exact (ldX _ _ _ _ _ (by omega)).trans (congrArg (fun k => (m ((c : Thread nD τ).loc main_arg0) : FVec Ideal S256x512 .f32) (ix2 i k)) (Fin.ext (by simp only; omega)))
  · exact (ldY _ 1 _ _ _).trans (blk1 m c _ _ _)

end Cert.QkvCtxValue

namespace Cert.QkvCtxValue

open Cert.QkvCtxRefIdeal Cert.QkvCtxRefIdeal.Gen Cert.QkvCtxRefIdeal.Value

variable (m' : (ℓ : Loc Cert.QkvCtxRefIdeal.nD Cert.QkvCtxRefIdeal.τ Cert.QkvCtxRefIdeal.sig) → Buf (Elt Ideal) ℓ)
variable (c : Dev Cert.QkvCtxRefIdeal.nD)
variable (P : FVec Ideal S256x512 .f32) (G : FVec Ideal S1x128 .f32) (K : FVec Ideal S2x8448x128 .f32) (W : FVec Ideal S2x8448x128 .f32)
variable (eP : m' ((c.tc : Thread Cert.QkvCtxRefIdeal.nD Cert.QkvCtxRefIdeal.τ).loc main_arg0) = P)
variable (eG : m' ((c.tc : Thread Cert.QkvCtxRefIdeal.nD Cert.QkvCtxRefIdeal.τ).loc main_arg2) = G)
variable (eK : m' ((c.tc : Thread Cert.QkvCtxRefIdeal.nD Cert.QkvCtxRefIdeal.τ).loc main_arg3) = K)
variable (eW : m' ((c.tc : Thread Cert.QkvCtxRefIdeal.nD Cert.QkvCtxRefIdeal.τ).loc main_arg4) = W)

include eP eG eK eW in
/-- The reference's gradient of the query columns is zero. -/
theorem ref_zero (i : Fin 256) (l : Fin 512) : (res_main_v53 m' c : FVec Ideal S256x1024 .bf16) (ix2 i ⟨l.val, by omega⟩) = (0 : EReal) := by
  unfold res_main_v53
  rw [eP, eG, eK, eW]
  pointwise

include eP eG eK eW in
/-- The reference's gradient of the value columns is the arriving gradient. -/
theorem ref_val (i : Fin 256) (h : Fin 2) (l : Fin 128) : (res_main_v53 m' c : FVec Ideal S256x1024 .bf16) (ix2 i ⟨768 + (128 * h.val + l.val), by omega⟩)
    = W (ix3 h ⟨i.val, by omega⟩ l) := by
  unfold res_main_v53
  rw [eP, eG, eK, eW]
  pointwise
  rw [dif_neg (by omega)]
  try rw [dif_neg (by omega)]
  refine congrArg₂ (fun a b => W (ix3 a ⟨i.val, by omega⟩ b)) (Fin.ext ?_) (Fin.ext ?_)
  all_goals
    simp only
    omega

include eP eG eK eW in
/-- The reference's gradient of the key columns is the sum of the rules. -/
theorem ref_key (i : Fin 256) (h : Fin 2) (l : Fin 128) : (res_main_v53 m' c : FVec Ideal S256x1024 .bf16) (ix2 i ⟨512 + (128 * h.val + l.val), by omega⟩)
    = NormRow.rules w128 (key P i h) (arr G K i h) l := by
  unfold res_main_v53
  rw [eP, eG, eK, eW]
  pointwise
  rw [dif_pos (by omega)]
  simp only [Fin.sum_univ_one]
  rfl

/-- Under the precondition the projections, the keys' gain and the keys' arriving gradient are arrays of real numbers. -/
theorem reals (A : FVec Ideal S256x512 .f32) (Q : FVec Ideal S1x128 .f32) (B : FVec Ideal S1x128 .f32) (D : FVec Ideal S2x8448x128 .f32)
    (E : FVec Ideal S2x8448x128 .f32) (h : Cert.Pre_qkvc_finite.fn A Q B D E = fun _ => 1#1) :
    Lift.IsReal (s := S256x512) A ∧ Lift.IsReal (s := S1x128) B ∧ Lift.IsReal (s := S2x8448x128) D := by
  have h0 := congrFun h (ix1 0)
  have h1 := congrFun h (ix1 1)
  have h2 := congrFun h (ix1 2)
  clear h
  unfold Cert.Pre_qkvc_finite.fn at h0 h1 h2
  simp [concatenate_cons_apply, concatenateAt_cons, concatenateAt_singleton] at h0 h1 h2
  exact ⟨Lift.real_of_all A _ h0, Lift.real_of_all B _ h1, Lift.real_of_all D _ h2⟩

/-- The reference's executions end, with its arguments unchanged and every counter at zero. -/
theorem refFrame : Cert.quiescent_QkvCtxRefIdeal := fun m ρ _ =>
  (θ_run _ _ _).mono (fun r h => ⟨fun c => (h c).2.2.2, sem_eq_zero_of_no_sems rfl r.2⟩)
    (Cert.QkvCtxRefIdeal.Value.run m ρ)

/-- The two programs' results are the same arrays, for finite arguments. -/
theorem algebraic : Cert.algebraic_QkvCtxIdeal_QkvCtxRefIdeal_pre_qkvc_finite := by
  intro m g m' g' hpre hagree
  refine ⟨fun c => (Cert.QkvCtxIdeal.Gen.dats m 0 c).arrAt 5 Cert.QkvCtxIdeal.cfg0.N, fun c => (Cert.QkvCtxIdeal.Gen.dats m 0 c).arrAt 6 Cert.QkvCtxIdeal.cfg0.N,
    fun c => (Cert.QkvCtxIdeal.Gen.dats m 0 c).arrAt 7 Cert.QkvCtxIdeal.cfg0.N,
    Cert.QkvCtxIdeal.Value.run_blocks m g, (θ_run _ _ _).mono (fun r h c => ?_) (Cert.QkvCtxRefIdeal.Value.run m' g')⟩
  obtain ⟨h0, h1, h2, h⟩ := h c
  obtain ⟨a0, _, a2, a3, a4⟩ := hagree c
  obtain ⟨hP, hG, hK⟩ := reals _ _ _ _ _ (hpre c)
  refine ⟨h0.trans (final5 m c (res_main_v53 m' c) (ref_zero m' c _ _ _ _ a0 a2 a3 a4)
      (fun i h l => (ref_key m' c _ _ _ _ a0 a2 a3 a4 i h l).trans
        (NormRow.closed_eq (n := 128) (by norm_num) Lift.ofBits_128 (NormRow.Real.of hP _)
          (NormRow.Real.mul (NormRow.Real.of hK _) (NormRow.Real.of hG _)) l).symm)
      (ref_val m' c _ _ _ _ a0 a2 a3 a4)).symm,
    h1.trans (funext fun x => ?_), h2.trans (funext fun x => ?_), h⟩
  · refine .trans ?_ (final6 m c x).symm
    pointwise
  · refine .trans ?_ (final7 m c x).symm
    rw [a0, a3]
    idx_vars x
    pointwise
    simp only [SumTwo.host_sum, Fin.sum_univ_one]
    pointwise
    simp only [SumTwo.host_sum]
    pointwise
    unfold gainK
    refine .trans Finset.sum_comm ?_
    refine Fintype.sum_congr _ _ fun h => Fintype.sum_congr _ _ fun i => ?_
    exact mul_comm _ _

end Cert.QkvCtxValue

end
-- ==== Proof.FfnTile.lean ====
/-
  Facts the gradients of the projections share: real rows stay real under products and sums, and a sum over all rows is the
  sum over the tiles of each tile's rows.
-/
module

public import proofs.«01_k».proof.Proof.NormRow
public import Idealize.ShloMosaic.Lib.Pipeline.ValueKit
public import Idealize.ShloMosaic.Lib.Pointwise

@[expose] public section

noncomputable section

open Idealize.ShloMosaic

namespace Cert.NormRow

variable {ι κ : Type} [Fintype ι] [Fintype κ]

/-- A function each of whose values is a real number. -/
theorem Real.of_forall {x : ι → EReal} (h : ∀ k, ∃ r : ℝ, x k = (r : EReal)) : Real x :=
  ⟨fun k => (h k).choose, funext fun k => (h k).choose_spec⟩

/-- A value of a real function is a real number. -/
theorem Real.at {x : ι → EReal} (h : Real x) (k : ι) : ∃ r : ℝ, x k = (r : EReal) := by
  obtain ⟨r, rfl⟩ := h
  exact ⟨r k, rfl⟩

/-- The sum of a real function's values is a real number. -/
theorem Real.sum {x : ι → EReal} (h : Real x) : ∃ r : ℝ, ∑ k, x k = (r : EReal) := by
  obtain ⟨r, rfl⟩ := h
  exact ⟨∑ k, r k, Lift.sum_coe r⟩

/-- The entries of the product of a real row and a real matrix are real. -/
theorem Real.dot {x : ι → EReal} {w : κ → ι → EReal} (hx : Real x) (hw : ∀ l, Real (w l)) : Real fun l => ∑ k, x k * w l k :=
  Real.of_forall fun l => (hx.mul (hw l)).sum

end Cert.NormRow

namespace Cert.Rows

/-- A function of the rows, continued by zero. -/
def ext {n : ℕ} (f : Fin n → EReal) (k : ℕ) : EReal := if h : k < n then f ⟨k, h⟩ else 0

theorem ext_at {n : ℕ} (f : Fin n → EReal) (r : Fin n) {k : ℕ} (h : k = r.val) : ext f k = f r := by
  subst h
  exact dif_pos r.isLt

/-- The rows of tile `p`, summed. -/
def part {n : ℕ} (f : Fin n → EReal) (T p : ℕ) : EReal := ∑ a : Fin T, ext f (T * p + a.val)

/-- The tiles together are all the rows. -/
theorem sum_part {n G T : ℕ} (f : Fin n → EReal) (hn : n = G * T) (e : Fin G → ℕ) (he : ∀ s, e s = s.val) :
    ∑ s : Fin G, part f T (e s) = ∑ r, f r := by
  subst hn
  unfold part
  refine Fin.sum_mul_add_congr fun s k hl => ?_
  rw [he]
  exact ext_at f ⟨s.val * T + k.val, hl⟩ (by simp only [Nat.mul_comm])

end Cert.Rows

end
-- ==== Proof.FfnUpLastTile.lean ====
/-
  The last block's up projection, backward: what the kernel computes of one tile of rows.
-/
module

public import proofs.«01_k».proof.Proof.Gen.FfnUpLastIdeal.Frame
public import proofs.«01_k».proof.Proof.FfnTile

@[expose] public section

set_option maxRecDepth 16384

noncomputable section

open Idealize.ShloMosaic Idealize.ShloMosaic.TcCoe Idealize.SL.Sem

namespace Cert.FfnUpLastValue

open Cert.FfnUpLastIdeal Cert.FfnUpLastIdeal.Gen

/-- The number 1024 as the programs write it. -/
abbrev w1024 : EReal := Ideal.ofBits .f32 0x44800000#32

/-- Row `r` of the gradient that arrives at the up projection, times the projection's weights. -/
def dav (G V : FVec Ideal S8192x2816 .bf16) (W : FVec Ideal S1024x5632 .f32) (r : Fin 8192) (l : Fin 1024) : EReal :=
  (∑ k : Fin 2816, G (ix2 r k) * W (ix2 l ⟨k.val, by omega⟩)) + ∑ k : Fin 2816, V (ix2 r k) * W (ix2 l ⟨2816 + k.val, by omega⟩)

/-- What the body computes of a tile's product: the gate's half and the value's half. -/
theorem pay8_at (A B : FVec Ideal S256x2816 .bf16) (P Q : FVec Ideal S2816x1024 .bf16) (a : Fin 256) (l : Fin 1024) :
    (k0_pay8 (F := Ideal) A P B Q (ix2 a l) : EReal) = (∑ k : Fin 2816, A (ix2 a k) * P (ix2 k l)) + ∑ k : Fin 2816, B (ix2 a k) * Q (ix2 k l) := by
  pointwise [k0_pay8]

/-- The product scaled by one plus the conditioning's scale. -/
theorem pay12_at (s : FVec Ideal S1x1024 .f32) (A B : FVec Ideal S256x2816 .bf16) (P Q : FVec Ideal S2816x1024 .bf16) (a : Fin 256) (l : Fin 1024) :
    (k0_pay12 (F := Ideal) s A P B Q (ix2 a l) : EReal) = k0_pay8 (F := Ideal) A P B Q (ix2 a l) * (1 + s (ix2 0 l)) := by
  pointwise [k0_pay12]

/-- The same, times the norm's gain. -/
theorem pay13_at (g s : FVec Ideal S1x1024 .f32) (A B : FVec Ideal S256x2816 .bf16) (P Q : FVec Ideal S2816x1024 .bf16) (a : Fin 256) (l : Fin 1024) :
    (k0_pay13 (F := Ideal) g s A P B Q (ix2 a l) : EReal) = k0_pay8 (F := Ideal) A P B Q (ix2 a l) * (1 + s (ix2 0 l)) * g (ix2 0 l) := by
  pointwise [k0_pay13, k0_pay12]

/-- A normalised row. -/
theorem pay10_at (X : FVec Ideal S256x1024 .f32) (a : Fin 256) (l : Fin 1024) :
    (k0_pay10 (F := Ideal) X (ix2 a l) : EReal) = X (ix2 a l) * NormRow.rms w1024 (fun l => X (ix2 a l)) := by
  pointwise [k0_pay10, k0_pay9]
  rfl

/-- A normalised row times the gain. -/
theorem pay11_at (g : FVec Ideal S1x1024 .f32) (X : FVec Ideal S256x1024 .f32) (a : Fin 256) (l : Fin 1024) :
    (k0_pay11 (F := Ideal) g X (ix2 a l) : EReal) = X (ix2 a l) * NormRow.rms w1024 (fun l => X (ix2 a l)) * g (ix2 0 l) := by
  pointwise [k0_pay11, k0_pay10, k0_pay9]
  rfl

/-- The gradient of a tile's rows: the closed form of the norm's gradient, and the gradient that goes past the block. -/
theorem pay1_at (R X U : FVec Ideal S256x1024 .f32) (a : Fin 256) (l : Fin 1024) :
    (k0_pay1 (F := Ideal) R (k0_pay9 X) (k0_pay10 X) U (ix2 a l) : EReal)
      = NormRow.closed w1024 (fun l => X (ix2 a l)) (fun l => U (ix2 a l)) l + R (ix2 a l) := by
  pointwise [k0_pay1, k0_pay10, k0_pay9]
  rfl

/-- A tile's column sums of the product, on top of what was there. -/
theorem pay2_at (D : FVec Ideal S256x1024 .f32) (acc : FVec Ideal S1x1024 .f32) (z : Fin 1) (l : Fin 1024) :
    (k0_pay2 (F := Ideal) D acc (ix2 z l) : EReal) = acc (ix2 z l) + ∑ a : Fin 256, D (ix2 a l) := by
  pointwise [k0_pay2]

/-- A tile's column sums of the product times the normalised rows, on top of what was there. -/
theorem pay3_at (D N : FVec Ideal S256x1024 .f32) (acc : FVec Ideal S1x1024 .f32) (z : Fin 1) (l : Fin 1024) :
    (k0_pay3 (F := Ideal) D N acc (ix2 z l) : EReal) = acc (ix2 z l) + ∑ a : Fin 256, D (ix2 a l) * N (ix2 a l) := by
  pointwise [k0_pay3]

/-- The same for the gain. -/
theorem pay4_at (N D : FVec Ideal S256x1024 .f32) (acc : FVec Ideal S1x1024 .f32) (z : Fin 1) (l : Fin 1024) :
    (k0_pay4 (F := Ideal) N D acc (ix2 z l) : EReal) = acc (ix2 z l) + ∑ a : Fin 256, D (ix2 a l) * N (ix2 a l) := by
  pointwise [k0_pay4]

variable (m : (ℓ : Loc nD τ sig) → Buf (Elt Ideal) ℓ) (c : Dev nD)

/-- The block every window reads or writes at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ win0_9.index t = ![0, 0] ∧ win0_10.index t = ![0, 0] :=
  (by decide +kernel : ∀ t : Fin grid0.N, _)

/-- The weights the kernel reads are the argument's, transposed. -/
theorem V_w (k : Fin 5632) (l : Fin 1024) : (V m c main_v1 : FVec Ideal S5632x1024 .bf16) (ix2 k l) = (m (c.tc.loc main_arg4) : FVec Ideal S1024x5632 .f32) (ix2 l k) := by
  have e : (V m c main_v1 : FVec Ideal S5632x1024 .bf16) = truncf (F := Ideal) .bf16 (transpose S5632x1024 [1, 0] (m (c.tc.loc main_arg4) : FVec Ideal S1024x5632 .f32) transposes_S1024x5632_S5632x1024_1_0) bitsLt_bf16_f32 := by
    simp only [V, hostOps0, List.flatten_cons, List.flatten_nil, List.append_nil, List.cons_append, List.nil_append]
    after_results_simp <;> rfl
  rw [e]
  pointwise

section
variable (t : Fin cfg0.N) (X : ∀ b : Ref sig .tc, Buf (Elt Ideal) ((c : Thread nD τ).loc b))

/-- The tile of the gate's gradient. -/
theorem rd0 (b : Fin 256) (k : Fin 2816) (r : Fin 8192) (hr : r.val = 256 * t.val + b.val) :
    (((cfg0.win 0).blk t).view.read (Elt Ideal) (X (Pipeline.arrRef spec0 0)) : FVec Ideal S256x2816 .bf16) (ix2 b k) = (X main_arg5 : FVec Ideal S8192x2816 .bf16) (ix2 r k) := by
  blk_point [idx t]
  all_goals omega

/-- The tile of the value's gradient. -/
theorem rd1 (b : Fin 256) (k : Fin 2816) (r : Fin 8192) (hr : r.val = 256 * t.val + b.val) :
    (((cfg0.win 1).blk t).view.read (Elt Ideal) (X (Pipeline.arrRef spec0 1)) : FVec Ideal S256x2816 .bf16) (ix2 b k) = (X main_arg6 : FVec Ideal S8192x2816 .bf16) (ix2 r k) := by
  blk_point [idx t]
  all_goals omega

/-- The weights' window is the whole array. -/
theorem rd2 (k : Fin 5632) (l : Fin 1024) :
    (((cfg0.win 2).blk t).view.read (Elt Ideal) (X (Pipeline.arrRef spec0 2)) : FVec Ideal S5632x1024 .bf16) (ix2 k l) = (X main_v1 : FVec Ideal S5632x1024 .bf16) (ix2 k l) := by
  blk_point [idx t]

/-- The tile of the rows. -/
theorem rd3 (b : Fin 256) (k : Fin 1024) (r : Fin 8192) (hr : r.val = 256 * t.val + b.val) :
    (((cfg0.win 3).blk t).view.read (Elt Ideal) (X (Pipeline.arrRef spec0 3)) : FVec Ideal S256x1024 .f32) (ix2 b k) = (X main_arg0 : FVec Ideal S8192x1024 .f32) (ix2 r k) := by
  blk_point [idx t]
  all_goals omega

/-- The tile of the gradient that goes past the block. -/
theorem rd4 (b : Fin 256) (k : Fin 1024) (r : Fin 8192) (hr : r.val = 256 * t.val + b.val) :
    (((cfg0.win 4).blk t).view.read (Elt Ideal) (X (Pipeline.arrRef spec0 4)) : FVec Ideal S256x1024 .f32) (ix2 b k) = (X main_arg7 : FVec Ideal S8192x1024 .f32) (ix2 r k) := by
  blk_point [idx t]
  all_goals omega

/-- The gain's window is the whole array. -/
theorem rd5 (z : Fin 1) (l : Fin 1024) :
    (((cfg0.win 5).blk t).view.read (Elt Ideal) (X (Pipeline.arrRef spec0 5)) : FVec Ideal S1x1024 .f32) (ix2 z l) = (X main_arg1 : FVec Ideal S1x1024 .f32) (ix2 z l) := by
  blk_point [idx t]

/-- The scale's window is the whole array. -/
theorem rd6 (z : Fin 1) (l : Fin 1024) :
    (((cfg0.win 6).blk t).view.read (Elt Ideal) (X (Pipeline.arrRef spec0 6)) : FVec Ideal S1x1024 .f32) (ix2 z l) = (X main_arg2 : FVec Ideal S1x1024 .f32) (ix2 z l) := by
  blk_point [idx t]

end

/-- Half of the rows of the weights. -/
theorem ldW (X : FVec Ideal S5632x1024 .bf16) (o : ℕ) (inb) (k : Fin 2816) (l : Fin 1024) (k' : Fin 5632) (h : k'.val = o + k.val) :
    View.ld (Val := Elt Ideal) (e' := .bf16) X (Rect.unit ![o, 0] ![2816, 1024] inb) (ix2 k l : S2816x1024.Idx) = X (ix2 k' l) :=
  View.ld_unit_apply_of (Val := Elt Ideal) (e := .bf16) X ![o, 0] ![2816, 1024] inb (ix2 k l : S2816x1024.Idx) _ (fun a => by fin_cases a <;> simp [h])

/-- A tile's product is the rows of the whole product. -/
theorem dav_at (t : Fin cfg0.N) (inb) (inb') (a : Fin 256) (l : Fin 1024) (r : Fin 8192) (hr : r.val = 256 * t.val + a.val) :
    (k0_pay8 (F := Ideal) (iblk m c 0 t) (View.ld (iblk m c 2 t) (Rect.unit ![0, 0] S2816x1024.size inb)) (iblk m c 1 t)
        (View.ld (iblk m c 2 t) (Rect.unit ![2816, 0] S2816x1024.size inb')) (ix2 a l) : EReal)
      = dav (m (c.tc.loc main_arg5)) (m (c.tc.loc main_arg6)) (m (c.tc.loc main_arg4)) r l := by
  refine (pay8_at _ _ _ _ a l).trans ?_
  unfold dav
  refine congrArg₂ (· + ·) (Fintype.sum_congr _ _ fun k => congrArg₂ (· * ·) (rd0 c t (V m c) a k r hr) ?_)
    (Fintype.sum_congr _ _ fun k => congrArg₂ (· * ·) (rd1 c t (V m c) a k r hr) ?_)
  · exact (ldW (iblk m c 2 t) 0 inb k l ⟨k.val, by omega⟩ (by simp)).trans ((rd2 c t (V m c) _ l).trans (V_w m c _ l))
  · exact (ldW (iblk m c 2 t) 2816 inb' k l ⟨2816 + k.val, by omega⟩ rfl).trans ((rd2 c t (V m c) _ l).trans (V_w m c _ l))

end Cert.FfnUpLastValue

end
-- ==== Proof.FfnUpLastRun.lean ====
/-
  The last block's up projection, backward: the four arrays the kernel leaves.
-/
module

public import proofs.«01_k».proof.Proof.FfnUpLastTile
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.FfnUpLastValue

open Cert.FfnUpLastIdeal Cert.FfnUpLastIdeal.Gen

/-- The gradient that arrives at the normalised rows, from the product `D`, the scale and the gain. -/
def up (D : Fin 8192 → Fin 1024 → EReal) (g s : FVec Ideal S1x1024 .f32) (r : Fin 8192) (l : Fin 1024) : EReal :=
  D r l * (1 + s (ix2 0 l)) * g (ix2 0 l)

/-- The gradient of the rows. -/
def dx (x : FVec Ideal S8192x1024 .f32) (g s : FVec Ideal S1x1024 .f32) (D : Fin 8192 → Fin 1024 → EReal) (R : FVec Ideal S8192x1024 .f32) (i : S8192x1024.Idx) : EReal :=
  NormRow.closed w1024 (fun l => x (ix2 (i 0) l)) (up D g s (i 0)) (i 1) + R (ix2 (i 0) (i 1))

/-- A normalised row. -/
def nrm (x : FVec Ideal S8192x1024 .f32) (r : Fin 8192) (l : Fin 1024) : EReal := x (ix2 r l) * NormRow.rms w1024 (fun l => x (ix2 r l))

variable (m : (ℓ : Loc nD τ sig) → Buf (Elt Ideal) ℓ) (c : Dev nD)

/-- The whole product of the launch's arguments. -/
abbrev D : Fin 8192 → Fin 1024 → EReal := dav (m (c.tc.loc main_arg5)) (m (c.tc.loc main_arg6)) (m (c.tc.loc main_arg4))

/-- A row's tile. -/
def row (t : Fin cfg0.N) (a : Fin 256) : Fin 8192 :=
  ⟨256 * t.val + a.val, by have : t.val < 32 := lt_of_lt_of_eq t.isLt (by decide); omega⟩

/-- What one row of a tile adds to each column sum: row `r`'s entries of the three. -/
def f8 (l : Fin 1024) (r : Fin 8192) : EReal := D m c r l
def f9 (l : Fin 1024) (r : Fin 8192) : EReal := D m c r l * (nrm (m (c.tc.loc main_arg0)) r l * (m (c.tc.loc main_arg1) : FVec Ideal S1x1024 .f32) (ix2 0 l))
def f10 (l : Fin 1024) (r : Fin 8192) : EReal := D m c r l * (1 + (m (c.tc.loc main_arg2) : FVec Ideal S1x1024 .f32) (ix2 0 l)) * nrm (m (c.tc.loc main_arg0)) r l

/-- A tile's rows are normalised as the rows of the whole array. -/
theorem nrm_at (t : Fin cfg0.N) (a : Fin 256) (l : Fin 1024) : k0_pay10 (F := Ideal) (iblk m c 3 t) (ix2 a l) = nrm (m (c.tc.loc main_arg0)) (row t a) l := by
  refine (pay10_at _ a l).trans ?_
  unfold nrm
  exact congrArg₂ (· * ·) (rd3 c t (V m c) a l _ rfl) (congrArg (NormRow.rms w1024) (funext fun l => rd3 c t (V m c) a l _ rfl))

/-- What a grid point leaves of the first result. -/
theorem piece7 (t : Fin cfg0.N) (inb) (inb') (a : Fin 256) (l : Fin 1024) :
    (k0_pay1 (F := Ideal) (iblk m c 4 t) (k0_pay9 (iblk m c 3 t)) (k0_pay10 (iblk m c 3 t))
      (k0_pay13 (iblk m c 5 t) (iblk m c 6 t) (iblk m c 0 t) (View.ld (iblk m c 2 t) (Rect.unit ![0, 0] S2816x1024.size inb)) (iblk m c 1 t)
        (View.ld (iblk m c 2 t) (Rect.unit ![2816, 0] S2816x1024.size inb'))) (ix2 a l) : EReal)
      = dx (m (c.tc.loc main_arg0)) (m (c.tc.loc main_arg1)) (m (c.tc.loc main_arg2)) (D m c) (m (c.tc.loc main_arg7)) (ix2 (row t a) l) := by
  refine (pay1_at _ _ _ a l).trans ?_
  unfold dx
  refine congrArg₂ (· + ·) (congrArg₂ (fun x u => NormRow.closed w1024 x u l) (funext fun l => rd3 c t (V m c) a l _ rfl) (funext fun l => ?_)) (rd4 c t (V m c) a l _ rfl)
  refine (pay13_at _ _ _ _ _ _ a l).trans ?_
  unfold up
  exact congrArg₂ (· * ·) (congrArg₂ (· * ·) (dav_at m c t inb inb' a l _ rfl) (congrArg ((1 : EReal) + ·) (rd6 c t (V m c) 0 l))) (rd5 c t (V m c) 0 l)

set_option maxHeartbeats 4000000 in
/-- What a grid point leaves of the first result, wherever it lies in the array. -/
theorem after7 (t : Fin cfg0.N) (y : S256x1024.Idx) (i : S8192x1024.Idx) (e0 : (i 0).val = 256 * t.val + (y 0).val) (e1 : (i 1).val = (y 1).val) :
    (outsAt0 m c t.val t.isLt).1 y = dx (m (c.tc.loc main_arg0)) (m (c.tc.loc main_arg1)) (m (c.tc.loc main_arg2)) (D m c) (m (c.tc.loc main_arg7)) i := by
  have hi : i = (ix2 (row t (y 0)) (y 1) : S8192x1024.Idx) := by
    funext a
    fin_cases a
    exacts [Fin.ext e0, Fin.ext e1]
  rw [hi]
  by_cases hc : t.val % 32 = 0
  on_goal 1 => rw [outsAt0_A m c t hc]
  on_goal 2 => rw [outsAt0_B m c t hc]
  all_goals
    frame_out
    idx_vars y
    exact piece7 m c t _ _ y0 y1

/-- The first result. -/
theorem final7 : (dats m 0 c).arrAt 7 cfg0.N = dx (m (c.tc.loc main_arg0)) (m (c.tc.loc main_arg1)) (m (c.tc.loc main_arg2)) (D m c) (m (c.tc.loc main_arg7)) := by
  refine (dats m 0 c).arrAt_eq_of_covers 7 _ (by decide +kernel) fun t hf y => ?_
  blk_simp
  rw [after0_7]
  refine after7 m c t _ _ ?_ ?_ <;> blk_simp [idx t]
  omega

/-- One tile's rows of a function of the rows, summed. -/
theorem tile_sum (t : Fin cfg0.N) (f : Fin 8192 → EReal) (h : Fin 256 → EReal) (e : ∀ a, h a = f (row t a)) :
    ∑ a : Fin 256, h a = Rows.part f 256 t.val :=
  Fintype.sum_congr _ _ fun a => (e a).trans (Rows.ext_at f (row t a) rfl).symm

/-- One grid point's share of the second result. -/
theorem piece8 (t : Fin cfg0.N) (inb) (inb') (acc : FVec Ideal S1x1024 .f32) (z : Fin 1) (l : Fin 1024) :
    (k0_pay2 (F := Ideal) (k0_pay8 (iblk m c 0 t) (View.ld (iblk m c 2 t) (Rect.unit ![0, 0] S2816x1024.size inb)) (iblk m c 1 t)
        (View.ld (iblk m c 2 t) (Rect.unit ![2816, 0] S2816x1024.size inb'))) acc (ix2 z l) : EReal)
      = acc (ix2 z l) + Rows.part (f8 m c l) 256 t.val :=
  (pay2_at _ _ z l).trans (congrArg (acc (ix2 z l) + ·) (tile_sum t _ _ fun a => dav_at m c t inb inb' a l _ rfl))

/-- One grid point's share of the third result. -/
theorem piece9 (t : Fin cfg0.N) (inb) (inb') (acc : FVec Ideal S1x1024 .f32) (z : Fin 1) (l : Fin 1024) :
    (k0_pay3 (F := Ideal) (k0_pay8 (iblk m c 0 t) (View.ld (iblk m c 2 t) (Rect.unit ![0, 0] S2816x1024.size inb)) (iblk m c 1 t)
        (View.ld (iblk m c 2 t) (Rect.unit ![2816, 0] S2816x1024.size inb'))) (k0_pay11 (iblk m c 5 t) (iblk m c 3 t)) acc (ix2 z l) : EReal)
      = acc (ix2 z l) + Rows.part (f9 m c l) 256 t.val := by
  refine (pay3_at _ _ _ z l).trans (congrArg (acc (ix2 z l) + ·) (tile_sum t _ _ fun a => congrArg₂ (· * ·) (dav_at m c t inb inb' a l _ rfl) ?_))
  refine ((pay11_at _ _ a l).trans (congrArg₂ (· * ·) (pay10_at _ a l).symm (rd5 c t (V m c) 0 l))).trans ?_
  exact congrArg (· * _) (nrm_at m c t a l)

/-- One grid point's share of the fourth result. -/
theorem piece10 (t : Fin cfg0.N) (inb) (inb') (acc : FVec Ideal S1x1024 .f32) (z : Fin 1) (l : Fin 1024) :
    (k0_pay4 (F := Ideal) (k0_pay10 (iblk m c 3 t)) (k0_pay12 (iblk m c 6 t) (iblk m c 0 t) (View.ld (iblk m c 2 t) (Rect.unit ![0, 0] S2816x1024.size inb)) (iblk m c 1 t)
        (View.ld (iblk m c 2 t) (Rect.unit ![2816, 0] S2816x1024.size inb'))) acc (ix2 z l) : EReal)
      = acc (ix2 z l) + Rows.part (f10 m c l) 256 t.val := by
  refine (pay4_at _ _ _ z l).trans (congrArg (acc (ix2 z l) + ·) (tile_sum t _ _ fun a => congrArg₂ (· * ·) ?_ (nrm_at m c t a l)))
  exact (pay12_at _ _ _ _ _ a l).trans (congrArg₂ (· * ·) (dav_at m c t inb inb' a l _ rfl) (congrArg ((1 : EReal) + ·) (rd6 c t (V m c) 0 l)))

/-- The sums start at zero. -/
theorem zero5 (y : S1x1024.Idx) : (k0_pay5 (F := Ideal) y : EReal) = 0 := by
  idx_vars y
  pointwise [k0_pay5]

theorem zero6 (y : S1x1024.Idx) : (k0_pay6 (F := Ideal) y : EReal) = 0 := by
  idx_vars y
  pointwise [k0_pay6]

theorem zero7 (y : S1x1024.Idx) : (k0_pay7 (F := Ideal) y : EReal) = 0 := by
  idx_vars y
  pointwise [k0_pay7]

set_option maxHeartbeats 4000000 in
/-- The first grid point leaves its share of the three sums. -/
theorem start (t : Fin cfg0.N) (y : S1x1024.Idx) (hc : t.val % 32 = 0) :
    (outsAt0 m c t.val t.isLt).2.1 y = (0 + Rows.part (f8 m c (y 1)) 256 t.val : EReal)
    ∧ (outsAt0 m c t.val t.isLt).2.2.1 y = (0 + Rows.part (f9 m c (y 1)) 256 t.val : EReal)
    ∧ (outsAt0 m c t.val t.isLt).2.2.2 y = (0 + Rows.part (f10 m c (y 1)) 256 t.val : EReal) := by
  rw [outsAt0_A m c t hc]
  refine ⟨?_, ?_, ?_⟩
  all_goals
    frame_out
    idx_vars y
  · exact (piece8 m c t _ _ _ y0 y1).trans (congrArg (· + _) (zero5 _))
  · exact (piece9 m c t _ _ _ y0 y1).trans (congrArg (· + _) (zero6 _))
  · exact (piece10 m c t _ _ _ y0 y1).trans (congrArg (· + _) (zero7 _))

set_option maxHeartbeats 4000000 in
/-- Every other grid point adds its share to the three sums. -/
theorem step (t : Fin cfg0.N) (y : S1x1024.Idx) (hc : ¬t.val % 32 = 0) :
    (outsAt0 m c t.val t.isLt).2.1 y = ((outsAt0 m c (t.val - 1) (Nat.lt_of_le_of_lt (Nat.sub_le ..) t.isLt)).2.1 y + Rows.part (f8 m c (y 1)) 256 t.val : EReal)
    ∧ (outsAt0 m c t.val t.isLt).2.2.1 y = ((outsAt0 m c (t.val - 1) (Nat.lt_of_le_of_lt (Nat.sub_le ..) t.isLt)).2.2.1 y + Rows.part (f9 m c (y 1)) 256 t.val : EReal)
    ∧ (outsAt0 m c t.val t.isLt).2.2.2 y = ((outsAt0 m c (t.val - 1) (Nat.lt_of_le_of_lt (Nat.sub_le ..) t.isLt)).2.2.2 y + Rows.part (f10 m c (y 1)) 256 t.val : EReal) := by
  rw [outsAt0_B m c t hc]
  refine ⟨?_, ?_, ?_⟩
  all_goals
    frame_out
    idx_vars y
  · exact piece8 m c t _ _ _ y0 y1
  · exact piece9 m c t _ _ _ y0 y1
  · exact piece10 m c t _ _ _ y0 y1

/-- The shares of the 32 grid points together are the sum over all rows. -/
theorem sum_at (f : Fin 1024 → Fin 8192 → EReal) (l l' : Fin 1024) (h : l.val = l'.val) (e : Fin 32 → ℕ) (he : ∀ s, e s = s.val) :
    ∑ s : Fin 32, Rows.part (f l') 256 (e s) = ∑ r, f l r := by
  obtain rfl : l = l' := Fin.ext h
  exact Rows.sum_part (f l) rfl e he

/-- The second result: the column sums of the product. -/
theorem final8 : (dats m 0 c).arrAt 8 cfg0.N = fun i : S1x1024.Idx => ∑ r, f8 m c (i 1) r := by
  refine (dats m 0 c).arrAt_eq_of_covers 8 _ (by decide +kernel) fun t hf y => ?_
  blk_simp
  rw [after0_8, Pipeline.eq_sum_fin_of_reset_step_apply_of_flush (fun n h => (outsAt0 m c n h).2.1) 32 (fun _ => 0)
    (fun p x => Rows.part (f8 m c (x 1)) 256 p.val) (fun t h x => (start m c t x h).1) (fun t h x => (step m c t x h).1) t ((flush0_8 t).mp hf) _, zero_add]
  have ht : t.val < 32 := lt_of_lt_of_eq t.isLt (by decide)
  refine sum_at (f8 m c) _ _ ?_ _ fun s => ?_
  · blk_simp [idx t]
  · simp only
    omega

/-- The third result: the column sums of the product times the normalised rows and the gain. -/
theorem final9 : (dats m 0 c).arrAt 9 cfg0.N = fun i : S1x1024.Idx => ∑ r, f9 m c (i 1) r := by
  refine (dats m 0 c).arrAt_eq_of_covers 9 _ (by decide +kernel) fun t hf y => ?_
  blk_simp
  rw [after0_9, Pipeline.eq_sum_fin_of_reset_step_apply_of_flush (fun n h => (outsAt0 m c n h).2.2.1) 32 (fun _ => 0)
    (fun p x => Rows.part (f9 m c (x 1)) 256 p.val) (fun t h x => (start m c t x h).2.1) (fun t h x => (step m c t x h).2.1) t ((flush0_9 t).mp hf) _, zero_add]
  have ht : t.val < 32 := lt_of_lt_of_eq t.isLt (by decide)
  refine sum_at (f9 m c) _ _ ?_ _ fun s => ?_
  · blk_simp [idx t]
  · simp only
    omega

/-- The fourth result: the column sums for the gain. -/
theorem final10 : (dats m 0 c).arrAt 10 cfg0.N = fun i : S1x1024.Idx => ∑ r, f10 m c (i 1) r := by
  refine (dats m 0 c).arrAt_eq_of_covers 10 _ (by decide +kernel) fun t hf y => ?_
  blk_simp
  rw [after0_10, Pipeline.eq_sum_fin_of_reset_step_apply_of_flush (fun n h => (outsAt0 m c n h).2.2.2) 32 (fun _ => 0)
    (fun p x => Rows.part (f10 m c (x 1)) 256 p.val) (fun t h x => (start m c t x h).2.2) (fun t h x => (step m c t x h).2.2) t ((flush0_10 t).mp hf) _, zero_add]
  have ht : t.val < 32 := lt_of_lt_of_eq t.isLt (by decide)
  refine sum_at (f10 m c) _ _ ?_ _ fun s => ?_
  · blk_simp [idx t]
  · simp only
    omega

end Cert.FfnUpLastValue

end
-- ==== Proof.FfnUpLast.lean ====
/-
  The last block's up projection, backward: the reference's four results, and that the two programs' results are the same.
-/
module

public import proofs.«01_k».proof.Defs
public import proofs.«01_k».proof.Proof.FfnUpLastRun
public import proofs.«01_k».proof.Proof.Gen.FfnUpLastIdeal.Value
public import proofs.«01_k».proof.Proof.Gen.FfnUpLastRefIdeal.Run
public import proofs.«01_k».proof.Proof.Gen.FfnUpLastRefIdeal
public import proofs.«01_k».proof.Proof.Gen.Pre_up1_finite
public import Idealize.ShloMosaic.Lib.Quiescent

@[expose] public section

set_option maxRecDepth 16384

noncomputable section

open Idealize.ShloMosaic Idealize.ShloMosaic.TcCoe Idealize.SL.Sem

namespace Cert.FfnUpLastValue

open Cert.FfnUpLastRefIdeal Cert.FfnUpLastRefIdeal.Gen Cert.FfnUpLastRefIdeal.Value

/-- The reference's product of the two gradients side by side is the sum of the two halves' products. -/
theorem dot_at (G V : FVec Ideal S8192x2816 .bf16) (W : FVec Ideal S1024x5632 .f32) (r : Fin 8192) (l : Fin 1024) :
    (Host.dotGeneral (F := Ideal) dot_S8192x5632_S1024x5632_S8192x1024_1_1_0_0_n_n none
        (concatenate S8192x5632 1 [⟨S8192x2816, (extf .f32 G bitsLt_bf16_f32)⟩, ⟨S8192x2816, (extf .f32 V bitsLt_bf16_f32)⟩] concatenates_S8192x2816_S8192x2816_S8192x5632_d1)
        W (ix2 r l) : EReal) = dav G V W r l := by
  pointwise
  unfold dav
  rfl

variable (m' : (ℓ : Loc Cert.FfnUpLastRefIdeal.nD Cert.FfnUpLastRefIdeal.τ Cert.FfnUpLastRefIdeal.sig) → Buf (Elt Ideal) ℓ)
variable (c : Dev Cert.FfnUpLastRefIdeal.nD)
variable (x R : FVec Ideal S8192x1024 .f32) (g s : FVec Ideal S1x1024 .f32) (W : FVec Ideal S1024x5632 .f32) (G V : FVec Ideal S8192x2816 .bf16)
variable (ex : m' ((c.tc : Thread Cert.FfnUpLastRefIdeal.nD Cert.FfnUpLastRefIdeal.τ).loc main_arg0) = x)
variable (eg : m' ((c.tc : Thread Cert.FfnUpLastRefIdeal.nD Cert.FfnUpLastRefIdeal.τ).loc main_arg1) = g)
variable (es : m' ((c.tc : Thread Cert.FfnUpLastRefIdeal.nD Cert.FfnUpLastRefIdeal.τ).loc main_arg2) = s)
variable (eW : m' ((c.tc : Thread Cert.FfnUpLastRefIdeal.nD Cert.FfnUpLastRefIdeal.τ).loc main_arg4) = W)
variable (eG : m' ((c.tc : Thread Cert.FfnUpLastRefIdeal.nD Cert.FfnUpLastRefIdeal.τ).loc main_arg5) = G)
variable (eV : m' ((c.tc : Thread Cert.FfnUpLastRefIdeal.nD Cert.FfnUpLastRefIdeal.τ).loc main_arg6) = V)
variable (eR : m' ((c.tc : Thread Cert.FfnUpLastRefIdeal.nD Cert.FfnUpLastRefIdeal.τ).loc main_arg7) = R)

include ex eg es eW eG eV eR in
/-- The reference's gradient of the rows: the gradient that goes past the block and the sum of the rules. -/
theorem ref_dx (r : Fin 8192) (l : Fin 1024) : (res_main_v52 m' c : FVec Ideal S8192x1024 .f32) (ix2 r l)
    = NormRow.rules w1024 (fun l => x (ix2 r l)) (up (dav G V W) g s r) l + R (ix2 r l) := by
  unfold res_main_v52
  rw [ex, eg, es, eW, eG, eV, eR]
  have hd : ∀ r l, (Host.dotGeneral (F := Ideal) dot_S8192x5632_S1024x5632_S8192x1024_1_1_0_0_n_n none
        (concatenate S8192x5632 1 [⟨S8192x2816, (extf .f32 G bitsLt_bf16_f32)⟩, ⟨S8192x2816, (extf .f32 V bitsLt_bf16_f32)⟩] concatenates_S8192x2816_S8192x2816_S8192x5632_d1)
        W (ix2 r l) : EReal) = dav G V W r l := dot_at G V W
  generalize Host.dotGeneral (F := Ideal) dot_S8192x5632_S1024x5632_S8192x1024_1_1_0_0_n_n none _ _ = P at hd ⊢
  pointwise
  simp only [Fin.sum_univ_one, hd]
  unfold NormRow.rules
  rw [add_comm _ (R (ix2 r l)), ← add_assoc, ← add_assoc]
  rfl

/-- Under the precondition the arguments the gradient of the rows depends on are arrays of real numbers. -/
theorem reals (A : FVec Ideal S8192x1024 .f32) (B C D : FVec Ideal S1x1024 .f32) (E : FVec Ideal S1024x5632 .f32) (F H : FVec Ideal S8192x2816 .bf16)
    (K : FVec Ideal S8192x1024 .f32) (h : Cert.Pre_up1_finite.fn A B C D E F H K = fun _ => 1#1) :
    Lift.IsReal (s := S8192x1024) A ∧ Lift.IsReal (s := S1x1024) B ∧ Lift.IsReal (s := S1x1024) C ∧ Lift.IsReal (s := S1024x5632) E
      ∧ Lift.IsReal (s := S8192x2816) F ∧ Lift.IsReal (s := S8192x2816) H := by
  have h0 := congrFun h (ix1 0)
  have h1 := congrFun h (ix1 1)
  have h2 := congrFun h (ix1 2)
  have h3 := congrFun h (ix1 3)
  have h4 := congrFun h (ix1 4)
  have h5 := congrFun h (ix1 5)
  clear h
  unfold Cert.Pre_up1_finite.fn Cert.Pre_up1_finite.fn_part1 at h0 h1 h2 h3 h4 h5
  simp [concatenate_cons_apply, concatenateAt_cons, concatenateAt_singleton] at h0 h1 h2 h3 h4 h5
  exact ⟨Lift.real_of_all A _ h0, Lift.real_of_all B _ h1, Lift.real_of_all C _ h2, Lift.real_of_all E _ h3, Lift.real_of_all F _ h4, Lift.real_of_all H _ h5⟩

/-- The gradient that arrives at a normalised row is real. -/
theorem up_real {g s : FVec Ideal S1x1024 .f32} {W : FVec Ideal S1024x5632 .f32} {G V : FVec Ideal S8192x2816 .bf16}
    (hg : Lift.IsReal (s := S1x1024) g) (hs : Lift.IsReal (s := S1x1024) s) (hW : Lift.IsReal (s := S1024x5632) W)
    (hG : Lift.IsReal (s := S8192x2816) G) (hV : Lift.IsReal (s := S8192x2816) V) (r : Fin 8192) : NormRow.Real (up (dav G V W) g s r) :=
  (((NormRow.Real.dot (NormRow.Real.of hG _) fun _ => NormRow.Real.of hW _).add
    (NormRow.Real.dot (NormRow.Real.of hV _) fun _ => NormRow.Real.of hW _)).mul
    (NormRow.Real.add (x := fun _ => 1) ⟨fun _ => 1, rfl⟩ (NormRow.Real.of hs _))).mul (NormRow.Real.of hg _)

/-- The reference's executions end, with its arguments unchanged and every counter at zero. -/
theorem refFrame : Cert.quiescent_FfnUpLastRefIdeal := fun m ρ _ =>
  (θ_run _ _ _).mono (fun r h => ⟨fun c => (h c).2.2.2.2, sem_eq_zero_of_no_sems rfl r.2⟩)
    (Cert.FfnUpLastRefIdeal.Value.run m ρ)

/-- The two programs' results are the same arrays, for finite arguments. -/
theorem algebraic : Cert.algebraic_FfnUpLastIdeal_FfnUpLastRefIdeal_pre_up1_finite := by
  intro m g m' g' hpre hagree
  refine ⟨fun c => (Cert.FfnUpLastIdeal.Gen.dats m 0 c).arrAt 7 Cert.FfnUpLastIdeal.cfg0.N, fun c => (Cert.FfnUpLastIdeal.Gen.dats m 0 c).arrAt 8 Cert.FfnUpLastIdeal.cfg0.N,
    fun c => (Cert.FfnUpLastIdeal.Gen.dats m 0 c).arrAt 9 Cert.FfnUpLastIdeal.cfg0.N, fun c => (Cert.FfnUpLastIdeal.Gen.dats m 0 c).arrAt 10 Cert.FfnUpLastIdeal.cfg0.N,
    Cert.FfnUpLastIdeal.Value.run_blocks m g, (θ_run _ _ _).mono (fun r h c => ?_) (Cert.FfnUpLastRefIdeal.Value.run m' g')⟩
  obtain ⟨h0, h1, h2, h3, h⟩ := h c
  obtain ⟨a0, a1, a2, _, a4, a5, a6, a7⟩ := hagree c
  obtain ⟨hx, hg, hs, hW, hG, hV⟩ := reals _ _ _ _ _ _ _ _ (hpre c)
  refine ⟨h0.trans (funext fun x => ?_), h1.trans (funext fun x => ?_), h2.trans (funext fun x => ?_), h3.trans (funext fun x => ?_), h⟩
  · refine .trans ?_ (congrFun (final7 m c) x).symm
    idx_vars x
    refine (ref_dx m' c _ _ _ _ _ _ _ a0 a1 a2 a4 a5 a6 a7 x0 x1).trans ?_
    unfold dx
    exact congrArg (· + _) (NormRow.closed_eq (n := 1024) (by norm_num) Lift.ofBits_1024 (NormRow.Real.of hx _) (up_real hg hs hW hG hV x0) x1).symm
  · refine .trans ?_ (congrFun (final8 m c) x).symm
    rw [a4, a5, a6]
    idx_vars x
    have hd := dot_at (m ((c.tc : Thread Cert.FfnUpLastIdeal.nD Cert.FfnUpLastIdeal.τ).loc Cert.FfnUpLastIdeal.main_arg5)) (m ((c.tc : Thread Cert.FfnUpLastIdeal.nD Cert.FfnUpLastIdeal.τ).loc Cert.FfnUpLastIdeal.main_arg6)) (m ((c.tc : Thread Cert.FfnUpLastIdeal.nD Cert.FfnUpLastIdeal.τ).loc Cert.FfnUpLastIdeal.main_arg4))
    generalize Host.dotGeneral (F := Ideal) dot_S8192x5632_S1024x5632_S8192x1024_1_1_0_0_n_n none _ _ = P at hd ⊢
    pointwise
    simp only [hd]
    rfl
  · refine .trans ?_ (congrFun (final9 m c) x).symm
    rw [a0, a1, a4, a5, a6]
    idx_vars x
    have hd := dot_at (m ((c.tc : Thread Cert.FfnUpLastIdeal.nD Cert.FfnUpLastIdeal.τ).loc Cert.FfnUpLastIdeal.main_arg5)) (m ((c.tc : Thread Cert.FfnUpLastIdeal.nD Cert.FfnUpLastIdeal.τ).loc Cert.FfnUpLastIdeal.main_arg6)) (m ((c.tc : Thread Cert.FfnUpLastIdeal.nD Cert.FfnUpLastIdeal.τ).loc Cert.FfnUpLastIdeal.main_arg4))
    generalize Host.dotGeneral (F := Ideal) dot_S8192x5632_S1024x5632_S8192x1024_1_1_0_0_n_n none _ _ = P at hd ⊢
    pointwise
    simp only [hd]
    exact Fintype.sum_congr _ _ fun r => mul_comm _ _
  · refine .trans ?_ (congrFun (final10 m c) x).symm
    rw [a0, a2, a4, a5, a6]
    idx_vars x
    have hd := dot_at (m ((c.tc : Thread Cert.FfnUpLastIdeal.nD Cert.FfnUpLastIdeal.τ).loc Cert.FfnUpLastIdeal.main_arg5)) (m ((c.tc : Thread Cert.FfnUpLastIdeal.nD Cert.FfnUpLastIdeal.τ).loc Cert.FfnUpLastIdeal.main_arg6)) (m ((c.tc : Thread Cert.FfnUpLastIdeal.nD Cert.FfnUpLastIdeal.τ).loc Cert.FfnUpLastIdeal.main_arg4))
    generalize Host.dotGeneral (F := Ideal) dot_S8192x5632_S1024x5632_S8192x1024_1_1_0_0_n_n none _ _ = P at hd ⊢
    pointwise
    simp only [hd]
    exact Fintype.sum_congr _ _ fun r => mul_comm _ _

end Cert.FfnUpLastValue

end
-- ==== Proof.InProjTile.lean ====
/-
  The input projection, backward: what the kernel computes of one half of a tile's rows.
-/
module

public import proofs.«01_k».proof.Proof.Gen.InProjIdeal.Frame
public import proofs.«01_k».proof.Proof.FfnUpLastRun

@[expose] public section

set_option maxRecDepth 16384

noncomputable section

open Idealize.ShloMosaic Idealize.ShloMosaic.TcCoe Idealize.SL.Sem

namespace Cert.InProjValue

open Cert.InProjIdeal Cert.InProjIdeal.Gen
open Cert.FfnUpLastValue (w1024 up dx nrm)

/-- Row `r` of the gradient that arrives at the input projection, times the projection's weights. -/
def dav (G : FVec Ideal S8192x1024 .bf16) (V : FVec Ideal S8192x1536 .bf16) (W : FVec Ideal S1024x2560 .f32) (r : Fin 8192) (l : Fin 1024) : EReal :=
  (∑ k : Fin 1024, G (ix2 r k) * W (ix2 l ⟨k.val, by omega⟩)) + ∑ k : Fin 1536, V (ix2 r k) * W (ix2 l ⟨1024 + k.val, by omega⟩)

variable (A : FVec Ideal S256x1024 .bf16) (B : FVec Ideal S256x1536 .bf16) (P : FVec Ideal S1024x1024 .bf16) (Q : FVec Ideal S1536x1024 .bf16)
variable (X R D N : FVec Ideal S256x1024 .f32) (g s acc : FVec Ideal S1x1024 .f32)

/-- What the body computes of a half's product. -/
theorem pay7_at (a : Fin 256) (l : Fin 1024) :
    (k0_pay7 (F := Ideal) A P B Q (ix2 a l) : EReal) = (∑ k : Fin 1024, A (ix2 a k) * P (ix2 k l)) + ∑ k : Fin 1536, B (ix2 a k) * Q (ix2 k l) := by
  pointwise [k0_pay7]

/-- A normalised row. -/
theorem pay9_at (a : Fin 256) (l : Fin 1024) :
    (k0_pay9 (F := Ideal) X (ix2 a l) : EReal) = X (ix2 a l) * NormRow.rms w1024 (fun l => X (ix2 a l)) := by
  pointwise [k0_pay9, k0_pay8]
  rfl

/-- A normalised row times the gain. -/
theorem pay10_at (a : Fin 256) (l : Fin 1024) : (k0_pay10 (F := Ideal) g X (ix2 a l) : EReal) = k0_pay9 (F := Ideal) X (ix2 a l) * g (ix2 0 l) := by
  pointwise [k0_pay10]

/-- The product scaled by one plus the conditioning's scale. -/
theorem pay11_at (a : Fin 256) (l : Fin 1024) :
    (k0_pay11 (F := Ideal) s A P B Q (ix2 a l) : EReal) = k0_pay7 (F := Ideal) A P B Q (ix2 a l) * (1 + s (ix2 0 l)) := by
  pointwise [k0_pay11]

/-- The gradient of a half's rows: the closed form of the norm's gradient, and the gradient that goes past the block. -/
theorem pay13_at (a : Fin 256) (l : Fin 1024) :
    (k0_pay13 (F := Ideal) R (k0_pay8 X) (k0_pay9 X) (k0_pay12 g s A P B Q) (ix2 a l) : EReal)
      = NormRow.closed w1024 (fun l => X (ix2 a l)) (fun l => k0_pay7 (F := Ideal) A P B Q (ix2 a l) * (1 + s (ix2 0 l)) * g (ix2 0 l)) l + R (ix2 a l) := by
  pointwise [k0_pay13, k0_pay12, k0_pay11, k0_pay9, k0_pay8]
  rfl

/-- A half's column sums of the product, on top of what was there. -/
theorem pay14_at (z : Fin 1) (l : Fin 1024) : (k0_pay14 (F := Ideal) D acc (ix2 z l) : EReal) = acc (ix2 z l) + ∑ a : Fin 256, D (ix2 a l) := by
  pointwise [k0_pay14]

/-- A half's column sums of the product times the normalised rows, on top of what was there. -/
theorem pay15_at (z : Fin 1) (l : Fin 1024) : (k0_pay15 (F := Ideal) D N acc (ix2 z l) : EReal) = acc (ix2 z l) + ∑ a : Fin 256, D (ix2 a l) * N (ix2 a l) := by
  pointwise [k0_pay15]

/-- The same for the gain. -/
theorem pay16_at (z : Fin 1) (l : Fin 1024) : (k0_pay16 (F := Ideal) N D acc (ix2 z l) : EReal) = acc (ix2 z l) + ∑ a : Fin 256, D (ix2 a l) * N (ix2 a l) := by
  pointwise [k0_pay16]

/-- The second half is computed as the first: the rows' gradient, -/
theorem pay21_eq : k0_pay21 (F := Ideal) g s A P B Q X R = k0_pay13 R (k0_pay8 X) (k0_pay9 X) (k0_pay12 g s A P B Q) := rfl

/-- the column sums of the product, -/
theorem pay22_eq : k0_pay1 (F := Ideal) (k0_pay22 A P B Q) acc = k0_pay14 (k0_pay7 A P B Q) acc := rfl

/-- those of the product times the normalised rows, -/
theorem pay23_eq : k0_pay2 (F := Ideal) (k0_pay23 g A P B Q X) acc = k0_pay15 (k0_pay7 A P B Q) (k0_pay10 g X) acc := rfl

/-- and those for the gain. -/
theorem pay3_eq : k0_pay3 (F := Ideal) (k0_pay19 X) (k0_pay20 s A P B Q) acc = k0_pay16 (k0_pay9 X) (k0_pay11 s A P B Q) acc := rfl

variable (m : (ℓ : Loc nD τ sig) → Buf (Elt Ideal) ℓ) (c : Dev nD)

/-- The block every window reads or writes at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ win0_9.index t = ![0, 0] ∧ win0_10.index t = ![0, 0] :=
  (by decide +kernel : ∀ t : Fin grid0.N, _)

/-- The weights the kernel reads are the argument's, transposed. -/
theorem V_w (k : Fin 2560) (l : Fin 1024) : (V m c main_v1 : FVec Ideal S2560x1024 .bf16) (ix2 k l) = (m (c.tc.loc main_arg4) : FVec Ideal S1024x2560 .f32) (ix2 l k) := by
  have e : (V m c main_v1 : FVec Ideal S2560x1024 .bf16) = truncf (F := Ideal) .bf16 (transpose S2560x1024 [1, 0] (m (c.tc.loc main_arg4) : FVec Ideal S1024x2560 .f32) transposes_S1024x2560_S2560x1024_1_0) bitsLt_bf16_f32 := by
    simp only [V, hostOps0, List.flatten_cons, List.flatten_nil, List.append_nil, List.cons_append, List.nil_append]
    after_results_simp <;> rfl
  rw [e]
  pointwise

section
variable (t : Fin cfg0.N) (X : ∀ b : Ref sig .tc, Buf (Elt Ideal) ((c : Thread nD τ).loc b))

/-- The tile of the queries', keys' and values' gradient. -/
theorem rd0 (b : Fin 512) (k : Fin 1024) (r : Fin 8192) (hr : r.val = 512 * t.val + b.val) :
    (((cfg0.win 0).blk t).view.read (Elt Ideal) (X (Pipeline.arrRef spec0 0)) : FVec Ideal S512x1024 .bf16) (ix2 b k) = (X main_arg5 : FVec Ideal S8192x1024 .bf16) (ix2 r k) := by
  blk_point [idx t]
  all_goals omega

/-- The tile of the convolution's gradient. -/
theorem rd1 (b : Fin 512) (k : Fin 1536) (r : Fin 8192) (hr : r.val = 512 * t.val + b.val) :
    (((cfg0.win 1).blk t).view.read (Elt Ideal) (X (Pipeline.arrRef spec0 1)) : FVec Ideal S512x1536 .bf16) (ix2 b k) = (X main_arg6 : FVec Ideal S8192x1536 .bf16) (ix2 r k) := by
  blk_point [idx t]
  all_goals omega

/-- The weights' window is the whole array. -/
theorem rd2 (k : Fin 2560) (l : Fin 1024) :
    (((cfg0.win 2).blk t).view.read (Elt Ideal) (X (Pipeline.arrRef spec0 2)) : FVec Ideal S2560x1024 .bf16) (ix2 k l) = (X main_v1 : FVec Ideal S2560x1024 .bf16) (ix2 k l) := by
  blk_point [idx t]

/-- The tile of the rows. -/
theorem rd3 (b : Fin 512) (k : Fin 1024) (r : Fin 8192) (hr : r.val = 512 * t.val + b.val) :
    (((cfg0.win 3).blk t).view.read (Elt Ideal) (X (Pipeline.arrRef spec0 3)) : FVec Ideal S512x1024 .f32) (ix2 b k) = (X main_arg0 : FVec Ideal S8192x1024 .f32) (ix2 r k) := by
  blk_point [idx t]
  all_goals omega

/-- The tile of the gradient that goes past the block. -/
theorem rd4 (b : Fin 512) (k : Fin 1024) (r : Fin 8192) (hr : r.val = 512 * t.val + b.val) :
    (((cfg0.win 4).blk t).view.read (Elt Ideal) (X (Pipeline.arrRef spec0 4)) : FVec Ideal S512x1024 .f32) (ix2 b k) = (X main_arg7 : FVec Ideal S8192x1024 .f32) (ix2 r k) := by
  blk_point [idx t]
  all_goals omega

/-- The gain's window is the whole array. -/
theorem rd5 (z : Fin 1) (l : Fin 1024) :
    (((cfg0.win 5).blk t).view.read (Elt Ideal) (X (Pipeline.arrRef spec0 5)) : FVec Ideal S1x1024 .f32) (ix2 z l) = (X main_arg1 : FVec Ideal S1x1024 .f32) (ix2 z l) := by
  blk_point [idx t]

/-- The scale's window is the whole array. -/
theorem rd6 (z : Fin 1) (l : Fin 1024) :
    (((cfg0.win 6).blk t).view.read (Elt Ideal) (X (Pipeline.arrRef spec0 6)) : FVec Ideal S1x1024 .f32) (ix2 z l) = (X main_arg2 : FVec Ideal S1x1024 .f32) (ix2 z l) := by
  blk_point [idx t]

end

/-- Some of an array's rows, from row `o`. -/
theorem ldRow {e : EltTy} {h n w : ℕ} (X : (⟨2, ![h, w]⟩ : Shape).Idx → Elt Ideal e) (o : ℕ) (inb) (k : Fin n) (l : Fin w) (k' : Fin h) (hk : k'.val = o + k.val) :
    View.ld (Val := Elt Ideal) (e' := e) X (Rect.unit (s := ⟨2, ![h, w]⟩) ![o, 0] ![n, w] inb) (ix2 k l : (⟨2, ![n, w]⟩ : Shape).Idx) = X (ix2 k' l) :=
  View.ld_unit_apply_of (Val := Elt Ideal) (e := e) X ![o, 0] ![n, w] inb (ix2 k l : (⟨2, ![n, w]⟩ : Shape).Idx) _ (fun a => by fin_cases a <;> simp [hk])

/-- The two halves of a tile's rows are the tile's rows. -/
theorem part_two (f : Fin 8192 → EReal) (p : ℕ) : Rows.part f 256 (2 * p + 0) + Rows.part f 256 (2 * p + 1) = Rows.part f 512 p := by
  unfold Rows.part
  refine .trans ?_ (Fin.sum_univ_add (a := 256) (b := 256) fun a : Fin (256 + 256) => Rows.ext f (512 * p + a.val)).symm
  refine congrArg₂ (· + ·) (Fintype.sum_congr _ _ fun a => congrArg (Rows.ext f) ?_) (Fintype.sum_congr _ _ fun a => congrArg (Rows.ext f) ?_)
  · simp only [Fin.val_castAdd]
    omega
  · simp only [Fin.val_natAdd]
    omega

end Cert.InProjValue

end
-- ==== Proof.InProjRun.lean ====
/-
  The input projection, backward: the four arrays the kernel leaves.
-/
module

public import proofs.«01_k».proof.Proof.InProjTile
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.InProjValue

open Cert.InProjIdeal Cert.InProjIdeal.Gen
open Cert.FfnUpLastValue (w1024 up dx nrm)

variable (m : (ℓ : Loc nD τ sig) → Buf (Elt Ideal) ℓ) (c : Dev nD)

/-- The whole product of the launch's arguments. -/
abbrev D : Fin 8192 → Fin 1024 → EReal := dav (m (c.tc.loc main_arg5)) (m (c.tc.loc main_arg6)) (m (c.tc.loc main_arg4))

/-- The gradient of the rows of the launch's arguments. -/
abbrev dX : S8192x1024.Idx → EReal := dx (m (c.tc.loc main_arg0)) (m (c.tc.loc main_arg1)) (m (c.tc.loc main_arg2)) (D m c) (m (c.tc.loc main_arg7))

/-- What one row adds to the sum of the product's columns, -/
def f8 (l : Fin 1024) (r : Fin 8192) : EReal := D m c r l

/-- to that of the product times the normalised rows and the gain, -/
def f9 (l : Fin 1024) (r : Fin 8192) : EReal := D m c r l * (nrm (m (c.tc.loc main_arg0)) r l * (m (c.tc.loc main_arg1) : FVec Ideal S1x1024 .f32) (ix2 0 l))

/-- and to that for the gain. -/
def f10 (l : Fin 1024) (r : Fin 8192) : EReal := D m c r l * (1 + (m (c.tc.loc main_arg2) : FVec Ideal S1x1024 .f32) (ix2 0 l)) * nrm (m (c.tc.loc main_arg0)) r l

variable (t : Fin cfg0.N)

/-- A row of the half that starts at row `256 * k` of a tile. -/
def row (k : Fin 2) (a : Fin 256) : Fin 8192 :=
  ⟨512 * t.val + (256 * k.val + a.val), by have : t.val < 16 := lt_of_lt_of_eq t.isLt (by decide); omega⟩

section
variable (k : Fin 2) (o : ℕ) (ho : o = 256 * k.val)
variable (i0 : ∀ a, (![o, 0] : Fin 2 → ℕ) a + S256x1024.size a ≤ S512x1024.size a) (i1 : ∀ a, (![o, 0] : Fin 2 → ℕ) a + S256x1536.size a ≤ S512x1536.size a)
variable (i2 : ∀ a, (![0, 0] : Fin 2 → ℕ) a + S1024x1024.size a ≤ S2560x1024.size a) (i3 : ∀ a, (![1024, 0] : Fin 2 → ℕ) a + S1536x1024.size a ≤ S2560x1024.size a)

/-- What the body computes of a half's product at a grid point. -/
abbrev prod : FVec Ideal S256x1024 .f32 :=
  k0_pay7 (F := Ideal) (View.ld (iblk m c 0 t) (Rect.unit ![o, 0] S256x1024.size i0)) (View.ld (iblk m c 2 t) (Rect.unit ![0, 0] S1024x1024.size i2))
    (View.ld (iblk m c 1 t) (Rect.unit ![o, 0] S256x1536.size i1)) (View.ld (iblk m c 2 t) (Rect.unit ![1024, 0] S1536x1024.size i3))

include ho in
/-- A half's product is the rows of the whole product. -/
theorem dav_at (a : Fin 256) (l : Fin 1024) : prod m c t o i0 i1 i2 i3 (ix2 a l) = D m c (row t k a) l := by
  subst ho
  refine (pay7_at _ _ _ _ a l).trans ?_
  unfold D dav
  refine congrArg₂ (· + ·) (Fintype.sum_congr _ _ fun j => congrArg₂ (· * ·) ?_ ?_) (Fintype.sum_congr _ _ fun j => congrArg₂ (· * ·) ?_ ?_)
  · exact (ldRow (e := .bf16) (iblk m c 0 t) _ i0 a j ⟨256 * k.val + a.val, by omega⟩ rfl).trans (rd0 c t (V m c) _ j (row t k a) rfl)
  · exact (ldRow (e := .bf16) (iblk m c 2 t) 0 i2 j l ⟨j.val, by omega⟩ (by simp)).trans ((rd2 c t (V m c) _ l).trans (V_w m c _ l))
  · exact (ldRow (e := .bf16) (iblk m c 1 t) _ i1 a j ⟨256 * k.val + a.val, by omega⟩ rfl).trans (rd1 c t (V m c) _ j (row t k a) rfl)
  · exact (ldRow (e := .bf16) (iblk m c 2 t) 1024 i3 j l ⟨1024 + j.val, by omega⟩ rfl).trans ((rd2 c t (V m c) _ l).trans (V_w m c _ l))

include ho in
/-- A half's rows are the rows of the whole array. -/
theorem x_at (a : Fin 256) (l : Fin 1024) :
    (View.ld (iblk m c 3 t) (Rect.unit ![o, 0] S256x1024.size i0) : FVec Ideal S256x1024 .f32) (ix2 a l) = (m (c.tc.loc main_arg0) : FVec Ideal S8192x1024 .f32) (ix2 (row t k a) l) := by
  subst ho
  exact (ldRow (e := .f32) (iblk m c 3 t) _ i0 a l ⟨256 * k.val + a.val, by omega⟩ rfl).trans (rd3 c t (V m c) _ l (row t k a) rfl)

include ho in
/-- A half's rows are normalised as the rows of the whole array. -/
theorem nrm_at (a : Fin 256) (l : Fin 1024) :
    k0_pay9 (F := Ideal) (View.ld (iblk m c 3 t) (Rect.unit ![o, 0] S256x1024.size i0)) (ix2 a l) = nrm (m (c.tc.loc main_arg0)) (row t k a) l := by
  refine (pay9_at _ a l).trans ?_
  unfold nrm
  exact congrArg₂ (· * ·) (x_at m c t k o ho i0 a l) (congrArg (NormRow.rms w1024) (funext fun l => x_at m c t k o ho i0 a l))

include ho in
/-- What a grid point leaves of the first result in one half. -/
theorem piece7 (a : Fin 256) (l : Fin 1024) :
    (k0_pay13 (F := Ideal) (View.ld (iblk m c 4 t) (Rect.unit ![o, 0] S256x1024.size i0)) (k0_pay8 (View.ld (iblk m c 3 t) (Rect.unit ![o, 0] S256x1024.size i0)))
      (k0_pay9 (View.ld (iblk m c 3 t) (Rect.unit ![o, 0] S256x1024.size i0)))
      (k0_pay12 (iblk m c 5 t) (iblk m c 6 t) (View.ld (iblk m c 0 t) (Rect.unit ![o, 0] S256x1024.size i0)) (View.ld (iblk m c 2 t) (Rect.unit ![0, 0] S1024x1024.size i2))
        (View.ld (iblk m c 1 t) (Rect.unit ![o, 0] S256x1536.size i1)) (View.ld (iblk m c 2 t) (Rect.unit ![1024, 0] S1536x1024.size i3))) (ix2 a l) : EReal)
      = dX m c (ix2 (row t k a) l) := by
  refine (pay13_at _ _ _ _ _ _ _ _ a l).trans ?_
  unfold dX dx
  refine congrArg₂ (· + ·) (congrArg₂ (fun x u => NormRow.closed w1024 x u l) (funext fun l => x_at m c t k o ho i0 a l) (funext fun l => ?_)) ?_
  · unfold up
    exact congrArg₂ (· * ·) (congrArg₂ (· * ·) (dav_at m c t k o ho i0 i1 i2 i3 a l) (congrArg ((1 : EReal) + ·) (rd6 c t (V m c) 0 l))) (rd5 c t (V m c) 0 l)
  · subst ho
    exact (ldRow (e := .f32) (iblk m c 4 t) _ i0 a l ⟨256 * k.val + a.val, by omega⟩ rfl).trans (rd4 c t (V m c) _ l (row t k a) rfl)

include ho in
/-- The same, wherever it lies in the array. -/
theorem piece7_at (a : Fin 256) (l : Fin 1024) (i : S8192x1024.Idx) (e0 : (i 0).val = 512 * t.val + (o + a.val)) (e1 : (i 1).val = l.val) :
    (k0_pay13 (F := Ideal) (View.ld (iblk m c 4 t) (Rect.unit ![o, 0] S256x1024.size i0)) (k0_pay8 (View.ld (iblk m c 3 t) (Rect.unit ![o, 0] S256x1024.size i0)))
      (k0_pay9 (View.ld (iblk m c 3 t) (Rect.unit ![o, 0] S256x1024.size i0)))
      (k0_pay12 (iblk m c 5 t) (iblk m c 6 t) (View.ld (iblk m c 0 t) (Rect.unit ![o, 0] S256x1024.size i0)) (View.ld (iblk m c 2 t) (Rect.unit ![0, 0] S1024x1024.size i2))
        (View.ld (iblk m c 1 t) (Rect.unit ![o, 0] S256x1536.size i1)) (View.ld (iblk m c 2 t) (Rect.unit ![1024, 0] S1536x1024.size i3))) (ix2 a l) : EReal)
      = dX m c i := by
  have hi : i = (ix2 (row t k a) l : S8192x1024.Idx) := by
    funext b
    fin_cases b
    exacts [Fin.ext (e0.trans (by rw [ho]; rfl)), Fin.ext e1]
  rw [hi]
  exact piece7 m c t k o ho i0 i1 i2 i3 a l

/-- One half's rows of a function of the rows, summed. -/
theorem half_sum (f : Fin 8192 → EReal) (h : Fin 256 → EReal) (e : ∀ a, h a = f (row t k a)) :
    ∑ a : Fin 256, h a = Rows.part f 256 (2 * t.val + k.val) :=
  Fintype.sum_congr _ _ fun a => (e a).trans (Rows.ext_at f (row t k a) (by show 256 * (2 * t.val + k.val) + a.val = 512 * t.val + (256 * k.val + a.val); omega)).symm

variable (acc : FVec Ideal S1x1024 .f32) (z : Fin 1) (l : Fin 1024)

include ho in
/-- One half's share of the second result. -/
theorem piece8 : (k0_pay14 (F := Ideal) (prod m c t o i0 i1 i2 i3) acc (ix2 z l) : EReal) = acc (ix2 z l) + Rows.part (f8 m c l) 256 (2 * t.val + k.val) :=
  (pay14_at _ _ z l).trans (congrArg (acc (ix2 z l) + ·) (half_sum t k _ _ fun a => dav_at m c t k o ho i0 i1 i2 i3 a l))

include ho in
/-- One half's share of the third result. -/
theorem piece9 : (k0_pay15 (F := Ideal) (prod m c t o i0 i1 i2 i3) (k0_pay10 (iblk m c 5 t) (View.ld (iblk m c 3 t) (Rect.unit ![o, 0] S256x1024.size i0))) acc (ix2 z l) : EReal)
    = acc (ix2 z l) + Rows.part (f9 m c l) 256 (2 * t.val + k.val) := by
  refine (pay15_at _ _ _ z l).trans (congrArg (acc (ix2 z l) + ·) (half_sum t k _ _ fun a => congrArg₂ (· * ·) (dav_at m c t k o ho i0 i1 i2 i3 a l) ?_))
  exact (pay10_at _ _ a l).trans (congrArg₂ (· * ·) (nrm_at m c t k o ho i0 a l) (rd5 c t (V m c) 0 l))

include ho in
/-- One half's share of the fourth result. -/
theorem piece10 : (k0_pay16 (F := Ideal) (k0_pay9 (View.ld (iblk m c 3 t) (Rect.unit ![o, 0] S256x1024.size i0)))
      (k0_pay11 (iblk m c 6 t) (View.ld (iblk m c 0 t) (Rect.unit ![o, 0] S256x1024.size i0)) (View.ld (iblk m c 2 t) (Rect.unit ![0, 0] S1024x1024.size i2))
        (View.ld (iblk m c 1 t) (Rect.unit ![o, 0] S256x1536.size i1)) (View.ld (iblk m c 2 t) (Rect.unit ![1024, 0] S1536x1024.size i3))) acc (ix2 z l) : EReal)
    = acc (ix2 z l) + Rows.part (f10 m c l) 256 (2 * t.val + k.val) := by
  refine (pay16_at _ _ _ z l).trans (congrArg (acc (ix2 z l) + ·) (half_sum t k _ _ fun a => congrArg₂ (· * ·) ?_ (nrm_at m c t k o ho i0 a l)))
  exact (pay11_at _ _ _ _ _ a l).trans (congrArg₂ (· * ·) (dav_at m c t k o ho i0 i1 i2 i3 a l) (congrArg ((1 : EReal) + ·) (rd6 c t (V m c) 0 l)))

end

set_option maxHeartbeats 4000000 in
/-- What a grid point leaves of the first result, wherever it lies in the array. -/
theorem after7 (y : S512x1024.Idx) (i : S8192x1024.Idx) (e0 : (i 0).val = 512 * t.val + (y 0).val) (e1 : (i 1).val = (y 1).val) :
    (outsAt0 m c t.val t.isLt).1 y = dX m c i := by
  by_cases hc : t.val % 16 = 0
  on_goal 1 => rw [outsAt0_A m c t hc]
  on_goal 2 => rw [outsAt0_B m c t hc]
  all_goals
    frame_out
    clear hc
    canon_tiles x h
    on_goal 1 =>
      idx_vars x
      refine (congrFun (pay21_eq _ _ _ _ _ _ _ _) _).trans (piece7_at m c t 1 256 rfl _ _ _ _ x0 x1 i ?_ ?_)
    on_goal 3 =>
      idx_vars x
      refine piece7_at m c t 0 0 rfl _ _ _ _ x0 x1 i ?_ ?_
    all_goals omega

/-- The first result: the gradient of the rows. -/
theorem final7 : (dats m 0 c).arrAt 7 cfg0.N = dX m c := by
  refine (dats m 0 c).arrAt_eq_of_covers 7 _ (by decide +kernel) fun t hf y => ?_
  blk_simp
  rw [after0_7]
  refine after7 m c t _ _ ?_ ?_ <;> blk_simp [idx t]
  omega

/-- The sums start at zero. -/
theorem zeros (y : S1x1024.Idx) : (k0_pay4 (F := Ideal) y : EReal) = 0 ∧ (k0_pay5 (F := Ideal) y : EReal) = 0 ∧ (k0_pay6 (F := Ideal) y : EReal) = 0 := by
  idx_vars y
  refine ⟨?_, ?_, ?_⟩ <;> pointwise [k0_pay4, k0_pay5, k0_pay6]

/-- Two halves' shares on top of what was there are the tile's share on top of it. -/
theorem two_halves (f : Fin 8192 → EReal) (p : ℕ) {u v w : EReal} (h1 : u = v + Rows.part f 256 (2 * p + 1)) (h0 : v = w + Rows.part f 256 (2 * p + 0)) :
    u = w + Rows.part f 512 p := by
  rw [h1, h0, add_assoc, part_two]

set_option maxHeartbeats 4000000 in
/-- The first grid point leaves its share of the three sums. -/
theorem start (y : S1x1024.Idx) (hc : t.val % 16 = 0) :
    (outsAt0 m c t.val t.isLt).2.1 y = (0 + Rows.part (f8 m c (y 1)) 512 t.val : EReal)
    ∧ (outsAt0 m c t.val t.isLt).2.2.1 y = (0 + Rows.part (f9 m c (y 1)) 512 t.val : EReal)
    ∧ (outsAt0 m c t.val t.isLt).2.2.2 y = (0 + Rows.part (f10 m c (y 1)) 512 t.val : EReal) := by
  rw [outsAt0_A m c t hc]
  refine ⟨?_, ?_, ?_⟩
  all_goals
    frame_out
    idx_vars y
  · exact (two_halves (f8 m c y1) t.val ((congrFun (pay22_eq _ _ _ _ _) _).trans (piece8 m c t 1 256 rfl _ _ _ _ _ y0 y1))
      (piece8 m c t 0 0 rfl _ _ _ _ _ y0 y1)).trans (congrArg (· + _) (zeros _).1)
  · exact (two_halves (f9 m c y1) t.val ((congrFun (pay23_eq _ _ _ _ _ _ _) _).trans (piece9 m c t 1 256 rfl _ _ _ _ _ y0 y1))
      (piece9 m c t 0 0 rfl _ _ _ _ _ y0 y1)).trans (congrArg (· + _) (zeros _).2.1)
  · exact (two_halves (f10 m c y1) t.val ((congrFun (pay3_eq _ _ _ _ _ _ _) _).trans (piece10 m c t 1 256 rfl _ _ _ _ _ y0 y1))
      (piece10 m c t 0 0 rfl _ _ _ _ _ y0 y1)).trans (congrArg (· + _) (zeros _).2.2)

set_option maxHeartbeats 4000000 in
/-- Every other grid point adds its share to the three sums. -/
theorem step (y : S1x1024.Idx) (hc : ¬t.val % 16 = 0) :
    (outsAt0 m c t.val t.isLt).2.1 y = ((outsAt0 m c (t.val - 1) (Nat.lt_of_le_of_lt (Nat.sub_le ..) t.isLt)).2.1 y + Rows.part (f8 m c (y 1)) 512 t.val : EReal)
    ∧ (outsAt0 m c t.val t.isLt).2.2.1 y = ((outsAt0 m c (t.val - 1) (Nat.lt_of_le_of_lt (Nat.sub_le ..) t.isLt)).2.2.1 y + Rows.part (f9 m c (y 1)) 512 t.val : EReal)
    ∧ (outsAt0 m c t.val t.isLt).2.2.2 y = ((outsAt0 m c (t.val - 1) (Nat.lt_of_le_of_lt (Nat.sub_le ..) t.isLt)).2.2.2 y + Rows.part (f10 m c (y 1)) 512 t.val : EReal) := by
  rw [outsAt0_B m c t hc]
  refine ⟨?_, ?_, ?_⟩
  all_goals
    frame_out
    idx_vars y
  · exact two_halves (f8 m c y1) t.val ((congrFun (pay22_eq _ _ _ _ _) _).trans (piece8 m c t 1 256 rfl _ _ _ _ _ y0 y1))
      (piece8 m c t 0 0 rfl _ _ _ _ _ y0 y1)
  · exact two_halves (f9 m c y1) t.val ((congrFun (pay23_eq _ _ _ _ _ _ _) _).trans (piece9 m c t 1 256 rfl _ _ _ _ _ y0 y1))
      (piece9 m c t 0 0 rfl _ _ _ _ _ y0 y1)
  · exact two_halves (f10 m c y1) t.val ((congrFun (pay3_eq _ _ _ _ _ _ _) _).trans (piece10 m c t 1 256 rfl _ _ _ _ _ y0 y1))
      (piece10 m c t 0 0 rfl _ _ _ _ _ y0 y1)

/-- The shares of the 16 grid points together are the sum over all rows. -/
theorem sum_at (f : Fin 1024 → Fin 8192 → EReal) (l l' : Fin 1024) (h : l.val = l'.val) (e : Fin 16 → ℕ) (he : ∀ s, e s = s.val) :
    ∑ s : Fin 16, Rows.part (f l') 512 (e s) = ∑ r, f l r := by
  obtain rfl : l = l' := Fin.ext h
  exact Rows.sum_part (f l) rfl e he

/-- The second result: the column sums of the product. -/
theorem final8 : (dats m 0 c).arrAt 8 cfg0.N = fun i : S1x1024.Idx => ∑ r, f8 m c (i 1) r := by
  refine (dats m 0 c).arrAt_eq_of_covers 8 _ (by decide +kernel) fun t hf y => ?_
  blk_simp
  rw [after0_8, Pipeline.eq_sum_fin_of_reset_step_apply_of_flush (fun n h => (outsAt0 m c n h).2.1) 16 (fun _ => 0)
    (fun p x => Rows.part (f8 m c (x 1)) 512 p.val) (fun t h x => (start m c t x h).1) (fun t h x => (step m c t x h).1) t ((flush0_8 t).mp hf) _, zero_add]
  have ht : t.val < 16 := lt_of_lt_of_eq t.isLt (by decide)
  refine sum_at (f8 m c) _ _ ?_ _ fun s => ?_
  · blk_simp [idx t]
  · simp only
    omega

/-- The third result: the column sums of the product times the normalised rows and the gain. -/
theorem final9 : (dats m 0 c).arrAt 9 cfg0.N = fun i : S1x1024.Idx => ∑ r, f9 m c (i 1) r := by
  refine (dats m 0 c).arrAt_eq_of_covers 9 _ (by decide +kernel) fun t hf y => ?_
  blk_simp
  rw [after0_9, Pipeline.eq_sum_fin_of_reset_step_apply_of_flush (fun n h => (outsAt0 m c n h).2.2.1) 16 (fun _ => 0)
    (fun p x => Rows.part (f9 m c (x 1)) 512 p.val) (fun t h x => (start m c t x h).2.1) (fun t h x => (step m c t x h).2.1) t ((flush0_9 t).mp hf) _, zero_add]
  have ht : t.val < 16 := lt_of_lt_of_eq t.isLt (by decide)
  refine sum_at (f9 m c) _ _ ?_ _ fun s => ?_
  · blk_simp [idx t]
  · simp only
    omega

/-- The fourth result: the column sums for the gain. -/
theorem final10 : (dats m 0 c).arrAt 10 cfg0.N = fun i : S1x1024.Idx => ∑ r, f10 m c (i 1) r := by
  refine (dats m 0 c).arrAt_eq_of_covers 10 _ (by decide +kernel) fun t hf y => ?_
  blk_simp
  rw [after0_10, Pipeline.eq_sum_fin_of_reset_step_apply_of_flush (fun n h => (outsAt0 m c n h).2.2.2) 16 (fun _ => 0)
    (fun p x => Rows.part (f10 m c (x 1)) 512 p.val) (fun t h x => (start m c t x h).2.2) (fun t h x => (step m c t x h).2.2) t ((flush0_10 t).mp hf) _, zero_add]
  have ht : t.val < 16 := lt_of_lt_of_eq t.isLt (by decide)
  refine sum_at (f10 m c) _ _ ?_ _ fun s => ?_
  · blk_simp [idx t]
  · simp only
    omega

end Cert.InProjValue

end
-- ==== Proof.InProj.lean ====
/-
  The input projection, backward: the reference's four results, and that the two programs' results are the same.
-/
module

public import proofs.«01_k».proof.Defs
public import proofs.«01_k».proof.Proof.InProjRun
public import proofs.«01_k».proof.Proof.Gen.InProjIdeal.Value
public import proofs.«01_k».proof.Proof.Gen.InProjRefIdeal.Run
public import proofs.«01_k».proof.Proof.Gen.InProjRefIdeal
public import proofs.«01_k».proof.Proof.Gen.Pre_in_finite
public import Idealize.ShloMosaic.Lib.Quiescent

@[expose] public section

set_option maxRecDepth 16384

noncomputable section

open Idealize.ShloMosaic Idealize.ShloMosaic.TcCoe Idealize.SL.Sem

namespace Cert.InProjValue

open Cert.InProjRefIdeal Cert.InProjRefIdeal.Gen Cert.InProjRefIdeal.Value
open Cert.FfnUpLastValue (w1024 up dx nrm)

/-- The reference's product of the two gradients side by side is the sum of the two halves' products. -/
theorem dot_at (G : FVec Ideal S8192x1024 .bf16) (V : FVec Ideal S8192x1536 .bf16) (W : FVec Ideal S1024x2560 .f32) (r : Fin 8192) (l : Fin 1024) :
    (Host.dotGeneral (F := Ideal) dot_S8192x2560_S1024x2560_S8192x1024_1_1_0_0_n_n none
        (concatenate S8192x2560 1 [⟨S8192x1024, (extf .f32 G bitsLt_bf16_f32)⟩, ⟨S8192x1536, (extf .f32 V bitsLt_bf16_f32)⟩] concatenates_S8192x1024_S8192x1536_S8192x2560_d1)
        W (ix2 r l) : EReal) = dav G V W r l := by
  pointwise
  unfold dav
  rfl

variable (m' : (ℓ : Loc Cert.InProjRefIdeal.nD Cert.InProjRefIdeal.τ Cert.InProjRefIdeal.sig) → Buf (Elt Ideal) ℓ)
variable (c : Dev Cert.InProjRefIdeal.nD)
variable (x R : FVec Ideal S8192x1024 .f32) (g s : FVec Ideal S1x1024 .f32) (W : FVec Ideal S1024x2560 .f32) (G : FVec Ideal S8192x1024 .bf16) (V : FVec Ideal S8192x1536 .bf16)
variable (ex : m' ((c.tc : Thread Cert.InProjRefIdeal.nD Cert.InProjRefIdeal.τ).loc main_arg0) = x)
variable (eg : m' ((c.tc : Thread Cert.InProjRefIdeal.nD Cert.InProjRefIdeal.τ).loc main_arg1) = g)
variable (es : m' ((c.tc : Thread Cert.InProjRefIdeal.nD Cert.InProjRefIdeal.τ).loc main_arg2) = s)
variable (eW : m' ((c.tc : Thread Cert.InProjRefIdeal.nD Cert.InProjRefIdeal.τ).loc main_arg4) = W)
variable (eG : m' ((c.tc : Thread Cert.InProjRefIdeal.nD Cert.InProjRefIdeal.τ).loc main_arg5) = G)
variable (eV : m' ((c.tc : Thread Cert.InProjRefIdeal.nD Cert.InProjRefIdeal.τ).loc main_arg6) = V)
variable (eR : m' ((c.tc : Thread Cert.InProjRefIdeal.nD Cert.InProjRefIdeal.τ).loc main_arg7) = R)

include ex eg es eW eG eV eR in
/-- The reference's gradient of the rows: the gradient that goes past the block and the sum of the rules. -/
theorem ref_dx (r : Fin 8192) (l : Fin 1024) : (res_main_v52 m' c : FVec Ideal S8192x1024 .f32) (ix2 r l)
    = NormRow.rules w1024 (fun l => x (ix2 r l)) (up (dav G V W) g s r) l + R (ix2 r l) := by
  unfold res_main_v52
  rw [ex, eg, es, eW, eG, eV, eR]
  have hd : ∀ r l, (Host.dotGeneral (F := Ideal) dot_S8192x2560_S1024x2560_S8192x1024_1_1_0_0_n_n none
        (concatenate S8192x2560 1 [⟨S8192x1024, (extf .f32 G bitsLt_bf16_f32)⟩, ⟨S8192x1536, (extf .f32 V bitsLt_bf16_f32)⟩] concatenates_S8192x1024_S8192x1536_S8192x2560_d1)
        W (ix2 r l) : EReal) = dav G V W r l := dot_at G V W
  generalize Host.dotGeneral (F := Ideal) dot_S8192x2560_S1024x2560_S8192x1024_1_1_0_0_n_n none _ _ = P at hd ⊢
  pointwise
  simp only [Fin.sum_univ_one, hd]
  unfold NormRow.rules
  rw [add_comm _ (R (ix2 r l)), ← add_assoc, ← add_assoc]
  rfl

/-- Under the precondition the arguments the gradient of the rows depends on are arrays of real numbers. -/
theorem reals (A : FVec Ideal S8192x1024 .f32) (B C D : FVec Ideal S1x1024 .f32) (E : FVec Ideal S1024x2560 .f32) (F : FVec Ideal S8192x1024 .bf16) (H : FVec Ideal S8192x1536 .bf16)
    (K : FVec Ideal S8192x1024 .f32) (h : Cert.Pre_in_finite.fn A B C D E F H K = fun _ => 1#1) :
    Lift.IsReal (s := S8192x1024) A ∧ Lift.IsReal (s := S1x1024) B ∧ Lift.IsReal (s := S1x1024) C ∧ Lift.IsReal (s := S1024x2560) E
      ∧ Lift.IsReal (s := S8192x1024) F ∧ Lift.IsReal (s := S8192x1536) H := by
  have h0 := congrFun h (ix1 0)
  have h1 := congrFun h (ix1 1)
  have h2 := congrFun h (ix1 2)
  have h3 := congrFun h (ix1 3)
  have h4 := congrFun h (ix1 4)
  have h5 := congrFun h (ix1 5)
  clear h
  unfold Cert.Pre_in_finite.fn Cert.Pre_in_finite.fn_part1 at h0 h1 h2 h3 h4 h5
  simp [concatenate_cons_apply, concatenateAt_cons, concatenateAt_singleton] at h0 h1 h2 h3 h4 h5
  exact ⟨Lift.real_of_all A _ h0, Lift.real_of_all B _ h1, Lift.real_of_all C _ h2, Lift.real_of_all E _ h3, Lift.real_of_all F _ h4, Lift.real_of_all H _ h5⟩

/-- The gradient that arrives at a normalised row is real. -/
theorem up_real {g s : FVec Ideal S1x1024 .f32} {W : FVec Ideal S1024x2560 .f32} {G : FVec Ideal S8192x1024 .bf16} {V : FVec Ideal S8192x1536 .bf16}
    (hg : Lift.IsReal (s := S1x1024) g) (hs : Lift.IsReal (s := S1x1024) s) (hW : Lift.IsReal (s := S1024x2560) W)
    (hG : Lift.IsReal (s := S8192x1024) G) (hV : Lift.IsReal (s := S8192x1536) V) (r : Fin 8192) : NormRow.Real (up (dav G V W) g s r) :=
  (((NormRow.Real.dot (NormRow.Real.of hG _) fun _ => NormRow.Real.of hW _).add
    (NormRow.Real.dot (NormRow.Real.of hV _) fun _ => NormRow.Real.of hW _)).mul
    (NormRow.Real.add (x := fun _ => 1) ⟨fun _ => 1, rfl⟩ (NormRow.Real.of hs _))).mul (NormRow.Real.of hg _)

/-- The reference's executions end, with its arguments unchanged and every counter at zero. -/
theorem refFrame : Cert.quiescent_InProjRefIdeal := fun m ρ _ =>
  (θ_run _ _ _).mono (fun r h => ⟨fun c => (h c).2.2.2.2, sem_eq_zero_of_no_sems rfl r.2⟩)
    (Cert.InProjRefIdeal.Value.run m ρ)

/-- The two programs' results are the same arrays, for finite arguments. -/
theorem algebraic : Cert.algebraic_InProjIdeal_InProjRefIdeal_pre_in_finite := by
  intro m g m' g' hpre hagree
  refine ⟨fun c => (Cert.InProjIdeal.Gen.dats m 0 c).arrAt 7 Cert.InProjIdeal.cfg0.N, fun c => (Cert.InProjIdeal.Gen.dats m 0 c).arrAt 8 Cert.InProjIdeal.cfg0.N,
    fun c => (Cert.InProjIdeal.Gen.dats m 0 c).arrAt 9 Cert.InProjIdeal.cfg0.N, fun c => (Cert.InProjIdeal.Gen.dats m 0 c).arrAt 10 Cert.InProjIdeal.cfg0.N,
    Cert.InProjIdeal.Value.run_blocks m g, (θ_run _ _ _).mono (fun r h c => ?_) (Cert.InProjRefIdeal.Value.run m' g')⟩
  obtain ⟨h0, h1, h2, h3, h⟩ := h c
  obtain ⟨a0, a1, a2, _, a4, a5, a6, a7⟩ := hagree c
  obtain ⟨hx, hg, hs, hW, hG, hV⟩ := reals _ _ _ _ _ _ _ _ (hpre c)
  refine ⟨h0.trans (funext fun x => ?_), h1.trans (funext fun x => ?_), h2.trans (funext fun x => ?_), h3.trans (funext fun x => ?_), h⟩
  · refine .trans ?_ (congrFun (final7 m c) x).symm
    idx_vars x
    refine (ref_dx m' c _ _ _ _ _ _ _ a0 a1 a2 a4 a5 a6 a7 x0 x1).trans ?_
    unfold dX dx
    exact congrArg (· + _) (NormRow.closed_eq (n := 1024) (by norm_num) Lift.ofBits_1024 (NormRow.Real.of hx _) (up_real hg hs hW hG hV x0) x1).symm
  · refine .trans ?_ (congrFun (final8 m c) x).symm
    rw [a4, a5, a6]
    idx_vars x
    have hd := dot_at (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg4))
    generalize Host.dotGeneral (F := Ideal) dot_S8192x2560_S1024x2560_S8192x1024_1_1_0_0_n_n none _ _ = P at hd ⊢
    pointwise
    simp only [hd]
    rfl
  · refine .trans ?_ (congrFun (final9 m c) x).symm
    rw [a0, a1, a4, a5, a6]
    idx_vars x
    have hd := dot_at (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg4))
    generalize Host.dotGeneral (F := Ideal) dot_S8192x2560_S1024x2560_S8192x1024_1_1_0_0_n_n none _ _ = P at hd ⊢
    pointwise
    simp only [hd]
    exact Fintype.sum_congr _ _ fun r => mul_comm _ _
  · refine .trans ?_ (congrFun (final10 m c) x).symm
    rw [a0, a2, a4, a5, a6]
    idx_vars x
    have hd := dot_at (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg4))
    generalize Host.dotGeneral (F := Ideal) dot_S8192x2560_S1024x2560_S8192x1024_1_1_0_0_n_n none _ _ = P at hd ⊢
    pointwise
    simp only [hd]
    exact Fintype.sum_congr _ _ fun r => mul_comm _ _

end Cert.InProjValue

end
-- ==== Proof.FfnUpTile.lean ====
/-
  The up projection behind a gated residual, backward: what the kernel computes of one tile of rows.
-/
module

public import proofs.«01_k».proof.Proof.Gen.FfnUpIdeal.Frame
public import proofs.«01_k».proof.Proof.FfnUpLastRun

@[expose] public section

set_option maxRecDepth 16384

noncomputable section

open Idealize.ShloMosaic Idealize.ShloMosaic.TcCoe Idealize.SL.Sem

namespace Cert.FfnUpValue

open Cert.FfnUpIdeal Cert.FfnUpIdeal.Gen
open Cert.FfnUpLastValue (w1024 dav up dx nrm)

/-- The rows after the gated residual. -/
def res (x y : FVec Ideal S8192x1024 .f32) (z : FVec Ideal S1x1024 .f32) : FVec Ideal S8192x1024 .f32 :=
  addf x (mulf (broadcastInDim S8192x1024 ![0, 1] bcast_S1x1024_S8192x1024_0_1 z) y)

/-- What the body computes of a tile's product: the gate's half and the value's half. -/
theorem pay7_at (A B : FVec Ideal S256x2816 .bf16) (P Q : FVec Ideal S2816x1024 .bf16) (a : Fin 256) (l : Fin 1024) :
    (k0_pay7 (F := Ideal) A P B Q (ix2 a l) : EReal) = (∑ k : Fin 2816, A (ix2 a k) * P (ix2 k l)) + ∑ k : Fin 2816, B (ix2 a k) * Q (ix2 k l) := by
  pointwise [k0_pay7]

/-- The product scaled by one plus the conditioning's scale. -/
theorem pay12_at (s : FVec Ideal S1x1024 .f32) (D : FVec Ideal S256x1024 .f32) (a : Fin 256) (l : Fin 1024) :
    (k0_pay12 (F := Ideal) s D (ix2 a l) : EReal) = D (ix2 a l) * (1 + s (ix2 0 l)) := by
  pointwise [k0_pay12]

/-- A normalised row. -/
theorem pay10_at (X : FVec Ideal S256x1024 .f32) (a : Fin 256) (l : Fin 1024) :
    (k0_pay10 (F := Ideal) X (ix2 a l) : EReal) = X (ix2 a l) * NormRow.rms w1024 (fun l => X (ix2 a l)) := by
  pointwise [k0_pay10, k0_pay9, k0_pay8]
  rfl

/-- A normalised row times the gain. -/
theorem pay11_at (g : FVec Ideal S1x1024 .f32) (X : FVec Ideal S256x1024 .f32) (a : Fin 256) (l : Fin 1024) :
    (k0_pay11 (F := Ideal) g X (ix2 a l) : EReal) = k0_pay10 (F := Ideal) X (ix2 a l) * g (ix2 0 l) := by
  pointwise [k0_pay11]

/-- The gradient of a tile's rows: the closed form of the norm's gradient, and the gradient that goes past the block. -/
theorem pay13_at (g s : FVec Ideal S1x1024 .f32) (D R X : FVec Ideal S256x1024 .f32) (a : Fin 256) (l : Fin 1024) :
    (k0_pay13 (F := Ideal) g s D R (k0_pay9 X) (k0_pay10 X) (ix2 a l) : EReal)
      = NormRow.closed w1024 (fun l => X (ix2 a l)) (fun l => D (ix2 a l) * (1 + s (ix2 0 l)) * g (ix2 0 l)) l + R (ix2 a l) := by
  pointwise [k0_pay13, k0_pay12, k0_pay10, k0_pay9, k0_pay8]
  rfl

/-- The same times the residual's gate. -/
theorem pay16_at (g s z : FVec Ideal S1x1024 .f32) (D R N : FVec Ideal S256x1024 .f32) (q : FVec Ideal S256x1 .f32) (a : Fin 256) (l : Fin 1024) :
    (k0_pay16 (F := Ideal) g s z D R q N (ix2 a l) : EReal) = k0_pay13 (F := Ideal) g s D R q N (ix2 a l) * z (ix2 0 l) := by
  pointwise [k0_pay16]

/-- A tile's column sums of the product, on top of what was there. -/
theorem pay17_at (D : FVec Ideal S256x1024 .f32) (acc : FVec Ideal S1x1024 .f32) (z : Fin 1) (l : Fin 1024) :
    (k0_pay17 (F := Ideal) D acc (ix2 z l) : EReal) = acc (ix2 z l) + ∑ a : Fin 256, D (ix2 a l) := by
  pointwise [k0_pay17]

/-- A tile's column sums of the product times the normalised rows, on top of what was there. -/
theorem pay18_at (D N : FVec Ideal S256x1024 .f32) (acc : FVec Ideal S1x1024 .f32) (z : Fin 1) (l : Fin 1024) :
    (k0_pay18 (F := Ideal) D N acc (ix2 z l) : EReal) = acc (ix2 z l) + ∑ a : Fin 256, D (ix2 a l) * N (ix2 a l) := by
  pointwise [k0_pay18]

/-- The column sums for the gain, on top of what was there. -/
theorem pay1_at (s : FVec Ideal S1x1024 .f32) (D N : FVec Ideal S256x1024 .f32) (acc : FVec Ideal S1x1024 .f32) (z : Fin 1) (l : Fin 1024) :
    (k0_pay1 (F := Ideal) (k0_pay14 s D N) acc (ix2 z l) : EReal) = acc (ix2 z l) + ∑ a : Fin 256, k0_pay12 (F := Ideal) s D (ix2 a l) * N (ix2 a l) := by
  pointwise [k0_pay1, k0_pay14]

/-- The column sums for the residual's gate, on top of what was there. -/
theorem pay2_at (g s : FVec Ideal S1x1024 .f32) (D R Y N : FVec Ideal S256x1024 .f32) (q : FVec Ideal S256x1 .f32) (acc : FVec Ideal S1x1024 .f32) (z : Fin 1) (l : Fin 1024) :
    (k0_pay2 (F := Ideal) (k0_pay15 g s D R Y q N) acc (ix2 z l) : EReal)
      = acc (ix2 z l) + ∑ a : Fin 256, k0_pay13 (F := Ideal) g s D R q N (ix2 a l) * Y (ix2 a l) := by
  pointwise [k0_pay2, k0_pay15]

variable (m : (ℓ : Loc nD τ sig) → Buf (Elt Ideal) ℓ) (c : Dev nD)

/-- The block every window reads or writes at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![t.val, 0] ∧ win0_10.index t = ![t.val, 0]
    ∧ win0_11.index t = ![0, 0] ∧ win0_12.index t = ![0, 0] ∧ win0_13.index t = ![0, 0] ∧ win0_14.index t = ![0, 0] :=
  (by decide +kernel : ∀ t : Fin grid0.N, _)

/-- The weights the kernel reads are the argument's, transposed. -/
theorem V_w (k : Fin 5632) (l : Fin 1024) : (V m c main_v1 : FVec Ideal S5632x1024 .bf16) (ix2 k l) = (m (c.tc.loc main_arg6) : FVec Ideal S1024x5632 .f32) (ix2 l k) := by
  have e : (V m c main_v1 : FVec Ideal S5632x1024 .bf16) = truncf (F := Ideal) .bf16 (transpose S5632x1024 [1, 0] (m (c.tc.loc main_arg6) : FVec Ideal S1024x5632 .f32) transposes_S1024x5632_S5632x1024_1_0) bitsLt_bf16_f32 := by
    simp only [V, hostOps0, List.flatten_cons, List.flatten_nil, List.append_nil, List.cons_append, List.nil_append]
    after_results_simp <;> rfl
  rw [e]
  pointwise

/-- The rows the kernel reads are the rows after the gated residual. -/
theorem V_x : (V m c main_v4 : FVec Ideal S8192x1024 .f32) = res (m (c.tc.loc main_arg0)) (m (c.tc.loc main_arg1)) (m (c.tc.loc main_arg2)) := by
  simp only [V, hostOps0, List.flatten_cons, List.flatten_nil, List.append_nil, List.cons_append, List.nil_append]
  after_results_simp <;> rfl

section
variable (t : Fin cfg0.N) (X : ∀ b : Ref sig .tc, Buf (Elt Ideal) ((c : Thread nD τ).loc b))

/-- The tile of the gate's gradient. -/
theorem rd0 (b : Fin 256) (k : Fin 2816) (r : Fin 8192) (hr : r.val = 256 * t.val + b.val) :
    (((cfg0.win 0).blk t).view.read (Elt Ideal) (X (Pipeline.arrRef spec0 0)) : FVec Ideal S256x2816 .bf16) (ix2 b k) = (X main_arg7 : FVec Ideal S8192x2816 .bf16) (ix2 r k) := by
  blk_point [idx t]
  all_goals omega

/-- The tile of the value's gradient. -/
theorem rd1 (b : Fin 256) (k : Fin 2816) (r : Fin 8192) (hr : r.val = 256 * t.val + b.val) :
    (((cfg0.win 1).blk t).view.read (Elt Ideal) (X (Pipeline.arrRef spec0 1)) : FVec Ideal S256x2816 .bf16) (ix2 b k) = (X main_arg8 : FVec Ideal S8192x2816 .bf16) (ix2 r k) := by
  blk_point [idx t]
  all_goals omega

/-- The weights' window is the whole array. -/
theorem rd2 (k : Fin 5632) (l : Fin 1024) :
    (((cfg0.win 2).blk t).view.read (Elt Ideal) (X (Pipeline.arrRef spec0 2)) : FVec Ideal S5632x1024 .bf16) (ix2 k l) = (X main_v1 : FVec Ideal S5632x1024 .bf16) (ix2 k l) := by
  blk_point [idx t]

/-- The tile of the rows. -/
theorem rd3 (b : Fin 256) (k : Fin 1024) (r : Fin 8192) (hr : r.val = 256 * t.val + b.val) :
    (((cfg0.win 3).blk t).view.read (Elt Ideal) (X (Pipeline.arrRef spec0 3)) : FVec Ideal S256x1024 .f32) (ix2 b k) = (X main_v4 : FVec Ideal S8192x1024 .f32) (ix2 r k) := by
  blk_point [idx t]
  all_goals omega

/-- The tile of the gradient that goes past the block. -/
theorem rd4 (b : Fin 256) (k : Fin 1024) (r : Fin 8192) (hr : r.val = 256 * t.val + b.val) :
    (((cfg0.win 4).blk t).view.read (Elt Ideal) (X (Pipeline.arrRef spec0 4)) : FVec Ideal S256x1024 .f32) (ix2 b k) = (X main_arg9 : FVec Ideal S8192x1024 .f32) (ix2 r k) := by
  blk_point [idx t]
  all_goals omega

/-- The tile of the residual's gated rows. -/
theorem rd5 (b : Fin 256) (k : Fin 1024) (r : Fin 8192) (hr : r.val = 256 * t.val + b.val) :
    (((cfg0.win 5).blk t).view.read (Elt Ideal) (X (Pipeline.arrRef spec0 5)) : FVec Ideal S256x1024 .f32) (ix2 b k) = (X main_arg1 : FVec Ideal S8192x1024 .f32) (ix2 r k) := by
  blk_point [idx t]
  all_goals omega

/-- The gain's window is the whole array. -/
theorem rd6 (z : Fin 1) (l : Fin 1024) :
    (((cfg0.win 6).blk t).view.read (Elt Ideal) (X (Pipeline.arrRef spec0 6)) : FVec Ideal S1x1024 .f32) (ix2 z l) = (X main_arg3 : FVec Ideal S1x1024 .f32) (ix2 z l) := by
  blk_point [idx t]

/-- The scale's window is the whole array. -/
theorem rd7 (z : Fin 1) (l : Fin 1024) :
    (((cfg0.win 7).blk t).view.read (Elt Ideal) (X (Pipeline.arrRef spec0 7)) : FVec Ideal S1x1024 .f32) (ix2 z l) = (X main_arg4 : FVec Ideal S1x1024 .f32) (ix2 z l) := by
  blk_point [idx t]

/-- The residual's gate's window is the whole array. -/
theorem rd8 (z : Fin 1) (l : Fin 1024) :
    (((cfg0.win 8).blk t).view.read (Elt Ideal) (X (Pipeline.arrRef spec0 8)) : FVec Ideal S1x1024 .f32) (ix2 z l) = (X main_arg2 : FVec Ideal S1x1024 .f32) (ix2 z l) := by
  blk_point [idx t]

end

/-- What the body computes of a tile's product at a grid point. -/
abbrev prod (t : Fin cfg0.N) (inb : ∀ a, (![0, 0] : Fin 2 → ℕ) a + S2816x1024.size a ≤ S5632x1024.size a)
    (inb' : ∀ a, (![2816, 0] : Fin 2 → ℕ) a + S2816x1024.size a ≤ S5632x1024.size a) : FVec Ideal S256x1024 .f32 :=
  k0_pay7 (F := Ideal) (iblk m c 0 t) (View.ld (iblk m c 2 t) (Rect.unit ![0, 0] S2816x1024.size inb)) (iblk m c 1 t)
    (View.ld (iblk m c 2 t) (Rect.unit ![2816, 0] S2816x1024.size inb'))

/-- The whole product of the launch's arguments. -/
abbrev D : Fin 8192 → Fin 1024 → EReal := dav (m (c.tc.loc main_arg7)) (m (c.tc.loc main_arg8)) (m (c.tc.loc main_arg6))

/-- The rows after the gated residual of the launch's arguments. -/
abbrev x1 : FVec Ideal S8192x1024 .f32 := res (m (c.tc.loc main_arg0)) (m (c.tc.loc main_arg1)) (m (c.tc.loc main_arg2))

/-- A tile's row. -/
def row (t : Fin cfg0.N) (a : Fin 256) : Fin 8192 :=
  ⟨256 * t.val + a.val, by have : t.val < 32 := lt_of_lt_of_eq t.isLt (by decide); omega⟩

/-- A tile's product is the rows of the whole product. -/
theorem dav_at (t : Fin cfg0.N) (inb) (inb') (a : Fin 256) (l : Fin 1024) : prod m c t inb inb' (ix2 a l) = D m c (row t a) l := by
  refine (pay7_at _ _ _ _ a l).trans ?_
  unfold D dav
  refine congrArg₂ (· + ·) (Fintype.sum_congr _ _ fun k => congrArg₂ (· * ·) (rd0 c t (V m c) a k _ rfl) ?_)
    (Fintype.sum_congr _ _ fun k => congrArg₂ (· * ·) (rd1 c t (V m c) a k _ rfl) ?_)
  · exact (Cert.FfnUpLastValue.ldW (iblk m c 2 t) 0 inb k l ⟨k.val, by omega⟩ (by simp)).trans ((rd2 c t (V m c) _ l).trans (V_w m c _ l))
  · exact (Cert.FfnUpLastValue.ldW (iblk m c 2 t) 2816 inb' k l ⟨2816 + k.val, by omega⟩ rfl).trans ((rd2 c t (V m c) _ l).trans (V_w m c _ l))

/-- A tile's rows are the rows of the whole array. -/
theorem x1_at (t : Fin cfg0.N) (a : Fin 256) (l : Fin 1024) : (iblk m c 3 t : FVec Ideal S256x1024 .f32) (ix2 a l) = x1 m c (ix2 (row t a) l) :=
  (rd3 c t (V m c) a l _ rfl).trans (congrFun (V_x m c) _)

/-- A tile's rows are normalised as the rows of the whole array. -/
theorem nrm_at (t : Fin cfg0.N) (a : Fin 256) (l : Fin 1024) : k0_pay10 (F := Ideal) (iblk m c 3 t) (ix2 a l) = nrm (x1 m c) (row t a) l := by
  refine (pay10_at _ a l).trans ?_
  unfold nrm
  exact congrArg₂ (· * ·) (x1_at m c t a l) (congrArg (NormRow.rms w1024) (funext fun l => x1_at m c t a l))

/-- The gradient of the rows of the launch's arguments. -/
abbrev dX : S8192x1024.Idx → EReal := dx (x1 m c) (m (c.tc.loc main_arg3)) (m (c.tc.loc main_arg4)) (D m c) (m (c.tc.loc main_arg9))

/-- A tile's gradient of the rows. -/
theorem piece9 (t : Fin cfg0.N) (inb) (inb') (a : Fin 256) (l : Fin 1024) :
    (k0_pay13 (F := Ideal) (iblk m c 6 t) (iblk m c 7 t) (prod m c t inb inb') (iblk m c 4 t) (k0_pay9 (iblk m c 3 t)) (k0_pay10 (iblk m c 3 t)) (ix2 a l) : EReal)
      = dX m c (ix2 (row t a) l) := by
  refine (pay13_at _ _ _ _ _ a l).trans ?_
  unfold dX dx
  refine congrArg₂ (· + ·) (congrArg₂ (fun x u => NormRow.closed w1024 x u l) (funext fun l => x1_at m c t a l) (funext fun l => ?_)) (rd4 c t (V m c) a l _ rfl)
  unfold up
  exact congrArg₂ (· * ·) (congrArg₂ (· * ·) (dav_at m c t inb inb' a l) (congrArg ((1 : EReal) + ·) (rd7 c t (V m c) 0 l))) (rd6 c t (V m c) 0 l)

/-- The same times the residual's gate. -/
theorem piece10 (t : Fin cfg0.N) (inb) (inb') (a : Fin 256) (l : Fin 1024) :
    (k0_pay16 (F := Ideal) (iblk m c 6 t) (iblk m c 7 t) (iblk m c 8 t) (prod m c t inb inb') (iblk m c 4 t) (k0_pay9 (iblk m c 3 t)) (k0_pay10 (iblk m c 3 t)) (ix2 a l) : EReal)
      = dX m c (ix2 (row t a) l) * (m (c.tc.loc main_arg2) : FVec Ideal S1x1024 .f32) (ix2 0 l) :=
  (pay16_at _ _ _ _ _ _ _ a l).trans (congrArg₂ (· * ·) (piece9 m c t inb inb' a l) (rd8 c t (V m c) 0 l))

/-- What one row adds to each of the four column sums. -/
def f11 (l : Fin 1024) (r : Fin 8192) : EReal := D m c r l
def f12 (l : Fin 1024) (r : Fin 8192) : EReal := D m c r l * (nrm (x1 m c) r l * (m (c.tc.loc main_arg3) : FVec Ideal S1x1024 .f32) (ix2 0 l))
def f13 (l : Fin 1024) (r : Fin 8192) : EReal := D m c r l * (1 + (m (c.tc.loc main_arg4) : FVec Ideal S1x1024 .f32) (ix2 0 l)) * nrm (x1 m c) r l
def f14 (l : Fin 1024) (r : Fin 8192) : EReal := dX m c (ix2 r l) * (m (c.tc.loc main_arg1) : FVec Ideal S8192x1024 .f32) (ix2 r l)

/-- One tile's rows of a function of the rows, summed. -/
theorem tile_sum (t : Fin cfg0.N) (f : Fin 8192 → EReal) (h : Fin 256 → EReal) (e : ∀ a, h a = f (row t a)) :
    ∑ a : Fin 256, h a = Rows.part f 256 t.val :=
  Fintype.sum_congr _ _ fun a => (e a).trans (Rows.ext_at f (row t a) rfl).symm

/-- One grid point's share of the third result. -/
theorem piece11 (t : Fin cfg0.N) (inb) (inb') (acc : FVec Ideal S1x1024 .f32) (z : Fin 1) (l : Fin 1024) :
    (k0_pay17 (F := Ideal) (prod m c t inb inb') acc (ix2 z l) : EReal) = acc (ix2 z l) + Rows.part (f11 m c l) 256 t.val :=
  (pay17_at _ _ z l).trans (congrArg (acc (ix2 z l) + ·) (tile_sum t _ _ fun a => dav_at m c t inb inb' a l))

/-- One grid point's share of the fourth result. -/
theorem piece12 (t : Fin cfg0.N) (inb) (inb') (acc : FVec Ideal S1x1024 .f32) (z : Fin 1) (l : Fin 1024) :
    (k0_pay18 (F := Ideal) (prod m c t inb inb') (k0_pay11 (iblk m c 6 t) (iblk m c 3 t)) acc (ix2 z l) : EReal) = acc (ix2 z l) + Rows.part (f12 m c l) 256 t.val := by
  refine (pay18_at _ _ _ z l).trans (congrArg (acc (ix2 z l) + ·) (tile_sum t _ _ fun a => congrArg₂ (· * ·) (dav_at m c t inb inb' a l) ?_))
  exact (pay11_at _ _ a l).trans (congrArg₂ (· * ·) (nrm_at m c t a l) (rd6 c t (V m c) 0 l))

/-- One grid point's share of the fifth result. -/
theorem piece13 (t : Fin cfg0.N) (inb) (inb') (acc : FVec Ideal S1x1024 .f32) (z : Fin 1) (l : Fin 1024) :
    (k0_pay1 (F := Ideal) (k0_pay14 (iblk m c 7 t) (prod m c t inb inb') (k0_pay10 (iblk m c 3 t))) acc (ix2 z l) : EReal) = acc (ix2 z l) + Rows.part (f13 m c l) 256 t.val := by
  refine (pay1_at _ _ _ _ z l).trans (congrArg (acc (ix2 z l) + ·) (tile_sum t _ _ fun a => congrArg₂ (· * ·) ?_ (nrm_at m c t a l)))
  exact (pay12_at _ _ a l).trans (congrArg₂ (· * ·) (dav_at m c t inb inb' a l) (congrArg ((1 : EReal) + ·) (rd7 c t (V m c) 0 l)))

/-- One grid point's share of the sixth result. -/
theorem piece14 (t : Fin cfg0.N) (inb) (inb') (acc : FVec Ideal S1x1024 .f32) (z : Fin 1) (l : Fin 1024) :
    (k0_pay2 (F := Ideal) (k0_pay15 (iblk m c 6 t) (iblk m c 7 t) (prod m c t inb inb') (iblk m c 4 t) (iblk m c 5 t) (k0_pay9 (iblk m c 3 t)) (k0_pay10 (iblk m c 3 t))) acc (ix2 z l) : EReal)
      = acc (ix2 z l) + Rows.part (f14 m c l) 256 t.val := by
  refine (pay2_at _ _ _ _ _ _ _ _ z l).trans (congrArg (acc (ix2 z l) + ·) (tile_sum t _ _ fun a => congrArg₂ (· * ·) ?_ (rd5 c t (V m c) a l _ rfl)))
  exact piece9 m c t inb inb' a l

end Cert.FfnUpValue

end
-- ==== Proof.FfnUpRun.lean ====
/-
  The up projection behind a gated residual, backward: the six arrays the kernel leaves.
-/
module

public import proofs.«01_k».proof.Proof.FfnUpTile
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.FfnUpValue

open Cert.FfnUpIdeal Cert.FfnUpIdeal.Gen

variable (m : (ℓ : Loc nD τ sig) → Buf (Elt Ideal) ℓ) (c : Dev nD)

/-- The row and column of the whole array at which a tile's entry lies. -/
theorem row_eq (t : Fin cfg0.N) (y : S256x1024.Idx) (i : S8192x1024.Idx) (e0 : (i 0).val = 256 * t.val + (y 0).val) (e1 : (i 1).val = (y 1).val) :
    i = (ix2 (row t (y 0)) (y 1) : S8192x1024.Idx) := by
  funext a
  fin_cases a
  exacts [Fin.ext e0, Fin.ext e1]

/-- The gradient of the rows times the residual's gate. -/
def dxz (i : S8192x1024.Idx) : EReal := dX m c (ix2 (i 0) (i 1)) * (m (c.tc.loc main_arg2) : FVec Ideal S1x1024 .f32) (ix2 0 (i 1))

set_option maxHeartbeats 4000000 in
/-- What a grid point leaves of the first two results, wherever it lies in the arrays. -/
theorem after (t : Fin cfg0.N) (y : S256x1024.Idx) (i : S8192x1024.Idx) (e0 : (i 0).val = 256 * t.val + (y 0).val) (e1 : (i 1).val = (y 1).val) :
    (outsAt0 m c t.val t.isLt).1 y = dX m c i ∧ (outsAt0 m c t.val t.isLt).2.1 y = dxz m c i := by
  rw [row_eq t y i e0 e1]
  unfold dxz
  by_cases hc : t.val % 32 = 0
  on_goal 1 => rw [outsAt0_A m c t hc]
  on_goal 2 => rw [outsAt0_B m c t hc]
  all_goals
    refine ⟨?_, ?_⟩
    all_goals
      frame_out
      idx_vars y
    · exact piece9 m c t _ _ y0 y1
    · exact piece10 m c t _ _ y0 y1

/-- The first result: the gradient of the rows. -/
theorem final9 : (dats m 0 c).arrAt 9 cfg0.N = dX m c := by
  refine (dats m 0 c).arrAt_eq_of_covers 9 _ (by decide +kernel) fun t hf y => ?_
  blk_simp
  rw [after0_9]
  refine (after m c t _ _ ?_ ?_).1 <;> blk_simp [idx t]
  omega

/-- The second result: the same times the residual's gate. -/
theorem final10 : (dats m 0 c).arrAt 10 cfg0.N = dxz m c := by
  refine (dats m 0 c).arrAt_eq_of_covers 10 _ (by decide +kernel) fun t hf y => ?_
  blk_simp
  rw [after0_10]
  refine (after m c t _ _ ?_ ?_).2 <;> blk_simp [idx t]
  omega

/-- The sums start at zero. -/
theorem zeros (y : S1x1024.Idx) : (k0_pay3 (F := Ideal) y : EReal) = 0 ∧ (k0_pay4 (F := Ideal) y : EReal) = 0
    ∧ (k0_pay5 (F := Ideal) y : EReal) = 0 ∧ (k0_pay6 (F := Ideal) y : EReal) = 0 := by
  idx_vars y
  refine ⟨?_, ?_, ?_, ?_⟩ <;> pointwise [k0_pay3, k0_pay4, k0_pay5, k0_pay6]

set_option maxHeartbeats 4000000 in
/-- The first grid point leaves its share of the four sums. -/
theorem start (t : Fin cfg0.N) (y : S1x1024.Idx) (hc : t.val % 32 = 0) :
    (outsAt0 m c t.val t.isLt).2.2.1 y = (0 + Rows.part (f11 m c (y 1)) 256 t.val : EReal)
    ∧ (outsAt0 m c t.val t.isLt).2.2.2.1 y = (0 + Rows.part (f12 m c (y 1)) 256 t.val : EReal)
    ∧ (outsAt0 m c t.val t.isLt).2.2.2.2.1 y = (0 + Rows.part (f13 m c (y 1)) 256 t.val : EReal)
    ∧ (outsAt0 m c t.val t.isLt).2.2.2.2.2 y = (0 + Rows.part (f14 m c (y 1)) 256 t.val : EReal) := by
  rw [outsAt0_A m c t hc]
  refine ⟨?_, ?_, ?_, ?_⟩
  all_goals
    frame_out
    idx_vars y
  · exact (piece11 m c t _ _ _ y0 y1).trans (congrArg (· + _) (zeros _).1)
  · exact (piece12 m c t _ _ _ y0 y1).trans (congrArg (· + _) (zeros _).2.1)
  · exact (piece13 m c t _ _ _ y0 y1).trans (congrArg (· + _) (zeros _).2.2.1)
  · exact (piece14 m c t _ _ _ y0 y1).trans (congrArg (· + _) (zeros _).2.2.2)

set_option maxHeartbeats 4000000 in
/-- Every other grid point adds its share to the four sums. -/
theorem step (t : Fin cfg0.N) (y : S1x1024.Idx) (hc : ¬t.val % 32 = 0) :
    (outsAt0 m c t.val t.isLt).2.2.1 y = ((outsAt0 m c (t.val - 1) (Nat.lt_of_le_of_lt (Nat.sub_le ..) t.isLt)).2.2.1 y + Rows.part (f11 m c (y 1)) 256 t.val : EReal)
    ∧ (outsAt0 m c t.val t.isLt).2.2.2.1 y = ((outsAt0 m c (t.val - 1) (Nat.lt_of_le_of_lt (Nat.sub_le ..) t.isLt)).2.2.2.1 y + Rows.part (f12 m c (y 1)) 256 t.val : EReal)
    ∧ (outsAt0 m c t.val t.isLt).2.2.2.2.1 y = ((outsAt0 m c (t.val - 1) (Nat.lt_of_le_of_lt (Nat.sub_le ..) t.isLt)).2.2.2.2.1 y + Rows.part (f13 m c (y 1)) 256 t.val : EReal)
    ∧ (outsAt0 m c t.val t.isLt).2.2.2.2.2 y = ((outsAt0 m c (t.val - 1) (Nat.lt_of_le_of_lt (Nat.sub_le ..) t.isLt)).2.2.2.2.2 y + Rows.part (f14 m c (y 1)) 256 t.val : EReal) := by
  rw [outsAt0_B m c t hc]
  refine ⟨?_, ?_, ?_, ?_⟩
  all_goals
    frame_out
    idx_vars y
  · exact piece11 m c t _ _ _ y0 y1
  · exact piece12 m c t _ _ _ y0 y1
  · exact piece13 m c t _ _ _ y0 y1
  · exact piece14 m c t _ _ _ y0 y1

/-- The third result: the column sums of the product. -/
theorem final11 : (dats m 0 c).arrAt 11 cfg0.N = fun i : S1x1024.Idx => ∑ r, f11 m c (i 1) r := by
  refine (dats m 0 c).arrAt_eq_of_covers 11 _ (by decide +kernel) fun t hf y => ?_
  blk_simp
  rw [after0_11, Pipeline.eq_sum_fin_of_reset_step_apply_of_flush (fun n h => (outsAt0 m c n h).2.2.1) 32 (fun _ => 0)
    (fun p x => Rows.part (f11 m c (x 1)) 256 p.val) (fun t h x => (start m c t x h).1) (fun t h x => (step m c t x h).1) t ((flush0_11 t).mp hf) _, zero_add]
  have ht : t.val < 32 := lt_of_lt_of_eq t.isLt (by decide)
  refine FfnUpLastValue.sum_at (f11 m c) _ _ ?_ _ fun s => ?_
  · blk_simp [idx t]
  · simp only
    omega

/-- The fourth result: the column sums of the product times the normalised rows and the gain. -/
theorem final12 : (dats m 0 c).arrAt 12 cfg0.N = fun i : S1x1024.Idx => ∑ r, f12 m c (i 1) r := by
  refine (dats m 0 c).arrAt_eq_of_covers 12 _ (by decide +kernel) fun t hf y => ?_
  blk_simp
  rw [after0_12, Pipeline.eq_sum_fin_of_reset_step_apply_of_flush (fun n h => (outsAt0 m c n h).2.2.2.1) 32 (fun _ => 0)
    (fun p x => Rows.part (f12 m c (x 1)) 256 p.val) (fun t h x => (start m c t x h).2.1) (fun t h x => (step m c t x h).2.1) t ((flush0_12 t).mp hf) _, zero_add]
  have ht : t.val < 32 := lt_of_lt_of_eq t.isLt (by decide)
  refine FfnUpLastValue.sum_at (f12 m c) _ _ ?_ _ fun s => ?_
  · blk_simp [idx t]
  · simp only
    omega

/-- The fifth result: the column sums for the gain. -/
theorem final13 : (dats m 0 c).arrAt 13 cfg0.N = fun i : S1x1024.Idx => ∑ r, f13 m c (i 1) r := by
  refine (dats m 0 c).arrAt_eq_of_covers 13 _ (by decide +kernel) fun t hf y => ?_
  blk_simp
  rw [after0_13, Pipeline.eq_sum_fin_of_reset_step_apply_of_flush (fun n h => (outsAt0 m c n h).2.2.2.2.1) 32 (fun _ => 0)
    (fun p x => Rows.part (f13 m c (x 1)) 256 p.val) (fun t h x => (start m c t x h).2.2.1) (fun t h x => (step m c t x h).2.2.1) t ((flush0_13 t).mp hf) _, zero_add]
  have ht : t.val < 32 := lt_of_lt_of_eq t.isLt (by decide)
  refine FfnUpLastValue.sum_at (f13 m c) _ _ ?_ _ fun s => ?_
  · blk_simp [idx t]
  · simp only
    omega

/-- The sixth result: the column sums for the residual's gate. -/
theorem final14 : (dats m 0 c).arrAt 14 cfg0.N = fun i : S1x1024.Idx => ∑ r, f14 m c (i 1) r := by
  refine (dats m 0 c).arrAt_eq_of_covers 14 _ (by decide +kernel) fun t hf y => ?_
  blk_simp
  rw [after0_14, Pipeline.eq_sum_fin_of_reset_step_apply_of_flush (fun n h => (outsAt0 m c n h).2.2.2.2.2) 32 (fun _ => 0)
    (fun p x => Rows.part (f14 m c (x 1)) 256 p.val) (fun t h x => (start m c t x h).2.2.2) (fun t h x => (step m c t x h).2.2.2) t ((flush0_14 t).mp hf) _, zero_add]
  have ht : t.val < 32 := lt_of_lt_of_eq t.isLt (by decide)
  refine FfnUpLastValue.sum_at (f14 m c) _ _ ?_ _ fun s => ?_
  · blk_simp [idx t]
  · simp only
    omega

end Cert.FfnUpValue

end
-- ==== Proof.FfnUp.lean ====
/-
  The up projection behind a gated residual, backward: the reference's six results, and that the two programs' results are the same.
-/
module

public import proofs.«01_k».proof.Defs
public import proofs.«01_k».proof.Proof.FfnUpRun
public import proofs.«01_k».proof.Proof.FfnUpLast
public import proofs.«01_k».proof.Proof.Gen.FfnUpIdeal.Value
public import proofs.«01_k».proof.Proof.Gen.FfnUpRefIdeal.Run
public import proofs.«01_k».proof.Proof.Gen.FfnUpRefIdeal
public import proofs.«01_k».proof.Proof.Gen.Pre_up_finite
public import Idealize.ShloMosaic.Lib.Quiescent

@[expose] public section

set_option maxRecDepth 16384

noncomputable section

open Idealize.ShloMosaic Idealize.ShloMosaic.TcCoe Idealize.SL.Sem

namespace Cert.FfnUpValue

open Cert.FfnUpRefIdeal Cert.FfnUpRefIdeal.Gen Cert.FfnUpRefIdeal.Value
open Cert.FfnUpLastValue (w1024 dav up dx nrm up_real)

/-- The reference's product of the two gradients side by side is the sum of the two halves' products. -/
theorem dot_at (G V : FVec Ideal S8192x2816 .bf16) (W : FVec Ideal S1024x5632 .f32) (r : Fin 8192) (l : Fin 1024) :
    (Host.dotGeneral (F := Ideal) dot_S8192x5632_S1024x5632_S8192x1024_1_1_0_0_n_n none
        (concatenate S8192x5632 1 [⟨S8192x2816, (extf .f32 G bitsLt_bf16_f32)⟩, ⟨S8192x2816, (extf .f32 V bitsLt_bf16_f32)⟩] concatenates_S8192x2816_S8192x2816_S8192x5632_d1)
        W (ix2 r l) : EReal) = dav G V W r l := by
  pointwise
  unfold dav
  rfl

/-- A row after the gated residual, entry by entry. -/
theorem at_res (x y : FVec Ideal S8192x1024 .f32) (z : FVec Ideal S1x1024 .f32) (r : Fin 8192) (l : Fin 1024) :
    (x (ix2 r l) + z (ix2 0 l) * y (ix2 r l) : EReal) = res x y z (ix2 r l) := by
  pointwise [res]

variable (m' : (ℓ : Loc Cert.FfnUpRefIdeal.nD Cert.FfnUpRefIdeal.τ Cert.FfnUpRefIdeal.sig) → Buf (Elt Ideal) ℓ)
variable (c : Dev Cert.FfnUpRefIdeal.nD)
variable (x y R : FVec Ideal S8192x1024 .f32) (z g s : FVec Ideal S1x1024 .f32) (W : FVec Ideal S1024x5632 .f32) (G V : FVec Ideal S8192x2816 .bf16)
variable (ex : m' ((c.tc : Thread Cert.FfnUpRefIdeal.nD Cert.FfnUpRefIdeal.τ).loc main_arg0) = x)
variable (ey : m' ((c.tc : Thread Cert.FfnUpRefIdeal.nD Cert.FfnUpRefIdeal.τ).loc main_arg1) = y)
variable (ez : m' ((c.tc : Thread Cert.FfnUpRefIdeal.nD Cert.FfnUpRefIdeal.τ).loc main_arg2) = z)
variable (eg : m' ((c.tc : Thread Cert.FfnUpRefIdeal.nD Cert.FfnUpRefIdeal.τ).loc main_arg3) = g)
variable (es : m' ((c.tc : Thread Cert.FfnUpRefIdeal.nD Cert.FfnUpRefIdeal.τ).loc main_arg4) = s)
variable (eW : m' ((c.tc : Thread Cert.FfnUpRefIdeal.nD Cert.FfnUpRefIdeal.τ).loc main_arg6) = W)
variable (eG : m' ((c.tc : Thread Cert.FfnUpRefIdeal.nD Cert.FfnUpRefIdeal.τ).loc main_arg7) = G)
variable (eV : m' ((c.tc : Thread Cert.FfnUpRefIdeal.nD Cert.FfnUpRefIdeal.τ).loc main_arg8) = V)
variable (eR : m' ((c.tc : Thread Cert.FfnUpRefIdeal.nD Cert.FfnUpRefIdeal.τ).loc main_arg9) = R)

include ex ey ez eg es eW eG eV eR in
/-- The reference's gradient of the rows: the gradient that goes past the block and the sum of the rules. -/
theorem ref_dx (r : Fin 8192) (l : Fin 1024) : (res_main_v55 m' c : FVec Ideal S8192x1024 .f32) (ix2 r l)
    = NormRow.rules w1024 (fun l => res x y z (ix2 r l)) (up (dav G V W) g s r) l + R (ix2 r l) := by
  unfold res_main_v55
  rw [ex, ey, ez, eg, es, eW, eG, eV, eR]
  have hd := dot_at G V W
  generalize Host.dotGeneral (F := Ideal) dot_S8192x5632_S1024x5632_S8192x1024_1_1_0_0_n_n none _ _ = P at hd ⊢
  pointwise
  simp only [Fin.sum_univ_one, hd, at_res]
  unfold NormRow.rules
  rw [add_comm _ (R (ix2 r l)), ← add_assoc, ← add_assoc]
  rfl

include ez in
/-- The reference's gradient of the mixer's rows is the gradient of the rows times the residual's gate. -/
theorem ref_dxz (P : FVec Ideal S8192x1024 .f32) (eP : (res_main_v55 m' c : FVec Ideal S8192x1024 .f32) = P) (r : Fin 8192) (l : Fin 1024) : (res_main_v62 m' c : FVec Ideal S8192x1024 .bf16) (ix2 r l)
    = (P (ix2 r l) * z (ix2 0 l) : EReal) := by
  unfold res_main_v55 at eP
  unfold res_main_v62
  rw [eP, ez]
  pointwise
  exact mul_comm (z (ix2 0 l) : EReal) (P (ix2 r l))

include ey in
/-- The reference's gradient of the residual's gate is the column sums of the gradient of the rows times the mixer's rows. -/
theorem ref_dz (d : Fin 8192 → Fin 1024 → EReal) (hd : ∀ r l, (res_main_v55 m' c : FVec Ideal S8192x1024 .f32) (ix2 r l) = d r l) (w : Fin 1) (l : Fin 1024) : (res_main_v61 m' c : FVec Ideal S1x1024 .f32) (ix2 w l)
    = (∑ r : Fin 8192, d r l * y (ix2 r l) : EReal) := by
  obtain ⟨P, eP⟩ : ∃ P : FVec Ideal S8192x1024 .f32, (res_main_v55 m' c : FVec Ideal S8192x1024 .f32) = P := ⟨_, rfl⟩
  rw [eP] at hd
  unfold res_main_v55 at eP
  unfold res_main_v61
  rw [eP, ey]
  pointwise
  simp only [hd]

/-- Under the precondition the arguments the gradient of the rows depends on are arrays of real numbers. -/
theorem reals (A0 A1 : FVec Ideal S8192x1024 .f32) (A2 A3 A4 A5 : FVec Ideal S1x1024 .f32) (A6 : FVec Ideal S1024x5632 .f32) (A7 A8 : FVec Ideal S8192x2816 .bf16)
    (A9 : FVec Ideal S8192x1024 .f32) (h : Cert.Pre_up_finite.fn A0 A1 A2 A3 A4 A5 A6 A7 A8 A9 = fun _ => 1#1) :
    Lift.IsReal (s := S8192x1024) A0 ∧ Lift.IsReal (s := S8192x1024) A1 ∧ Lift.IsReal (s := S1x1024) A2 ∧ Lift.IsReal (s := S1x1024) A3 ∧ Lift.IsReal (s := S1x1024) A4
      ∧ Lift.IsReal (s := S1024x5632) A6 ∧ Lift.IsReal (s := S8192x2816) A7 ∧ Lift.IsReal (s := S8192x2816) A8 := by
  have h0 := congrFun h (ix1 0)
  have h1 := congrFun h (ix1 1)
  have h2 := congrFun h (ix1 2)
  have h3 := congrFun h (ix1 3)
  have h4 := congrFun h (ix1 4)
  have h5 := congrFun h (ix1 5)
  have h6 := congrFun h (ix1 6)
  have h7 := congrFun h (ix1 7)
  clear h
  unfold Cert.Pre_up_finite.fn Cert.Pre_up_finite.fn_part1 Cert.Pre_up_finite.fn_part2 at h0 h1 h2 h3 h4 h5 h6 h7
  simp [concatenate_cons_apply, concatenateAt_cons, concatenateAt_singleton] at h0 h1 h2 h3 h4 h5 h6 h7
  exact ⟨Lift.real_of_all A0 _ h0, Lift.real_of_all A1 _ h1, Lift.real_of_all A2 _ h2, Lift.real_of_all A3 _ h3, Lift.real_of_all A4 _ h4, Lift.real_of_all A6 _ h5,
    Lift.real_of_all A7 _ h6, Lift.real_of_all A8 _ h7⟩

/-- A row after the gated residual is real. -/
theorem res_real {x y : FVec Ideal S8192x1024 .f32} {z : FVec Ideal S1x1024 .f32} (hx : Lift.IsReal (s := S8192x1024) x) (hy : Lift.IsReal (s := S8192x1024) y)
    (hz : Lift.IsReal (s := S1x1024) z) (r : Fin 8192) : NormRow.Real fun l => res x y z (ix2 r l) :=
  (funext fun l => (show res x y z (ix2 r l) = x (ix2 r l) + z (ix2 0 l) * y (ix2 r l) by pointwise [res])) ▸
    (NormRow.Real.of hx _).add ((NormRow.Real.of hz _).mul (NormRow.Real.of hy _))

/-- The reference's executions end, with its arguments unchanged and every counter at zero. -/
theorem refFrame : Cert.quiescent_FfnUpRefIdeal := fun m ρ _ =>
  (θ_run _ _ _).mono (fun r h => ⟨fun c => (h c).2.2.2.2.2.2, sem_eq_zero_of_no_sems rfl r.2⟩)
    (Cert.FfnUpRefIdeal.Value.run m ρ)

set_option maxHeartbeats 1000000 in
/-- The two programs' results are the same arrays, for finite arguments. -/
theorem algebraic : Cert.algebraic_FfnUpIdeal_FfnUpRefIdeal_pre_up_finite := by
  intro m g m' g' hpre hagree
  refine ⟨fun c => (Cert.FfnUpIdeal.Gen.dats m 0 c).arrAt 9 Cert.FfnUpIdeal.cfg0.N, fun c => (Cert.FfnUpIdeal.Gen.dats m 0 c).arrAt 10 Cert.FfnUpIdeal.cfg0.N,
    fun c => (Cert.FfnUpIdeal.Gen.dats m 0 c).arrAt 11 Cert.FfnUpIdeal.cfg0.N, fun c => (Cert.FfnUpIdeal.Gen.dats m 0 c).arrAt 12 Cert.FfnUpIdeal.cfg0.N,
    fun c => (Cert.FfnUpIdeal.Gen.dats m 0 c).arrAt 13 Cert.FfnUpIdeal.cfg0.N, fun c => (Cert.FfnUpIdeal.Gen.dats m 0 c).arrAt 14 Cert.FfnUpIdeal.cfg0.N,
    Cert.FfnUpIdeal.Value.run_blocks m g, (θ_run _ _ _).mono (fun r h c => ?_) (Cert.FfnUpRefIdeal.Value.run m' g')⟩
  obtain ⟨h0, h1, h2, h3, h4, h5, h⟩ := h c
  obtain ⟨a0, a1, a2, a3, a4, _, a6, a7, a8, a9⟩ := hagree c
  obtain ⟨hx, hy, hz, hg, hs, hW, hG, hV⟩ := reals _ _ _ _ _ _ _ _ _ _ (hpre c)
  have key : ∀ r l, (res_main_v55 m' c : FVec Ideal S8192x1024 .f32) (ix2 r l) = dX m c (ix2 r l) := fun r l => by
    refine (ref_dx m' c _ _ _ _ _ _ _ _ _ a0 a1 a2 a3 a4 a6 a7 a8 a9 r l).trans ?_
    unfold dX dx
    exact congrArg (· + _) (NormRow.closed_eq (n := 1024) (by norm_num) Lift.ofBits_1024 (res_real hx hy hz _) (up_real hg hs hW hG hV r) l).symm
  refine ⟨h0.trans (funext fun x => ?_), h1.trans (funext fun x => ?_), h2.trans (funext fun x => ?_), h3.trans (funext fun x => ?_), h4.trans (funext fun x => ?_), h5.trans (funext fun x => ?_), h⟩
  · refine .trans ?_ (congrFun (final9 m c) x).symm
    idx_vars x
    exact key x0 x1
  · refine .trans ?_ (congrFun (final10 m c) x).symm
    idx_vars x
    exact (ref_dxz m' c _ a2 _ rfl x0 x1).trans (congrArg (· * _) (key x0 x1))
  · refine .trans ?_ (congrFun (final11 m c) x).symm
    rw [a6, a7, a8]
    idx_vars x
    have hd := dot_at (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8)) (m ((c.tc : Thread Cert.FfnUpIdeal.nD Cert.FfnUpIdeal.τ).loc Cert.FfnUpIdeal.main_arg6))
    generalize Host.dotGeneral (F := Ideal) dot_S8192x5632_S1024x5632_S8192x1024_1_1_0_0_n_n none _ _ = P at hd ⊢
    pointwise
    simp only [hd]
    rfl
  · refine .trans ?_ (congrFun (final12 m c) x).symm
    rw [a0, a1, a2, a3, a6, a7, a8]
    idx_vars x
    have hd := dot_at (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8)) (m ((c.tc : Thread Cert.FfnUpIdeal.nD Cert.FfnUpIdeal.τ).loc Cert.FfnUpIdeal.main_arg6))
    generalize Host.dotGeneral (F := Ideal) dot_S8192x5632_S1024x5632_S8192x1024_1_1_0_0_n_n none _ _ = P at hd ⊢
    pointwise
    simp only [hd, at_res]
    exact Fintype.sum_congr _ _ fun r => mul_comm _ _
  · refine .trans ?_ (congrFun (final13 m c) x).symm
    rw [a0, a1, a2, a4, a6, a7, a8]
    idx_vars x
    have hd := dot_at (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8)) (m ((c.tc : Thread Cert.FfnUpIdeal.nD Cert.FfnUpIdeal.τ).loc Cert.FfnUpIdeal.main_arg6))
    generalize Host.dotGeneral (F := Ideal) dot_S8192x5632_S1024x5632_S8192x1024_1_1_0_0_n_n none _ _ = P at hd ⊢
    pointwise
    simp only [hd, at_res]
    exact Fintype.sum_congr _ _ fun r => mul_comm _ _
  · refine .trans ?_ (congrFun (final14 m c) x).symm
    have hq : ∀ w l, (res_main_v61 m' c : FVec Ideal S1x1024 .f32) (ix2 w l) = ∑ r : Fin 8192, f14 m c l r := fun w l =>
      ref_dz m' c _ a1 (fun r l => dX m c (ix2 r l)) key w l
    generalize res_main_v61 m' c = Q at hq ⊢
    generalize f14 m c = f at hq ⊢
    clear h h0 h1 h2 h3 h4 h5 key hpre
    idx_vars x
    exact hq x0 x1

end Cert.FfnUpValue

end
-- ==== Proof.LossTile.lean ====
/-
  The loss, with the down projection in front of it: what the kernel computes of one half of a tile's rows.
-/
module

public import proofs.«01_k».proof.Proof.Gen.LossIdeal.Frame
public import proofs.«01_k».proof.Proof.InProjRun

@[expose] public section

set_option maxRecDepth 16384

noncomputable section

open Idealize.ShloMosaic Idealize.ShloMosaic.TcCoe Idealize.SL.Sem

namespace Cert.LossValue

open Cert.LossIdeal Cert.LossIdeal.Gen
open Cert.FfnUpLastValue (w1024)

/-- One half, as the programs write it. -/
abbrev half : EReal := Ideal.ofBits .f32 0x3F000000#32

/-- The inverse of 1024, as the kernel writes it. -/
abbrev inv1024 : EReal := Ideal.ofBits .f32 0x3A800000#32

/-- Row `r` of the mixer's hidden rows times the projection's weights. -/
def proj (H : FVec Ideal S8192x2816 .bf16) (W : FVec Ideal S2816x1024 .f32) (r : Fin 8192) (l : Fin 1024) : EReal :=
  ∑ k : Fin 2816, H (ix2 r k) * W (ix2 k l)

/-- The error: the rows, their gated residual added, less the target. -/
def err (x T : FVec Ideal S8192x1024 .f32) (g : FVec Ideal S1x1024 .f32) (Z : Fin 8192 → Fin 1024 → EReal) (r : Fin 8192) (l : Fin 1024) : EReal :=
  x (ix2 r l) + g (ix2 0 l) * Z r l - T (ix2 r l)

variable (g acc : FVec Ideal S1x1024 .f32) (A : FVec Ideal S256x2816 .bf16) (P : FVec Ideal S2816x1024 .bf16) (X T : FVec Ideal S256x1024 .f32) (a : Fin 256) (l : Fin 1024)

/-- What the body computes of a half's product. -/
theorem pay6_at : (k0_pay6 (F := Ideal) A P (ix2 a l) : EReal) = ∑ k : Fin 2816, A (ix2 a k) * P (ix2 k l) := by
  pointwise [k0_pay6]

/-- What it computes of a half's error. -/
theorem pay7_at : (k0_pay7 (F := Ideal) g A P X T (ix2 a l) : EReal) = X (ix2 a l) + g (ix2 0 l) * k0_pay6 (F := Ideal) A P (ix2 a l) - T (ix2 a l) := by
  pointwise [k0_pay7]

/-- The gradient of a half's rows. -/
theorem pay8_at : (k0_pay8 (F := Ideal) g A P X T (ix2 a l) : EReal) = k0_pay7 (F := Ideal) g A P X T (ix2 a l) * inv1024 := by
  pointwise [k0_pay8]

/-- The same times the residual's gate. -/
theorem pay11_at : (k0_pay11 (F := Ideal) g A P X T (ix2 a l) : EReal) = k0_pay8 (F := Ideal) g A P X T (ix2 a l) * g (ix2 0 l) := by
  pointwise [k0_pay11]

/-- A half's share of the loss, on top of what was there. -/
theorem pay12_at (b : FVec Ideal S1x128 .f32) (z : Fin 1) (j : Fin 128) : (k0_pay12 (F := Ideal) (k0_pay9 g A P X T) b (ix2 z j) : EReal)
    = b (ix2 z j) + half * ∑ a : Fin 256, Ideal.div (∑ l : Fin 1024, k0_pay7 (F := Ideal) g A P X T (ix2 a l) * k0_pay7 (F := Ideal) g A P X T (ix2 a l)) w1024 := by
  pointwise [k0_pay12, k0_pay9]

/-- A half's share of the gradient of the gate, on top of what was there. -/
theorem pay13_at (z : Fin 1) : (k0_pay13 (F := Ideal) (k0_pay10 g A P X T) acc (ix2 z l) : EReal)
    = acc (ix2 z l) + ∑ a : Fin 256, k0_pay8 (F := Ideal) g A P X T (ix2 a l) * k0_pay6 (F := Ideal) A P (ix2 a l) := by
  pointwise [k0_pay13, k0_pay10]

/-- The second half is computed as the first: the rows' gradient, -/
theorem pay16_eq : k0_pay16 (F := Ideal) g A P X T = k0_pay8 g A P X T := rfl

/-- the same times the residual's gate, -/
theorem pay17_eq : k0_pay1 (F := Ideal) (k0_pay17 g A P X T) = k0_pay11 g A P X T := rfl

/-- the share of the loss, -/
theorem pay18_eq (b : FVec Ideal S1x128 .f32) : k0_pay2 (F := Ideal) (k0_pay18 g A P X T) b = k0_pay12 (k0_pay9 g A P X T) b := rfl

/-- and the share of the gradient of the gate. -/
theorem pay19_eq : k0_pay3 (F := Ideal) (k0_pay19 g A P X T) acc = k0_pay13 (k0_pay10 g A P X T) acc := rfl

/-- A real factor that is not negative goes into a sum. -/
theorem mul_sum {ι : Type} (s : Finset ι) (k : ℝ) (hk : 0 ≤ k) (f : ι → EReal) : (k : EReal) * ∑ i ∈ s, f i = ∑ i ∈ s, (k : EReal) * f i := by
  classical
  induction s using Finset.induction_on with
  | empty => simp
  | insert i s h e => rw [Finset.sum_insert h, Finset.sum_insert h, EReal.left_distrib_of_nonneg_of_ne_top (EReal.coe_nonneg.mpr hk) (EReal.coe_ne_top k), e]

/-- One half is one half. -/
theorem ofBits_half : half = ((1 / 2 : ℝ) : EReal) := by
  simp [Ideal.ofBits, Ideal.ieee, -EReal.coe_mul]; norm_num

/-- One half goes into a sum. -/
theorem half_mul_sum {ι : Type} [Fintype ι] (f : ι → EReal) : half * ∑ i, f i = ∑ i, half * f i := by
  rw [ofBits_half]
  exact mul_sum _ _ (by norm_num) f

variable (m : (ℓ : Loc nD τ sig) → Buf (Elt Ideal) ℓ) (c : Dev nD)

/-- The block every window reads or writes at each grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- The weights the kernel reads are the argument's. -/
theorem V_w (k : Fin 2816) (l : Fin 1024) : (V m c main_v0 : FVec Ideal S2816x1024 .bf16) (ix2 k l) = (m (c.tc.loc main_arg2) : FVec Ideal S2816x1024 .f32) (ix2 k l) := by
  have e : (V m c main_v0 : FVec Ideal S2816x1024 .bf16) = truncf (F := Ideal) .bf16 (m (c.tc.loc main_arg2) : FVec Ideal S2816x1024 .f32) bitsLt_bf16_f32 := by
    simp only [V, hostOps0, List.flatten_cons, List.flatten_nil, List.append_nil, List.cons_append, List.nil_append]
    after_results_simp <;> rfl
  rw [e]
  pointwise

section
variable (t : Fin cfg0.N) (X : ∀ b : Ref sig .tc, Buf (Elt Ideal) ((c : Thread nD τ).loc b))

/-- The tile of the mixer's hidden rows. -/
theorem rd0 (b : Fin 512) (k : Fin 2816) (r : Fin 8192) (hr : r.val = 512 * t.val + b.val) :
    (((cfg0.win 0).blk t).view.read (Elt Ideal) (X (Pipeline.arrRef spec0 0)) : FVec Ideal S512x2816 .bf16) (ix2 b k) = (X main_arg1 : FVec Ideal S8192x2816 .bf16) (ix2 r k) := by
  blk_point [idx t]
  all_goals omega

/-- The weights' window is the whole array. -/
theorem rd1 (k : Fin 2816) (l : Fin 1024) :
    (((cfg0.win 1).blk t).view.read (Elt Ideal) (X (Pipeline.arrRef spec0 1)) : FVec Ideal S2816x1024 .bf16) (ix2 k l) = (X main_v0 : FVec Ideal S2816x1024 .bf16) (ix2 k l) := by
  blk_point [idx t]

/-- The tile of the rows. -/
theorem rd2 (b : Fin 512) (k : Fin 1024) (r : Fin 8192) (hr : r.val = 512 * t.val + b.val) :
    (((cfg0.win 2).blk t).view.read (Elt Ideal) (X (Pipeline.arrRef spec0 2)) : FVec Ideal S512x1024 .f32) (ix2 b k) = (X main_arg0 : FVec Ideal S8192x1024 .f32) (ix2 r k) := by
  blk_point [idx t]
  all_goals omega

/-- The tile of the target. -/
theorem rd3 (b : Fin 512) (k : Fin 1024) (r : Fin 8192) (hr : r.val = 512 * t.val + b.val) :
    (((cfg0.win 3).blk t).view.read (Elt Ideal) (X (Pipeline.arrRef spec0 3)) : FVec Ideal S512x1024 .f32) (ix2 b k) = (X main_arg4 : FVec Ideal S8192x1024 .f32) (ix2 r k) := by
  blk_point [idx t]
  all_goals omega

/-- The gate's window is the whole array. -/
theorem rd4 (z : Fin 1) (l : Fin 1024) :
    (((cfg0.win 4).blk t).view.read (Elt Ideal) (X (Pipeline.arrRef spec0 4)) : FVec Ideal S1x1024 .f32) (ix2 z l) = (X main_arg3 : FVec Ideal S1x1024 .f32) (ix2 z l) := by
  blk_point [idx t]

end

end Cert.LossValue

end
-- ==== Proof.LossRun.lean ====
/-
  The loss, with the down projection in front of it: the four arrays the kernel leaves.
-/
module

public import proofs.«01_k».proof.Proof.LossTile
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.LossValue

open Cert.LossIdeal Cert.LossIdeal.Gen
open Cert.FfnUpLastValue (w1024)
open Cert.InProjValue (ldRow two_halves sum_at)

variable (m : (ℓ : Loc nD τ sig) → Buf (Elt Ideal) ℓ) (c : Dev nD)

/-- The projection of the launch's arguments. -/
abbrev Z : Fin 8192 → Fin 1024 → EReal := proj (m (c.tc.loc main_arg1)) (m (c.tc.loc main_arg2))

/-- The error of the launch's arguments. -/
abbrev E : Fin 8192 → Fin 1024 → EReal := err (m (c.tc.loc main_arg0)) (m (c.tc.loc main_arg4)) (m (c.tc.loc main_arg3)) (Z m c)

/-- The gradient of the rows. -/
def dX (i : S8192x1024.Idx) : EReal := E m c (i 0) (i 1) * inv1024

/-- The same times the residual's gate. -/
def dXz (i : S8192x1024.Idx) : EReal := E m c (i 0) (i 1) * inv1024 * (m (c.tc.loc main_arg3) : FVec Ideal S1x1024 .f32) (ix2 0 (i 1))

/-- What one row adds to the loss, -/
def f7 (r : Fin 8192) : EReal := half * Ideal.div (∑ l : Fin 1024, E m c r l * E m c r l) w1024

/-- and to the gradient of the gate. -/
def f8 (l : Fin 1024) (r : Fin 8192) : EReal := E m c r l * inv1024 * Z m c r l

variable (t : Fin cfg0.N)

/-- A row of the half that starts at row `256 * k` of a tile. -/
def row (k : Fin 2) (a : Fin 256) : Fin 8192 :=
  ⟨512 * t.val + (256 * k.val + a.val), by have : t.val < 16 := lt_of_lt_of_eq t.isLt (by decide); omega⟩

section
variable (k : Fin 2) (o : ℕ) (ho : o = 256 * k.val)
variable (i0 : ∀ a, (![o, 0] : Fin 2 → ℕ) a + S256x2816.size a ≤ S512x2816.size a) (i2 : ∀ a, (![o, 0] : Fin 2 → ℕ) a + S256x1024.size a ≤ S512x1024.size a)
variable (a : Fin 256) (l : Fin 1024)

include ho in
/-- A half's product is the rows of the whole product. -/
theorem z_at : (k0_pay6 (F := Ideal) (View.ld (iblk m c 0 t) (Rect.unit ![o, 0] S256x2816.size i0)) (iblk m c 1 t) (ix2 a l) : EReal) = Z m c (row t k a) l := by
  subst ho
  refine (pay6_at _ _ a l).trans ?_
  unfold Z proj
  refine Fintype.sum_congr _ _ fun j => congrArg₂ (· * ·) ?_ ((rd1 c t (V m c) j l).trans (V_w m c j l))
  exact (ldRow (e := .bf16) (iblk m c 0 t) _ i0 a j ⟨256 * k.val + a.val, by omega⟩ rfl).trans (rd0 c t (V m c) _ j (row t k a) rfl)

include ho in
/-- A half's error is the rows of the whole error. -/
theorem e_at : (k0_pay7 (F := Ideal) (iblk m c 4 t) (View.ld (iblk m c 0 t) (Rect.unit ![o, 0] S256x2816.size i0)) (iblk m c 1 t)
    (View.ld (iblk m c 2 t) (Rect.unit ![o, 0] S256x1024.size i2)) (View.ld (iblk m c 3 t) (Rect.unit ![o, 0] S256x1024.size i2)) (ix2 a l) : EReal) = E m c (row t k a) l := by
  refine (pay7_at _ _ _ _ _ a l).trans ?_
  unfold E err
  refine congrArg₂ (· - ·) (congrArg₂ (· + ·) ?_ (congrArg₂ (· * ·) (rd4 c t (V m c) 0 l) (z_at m c t k o ho i0 a l))) ?_
  all_goals subst ho
  · exact (ldRow (e := .f32) (iblk m c 2 t) _ i2 a l ⟨256 * k.val + a.val, by omega⟩ rfl).trans (rd2 c t (V m c) _ l (row t k a) rfl)
  · exact (ldRow (e := .f32) (iblk m c 3 t) _ i2 a l ⟨256 * k.val + a.val, by omega⟩ rfl).trans (rd3 c t (V m c) _ l (row t k a) rfl)

include ho in
/-- A half's gradient is the rows of the whole gradient. -/
theorem d_at : (k0_pay8 (F := Ideal) (iblk m c 4 t) (View.ld (iblk m c 0 t) (Rect.unit ![o, 0] S256x2816.size i0)) (iblk m c 1 t)
    (View.ld (iblk m c 2 t) (Rect.unit ![o, 0] S256x1024.size i2)) (View.ld (iblk m c 3 t) (Rect.unit ![o, 0] S256x1024.size i2)) (ix2 a l) : EReal)
    = E m c (row t k a) l * inv1024 :=
  (pay8_at _ _ _ _ _ a l).trans (congrArg (· * inv1024) (e_at m c t k o ho i0 i2 a l))

variable (i : S8192x1024.Idx) (e0 : (i 0).val = 512 * t.val + (o + a.val)) (e1 : (i 1).val = l.val)

include ho e0 e1 in
/-- What a grid point leaves of the first result in one half, wherever it lies in the array. -/
theorem piece5 : (k0_pay8 (F := Ideal) (iblk m c 4 t) (View.ld (iblk m c 0 t) (Rect.unit ![o, 0] S256x2816.size i0)) (iblk m c 1 t)
    (View.ld (iblk m c 2 t) (Rect.unit ![o, 0] S256x1024.size i2)) (View.ld (iblk m c 3 t) (Rect.unit ![o, 0] S256x1024.size i2)) (ix2 a l) : EReal) = dX m c i := by
  obtain rfl : l = i 1 := Fin.ext e1.symm
  have h : row t k a = i 0 := Fin.ext (by rw [e0, ho]; rfl)
  refine (d_at m c t k o ho i0 i2 a _).trans ?_
  rw [h]
  rfl

include ho e0 e1 in
/-- What it leaves of the second result. -/
theorem piece6 : (k0_pay11 (F := Ideal) (iblk m c 4 t) (View.ld (iblk m c 0 t) (Rect.unit ![o, 0] S256x2816.size i0)) (iblk m c 1 t)
    (View.ld (iblk m c 2 t) (Rect.unit ![o, 0] S256x1024.size i2)) (View.ld (iblk m c 3 t) (Rect.unit ![o, 0] S256x1024.size i2)) (ix2 a l) : EReal) = dXz m c i := by
  refine (pay11_at _ _ _ _ _ a l).trans ?_
  refine (congrArg₂ (· * ·) (piece5 m c t k o ho i0 i2 a l i e0 e1) (rd4 c t (V m c) 0 l)).trans ?_
  obtain rfl : l = i 1 := Fin.ext e1.symm
  rfl

/-- One half's rows of a function of the rows, summed. -/
theorem half_sum (f : Fin 8192 → EReal) (h : Fin 256 → EReal) (e : ∀ a, h a = f (row t k a)) :
    ∑ a : Fin 256, h a = Rows.part f 256 (2 * t.val + k.val) :=
  Fintype.sum_congr _ _ fun a => (e a).trans (Rows.ext_at f (row t k a) (by show 256 * (2 * t.val + k.val) + a.val = 512 * t.val + (256 * k.val + a.val); omega)).symm

include ho in
/-- One half's share of the loss. -/
theorem piece7 (b : FVec Ideal S1x128 .f32) (z : Fin 1) (j : Fin 128) :
    (k0_pay12 (F := Ideal) (k0_pay9 (iblk m c 4 t) (View.ld (iblk m c 0 t) (Rect.unit ![o, 0] S256x2816.size i0)) (iblk m c 1 t)
      (View.ld (iblk m c 2 t) (Rect.unit ![o, 0] S256x1024.size i2)) (View.ld (iblk m c 3 t) (Rect.unit ![o, 0] S256x1024.size i2))) b (ix2 z j) : EReal)
      = b (ix2 z j) + Rows.part (f7 m c) 256 (2 * t.val + k.val) := by
  refine (pay12_at _ _ _ _ _ b z j).trans (congrArg (b (ix2 z j) + ·) ?_)
  rw [half_mul_sum]
  refine half_sum t k _ _ fun a => ?_
  unfold f7
  exact congrArg (fun s => half * Ideal.div s w1024) (Fintype.sum_congr _ _ fun l => congrArg₂ (· * ·) (e_at m c t k o ho i0 i2 a l) (e_at m c t k o ho i0 i2 a l))

include ho in
/-- One half's share of the gradient of the gate. -/
theorem piece8 (acc : FVec Ideal S1x1024 .f32) (z : Fin 1) (l : Fin 1024) :
    (k0_pay13 (F := Ideal) (k0_pay10 (iblk m c 4 t) (View.ld (iblk m c 0 t) (Rect.unit ![o, 0] S256x2816.size i0)) (iblk m c 1 t)
      (View.ld (iblk m c 2 t) (Rect.unit ![o, 0] S256x1024.size i2)) (View.ld (iblk m c 3 t) (Rect.unit ![o, 0] S256x1024.size i2))) acc (ix2 z l) : EReal)
      = acc (ix2 z l) + Rows.part (f8 m c l) 256 (2 * t.val + k.val) :=
  (pay13_at _ _ _ _ _ _ l z).trans (congrArg (acc (ix2 z l) + ·) (half_sum t k _ _ fun a => congrArg₂ (· * ·) (d_at m c t k o ho i0 i2 a l) (z_at m c t k o ho i0 a l)))

end

set_option maxHeartbeats 4000000 in
/-- What a grid point leaves of the first two results, wherever it lies in the arrays. -/
theorem after (y : S512x1024.Idx) (i : S8192x1024.Idx) (e0 : (i 0).val = 512 * t.val + (y 0).val) (e1 : (i 1).val = (y 1).val) :
    (outsAt0 m c t.val t.isLt).1 y = dX m c i ∧ (outsAt0 m c t.val t.isLt).2.1 y = dXz m c i := by
  by_cases hc : t.val % 16 = 0
  on_goal 1 => rw [outsAt0_A m c t hc]
  on_goal 2 => rw [outsAt0_B m c t hc]
  all_goals
    refine ⟨?_, ?_⟩
    on_goal 1 =>
      frame_out
      clear hc
      canon_tiles x h
      on_goal 1 =>
        idx_vars x
        refine (congrFun (pay16_eq _ _ _ _ _) _).trans (piece5 m c t 1 256 rfl _ _ x0 x1 i ?_ ?_)
      on_goal 3 =>
        idx_vars x
        refine piece5 m c t 0 0 rfl _ _ x0 x1 i ?_ ?_
      all_goals omega
    frame_out
    clear hc
    canon_tiles x h
    on_goal 1 =>
      idx_vars x
      refine (congrFun (pay17_eq _ _ _ _ _) _).trans (piece6 m c t 1 256 rfl _ _ x0 x1 i ?_ ?_)
    on_goal 3 =>
      idx_vars x
      refine piece6 m c t 0 0 rfl _ _ x0 x1 i ?_ ?_
    all_goals omega

/-- The first result: the gradient of the rows. -/
theorem final5 : (dats m 0 c).arrAt 5 cfg0.N = dX m c := by
  refine (dats m 0 c).arrAt_eq_of_covers 5 _ (by decide +kernel) fun t hf y => ?_
  blk_simp
  rw [after0_5]
  refine (after m c t _ _ ?_ ?_).1 <;> blk_simp [idx t]
  omega

/-- The second result: the same times the residual's gate. -/
theorem final6 : (dats m 0 c).arrAt 6 cfg0.N = dXz m c := by
  refine (dats m 0 c).arrAt_eq_of_covers 6 _ (by decide +kernel) fun t hf y => ?_
  blk_simp
  rw [after0_6]
  refine (after m c t _ _ ?_ ?_).2 <;> blk_simp [idx t]
  omega

/-- The loss starts at zero. -/
theorem zero4 (y : S1x128.Idx) : (k0_pay4 (F := Ideal) y : EReal) = 0 := by
  idx_vars y
  pointwise [k0_pay4]

/-- The gradient of the gate starts at zero. -/
theorem zero5 (y : S1x1024.Idx) : (k0_pay5 (F := Ideal) y : EReal) = 0 := by
  idx_vars y
  pointwise [k0_pay5]

set_option maxHeartbeats 4000000 in
/-- The first grid point leaves its share of the loss. -/
theorem start7 (y : S1x128.Idx) (hc : t.val % 16 = 0) : (outsAt0 m c t.val t.isLt).2.2.1 y = (0 + Rows.part (f7 m c) 512 t.val : EReal) := by
  rw [outsAt0_A m c t hc]
  frame_out
  idx_vars y
  exact (two_halves (f7 m c) t.val ((congrFun (pay18_eq _ _ _ _ _ _) _).trans (piece7 m c t 1 256 rfl _ _ _ y0 y1)) (piece7 m c t 0 0 rfl _ _ _ y0 y1)).trans (congrArg (· + _) (zero4 _))

set_option maxHeartbeats 4000000 in
/-- Every other grid point adds its share of the loss. -/
theorem step7 (y : S1x128.Idx) (hc : ¬t.val % 16 = 0) : (outsAt0 m c t.val t.isLt).2.2.1 y = ((outsAt0 m c (t.val - 1) (Nat.lt_of_le_of_lt (Nat.sub_le ..) t.isLt)).2.2.1 y + Rows.part (f7 m c) 512 t.val : EReal) := by
  rw [outsAt0_B m c t hc]
  frame_out
  idx_vars y
  exact two_halves (f7 m c) t.val ((congrFun (pay18_eq _ _ _ _ _ _) _).trans (piece7 m c t 1 256 rfl _ _ _ y0 y1)) (piece7 m c t 0 0 rfl _ _ _ y0 y1)

set_option maxHeartbeats 4000000 in
/-- The first grid point leaves its share of the gradient of the gate. -/
theorem start8 (y : S1x1024.Idx) (hc : t.val % 16 = 0) : (outsAt0 m c t.val t.isLt).2.2.2 y = (0 + Rows.part (f8 m c (y 1)) 512 t.val : EReal) := by
  rw [outsAt0_A m c t hc]
  frame_out
  idx_vars y
  exact (two_halves (f8 m c y1) t.val ((congrFun (pay19_eq _ _ _ _ _ _) _).trans (piece8 m c t 1 256 rfl _ _ _ y0 y1)) (piece8 m c t 0 0 rfl _ _ _ y0 y1)).trans (congrArg (· + _) (zero5 _))

set_option maxHeartbeats 4000000 in
/-- Every other grid point adds its share of the gradient of the gate. -/
theorem step8 (y : S1x1024.Idx) (hc : ¬t.val % 16 = 0) : (outsAt0 m c t.val t.isLt).2.2.2 y = ((outsAt0 m c (t.val - 1) (Nat.lt_of_le_of_lt (Nat.sub_le ..) t.isLt)).2.2.2 y + Rows.part (f8 m c (y 1)) 512 t.val : EReal) := by
  rw [outsAt0_B m c t hc]
  frame_out
  idx_vars y
  exact two_halves (f8 m c y1) t.val ((congrFun (pay19_eq _ _ _ _ _ _) _).trans (piece8 m c t 1 256 rfl _ _ _ y0 y1)) (piece8 m c t 0 0 rfl _ _ _ y0 y1)

/-- The third result: the loss, in every entry. -/
theorem final7 : (dats m 0 c).arrAt 7 cfg0.N = fun _ : S1x128.Idx => ∑ r, f7 m c r := by
  refine (dats m 0 c).arrAt_eq_of_covers 7 _ (by decide +kernel) fun t hf y => ?_
  blk_simp
  rw [after0_7, Pipeline.eq_sum_fin_of_reset_step_apply_of_flush (fun n h => (outsAt0 m c n h).2.2.1) 16 (fun _ => 0)
    (fun p _ => Rows.part (f7 m c) 512 p.val) (fun t h x => start7 m c t x h) (fun t h x => step7 m c t x h) t ((flush0_7 t).mp hf) _, zero_add]
  have ht : t.val < 16 := lt_of_lt_of_eq t.isLt (by decide)
  refine Rows.sum_part (f7 m c) rfl _ fun s => ?_
  simp only
  omega

/-- The fourth result: the gradient of the gate. -/
theorem final8 : (dats m 0 c).arrAt 8 cfg0.N = fun i : S1x1024.Idx => ∑ r, f8 m c (i 1) r := by
  refine (dats m 0 c).arrAt_eq_of_covers 8 _ (by decide +kernel) fun t hf y => ?_
  blk_simp
  rw [after0_8, Pipeline.eq_sum_fin_of_reset_step_apply_of_flush (fun n h => (outsAt0 m c n h).2.2.2) 16 (fun _ => 0)
    (fun p x => Rows.part (f8 m c (x 1)) 512 p.val) (fun t h x => start8 m c t x h) (fun t h x => step8 m c t x h) t ((flush0_8 t).mp hf) _, zero_add]
  have ht : t.val < 16 := lt_of_lt_of_eq t.isLt (by decide)
  refine sum_at (f8 m c) _ _ ?_ _ fun s => ?_
  · blk_simp [idx t]
  · simp only
    omega

end Cert.LossValue

end
-- ==== Proof.Loss.lean ====
/-
  The loss, with the down projection in front of it: the reference's four results, and that the two programs' results are the same.
-/
module

public import proofs.«01_k».proof.Defs
public import proofs.«01_k».proof.Proof.LossRun
public import proofs.«01_k».proof.Proof.Gen.LossIdeal.Value
public import proofs.«01_k».proof.Proof.Gen.LossRefIdeal.Run
public import proofs.«01_k».proof.Proof.Gen.LossRefIdeal
public import Idealize.ShloMosaic.Lib.Quiescent

@[expose] public section

set_option maxRecDepth 16384

noncomputable section

open Idealize.ShloMosaic Idealize.ShloMosaic.TcCoe Idealize.SL.Sem

namespace Cert.LossValue

open Cert.LossRefIdeal Cert.LossRefIdeal.Gen Cert.LossRefIdeal.Value
open Cert.FfnUpLastValue (w1024)

/-- The reference's product, entry by entry. -/
theorem dot_at (H : FVec Ideal S8192x2816 .bf16) (W : FVec Ideal S2816x1024 .f32) (r : Fin 8192) (l : Fin 1024) :
    (Host.dotGeneral (F := Ideal) dot_S8192x2816_S2816x1024_S8192x1024_1_0_0_1_n_n none (extf .f32 H bitsLt_bf16_f32) W (ix2 r l) : EReal) = proj H W r l := by
  pointwise
  rfl

/-- The factors that the chain rule gives are the inverse of 1024. -/
theorem factors (e : EReal) : Ideal.div half w1024 * (Ideal.ofBits .f32 0x40000000#32 * e) = e * inv1024 := by
  have h2 : Ideal.ofBits .f32 0x40000000#32 = ((2 : ℝ) : EReal) := by
    simp [Ideal.ofBits, Ideal.ieee, -EReal.coe_mul]; norm_num
  have hi : inv1024 = ((1 / 1024 : ℝ) : EReal) := by
    simp [Ideal.ofBits, Ideal.ieee, -EReal.coe_mul]; norm_num
  have hw : Ideal.div ((1 / 2 : ℝ) : EReal) w1024 = ((1 / 2 / 1024 : ℝ) : EReal) :=
    (congrArg (Ideal.div _) Lift.ofBits_1024).trans (Lift.div_1024 _)
  rw [ofBits_half, hw, h2, hi, ← mul_assoc, ← EReal.coe_mul, mul_comm]
  norm_num

/-- The reference's executions end, with its arguments unchanged and every counter at zero. -/
theorem refFrame : Cert.quiescent_LossRefIdeal := fun m ρ _ =>
  (θ_run _ _ _).mono (fun r h => ⟨fun c => (h c).2.2.2.2, sem_eq_zero_of_no_sems rfl r.2⟩)
    (Cert.LossRefIdeal.Value.run m ρ)

set_option maxHeartbeats 1000000 in
/-- The two programs' results are the same arrays. -/
theorem algebraic : Cert.algebraic_LossIdeal_LossRefIdeal := by
  intro m g m' g' _ hagree
  refine ⟨fun c => (Cert.LossIdeal.Gen.dats m 0 c).arrAt 5 Cert.LossIdeal.cfg0.N, fun c => (Cert.LossIdeal.Gen.dats m 0 c).arrAt 6 Cert.LossIdeal.cfg0.N,
    fun c => (Cert.LossIdeal.Gen.dats m 0 c).arrAt 7 Cert.LossIdeal.cfg0.N, fun c => (Cert.LossIdeal.Gen.dats m 0 c).arrAt 8 Cert.LossIdeal.cfg0.N,
    Cert.LossIdeal.Value.run_blocks m g, (θ_run _ _ _).mono (fun r h c => ?_) (Cert.LossRefIdeal.Value.run m' g')⟩
  obtain ⟨h0, h1, h2, h3, h⟩ := h c
  obtain ⟨a0, a1, a2, a3, a4⟩ := hagree c
  have hd := dot_at (m ((c.tc : Thread Cert.LossIdeal.nD Cert.LossIdeal.τ).loc Cert.LossIdeal.main_arg1)) (m ((c.tc : Thread Cert.LossIdeal.nD Cert.LossIdeal.τ).loc Cert.LossIdeal.main_arg2))
  refine ⟨h0.trans (funext fun x => ?_), h1.trans (funext fun x => ?_), h2.trans (funext fun x => ?_), h3.trans (funext fun x => ?_), h⟩
  · refine .trans ?_ (congrFun (final5 m c) x).symm
    rw [a0, a1, a2, a3, a4]
    generalize Host.dotGeneral (F := Ideal) dot_S8192x2816_S2816x1024_S8192x1024_1_0_0_1_n_n none _ _ = P at hd ⊢
    idx_vars x
    pointwise
    simp only [hd]
    exact factors _
  · refine .trans ?_ (congrFun (final6 m c) x).symm
    rw [a0, a1, a2, a3, a4]
    generalize Host.dotGeneral (F := Ideal) dot_S8192x2816_S2816x1024_S8192x1024_1_0_0_1_n_n none _ _ = P at hd ⊢
    idx_vars x
    pointwise
    simp only [hd, factors]
    exact mul_comm (G := EReal) _ _
  · refine .trans ?_ (congrFun (final7 m c) x).symm
    rw [a0, a1, a2, a3, a4]
    generalize Host.dotGeneral (F := Ideal) dot_S8192x2816_S2816x1024_S8192x1024_1_0_0_1_n_n none _ _ = P at hd ⊢
    idx_vars x
    pointwise
    simp only [hd]
    exact half_mul_sum _
  · refine .trans ?_ (congrFun (final8 m c) x).symm
    rw [a0, a1, a2, a3, a4]
    generalize Host.dotGeneral (F := Ideal) dot_S8192x2816_S2816x1024_S8192x1024_1_0_0_1_n_n none _ _ = P at hd ⊢
    idx_vars x
    pointwise
    simp only [hd, factors]
    rfl

end Cert.LossValue

end
-- ==== Proof.Cond.lean ====
/-
  The context's conditioning vector: the gradient of SiLU, summed over the devices, and the optimiser's step.
-/
module

public import proofs.«01_k».proof.Defs
public import proofs.«01_k».proof.Proof.Lift
public import proofs.«01_k».proof.Proof.Gen.CondIdeal.Frame
public import proofs.«01_k».proof.Proof.Gen.CondIdeal.Value
public import proofs.«01_k».proof.Proof.Gen.CondRefIdeal.Run
public import proofs.«01_k».proof.Proof.Gen.CondRefIdeal
public import proofs.«01_k».proof.Proof.Gen.Pre_cond_finite
public import Idealize.ShloMosaic.Lib.Claim
public import Idealize.ShloMosaic.Lib.Quiescent
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.CondValue

/-- The gradient of SiLU. -/
def dsilu (x : EReal) : EReal := Ideal.logistic x * (1 + x * (1 - Ideal.logistic x))

/-- The first moment after the step. -/
def mom (a g : EReal) : EReal := Ideal.ofBits .f32 0x3F666666#32 * a + Ideal.ofBits .f32 0x3DCCCCCD#32 * g

/-- The second moment after the step. -/
def vel (a g : EReal) : EReal := Ideal.ofBits .f32 0x3F7FBE77#32 * a + Ideal.ofBits .f32 0x3A83126F#32 * (g * g)

/-- The change of the parameter. -/
def change (w a b g : EReal) : EReal :=
  Ideal.ofBits .f32 0xBA83126F#32 * (Ideal.div (Ideal.div (mom a g) (Ideal.ofBits .f32 0x3F26BD02#32))
    (Ideal.sqrt (Ideal.div (vel b g) (Ideal.ofBits .f32 0x3C231ACC#32)) + Ideal.ofBits .f32 0x322BCC77#32) + Ideal.ofBits .f32 0x3C23D70A#32 * w)

section Kernel

open Cert.CondIdeal Cert.CondIdeal.Gen

/-- The gradient: the devices' parts, summed, times the gradient of SiLU. -/
def grad (G : FVec Ideal S8x1024 .f32) (C : FVec Ideal S1024 .f32) (l : Fin 1024) : EReal := (∑ p : Fin 8, G (ix2 p l)) * dsilu (C (ix1 l))

/-- One device's part of a block. -/
theorem ldPart (X : FVec Ideal S8x1x1024 .f32) (o : ℕ) (inb) (p : Fin 8) (l : Fin 1024) (h : p.val = o) :
    (View.ld (Val := Elt Ideal) (e' := .f32) X (Rect.unit (s := S8x1x1024) ![o, 0, 0] S1x1x1024.size inb) (ix3 0 0 l : S1x1x1024.Idx) : EReal) = X (ix3 p 0 l) :=
  View.ld_unit_apply_of (Val := Elt Ideal) (e := .f32) X ![o, 0, 0] S1x1x1024.size inb (ix3 0 0 l : S1x1x1024.Idx) _ (fun a => by fin_cases a <;> simp [h])

/-- A block's only part. -/
theorem ldOne (X : FVec Ideal S1x1x1024 .f32) (inb) (l : Fin 1024) :
    (View.ld (Val := Elt Ideal) (e' := .f32) X (Rect.unit (s := S1x1x1024) ![0, 0, 0] S1x1x1024.size inb) (ix3 0 0 l : S1x1x1024.Idx) : EReal) = X (ix3 0 0 l) :=
  View.ld_unit_apply_of (Val := Elt Ideal) (e := .f32) X ![0, 0, 0] S1x1x1024.size inb (ix3 0 0 l : S1x1x1024.Idx) _ (fun a => by fin_cases a <;> simp)

variable (a0 a1 a2 a3 a4 a5 a6 a7 cv w : FVec Ideal S1x1x1024 .f32) (z : Fin 1) (l : Fin 1024)

/-- The sum of the parts. -/
theorem pay4_at : (k0_pay4 (F := Ideal) a0 a1 a2 a3 a4 a5 a6 a7 (ix2 z l) : EReal) = a0 (ix3 0 0 l) + a1 (ix3 0 0 l) + a2 (ix3 0 0 l) + a3 (ix3 0 0 l)
    + a4 (ix3 0 0 l) + a5 (ix3 0 0 l) + a6 (ix3 0 0 l) + a7 (ix3 0 0 l) := by
  pointwise [k0_pay4]

variable (S Q R : FVec Ideal S1x1024 .f32)

/-- A sum of parts times the gradient of SiLU. -/
theorem pay8_at : (k0_pay8 (F := Ideal) S (k0_pay6 cv) (k0_pay7 cv) (Scalar.ofBits .f32 0x3F800000#32) (ix2 z l) : EReal) = S (ix2 z l) * dsilu (cv (ix3 0 0 l)) := by
  pointwise [k0_pay8, k0_pay7, k0_pay6, k0_pay5]
  rfl

/-- The gradient as it is stored. -/
theorem pay9_at (z' : Fin 1) : (k0_pay9 (F := Ideal) S Q R (Scalar.ofBits .f32 0x3F800000#32) (ix3 z z' l) : EReal) = k0_pay8 (F := Ideal) S Q R (Scalar.ofBits .f32 0x3F800000#32) (ix2 0 l) := by
  pointwise [k0_pay9]

/-- The first moment. -/
theorem pay10_at : (k0_pay10 (F := Ideal) S Q R (Scalar.ofBits .f32 0x3F800000#32) w (ix2 z l) : EReal) = mom (w (ix3 0 0 l)) (k0_pay8 (F := Ideal) S Q R (Scalar.ofBits .f32 0x3F800000#32) (ix2 z l)) := by
  pointwise [k0_pay10]
  rfl

/-- The second moment. -/
theorem pay11_at : (k0_pay11 (F := Ideal) S Q R (Scalar.ofBits .f32 0x3F800000#32) w (ix2 z l) : EReal) = vel (w (ix3 0 0 l)) (k0_pay8 (F := Ideal) S Q R (Scalar.ofBits .f32 0x3F800000#32) (ix2 z l)) := by
  pointwise [k0_pay11]
  rfl

/-- The change of the parameter. -/
theorem pay12_at (a b : FVec Ideal S1x1x1024 .f32) : (k0_pay12 (F := Ideal) S Q R (Scalar.ofBits .f32 0x3F800000#32) a b w (ix2 z l) : EReal)
    = change (w (ix3 0 0 l)) (a (ix3 0 0 l)) (b (ix3 0 0 l)) (k0_pay8 (F := Ideal) S Q R (Scalar.ofBits .f32 0x3F800000#32) (ix2 z l)) := by
  pointwise [k0_pay12, k0_pay11, k0_pay10]
  rfl

/-- The three further results as they are stored. -/
theorem pay1_at (z' : Fin 1) : (k0_pay1 (F := Ideal) S (ix3 z z' l) : EReal) = S (ix2 0 l) := by
  pointwise [k0_pay1]
theorem pay2_at (z' : Fin 1) : (k0_pay2 (F := Ideal) S (ix3 z z' l) : EReal) = S (ix2 0 l) := by
  pointwise [k0_pay2]
theorem pay3_at (z' : Fin 1) : (k0_pay3 (F := Ideal) S (ix3 z z' l) : EReal) = S (ix2 0 l) := by
  pointwise [k0_pay3]

variable (m : (ℓ : Loc nD τ sig) → Buf (Elt Ideal) ℓ) (c : Dev nD) (t : Fin cfg0.N)

/-- Every window is its whole array. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] ∧ win0_8.index t = ![0, 0, 0] :=
  (by decide +kernel : ∀ t : Fin grid0.N, _)

/-- The parts the kernel reads are the argument's. -/
theorem V_0 (p : Fin 8) : (V m c main_v0 : FVec Ideal S8x1x1024 .f32) (ix3 p 0 l) = (m (c.tc.loc main_arg0) : FVec Ideal S8x1024 .f32) (ix2 p l) := by
  have e : (V m c main_v0 : FVec Ideal S8x1x1024 .f32) = shapeCast S8x1x1024 (m (c.tc.loc main_arg0) : FVec Ideal S8x1024 .f32) shapeCasts_S8x1024_S8x1x1024 := by
    simp only [V, hostOps0, List.flatten_cons, List.flatten_nil, List.append_nil, List.cons_append, List.nil_append]
    after_results_simp <;> rfl
  rw [e]
  pointwise

theorem V_1 : (V m c main_v1 : FVec Ideal S1x1x1024 .f32) (ix3 0 0 l) = (m (c.tc.loc main_arg1) : FVec Ideal S1024 .f32) (ix1 l) := by
  have e : (V m c main_v1 : FVec Ideal S1x1x1024 .f32) = shapeCast S1x1x1024 (m (c.tc.loc main_arg1) : FVec Ideal S1024 .f32) shapeCasts_S1024_S1x1x1024 := by
    simp only [V, hostOps0, List.flatten_cons, List.flatten_nil, List.append_nil, List.cons_append, List.nil_append]
    after_results_simp <;> rfl
  rw [e]
  pointwise

theorem V_2 : (V m c main_v2 : FVec Ideal S1x1x1024 .f32) (ix3 0 0 l) = (m (c.tc.loc main_arg2) : FVec Ideal S1024 .f32) (ix1 l) := by
  have e : (V m c main_v2 : FVec Ideal S1x1x1024 .f32) = shapeCast S1x1x1024 (m (c.tc.loc main_arg2) : FVec Ideal S1024 .f32) shapeCasts_S1024_S1x1x1024 := by
    simp only [V, hostOps0, List.flatten_cons, List.flatten_nil, List.append_nil, List.cons_append, List.nil_append]
    after_results_simp <;> rfl
  rw [e]
  pointwise

theorem V_3 : (V m c main_v3 : FVec Ideal S1x1x1024 .f32) (ix3 0 0 l) = (m (c.tc.loc main_arg3) : FVec Ideal S1024 .f32) (ix1 l) := by
  have e : (V m c main_v3 : FVec Ideal S1x1x1024 .f32) = shapeCast S1x1x1024 (m (c.tc.loc main_arg3) : FVec Ideal S1024 .f32) shapeCasts_S1024_S1x1x1024 := by
    simp only [V, hostOps0, List.flatten_cons, List.flatten_nil, List.append_nil, List.cons_append, List.nil_append]
    after_results_simp <;> rfl
  rw [e]
  pointwise

theorem V_4 : (V m c main_v4 : FVec Ideal S1x1x1024 .f32) (ix3 0 0 l) = (m (c.tc.loc main_arg1) : FVec Ideal S1024 .f32) (ix1 l) := by
  have e : (V m c main_v4 : FVec Ideal S1x1x1024 .f32) = shapeCast S1x1x1024 (m (c.tc.loc main_arg1) : FVec Ideal S1024 .f32) shapeCasts_S1024_S1x1x1024 := by
    simp only [V, hostOps0, List.flatten_cons, List.flatten_nil, List.append_nil, List.cons_append, List.nil_append]
    after_results_simp <;> rfl
  rw [e]
  pointwise

section
variable (X : ∀ b : Ref sig .tc, Buf (Elt Ideal) ((c : Thread nD τ).loc b))

/-- Every window read is its whole array. -/
theorem rd0 (p : Fin 8) : (((cfg0.win 0).blk t).view.read (Elt Ideal) (X (Pipeline.arrRef spec0 0)) : FVec Ideal S8x1x1024 .f32) (ix3 p 0 l) = (X main_v0 : FVec Ideal S8x1x1024 .f32) (ix3 p 0 l) := by
  blk_point [idx t]

theorem rd1 : (((cfg0.win 1).blk t).view.read (Elt Ideal) (X (Pipeline.arrRef spec0 1)) : FVec Ideal S1x1x1024 .f32) (ix3 0 0 l) = (X main_v1 : FVec Ideal S1x1x1024 .f32) (ix3 0 0 l) := by
  blk_point [idx t]

theorem rd2 : (((cfg0.win 2).blk t).view.read (Elt Ideal) (X (Pipeline.arrRef spec0 2)) : FVec Ideal S1x1x1024 .f32) (ix3 0 0 l) = (X main_v2 : FVec Ideal S1x1x1024 .f32) (ix3 0 0 l) := by
  blk_point [idx t]

theorem rd3 : (((cfg0.win 3).blk t).view.read (Elt Ideal) (X (Pipeline.arrRef spec0 3)) : FVec Ideal S1x1x1024 .f32) (ix3 0 0 l) = (X main_v3 : FVec Ideal S1x1x1024 .f32) (ix3 0 0 l) := by
  blk_point [idx t]

theorem rd4 : (((cfg0.win 4).blk t).view.read (Elt Ideal) (X (Pipeline.arrRef spec0 4)) : FVec Ideal S1x1x1024 .f32) (ix3 0 0 l) = (X main_v4 : FVec Ideal S1x1x1024 .f32) (ix3 0 0 l) := by
  blk_point [idx t]

end

/-- What the body computes of the gradient. -/
theorem g_at : (k0_pay8 (F := Ideal) (k0_pay13 (iblk m c 0 t) (iblk m c 1 t) (iblk m c 2 t) (iblk m c 3 t) (iblk m c 4 t)) (k0_pay14 (iblk m c 0 t) (iblk m c 1 t) (iblk m c 2 t) (iblk m c 3 t) (iblk m c 4 t)) (k0_pay15 (iblk m c 0 t) (iblk m c 1 t) (iblk m c 2 t) (iblk m c 3 t) (iblk m c 4 t)) (Scalar.ofBits .f32 0x3F800000#32) (ix2 0 l) : EReal) = grad (m (c.tc.loc main_arg0)) (m (c.tc.loc main_arg1)) l := by
  unfold k0_pay13 k0_pay14 k0_pay15
  refine (pay8_at _ 0 l _).trans ?_
  unfold grad
  refine congrArg₂ (· * ·) ?_ (congrArg dsilu ((ldOne _ _ l).trans <| (rd4 l c t (V m c)).trans (V_4 l m c)))
  refine (pay4_at _ _ _ _ _ _ _ _ 0 l).trans ?_
  refine .trans ?_ (Fintype.sum_congr _ _ fun p => (rd0 l c t (V m c) p).trans (V_0 l m c p))
  rw [Fin.sum_univ_eight]
  exact congrArg₂ (· + ·) (congrArg₂ (· + ·) (congrArg₂ (· + ·) (congrArg₂ (· + ·) (congrArg₂ (· + ·) (congrArg₂ (· + ·) (congrArg₂ (· + ·) (ldPart _ 0 _ _ l rfl) (ldPart _ 1 _ _ l rfl)) (ldPart _ 2 _ _ l rfl)) (ldPart _ 3 _ _ l rfl)) (ldPart _ 4 _ _ l rfl)) (ldPart _ 5 _ _ l rfl)) (ldPart _ 6 _ _ l rfl)) (ldPart _ 7 _ _ l rfl)

/-- What the kernel leaves of the gradient. -/
theorem out5 (y : S1x1x1024.Idx) : (out0_5 (iblk m c 0 t) (iblk m c 1 t) (iblk m c 2 t) (iblk m c 3 t) (iblk m c 4 t) y : EReal) = grad (m (c.tc.loc main_arg0)) (m (c.tc.loc main_arg1)) (y 2) := by
  frame_out
  idx_vars y
  exact (pay9_at _ _ _ _ _ _).trans (g_at _ m c t)

/-- The array the kernel leaves: the gradient. -/
theorem final5 : (dats m 0 c).arrAt 5 cfg0.N = fun y : S1x1x1024.Idx => grad (m (c.tc.loc main_arg0)) (m (c.tc.loc main_arg1)) (y 2) := by
  refine (dats m 0 c).arrAt_eq_of_covers 5 _ (by decide +kernel) fun t hf y => ?_
  blk_simp
  rw [after0_5]
  refine (out5 m c t _).trans ?_
  exact congrArg (fun l : Fin 1024 => (grad (m (c.tc.loc main_arg0)) (m (c.tc.loc main_arg1)) l : EReal)) (Fin.ext (by blk_simp [idx t]))

/-- What the kernel leaves of the change of the parameter. -/
theorem out6 (y : S1x1x1024.Idx) : (out0_6 (iblk m c 0 t) (iblk m c 1 t) (iblk m c 2 t) (iblk m c 3 t) (iblk m c 4 t) y : EReal) = change (((m (c.tc.loc main_arg1)) : FVec Ideal S1024 .f32) (ix1 (y 2))) (((m (c.tc.loc main_arg2)) : FVec Ideal S1024 .f32) (ix1 (y 2))) (((m (c.tc.loc main_arg3)) : FVec Ideal S1024 .f32) (ix1 (y 2))) (grad (m (c.tc.loc main_arg0)) (m (c.tc.loc main_arg1)) (y 2)) := by
  frame_out
  idx_vars y
  exact (pay1_at _ _ _ _).trans ((pay12_at _ _ _ _ _ _ _ _).trans (by rw [g_at, show (iblk m c 1 t : FVec Ideal S1x1x1024 .f32) (ix3 0 0 _) = _ from ((rd1 _ c t (V m c)).trans (V_1 _ m c)), show (iblk m c 2 t : FVec Ideal S1x1x1024 .f32) (ix3 0 0 _) = _ from ((rd2 _ c t (V m c)).trans (V_2 _ m c)), show (iblk m c 3 t : FVec Ideal S1x1x1024 .f32) (ix3 0 0 _) = _ from ((rd3 _ c t (V m c)).trans (V_3 _ m c))]))

/-- The array the kernel leaves: the change of the parameter. -/
theorem final6 : (dats m 0 c).arrAt 6 cfg0.N = fun y : S1x1x1024.Idx => change (((m (c.tc.loc main_arg1)) : FVec Ideal S1024 .f32) (ix1 (y 2))) (((m (c.tc.loc main_arg2)) : FVec Ideal S1024 .f32) (ix1 (y 2))) (((m (c.tc.loc main_arg3)) : FVec Ideal S1024 .f32) (ix1 (y 2))) (grad (m (c.tc.loc main_arg0)) (m (c.tc.loc main_arg1)) (y 2)) := by
  refine (dats m 0 c).arrAt_eq_of_covers 6 _ (by decide +kernel) fun t hf y => ?_
  blk_simp
  rw [after0_6]
  refine (out6 m c t _).trans ?_
  exact congrArg (fun l : Fin 1024 => (change (((m (c.tc.loc main_arg1)) : FVec Ideal S1024 .f32) (ix1 l)) (((m (c.tc.loc main_arg2)) : FVec Ideal S1024 .f32) (ix1 l)) (((m (c.tc.loc main_arg3)) : FVec Ideal S1024 .f32) (ix1 l)) (grad (m (c.tc.loc main_arg0)) (m (c.tc.loc main_arg1)) l) : EReal)) (Fin.ext (by blk_simp [idx t]))

/-- What the kernel leaves of the first moment. -/
theorem out7 (y : S1x1x1024.Idx) : (out0_7 (iblk m c 0 t) (iblk m c 1 t) (iblk m c 2 t) (iblk m c 3 t) (iblk m c 4 t) y : EReal) = mom (((m (c.tc.loc main_arg2)) : FVec Ideal S1024 .f32) (ix1 (y 2))) (grad (m (c.tc.loc main_arg0)) (m (c.tc.loc main_arg1)) (y 2)) := by
  frame_out
  idx_vars y
  exact (pay2_at _ _ _ _).trans ((pay10_at _ _ _ _ _ _).trans (congrArg₂ mom ((rd2 _ c t (V m c)).trans (V_2 _ m c)) (g_at _ m c t)))

/-- The array the kernel leaves: the first moment. -/
theorem final7 : (dats m 0 c).arrAt 7 cfg0.N = fun y : S1x1x1024.Idx => mom (((m (c.tc.loc main_arg2)) : FVec Ideal S1024 .f32) (ix1 (y 2))) (grad (m (c.tc.loc main_arg0)) (m (c.tc.loc main_arg1)) (y 2)) := by
  refine (dats m 0 c).arrAt_eq_of_covers 7 _ (by decide +kernel) fun t hf y => ?_
  blk_simp
  rw [after0_7]
  refine (out7 m c t _).trans ?_
  exact congrArg (fun l : Fin 1024 => (mom (((m (c.tc.loc main_arg2)) : FVec Ideal S1024 .f32) (ix1 l)) (grad (m (c.tc.loc main_arg0)) (m (c.tc.loc main_arg1)) l) : EReal)) (Fin.ext (by blk_simp [idx t]))

/-- What the kernel leaves of the second moment. -/
theorem out8 (y : S1x1x1024.Idx) : (out0_8 (iblk m c 0 t) (iblk m c 1 t) (iblk m c 2 t) (iblk m c 3 t) (iblk m c 4 t) y : EReal) = vel (((m (c.tc.loc main_arg3)) : FVec Ideal S1024 .f32) (ix1 (y 2))) (grad (m (c.tc.loc main_arg0)) (m (c.tc.loc main_arg1)) (y 2)) := by
  frame_out
  idx_vars y
  exact (pay3_at _ _ _ _).trans ((pay11_at _ _ _ _ _ _).trans (congrArg₂ vel ((rd3 _ c t (V m c)).trans (V_3 _ m c)) (g_at _ m c t)))

/-- The array the kernel leaves: the second moment. -/
theorem final8 : (dats m 0 c).arrAt 8 cfg0.N = fun y : S1x1x1024.Idx => vel (((m (c.tc.loc main_arg3)) : FVec Ideal S1024 .f32) (ix1 (y 2))) (grad (m (c.tc.loc main_arg0)) (m (c.tc.loc main_arg1)) (y 2)) := by
  refine (dats m 0 c).arrAt_eq_of_covers 8 _ (by decide +kernel) fun t hf y => ?_
  blk_simp
  rw [after0_8]
  refine (out8 m c t _).trans ?_
  exact congrArg (fun l : Fin 1024 => (vel (((m (c.tc.loc main_arg3)) : FVec Ideal S1024 .f32) (ix1 l)) (grad (m (c.tc.loc main_arg0)) (m (c.tc.loc main_arg1)) l) : EReal)) (Fin.ext (by blk_simp [idx t]))

end Kernel

open Cert.CondRefIdeal Cert.CondRefIdeal.Gen Cert.CondRefIdeal.Value

/-- The chain rule's form of the gradient of SiLU, for a real gradient that arrives. -/
theorem chain (g : ℝ) (x : EReal) : (g : EReal) * Ideal.logistic x + x * g * (Ideal.logistic x * (1 - Ideal.logistic x)) = g * dsilu x := by
  unfold dsilu
  induction x using EReal.rec with
  | bot => simp
  | top =>
    have h : (1 : EReal) - 1 = 0 := EReal.sub_self (EReal.coe_ne_top 1) (EReal.coe_ne_bot 1)
    simp [h]
  | coe x =>
    rw [Ideal.logistic_coe]
    generalize (1 + Real.exp (-x))⁻¹ = s
    norm_cast
    ring

/-- The reference's logistic. -/
theorem fold (x : EReal) : Ideal.div 1 (1 + Ideal.exp (-x)) = Ideal.logistic x := rfl

/-- The reference's gradient is the kernel's. -/
theorem ref_grad {G : FVec Ideal S8x1024 .f32} (hG : Lift.IsReal (s := S8x1024) G) (C : FVec Ideal S1024 .f32) (l : Fin 1024) :
    (∑ p : Fin 8, G (ix2 p l)) * Ideal.logistic (C (ix1 l)) + C (ix1 l) * (∑ p : Fin 8, G (ix2 p l)) * (Ideal.logistic (C (ix1 l)) * (1 - Ideal.logistic (C (ix1 l)))) = grad G C l := by
  obtain ⟨x, rfl⟩ := hG
  unfold grad
  rw [Lift.sum_coe]
  exact chain _ _

/-- Under the precondition the parts are real numbers. -/
theorem reals (A : FVec Ideal S8x1024 .f32) (B C D : FVec Ideal S1024 .f32) (h : Cert.Pre_cond_finite.fn A B C D = fun _ => 1#1) : Lift.IsReal (s := S8x1024) A := by
  have h0 := congrFun h (ix1 0)
  clear h
  unfold Cert.Pre_cond_finite.fn at h0
  simp at h0
  exact Lift.real_of_all A _ h0

/-- The reference's executions end, with its arguments unchanged and every counter at zero. -/
theorem refFrame : Cert.quiescent_CondRefIdeal := fun m ρ _ =>
  (θ_run _ _ _).mono (fun r h => ⟨fun c => (h c).2.2.2.2, sem_eq_zero_of_no_sems rfl r.2⟩)
    (Cert.CondRefIdeal.Value.run m ρ)

set_option maxHeartbeats 1000000 in
/-- The two programs' results are the same arrays, for finite parts of the gradient. -/
theorem algebraic : Cert.algebraic_CondIdeal_CondRefIdeal_pre_cond_finite := by
  intro m g m' g' hpre hagree
  refine ⟨fun c => (Cert.CondIdeal.Gen.dats m 0 c).arrAt 5 Cert.CondIdeal.cfg0.N, fun c => (Cert.CondIdeal.Gen.dats m 0 c).arrAt 6 Cert.CondIdeal.cfg0.N,
    fun c => (Cert.CondIdeal.Gen.dats m 0 c).arrAt 7 Cert.CondIdeal.cfg0.N, fun c => (Cert.CondIdeal.Gen.dats m 0 c).arrAt 8 Cert.CondIdeal.cfg0.N,
    Cert.CondIdeal.Value.run_blocks m g, (θ_run _ _ _).mono (fun r h c => ?_) (Cert.CondRefIdeal.Value.run m' g')⟩
  obtain ⟨h0, h1, h2, h3, h⟩ := h c
  obtain ⟨a0, a1, a2, a3⟩ := hagree c
  have hG := ref_grad (reals _ _ _ _ (hpre c)) (m ((c.tc : Thread Cert.CondIdeal.nD Cert.CondIdeal.τ).loc Cert.CondIdeal.main_arg1))
  refine ⟨h0.trans (funext fun x => ?_), h1.trans (funext fun x => ?_), h2.trans (funext fun x => ?_), h3.trans (funext fun x => ?_), h⟩
  · refine .trans ?_ (congrFun (final5 m c) x).symm
    rw [a0, a1]
    idx_vars x
    pointwise
    simp only [fold, hG]
  · refine .trans ?_ (congrFun (final6 m c) x).symm
    unfold res_main_v28
    rw [a0, a1, a2, a3]
    idx_vars x
    pointwise
    simp only [fold, hG]
    rfl
  · refine .trans ?_ (congrFun (final7 m c) x).symm
    rw [a0, a1, a2]
    idx_vars x
    pointwise
    simp only [fold, hG]
    rfl
  · refine .trans ?_ (congrFun (final8 m c) x).symm
    rw [a0, a1, a3]
    idx_vars x
    pointwise
    simp only [fold, hG]
    rfl

end Cert.CondValue

end
-- ==== Proof.AttnFwdRef.lean ====
/-
  The attention, forward: its two results as functions of real arrays, and what the reference computes.
-/
module

public import proofs.«01_k».proof.Proof.Gen.AttnFwdRefIdeal.Run
public import proofs.«01_k».proof.Proof.Gen.AttnFwdRefIdeal
public import proofs.«01_k».proof.Proof.AttentionRef
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.AttnFwdValue

open Cert.AttnFwdRefIdeal Cert.AttnFwdRefIdeal.Gen
open Cert.AttentionValue (up sc score prob wt wt_shift cat expo total)

section
variable (q : S4x8192x128.Idx → ℝ) (k v : S2x8448x128.Idx → ℝ)

/-- The output of head `b` of group `a` at row `n`, column `e`: the values under the softmax weights. -/
def outH (a b : Fin 2) (n : Fin 8192) (e : Fin 128) : ℝ := ∑ j, prob q k a b n j * v (ix3 a j e)

/-- The logarithm of the sum of the exponentials of that row's scores. -/
def lseH (a b : Fin 2) (n : Fin 8192) : ℝ := Real.log (∑ j, Real.exp (score q k a b n j))

/-- The first result: the heads' outputs side by side. -/
def outF (i : S8192x512.Idx) : ℝ :=
  outH q k v ⟨(i 1).val / 256, by have := (i 1).isLt; simp at this; omega⟩ ⟨(i 1).val / 128 % 2, by omega⟩ (i 0) ⟨(i 1).val % 128, by omega⟩

/-- The second result: the logarithms, head by head. -/
def lseF (i : S4x8192x1.Idx) : ℝ :=
  lseH q k ⟨(i 0).val / 2, by have := (i 0).isLt; simp at this; omega⟩ ⟨(i 0).val % 2, by omega⟩ (i 1)
end

/-- The logarithm of a sum of exponentials does not depend on what is taken off first. -/
theorem log_shift {T : Type} [Fintype T] [Nonempty T] (x : T → ℝ) (M : ℝ) :
    M + Real.log (∑ j, Real.exp (x j - M)) = Real.log (∑ j, Real.exp (x j)) := by
  have h : ∑ j, Real.exp (x j - M) = (∑ j, Real.exp (x j)) / Real.exp M := by
    simp only [Real.exp_sub, ← Finset.sum_div]
  rw [h, Real.log_div (Finset.sum_pos (fun i _ => Real.exp_pos _) Finset.univ_nonempty).ne' (Real.exp_ne_zero M), Real.log_exp]
  ring

/-- The reference's keys or values. -/
def ctT (a : FVec Ideal S2x256x128 .f32) (b : FVec Ideal S2x8192x128 .f32) : FVec Ideal S2x8448x128 .f32 :=
  concatenate S2x8448x128 1 [⟨S2x256x128, a⟩, ⟨S2x8192x128, b⟩] concatenates_S2x256x128_S2x8192x128_S2x8448x128_d1

/-- Its scores. -/
def scT (Q : FVec Ideal S4x8192x128 .f32) (K : FVec Ideal S2x8448x128 .f32) : FVec Ideal S2x2x8192x8448 .f32 :=
  mulf (Host.dotGeneral dot_S2x2x8192x128_S2x8448x128_S2x2x8192x8448_3_2_12_1_0_0 none (shapeCast _ Q shapeCasts_S4x8192x128_S2x2x8192x128) K)
    (broadcastInDim S2x2x8192x8448 ![] bcast_S_S2x2x8192x8448 (constant S_ .f32 0x3DB504F3#32))

/-- Each row's largest score. -/
def mxT (S : FVec Ideal S2x2x8192x8448 .f32) : FVec Ideal S2x2x8192 .f32 :=
  Host.reduce FloatOps.maximumf S (constant S_ .f32 0xFF800000#32) reducesTo_S2x2x8192x8448_S2x2x8192_d3 h_S_

/-- It again, no less than -∞. -/
def bmT (M : FVec Ideal S2x2x8192 .f32) : FVec Ideal S2x2x8192 .f32 :=
  maximumf (broadcastInDim S2x2x8192 ![] bcast_S_S2x2x8192 (constant S_ .f32 0xFF800000#32)) M

/-- The exponentials. -/
def exT (S : FVec Ideal S2x2x8192x8448 .f32) (M : FVec Ideal S2x2x8192 .f32) : FVec Ideal S2x2x8192x8448 .f32 :=
  Host.exp (subf S (broadcastInDim S2x2x8192x8448 ![0, 1, 2, 3] bcast_S2x2x8192x1_S2x2x8192x8448_0_1_2_3 (broadcastInDim S2x2x8192x1 ![0, 1, 2] bcast_S2x2x8192_S2x2x8192x1_0_1_2 M)))

/-- Each row's sum of them. -/
def smT (E : FVec Ideal S2x2x8192x8448 .f32) : FVec Ideal S2x2x8192 .f32 :=
  Host.reduceAdd E (constant S_ .f32 0x00000000#32) reducesTo_S2x2x8192x8448_S2x2x8192_d3 h_S_

/-- The output. -/
def outT (E : FVec Ideal S2x2x8192x8448 .f32) (L : FVec Ideal S2x2x8192 .f32) (V : FVec Ideal S2x8448x128 .f32) : FVec Ideal S8192x512 .f32 :=
  shapeCast _ (transpose S8192x2x2x128 [2, 0, 1, 3] (Host.dotGeneral dot_S2x2x8192x8448_S2x8448x128_S2x2x8192x128_3_1_12_2_0_0 none
    (Host.divf E (broadcastInDim S2x2x8192x8448 ![0, 1, 2, 3] bcast_S2x2x8192x1_S2x2x8192x8448_0_1_2_3 (broadcastInDim S2x2x8192x1 ![0, 1, 2] bcast_S2x2x8192_S2x2x8192x1_0_1_2 L))) V)
    transposes_S2x2x8192x128_S8192x2x2x128_2_0_1_3) shapeCasts_S8192x2x2x128_S8192x512

/-- The logarithms of the sums. -/
def lseT (M L : FVec Ideal S2x2x8192 .f32) : FVec Ideal S4x8192x1 .f32 :=
  shapeCast _ (addf M (Host.log L)) shapeCasts_S2x2x8192_S4x8192x1

section
variable (x : S2x2x8192x8448.Idx → ℝ) (M : S2x2x8192.Idx → ℝ)

theorem ctT_eq (a : S2x256x128.Idx → ℝ) (b : S2x8192x128.Idx → ℝ) : ctT (up a) (up b) = up (cat a b) := AttentionValue.cat_eq a b

theorem scT_eq (q : S4x8192x128.Idx → ℝ) (k : S2x8448x128.Idx → ℝ) : scT (up q) (up k) = up fun i => score q k (i 0) (i 1) (i 2) (i 3) :=
  AttentionValue.score_eq q k

theorem mxT_real : ∃ M : S2x2x8192.Idx → ℝ, mxT (up x) = up M := AttentionValue.max_real x

theorem bmT_eq : bmT (up M) = up M := by
  funext i
  idx_vars i
  unfold bmT
  pointwise [up]
  rw [AttentionValue.ofBits_bot, max_eq_right bot_le]

theorem exT_eq : exT (up x) (up M) = up (expo x M) := by
  funext i
  idx_vars i
  unfold exT expo
  pointwise [up]
  rw [← EReal.coe_sub, Ideal.exp_coe]

theorem smT_eq : smT (up x) = up (total x) := AttentionValue.sum_eq x
end

section
variable (q : S4x8192x128.Idx → ℝ) (k v : S2x8448x128.Idx → ℝ) (M : S2x2x8192.Idx → ℝ)

theorem outT_eq (x : S2x2x8192x8448.Idx → ℝ) (L : S2x2x8192.Idx → ℝ)
    (hx : x = expo (fun i => score q k (i 0) (i 1) (i 2) (i 3)) M) (hL : L = total x) : outT (up x) (up L) (up v) = up (outF q k v) := by
  have hp : ∀ i, 0 < L i := fun i => hL ▸ hx ▸ Finset.sum_pos (fun j _ => Real.exp_pos _) Finset.univ_nonempty
  funext i
  idx_vars i
  unfold outT outF outH
  pointwise [up]
  simp only [Lift.div_coe (hp _).ne', ← EReal.coe_mul, Lift.sum_coe]
  subst hL hx
  refine congrArg Real.toEReal (Finset.sum_congr rfl fun j _ => ?_)
  have h1 := i1.isLt
  refine congrArg₂ (· * ·) (Eq.trans ?_ (wt_shift (score q k ⟨i1.val / 256, by omega⟩ ⟨i1.val / 128 % 2, by omega⟩ i0) (M (ix3 ⟨i1.val / 256, by omega⟩ ⟨i1.val / 128 % 2, by omega⟩ i0)) j)) ?_
  · rfl
  · rfl

theorem lseT_eq (x : S2x2x8192x8448.Idx → ℝ) (L : S2x2x8192.Idx → ℝ)
    (hx : x = expo (fun i => score q k (i 0) (i 1) (i 2) (i 3)) M) (hL : L = total x) : lseT (up M) (up L) = up (lseF q k) := by
  have hp : ∀ i, 0 < L i := fun i => hL ▸ hx ▸ Finset.sum_pos (fun j _ => Real.exp_pos _) Finset.univ_nonempty
  funext i
  idx_vars i
  unfold lseT lseF lseH
  pointwise [up]
  simp only [Ideal.log_coe, if_neg (not_le.2 (hp _)), ← EReal.coe_add]
  subst hL hx
  have h1 := i0.isLt
  exact congrArg Real.toEReal (log_shift (score q k ⟨i0.val / 2, by omega⟩ ⟨i0.val % 2, by omega⟩ i1) (M (ix3 ⟨i0.val / 2, by omega⟩ ⟨i0.val % 2, by omega⟩ i1)))
end

section
variable {q : S4x8192x128.Idx → ℝ} {kl vl : S2x8192x128.Idx → ℝ} {kc vc : S2x256x128.Idx → ℝ}
  (Q : FVec Ideal S4x8192x128 .f32) (Kl Vl : FVec Ideal S2x8192x128 .f32) (Kc Vc : FVec Ideal S2x256x128 .f32)

/-- The reference's first result. -/
theorem ref_out (h0 : Q = up q) (h1 : Kl = up kl) (h2 : Vl = up vl) (h3 : Kc = up kc) (h4 : Vc = up vc) :
    outT (exT (scT Q (ctT Kc Kl)) (bmT (mxT (scT Q (ctT Kc Kl))))) (smT (exT (scT Q (ctT Kc Kl)) (bmT (mxT (scT Q (ctT Kc Kl)))))) (ctT Vc Vl)
      = up (outF q (cat kc kl) (cat vc vl)) := by
  rw [h0, h1, h2, h3, h4, ctT_eq, ctT_eq, scT_eq]
  obtain ⟨M, hM⟩ := mxT_real fun i => score q (cat kc kl) (i 0) (i 1) (i 2) (i 3)
  rw [hM, bmT_eq, exT_eq, smT_eq, outT_eq q _ _ M _ _ rfl rfl]

/-- Its second result. -/
theorem ref_lse (h0 : Q = up q) (h1 : Kl = up kl) (h3 : Kc = up kc) :
    lseT (mxT (scT Q (ctT Kc Kl))) (smT (exT (scT Q (ctT Kc Kl)) (mxT (scT Q (ctT Kc Kl))))) = up (lseF q (cat kc kl)) := by
  rw [h0, h1, h3, ctT_eq, scT_eq]
  obtain ⟨M, hM⟩ := mxT_real fun i => score q (cat kc kl) (i 0) (i 1) (i 2) (i 3)
  rw [hM, exT_eq, smT_eq, lseT_eq q _ M _ _ rfl rfl]
end

end Cert.AttnFwdValue

end
-- ==== Proof.AttnFwdTile.lean ====
/-
  The attention, forward: what the kernel computes of one tile of 512 rows of one group's two heads, on real arrays. Row `r`
  of the 1024 stacked rows is row `r % 512` of the tile, of head `r / 512`; the body takes them 256 at a time.
-/
module

public import proofs.«01_k».proof.Proof.Gen.AttnFwdIdeal.Frame
public import proofs.«01_k».proof.Proof.AttnFwdRef

@[expose] public section

set_option maxRecDepth 16384

noncomputable section

open Idealize.ShloMosaic Idealize.ShloMosaic.TcCoe Idealize.SL.Sem

namespace Cert.AttnFwdValue

open Cert.AttnFwdIdeal Cert.AttnFwdIdeal.Gen
open Cert.AttentionValue (up sc score prob wt wt_shift cat sum_exp_pos fold_max_real)

/-- The named constant log2 e reads as the inverse of the logarithm of two. -/
theorem named_log2e : (Named.named κ "log2e" 0x3FB8AA3B#32 : Ideal .f32) = (((Real.log 2)⁻¹ : ℝ) : EReal) := by
  simp [Named.named, κ]

/-- The named constant ln 2 reads as the logarithm of two. -/
theorem named_ln2 : (Named.named κ "ln2" 0x3F317218#32 : Ideal .f32) = ((Real.log 2 : ℝ) : EReal) := by
  simp [Named.named, κ]

/-- The power of two of a real number. -/
theorem exp2_coe (x : ℝ) : (FloatOps.exp2 (F := Ideal) (φ := .f32) ((x : ℝ) : EReal) : EReal) = ((Real.rpow 2 x : ℝ) : EReal) := rfl

/-- A power of two of a difference of scores to base two, as an exponential. -/
theorem rpow_shift (x μ : ℝ) : Real.rpow 2 (x * (Real.log 2)⁻¹ - μ) = Real.exp (x - μ * Real.log 2) := by
  have h2 : Real.log 2 ≠ 0 := (Real.log_pos (by norm_num)).ne'
  rw [Real.rpow_eq_pow, Real.rpow_def_of_pos (by norm_num)]
  congr 1
  field_simp

/-! ### 256 rows of scores -/

/-- Each row's largest score. -/
def mOf (s : FVec Ideal S256x8448 .f32) : FVec Ideal S256x1 .f32 :=
  shapeCast S256x1 (multiReduction .maximumf [1] S256 s 0xFF800000#32 reduces_S256x8448_S256 (.inl rfl) rfl) shapeCasts_S256_S256x1

/-- The powers of two of what the scores lie below it. -/
def eOf (s : FVec Ideal S256x8448 .f32) : FVec Ideal S256x8448 .f32 :=
  exp2 (subf s (broadcastTo S256x8448 (mOf s) broadcasts_S256x1_S256x8448))

/-- Each row's sum of them. -/
def tOf (s : FVec Ideal S256x8448 .f32) : FVec Ideal S256x1 .f32 :=
  shapeCast S256x1 (multiReduction .add [1] S256 (eOf s) 0x00000000#32 reduces_S256x8448_S256 (.inl rfl) rfl) shapeCasts_S256_S256x1

/-- The rows' outputs. -/
def oOf (s : FVec Ideal S256x8448 .f32) (vv : FVec Ideal S1x8448x128 .bf16) : FVec Ideal S256x128 .f32 :=
  divf (matmul dot_S256x8448_S8448x128_S256x128_1_0_0_1_n_n none (truncf .bf16 (eOf s) bitsLt_bf16_f32)
    (shapeCast S8448x128 vv shapeCasts_S1x8448x128_S8448x128) (constant S256x128 .f32 0x00000000#32))
    (broadcastTo S256x128 (tOf s) broadcasts_S256x1_S256x128)

/-- The rows' logarithms of the sums, to base two. -/
def lOf (s : FVec Ideal S256x8448 .f32) : FVec Ideal S256x1 .f32 :=
  addf (mOf s) (mulf (log (tOf s)) (broadcast S256x1 (Named.named κ "log2e" 0x3FB8AA3B#32)))

section
variable {s : FVec Ideal S256x8448 .f32} {x : Fin 256 → Fin 8448 → ℝ} (hs : ∀ r j, s (ix2 r j) = ((x r j * (Real.log 2)⁻¹ : ℝ) : EReal))
include hs

/-- The largest score of a row is a real number. -/
theorem mOf_real (r : Fin 256) : ∃ μ : ℝ, mOf s (ix2 r 0) = ((μ : ℝ) : EReal) := by
  unfold mOf
  pointwise
  simp only [hs, AttentionValue.ofBits_bot]
  exact fold_max_real _ Finset.univ_nonempty _

theorem eOf_at {r : Fin 256} {μ : ℝ} (hμ : mOf s (ix2 r 0) = ((μ : ℝ) : EReal)) (j : Fin 8448) :
    eOf s (ix2 r j) = ((Real.exp (x r j - μ * Real.log 2) : ℝ) : EReal) := by
  unfold eOf
  pointwise
  rw [hμ, hs, ← EReal.coe_sub]
  exact (exp2_coe _).trans (congrArg Real.toEReal (rpow_shift _ _))

theorem tOf_at {r : Fin 256} {μ : ℝ} (hμ : mOf s (ix2 r 0) = ((μ : ℝ) : EReal)) :
    tOf s (ix2 r 0) = ((∑ j, Real.exp (x r j - μ * Real.log 2) : ℝ) : EReal) := by
  unfold tOf
  pointwise
  simp only [eOf_at hs hμ, Lift.sum_coe]

/-- A row's output is the values under the softmax weights of its scores. -/
theorem oOf_at {vv : FVec Ideal S1x8448x128 .bf16} {v : Fin 8448 → Fin 128 → ℝ} (hv : ∀ j e, vv (ix3 0 j e) = ((v j e : ℝ) : EReal))
    (r : Fin 256) (e : Fin 128) : oOf s vv (ix2 r e) = ((∑ j, wt (x r) j * v j e : ℝ) : EReal) := by
  obtain ⟨μ, hμ⟩ := mOf_real hs r
  unfold oOf
  pointwise
  simp only [eOf_at hs hμ, tOf_at hs hμ, hv, ← EReal.coe_mul, Lift.sum_coe, Lift.div_coe (sum_exp_pos (x r) _).ne']
  refine congrArg Real.toEReal ?_
  rw [Finset.sum_div]
  refine Finset.sum_congr rfl fun j _ => ?_
  rw [← wt_shift (x r) (μ * Real.log 2) j]
  ring

/-- A row's logarithm of the sum. -/
theorem lOf_at (r : Fin 256) : lOf s (ix2 r 0) = ((Real.log (∑ j, Real.exp (x r j)) * (Real.log 2)⁻¹ : ℝ) : EReal) := by
  obtain ⟨μ, hμ⟩ := mOf_real hs r
  have h2 : Real.log 2 ≠ 0 := (Real.log_pos (by norm_num)).ne'
  unfold lOf
  pointwise
  simp only [hμ, tOf_at hs hμ, Ideal.log_coe, if_neg (not_le.2 (sum_exp_pos (x r) _)), named_log2e, ← EReal.coe_mul, ← EReal.coe_add]
  refine congrArg Real.toEReal ?_
  rw [← log_shift (x r) (μ * Real.log 2)]
  field_simp
end

/-! ### The tile -/

/-- The row of the array that stacked row `r` of tile `i` is. -/
def row (i : Fin 16) (r : Fin 1024) : Fin 8192 := ⟨i.val * 512 + r.val % 512, by omega⟩

/-- The head that stacked row `r` belongs to. -/
def hd (r : Fin 1024) : Fin 2 := ⟨r.val / 512, by omega⟩

/-- The query of head `b` of group `a` at row `n`, column `e`. -/
def qry (q : S4x8192x128.Idx → ℝ) (a b : Fin 2) (n : Fin 8192) (e : Fin 128) : ℝ :=
  q (ix3 ⟨a.val * 2 + b.val, by omega⟩ n e)

variable {q : S4x8192x128.Idx → ℝ} {k v : S2x8448x128.Idx → ℝ} {a : Fin 2} {i : Fin 16}
variable {qv : FVec Ideal S2x512x128 .f32} {kv vv : FVec Ideal S1x8448x128 .bf16}

variable (q k v a i) in
/-- The blocks of tile `i` of group `a`: scaled queries, keys and values. -/
structure Tile (qv : FVec Ideal S2x512x128 .f32) (kv vv : FVec Ideal S1x8448x128 .bf16) : Prop where
  hq : ∀ (b : Fin 2) (r : Fin 512) e, qv (ix3 b r e) = ((qry q a b ⟨i.val * 512 + r.val, by omega⟩ e * sc : ℝ) : EReal)
  hk : ∀ j e, kv (ix3 0 j e) = ((k (ix3 a j e) : ℝ) : EReal)
  hv : ∀ j e, vv (ix3 0 j e) = ((v (ix3 a j e) : ℝ) : EReal)

variable (T : Tile q k v a i qv kv vv)
include T

/-- The stacked queries, scaled for powers of two. -/
theorem pay7_at (r : Fin 1024) (e : Fin 128) :
    (k0_pay7 (F := Ideal) qv (ix2 r e) : EReal) = ((qry q a (hd r) (row i r) e * sc * (Real.log 2)⁻¹ : ℝ) : EReal) := by
  pointwise [k0_pay7]
  rw [T.hq, named_log2e, ← EReal.coe_mul]
  rfl

omit T in
variable (q k a i) in
/-- A stacked row's scores, to base two. -/
theorem score_row (r : Fin 1024) (j : Fin 8448) :
    ∑ e : Fin 128, qry q a (hd r) (row i r) e * sc * (Real.log 2)⁻¹ * k (ix3 a j e)
      = score q k a (hd r) (row i r) j * (Real.log 2)⁻¹ := by
  unfold score
  rw [Finset.sum_mul, Finset.sum_mul]
  exact Finset.sum_congr rfl fun e _ => by simp only [qry]; ring

/-- The four groups of 256 stacked rows: their scores. -/
theorem pay8_at (r : Fin 256) (j : Fin 8448) : (k0_pay8 (F := Ideal) qv kv (ix2 r j) : EReal)
    = ((score q k a (hd ⟨r.val, by omega⟩) (row i ⟨r.val, by omega⟩) j * (Real.log 2)⁻¹ : ℝ) : EReal) := by
  pointwise [k0_pay8]
  simp only [pay7_at T, T.hk, ← EReal.coe_mul, Lift.sum_coe]
  exact congrArg Real.toEReal (score_row q k a i ⟨r.val, by omega⟩ j)

theorem pay14_at (r : Fin 256) (j : Fin 8448) : (k0_pay14 (F := Ideal) qv kv (ix2 r j) : EReal)
    = ((score q k a (hd ⟨256 + r.val, by omega⟩) (row i ⟨256 + r.val, by omega⟩) j * (Real.log 2)⁻¹ : ℝ) : EReal) := by
  pointwise [k0_pay14]
  simp only [pay7_at T, T.hk, ← EReal.coe_mul, Lift.sum_coe]
  exact congrArg Real.toEReal (score_row q k a i ⟨256 + r.val, by omega⟩ j)

theorem pay21_at (r : Fin 256) (j : Fin 8448) : (k0_pay21 (F := Ideal) (k0_pay7 qv) kv (ix2 r j) : EReal)
    = ((score q k a (hd ⟨512 + r.val, by omega⟩) (row i ⟨512 + r.val, by omega⟩) j * (Real.log 2)⁻¹ : ℝ) : EReal) := by
  pointwise [k0_pay21]
  simp only [pay7_at T, T.hk, ← EReal.coe_mul, Lift.sum_coe]
  exact congrArg Real.toEReal (score_row q k a i ⟨512 + r.val, by omega⟩ j)

theorem pay27_at (r : Fin 256) (j : Fin 8448) : (k0_pay27 (F := Ideal) (k0_pay7 qv) kv (ix2 r j) : EReal)
    = ((score q k a (hd ⟨768 + r.val, by omega⟩) (row i ⟨768 + r.val, by omega⟩) j * (Real.log 2)⁻¹ : ℝ) : EReal) := by
  pointwise [k0_pay27]
  simp only [pay7_at T, T.hk, ← EReal.coe_mul, Lift.sum_coe]
  exact congrArg Real.toEReal (score_row q k a i ⟨768 + r.val, by omega⟩ j)

end Cert.AttnFwdValue

end
-- ==== Proof.AttnFwdRows.lean ====
/-
  The attention, forward: the rows of one tile put together, four groups of 256 one below the other.
-/
module

public import proofs.«01_k».proof.Proof.AttnFwdTile

@[expose] public section

set_option maxRecDepth 16384

noncomputable section

open Idealize.ShloMosaic Idealize.ShloMosaic.TcCoe Idealize.SL.Sem

namespace Cert.AttnFwdValue

open Cert.AttnFwdIdeal Cert.AttnFwdIdeal.Gen
open Cert.AttentionValue (up sc score prob wt)

variable {q : S4x8192x128.Idx → ℝ} {k v : S2x8448x128.Idx → ℝ} {a : Fin 2} {i : Fin 16}
variable {qv : FVec Ideal S2x512x128 .f32} {kv vv : FVec Ideal S1x8448x128 .bf16}
variable (T : Tile q k v a i qv kv vv)
include T

/-- The stacked rows' outputs: the four groups one below the other. -/
theorem pay3_at (r : Fin 1024) (e : Fin 128) :
    (k0_pay3 (F := Ideal) (k0_pay12 qv kv vv) (k0_pay19 (k0_pay16 qv kv) (k0_pay17 qv kv) vv) (k0_pay25 (k0_pay7 qv) kv vv)
      (k0_pay27 (k0_pay7 qv) kv) (k0_pay29 (k0_pay7 qv) kv) vv (ix2 r e) : EReal)
      = ((outH q k v a (hd r) (row i r) e : ℝ) : EReal) := by
  have h0 : ∀ (p : Fin 256) (j : Fin 128), _ := fun p j => oOf_at (pay8_at T) T.hv p j
  have h1 : ∀ (p : Fin 256) (j : Fin 128), _ := fun p j => oOf_at (pay14_at T) T.hv p j
  have h2 : ∀ (p : Fin 256) (j : Fin 128), _ := fun p j => oOf_at (pay21_at T) T.hv p j
  have h3 : ∀ (p : Fin 256) (j : Fin 128), _ := fun p j => oOf_at (pay27_at T) T.hv p j
  change (concatenate S1024x128 0 [⟨S256x128, oOf (k0_pay8 qv kv) vv⟩, ⟨S256x128, oOf (k0_pay14 qv kv) vv⟩,
    ⟨S256x128, oOf (k0_pay21 (k0_pay7 qv) kv) vv⟩, ⟨S256x128, oOf (k0_pay27 (k0_pay7 qv) kv) vv⟩]
    concatenates_S256x128_S256x128_S256x128_S256x128_S1024x128_d0 (ix2 r e) : EReal) = _
  pointwise
  simp only [h0, h1, h2, h3]
  have hr : ∀ p : Fin 1024, p.val = r.val → ((∑ j, wt (score q k a (hd p) (row i p)) j * v (ix3 a j e) : ℝ) : EReal)
      = ((outH q k v a (hd r) (row i r) e : ℝ) : EReal) := fun p h => by obtain rfl := Fin.ext h; rfl
  split_ifs <;> exact hr _ (by dsimp only <;> omega)

/-- The stacked rows' logarithms of the sums. -/
theorem pay6_at (b : Fin 2) (r : Fin 512) (z : Fin 1) :
    (k0_pay6 (F := Ideal) (k0_pay13 qv kv) (k0_pay20 (k0_pay15 qv kv) (k0_pay17 qv kv)) (k0_pay26 (k0_pay7 qv) kv)
      (k0_pay27 (k0_pay7 qv) kv) (k0_pay28 (k0_pay7 qv) kv) (k0_pay29 (k0_pay7 qv) kv) (ix3 b r z) : EReal)
      = ((lseH q k a b ⟨i.val * 512 + r.val, by omega⟩ : ℝ) : EReal) := by
  obtain rfl : z = 0 := Subsingleton.elim _ _
  have h0 : ∀ (p : Fin 256), _ := fun p => lOf_at (pay8_at T) p
  have h1 : ∀ (p : Fin 256), _ := fun p => lOf_at (pay14_at T) p
  have h2 : ∀ (p : Fin 256), _ := fun p => lOf_at (pay21_at T) p
  have h3 : ∀ (p : Fin 256), _ := fun p => lOf_at (pay27_at T) p
  have hl : Real.log 2 ≠ 0 := (Real.log_pos (by norm_num)).ne'
  change (shapeCast S2x512x1 (mulf (concatenate S1024x1 0 [⟨S256x1, lOf (k0_pay8 qv kv)⟩, ⟨S256x1, lOf (k0_pay14 qv kv)⟩,
    ⟨S256x1, lOf (k0_pay21 (k0_pay7 qv) kv)⟩, ⟨S256x1, lOf (k0_pay27 (k0_pay7 qv) kv)⟩]
    concatenates_S256x1_S256x1_S256x1_S256x1_S1024x1_d0) (broadcast S1024x1 (Named.named κ "ln2" 0x3F317218#32)))
    shapeCasts_S1024x1_S2x512x1 (ix3 b r 0) : EReal) = _
  pointwise
  simp only [h0, h1, h2, h3, named_ln2]
  have hb := b.isLt
  have hr := r.isLt
  have e : ∀ p : Fin 1024, p.val = b.val * 512 + r.val →
      ((Real.log (∑ j, Real.exp (score q k a (hd p) (row i p) j)) * (Real.log 2)⁻¹ : ℝ) : EReal) * ((Real.log 2 : ℝ) : EReal)
        = ((lseH q k a b ⟨i.val * 512 + r.val, by omega⟩ : ℝ) : EReal) := fun p h => by
    rw [show hd p = b from Fin.ext (by simp only [hd]; omega),
      show row i p = ⟨i.val * 512 + r.val, by omega⟩ from Fin.ext (by simp only [row]; omega),
      ← EReal.coe_mul, mul_assoc, inv_mul_cancel₀ hl, mul_one]
    rfl
  split_ifs <;> exact e _ (by dsimp only <;> omega)

end Cert.AttnFwdValue

end
-- ==== Proof.AttnFwd.lean ====
/-
  The attention, forward: the kernel's two results and the plain attention's are the same arrays, for finite arguments.
-/
module

public import proofs.«01_k».proof.Defs
public import proofs.«01_k».proof.Proof.AttnFwdRows
public import Idealize.ShloMosaic.Lib.Pipeline.Value
public import proofs.«01_k».proof.Proof.Gen.Pre_attf_finite
public import Idealize.ShloMosaic.Lib.Claim
public import Idealize.ShloMosaic.Lib.Pipeline.ReadBack
public import Idealize.ShloMosaic.Lib.Quiescent
public import Idealize.ShloMosaic.Lib.StableHlo.Run

@[expose] public section

set_option maxRecDepth 16384

noncomputable section

open Idealize.ShloMosaic Idealize.ShloMosaic.TcCoe Idealize.SL.Sem Idealize.ShloMosaic.StableHlo

namespace Cert.AttnFwdValue

open Cert.AttnFwdIdeal Cert.AttnFwdIdeal.Gen
open Cert.AttentionValue (up sc score prob wt cat)

variable (m : (ℓ : Loc nD τ sig) → Buf (Elt Ideal) ℓ) (c : Dev nD)

/-- The scaled queries that the host line before the kernel prepares. -/
def hQ (Q : FVec Ideal S4x8192x128 .f32) : FVec Ideal S4x8192x128 .f32 :=
  mulf Q (broadcastInDim S4x8192x128 ![] bcast_S_S4x8192x128 (constant S_ .f32 0x3DB504F3#32))

theorem hQ_eq (q : S4x8192x128.Idx → ℝ) : hQ (up q) = up fun i => q i * sc := by
  funext i
  unfold hQ
  pointwise [up]
  rw [AttentionValue.ofBits_sc, EReal.coe_mul]

theorem V_q : (V m c main_v3 : FVec Ideal S4x8192x128 .f32) = hQ (m (c.tc.loc main_arg0)) := by
  simp only [V, hostOps0, List.flatten_cons, List.flatten_nil, List.append_nil, List.cons_append, List.nil_append]
  after_results_simp <;> rfl

theorem V_k : (V m c main_v4 : FVec Ideal S2x8448x128 .bf16) = (ctT (m (c.tc.loc main_arg3)) (m (c.tc.loc main_arg1)) : S2x8448x128.Idx → EReal) := by
  simp only [V, hostOps0, List.flatten_cons, List.flatten_nil, List.append_nil, List.cons_append, List.nil_append]
  after_results_simp <;> rfl

theorem V_v : (V m c main_v5 : FVec Ideal S2x8448x128 .bf16) = (ctT (m (c.tc.loc main_arg4)) (m (c.tc.loc main_arg2)) : S2x8448x128.Idx → EReal) := by
  simp only [V, hostOps0, List.flatten_cons, List.flatten_nil, List.append_nil, List.cons_append, List.nil_append]
  after_results_simp <;> rfl

/-- The block indices at a grid point. -/
theorem idx : ∀ t : Fin cfg0.N, win0_0.index t = ![t.val / 16, t.val % 16, 0] ∧ win0_1.index t = ![t.val / 16, 0, 0]
    ∧ win0_2.index t = ![t.val / 16, 0, 0] ∧ win0_3.index t = ![t.val % 16, t.val / 16] ∧ win0_4.index t = ![t.val / 16, t.val % 16, 0] :=
  (by decide +kernel : ∀ t : Fin grid0.N, _)

/-- The group of a grid point. -/
def grp (t : Fin cfg0.N) : Fin 2 := ⟨t.val / 16, by have h : t.val < 32 := lt_of_lt_of_eq t.isLt (by decide); omega⟩

/-- The tile of a grid point. -/
def til (t : Fin cfg0.N) : Fin 16 := ⟨t.val % 16, by omega⟩

section
variable (X : ∀ b : Ref sig .tc, Buf (Elt Ideal) ((c : Thread nD τ).loc b))

/-- A block of the queries, read in the array. -/
theorem rd0 (t : Fin cfg0.N) (b : Fin 2) (r : Fin 512) (e : Fin 128) :
    (((cfg0.win 0).blk t).view.read (Elt Ideal) (X (Pipeline.arrRef spec0 0)) : FVec Ideal S2x512x128 .f32) (ix3 b r e)
      = (X main_v3 : FVec Ideal S4x8192x128 .f32) (ix3 ⟨(grp t).val * 2 + b.val, by omega⟩ ⟨(til t).val * 512 + r.val, by omega⟩ e) := by
  unfold grp til
  blk_point [idx t]

/-- A block of the keys, read in the array. -/
theorem rd1 (t : Fin cfg0.N) (j : Fin 8448) (e : Fin 128) :
    (((cfg0.win 1).blk t).view.read (Elt Ideal) (X (Pipeline.arrRef spec0 1)) : FVec Ideal S1x8448x128 .bf16) (ix3 0 j e)
      = (X main_v4 : FVec Ideal S2x8448x128 .bf16) (ix3 (grp t) j e) := by
  unfold grp
  blk_point [idx t]

/-- A block of the values, read in the array. -/
theorem rd2 (t : Fin cfg0.N) (j : Fin 8448) (e : Fin 128) :
    (((cfg0.win 2).blk t).view.read (Elt Ideal) (X (Pipeline.arrRef spec0 2)) : FVec Ideal S1x8448x128 .bf16) (ix3 0 j e)
      = (X main_v5 : FVec Ideal S2x8448x128 .bf16) (ix3 (grp t) j e) := by
  unfold grp
  blk_point [idx t]
end

section
variable (q : S4x8192x128.Idx → ℝ) (k v : S2x8448x128.Idx → ℝ)

/-- What the kernel's operands hold: the scaled queries, the keys and the values. -/
structure Held : Prop where
  hq : (V m c main_v3 : FVec Ideal S4x8192x128 .f32) = up fun i => q i * sc
  hk : (V m c main_v4 : FVec Ideal S2x8448x128 .bf16) = (up k : S2x8448x128.Idx → EReal)
  hv : (V m c main_v5 : FVec Ideal S2x8448x128 .bf16) = (up v : S2x8448x128.Idx → EReal)

variable {c q k v}

/-- The operands' blocks at a grid point are those of a tile. -/
theorem tile (H : Held m c q k v) (t : Fin cfg0.N) : Tile q k v (grp t) (til t) (iblk m c 0 t) (iblk m c 1 t) (iblk m c 2 t) where
  hq b r e := (rd0 c (V m c) t b r e).trans (congrFun H.hq _)
  hk j e := (rd1 c (V m c) t j e).trans (congrFun H.hk _)
  hv j e := (rd2 c (V m c) t j e).trans (congrFun H.hv _)

/-- A tile's output at row `r`, column `e` of head `b`, in the array. -/
theorem outF_at (t : Fin cfg0.N) (s : Fin 1024) (e : Fin 128) (x : S8192x512.Idx)
    (x0 : (x 0).val = t.val % 16 * 512 + s.val % 512) (x1 : (x 1).val = t.val / 16 * 256 + s.val / 512 * 128 + e.val) :
    outH q k v (grp t) (hd s) (row (til t) s) e = outF q k v x := by
  have he := e.isLt
  have hs := s.isLt
  unfold outF
  congr 1
  · exact Fin.ext (by simp only [grp]; omega)
  · exact Fin.ext (by simp only [hd]; omega)
  · exact Fin.ext (by simp only [row, til]; omega)
  · exact Fin.ext (by simp only; omega)

set_option maxHeartbeats 1000000 in
/-- The block of the output that a grid point leaves. -/
theorem after3 (H : Held m c q k v) (t : Fin cfg0.N) (y : S512x256.Idx) (x : S8192x512.Idx)
    (e0 : (x 0).val = t.val % 16 * 512 + (y 0).val) (e1 : (x 1).val = t.val / 16 * 256 + (y 1).val) :
    (out0_3 (F := Ideal) (iblk m c 0 t) (iblk m c 1 t) (iblk m c 2 t) y : EReal) = ((outF q k v x : ℝ) : EReal) := by
  unfold_out out0_3
  frame_out
  canon_tiles z h
  · idx_vars z
    pointwise [k0_pay5]
    refine (pay3_at (tile m H t) _ _).trans (congrArg Real.toEReal (outF_at t _ _ x ?_ ?_)) <;> dsimp only at * <;> omega
  · idx_vars z
    pointwise [k0_pay4]
    refine (pay3_at (tile m H t) _ _).trans (congrArg Real.toEReal (outF_at t _ _ x ?_ ?_)) <;> dsimp only at * <;> omega

/-- The first result. -/
theorem final3 (H : Held m c q k v) : (dats m 0 c).arrAt 3 cfg0.N = up (outF q k v) := by
  refine (dats m 0 c).arrAt_eq_of_covers 3 _ (by decide +kernel) fun t hf y => ?_
  blk_simp
  rw [after0_3]
  refine after3 m H t _ _ ?_ ?_ <;> blk_simp [idx t]

/-- The block of the logarithms that a grid point leaves. -/
theorem after4 (H : Held m c q k v) (t : Fin cfg0.N) (y : S2x512x1.Idx) (x : S4x8192x1.Idx)
    (e0 : (x 0).val = t.val / 16 * 2 + (y 0).val) (e1 : (x 1).val = t.val % 16 * 512 + (y 1).val) :
    (out0_4 (F := Ideal) (iblk m c 0 t) (iblk m c 1 t) (iblk m c 2 t) y : EReal) = ((lseF q k x : ℝ) : EReal) := by
  unfold_out out0_4
  frame_out
  idx_vars y
  refine (pay6_at (tile m H t) y0 y1 y2).trans (congrArg Real.toEReal ?_)
  have hy := y0.isLt
  have e0' : (x 0).val = t.val / 16 * 2 + y0.val := e0
  have e1' : (x 1).val = t.val % 16 * 512 + y1.val := e1
  unfold lseF
  congr 1
  · exact Fin.ext (by simp only [grp]; omega)
  · exact Fin.ext (by simp only; omega)
  · exact Fin.ext (by simp only [til]; omega)

/-- The second result. -/
theorem final4 (H : Held m c q k v) : (dats m 0 c).arrAt 4 cfg0.N = up (lseF q k) := by
  refine (dats m 0 c).arrAt_eq_of_covers 4 _ (by decide +kernel) fun t hf y => ?_
  blk_simp
  rw [after0_4]
  refine after4 m H t _ _ ?_ ?_ <;> blk_simp [idx t]
end

/-- Under the precondition every argument is an array of real numbers. -/
theorem reals (q : FVec Ideal S4x8192x128 .f32) (kl vl : FVec Ideal S2x8192x128 .f32) (kc vc : FVec Ideal S2x256x128 .f32)
    (h : Cert.Pre_attf_finite.fn q kl vl kc vc = fun _ => 1#1) :
    Lift.IsReal (s := S4x8192x128) q ∧ Lift.IsReal (s := S2x8192x128) kl ∧ Lift.IsReal (s := S2x8192x128) vl
      ∧ Lift.IsReal (s := S2x256x128) kc ∧ Lift.IsReal (s := S2x256x128) vc := by
  have h0 := congrFun h (ix1 0)
  have h1 := congrFun h (ix1 1)
  have h2 := congrFun h (ix1 2)
  have h3 := congrFun h (ix1 3)
  have h4 := congrFun h (ix1 4)
  clear h
  unfold Cert.Pre_attf_finite.fn Cert.Pre_attf_finite.fn_part1 at h0 h1 h2 h3 h4
  simp [concatenate_cons_apply, concatenateAt_cons, concatenateAt_singleton] at h0 h1 h2 h3 h4
  exact ⟨Lift.real_of_all q _ h0, Lift.real_of_all kl _ h1, Lift.real_of_all vl _ h2, Lift.real_of_all kc _ h3,
    Lift.real_of_all vc _ h4⟩

/-- For real arguments the host lines leave the operands that the tiles need. -/
theorem held (q : S4x8192x128.Idx → ℝ) (kl vl : S2x8192x128.Idx → ℝ) (kc vc : S2x256x128.Idx → ℝ)
    (h0 : m (c.tc.loc main_arg0) = up q) (h1 : m (c.tc.loc main_arg1) = up kl) (h2 : m (c.tc.loc main_arg2) = up vl)
    (h3 : m (c.tc.loc main_arg3) = up kc) (h4 : m (c.tc.loc main_arg4) = up vc) : Held m c q (cat kc kl) (cat vc vl) where
  hq := (V_q m c).trans (by rw [h0, hQ_eq])
  hk := (V_k m c).trans (by rw [h1, h3, ctT_eq])
  hv := (V_v m c).trans (by rw [h2, h4, ctT_eq])

/-- The reference's executions end, with its arguments unchanged and every counter at zero. -/
theorem refFrame : Cert.quiescent_AttnFwdRefIdeal := fun m ρ _ =>
  (θ_run _ _ _).mono (fun r h => ⟨fun c => (h c).2.2, sem_eq_zero_of_no_sems rfl r.2⟩)
    (Cert.AttnFwdRefIdeal.Value.run m ρ)

/-- The kernel's executions end with its two result arrays named, and its arguments unchanged. -/
theorem run (g : Dev nD → PrngReg) : θ_run defs (onTc (τ := τ) (main (F := Ideal))) ⟨m, fun _ => 0, g⟩ fun r => ∀ c : Dev nD,
      r.2.mem ((c : Thread nD τ).loc main_v6_0) = (dats m 0 c).arrAt 3 cfg0.N
      ∧ r.2.mem ((c : Thread nD τ).loc main_v6_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 3, (h c).1 4,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m g)

/-- The two programs' results are the same arrays, for finite arguments. -/
theorem algebraic : Cert.algebraic_AttnFwdIdeal_AttnFwdRefIdeal_pre_attf_finite := by
  intro m g m' g' hpre hagree
  refine ⟨fun c => (dats m 0 c).arrAt 3 cfg0.N, fun c => (dats m 0 c).arrAt 4 cfg0.N,
    run m g, (θ_run _ _ _).mono (fun r h c => ?_) (Cert.AttnFwdRefIdeal.Value.run m' g')⟩
  obtain ⟨h0, h1, h⟩ := h c
  obtain ⟨a0, a1, a2, a3, a4⟩ := hagree c
  obtain ⟨⟨q, hq⟩, ⟨kl, hkl⟩, ⟨vl, hvl⟩, ⟨kc, hkc⟩, ⟨vc, hvc⟩⟩ := reals _ _ _ _ _ (hpre c)
  have H := held m c q kl vl kc vc hq hkl hvl hkc hvc
  refine ⟨h0.trans (.trans ?_ (final3 m H).symm), h1.trans (.trans ?_ (final4 m H).symm), h⟩
  · exact ref_out _ _ _ _ _ (a0.trans hq) (a1.trans hkl) (a2.trans hvl) (a3.trans hkc) (a4.trans hvc)
  · exact ref_lse _ _ _ (a0.trans hq) (a1.trans hkl) (a3.trans hkc)

end Cert.AttnFwdValue

end
-- ==== Proof.NormFwd.lean ====
/-
  The gated residual, the norm and the modulation behind it, forward: the kernel's two results and the reference's are the
  same arrays. Each grid point holds 512 whole rows.
-/
module

public import proofs.«01_k».proof.Defs
public import proofs.«01_k».proof.Proof.NormRow
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal
public import Idealize.ShloMosaic.Lib.Claim
public import Idealize.ShloMosaic.Lib.Pointwise
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.NormFwdValue

open Cert.NormFwdIdeal Cert.NormFwdIdeal.Gen

/-- The number 1024 as the programs write it. -/
abbrev w1024 : EReal := Ideal.ofBits .f32 0x44800000#32

section
variable (x y : FVec Ideal S8192x1024 .f32) (g p n s h : FVec Ideal S1x1024 .f32)

/-- The rows behind the gated residual. -/
def res (i : S8192x1024.Idx) : EReal := x i + g (ix2 0 (i 1)) * (y i * p (ix2 0 (i 1)))

/-- The rows after the norm and the modulation. -/
def nrm (i : S8192x1024.Idx) : EReal :=
  res x y g p i * NormRow.rms w1024 (fun l => res x y g p (ix2 (i 0) l)) * n (ix2 0 (i 1)) * (1 + s (ix2 0 (i 1))) + h (ix2 0 (i 1))
end

variable (m : (ℓ : Loc nD τ sig) → Buf (Elt Ideal) ℓ) (c : Dev nD)

/-- The block indices at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] := (by decide +kernel : ∀ t : Fin grid0.N, _)

/-- Row `r` of grid point `t`'s block, in the array. -/
def row (t : Fin cfg0.N) (r : Fin 512) : Fin 8192 := ⟨t.val * 512 + r.val, by have h : t.val < 16 := lt_of_lt_of_eq t.isLt (by decide); omega⟩

theorem blk0 (t : Fin cfg0.N) (r : Fin 512) (l : Fin 1024) : (iblk m c 0 t : FVec Ideal S512x1024 .f32) (ix2 r l)
    = (m ((c : Thread nD τ).loc main_arg0) : FVec Ideal S8192x1024 .f32) (ix2 (row t r) l) := by
  unfold row
  blk_point [iblk, V, idx t]

theorem blk1 (t : Fin cfg0.N) (r : Fin 512) (l : Fin 1024) : (iblk m c 1 t : FVec Ideal S512x1024 .f32) (ix2 r l)
    = (m ((c : Thread nD τ).loc main_arg1) : FVec Ideal S8192x1024 .f32) (ix2 (row t r) l) := by
  unfold row
  blk_point [iblk, V, idx t]

theorem blk2 (t : Fin cfg0.N) : (iblk m c 2 t : FVec Ideal S1x1024 .f32) = m ((c : Thread nD τ).loc main_arg2) := by
  funext j
  idx_vars j
  blk_point [iblk, V, idx t]

theorem blk3 (t : Fin cfg0.N) : (iblk m c 3 t : FVec Ideal S1x1024 .f32) = m ((c : Thread nD τ).loc main_arg3) := by
  funext j
  idx_vars j
  blk_point [iblk, V, idx t]

theorem blk4 (t : Fin cfg0.N) : (iblk m c 4 t : FVec Ideal S1x1024 .f32) = m ((c : Thread nD τ).loc main_arg4) := by
  funext j
  idx_vars j
  blk_point [iblk, V, idx t]

theorem blk5 (t : Fin cfg0.N) : (iblk m c 5 t : FVec Ideal S1x1024 .f32) = m ((c : Thread nD τ).loc main_arg5) := by
  funext j
  idx_vars j
  blk_point [iblk, V, idx t]

theorem blk6 (t : Fin cfg0.N) : (iblk m c 6 t : FVec Ideal S1x1024 .f32) = m ((c : Thread nD τ).loc main_arg6) := by
  funext j
  idx_vars j
  blk_point [iblk, V, idx t]

/-- The block of the rows behind the residual that a grid point computes. -/
theorem res_at (t : Fin cfg0.N) (r : Fin 512) (l : Fin 1024) :
    (k0_pay1 (F := Ideal) (iblk m c 0 t) (iblk m c 1 t) (iblk m c 3 t) (iblk m c 2 t) (ix2 r l) : EReal)
      = res (m ((c : Thread nD τ).loc main_arg0)) (m ((c : Thread nD τ).loc main_arg1)) (m ((c : Thread nD τ).loc main_arg2))
        (m ((c : Thread nD τ).loc main_arg3)) (ix2 (row t r) l) := by
  pointwise [k0_pay1]
  rw [blk0, blk1, blk2, blk3]
  rfl

/-- The block of the normalised rows that a grid point computes. -/
theorem nrm_at (t : Fin cfg0.N) (r : Fin 512) (l : Fin 1024) :
    (k0_pay2 (F := Ideal) (iblk m c 0 t) (iblk m c 1 t) (iblk m c 3 t) (iblk m c 2 t) (iblk m c 4 t) (iblk m c 5 t) (iblk m c 6 t) (ix2 r l) : EReal)
      = nrm (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (ix2 (row t r) l) := by
  pointwise [k0_pay2]
  simp only [res_at, blk4, blk5, blk6]
  rfl

/-- What the launch leaves in the first result. -/
theorem final7 : (dats m 0 c).arrAt 7 cfg0.N
    = (res (m ((c : Thread nD τ).loc main_arg0)) (m ((c : Thread nD τ).loc main_arg1)) (m ((c : Thread nD τ).loc main_arg2))
        (m ((c : Thread nD τ).loc main_arg3)) : FVec Ideal S8192x1024 .f32) := by
  refine (dats m 0 c).arrAt_eq_of_covers 7 _ (by decide +kernel) fun t hf y => ?_
  blk_simp
  rw [after0_7]
  unfold out0_7
  frame_out
  idx_vars y
  refine (res_at m c t _ _).trans (congrArg (res _ _ _ _) ?_)
  unfold row
  blk_ext <;> blk_simp [idx t]

/-- What the launch leaves in the second result. -/
theorem final8 : (dats m 0 c).arrAt 8 cfg0.N
    = (nrm (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) : FVec Ideal S8192x1024 .bf16) := by
  refine (dats m 0 c).arrAt_eq_of_covers 8 _ (by decide +kernel) fun t hf y => ?_
  blk_simp
  rw [after0_8]
  unfold out0_8
  frame_out
  idx_vars y
  refine (nrm_at m c t _ _).trans (congrArg (nrm _ _ _ _ _ _ _) ?_)
  unfold row
  blk_ext <;> blk_simp [idx t]

/-- The reference's executions end, with its arguments unchanged and every counter at zero. -/
theorem refFrame : Cert.quiescent_NormFwdRefIdeal := fun m ρ _ =>
  (θ_run _ _ _).mono (fun r h => ⟨fun c => (h c).2.2, sem_eq_zero_of_no_sems rfl r.2⟩)
    (Cert.NormFwdRefIdeal.Value.run m ρ)

/-- The two programs' results are the same arrays. -/
theorem algebraic : Cert.algebraic_NormFwdIdeal_NormFwdRefIdeal := by
  intro m g m' g' _ hagree
  refine ⟨fun c => (dats m 0 c).arrAt 7 cfg0.N, fun c => (dats m 0 c).arrAt 8 cfg0.N,
    Cert.NormFwdIdeal.Value.run_blocks m g, (θ_run _ _ _).mono (fun r h c => ?_) (Cert.NormFwdRefIdeal.Value.run m' g')⟩
  obtain ⟨h0, h1, h⟩ := h c
  obtain ⟨a0, a1, a2, a3, a4, a5, a6⟩ := hagree c
  refine ⟨h0.trans (.trans ?_ (final7 m c).symm), h1.trans (.trans ?_ (final8 m c).symm), h⟩
  · rw [a0, a1, a2, a3]
    funext i
    idx_vars i
    pointwise [res]
  · rw [a0, a1, a2, a3, a4, a5, a6]
    funext i
    idx_vars i
    pointwise
    rfl

end Cert.NormFwdValue

end
-- ==== Proof.RefFrames.lean ====
/-
  The references whose values are not claimed: their executions end, with the arguments unchanged.
-/
module

public import proofs.«01_k».proof.Defs
public import proofs.«01_k».proof.Proof.Gen.PoolRefIdeal.Run
public import proofs.«01_k».proof.Proof.Gen.PoolRefIdeal
public import proofs.«01_k».proof.Proof.Gen.QkvRefIdeal.Run
public import proofs.«01_k».proof.Proof.Gen.QkvRefIdeal
public import Idealize.ShloMosaic.Lib.Quiescent

@[expose] public section

set_option maxRecDepth 16384

noncomputable section

open Idealize.ShloMosaic Idealize.ShloMosaic.TcCoe Idealize.SL.Sem

namespace Cert.RefFrames

/-- Every execution of the reference of `Pool` ends, with its arguments unchanged and every counter at zero. -/
theorem Pool : Cert.quiescent_PoolRefIdeal := fun m ρ _ =>
  (θ_run _ _ _).mono (fun r h => ⟨fun c => (h c).2.2.2.2.2.2.2.2.2, sem_eq_zero_of_no_sems rfl r.2⟩)
    (Cert.PoolRefIdeal.Value.run m ρ)

/-- Every execution of the reference of `Qkv` ends, with its arguments unchanged and every counter at zero. -/
theorem Qkv : Cert.quiescent_QkvRefIdeal := fun m ρ _ =>
  (θ_run _ _ _).mono (fun r h => ⟨fun c => (h c).2.2.2, sem_eq_zero_of_no_sems rfl r.2⟩)
    (Cert.QkvRefIdeal.Value.run m ρ)

end Cert.RefFrames

end
-- ==== Proof.lean ====
/-
  The certificate: every claim of the package, assembled from the modules of its programs.
-/
module

public import proofs.«01_k».proof.Defs
public import proofs.«01_k».proof.Proof.Gen.NormCtx.Frame
public import proofs.«01_k».proof.Proof.Gen.NormCtxIdeal.Frame
public import proofs.«01_k».proof.Proof.Gen.NormCtxIdeal.Value
public import proofs.«01_k».proof.Proof.Gen.NormCtxRefIdeal.Run
public import proofs.«01_k».proof.Proof.Gen.NormCtxRefIdeal
public import proofs.«01_k».proof.Proof.Gen.Pre_norm_finite
public import proofs.«01_k».proof.Proof.Gen.ShortConv.Frame
public import proofs.«01_k».proof.Proof.Gen.ShortConvIdeal.Frame
public import proofs.«01_k».proof.Proof.Gen.ShortConvIdeal.Value
public import proofs.«01_k».proof.Proof.Gen.ShortConvRefIdeal.Run
public import proofs.«01_k».proof.Proof.Gen.ShortConvRefIdeal
public import proofs.«01_k».proof.Proof.Gen.Attention.Frame
public import proofs.«01_k».proof.Proof.Gen.AttentionIdeal.Frame
public import proofs.«01_k».proof.Proof.Gen.AttentionIdeal.Value
public import proofs.«01_k».proof.Proof.Gen.AttentionRefIdeal.Run
public import proofs.«01_k».proof.Proof.Gen.AttentionRefIdeal
public import proofs.«01_k».proof.Proof.Gen.Pre_att_finite
public import proofs.«01_k».proof.Proof.Gen.Glu.Frame
public import proofs.«01_k».proof.Proof.Gen.GluIdeal.Frame
public import proofs.«01_k».proof.Proof.Gen.GluIdeal.Value
public import proofs.«01_k».proof.Proof.Gen.GluRefIdeal.Run
public import proofs.«01_k».proof.Proof.Gen.GluRefIdeal
public import proofs.«01_k».proof.Proof.Gen.Pre_glu_finite
public import proofs.«01_k».proof.Proof.Gen.QkvCtx.Frame
public import proofs.«01_k».proof.Proof.Gen.QkvCtxIdeal.Frame
public import proofs.«01_k».proof.Proof.Gen.QkvCtxIdeal.Value
public import proofs.«01_k».proof.Proof.Gen.QkvCtxRefIdeal.Run
public import proofs.«01_k».proof.Proof.Gen.QkvCtxRefIdeal
public import proofs.«01_k».proof.Proof.Gen.Pre_qkvc_finite
public import proofs.«01_k».proof.Proof.Gen.FfnUpLast.Frame
public import proofs.«01_k».proof.Proof.Gen.FfnUpLastIdeal.Frame
public import proofs.«01_k».proof.Proof.Gen.FfnUpLastIdeal.Value
public import proofs.«01_k».proof.Proof.Gen.FfnUpLastRefIdeal.Run
public import proofs.«01_k».proof.Proof.Gen.FfnUpLastRefIdeal
public import proofs.«01_k».proof.Proof.Gen.Pre_up1_finite
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal
public import proofs.«01_k».proof.Proof.Gen.Pre_in_finite
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.Gen.FfnUpRefIdeal
public import proofs.«01_k».proof.Proof.Gen.Pre_up_finite
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal
public import proofs.«01_k».proof.Proof.Gen.Cond.Frame
public import proofs.«01_k».proof.Proof.Gen.CondIdeal.Frame
public import proofs.«01_k».proof.Proof.Gen.CondIdeal.Value
public import proofs.«01_k».proof.Proof.Gen.CondRefIdeal.Run
public import proofs.«01_k».proof.Proof.Gen.CondRefIdeal
public import proofs.«01_k».proof.Proof.Gen.Pre_cond_finite
public import proofs.«01_k».proof.Proof.Gen.Pool.Frame
public import proofs.«01_k».proof.Proof.Gen.PoolIdeal.Frame
public import proofs.«01_k».proof.Proof.Gen.PoolRefIdeal.Run
public import proofs.«01_k».proof.Proof.Gen.PoolRefIdeal
public import proofs.«01_k».proof.Proof.Gen.Qkv.Frame
public import proofs.«01_k».proof.Proof.Gen.QkvIdeal.Frame
public import proofs.«01_k».proof.Proof.Gen.QkvRefIdeal.Run
public import proofs.«01_k».proof.Proof.Gen.QkvRefIdeal
public import proofs.«01_k».proof.Proof.Gen.AttnFwd.Frame
public import proofs.«01_k».proof.Proof.Gen.AttnFwdIdeal.Frame
public import proofs.«01_k».proof.Proof.Gen.AttnFwdRefIdeal.Run
public import proofs.«01_k».proof.Proof.Gen.AttnFwdRefIdeal
public import proofs.«01_k».proof.Proof.Gen.Pre_attf_finite
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal
public import proofs.«01_k».proof.Proof.NormCtx
public import proofs.«01_k».proof.Proof.ShortConvEq
public import proofs.«01_k».proof.Proof.AttentionEq
public import proofs.«01_k».proof.Proof.GluEq
public import proofs.«01_k».proof.Proof.QkvCtx
public import proofs.«01_k».proof.Proof.FfnUpLast
public import proofs.«01_k».proof.Proof.InProj
public import proofs.«01_k».proof.Proof.FfnUp
public import proofs.«01_k».proof.Proof.Loss
public import proofs.«01_k».proof.Proof.Cond
public import proofs.«01_k».proof.Proof.AttnFwd
public import proofs.«01_k».proof.Proof.NormFwd
public import proofs.«01_k».proof.Proof.RefFrames
public import Idealize.ShloMosaic.Lib.Claim

@[expose] public section

set_option maxRecDepth 16384

noncomputable section

open Idealize.ShloMosaic Idealize.ShloMosaic.TcCoe Idealize.SL.Sem

namespace Cert.Proof

/-- Every claim of the package holds. -/
theorem claim : Cert.Claim := by
  refine ⟨
    Cert.NormCtx.Gen.facts, Cert.NormCtxIdeal.Gen.facts, Cert.NormCtxRefIdeal.Gen.facts, Cert.ShortConv.Gen.facts,
    Cert.ShortConvIdeal.Gen.facts, Cert.ShortConvRefIdeal.Gen.facts, Cert.Attention.Gen.facts,
    Cert.AttentionIdeal.Gen.facts, Cert.AttentionRefIdeal.Gen.facts, Cert.Glu.Gen.facts, Cert.GluIdeal.Gen.facts,
    Cert.GluRefIdeal.Gen.facts, Cert.QkvCtx.Gen.facts, Cert.QkvCtxIdeal.Gen.facts, Cert.QkvCtxRefIdeal.Gen.facts,
    Cert.FfnUpLast.Gen.facts, Cert.FfnUpLastIdeal.Gen.facts, Cert.FfnUpLastRefIdeal.Gen.facts, Cert.InProj.Gen.facts,
    Cert.InProjIdeal.Gen.facts, Cert.InProjRefIdeal.Gen.facts, Cert.FfnUp.Gen.facts, Cert.FfnUpIdeal.Gen.facts,
    Cert.FfnUpRefIdeal.Gen.facts, Cert.Loss.Gen.facts, Cert.LossIdeal.Gen.facts, Cert.LossRefIdeal.Gen.facts,
    Cert.Cond.Gen.facts, Cert.CondIdeal.Gen.facts, Cert.CondRefIdeal.Gen.facts, Cert.Pool.Gen.facts,
    Cert.PoolIdeal.Gen.facts, Cert.PoolRefIdeal.Gen.facts, Cert.Qkv.Gen.facts, Cert.QkvIdeal.Gen.facts,
    Cert.QkvRefIdeal.Gen.facts, Cert.AttnFwd.Gen.facts, Cert.AttnFwdIdeal.Gen.facts, Cert.AttnFwdRefIdeal.Gen.facts,
    Cert.NormFwd.Gen.facts, Cert.NormFwdIdeal.Gen.facts, Cert.NormFwdRefIdeal.Gen.facts, Cert.Pre_norm_finite.Gen.facts,
    Cert.Pre_att_finite.Gen.facts, Cert.Pre_glu_finite.Gen.facts, Cert.Pre_qkvc_finite.Gen.facts,
    Cert.Pre_up1_finite.Gen.facts, Cert.Pre_in_finite.Gen.facts, Cert.Pre_up_finite.Gen.facts,
    Cert.Pre_cond_finite.Gen.facts, Cert.Pre_attf_finite.Gen.facts, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_⟩
  · exact fun m ρ _ => Cert.NormCtx.Gen.frame m ρ
  · exact fun m ρ _ => Cert.NormCtxIdeal.Gen.frame m ρ
  · exact fun m ρ _ => Cert.NormCtxIdeal.Gen.frame m ρ
  · exact fun m ρ _ => Cert.NormCtxValue.refFrame m ρ trivial
  · exact fun m ρ _ => Cert.NormCtxValue.refFrame m ρ trivial
  · exact fun m ρ _ => Cert.ShortConv.Gen.frame m ρ
  · exact fun m ρ _ => Cert.ShortConvIdeal.Gen.frame m ρ
  · exact fun m ρ _ => Cert.ShortConvValue.refFrame m ρ trivial
  · exact fun m ρ _ => Cert.Attention.Gen.frame m ρ
  · exact fun m ρ _ => Cert.AttentionIdeal.Gen.frame m ρ
  · exact fun m ρ _ => Cert.AttentionIdeal.Gen.frame m ρ
  · exact fun m ρ _ => Cert.AttentionValue.refFrame m ρ trivial
  · exact fun m ρ _ => Cert.AttentionValue.refFrame m ρ trivial
  · exact fun m ρ _ => Cert.Glu.Gen.frame m ρ
  · exact fun m ρ _ => Cert.GluIdeal.Gen.frame m ρ
  · exact fun m ρ _ => Cert.GluIdeal.Gen.frame m ρ
  · exact fun m ρ _ => Cert.GluValue.refFrame m ρ trivial
  · exact fun m ρ _ => Cert.GluValue.refFrame m ρ trivial
  · exact fun m ρ _ => Cert.QkvCtx.Gen.frame m ρ
  · exact fun m ρ _ => Cert.QkvCtxIdeal.Gen.frame m ρ
  · exact fun m ρ _ => Cert.QkvCtxIdeal.Gen.frame m ρ
  · exact fun m ρ _ => Cert.QkvCtxValue.refFrame m ρ trivial
  · exact fun m ρ _ => Cert.QkvCtxValue.refFrame m ρ trivial
  · exact fun m ρ _ => Cert.FfnUpLast.Gen.frame m ρ
  · exact fun m ρ _ => Cert.FfnUpLastIdeal.Gen.frame m ρ
  · exact fun m ρ _ => Cert.FfnUpLastIdeal.Gen.frame m ρ
  · exact fun m ρ _ => Cert.FfnUpLastValue.refFrame m ρ trivial
  · exact fun m ρ _ => Cert.FfnUpLastValue.refFrame m ρ trivial
  · exact fun m ρ _ => Cert.InProj.Gen.frame m ρ
  · exact fun m ρ _ => Cert.InProjIdeal.Gen.frame m ρ
  · exact fun m ρ _ => Cert.InProjIdeal.Gen.frame m ρ
  · exact fun m ρ _ => Cert.InProjValue.refFrame m ρ trivial
  · exact fun m ρ _ => Cert.InProjValue.refFrame m ρ trivial
  · exact fun m ρ _ => Cert.FfnUp.Gen.frame m ρ
  · exact fun m ρ _ => Cert.FfnUpIdeal.Gen.frame m ρ
  · exact fun m ρ _ => Cert.FfnUpIdeal.Gen.frame m ρ
  · exact fun m ρ _ => Cert.FfnUpValue.refFrame m ρ trivial
  · exact fun m ρ _ => Cert.FfnUpValue.refFrame m ρ trivial
  · exact fun m ρ _ => Cert.Loss.Gen.frame m ρ
  · exact fun m ρ _ => Cert.LossIdeal.Gen.frame m ρ
  · exact fun m ρ _ => Cert.LossValue.refFrame m ρ trivial
  · exact fun m ρ _ => Cert.Cond.Gen.frame m ρ
  · exact fun m ρ _ => Cert.CondIdeal.Gen.frame m ρ
  · exact fun m ρ _ => Cert.CondIdeal.Gen.frame m ρ
  · exact fun m ρ _ => Cert.CondValue.refFrame m ρ trivial
  · exact fun m ρ _ => Cert.CondValue.refFrame m ρ trivial
  · exact fun m ρ _ => Cert.Pool.Gen.frame m ρ
  · exact fun m ρ _ => Cert.PoolIdeal.Gen.frame m ρ
  · exact fun m ρ _ => Cert.RefFrames.Pool m ρ trivial
  · exact fun m ρ _ => Cert.Qkv.Gen.frame m ρ
  · exact fun m ρ _ => Cert.QkvIdeal.Gen.frame m ρ
  · exact fun m ρ _ => Cert.RefFrames.Qkv m ρ trivial
  · exact fun m ρ _ => Cert.AttnFwd.Gen.frame m ρ
  · exact fun m ρ _ => Cert.AttnFwdIdeal.Gen.frame m ρ
  · exact fun m ρ _ => Cert.AttnFwdIdeal.Gen.frame m ρ
  · exact fun m ρ _ => Cert.AttnFwdValue.refFrame m ρ trivial
  · exact fun m ρ _ => Cert.AttnFwdValue.refFrame m ρ trivial
  · exact fun m ρ _ => Cert.NormFwd.Gen.frame m ρ
  · exact fun m ρ _ => Cert.NormFwdIdeal.Gen.frame m ρ
  · exact fun m ρ _ => Cert.NormFwdValue.refFrame m ρ trivial
  · trivial
  · exact Cert.NormCtxValue.algebraic
  · trivial
  · exact Cert.ShortConvValue.algebraic
  · exact ⟨IdealRules.named_const.statement _ _ _ _ _ rfl, IdealRules.named_const.statement _ _ _ _ _ rfl⟩
  · exact Cert.AttentionValue.algebraic
  · trivial
  · exact Cert.GluValue.algebraic
  · trivial
  · exact Cert.QkvCtxValue.algebraic
  · trivial
  · exact Cert.FfnUpLastValue.algebraic
  · trivial
  · exact Cert.InProjValue.algebraic
  · trivial
  · exact Cert.FfnUpValue.algebraic
  · trivial
  · exact Cert.LossValue.algebraic
  · trivial
  · exact Cert.CondValue.algebraic
  · trivial
  · trivial
  · exact ⟨IdealRules.named_const.statement _ _ _ _ _ rfl, IdealRules.named_const.statement _ _ _ _ _ rfl⟩
  · exact Cert.AttnFwdValue.algebraic
  · trivial
  · exact Cert.NormFwdValue.algebraic

end Cert.Proof

end
